-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v83) = v1 c
          ∧ r.2.mem ((c.tc : Thread Cert.Reference4Ideal.nD Cert.Reference4Ideal.τ).loc Cert.Reference4Ideal.main_v85) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)) (v2 : (c : Dev Cert.Kernel5Ideal.nD) → Buf (Elt Ideal) ((c.tc : Thread Cert.Kernel5Ideal.nD Cert.Kernel5Ideal.τ).loc Cert.Kernel5Ideal.main_v21_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_v21_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_v60) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
-- ==== Pre_finite_qk.lean ====
abbrev S16384x8x128 : Shape := ⟨3, ![16384, 8, 128]⟩
abbrev S16384x8x64 : Shape := ⟨3, ![16384, 8, 64]⟩
abbrev S16384x64 : Shape := ⟨2, ![16384, 64]⟩
abbrev S_ : Shape := ⟨0, ![]⟩

class Facts : Prop where
  bcast_S_S16384x8x128 : S_.BroadcastsInDim S16384x8x128 (![] : Fin 0 → Fin S16384x8x128.rank)
  reducesTo_S16384x8x128_S_d0_1_2 : S16384x8x128.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_v13 : IVec S_ 1) (main_v16 : IVec S16384x64 1) : IVec S_ 1 :=
  let main_c_5 : IVec S_ 1 := constantI S_ 1 1#1
  let main_v17 : IVec S_ 1 := (fun x v => Host.reduce IntOp.andi x v reducesTo_S16384x64_S_d0_1 h_S_) main_v16 main_c_5
  let main_v18 : IVec S_ 1 := andi main_v13 main_v17
  main_v18

def fn {F : FTy → Type} [FloatOps F] (main_arg0 : FVec F S16384x8x128 .f32) (main_arg1 : FVec F S16384x8x64 .f32) (main_arg2 : FVec F S16384x8x128 .f32) (main_arg3 : FVec F S16384x64 .f32) (main_arg4 : FVec F S16384x8x128 .f32) : IVec S_ 1 :=
  let main_v0 : FVec F S16384x8x128 .f32 := Host.absf main_arg0
  let main_cst : FVec F S_ .f32 := constant S_ .f32 0x7F800000#32
  let main_v1 : FVec F S16384x8x128 .f32 := broadcastInDim S16384x8x128 ![] bcast_S_S16384x8x128 main_cst
  let main_v2 : IVec S16384x8x128 1 := cmpf .olt main_v0 main_v1
  let main_c : IVec S_ 1 := constantI S_ 1 1#1
  let main_v3 : IVec S_ 1 := (fun x v => Host.reduce IntOp.andi x v reducesTo_S16384x8x128_S_d0_1_2 h_S_) main_v2 main_c
  let main_v4 : FVec F S16384x8x64 .f32 := Host.absf main_arg1
  let main_cst_0 : FVec F S_ .f32 := constant S_ .f32 0x7F800000#32
  let main_v5 : FVec F S16384x8x64 .f32 := broadcastInDim S16384x8x64 ![] bcast_S_S16384x8x64 main_cst_0
  let main_v6 : IVec S16384x8x64 1 := cmpf .olt main_v4 main_v5
  let main_c_1 : IVec S_ 1 := constantI S_ 1 1#1
  let main_v7 : IVec S_ 1 := (fun x v => Host.reduce IntOp.andi x v reducesTo_S16384x8x64_S_d0_1_2 h_S_) main_v6 main_c_1
  let main_v8 : IVec S_ 1 := andi main_v3 main_v7
  let main_v9 : FVec F S16384x8x128 .f32 := Host.absf main_arg2
  let main_cst_2 : FVec F S_ .f32 := constant S_ .f32 0x7F800000#32
  let main_v10 : FVec F S16384x8x128 .f32 := broadcastInDim S16384x8x128 ![] bcast_S_S16384x8x128 main_cst_2
  let main_v11 : IVec S16384x8x128 1 := cmpf .olt main_v9 main_v10
  let main_c_3 : IVec S_ 1 := constantI S_ 1 1#1
  let main_v12 : IVec S_ 1 := (fun x v => Host.reduce IntOp.andi x v reducesTo_S16384x8x128_S_d0_1_2 h_S_) main_v11 main_c_3
  let main_v13 : IVec S_ 1 := andi main_v8 main_v12
  let main_v14 : FVec F S16384x64 .f32 := Host.absf main_arg3
  let main_cst_4 : FVec F S_ .f32 := constant S_ .f32 0x7F800000#32
  let main_v15 : FVec F S16384x64 .f32 := broadcastInDim S16384x64 ![] bcast_S_S16384x64 main_cst_4
  let main_v16 : IVec S16384x64 1 := cmpf .olt main_v14 main_v15
  fn_part1 (F := F) main_v13 main_v16
-- ==== Kernel.lean ====
abbrev S16384x8x128 : Shape := ⟨3, ![16384, 8, 128]⟩
abbrev S16384x8x64 : Shape := ⟨3, ![16384, 8, 64]⟩
abbrev S16384x64 : Shape := ⟨2, ![16384, 64]⟩
abbrev S16384x8x192 : Shape := ⟨3, ![16384, 8, 192]⟩
abbrev S_ : Shape := ⟨0, ![]⟩
abbrev S8x192x16384 : Shape := ⟨3, ![8, 192, 16384]⟩
abbrev S16384x1x64 : Shape := ⟨3, ![16384, 1, 64]⟩
abbrev S16384x8x256 : Shape := ⟨3, ![16384, 8, 256]⟩
abbrev S16384x2048 : Shape := ⟨2, ![16384, 2048]⟩
abbrev S8x16x16384 : Shape := ⟨3, ![8, 16, 16384]⟩
abbrev S8x128x16384 : Shape := ⟨3, ![8, 128, 16384]⟩
abbrev S8x144x16384 : Shape := ⟨3, ![8, 144, 16384]⟩
abbrev S16384x1024 : Shape := ⟨2, ![16384, 1024]⟩
abbrev S1x192x16384 : Shape := ⟨3, ![1, 192, 16384]⟩
abbrev S16384x256 : Shape := ⟨2, ![16384, 256]⟩
abbrev S1x144x16384 : Shape := ⟨3, ![1, 144, 16384]⟩
abbrev S16384x128 : Shape := ⟨2, ![16384, 128]⟩
abbrev S512x512 : Shape := ⟨2, ![512, 512]⟩
abbrev S8x512 : Shape := ⟨2, ![8, 512]⟩
abbrev S32x1x512 : Shape := ⟨3, ![32, 1, 512]⟩
abbrev S32x144x512 : Shape := ⟨3, ![32, 144, 512]⟩
abbrev S512x192 : Shape := ⟨2, ![512, 192]⟩
abbrev S1x192x512 : Shape := ⟨3, ![1, 192, 512]⟩
abbrev S192x512 : Shape := ⟨2, ![192, 512]⟩
abbrev S64x8x512 : Shape := ⟨3, ![64, 8, 512]⟩
abbrev S1x1x512 : Shape := ⟨3, ![1, 1, 512]⟩
abbrev S1x512 : Shape := ⟨2, ![1, 512]⟩
abbrev S512 : Shape := ⟨1, ![512]⟩
abbrev S1x144x512 : Shape := ⟨3, ![1, 144, 512]⟩
abbrev S144x512 : Shape := ⟨2, ![144, 512]⟩
abbrev S128x512 : Shape := ⟨2, ![128, 512]⟩
abbrev S512x128 : Shape := ⟨2, ![512, 128]⟩

abbrev nBuf : Space → Nat
  | .hbm => 35
  | .vmem => 14
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16384x8x128, .f32⟩
  | .hbm, ⟨3, _⟩ => ⟨S16384x64, .f32⟩
  | .hbm, ⟨4, _⟩ => ⟨S16384x8x128, .f32⟩
  | .hbm, ⟨5, _⟩ => ⟨S16384x8x192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x8x192, .f32⟩
  | .hbm, ⟨11, _⟩ => ⟨S16384x8x192, .f32⟩
  | .hbm, ⟨12, _⟩ => ⟨S8x192x16384, .f32⟩
  | .hbm, ⟨13, _⟩ => ⟨S8x192x16384, .bf16⟩
  | .hbm, ⟨14, _⟩ => ⟨S16384x1x64, .f32⟩
  | .hbm, ⟨15, _⟩ => ⟨S16384x8x64, .f32⟩
  | .hbm, ⟨16, _⟩ => ⟨S_, .f32⟩
  | .hbm, ⟨17, _⟩ => ⟨S16384x8x64, .f32⟩
  | .hbm, ⟨18, _⟩ => ⟨S16384x8x256, .f32⟩
  | .hbm, ⟨19, _⟩ => ⟨S16384x2048, .f32⟩
  | .hbm, ⟨20, _⟩ => ⟨S16384x2048, .bf16⟩
  | .hbm, ⟨21, _⟩ => ⟨S8x16x16384, .i32⟩
  | .hbm, ⟨22, _⟩ => ⟨S_, .i32⟩
  | .hbm, ⟨23, _⟩ => ⟨S8x16x16384, .i32⟩
  | .hbm, ⟨24, _⟩ => ⟨S8x16x16384, .i1⟩
  | .hbm, ⟨25, _⟩ => ⟨S_, .f32⟩
  | .hbm, ⟨26, _⟩ => ⟨S_, .f32⟩
  | .hbm, ⟨27, _⟩ => ⟨S8x16x16384, .f32⟩
  | .hbm, ⟨28, _⟩ => ⟨S8x16x16384, .f32⟩
  | .hbm, ⟨29, _⟩ => ⟨S8x16x16384, .f32⟩
  | .hbm, ⟨30, _⟩ => ⟨S8x16x16384, .f32⟩
  | .hbm, ⟨31, _⟩ => ⟨S8x128x16384, .f32⟩
  | .hbm, ⟨32, _⟩ => ⟨S8x144x16384, .f32⟩
  | .hbm, ⟨33, _⟩ => ⟨S8x144x16384, .bf16⟩
  | .hbm, ⟨34, _⟩ => ⟨S16384x1024, .bf16⟩
  | .local _ .vmem, ⟨0, _⟩ => ⟨S1x192x16384, .bf16⟩
  | .local _ .vmem, ⟨1, _⟩ => ⟨S1x192x16384, .bf16⟩
  | .local _ .vmem, ⟨2, _⟩ => ⟨S16384x256, .bf16⟩
  | .local _ .vmem, ⟨3, _⟩ => ⟨S16384x256, .bf16⟩
  | .local _ .vmem, ⟨4, _⟩ => ⟨S1x144x16384, .bf16⟩
  | .local _ .vmem, ⟨5, _⟩ => ⟨S1x144x16384, .bf16⟩
  | .local _ .vmem, ⟨6, _⟩ => ⟨S16384x128, .bf16⟩
  | .local _ .vmem, ⟨7, _⟩ => ⟨S16384x128, .bf16⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S32x1x512, .f32⟩
  | .local _ .vmem, ⟨13, _⟩ => ⟨S32x144x512, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def k0_mult1 : BitVec 32 :=
  let c512_i32 : BitVec 32 := 512#32
  c512_i32
def k0_mult2 : BitVec 32 :=
  let c0_i32 : BitVec 32 := 0#32
  c0_i32
@[reducible] def k0_t1_loop : Scf.Loop 32 :=
  let c0_i32_16 : BitVec 32 := 0#32
  let c8_i32 : BitVec 32 := 8#32
  let v25 : BitVec 32 := Scalar.addi c0_i32_16 c8_i32
  let c1_i32_17 : BitVec 32 := 1#32
  ⟨c0_i32_16, v25, c1_i32_17⟩
def k0_mult3 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c1_i32_30 : BitVec 32 := 1#32
  let v42 : BitVec 32 := Scalar.addi arg12 c1_i32_30
  let v43 : BitVec 32 := Scalar.select v41 v42 arg12
  let c31_i32 : BitVec 32 := 31#32
  let v46 : BitVec 32 := Scalar.minsi v43 c31_i32
  let c512_i32_33 : BitVec 32 := 512#32
  let v47 : BitVec 32 := Scalar.muli v46 c512_i32_33
  v47

def k0_mult4 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c512_i32_34 : BitVec 32 := 512#32
  let v49 : BitVec 32 := Scalar.muli v45 c512_i32_34
  v49
def k0_off1 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c512_i32_34 : BitVec 32 := 512#32
  let v49 : BitVec 32 := Scalar.muli v45 c512_i32_34
  let v50 : BitVec 32 := v49
  let v51 : Index := Scalar.indexCast v50
  let c0_35 : Index := 0#32
  ![v51.toNat, 0]
def k0_off2 (arg12 : BitVec 32) (arg13 : BitVec 32) : Fin 3 → Nat :=
  let c0_36 : Index := 0#32
  let c0_37 : Index := 0#32
  let c1_i32_29 : BitVec 32 := 1#32
  let v40 : BitVec 32 := Scalar.addi arg13 c1_i32_29
  let v41 : BitVec 1 := Scalar.cmpi .eq v40 arg12
  let c1_i32_30 : BitVec 32 := 1#32
  let v42 : BitVec 32 := Scalar.addi arg12 c1_i32_30
  let v43 : BitVec 32 := Scalar.select v41 v42 arg12
  let c31_i32 : BitVec 32 := 31#32
  let v46 : BitVec 32 := Scalar.minsi v43 c31_i32
  let c512_i32_33 : BitVec 32 := 512#32
  let v47 : BitVec 32 := Scalar.muli v46 c512_i32_33
  let v48 : BitVec 32 := v47
  let v54 : Index := Scalar.indexCast v48
  ![0, 0, v54.toNat]
def k0_mult5 (arg13 : BitVec 32) : BitVec 32 :=
  let c512_i32_44 : BitVec 32 := 512#32
  let v66 : BitVec 32 := Scalar.muli arg13 c512_i32_44
  v66
def k0_off3 (arg12 : BitVec 32) : Fin 3 → Nat :=
  let v69 : Index := Scalar.indexCast arg12
  let c0_47 : Index := 0#32
  let c0_48 : Index := 0#32
  ![v69.toNat, 0, 0]

def k0_off4 (arg12 : BitVec 32) : Fin 3 → Nat :=
  let v82 : Index := Scalar.indexCast arg12
  let c0_52 : Index := 0#32
  let c0_53 : Index := 0#32
  ![v82.toNat, 0, 0]

def k0_chk2 (arg12 : BitVec 32) : Prop :=
  (∀ a, (k0_off3 arg12) a + S1x1x512.size a ≤ S32x1x512.size a) ∧
  (∀ a, (k0_off4 arg12) a + S1x144x512.size a ≤ S32x144x512.size a)
theorem k0_off3_inb : ∀ (arg12 : BitVec 32) (k0_hw2 : k0_chk2 arg12), ∀ a, (k0_off3 arg12) a + S1x1x512.size a ≤ S32x1x512.size a := fun arg12 k0_hw2 => k0_hw2.1
theorem k0_off4_inb : ∀ (arg12 : BitVec 32) (k0_hw2 : k0_chk2 arg12), ∀ a, (k0_off4 arg12) a + S1x144x512.size a ≤ S32x144x512.size a := fun arg12 k0_hw2 => k0_hw2.2

def k0_off5 (arg13 : BitVec 32) : Fin 3 → Nat :=
  let c0_54 : Index := 0#32
  let c0_55 : Index := 0#32
  let c512_i32_44 : BitVec 32 := 512#32
  let v66 : BitVec 32 := Scalar.muli arg13 c512_i32_44
  let v67 : BitVec 32 := v66
  let v87 : Index := Scalar.indexCast v67
  ![0, 0, v87.toNat]
def k0_mult6 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c1_i32_62 : BitVec 32 := 1#32
  let v102 : BitVec 32 := Scalar.addi v43 c1_i32_62
  let v103 : BitVec 32 := Scalar.select v101 v102 v43
  let c31_i32_65 : BitVec 32 := 31#32
  let v106 : BitVec 32 := Scalar.minsi v103 c31_i32_65
  let c512_i32_66 : BitVec 32 := 512#32
  let v107 : BitVec 32 := Scalar.muli v106 c512_i32_66
  v107
def k0_mult7 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c512_i32_67 : BitVec 32 := 512#32
  let v109 : BitVec 32 := Scalar.muli v105 c512_i32_67
  v109
def k0_off6 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c512_i32_67 : BitVec 32 := 512#32
  let v109 : BitVec 32 := Scalar.muli v105 c512_i32_67
  let v110 : BitVec 32 := v109
  let v111 : Index := Scalar.indexCast v110
  let c0_68 : Index := 0#32
  ![v111.toNat, 0]
def k0_off7 (arg12 : BitVec 32) (arg13 : BitVec 32) : Fin 3 → Nat :=
  let c0_69 : Index := 0#32
  let c0_70 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c1_i32_62 : BitVec 32 := 1#32
  let v102 : BitVec 32 := Scalar.addi v43 c1_i32_62
  let v103 : BitVec 32 := Scalar.select v101 v102 v43
  let c31_i32_65 : BitVec 32 := 31#32
  let v106 : BitVec 32 := Scalar.minsi v103 c31_i32_65
  let c512_i32_66 : BitVec 32 := 512#32
  let v107 : BitVec 32 := Scalar.muli v106 c512_i32_66
  let v108 : BitVec 32 := v107
  let v114 : Index := Scalar.indexCast v108
  ![0, 0, v114.toNat]
def k0_mult8 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c512_i32_77 : BitVec 32 := 512#32
  let v126 : BitVec 32 := Scalar.muli v45 c512_i32_77
  v126
def k0_off8 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c1_i32_30 : BitVec 32 := 1#32
  let v42 : BitVec 32 := Scalar.addi arg12 c1_i32_30
  let v43 : BitVec 32 := Scalar.select v41 v42 arg12
  let v129 : Index := Scalar.indexCast v43
  let c0_80 : Index := 0#32
  let c0_81 : Index := 0#32
  ![v129.toNat, 0, 0]
def k0_off9 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c1_i32_30 : BitVec 32 := 1#32
  let v42 : BitVec 32 := Scalar.addi arg12 c1_i32_30
  let v43 : BitVec 32 := Scalar.select v41 v42 arg12
  let v142 : Index := Scalar.indexCast v43
  let c0_85 : Index := 0#32
  let c0_86 : Index := 0#32
  ![v142.toNat, 0, 0]
def k0_off10 (arg12 : BitVec 32) (arg13 : BitVec 32) : Fin 3 → Nat :=
  let c0_87 : Index := 0#32
  let c0_88 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c512_i32_77 : BitVec 32 := 512#32
  let v126 : BitVec 32 := Scalar.muli v45 c512_i32_77
  let v127 : BitVec 32 := v126
  let v147 : Index := Scalar.indexCast v127
  ![0, 0, v147.toNat]
def k0_mult9 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c1_i32_95 : BitVec 32 := 1#32
  let v162 : BitVec 32 := Scalar.addi v103 c1_i32_95
  let v163 : BitVec 32 := Scalar.select v161 v162 v103
  let c31_i32_98 : BitVec 32 := 31#32
  let v166 : BitVec 32 := Scalar.minsi v163 c31_i32_98
  let c512_i32_99 : BitVec 32 := 512#32
  let v167 : BitVec 32 := Scalar.muli v166 c512_i32_99
  v167
def k0_mult10 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c512_i32_100 : BitVec 32 := 512#32
  let v169 : BitVec 32 := Scalar.muli v165 c512_i32_100
  v169
def k0_off11 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c512_i32_100 : BitVec 32 := 512#32
  let v169 : BitVec 32 := Scalar.muli v165 c512_i32_100
  let v170 : BitVec 32 := v169
  let v171 : Index := Scalar.indexCast v170
  let c0_101 : Index := 0#32
  ![v171.toNat, 0]
def k0_off12 (arg12 : BitVec 32) (arg13 : BitVec 32) : Fin 3 → Nat :=
  let c0_102 : Index := 0#32
  let c0_103 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c1_i32_95 : BitVec 32 := 1#32
  let v162 : BitVec 32 := Scalar.addi v103 c1_i32_95
  let v163 : BitVec 32 := Scalar.select v161 v162 v103
  let c31_i32_98 : BitVec 32 := 31#32
  let v166 : BitVec 32 := Scalar.minsi v163 c31_i32_98
  let c512_i32_99 : BitVec 32 := 512#32
  let v167 : BitVec 32 := Scalar.muli v166 c512_i32_99
  let v168 : BitVec 32 := v167
  let v174 : Index := Scalar.indexCast v168
  ![0, 0, v174.toNat]
def k0_mult11 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c512_i32_110 : BitVec 32 := 512#32
  let v186 : BitVec 32 := Scalar.muli v105 c512_i32_110
  v186
def k0_off13 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c1_i32_62 : BitVec 32 := 1#32
  let v102 : BitVec 32 := Scalar.addi v43 c1_i32_62
  let v103 : BitVec 32 := Scalar.select v101 v102 v43
  let v189 : Index := Scalar.indexCast v103
  let c0_113 : Index := 0#32
  let c0_114 : Index := 0#32
  ![v189.toNat, 0, 0]
def k0_off14 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c1_i32_62 : BitVec 32 := 1#32
  let v102 : BitVec 32 := Scalar.addi v43 c1_i32_62
  let v103 : BitVec 32 := Scalar.select v101 v102 v43
  let v202 : Index := Scalar.indexCast v103
  let c0_118 : Index := 0#32
  let c0_119 : Index := 0#32
  ![v202.toNat, 0, 0]
def k0_off15 (arg12 : BitVec 32) (arg13 : BitVec 32) : Fin 3 → Nat :=
  let c0_120 : Index := 0#32
  let c0_121 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c512_i32_110 : BitVec 32 := 512#32
  let v186 : BitVec 32 := Scalar.muli v105 c512_i32_110
  let v187 : BitVec 32 := v186
  let v207 : Index := Scalar.indexCast v187
  ![0, 0, v207.toNat]
def k0_mult12 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c1_i32_128 : BitVec 32 := 1#32
  let v222 : BitVec 32 := Scalar.addi v163 c1_i32_128
  let v223 : BitVec 32 := Scalar.select v221 v222 v163
  let c31_i32_131 : BitVec 32 := 31#32
  let v226 : BitVec 32 := Scalar.minsi v223 c31_i32_131
  let c512_i32_132 : BitVec 32 := 512#32
  let v227 : BitVec 32 := Scalar.muli v226 c512_i32_132
  v227
def k0_mult13 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c512_i32_133 : BitVec 32 := 512#32
  let v229 : BitVec 32 := Scalar.muli v225 c512_i32_133
  v229
def k0_off16 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c512_i32_133 : BitVec 32 := 512#32
  let v229 : BitVec 32 := Scalar.muli v225 c512_i32_133
  let v230 : BitVec 32 := v229
  let v231 : Index := Scalar.indexCast v230
  let c0_134 : Index := 0#32
  ![v231.toNat, 0]
def k0_off17 (arg12 : BitVec 32) (arg13 : BitVec 32) : Fin 3 → Nat :=
  let c0_135 : Index := 0#32
  let c0_136 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c1_i32_128 : BitVec 32 := 1#32
  let v222 : BitVec 32 := Scalar.addi v163 c1_i32_128
  let v223 : BitVec 32 := Scalar.select v221 v222 v163
  let c31_i32_131 : BitVec 32 := 31#32
  let v226 : BitVec 32 := Scalar.minsi v223 c31_i32_131
  let c512_i32_132 : BitVec 32 := 512#32
  let v227 : BitVec 32 := Scalar.muli v226 c512_i32_132
  let v228 : BitVec 32 := v227
  let v234 : Index := Scalar.indexCast v228
  ![0, 0, v234.toNat]
def k0_mult14 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c512_i32_143 : BitVec 32 := 512#32
  let v246 : BitVec 32 := Scalar.muli v165 c512_i32_143
  v246
def k0_off18 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c1_i32_95 : BitVec 32 := 1#32
  let v162 : BitVec 32 := Scalar.addi v103 c1_i32_95
  let v163 : BitVec 32 := Scalar.select v161 v162 v103
  let v249 : Index := Scalar.indexCast v163
  let c0_146 : Index := 0#32
  let c0_147 : Index := 0#32
  ![v249.toNat, 0, 0]
def k0_off19 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c1_i32_95 : BitVec 32 := 1#32
  let v162 : BitVec 32 := Scalar.addi v103 c1_i32_95
  let v163 : BitVec 32 := Scalar.select v161 v162 v103
  let v262 : Index := Scalar.indexCast v163
  let c0_151 : Index := 0#32
  let c0_152 : Index := 0#32
  ![v262.toNat, 0, 0]
def k0_off20 (arg12 : BitVec 32) (arg13 : BitVec 32) : Fin 3 → Nat :=
  let c0_153 : Index := 0#32
  let c0_154 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c512_i32_143 : BitVec 32 := 512#32
  let v246 : BitVec 32 := Scalar.muli v165 c512_i32_143
  let v247 : BitVec 32 := v246
  let v267 : Index := Scalar.indexCast v247
  ![0, 0, v267.toNat]
def k0_mult15 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c1_i32_161 : BitVec 32 := 1#32
  let v282 : BitVec 32 := Scalar.addi v223 c1_i32_161
  let v283 : BitVec 32 := Scalar.select v281 v282 v223
  let c31_i32_164 : BitVec 32 := 31#32
  let v286 : BitVec 32 := Scalar.minsi v283 c31_i32_164
  let c512_i32_165 : BitVec 32 := 512#32
  let v287 : BitVec 32 := Scalar.muli v286 c512_i32_165
  v287
def k0_mult16 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c512_i32_166 : BitVec 32 := 512#32
  let v289 : BitVec 32 := Scalar.muli v285 c512_i32_166
  v289
def k0_off21 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c512_i32_166 : BitVec 32 := 512#32
  let v289 : BitVec 32 := Scalar.muli v285 c512_i32_166
  let v290 : BitVec 32 := v289
  let v291 : Index := Scalar.indexCast v290
  let c0_167 : Index := 0#32
  ![v291.toNat, 0]
def k0_off22 (arg12 : BitVec 32) (arg13 : BitVec 32) : Fin 3 → Nat :=
  let c0_168 : Index := 0#32
  let c0_169 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c1_i32_161 : BitVec 32 := 1#32
  let v282 : BitVec 32 := Scalar.addi v223 c1_i32_161
  let v283 : BitVec 32 := Scalar.select v281 v282 v223
  let c31_i32_164 : BitVec 32 := 31#32
  let v286 : BitVec 32 := Scalar.minsi v283 c31_i32_164
  let c512_i32_165 : BitVec 32 := 512#32
  let v287 : BitVec 32 := Scalar.muli v286 c512_i32_165
  let v288 : BitVec 32 := v287
  let v294 : Index := Scalar.indexCast v288
  ![0, 0, v294.toNat]
def k0_mult17 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c512_i32_176 : BitVec 32 := 512#32
  let v306 : BitVec 32 := Scalar.muli v225 c512_i32_176
  v306
def k0_off23 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c1_i32_128 : BitVec 32 := 1#32
  let v222 : BitVec 32 := Scalar.addi v163 c1_i32_128
  let v223 : BitVec 32 := Scalar.select v221 v222 v163
  let v309 : Index := Scalar.indexCast v223
  let c0_179 : Index := 0#32
  let c0_180 : Index := 0#32
  ![v309.toNat, 0, 0]
def k0_off24 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c1_i32_128 : BitVec 32 := 1#32
  let v222 : BitVec 32 := Scalar.addi v163 c1_i32_128
  let v223 : BitVec 32 := Scalar.select v221 v222 v163
  let v322 : Index := Scalar.indexCast v223
  let c0_184 : Index := 0#32
  let c0_185 : Index := 0#32
  ![v322.toNat, 0, 0]
def k0_off25 (arg12 : BitVec 32) (arg13 : BitVec 32) : Fin 3 → Nat :=
  let c0_186 : Index := 0#32
  let c0_187 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c512_i32_176 : BitVec 32 := 512#32
  let v306 : BitVec 32 := Scalar.muli v225 c512_i32_176
  let v307 : BitVec 32 := v306
  let v327 : Index := Scalar.indexCast v307
  ![0, 0, v327.toNat]
def k0_mult18 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c1_i32_194 : BitVec 32 := 1#32
  let v342 : BitVec 32 := Scalar.addi v283 c1_i32_194
  let v343 : BitVec 32 := Scalar.select v341 v342 v283
  let c31_i32_197 : BitVec 32 := 31#32
  let v346 : BitVec 32 := Scalar.minsi v343 c31_i32_197
  let c512_i32_198 : BitVec 32 := 512#32
  let v347 : BitVec 32 := Scalar.muli v346 c512_i32_198
  v347
def k0_mult19 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c512_i32_199 : BitVec 32 := 512#32
  let v349 : BitVec 32 := Scalar.muli v345 c512_i32_199
  v349
def k0_off26 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c512_i32_199 : BitVec 32 := 512#32
  let v349 : BitVec 32 := Scalar.muli v345 c512_i32_199
  let v350 : BitVec 32 := v349
  let v351 : Index := Scalar.indexCast v350
  let c0_200 : Index := 0#32
  ![v351.toNat, 0]
def k0_off27 (arg12 : BitVec 32) (arg13 : BitVec 32) : Fin 3 → Nat :=
  let c0_201 : Index := 0#32
  let c0_202 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c1_i32_194 : BitVec 32 := 1#32
  let v342 : BitVec 32 := Scalar.addi v283 c1_i32_194
  let v343 : BitVec 32 := Scalar.select v341 v342 v283
  let c31_i32_197 : BitVec 32 := 31#32
  let v346 : BitVec 32 := Scalar.minsi v343 c31_i32_197
  let c512_i32_198 : BitVec 32 := 512#32
  let v347 : BitVec 32 := Scalar.muli v346 c512_i32_198
  let v348 : BitVec 32 := v347
  let v354 : Index := Scalar.indexCast v348
  ![0, 0, v354.toNat]
def k0_mult20 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c512_i32_209 : BitVec 32 := 512#32
  let v366 : BitVec 32 := Scalar.muli v285 c512_i32_209
  v366
def k0_off28 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c1_i32_161 : BitVec 32 := 1#32
  let v282 : BitVec 32 := Scalar.addi v223 c1_i32_161
  let v283 : BitVec 32 := Scalar.select v281 v282 v223
  let v369 : Index := Scalar.indexCast v283
  let c0_212 : Index := 0#32
  let c0_213 : Index := 0#32
  ![v369.toNat, 0, 0]
def k0_off29 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c1_i32_161 : BitVec 32 := 1#32
  let v282 : BitVec 32 := Scalar.addi v223 c1_i32_161
  let v283 : BitVec 32 := Scalar.select v281 v282 v223
  let v382 : Index := Scalar.indexCast v283
  let c0_217 : Index := 0#32
  let c0_218 : Index := 0#32
  ![v382.toNat, 0, 0]
def k0_off30 (arg12 : BitVec 32) (arg13 : BitVec 32) : Fin 3 → Nat :=
  let c0_219 : Index := 0#32
  let c0_220 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c512_i32_209 : BitVec 32 := 512#32
  let v366 : BitVec 32 := Scalar.muli v285 c512_i32_209
  let v367 : BitVec 32 := v366
  let v387 : Index := Scalar.indexCast v367
  ![0, 0, v387.toNat]
def k0_mult21 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c1_i32_227 : BitVec 32 := 1#32
  let v402 : BitVec 32 := Scalar.addi v343 c1_i32_227
  let v403 : BitVec 32 := Scalar.select v401 v402 v343
  let c31_i32_230 : BitVec 32 := 31#32
  let v406 : BitVec 32 := Scalar.minsi v403 c31_i32_230
  let c512_i32_231 : BitVec 32 := 512#32
  let v407 : BitVec 32 := Scalar.muli v406 c512_i32_231
  v407
def k0_mult22 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c512_i32_232 : BitVec 32 := 512#32
  let v409 : BitVec 32 := Scalar.muli v405 c512_i32_232
  v409
def k0_off31 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c512_i32_232 : BitVec 32 := 512#32
  let v409 : BitVec 32 := Scalar.muli v405 c512_i32_232
  let v410 : BitVec 32 := v409
  let v411 : Index := Scalar.indexCast v410
  let c0_233 : Index := 0#32
  ![v411.toNat, 0]
def k0_off32 (arg12 : BitVec 32) (arg13 : BitVec 32) : Fin 3 → Nat :=
  let c0_234 : Index := 0#32
  let c0_235 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c1_i32_227 : BitVec 32 := 1#32
  let v402 : BitVec 32 := Scalar.addi v343 c1_i32_227
  let v403 : BitVec 32 := Scalar.select v401 v402 v343
  let c31_i32_230 : BitVec 32 := 31#32
  let v406 : BitVec 32 := Scalar.minsi v403 c31_i32_230
  let c512_i32_231 : BitVec 32 := 512#32
  let v407 : BitVec 32 := Scalar.muli v406 c512_i32_231
  let v408 : BitVec 32 := v407
  let v414 : Index := Scalar.indexCast v408
  ![0, 0, v414.toNat]
def k0_mult23 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c512_i32_242 : BitVec 32 := 512#32
  let v426 : BitVec 32 := Scalar.muli v345 c512_i32_242
  v426
def k0_off33 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c1_i32_194 : BitVec 32 := 1#32
  let v342 : BitVec 32 := Scalar.addi v283 c1_i32_194
  let v343 : BitVec 32 := Scalar.select v341 v342 v283
  let v429 : Index := Scalar.indexCast v343
  let c0_245 : Index := 0#32
  let c0_246 : Index := 0#32
  ![v429.toNat, 0, 0]
def k0_off34 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c1_i32_194 : BitVec 32 := 1#32
  let v342 : BitVec 32 := Scalar.addi v283 c1_i32_194
  let v343 : BitVec 32 := Scalar.select v341 v342 v283
  let v442 : Index := Scalar.indexCast v343
  let c0_250 : Index := 0#32
  let c0_251 : Index := 0#32
  ![v442.toNat, 0, 0]
def k0_off35 (arg12 : BitVec 32) (arg13 : BitVec 32) : Fin 3 → Nat :=
  let c0_252 : Index := 0#32
  let c0_253 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c512_i32_242 : BitVec 32 := 512#32
  let v426 : BitVec 32 := Scalar.muli v345 c512_i32_242
  let v427 : BitVec 32 := v426
  let v447 : Index := Scalar.indexCast v427
  ![0, 0, v447.toNat]
def k0_mult24 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c1_i32_260 : BitVec 32 := 1#32
  let v462 : BitVec 32 := Scalar.addi v403 c1_i32_260
  let v463 : BitVec 32 := Scalar.select v461 v462 v403
  let c31_i32_263 : BitVec 32 := 31#32
  let v466 : BitVec 32 := Scalar.minsi v463 c31_i32_263
  let c512_i32_264 : BitVec 32 := 512#32
  let v467 : BitVec 32 := Scalar.muli v466 c512_i32_264
  v467
def k0_mult25 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c512_i32_265 : BitVec 32 := 512#32
  let v469 : BitVec 32 := Scalar.muli v465 c512_i32_265
  v469
def k0_off36 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c512_i32_265 : BitVec 32 := 512#32
  let v469 : BitVec 32 := Scalar.muli v465 c512_i32_265
  let v470 : BitVec 32 := v469
  let v471 : Index := Scalar.indexCast v470
  let c0_266 : Index := 0#32
  ![v471.toNat, 0]
def k0_off37 (arg12 : BitVec 32) (arg13 : BitVec 32) : Fin 3 → Nat :=
  let c0_267 : Index := 0#32
  let c0_268 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c1_i32_260 : BitVec 32 := 1#32
  let v462 : BitVec 32 := Scalar.addi v403 c1_i32_260
  let v463 : BitVec 32 := Scalar.select v461 v462 v403
  let c31_i32_263 : BitVec 32 := 31#32
  let v466 : BitVec 32 := Scalar.minsi v463 c31_i32_263
  let c512_i32_264 : BitVec 32 := 512#32
  let v467 : BitVec 32 := Scalar.muli v466 c512_i32_264
  let v468 : BitVec 32 := v467
  let v474 : Index := Scalar.indexCast v468
  ![0, 0, v474.toNat]
def k0_mult26 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c512_i32_275 : BitVec 32 := 512#32
  let v486 : BitVec 32 := Scalar.muli v405 c512_i32_275
  v486
def k0_off38 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c1_i32_227 : BitVec 32 := 1#32
  let v402 : BitVec 32 := Scalar.addi v343 c1_i32_227
  let v403 : BitVec 32 := Scalar.select v401 v402 v343
  let v489 : Index := Scalar.indexCast v403
  let c0_278 : Index := 0#32
  let c0_279 : Index := 0#32
  ![v489.toNat, 0, 0]
def k0_off39 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c1_i32_227 : BitVec 32 := 1#32
  let v402 : BitVec 32 := Scalar.addi v343 c1_i32_227
  let v403 : BitVec 32 := Scalar.select v401 v402 v343
  let v502 : Index := Scalar.indexCast v403
  let c0_283 : Index := 0#32
  let c0_284 : Index := 0#32
  ![v502.toNat, 0, 0]
def k0_off40 (arg12 : BitVec 32) (arg13 : BitVec 32) : Fin 3 → Nat :=
  let c0_285 : Index := 0#32
  let c0_286 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c512_i32_275 : BitVec 32 := 512#32
  let v486 : BitVec 32 := Scalar.muli v405 c512_i32_275
  let v487 : BitVec 32 := v486
  let v507 : Index := Scalar.indexCast v487
  ![0, 0, v507.toNat]
def k0_mult27 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c1_i32_293 : BitVec 32 := 1#32
  let v522 : BitVec 32 := Scalar.addi v463 c1_i32_293
  let v523 : BitVec 32 := Scalar.select v521 v522 v463
  let c31_i32_296 : BitVec 32 := 31#32
  let v526 : BitVec 32 := Scalar.minsi v523 c31_i32_296
  let c512_i32_297 : BitVec 32 := 512#32
  let v527 : BitVec 32 := Scalar.muli v526 c512_i32_297
  v527
def k0_mult28 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c512_i32_298 : BitVec 32 := 512#32
  let v529 : BitVec 32 := Scalar.muli v525 c512_i32_298
  v529
def k0_off41 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c512_i32_298 : BitVec 32 := 512#32
  let v529 : BitVec 32 := Scalar.muli v525 c512_i32_298
  let v530 : BitVec 32 := v529
  let v531 : Index := Scalar.indexCast v530
  let c0_299 : Index := 0#32
  ![v531.toNat, 0]
def k0_off42 (arg12 : BitVec 32) (arg13 : BitVec 32) : Fin 3 → Nat :=
  let c0_300 : Index := 0#32
  let c0_301 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c1_i32_293 : BitVec 32 := 1#32
  let v522 : BitVec 32 := Scalar.addi v463 c1_i32_293
  let v523 : BitVec 32 := Scalar.select v521 v522 v463
  let c31_i32_296 : BitVec 32 := 31#32
  let v526 : BitVec 32 := Scalar.minsi v523 c31_i32_296
  let c512_i32_297 : BitVec 32 := 512#32
  let v527 : BitVec 32 := Scalar.muli v526 c512_i32_297
  let v528 : BitVec 32 := v527
  let v534 : Index := Scalar.indexCast v528
  ![0, 0, v534.toNat]
def k0_mult29 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c512_i32_308 : BitVec 32 := 512#32
  let v546 : BitVec 32 := Scalar.muli v465 c512_i32_308
  v546
def k0_off43 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c1_i32_260 : BitVec 32 := 1#32
  let v462 : BitVec 32 := Scalar.addi v403 c1_i32_260
  let v463 : BitVec 32 := Scalar.select v461 v462 v403
  let v549 : Index := Scalar.indexCast v463
  let c0_311 : Index := 0#32
  let c0_312 : Index := 0#32
  ![v549.toNat, 0, 0]
def k0_off44 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c1_i32_260 : BitVec 32 := 1#32
  let v462 : BitVec 32 := Scalar.addi v403 c1_i32_260
  let v463 : BitVec 32 := Scalar.select v461 v462 v403
  let v562 : Index := Scalar.indexCast v463
  let c0_316 : Index := 0#32
  let c0_317 : Index := 0#32
  ![v562.toNat, 0, 0]
def k0_off45 (arg12 : BitVec 32) (arg13 : BitVec 32) : Fin 3 → Nat :=
  let c0_318 : Index := 0#32
  let c0_319 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c512_i32_308 : BitVec 32 := 512#32
  let v546 : BitVec 32 := Scalar.muli v465 c512_i32_308
  let v547 : BitVec 32 := v546
  let v567 : Index := Scalar.indexCast v547
  ![0, 0, v567.toNat]
def k0_mult30 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c1_i32_326 : BitVec 32 := 1#32
  let v582 : BitVec 32 := Scalar.addi v523 c1_i32_326
  let v583 : BitVec 32 := Scalar.select v581 v582 v523
  let c31_i32_329 : BitVec 32 := 31#32
  let v586 : BitVec 32 := Scalar.minsi v583 c31_i32_329
  let c512_i32_330 : BitVec 32 := 512#32
  let v587 : BitVec 32 := Scalar.muli v586 c512_i32_330
  v587
def k0_mult31 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c512_i32_331 : BitVec 32 := 512#32
  let v589 : BitVec 32 := Scalar.muli v585 c512_i32_331
  v589
def k0_off46 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c512_i32_331 : BitVec 32 := 512#32
  let v589 : BitVec 32 := Scalar.muli v585 c512_i32_331
  let v590 : BitVec 32 := v589
  let v591 : Index := Scalar.indexCast v590
  let c0_332 : Index := 0#32
  ![v591.toNat, 0]
def k0_off47 (arg12 : BitVec 32) (arg13 : BitVec 32) : Fin 3 → Nat :=
  let c0_333 : Index := 0#32
  let c0_334 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c1_i32_326 : BitVec 32 := 1#32
  let v582 : BitVec 32 := Scalar.addi v523 c1_i32_326
  let v583 : BitVec 32 := Scalar.select v581 v582 v523
  let c31_i32_329 : BitVec 32 := 31#32
  let v586 : BitVec 32 := Scalar.minsi v583 c31_i32_329
  let c512_i32_330 : BitVec 32 := 512#32
  let v587 : BitVec 32 := Scalar.muli v586 c512_i32_330
  let v588 : BitVec 32 := v587
  let v594 : Index := Scalar.indexCast v588
  ![0, 0, v594.toNat]
def k0_mult32 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c512_i32_341 : BitVec 32 := 512#32
  let v606 : BitVec 32 := Scalar.muli v525 c512_i32_341
  v606
def k0_off48 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c1_i32_293 : BitVec 32 := 1#32
  let v522 : BitVec 32 := Scalar.addi v463 c1_i32_293
  let v523 : BitVec 32 := Scalar.select v521 v522 v463
  let v609 : Index := Scalar.indexCast v523
  let c0_344 : Index := 0#32
  let c0_345 : Index := 0#32
  ![v609.toNat, 0, 0]
def k0_off49 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c1_i32_293 : BitVec 32 := 1#32
  let v522 : BitVec 32 := Scalar.addi v463 c1_i32_293
  let v523 : BitVec 32 := Scalar.select v521 v522 v463
  let v622 : Index := Scalar.indexCast v523
  let c0_349 : Index := 0#32
  let c0_350 : Index := 0#32
  ![v622.toNat, 0, 0]
def k0_off50 (arg12 : BitVec 32) (arg13 : BitVec 32) : Fin 3 → Nat :=
  let c0_351 : Index := 0#32
  let c0_352 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c512_i32_341 : BitVec 32 := 512#32
  let v606 : BitVec 32 := Scalar.muli v525 c512_i32_341
  let v607 : BitVec 32 := v606
  let v627 : Index := Scalar.indexCast v607
  ![0, 0, v627.toNat]
def k0_mult33 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c1_i32_359 : BitVec 32 := 1#32
  let v642 : BitVec 32 := Scalar.addi v583 c1_i32_359
  let v643 : BitVec 32 := Scalar.select v641 v642 v583
  let c31_i32_362 : BitVec 32 := 31#32
  let v646 : BitVec 32 := Scalar.minsi v643 c31_i32_362
  let c512_i32_363 : BitVec 32 := 512#32
  let v647 : BitVec 32 := Scalar.muli v646 c512_i32_363
  v647
def k0_mult34 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c512_i32_364 : BitVec 32 := 512#32
  let v649 : BitVec 32 := Scalar.muli v645 c512_i32_364
  v649
def k0_off51 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c512_i32_364 : BitVec 32 := 512#32
  let v649 : BitVec 32 := Scalar.muli v645 c512_i32_364
  let v650 : BitVec 32 := v649
  let v651 : Index := Scalar.indexCast v650
  let c0_365 : Index := 0#32
  ![v651.toNat, 0]
def k0_off52 (arg12 : BitVec 32) (arg13 : BitVec 32) : Fin 3 → Nat :=
  let c0_366 : Index := 0#32
  let c0_367 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c1_i32_359 : BitVec 32 := 1#32
  let v642 : BitVec 32 := Scalar.addi v583 c1_i32_359
  let v643 : BitVec 32 := Scalar.select v641 v642 v583
  let c31_i32_362 : BitVec 32 := 31#32
  let v646 : BitVec 32 := Scalar.minsi v643 c31_i32_362
  let c512_i32_363 : BitVec 32 := 512#32
  let v647 : BitVec 32 := Scalar.muli v646 c512_i32_363
  let v648 : BitVec 32 := v647
  let v654 : Index := Scalar.indexCast v648
  ![0, 0, v654.toNat]
def k0_mult35 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c512_i32_374 : BitVec 32 := 512#32
  let v666 : BitVec 32 := Scalar.muli v585 c512_i32_374
  v666
def k0_off53 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c1_i32_326 : BitVec 32 := 1#32
  let v582 : BitVec 32 := Scalar.addi v523 c1_i32_326
  let v583 : BitVec 32 := Scalar.select v581 v582 v523
  let v669 : Index := Scalar.indexCast v583
  let c0_377 : Index := 0#32
  let c0_378 : Index := 0#32
  ![v669.toNat, 0, 0]
def k0_off54 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c1_i32_326 : BitVec 32 := 1#32
  let v582 : BitVec 32 := Scalar.addi v523 c1_i32_326
  let v583 : BitVec 32 := Scalar.select v581 v582 v523
  let v682 : Index := Scalar.indexCast v583
  let c0_382 : Index := 0#32
  let c0_383 : Index := 0#32
  ![v682.toNat, 0, 0]
def k0_off55 (arg12 : BitVec 32) (arg13 : BitVec 32) : Fin 3 → Nat :=
  let c0_384 : Index := 0#32
  let c0_385 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c512_i32_374 : BitVec 32 := 512#32
  let v666 : BitVec 32 := Scalar.muli v585 c512_i32_374
  let v667 : BitVec 32 := v666
  let v687 : Index := Scalar.indexCast v667
  ![0, 0, v687.toNat]
def k0_mult36 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c1_i32_392 : BitVec 32 := 1#32
  let v702 : BitVec 32 := Scalar.addi v643 c1_i32_392
  let v703 : BitVec 32 := Scalar.select v701 v702 v643
  let c31_i32_395 : BitVec 32 := 31#32
  let v706 : BitVec 32 := Scalar.minsi v703 c31_i32_395
  let c512_i32_396 : BitVec 32 := 512#32
  let v707 : BitVec 32 := Scalar.muli v706 c512_i32_396
  v707
def k0_mult37 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c512_i32_397 : BitVec 32 := 512#32
  let v709 : BitVec 32 := Scalar.muli v705 c512_i32_397
  v709
def k0_off56 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c512_i32_397 : BitVec 32 := 512#32
  let v709 : BitVec 32 := Scalar.muli v705 c512_i32_397
  let v710 : BitVec 32 := v709
  let v711 : Index := Scalar.indexCast v710
  let c0_398 : Index := 0#32
  ![v711.toNat, 0]
def k0_off57 (arg12 : BitVec 32) (arg13 : BitVec 32) : Fin 3 → Nat :=
  let c0_399 : Index := 0#32
  let c0_400 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c1_i32_392 : BitVec 32 := 1#32
  let v702 : BitVec 32 := Scalar.addi v643 c1_i32_392
  let v703 : BitVec 32 := Scalar.select v701 v702 v643
  let c31_i32_395 : BitVec 32 := 31#32
  let v706 : BitVec 32 := Scalar.minsi v703 c31_i32_395
  let c512_i32_396 : BitVec 32 := 512#32
  let v707 : BitVec 32 := Scalar.muli v706 c512_i32_396
  let v708 : BitVec 32 := v707
  let v714 : Index := Scalar.indexCast v708
  ![0, 0, v714.toNat]
def k0_mult38 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c512_i32_407 : BitVec 32 := 512#32
  let v726 : BitVec 32 := Scalar.muli v645 c512_i32_407
  v726
def k0_off58 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c1_i32_359 : BitVec 32 := 1#32
  let v642 : BitVec 32 := Scalar.addi v583 c1_i32_359
  let v643 : BitVec 32 := Scalar.select v641 v642 v583
  let v729 : Index := Scalar.indexCast v643
  let c0_410 : Index := 0#32
  let c0_411 : Index := 0#32
  ![v729.toNat, 0, 0]
def k0_off59 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c1_i32_359 : BitVec 32 := 1#32
  let v642 : BitVec 32 := Scalar.addi v583 c1_i32_359
  let v643 : BitVec 32 := Scalar.select v641 v642 v583
  let v742 : Index := Scalar.indexCast v643
  let c0_415 : Index := 0#32
  let c0_416 : Index := 0#32
  ![v742.toNat, 0, 0]
def k0_off60 (arg12 : BitVec 32) (arg13 : BitVec 32) : Fin 3 → Nat :=
  let c0_417 : Index := 0#32
  let c0_418 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c512_i32_407 : BitVec 32 := 512#32
  let v726 : BitVec 32 := Scalar.muli v645 c512_i32_407
  let v727 : BitVec 32 := v726
  let v747 : Index := Scalar.indexCast v727
  ![0, 0, v747.toNat]
def k0_mult39 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c1_i32_425 : BitVec 32 := 1#32
  let v762 : BitVec 32 := Scalar.addi v703 c1_i32_425
  let v763 : BitVec 32 := Scalar.select v761 v762 v703
  let c31_i32_428 : BitVec 32 := 31#32
  let v766 : BitVec 32 := Scalar.minsi v763 c31_i32_428
  let c512_i32_429 : BitVec 32 := 512#32
  let v767 : BitVec 32 := Scalar.muli v766 c512_i32_429
  v767
def k0_mult40 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c512_i32_430 : BitVec 32 := 512#32
  let v769 : BitVec 32 := Scalar.muli v765 c512_i32_430
  v769
def k0_off61 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c512_i32_430 : BitVec 32 := 512#32
  let v769 : BitVec 32 := Scalar.muli v765 c512_i32_430
  let v770 : BitVec 32 := v769
  let v771 : Index := Scalar.indexCast v770
  let c0_431 : Index := 0#32
  ![v771.toNat, 0]
def k0_off62 (arg12 : BitVec 32) (arg13 : BitVec 32) : Fin 3 → Nat :=
  let c0_432 : Index := 0#32
  let c0_433 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c1_i32_425 : BitVec 32 := 1#32
  let v762 : BitVec 32 := Scalar.addi v703 c1_i32_425
  let v763 : BitVec 32 := Scalar.select v761 v762 v703
  let c31_i32_428 : BitVec 32 := 31#32
  let v766 : BitVec 32 := Scalar.minsi v763 c31_i32_428
  let c512_i32_429 : BitVec 32 := 512#32
  let v767 : BitVec 32 := Scalar.muli v766 c512_i32_429
  let v768 : BitVec 32 := v767
  let v774 : Index := Scalar.indexCast v768
  ![0, 0, v774.toNat]
def k0_mult41 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c512_i32_440 : BitVec 32 := 512#32
  let v786 : BitVec 32 := Scalar.muli v705 c512_i32_440
  v786
def k0_off63 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c1_i32_392 : BitVec 32 := 1#32
  let v702 : BitVec 32 := Scalar.addi v643 c1_i32_392
  let v703 : BitVec 32 := Scalar.select v701 v702 v643
  let v789 : Index := Scalar.indexCast v703
  let c0_443 : Index := 0#32
  let c0_444 : Index := 0#32
  ![v789.toNat, 0, 0]
def k0_off64 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c1_i32_392 : BitVec 32 := 1#32
  let v702 : BitVec 32 := Scalar.addi v643 c1_i32_392
  let v703 : BitVec 32 := Scalar.select v701 v702 v643
  let v802 : Index := Scalar.indexCast v703
  let c0_448 : Index := 0#32
  let c0_449 : Index := 0#32
  ![v802.toNat, 0, 0]
def k0_off65 (arg12 : BitVec 32) (arg13 : BitVec 32) : Fin 3 → Nat :=
  let c0_450 : Index := 0#32
  let c0_451 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c512_i32_440 : BitVec 32 := 512#32
  let v786 : BitVec 32 := Scalar.muli v705 c512_i32_440
  let v787 : BitVec 32 := v786
  let v807 : Index := Scalar.indexCast v787
  ![0, 0, v807.toNat]
def k0_mult42 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c1_i32_458 : BitVec 32 := 1#32
  let v822 : BitVec 32 := Scalar.addi v763 c1_i32_458
  let v823 : BitVec 32 := Scalar.select v821 v822 v763
  let c31_i32_461 : BitVec 32 := 31#32
  let v826 : BitVec 32 := Scalar.minsi v823 c31_i32_461
  let c512_i32_462 : BitVec 32 := 512#32
  let v827 : BitVec 32 := Scalar.muli v826 c512_i32_462
  v827
def k0_mult43 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c512_i32_463 : BitVec 32 := 512#32
  let v829 : BitVec 32 := Scalar.muli v825 c512_i32_463
  v829
def k0_off66 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c512_i32_463 : BitVec 32 := 512#32
  let v829 : BitVec 32 := Scalar.muli v825 c512_i32_463
  let v830 : BitVec 32 := v829
  let v831 : Index := Scalar.indexCast v830
  let c0_464 : Index := 0#32
  ![v831.toNat, 0]
def k0_off67 (arg12 : BitVec 32) (arg13 : BitVec 32) : Fin 3 → Nat :=
  let c0_465 : Index := 0#32
  let c0_466 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c1_i32_458 : BitVec 32 := 1#32
  let v822 : BitVec 32 := Scalar.addi v763 c1_i32_458
  let v823 : BitVec 32 := Scalar.select v821 v822 v763
  let c31_i32_461 : BitVec 32 := 31#32
  let v826 : BitVec 32 := Scalar.minsi v823 c31_i32_461
  let c512_i32_462 : BitVec 32 := 512#32
  let v827 : BitVec 32 := Scalar.muli v826 c512_i32_462
  let v828 : BitVec 32 := v827
  let v834 : Index := Scalar.indexCast v828
  ![0, 0, v834.toNat]
def k0_mult44 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c512_i32_473 : BitVec 32 := 512#32
  let v846 : BitVec 32 := Scalar.muli v765 c512_i32_473
  v846
def k0_off68 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c1_i32_425 : BitVec 32 := 1#32
  let v762 : BitVec 32 := Scalar.addi v703 c1_i32_425
  let v763 : BitVec 32 := Scalar.select v761 v762 v703
  let v849 : Index := Scalar.indexCast v763
  let c0_476 : Index := 0#32
  let c0_477 : Index := 0#32
  ![v849.toNat, 0, 0]
def k0_off69 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c1_i32_425 : BitVec 32 := 1#32
  let v762 : BitVec 32 := Scalar.addi v703 c1_i32_425
  let v763 : BitVec 32 := Scalar.select v761 v762 v703
  let v862 : Index := Scalar.indexCast v763
  let c0_481 : Index := 0#32
  let c0_482 : Index := 0#32
  ![v862.toNat, 0, 0]
def k0_off70 (arg12 : BitVec 32) (arg13 : BitVec 32) : Fin 3 → Nat :=
  let c0_483 : Index := 0#32
  let c0_484 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c512_i32_473 : BitVec 32 := 512#32
  let v846 : BitVec 32 := Scalar.muli v765 c512_i32_473
  let v847 : BitVec 32 := v846
  let v867 : Index := Scalar.indexCast v847
  ![0, 0, v867.toNat]
def k0_mult45 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c1_i32_491 : BitVec 32 := 1#32
  let v882 : BitVec 32 := Scalar.addi v823 c1_i32_491
  let v883 : BitVec 32 := Scalar.select v881 v882 v823
  let c31_i32_494 : BitVec 32 := 31#32
  let v886 : BitVec 32 := Scalar.minsi v883 c31_i32_494
  let c512_i32_495 : BitVec 32 := 512#32
  let v887 : BitVec 32 := Scalar.muli v886 c512_i32_495
  v887
def k0_mult46 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c512_i32_496 : BitVec 32 := 512#32
  let v889 : BitVec 32 := Scalar.muli v885 c512_i32_496
  v889
def k0_off71 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c512_i32_496 : BitVec 32 := 512#32
  let v889 : BitVec 32 := Scalar.muli v885 c512_i32_496
  let v890 : BitVec 32 := v889
  let v891 : Index := Scalar.indexCast v890
  let c0_497 : Index := 0#32
  ![v891.toNat, 0]
def k0_off72 (arg12 : BitVec 32) (arg13 : BitVec 32) : Fin 3 → Nat :=
  let c0_498 : Index := 0#32
  let c0_499 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c1_i32_491 : BitVec 32 := 1#32
  let v882 : BitVec 32 := Scalar.addi v823 c1_i32_491
  let v883 : BitVec 32 := Scalar.select v881 v882 v823
  let c31_i32_494 : BitVec 32 := 31#32
  let v886 : BitVec 32 := Scalar.minsi v883 c31_i32_494
  let c512_i32_495 : BitVec 32 := 512#32
  let v887 : BitVec 32 := Scalar.muli v886 c512_i32_495
  let v888 : BitVec 32 := v887
  let v894 : Index := Scalar.indexCast v888
  ![0, 0, v894.toNat]
def k0_mult47 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c512_i32_506 : BitVec 32 := 512#32
  let v906 : BitVec 32 := Scalar.muli v825 c512_i32_506
  v906
def k0_off73 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c1_i32_458 : BitVec 32 := 1#32
  let v822 : BitVec 32 := Scalar.addi v763 c1_i32_458
  let v823 : BitVec 32 := Scalar.select v821 v822 v763
  let v909 : Index := Scalar.indexCast v823
  let c0_509 : Index := 0#32
  let c0_510 : Index := 0#32
  ![v909.toNat, 0, 0]
def k0_off74 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c1_i32_458 : BitVec 32 := 1#32
  let v822 : BitVec 32 := Scalar.addi v763 c1_i32_458
  let v823 : BitVec 32 := Scalar.select v821 v822 v763
  let v922 : Index := Scalar.indexCast v823
  let c0_514 : Index := 0#32
  let c0_515 : Index := 0#32
  ![v922.toNat, 0, 0]
def k0_off75 (arg12 : BitVec 32) (arg13 : BitVec 32) : Fin 3 → Nat :=
  let c0_516 : Index := 0#32
  let c0_517 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c512_i32_506 : BitVec 32 := 512#32
  let v906 : BitVec 32 := Scalar.muli v825 c512_i32_506
  let v907 : BitVec 32 := v906
  let v927 : Index := Scalar.indexCast v907
  ![0, 0, v927.toNat]
def k0_mult48 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c1_i32_524 : BitVec 32 := 1#32
  let v942 : BitVec 32 := Scalar.addi v883 c1_i32_524
  let v943 : BitVec 32 := Scalar.select v941 v942 v883
  let c31_i32_527 : BitVec 32 := 31#32
  let v946 : BitVec 32 := Scalar.minsi v943 c31_i32_527
  let c512_i32_528 : BitVec 32 := 512#32
  let v947 : BitVec 32 := Scalar.muli v946 c512_i32_528
  v947
def k0_mult49 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c512_i32_529 : BitVec 32 := 512#32
  let v949 : BitVec 32 := Scalar.muli v945 c512_i32_529
  v949
def k0_off76 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c512_i32_529 : BitVec 32 := 512#32
  let v949 : BitVec 32 := Scalar.muli v945 c512_i32_529
  let v950 : BitVec 32 := v949
  let v951 : Index := Scalar.indexCast v950
  let c0_530 : Index := 0#32
  ![v951.toNat, 0]
def k0_off77 (arg12 : BitVec 32) (arg13 : BitVec 32) : Fin 3 → Nat :=
  let c0_531 : Index := 0#32
  let c0_532 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c1_i32_524 : BitVec 32 := 1#32
  let v942 : BitVec 32 := Scalar.addi v883 c1_i32_524
  let v943 : BitVec 32 := Scalar.select v941 v942 v883
  let c31_i32_527 : BitVec 32 := 31#32
  let v946 : BitVec 32 := Scalar.minsi v943 c31_i32_527
  let c512_i32_528 : BitVec 32 := 512#32
  let v947 : BitVec 32 := Scalar.muli v946 c512_i32_528
  let v948 : BitVec 32 := v947
  let v954 : Index := Scalar.indexCast v948
  ![0, 0, v954.toNat]
def k0_mult50 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c512_i32_539 : BitVec 32 := 512#32
  let v966 : BitVec 32 := Scalar.muli v885 c512_i32_539
  v966
def k0_off78 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c1_i32_491 : BitVec 32 := 1#32
  let v882 : BitVec 32 := Scalar.addi v823 c1_i32_491
  let v883 : BitVec 32 := Scalar.select v881 v882 v823
  let v969 : Index := Scalar.indexCast v883
  let c0_542 : Index := 0#32
  let c0_543 : Index := 0#32
  ![v969.toNat, 0, 0]
def k0_off79 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c1_i32_491 : BitVec 32 := 1#32
  let v882 : BitVec 32 := Scalar.addi v823 c1_i32_491
  let v883 : BitVec 32 := Scalar.select v881 v882 v823
  let v982 : Index := Scalar.indexCast v883
  let c0_547 : Index := 0#32
  let c0_548 : Index := 0#32
  ![v982.toNat, 0, 0]
def k0_off80 (arg12 : BitVec 32) (arg13 : BitVec 32) : Fin 3 → Nat :=
  let c0_549 : Index := 0#32
  let c0_550 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c512_i32_539 : BitVec 32 := 512#32
  let v966 : BitVec 32 := Scalar.muli v885 c512_i32_539
  let v967 : BitVec 32 := v966
  let v987 : Index := Scalar.indexCast v967
  ![0, 0, v987.toNat]
def k0_mult51 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c1_i32_557 : BitVec 32 := 1#32
  let v1002 : BitVec 32 := Scalar.addi v943 c1_i32_557
  let v1003 : BitVec 32 := Scalar.select v1001 v1002 v943
  let c31_i32_560 : BitVec 32 := 31#32
  let v1006 : BitVec 32 := Scalar.minsi v1003 c31_i32_560
  let c512_i32_561 : BitVec 32 := 512#32
  let v1007 : BitVec 32 := Scalar.muli v1006 c512_i32_561
  v1007
def k0_mult52 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c512_i32_562 : BitVec 32 := 512#32
  let v1009 : BitVec 32 := Scalar.muli v1005 c512_i32_562
  v1009
def k0_off81 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c512_i32_562 : BitVec 32 := 512#32
  let v1009 : BitVec 32 := Scalar.muli v1005 c512_i32_562
  let v1010 : BitVec 32 := v1009
  let v1011 : Index := Scalar.indexCast v1010
  let c0_563 : Index := 0#32
  ![v1011.toNat, 0]
def k0_off82 (arg12 : BitVec 32) (arg13 : BitVec 32) : Fin 3 → Nat :=
  let c0_564 : Index := 0#32
  let c0_565 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c1_i32_557 : BitVec 32 := 1#32
  let v1002 : BitVec 32 := Scalar.addi v943 c1_i32_557
  let v1003 : BitVec 32 := Scalar.select v1001 v1002 v943
  let c31_i32_560 : BitVec 32 := 31#32
  let v1006 : BitVec 32 := Scalar.minsi v1003 c31_i32_560
  let c512_i32_561 : BitVec 32 := 512#32
  let v1007 : BitVec 32 := Scalar.muli v1006 c512_i32_561
  let v1008 : BitVec 32 := v1007
  let v1014 : Index := Scalar.indexCast v1008
  ![0, 0, v1014.toNat]
def k0_mult53 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c512_i32_572 : BitVec 32 := 512#32
  let v1026 : BitVec 32 := Scalar.muli v945 c512_i32_572
  v1026
def k0_off83 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c1_i32_524 : BitVec 32 := 1#32
  let v942 : BitVec 32 := Scalar.addi v883 c1_i32_524
  let v943 : BitVec 32 := Scalar.select v941 v942 v883
  let v1029 : Index := Scalar.indexCast v943
  let c0_575 : Index := 0#32
  let c0_576 : Index := 0#32
  ![v1029.toNat, 0, 0]
def k0_off84 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c1_i32_524 : BitVec 32 := 1#32
  let v942 : BitVec 32 := Scalar.addi v883 c1_i32_524
  let v943 : BitVec 32 := Scalar.select v941 v942 v883
  let v1042 : Index := Scalar.indexCast v943
  let c0_580 : Index := 0#32
  let c0_581 : Index := 0#32
  ![v1042.toNat, 0, 0]
def k0_off85 (arg12 : BitVec 32) (arg13 : BitVec 32) : Fin 3 → Nat :=
  let c0_582 : Index := 0#32
  let c0_583 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c512_i32_572 : BitVec 32 := 512#32
  let v1026 : BitVec 32 := Scalar.muli v945 c512_i32_572
  let v1027 : BitVec 32 := v1026
  let v1047 : Index := Scalar.indexCast v1027
  ![0, 0, v1047.toNat]
def k0_mult54 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c1_i32_590 : BitVec 32 := 1#32
  let v1062 : BitVec 32 := Scalar.addi v1003 c1_i32_590
  let v1063 : BitVec 32 := Scalar.select v1061 v1062 v1003
  let c31_i32_593 : BitVec 32 := 31#32
  let v1066 : BitVec 32 := Scalar.minsi v1063 c31_i32_593
  let c512_i32_594 : BitVec 32 := 512#32
  let v1067 : BitVec 32 := Scalar.muli v1066 c512_i32_594
  v1067
def k0_mult55 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c512_i32_595 : BitVec 32 := 512#32
  let v1069 : BitVec 32 := Scalar.muli v1065 c512_i32_595
  v1069
def k0_off86 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c512_i32_595 : BitVec 32 := 512#32
  let v1069 : BitVec 32 := Scalar.muli v1065 c512_i32_595
  let v1070 : BitVec 32 := v1069
  let v1071 : Index := Scalar.indexCast v1070
  let c0_596 : Index := 0#32
  ![v1071.toNat, 0]
def k0_off87 (arg12 : BitVec 32) (arg13 : BitVec 32) : Fin 3 → Nat :=
  let c0_597 : Index := 0#32
  let c0_598 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c1_i32_590 : BitVec 32 := 1#32
  let v1062 : BitVec 32 := Scalar.addi v1003 c1_i32_590
  let v1063 : BitVec 32 := Scalar.select v1061 v1062 v1003
  let c31_i32_593 : BitVec 32 := 31#32
  let v1066 : BitVec 32 := Scalar.minsi v1063 c31_i32_593
  let c512_i32_594 : BitVec 32 := 512#32
  let v1067 : BitVec 32 := Scalar.muli v1066 c512_i32_594
  let v1068 : BitVec 32 := v1067
  let v1074 : Index := Scalar.indexCast v1068
  ![0, 0, v1074.toNat]
def k0_mult56 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c512_i32_605 : BitVec 32 := 512#32
  let v1086 : BitVec 32 := Scalar.muli v1005 c512_i32_605
  v1086
def k0_off88 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c1_i32_557 : BitVec 32 := 1#32
  let v1002 : BitVec 32 := Scalar.addi v943 c1_i32_557
  let v1003 : BitVec 32 := Scalar.select v1001 v1002 v943
  let v1089 : Index := Scalar.indexCast v1003
  let c0_608 : Index := 0#32
  let c0_609 : Index := 0#32
  ![v1089.toNat, 0, 0]
def k0_off89 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c1_i32_557 : BitVec 32 := 1#32
  let v1002 : BitVec 32 := Scalar.addi v943 c1_i32_557
  let v1003 : BitVec 32 := Scalar.select v1001 v1002 v943
  let v1102 : Index := Scalar.indexCast v1003
  let c0_613 : Index := 0#32
  let c0_614 : Index := 0#32
  ![v1102.toNat, 0, 0]
def k0_off90 (arg12 : BitVec 32) (arg13 : BitVec 32) : Fin 3 → Nat :=
  let c0_615 : Index := 0#32
  let c0_616 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c512_i32_605 : BitVec 32 := 512#32
  let v1086 : BitVec 32 := Scalar.muli v1005 c512_i32_605
  let v1087 : BitVec 32 := v1086
  let v1107 : Index := Scalar.indexCast v1087
  ![0, 0, v1107.toNat]
def k0_mult57 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c1_i32_623 : BitVec 32 := 1#32
  let v1122 : BitVec 32 := Scalar.addi v1063 c1_i32_623
  let v1123 : BitVec 32 := Scalar.select v1121 v1122 v1063
  let c31_i32_626 : BitVec 32 := 31#32
  let v1126 : BitVec 32 := Scalar.minsi v1123 c31_i32_626
  let c512_i32_627 : BitVec 32 := 512#32
  let v1127 : BitVec 32 := Scalar.muli v1126 c512_i32_627
  v1127
def k0_mult58 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c512_i32_628 : BitVec 32 := 512#32
  let v1129 : BitVec 32 := Scalar.muli v1125 c512_i32_628
  v1129
def k0_off91 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c512_i32_628 : BitVec 32 := 512#32
  let v1129 : BitVec 32 := Scalar.muli v1125 c512_i32_628
  let v1130 : BitVec 32 := v1129
  let v1131 : Index := Scalar.indexCast v1130
  let c0_629 : Index := 0#32
  ![v1131.toNat, 0]
def k0_off92 (arg12 : BitVec 32) (arg13 : BitVec 32) : Fin 3 → Nat :=
  let c0_630 : Index := 0#32
  let c0_631 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c1_i32_623 : BitVec 32 := 1#32
  let v1122 : BitVec 32 := Scalar.addi v1063 c1_i32_623
  let v1123 : BitVec 32 := Scalar.select v1121 v1122 v1063
  let c31_i32_626 : BitVec 32 := 31#32
  let v1126 : BitVec 32 := Scalar.minsi v1123 c31_i32_626
  let c512_i32_627 : BitVec 32 := 512#32
  let v1127 : BitVec 32 := Scalar.muli v1126 c512_i32_627
  let v1128 : BitVec 32 := v1127
  let v1134 : Index := Scalar.indexCast v1128
  ![0, 0, v1134.toNat]
def k0_mult59 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c512_i32_638 : BitVec 32 := 512#32
  let v1146 : BitVec 32 := Scalar.muli v1065 c512_i32_638
  v1146
def k0_off93 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c1_i32_590 : BitVec 32 := 1#32
  let v1062 : BitVec 32 := Scalar.addi v1003 c1_i32_590
  let v1063 : BitVec 32 := Scalar.select v1061 v1062 v1003
  let v1149 : Index := Scalar.indexCast v1063
  let c0_641 : Index := 0#32
  let c0_642 : Index := 0#32
  ![v1149.toNat, 0, 0]
def k0_off94 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c1_i32_590 : BitVec 32 := 1#32
  let v1062 : BitVec 32 := Scalar.addi v1003 c1_i32_590
  let v1063 : BitVec 32 := Scalar.select v1061 v1062 v1003
  let v1162 : Index := Scalar.indexCast v1063
  let c0_646 : Index := 0#32
  let c0_647 : Index := 0#32
  ![v1162.toNat, 0, 0]
def k0_off95 (arg12 : BitVec 32) (arg13 : BitVec 32) : Fin 3 → Nat :=
  let c0_648 : Index := 0#32
  let c0_649 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c512_i32_638 : BitVec 32 := 512#32
  let v1146 : BitVec 32 := Scalar.muli v1065 c512_i32_638
  let v1147 : BitVec 32 := v1146
  let v1167 : Index := Scalar.indexCast v1147
  ![0, 0, v1167.toNat]
def k0_mult60 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c1_i32_656 : BitVec 32 := 1#32
  let v1182 : BitVec 32 := Scalar.addi v1123 c1_i32_656
  let v1183 : BitVec 32 := Scalar.select v1181 v1182 v1123
  let c31_i32_659 : BitVec 32 := 31#32
  let v1186 : BitVec 32 := Scalar.minsi v1183 c31_i32_659
  let c512_i32_660 : BitVec 32 := 512#32
  let v1187 : BitVec 32 := Scalar.muli v1186 c512_i32_660
  v1187
def k0_mult61 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c512_i32_661 : BitVec 32 := 512#32
  let v1189 : BitVec 32 := Scalar.muli v1185 c512_i32_661
  v1189
def k0_off96 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c512_i32_661 : BitVec 32 := 512#32
  let v1189 : BitVec 32 := Scalar.muli v1185 c512_i32_661
  let v1190 : BitVec 32 := v1189
  let v1191 : Index := Scalar.indexCast v1190
  let c0_662 : Index := 0#32
  ![v1191.toNat, 0]
def k0_off97 (arg12 : BitVec 32) (arg13 : BitVec 32) : Fin 3 → Nat :=
  let c0_663 : Index := 0#32
  let c0_664 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c1_i32_656 : BitVec 32 := 1#32
  let v1182 : BitVec 32 := Scalar.addi v1123 c1_i32_656
  let v1183 : BitVec 32 := Scalar.select v1181 v1182 v1123
  let c31_i32_659 : BitVec 32 := 31#32
  let v1186 : BitVec 32 := Scalar.minsi v1183 c31_i32_659
  let c512_i32_660 : BitVec 32 := 512#32
  let v1187 : BitVec 32 := Scalar.muli v1186 c512_i32_660
  let v1188 : BitVec 32 := v1187
  let v1194 : Index := Scalar.indexCast v1188
  ![0, 0, v1194.toNat]
def k0_mult62 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c512_i32_671 : BitVec 32 := 512#32
  let v1206 : BitVec 32 := Scalar.muli v1125 c512_i32_671
  v1206
def k0_off98 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c1_i32_623 : BitVec 32 := 1#32
  let v1122 : BitVec 32 := Scalar.addi v1063 c1_i32_623
  let v1123 : BitVec 32 := Scalar.select v1121 v1122 v1063
  let v1209 : Index := Scalar.indexCast v1123
  let c0_674 : Index := 0#32
  let c0_675 : Index := 0#32
  ![v1209.toNat, 0, 0]
def k0_off99 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c1_i32_623 : BitVec 32 := 1#32
  let v1122 : BitVec 32 := Scalar.addi v1063 c1_i32_623
  let v1123 : BitVec 32 := Scalar.select v1121 v1122 v1063
  let v1222 : Index := Scalar.indexCast v1123
  let c0_679 : Index := 0#32
  let c0_680 : Index := 0#32
  ![v1222.toNat, 0, 0]
def k0_off100 (arg12 : BitVec 32) (arg13 : BitVec 32) : Fin 3 → Nat :=
  let c0_681 : Index := 0#32
  let c0_682 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c512_i32_671 : BitVec 32 := 512#32
  let v1206 : BitVec 32 := Scalar.muli v1125 c512_i32_671
  let v1207 : BitVec 32 := v1206
  let v1227 : Index := Scalar.indexCast v1207
  ![0, 0, v1227.toNat]
def k0_mult63 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c1_i32_689 : BitVec 32 := 1#32
  let v1242 : BitVec 32 := Scalar.addi v1183 c1_i32_689
  let v1243 : BitVec 32 := Scalar.select v1241 v1242 v1183
  let c31_i32_692 : BitVec 32 := 31#32
  let v1246 : BitVec 32 := Scalar.minsi v1243 c31_i32_692
  let c512_i32_693 : BitVec 32 := 512#32
  let v1247 : BitVec 32 := Scalar.muli v1246 c512_i32_693
  v1247
def k0_mult64 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c512_i32_694 : BitVec 32 := 512#32
  let v1249 : BitVec 32 := Scalar.muli v1245 c512_i32_694
  v1249
def k0_off101 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c512_i32_694 : BitVec 32 := 512#32
  let v1249 : BitVec 32 := Scalar.muli v1245 c512_i32_694
  let v1250 : BitVec 32 := v1249
  let v1251 : Index := Scalar.indexCast v1250
  let c0_695 : Index := 0#32
  ![v1251.toNat, 0]
def k0_off102 (arg12 : BitVec 32) (arg13 : BitVec 32) : Fin 3 → Nat :=
  let c0_696 : Index := 0#32
  let c0_697 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c1_i32_689 : BitVec 32 := 1#32
  let v1242 : BitVec 32 := Scalar.addi v1183 c1_i32_689
  let v1243 : BitVec 32 := Scalar.select v1241 v1242 v1183
  let c31_i32_692 : BitVec 32 := 31#32
  let v1246 : BitVec 32 := Scalar.minsi v1243 c31_i32_692
  let c512_i32_693 : BitVec 32 := 512#32
  let v1247 : BitVec 32 := Scalar.muli v1246 c512_i32_693
  let v1248 : BitVec 32 := v1247
  let v1254 : Index := Scalar.indexCast v1248
  ![0, 0, v1254.toNat]
def k0_mult65 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c512_i32_704 : BitVec 32 := 512#32
  let v1266 : BitVec 32 := Scalar.muli v1185 c512_i32_704
  v1266
def k0_off103 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c1_i32_656 : BitVec 32 := 1#32
  let v1182 : BitVec 32 := Scalar.addi v1123 c1_i32_656
  let v1183 : BitVec 32 := Scalar.select v1181 v1182 v1123
  let v1269 : Index := Scalar.indexCast v1183
  let c0_707 : Index := 0#32
  let c0_708 : Index := 0#32
  ![v1269.toNat, 0, 0]
def k0_off104 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c1_i32_656 : BitVec 32 := 1#32
  let v1182 : BitVec 32 := Scalar.addi v1123 c1_i32_656
  let v1183 : BitVec 32 := Scalar.select v1181 v1182 v1123
  let v1282 : Index := Scalar.indexCast v1183
  let c0_712 : Index := 0#32
  let c0_713 : Index := 0#32
  ![v1282.toNat, 0, 0]
def k0_off105 (arg12 : BitVec 32) (arg13 : BitVec 32) : Fin 3 → Nat :=
  let c0_714 : Index := 0#32
  let c0_715 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c512_i32_704 : BitVec 32 := 512#32
  let v1266 : BitVec 32 := Scalar.muli v1185 c512_i32_704
  let v1267 : BitVec 32 := v1266
  let v1287 : Index := Scalar.indexCast v1267
  ![0, 0, v1287.toNat]
def k0_mult66 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c1_i32_722 : BitVec 32 := 1#32
  let v1302 : BitVec 32 := Scalar.addi v1243 c1_i32_722
  let v1303 : BitVec 32 := Scalar.select v1301 v1302 v1243
  let c31_i32_725 : BitVec 32 := 31#32
  let v1306 : BitVec 32 := Scalar.minsi v1303 c31_i32_725
  let c512_i32_726 : BitVec 32 := 512#32
  let v1307 : BitVec 32 := Scalar.muli v1306 c512_i32_726
  v1307
def k0_mult67 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c512_i32_727 : BitVec 32 := 512#32
  let v1309 : BitVec 32 := Scalar.muli v1305 c512_i32_727
  v1309
def k0_off106 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c512_i32_727 : BitVec 32 := 512#32
  let v1309 : BitVec 32 := Scalar.muli v1305 c512_i32_727
  let v1310 : BitVec 32 := v1309
  let v1311 : Index := Scalar.indexCast v1310
  let c0_728 : Index := 0#32
  ![v1311.toNat, 0]
def k0_off107 (arg12 : BitVec 32) (arg13 : BitVec 32) : Fin 3 → Nat :=
  let c0_729 : Index := 0#32
  let c0_730 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c1_i32_722 : BitVec 32 := 1#32
  let v1302 : BitVec 32 := Scalar.addi v1243 c1_i32_722
  let v1303 : BitVec 32 := Scalar.select v1301 v1302 v1243
  let c31_i32_725 : BitVec 32 := 31#32
  let v1306 : BitVec 32 := Scalar.minsi v1303 c31_i32_725
  let c512_i32_726 : BitVec 32 := 512#32
  let v1307 : BitVec 32 := Scalar.muli v1306 c512_i32_726
  let v1308 : BitVec 32 := v1307
  let v1314 : Index := Scalar.indexCast v1308
  ![0, 0, v1314.toNat]
def k0_mult68 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c512_i32_737 : BitVec 32 := 512#32
  let v1326 : BitVec 32 := Scalar.muli v1245 c512_i32_737
  v1326
def k0_off108 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c1_i32_689 : BitVec 32 := 1#32
  let v1242 : BitVec 32 := Scalar.addi v1183 c1_i32_689
  let v1243 : BitVec 32 := Scalar.select v1241 v1242 v1183
  let v1329 : Index := Scalar.indexCast v1243
  let c0_740 : Index := 0#32
  let c0_741 : Index := 0#32
  ![v1329.toNat, 0, 0]
def k0_off109 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c1_i32_689 : BitVec 32 := 1#32
  let v1242 : BitVec 32 := Scalar.addi v1183 c1_i32_689
  let v1243 : BitVec 32 := Scalar.select v1241 v1242 v1183
  let v1342 : Index := Scalar.indexCast v1243
  let c0_745 : Index := 0#32
  let c0_746 : Index := 0#32
  ![v1342.toNat, 0, 0]
def k0_off110 (arg12 : BitVec 32) (arg13 : BitVec 32) : Fin 3 → Nat :=
  let c0_747 : Index := 0#32
  let c0_748 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c512_i32_737 : BitVec 32 := 512#32
  let v1326 : BitVec 32 := Scalar.muli v1245 c512_i32_737
  let v1327 : BitVec 32 := v1326
  let v1347 : Index := Scalar.indexCast v1327
  ![0, 0, v1347.toNat]
def k0_mult69 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c1_i32_755 : BitVec 32 := 1#32
  let v1362 : BitVec 32 := Scalar.addi v1303 c1_i32_755
  let v1363 : BitVec 32 := Scalar.select v1361 v1362 v1303
  let c31_i32_758 : BitVec 32 := 31#32
  let v1366 : BitVec 32 := Scalar.minsi v1363 c31_i32_758
  let c512_i32_759 : BitVec 32 := 512#32
  let v1367 : BitVec 32 := Scalar.muli v1366 c512_i32_759
  v1367
def k0_mult70 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c512_i32_760 : BitVec 32 := 512#32
  let v1369 : BitVec 32 := Scalar.muli v1365 c512_i32_760
  v1369
def k0_off111 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c512_i32_760 : BitVec 32 := 512#32
  let v1369 : BitVec 32 := Scalar.muli v1365 c512_i32_760
  let v1370 : BitVec 32 := v1369
  let v1371 : Index := Scalar.indexCast v1370
  let c0_761 : Index := 0#32
  ![v1371.toNat, 0]
def k0_off112 (arg12 : BitVec 32) (arg13 : BitVec 32) : Fin 3 → Nat :=
  let c0_762 : Index := 0#32
  let c0_763 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c1_i32_755 : BitVec 32 := 1#32
  let v1362 : BitVec 32 := Scalar.addi v1303 c1_i32_755
  let v1363 : BitVec 32 := Scalar.select v1361 v1362 v1303
  let c31_i32_758 : BitVec 32 := 31#32
  let v1366 : BitVec 32 := Scalar.minsi v1363 c31_i32_758
  let c512_i32_759 : BitVec 32 := 512#32
  let v1367 : BitVec 32 := Scalar.muli v1366 c512_i32_759
  let v1368 : BitVec 32 := v1367
  let v1374 : Index := Scalar.indexCast v1368
  ![0, 0, v1374.toNat]
def k0_mult71 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c512_i32_770 : BitVec 32 := 512#32
  let v1386 : BitVec 32 := Scalar.muli v1305 c512_i32_770
  v1386
def k0_off113 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c1_i32_722 : BitVec 32 := 1#32
  let v1302 : BitVec 32 := Scalar.addi v1243 c1_i32_722
  let v1303 : BitVec 32 := Scalar.select v1301 v1302 v1243
  let v1389 : Index := Scalar.indexCast v1303
  let c0_773 : Index := 0#32
  let c0_774 : Index := 0#32
  ![v1389.toNat, 0, 0]
def k0_off114 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c1_i32_722 : BitVec 32 := 1#32
  let v1302 : BitVec 32 := Scalar.addi v1243 c1_i32_722
  let v1303 : BitVec 32 := Scalar.select v1301 v1302 v1243
  let v1402 : Index := Scalar.indexCast v1303
  let c0_778 : Index := 0#32
  let c0_779 : Index := 0#32
  ![v1402.toNat, 0, 0]
def k0_off115 (arg12 : BitVec 32) (arg13 : BitVec 32) : Fin 3 → Nat :=
  let c0_780 : Index := 0#32
  let c0_781 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c512_i32_770 : BitVec 32 := 512#32
  let v1386 : BitVec 32 := Scalar.muli v1305 c512_i32_770
  let v1387 : BitVec 32 := v1386
  let v1407 : Index := Scalar.indexCast v1387
  ![0, 0, v1407.toNat]
def k0_mult72 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c1_i32_788 : BitVec 32 := 1#32
  let v1422 : BitVec 32 := Scalar.addi v1363 c1_i32_788
  let v1423 : BitVec 32 := Scalar.select v1421 v1422 v1363
  let c31_i32_791 : BitVec 32 := 31#32
  let v1426 : BitVec 32 := Scalar.minsi v1423 c31_i32_791
  let c512_i32_792 : BitVec 32 := 512#32
  let v1427 : BitVec 32 := Scalar.muli v1426 c512_i32_792
  v1427
def k0_mult73 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c512_i32_793 : BitVec 32 := 512#32
  let v1429 : BitVec 32 := Scalar.muli v1425 c512_i32_793
  v1429
def k0_off116 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c512_i32_793 : BitVec 32 := 512#32
  let v1429 : BitVec 32 := Scalar.muli v1425 c512_i32_793
  let v1430 : BitVec 32 := v1429
  let v1431 : Index := Scalar.indexCast v1430
  let c0_794 : Index := 0#32
  ![v1431.toNat, 0]
def k0_off117 (arg12 : BitVec 32) (arg13 : BitVec 32) : Fin 3 → Nat :=
  let c0_795 : Index := 0#32
  let c0_796 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c1_i32_788 : BitVec 32 := 1#32
  let v1422 : BitVec 32 := Scalar.addi v1363 c1_i32_788
  let v1423 : BitVec 32 := Scalar.select v1421 v1422 v1363
  let c31_i32_791 : BitVec 32 := 31#32
  let v1426 : BitVec 32 := Scalar.minsi v1423 c31_i32_791
  let c512_i32_792 : BitVec 32 := 512#32
  let v1427 : BitVec 32 := Scalar.muli v1426 c512_i32_792
  let v1428 : BitVec 32 := v1427
  let v1434 : Index := Scalar.indexCast v1428
  ![0, 0, v1434.toNat]
def k0_mult74 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c512_i32_803 : BitVec 32 := 512#32
  let v1446 : BitVec 32 := Scalar.muli v1365 c512_i32_803
  v1446
def k0_off118 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c1_i32_755 : BitVec 32 := 1#32
  let v1362 : BitVec 32 := Scalar.addi v1303 c1_i32_755
  let v1363 : BitVec 32 := Scalar.select v1361 v1362 v1303
  let v1449 : Index := Scalar.indexCast v1363
  let c0_806 : Index := 0#32
  let c0_807 : Index := 0#32
  ![v1449.toNat, 0, 0]
def k0_off119 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c1_i32_755 : BitVec 32 := 1#32
  let v1362 : BitVec 32 := Scalar.addi v1303 c1_i32_755
  let v1363 : BitVec 32 := Scalar.select v1361 v1362 v1303
  let v1462 : Index := Scalar.indexCast v1363
  let c0_811 : Index := 0#32
  let c0_812 : Index := 0#32
  ![v1462.toNat, 0, 0]
def k0_off120 (arg12 : BitVec 32) (arg13 : BitVec 32) : Fin 3 → Nat :=
  let c0_813 : Index := 0#32
  let c0_814 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c512_i32_803 : BitVec 32 := 512#32
  let v1446 : BitVec 32 := Scalar.muli v1365 c512_i32_803
  let v1447 : BitVec 32 := v1446
  let v1467 : Index := Scalar.indexCast v1447
  ![0, 0, v1467.toNat]
def k0_mult75 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c1_i32_821 : BitVec 32 := 1#32
  let v1482 : BitVec 32 := Scalar.addi v1423 c1_i32_821
  let v1483 : BitVec 32 := Scalar.select v1481 v1482 v1423
  let c31_i32_824 : BitVec 32 := 31#32
  let v1486 : BitVec 32 := Scalar.minsi v1483 c31_i32_824
  let c512_i32_825 : BitVec 32 := 512#32
  let v1487 : BitVec 32 := Scalar.muli v1486 c512_i32_825
  v1487
def k0_mult76 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c512_i32_826 : BitVec 32 := 512#32
  let v1489 : BitVec 32 := Scalar.muli v1485 c512_i32_826
  v1489
def k0_off121 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c512_i32_826 : BitVec 32 := 512#32
  let v1489 : BitVec 32 := Scalar.muli v1485 c512_i32_826
  let v1490 : BitVec 32 := v1489
  let v1491 : Index := Scalar.indexCast v1490
  let c0_827 : Index := 0#32
  ![v1491.toNat, 0]
def k0_off122 (arg12 : BitVec 32) (arg13 : BitVec 32) : Fin 3 → Nat :=
  let c0_828 : Index := 0#32
  let c0_829 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c1_i32_821 : BitVec 32 := 1#32
  let v1482 : BitVec 32 := Scalar.addi v1423 c1_i32_821
  let v1483 : BitVec 32 := Scalar.select v1481 v1482 v1423
  let c31_i32_824 : BitVec 32 := 31#32
  let v1486 : BitVec 32 := Scalar.minsi v1483 c31_i32_824
  let c512_i32_825 : BitVec 32 := 512#32
  let v1487 : BitVec 32 := Scalar.muli v1486 c512_i32_825
  let v1488 : BitVec 32 := v1487
  let v1494 : Index := Scalar.indexCast v1488
  ![0, 0, v1494.toNat]
def k0_mult77 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c512_i32_836 : BitVec 32 := 512#32
  let v1506 : BitVec 32 := Scalar.muli v1425 c512_i32_836
  v1506
def k0_off123 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c1_i32_788 : BitVec 32 := 1#32
  let v1422 : BitVec 32 := Scalar.addi v1363 c1_i32_788
  let v1423 : BitVec 32 := Scalar.select v1421 v1422 v1363
  let v1509 : Index := Scalar.indexCast v1423
  let c0_839 : Index := 0#32
  let c0_840 : Index := 0#32
  ![v1509.toNat, 0, 0]
def k0_off124 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c1_i32_788 : BitVec 32 := 1#32
  let v1422 : BitVec 32 := Scalar.addi v1363 c1_i32_788
  let v1423 : BitVec 32 := Scalar.select v1421 v1422 v1363
  let v1522 : Index := Scalar.indexCast v1423
  let c0_844 : Index := 0#32
  let c0_845 : Index := 0#32
  ![v1522.toNat, 0, 0]
def k0_off125 (arg12 : BitVec 32) (arg13 : BitVec 32) : Fin 3 → Nat :=
  let c0_846 : Index := 0#32
  let c0_847 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c512_i32_836 : BitVec 32 := 512#32
  let v1506 : BitVec 32 := Scalar.muli v1425 c512_i32_836
  let v1507 : BitVec 32 := v1506
  let v1527 : Index := Scalar.indexCast v1507
  ![0, 0, v1527.toNat]
def k0_mult78 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c1_i32_854 : BitVec 32 := 1#32
  let v1542 : BitVec 32 := Scalar.addi v1483 c1_i32_854
  let v1543 : BitVec 32 := Scalar.select v1541 v1542 v1483
  let c31_i32_857 : BitVec 32 := 31#32
  let v1546 : BitVec 32 := Scalar.minsi v1543 c31_i32_857
  let c512_i32_858 : BitVec 32 := 512#32
  let v1547 : BitVec 32 := Scalar.muli v1546 c512_i32_858
  v1547
def k0_mult79 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c512_i32_859 : BitVec 32 := 512#32
  let v1549 : BitVec 32 := Scalar.muli v1545 c512_i32_859
  v1549
def k0_off126 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c512_i32_859 : BitVec 32 := 512#32
  let v1549 : BitVec 32 := Scalar.muli v1545 c512_i32_859
  let v1550 : BitVec 32 := v1549
  let v1551 : Index := Scalar.indexCast v1550
  let c0_860 : Index := 0#32
  ![v1551.toNat, 0]
def k0_off127 (arg12 : BitVec 32) (arg13 : BitVec 32) : Fin 3 → Nat :=
  let c0_861 : Index := 0#32
  let c0_862 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c1_i32_854 : BitVec 32 := 1#32
  let v1542 : BitVec 32 := Scalar.addi v1483 c1_i32_854
  let v1543 : BitVec 32 := Scalar.select v1541 v1542 v1483
  let c31_i32_857 : BitVec 32 := 31#32
  let v1546 : BitVec 32 := Scalar.minsi v1543 c31_i32_857
  let c512_i32_858 : BitVec 32 := 512#32
  let v1547 : BitVec 32 := Scalar.muli v1546 c512_i32_858
  let v1548 : BitVec 32 := v1547
  let v1554 : Index := Scalar.indexCast v1548
  ![0, 0, v1554.toNat]
def k0_mult80 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c512_i32_869 : BitVec 32 := 512#32
  let v1566 : BitVec 32 := Scalar.muli v1485 c512_i32_869
  v1566
def k0_off128 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c1_i32_821 : BitVec 32 := 1#32
  let v1482 : BitVec 32 := Scalar.addi v1423 c1_i32_821
  let v1483 : BitVec 32 := Scalar.select v1481 v1482 v1423
  let v1569 : Index := Scalar.indexCast v1483
  let c0_872 : Index := 0#32
  let c0_873 : Index := 0#32
  ![v1569.toNat, 0, 0]
def k0_off129 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c1_i32_821 : BitVec 32 := 1#32
  let v1482 : BitVec 32 := Scalar.addi v1423 c1_i32_821
  let v1483 : BitVec 32 := Scalar.select v1481 v1482 v1423
  let v1582 : Index := Scalar.indexCast v1483
  let c0_877 : Index := 0#32
  let c0_878 : Index := 0#32
  ![v1582.toNat, 0, 0]
def k0_off130 (arg12 : BitVec 32) (arg13 : BitVec 32) : Fin 3 → Nat :=
  let c0_879 : Index := 0#32
  let c0_880 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c512_i32_869 : BitVec 32 := 512#32
  let v1566 : BitVec 32 := Scalar.muli v1485 c512_i32_869
  let v1567 : BitVec 32 := v1566
  let v1587 : Index := Scalar.indexCast v1567
  ![0, 0, v1587.toNat]
def k0_mult81 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c1_i32_887 : BitVec 32 := 1#32
  let v1602 : BitVec 32 := Scalar.addi v1543 c1_i32_887
  let v1603 : BitVec 32 := Scalar.select v1601 v1602 v1543
  let c31_i32_890 : BitVec 32 := 31#32
  let v1606 : BitVec 32 := Scalar.minsi v1603 c31_i32_890
  let c512_i32_891 : BitVec 32 := 512#32
  let v1607 : BitVec 32 := Scalar.muli v1606 c512_i32_891
  v1607
def k0_mult82 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c512_i32_892 : BitVec 32 := 512#32
  let v1609 : BitVec 32 := Scalar.muli v1605 c512_i32_892
  v1609
def k0_off131 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c512_i32_892 : BitVec 32 := 512#32
  let v1609 : BitVec 32 := Scalar.muli v1605 c512_i32_892
  let v1610 : BitVec 32 := v1609
  let v1611 : Index := Scalar.indexCast v1610
  let c0_893 : Index := 0#32
  ![v1611.toNat, 0]
def k0_off132 (arg12 : BitVec 32) (arg13 : BitVec 32) : Fin 3 → Nat :=
  let c0_894 : Index := 0#32
  let c0_895 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c1_i32_887 : BitVec 32 := 1#32
  let v1602 : BitVec 32 := Scalar.addi v1543 c1_i32_887
  let v1603 : BitVec 32 := Scalar.select v1601 v1602 v1543
  let c31_i32_890 : BitVec 32 := 31#32
  let v1606 : BitVec 32 := Scalar.minsi v1603 c31_i32_890
  let c512_i32_891 : BitVec 32 := 512#32
  let v1607 : BitVec 32 := Scalar.muli v1606 c512_i32_891
  let v1608 : BitVec 32 := v1607
  let v1614 : Index := Scalar.indexCast v1608
  ![0, 0, v1614.toNat]
def k0_mult83 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c512_i32_902 : BitVec 32 := 512#32
  let v1626 : BitVec 32 := Scalar.muli v1545 c512_i32_902
  v1626
def k0_off133 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c1_i32_854 : BitVec 32 := 1#32
  let v1542 : BitVec 32 := Scalar.addi v1483 c1_i32_854
  let v1543 : BitVec 32 := Scalar.select v1541 v1542 v1483
  let v1629 : Index := Scalar.indexCast v1543
  let c0_905 : Index := 0#32
  let c0_906 : Index := 0#32
  ![v1629.toNat, 0, 0]
def k0_off134 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c1_i32_854 : BitVec 32 := 1#32
  let v1542 : BitVec 32 := Scalar.addi v1483 c1_i32_854
  let v1543 : BitVec 32 := Scalar.select v1541 v1542 v1483
  let v1642 : Index := Scalar.indexCast v1543
  let c0_910 : Index := 0#32
  let c0_911 : Index := 0#32
  ![v1642.toNat, 0, 0]
def k0_off135 (arg12 : BitVec 32) (arg13 : BitVec 32) : Fin 3 → Nat :=
  let c0_912 : Index := 0#32
  let c0_913 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c512_i32_902 : BitVec 32 := 512#32
  let v1626 : BitVec 32 := Scalar.muli v1545 c512_i32_902
  let v1627 : BitVec 32 := v1626
  let v1647 : Index := Scalar.indexCast v1627
  ![0, 0, v1647.toNat]
def k0_mult84 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c1_i32_920 : BitVec 32 := 1#32
  let v1662 : BitVec 32 := Scalar.addi v1603 c1_i32_920
  let v1663 : BitVec 32 := Scalar.select v1661 v1662 v1603
  let c31_i32_923 : BitVec 32 := 31#32
  let v1666 : BitVec 32 := Scalar.minsi v1663 c31_i32_923
  let c512_i32_924 : BitVec 32 := 512#32
  let v1667 : BitVec 32 := Scalar.muli v1666 c512_i32_924
  v1667
def k0_mult85 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c512_i32_925 : BitVec 32 := 512#32
  let v1669 : BitVec 32 := Scalar.muli v1665 c512_i32_925
  v1669
def k0_off136 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c512_i32_925 : BitVec 32 := 512#32
  let v1669 : BitVec 32 := Scalar.muli v1665 c512_i32_925
  let v1670 : BitVec 32 := v1669
  let v1671 : Index := Scalar.indexCast v1670
  let c0_926 : Index := 0#32
  ![v1671.toNat, 0]
def k0_off137 (arg12 : BitVec 32) (arg13 : BitVec 32) : Fin 3 → Nat :=
  let c0_927 : Index := 0#32
  let c0_928 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c1_i32_920 : BitVec 32 := 1#32
  let v1662 : BitVec 32 := Scalar.addi v1603 c1_i32_920
  let v1663 : BitVec 32 := Scalar.select v1661 v1662 v1603
  let c31_i32_923 : BitVec 32 := 31#32
  let v1666 : BitVec 32 := Scalar.minsi v1663 c31_i32_923
  let c512_i32_924 : BitVec 32 := 512#32
  let v1667 : BitVec 32 := Scalar.muli v1666 c512_i32_924
  let v1668 : BitVec 32 := v1667
  let v1674 : Index := Scalar.indexCast v1668
  ![0, 0, v1674.toNat]
def k0_mult86 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c512_i32_935 : BitVec 32 := 512#32
  let v1686 : BitVec 32 := Scalar.muli v1605 c512_i32_935
  v1686
def k0_off138 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c1_i32_887 : BitVec 32 := 1#32
  let v1602 : BitVec 32 := Scalar.addi v1543 c1_i32_887
  let v1603 : BitVec 32 := Scalar.select v1601 v1602 v1543
  let v1689 : Index := Scalar.indexCast v1603
  let c0_938 : Index := 0#32
  let c0_939 : Index := 0#32
  ![v1689.toNat, 0, 0]
def k0_off139 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c1_i32_887 : BitVec 32 := 1#32
  let v1602 : BitVec 32 := Scalar.addi v1543 c1_i32_887
  let v1603 : BitVec 32 := Scalar.select v1601 v1602 v1543
  let v1702 : Index := Scalar.indexCast v1603
  let c0_943 : Index := 0#32
  let c0_944 : Index := 0#32
  ![v1702.toNat, 0, 0]
def k0_off140 (arg12 : BitVec 32) (arg13 : BitVec 32) : Fin 3 → Nat :=
  let c0_945 : Index := 0#32
  let c0_946 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c512_i32_935 : BitVec 32 := 512#32
  let v1686 : BitVec 32 := Scalar.muli v1605 c512_i32_935
  let v1687 : BitVec 32 := v1686
  let v1707 : Index := Scalar.indexCast v1687
  ![0, 0, v1707.toNat]
def k0_mult87 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c1_i32_953 : BitVec 32 := 1#32
  let v1722 : BitVec 32 := Scalar.addi v1663 c1_i32_953
  let v1723 : BitVec 32 := Scalar.select v1721 v1722 v1663
  let c31_i32_956 : BitVec 32 := 31#32
  let v1726 : BitVec 32 := Scalar.minsi v1723 c31_i32_956
  let c512_i32_957 : BitVec 32 := 512#32
  let v1727 : BitVec 32 := Scalar.muli v1726 c512_i32_957
  v1727
def k0_mult88 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c512_i32_958 : BitVec 32 := 512#32
  let v1729 : BitVec 32 := Scalar.muli v1725 c512_i32_958
  v1729
def k0_off141 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c512_i32_958 : BitVec 32 := 512#32
  let v1729 : BitVec 32 := Scalar.muli v1725 c512_i32_958
  let v1730 : BitVec 32 := v1729
  let v1731 : Index := Scalar.indexCast v1730
  let c0_959 : Index := 0#32
  ![v1731.toNat, 0]
def k0_off142 (arg12 : BitVec 32) (arg13 : BitVec 32) : Fin 3 → Nat :=
  let c0_960 : Index := 0#32
  let c0_961 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c1_i32_953 : BitVec 32 := 1#32
  let v1722 : BitVec 32 := Scalar.addi v1663 c1_i32_953
  let v1723 : BitVec 32 := Scalar.select v1721 v1722 v1663
  let c31_i32_956 : BitVec 32 := 31#32
  let v1726 : BitVec 32 := Scalar.minsi v1723 c31_i32_956
  let c512_i32_957 : BitVec 32 := 512#32
  let v1727 : BitVec 32 := Scalar.muli v1726 c512_i32_957
  let v1728 : BitVec 32 := v1727
  let v1734 : Index := Scalar.indexCast v1728
  ![0, 0, v1734.toNat]
def k0_mult89 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c512_i32_968 : BitVec 32 := 512#32
  let v1746 : BitVec 32 := Scalar.muli v1665 c512_i32_968
  v1746
def k0_off143 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c1_i32_920 : BitVec 32 := 1#32
  let v1662 : BitVec 32 := Scalar.addi v1603 c1_i32_920
  let v1663 : BitVec 32 := Scalar.select v1661 v1662 v1603
  let v1749 : Index := Scalar.indexCast v1663
  let c0_971 : Index := 0#32
  let c0_972 : Index := 0#32
  ![v1749.toNat, 0, 0]
def k0_off144 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c1_i32_920 : BitVec 32 := 1#32
  let v1662 : BitVec 32 := Scalar.addi v1603 c1_i32_920
  let v1663 : BitVec 32 := Scalar.select v1661 v1662 v1603
  let v1762 : Index := Scalar.indexCast v1663
  let c0_976 : Index := 0#32
  let c0_977 : Index := 0#32
  ![v1762.toNat, 0, 0]
def k0_off145 (arg12 : BitVec 32) (arg13 : BitVec 32) : Fin 3 → Nat :=
  let c0_978 : Index := 0#32
  let c0_979 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c512_i32_968 : BitVec 32 := 512#32
  let v1746 : BitVec 32 := Scalar.muli v1665 c512_i32_968
  let v1747 : BitVec 32 := v1746
  let v1767 : Index := Scalar.indexCast v1747
  ![0, 0, v1767.toNat]
def k0_mult90 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c1_i32_986 : BitVec 32 := 1#32
  let v1782 : BitVec 32 := Scalar.addi v1723 c1_i32_986
  let v1783 : BitVec 32 := Scalar.select v1781 v1782 v1723
  let c31_i32_989 : BitVec 32 := 31#32
  let v1786 : BitVec 32 := Scalar.minsi v1783 c31_i32_989
  let c512_i32_990 : BitVec 32 := 512#32
  let v1787 : BitVec 32 := Scalar.muli v1786 c512_i32_990
  v1787
def k0_mult91 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c512_i32_991 : BitVec 32 := 512#32
  let v1789 : BitVec 32 := Scalar.muli v1785 c512_i32_991
  v1789
def k0_off146 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c512_i32_991 : BitVec 32 := 512#32
  let v1789 : BitVec 32 := Scalar.muli v1785 c512_i32_991
  let v1790 : BitVec 32 := v1789
  let v1791 : Index := Scalar.indexCast v1790
  let c0_992 : Index := 0#32
  ![v1791.toNat, 0]
def k0_off147 (arg12 : BitVec 32) (arg13 : BitVec 32) : Fin 3 → Nat :=
  let c0_993 : Index := 0#32
  let c0_994 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c1_i32_986 : BitVec 32 := 1#32
  let v1782 : BitVec 32 := Scalar.addi v1723 c1_i32_986
  let v1783 : BitVec 32 := Scalar.select v1781 v1782 v1723
  let c31_i32_989 : BitVec 32 := 31#32
  let v1786 : BitVec 32 := Scalar.minsi v1783 c31_i32_989
  let c512_i32_990 : BitVec 32 := 512#32
  let v1787 : BitVec 32 := Scalar.muli v1786 c512_i32_990
  let v1788 : BitVec 32 := v1787
  let v1794 : Index := Scalar.indexCast v1788
  ![0, 0, v1794.toNat]
def k0_mult92 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c512_i32_1001 : BitVec 32 := 512#32
  let v1806 : BitVec 32 := Scalar.muli v1725 c512_i32_1001
  v1806
def k0_off148 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c1_i32_953 : BitVec 32 := 1#32
  let v1722 : BitVec 32 := Scalar.addi v1663 c1_i32_953
  let v1723 : BitVec 32 := Scalar.select v1721 v1722 v1663
  let v1809 : Index := Scalar.indexCast v1723
  let c0_1004 : Index := 0#32
  let c0_1005 : Index := 0#32
  ![v1809.toNat, 0, 0]
def k0_off149 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c1_i32_953 : BitVec 32 := 1#32
  let v1722 : BitVec 32 := Scalar.addi v1663 c1_i32_953
  let v1723 : BitVec 32 := Scalar.select v1721 v1722 v1663
  let v1822 : Index := Scalar.indexCast v1723
  let c0_1009 : Index := 0#32
  let c0_1010 : Index := 0#32
  ![v1822.toNat, 0, 0]
def k0_off150 (arg12 : BitVec 32) (arg13 : BitVec 32) : Fin 3 → Nat :=
  let c0_1011 : Index := 0#32
  let c0_1012 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c512_i32_1001 : BitVec 32 := 512#32
  let v1806 : BitVec 32 := Scalar.muli v1725 c512_i32_1001
  let v1807 : BitVec 32 := v1806
  let v1827 : Index := Scalar.indexCast v1807
  ![0, 0, v1827.toNat]
def k0_mult93 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c1_i32_1019 : BitVec 32 := 1#32
  let v1842 : BitVec 32 := Scalar.addi v1783 c1_i32_1019
  let v1843 : BitVec 32 := Scalar.select v1841 v1842 v1783
  let c31_i32_1022 : BitVec 32 := 31#32
  let v1846 : BitVec 32 := Scalar.minsi v1843 c31_i32_1022
  let c512_i32_1023 : BitVec 32 := 512#32
  let v1847 : BitVec 32 := Scalar.muli v1846 c512_i32_1023
  v1847
def k0_mult94 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c512_i32_1024 : BitVec 32 := 512#32
  let v1849 : BitVec 32 := Scalar.muli v1845 c512_i32_1024
  v1849
def k0_off151 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c512_i32_1024 : BitVec 32 := 512#32
  let v1849 : BitVec 32 := Scalar.muli v1845 c512_i32_1024
  let v1850 : BitVec 32 := v1849
  let v1851 : Index := Scalar.indexCast v1850
  let c0_1025 : Index := 0#32
  ![v1851.toNat, 0]
def k0_off152 (arg12 : BitVec 32) (arg13 : BitVec 32) : Fin 3 → Nat :=
  let c0_1026 : Index := 0#32
  let c0_1027 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c1_i32_1019 : BitVec 32 := 1#32
  let v1842 : BitVec 32 := Scalar.addi v1783 c1_i32_1019
  let v1843 : BitVec 32 := Scalar.select v1841 v1842 v1783
  let c31_i32_1022 : BitVec 32 := 31#32
  let v1846 : BitVec 32 := Scalar.minsi v1843 c31_i32_1022
  let c512_i32_1023 : BitVec 32 := 512#32
  let v1847 : BitVec 32 := Scalar.muli v1846 c512_i32_1023
  let v1848 : BitVec 32 := v1847
  let v1854 : Index := Scalar.indexCast v1848
  ![0, 0, v1854.toNat]
def k0_mult95 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c512_i32_1034 : BitVec 32 := 512#32
  let v1866 : BitVec 32 := Scalar.muli v1785 c512_i32_1034
  v1866
def k0_off153 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c1_i32_986 : BitVec 32 := 1#32
  let v1782 : BitVec 32 := Scalar.addi v1723 c1_i32_986
  let v1783 : BitVec 32 := Scalar.select v1781 v1782 v1723
  let v1869 : Index := Scalar.indexCast v1783
  let c0_1037 : Index := 0#32
  let c0_1038 : Index := 0#32
  ![v1869.toNat, 0, 0]
def k0_off154 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c1_i32_986 : BitVec 32 := 1#32
  let v1782 : BitVec 32 := Scalar.addi v1723 c1_i32_986
  let v1783 : BitVec 32 := Scalar.select v1781 v1782 v1723
  let v1882 : Index := Scalar.indexCast v1783
  let c0_1042 : Index := 0#32
  let c0_1043 : Index := 0#32
  ![v1882.toNat, 0, 0]
def k0_off155 (arg12 : BitVec 32) (arg13 : BitVec 32) : Fin 3 → Nat :=
  let c0_1044 : Index := 0#32
  let c0_1045 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c512_i32_1034 : BitVec 32 := 512#32
  let v1866 : BitVec 32 := Scalar.muli v1785 c512_i32_1034
  let v1867 : BitVec 32 := v1866
  let v1887 : Index := Scalar.indexCast v1867
  ![0, 0, v1887.toNat]
def k0_mult96 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c1_i32_1052 : BitVec 32 := 1#32
  let v1902 : BitVec 32 := Scalar.addi v1843 c1_i32_1052
  let v1903 : BitVec 32 := Scalar.select v1901 v1902 v1843
  let c31_i32_1055 : BitVec 32 := 31#32
  let v1906 : BitVec 32 := Scalar.minsi v1903 c31_i32_1055
  let c512_i32_1056 : BitVec 32 := 512#32
  let v1907 : BitVec 32 := Scalar.muli v1906 c512_i32_1056
  v1907
def k0_mult97 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c512_i32_1057 : BitVec 32 := 512#32
  let v1909 : BitVec 32 := Scalar.muli v1905 c512_i32_1057
  v1909
def k0_off156 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c512_i32_1057 : BitVec 32 := 512#32
  let v1909 : BitVec 32 := Scalar.muli v1905 c512_i32_1057
  let v1910 : BitVec 32 := v1909
  let v1911 : Index := Scalar.indexCast v1910
  let c0_1058 : Index := 0#32
  ![v1911.toNat, 0]
def k0_off157 (arg12 : BitVec 32) (arg13 : BitVec 32) : Fin 3 → Nat :=
  let c0_1059 : Index := 0#32
  let c0_1060 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c1_i32_1052 : BitVec 32 := 1#32
  let v1902 : BitVec 32 := Scalar.addi v1843 c1_i32_1052
  let v1903 : BitVec 32 := Scalar.select v1901 v1902 v1843
  let c31_i32_1055 : BitVec 32 := 31#32
  let v1906 : BitVec 32 := Scalar.minsi v1903 c31_i32_1055
  let c512_i32_1056 : BitVec 32 := 512#32
  let v1907 : BitVec 32 := Scalar.muli v1906 c512_i32_1056
  let v1908 : BitVec 32 := v1907
  let v1914 : Index := Scalar.indexCast v1908
  ![0, 0, v1914.toNat]
def k0_mult98 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c512_i32_1067 : BitVec 32 := 512#32
  let v1926 : BitVec 32 := Scalar.muli v1845 c512_i32_1067
  v1926
def k0_off158 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c1_i32_1019 : BitVec 32 := 1#32
  let v1842 : BitVec 32 := Scalar.addi v1783 c1_i32_1019
  let v1843 : BitVec 32 := Scalar.select v1841 v1842 v1783
  let v1929 : Index := Scalar.indexCast v1843
  let c0_1070 : Index := 0#32
  let c0_1071 : Index := 0#32
  ![v1929.toNat, 0, 0]
def k0_off159 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c1_i32_1019 : BitVec 32 := 1#32
  let v1842 : BitVec 32 := Scalar.addi v1783 c1_i32_1019
  let v1843 : BitVec 32 := Scalar.select v1841 v1842 v1783
  let v1942 : Index := Scalar.indexCast v1843
  let c0_1075 : Index := 0#32
  let c0_1076 : Index := 0#32
  ![v1942.toNat, 0, 0]
def k0_off160 (arg12 : BitVec 32) (arg13 : BitVec 32) : Fin 3 → Nat :=
  let c0_1077 : Index := 0#32
  let c0_1078 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c512_i32_1067 : BitVec 32 := 512#32
  let v1926 : BitVec 32 := Scalar.muli v1845 c512_i32_1067
  let v1927 : BitVec 32 := v1926
  let v1947 : Index := Scalar.indexCast v1927
  ![0, 0, v1947.toNat]
def k0_mult99 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c1_i32_1085 : BitVec 32 := 1#32
  let v1962 : BitVec 32 := Scalar.addi v1903 c1_i32_1085
  let v1963 : BitVec 32 := Scalar.select v1961 v1962 v1903
  let c31_i32_1088 : BitVec 32 := 31#32
  let v1966 : BitVec 32 := Scalar.minsi v1963 c31_i32_1088
  let c512_i32_1089 : BitVec 32 := 512#32
  let v1967 : BitVec 32 := Scalar.muli v1966 c512_i32_1089
  v1967
def k0_mult100 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c512_i32_1090 : BitVec 32 := 512#32
  let v1969 : BitVec 32 := Scalar.muli v1965 c512_i32_1090
  v1969

variable {F : FTy → Type} [FloatOps F]

def k0_off161 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c512_i32_1090 : BitVec 32 := 512#32
  let v1969 : BitVec 32 := Scalar.muli v1965 c512_i32_1090
  let v1970 : BitVec 32 := v1969
  let v1971 : Index := Scalar.indexCast v1970
  let c0_1091 : Index := 0#32
  ![v1971.toNat, 0]
def k0_off162 (arg12 : BitVec 32) (arg13 : BitVec 32) : Fin 3 → Nat :=
  let c0_1092 : Index := 0#32
  let c0_1093 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c1_i32_1085 : BitVec 32 := 1#32
  let v1962 : BitVec 32 := Scalar.addi v1903 c1_i32_1085
  let v1963 : BitVec 32 := Scalar.select v1961 v1962 v1903
  let c31_i32_1088 : BitVec 32 := 31#32
  let v1966 : BitVec 32 := Scalar.minsi v1963 c31_i32_1088
  let c512_i32_1089 : BitVec 32 := 512#32
  let v1967 : BitVec 32 := Scalar.muli v1966 c512_i32_1089
  let v1968 : BitVec 32 := v1967
  let v1974 : Index := Scalar.indexCast v1968
  ![0, 0, v1974.toNat]
def k0_mult101 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c512_i32_1100 : BitVec 32 := 512#32
  let v1986 : BitVec 32 := Scalar.muli v1905 c512_i32_1100
  v1986
def k0_off163 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c1_i32_1052 : BitVec 32 := 1#32
  let v1902 : BitVec 32 := Scalar.addi v1843 c1_i32_1052
  let v1903 : BitVec 32 := Scalar.select v1901 v1902 v1843
  let v1989 : Index := Scalar.indexCast v1903
  let c0_1103 : Index := 0#32
  let c0_1104 : Index := 0#32
  ![v1989.toNat, 0, 0]
def k0_off164 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c1_i32_1052 : BitVec 32 := 1#32
  let v1902 : BitVec 32 := Scalar.addi v1843 c1_i32_1052
  let v1903 : BitVec 32 := Scalar.select v1901 v1902 v1843
  let v2002 : Index := Scalar.indexCast v1903
  let c0_1108 : Index := 0#32
  let c0_1109 : Index := 0#32
  ![v2002.toNat, 0, 0]
def k0_off165 (arg12 : BitVec 32) (arg13 : BitVec 32) : Fin 3 → Nat :=
  let c0_1110 : Index := 0#32
  let c0_1111 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c512_i32_1100 : BitVec 32 := 512#32
  let v1986 : BitVec 32 := Scalar.muli v1905 c512_i32_1100
  let v1987 : BitVec 32 := v1986
  let v2007 : Index := Scalar.indexCast v1987
  ![0, 0, v2007.toNat]
def k0_mult102 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c1_i32_1118 : BitVec 32 := 1#32
  let v2022 : BitVec 32 := Scalar.addi v1963 c1_i32_1118
  let v2023 : BitVec 32 := Scalar.select v2021 v2022 v1963
  let c31_i32_1121 : BitVec 32 := 31#32
  let v2026 : BitVec 32 := Scalar.minsi v2023 c31_i32_1121
  let c512_i32_1122 : BitVec 32 := 512#32
  let v2027 : BitVec 32 := Scalar.muli v2026 c512_i32_1122
  v2027
def k0_mult103 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c512_i32_1123 : BitVec 32 := 512#32
  let v2029 : BitVec 32 := Scalar.muli v2025 c512_i32_1123
  v2029
def k0_off166 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c512_i32_1123 : BitVec 32 := 512#32
  let v2029 : BitVec 32 := Scalar.muli v2025 c512_i32_1123
  let v2030 : BitVec 32 := v2029
  let v2031 : Index := Scalar.indexCast v2030
  let c0_1124 : Index := 0#32
  ![v2031.toNat, 0]
def k0_off167 (arg12 : BitVec 32) (arg13 : BitVec 32) : Fin 3 → Nat :=
  let c0_1125 : Index := 0#32
  let c0_1126 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c1_i32_1118 : BitVec 32 := 1#32
  let v2022 : BitVec 32 := Scalar.addi v1963 c1_i32_1118
  let v2023 : BitVec 32 := Scalar.select v2021 v2022 v1963
  let c31_i32_1121 : BitVec 32 := 31#32
  let v2026 : BitVec 32 := Scalar.minsi v2023 c31_i32_1121
  let c512_i32_1122 : BitVec 32 := 512#32
  let v2027 : BitVec 32 := Scalar.muli v2026 c512_i32_1122
  let v2028 : BitVec 32 := v2027
  let v2034 : Index := Scalar.indexCast v2028
  ![0, 0, v2034.toNat]
def k0_mult104 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c512_i32_1133 : BitVec 32 := 512#32
  let v2046 : BitVec 32 := Scalar.muli v1965 c512_i32_1133
  v2046
def k0_off168 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c1_i32_1085 : BitVec 32 := 1#32
  let v1962 : BitVec 32 := Scalar.addi v1903 c1_i32_1085
  let v1963 : BitVec 32 := Scalar.select v1961 v1962 v1903
  let v2049 : Index := Scalar.indexCast v1963
  let c0_1136 : Index := 0#32
  let c0_1137 : Index := 0#32
  ![v2049.toNat, 0, 0]
def k0_off169 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c1_i32_1085 : BitVec 32 := 1#32
  let v1962 : BitVec 32 := Scalar.addi v1903 c1_i32_1085
  let v1963 : BitVec 32 := Scalar.select v1961 v1962 v1903
  let v2062 : Index := Scalar.indexCast v1963
  let c0_1141 : Index := 0#32
  let c0_1142 : Index := 0#32
  ![v2062.toNat, 0, 0]
def k0_off170 (arg12 : BitVec 32) (arg13 : BitVec 32) : Fin 3 → Nat :=
  let c0_1143 : Index := 0#32
  let c0_1144 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c512_i32_1133 : BitVec 32 := 512#32
  let v2046 : BitVec 32 := Scalar.muli v1965 c512_i32_1133
  let v2047 : BitVec 32 := v2046
  let v2067 : Index := Scalar.indexCast v2047
  ![0, 0, v2067.toNat]
def k0_mult105 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c1_i32_1151 : BitVec 32 := 1#32
  let v2082 : BitVec 32 := Scalar.addi v2023 c1_i32_1151
  let v2083 : BitVec 32 := Scalar.select v2081 v2082 v2023
  let c31_i32_1154 : BitVec 32 := 31#32
  let v2086 : BitVec 32 := Scalar.minsi v2083 c31_i32_1154
  let c512_i32_1155 : BitVec 32 := 512#32
  let v2087 : BitVec 32 := Scalar.muli v2086 c512_i32_1155
  v2087
def k0_mult106 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c512_i32_1156 : BitVec 32 := 512#32
  let v2089 : BitVec 32 := Scalar.muli v2085 c512_i32_1156
  v2089
def k0_off171 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c512_i32_1156 : BitVec 32 := 512#32
  let v2089 : BitVec 32 := Scalar.muli v2085 c512_i32_1156
  let v2090 : BitVec 32 := v2089
  let v2091 : Index := Scalar.indexCast v2090
  let c0_1157 : Index := 0#32
  ![v2091.toNat, 0]
def k0_off172 (arg12 : BitVec 32) (arg13 : BitVec 32) : Fin 3 → Nat :=
  let c0_1158 : Index := 0#32
  let c0_1159 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c1_i32_1151 : BitVec 32 := 1#32
  let v2082 : BitVec 32 := Scalar.addi v2023 c1_i32_1151
  let v2083 : BitVec 32 := Scalar.select v2081 v2082 v2023
  let c31_i32_1154 : BitVec 32 := 31#32
  let v2086 : BitVec 32 := Scalar.minsi v2083 c31_i32_1154
  let c512_i32_1155 : BitVec 32 := 512#32
  let v2087 : BitVec 32 := Scalar.muli v2086 c512_i32_1155
  let v2088 : BitVec 32 := v2087
  let v2094 : Index := Scalar.indexCast v2088
  ![0, 0, v2094.toNat]
def k0_mult107 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c512_i32_1166 : BitVec 32 := 512#32
  let v2106 : BitVec 32 := Scalar.muli v2025 c512_i32_1166
  v2106
def k0_off173 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c1_i32_1118 : BitVec 32 := 1#32
  let v2022 : BitVec 32 := Scalar.addi v1963 c1_i32_1118
  let v2023 : BitVec 32 := Scalar.select v2021 v2022 v1963
  let v2109 : Index := Scalar.indexCast v2023
  let c0_1169 : Index := 0#32
  let c0_1170 : Index := 0#32
  ![v2109.toNat, 0, 0]
def k0_off174 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c1_i32_1118 : BitVec 32 := 1#32
  let v2022 : BitVec 32 := Scalar.addi v1963 c1_i32_1118
  let v2023 : BitVec 32 := Scalar.select v2021 v2022 v1963
  let v2122 : Index := Scalar.indexCast v2023
  let c0_1174 : Index := 0#32
  let c0_1175 : Index := 0#32
  ![v2122.toNat, 0, 0]
def k0_off175 (arg12 : BitVec 32) (arg13 : BitVec 32) : Fin 3 → Nat :=
  let c0_1176 : Index := 0#32
  let c0_1177 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c512_i32_1166 : BitVec 32 := 512#32
  let v2106 : BitVec 32 := Scalar.muli v2025 c512_i32_1166
  let v2107 : BitVec 32 := v2106
  let v2127 : Index := Scalar.indexCast v2107
  ![0, 0, v2127.toNat]
def k0_mult108 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c1_i32_1184 : BitVec 32 := 1#32
  let v2142 : BitVec 32 := Scalar.addi v2083 c1_i32_1184
  let v2143 : BitVec 32 := Scalar.select v2141 v2142 v2083
  let c31_i32_1187 : BitVec 32 := 31#32
  let v2146 : BitVec 32 := Scalar.minsi v2143 c31_i32_1187
  let c512_i32_1188 : BitVec 32 := 512#32
  let v2147 : BitVec 32 := Scalar.muli v2146 c512_i32_1188
  v2147
def k0_mult109 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c512_i32_1189 : BitVec 32 := 512#32
  let v2149 : BitVec 32 := Scalar.muli v2145 c512_i32_1189
  v2149
def k0_off176 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c512_i32_1189 : BitVec 32 := 512#32
  let v2149 : BitVec 32 := Scalar.muli v2145 c512_i32_1189
  let v2150 : BitVec 32 := v2149
  let v2151 : Index := Scalar.indexCast v2150
  let c0_1190 : Index := 0#32
  ![v2151.toNat, 0]
def k0_off177 (arg12 : BitVec 32) (arg13 : BitVec 32) : Fin 3 → Nat :=
  let c0_1191 : Index := 0#32
  let c0_1192 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c1_i32_1184 : BitVec 32 := 1#32
  let v2142 : BitVec 32 := Scalar.addi v2083 c1_i32_1184
  let v2143 : BitVec 32 := Scalar.select v2141 v2142 v2083
  let c31_i32_1187 : BitVec 32 := 31#32
  let v2146 : BitVec 32 := Scalar.minsi v2143 c31_i32_1187
  let c512_i32_1188 : BitVec 32 := 512#32
  let v2147 : BitVec 32 := Scalar.muli v2146 c512_i32_1188
  let v2148 : BitVec 32 := v2147
  let v2154 : Index := Scalar.indexCast v2148
  ![0, 0, v2154.toNat]
def k0_mult110 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c512_i32_1199 : BitVec 32 := 512#32
  let v2166 : BitVec 32 := Scalar.muli v2085 c512_i32_1199
  v2166
def k0_off178 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c1_i32_1151 : BitVec 32 := 1#32
  let v2082 : BitVec 32 := Scalar.addi v2023 c1_i32_1151
  let v2083 : BitVec 32 := Scalar.select v2081 v2082 v2023
  let v2169 : Index := Scalar.indexCast v2083
  let c0_1202 : Index := 0#32
  let c0_1203 : Index := 0#32
  ![v2169.toNat, 0, 0]
def k0_off179 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c1_i32_1151 : BitVec 32 := 1#32
  let v2082 : BitVec 32 := Scalar.addi v2023 c1_i32_1151
  let v2083 : BitVec 32 := Scalar.select v2081 v2082 v2023
  let v2182 : Index := Scalar.indexCast v2083
  let c0_1207 : Index := 0#32
  let c0_1208 : Index := 0#32
  ![v2182.toNat, 0, 0]
def k0_off180 (arg12 : BitVec 32) (arg13 : BitVec 32) : Fin 3 → Nat :=
  let c0_1209 : Index := 0#32
  let c0_1210 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c512_i32_1199 : BitVec 32 := 512#32
  let v2166 : BitVec 32 := Scalar.muli v2085 c512_i32_1199
  let v2167 : BitVec 32 := v2166
  let v2187 : Index := Scalar.indexCast v2167
  ![0, 0, v2187.toNat]
def k0_mult111 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c1_i32_1217 : BitVec 32 := 1#32
  let v2202 : BitVec 32 := Scalar.addi v2143 c1_i32_1217
  let v2203 : BitVec 32 := Scalar.select v2201 v2202 v2143
  let c31_i32_1220 : BitVec 32 := 31#32
  let v2206 : BitVec 32 := Scalar.minsi v2203 c31_i32_1220
  let c512_i32_1221 : BitVec 32 := 512#32
  let v2207 : BitVec 32 := Scalar.muli v2206 c512_i32_1221
  v2207
def k0_mult112 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c512_i32_1222 : BitVec 32 := 512#32
  let v2209 : BitVec 32 := Scalar.muli v2205 c512_i32_1222
  v2209
def k0_off181 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c512_i32_1222 : BitVec 32 := 512#32
  let v2209 : BitVec 32 := Scalar.muli v2205 c512_i32_1222
  let v2210 : BitVec 32 := v2209
  let v2211 : Index := Scalar.indexCast v2210
  let c0_1223 : Index := 0#32
  ![v2211.toNat, 0]
def k0_off182 (arg12 : BitVec 32) (arg13 : BitVec 32) : Fin 3 → Nat :=
  let c0_1224 : Index := 0#32
  let c0_1225 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c1_i32_1217 : BitVec 32 := 1#32
  let v2202 : BitVec 32 := Scalar.addi v2143 c1_i32_1217
  let v2203 : BitVec 32 := Scalar.select v2201 v2202 v2143
  let c31_i32_1220 : BitVec 32 := 31#32
  let v2206 : BitVec 32 := Scalar.minsi v2203 c31_i32_1220
  let c512_i32_1221 : BitVec 32 := 512#32
  let v2207 : BitVec 32 := Scalar.muli v2206 c512_i32_1221
  let v2208 : BitVec 32 := v2207
  let v2214 : Index := Scalar.indexCast v2208
  ![0, 0, v2214.toNat]
def k0_mult113 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c512_i32_1232 : BitVec 32 := 512#32
  let v2226 : BitVec 32 := Scalar.muli v2145 c512_i32_1232
  v2226
def k0_off183 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c1_i32_1184 : BitVec 32 := 1#32
  let v2142 : BitVec 32 := Scalar.addi v2083 c1_i32_1184
  let v2143 : BitVec 32 := Scalar.select v2141 v2142 v2083
  let v2229 : Index := Scalar.indexCast v2143
  let c0_1235 : Index := 0#32
  let c0_1236 : Index := 0#32
  ![v2229.toNat, 0, 0]
def k0_off184 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c1_i32_1184 : BitVec 32 := 1#32
  let v2142 : BitVec 32 := Scalar.addi v2083 c1_i32_1184
  let v2143 : BitVec 32 := Scalar.select v2141 v2142 v2083
  let v2242 : Index := Scalar.indexCast v2143
  let c0_1240 : Index := 0#32
  let c0_1241 : Index := 0#32
  ![v2242.toNat, 0, 0]
def k0_off185 (arg12 : BitVec 32) (arg13 : BitVec 32) : Fin 3 → Nat :=
  let c0_1242 : Index := 0#32
  let c0_1243 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c512_i32_1232 : BitVec 32 := 512#32
  let v2226 : BitVec 32 := Scalar.muli v2145 c512_i32_1232
  let v2227 : BitVec 32 := v2226
  let v2247 : Index := Scalar.indexCast v2227
  ![0, 0, v2247.toNat]
def k0_mult114 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c1_i32_1250 : BitVec 32 := 1#32
  let v2262 : BitVec 32 := Scalar.addi v2203 c1_i32_1250
  let v2263 : BitVec 32 := Scalar.select v2261 v2262 v2203
  let c31_i32_1253 : BitVec 32 := 31#32
  let v2266 : BitVec 32 := Scalar.minsi v2263 c31_i32_1253
  let c512_i32_1254 : BitVec 32 := 512#32
  let v2267 : BitVec 32 := Scalar.muli v2266 c512_i32_1254
  v2267
def k0_mult115 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c512_i32_1255 : BitVec 32 := 512#32
  let v2269 : BitVec 32 := Scalar.muli v2265 c512_i32_1255
  v2269
def k0_off186 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c512_i32_1255 : BitVec 32 := 512#32
  let v2269 : BitVec 32 := Scalar.muli v2265 c512_i32_1255
  let v2270 : BitVec 32 := v2269
  let v2271 : Index := Scalar.indexCast v2270
  let c0_1256 : Index := 0#32
  ![v2271.toNat, 0]
def k0_off187 (arg12 : BitVec 32) (arg13 : BitVec 32) : Fin 3 → Nat :=
  let c0_1257 : Index := 0#32
  let c0_1258 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c1_i32_1250 : BitVec 32 := 1#32
  let v2262 : BitVec 32 := Scalar.addi v2203 c1_i32_1250
  let v2263 : BitVec 32 := Scalar.select v2261 v2262 v2203
  let c31_i32_1253 : BitVec 32 := 31#32
  let v2266 : BitVec 32 := Scalar.minsi v2263 c31_i32_1253
  let c512_i32_1254 : BitVec 32 := 512#32
  let v2267 : BitVec 32 := Scalar.muli v2266 c512_i32_1254
  let v2268 : BitVec 32 := v2267
  let v2274 : Index := Scalar.indexCast v2268
  ![0, 0, v2274.toNat]
def k0_mult116 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c512_i32_1265 : BitVec 32 := 512#32
  let v2286 : BitVec 32 := Scalar.muli v2205 c512_i32_1265
  v2286
def k0_off188 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c1_i32_1217 : BitVec 32 := 1#32
  let v2202 : BitVec 32 := Scalar.addi v2143 c1_i32_1217
  let v2203 : BitVec 32 := Scalar.select v2201 v2202 v2143
  let v2289 : Index := Scalar.indexCast v2203
  let c0_1268 : Index := 0#32
  let c0_1269 : Index := 0#32
  ![v2289.toNat, 0, 0]
def k0_off189 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c1_i32_1217 : BitVec 32 := 1#32
  let v2202 : BitVec 32 := Scalar.addi v2143 c1_i32_1217
  let v2203 : BitVec 32 := Scalar.select v2201 v2202 v2143
  let v2302 : Index := Scalar.indexCast v2203
  let c0_1273 : Index := 0#32
  let c0_1274 : Index := 0#32
  ![v2302.toNat, 0, 0]
def k0_off190 (arg12 : BitVec 32) (arg13 : BitVec 32) : Fin 3 → Nat :=
  let c0_1275 : Index := 0#32
  let c0_1276 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c512_i32_1265 : BitVec 32 := 512#32
  let v2286 : BitVec 32 := Scalar.muli v2205 c512_i32_1265
  let v2287 : BitVec 32 := v2286
  let v2307 : Index := Scalar.indexCast v2287
  ![0, 0, v2307.toNat]
def k0_mult117 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c1_i32_1283 : BitVec 32 := 1#32
  let v2322 : BitVec 32 := Scalar.addi v2263 c1_i32_1283
  let v2323 : BitVec 32 := Scalar.select v2321 v2322 v2263
  let c31_i32_1286 : BitVec 32 := 31#32
  let v2326 : BitVec 32 := Scalar.minsi v2323 c31_i32_1286
  let c512_i32_1287 : BitVec 32 := 512#32
  let v2327 : BitVec 32 := Scalar.muli v2326 c512_i32_1287
  v2327
def k0_mult118 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c512_i32_1288 : BitVec 32 := 512#32
  let v2329 : BitVec 32 := Scalar.muli v2325 c512_i32_1288
  v2329
def k0_off191 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c512_i32_1288 : BitVec 32 := 512#32
  let v2329 : BitVec 32 := Scalar.muli v2325 c512_i32_1288
  let v2330 : BitVec 32 := v2329
  let v2331 : Index := Scalar.indexCast v2330
  let c0_1289 : Index := 0#32
  ![v2331.toNat, 0]
def k0_off192 (arg12 : BitVec 32) (arg13 : BitVec 32) : Fin 3 → Nat :=
  let c0_1290 : Index := 0#32
  let c0_1291 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c1_i32_1283 : BitVec 32 := 1#32
  let v2322 : BitVec 32 := Scalar.addi v2263 c1_i32_1283
  let v2323 : BitVec 32 := Scalar.select v2321 v2322 v2263
  let c31_i32_1286 : BitVec 32 := 31#32
  let v2326 : BitVec 32 := Scalar.minsi v2323 c31_i32_1286
  let c512_i32_1287 : BitVec 32 := 512#32
  let v2327 : BitVec 32 := Scalar.muli v2326 c512_i32_1287
  let v2328 : BitVec 32 := v2327
  let v2334 : Index := Scalar.indexCast v2328
  ![0, 0, v2334.toNat]
def k0_mult119 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c512_i32_1298 : BitVec 32 := 512#32
  let v2346 : BitVec 32 := Scalar.muli v2265 c512_i32_1298
  v2346
def k0_off193 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c1_i32_1250 : BitVec 32 := 1#32
  let v2262 : BitVec 32 := Scalar.addi v2203 c1_i32_1250
  let v2263 : BitVec 32 := Scalar.select v2261 v2262 v2203
  let v2349 : Index := Scalar.indexCast v2263
  let c0_1301 : Index := 0#32
  let c0_1302 : Index := 0#32
  ![v2349.toNat, 0, 0]
def k0_off194 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c1_i32_1250 : BitVec 32 := 1#32
  let v2262 : BitVec 32 := Scalar.addi v2203 c1_i32_1250
  let v2263 : BitVec 32 := Scalar.select v2261 v2262 v2203
  let v2362 : Index := Scalar.indexCast v2263
  let c0_1306 : Index := 0#32
  let c0_1307 : Index := 0#32
  ![v2362.toNat, 0, 0]
def k0_off195 (arg12 : BitVec 32) (arg13 : BitVec 32) : Fin 3 → Nat :=
  let c0_1308 : Index := 0#32
  let c0_1309 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c512_i32_1298 : BitVec 32 := 512#32
  let v2346 : BitVec 32 := Scalar.muli v2265 c512_i32_1298
  let v2347 : BitVec 32 := v2346
  let v2367 : Index := Scalar.indexCast v2347
  ![0, 0, v2367.toNat]
def k0_mult120 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c1_i32_1316 : BitVec 32 := 1#32
  let v2382 : BitVec 32 := Scalar.addi v2323 c1_i32_1316
  let v2383 : BitVec 32 := Scalar.select v2381 v2382 v2323
  let c31_i32_1319 : BitVec 32 := 31#32
  let v2386 : BitVec 32 := Scalar.minsi v2383 c31_i32_1319
  let c512_i32_1320 : BitVec 32 := 512#32
  let v2387 : BitVec 32 := Scalar.muli v2386 c512_i32_1320
  v2387
def k0_mult121 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c512_i32_1321 : BitVec 32 := 512#32
  let v2389 : BitVec 32 := Scalar.muli v2385 c512_i32_1321
  v2389
def k0_off196 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c512_i32_1321 : BitVec 32 := 512#32
  let v2389 : BitVec 32 := Scalar.muli v2385 c512_i32_1321
  let v2390 : BitVec 32 := v2389
  let v2391 : Index := Scalar.indexCast v2390
  let c0_1322 : Index := 0#32
  ![v2391.toNat, 0]
def k0_off197 (arg12 : BitVec 32) (arg13 : BitVec 32) : Fin 3 → Nat :=
  let c0_1323 : Index := 0#32
  let c0_1324 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c1_i32_1316 : BitVec 32 := 1#32
  let v2382 : BitVec 32 := Scalar.addi v2323 c1_i32_1316
  let v2383 : BitVec 32 := Scalar.select v2381 v2382 v2323
  let c31_i32_1319 : BitVec 32 := 31#32
  let v2386 : BitVec 32 := Scalar.minsi v2383 c31_i32_1319
  let c512_i32_1320 : BitVec 32 := 512#32
  let v2387 : BitVec 32 := Scalar.muli v2386 c512_i32_1320
  let v2388 : BitVec 32 := v2387
  let v2394 : Index := Scalar.indexCast v2388
  ![0, 0, v2394.toNat]
def k0_mult122 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c512_i32_1331 : BitVec 32 := 512#32
  let v2406 : BitVec 32 := Scalar.muli v2325 c512_i32_1331
  v2406
def k0_off198 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c1_i32_1283 : BitVec 32 := 1#32
  let v2322 : BitVec 32 := Scalar.addi v2263 c1_i32_1283
  let v2323 : BitVec 32 := Scalar.select v2321 v2322 v2263
  let v2409 : Index := Scalar.indexCast v2323
  let c0_1334 : Index := 0#32
  let c0_1335 : Index := 0#32
  ![v2409.toNat, 0, 0]
def k0_off199 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c1_i32_1283 : BitVec 32 := 1#32
  let v2322 : BitVec 32 := Scalar.addi v2263 c1_i32_1283
  let v2323 : BitVec 32 := Scalar.select v2321 v2322 v2263
  let v2422 : Index := Scalar.indexCast v2323
  let c0_1339 : Index := 0#32
  let c0_1340 : Index := 0#32
  ![v2422.toNat, 0, 0]
def k0_off200 (arg12 : BitVec 32) (arg13 : BitVec 32) : Fin 3 → Nat :=
  let c0_1341 : Index := 0#32
  let c0_1342 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c512_i32_1331 : BitVec 32 := 512#32
  let v2406 : BitVec 32 := Scalar.muli v2325 c512_i32_1331
  let v2407 : BitVec 32 := v2406
  let v2427 : Index := Scalar.indexCast v2407
  ![0, 0, v2427.toNat]
def k0_mult123 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c1_i32_1349 : BitVec 32 := 1#32
  let v2442 : BitVec 32 := Scalar.addi v2383 c1_i32_1349
  let v2443 : BitVec 32 := Scalar.select v2441 v2442 v2383
  let c31_i32_1352 : BitVec 32 := 31#32
  let v2446 : BitVec 32 := Scalar.minsi v2443 c31_i32_1352
  let c512_i32_1353 : BitVec 32 := 512#32
  let v2447 : BitVec 32 := Scalar.muli v2446 c512_i32_1353
  v2447
def k0_mult124 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c512_i32_1354 : BitVec 32 := 512#32
  let v2449 : BitVec 32 := Scalar.muli v2445 c512_i32_1354
  v2449
def k0_off201 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c512_i32_1354 : BitVec 32 := 512#32
  let v2449 : BitVec 32 := Scalar.muli v2445 c512_i32_1354
  let v2450 : BitVec 32 := v2449
  let v2451 : Index := Scalar.indexCast v2450
  let c0_1355 : Index := 0#32
  ![v2451.toNat, 0]
def k0_off202 (arg12 : BitVec 32) (arg13 : BitVec 32) : Fin 3 → Nat :=
  let c0_1356 : Index := 0#32
  let c0_1357 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c1_i32_1349 : BitVec 32 := 1#32
  let v2442 : BitVec 32 := Scalar.addi v2383 c1_i32_1349
  let v2443 : BitVec 32 := Scalar.select v2441 v2442 v2383
  let c31_i32_1352 : BitVec 32 := 31#32
  let v2446 : BitVec 32 := Scalar.minsi v2443 c31_i32_1352
  let c512_i32_1353 : BitVec 32 := 512#32
  let v2447 : BitVec 32 := Scalar.muli v2446 c512_i32_1353
  let v2448 : BitVec 32 := v2447
  let v2454 : Index := Scalar.indexCast v2448
  ![0, 0, v2454.toNat]
def k0_mult125 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c512_i32_1364 : BitVec 32 := 512#32
  let v2466 : BitVec 32 := Scalar.muli v2385 c512_i32_1364
  v2466
def k0_off203 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c1_i32_1316 : BitVec 32 := 1#32
  let v2382 : BitVec 32 := Scalar.addi v2323 c1_i32_1316
  let v2383 : BitVec 32 := Scalar.select v2381 v2382 v2323
  let v2469 : Index := Scalar.indexCast v2383
  let c0_1367 : Index := 0#32
  let c0_1368 : Index := 0#32
  ![v2469.toNat, 0, 0]
def k0_off204 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c1_i32_1316 : BitVec 32 := 1#32
  let v2382 : BitVec 32 := Scalar.addi v2323 c1_i32_1316
  let v2383 : BitVec 32 := Scalar.select v2381 v2382 v2323
  let v2482 : Index := Scalar.indexCast v2383
  let c0_1372 : Index := 0#32
  let c0_1373 : Index := 0#32
  ![v2482.toNat, 0, 0]
def k0_off205 (arg12 : BitVec 32) (arg13 : BitVec 32) : Fin 3 → Nat :=
  let c0_1374 : Index := 0#32
  let c0_1375 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c512_i32_1364 : BitVec 32 := 512#32
  let v2466 : BitVec 32 := Scalar.muli v2385 c512_i32_1364
  let v2467 : BitVec 32 := v2466
  let v2487 : Index := Scalar.indexCast v2467
  ![0, 0, v2487.toNat]
def k0_mult126 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c1_i32_1382 : BitVec 32 := 1#32
  let v2502 : BitVec 32 := Scalar.addi v2443 c1_i32_1382
  let v2503 : BitVec 32 := Scalar.select v2501 v2502 v2443
  let c31_i32_1385 : BitVec 32 := 31#32
  let v2506 : BitVec 32 := Scalar.minsi v2503 c31_i32_1385
  let c512_i32_1386 : BitVec 32 := 512#32
  let v2507 : BitVec 32 := Scalar.muli v2506 c512_i32_1386
  v2507
def k0_mult127 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c512_i32_1387 : BitVec 32 := 512#32
  let v2509 : BitVec 32 := Scalar.muli v2505 c512_i32_1387
  v2509
def k0_off206 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c512_i32_1387 : BitVec 32 := 512#32
  let v2509 : BitVec 32 := Scalar.muli v2505 c512_i32_1387
  let v2510 : BitVec 32 := v2509
  let v2511 : Index := Scalar.indexCast v2510
  let c0_1388 : Index := 0#32
  ![v2511.toNat, 0]
def k0_off207 (arg12 : BitVec 32) (arg13 : BitVec 32) : Fin 3 → Nat :=
  let c0_1389 : Index := 0#32
  let c0_1390 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c1_i32_1382 : BitVec 32 := 1#32
  let v2502 : BitVec 32 := Scalar.addi v2443 c1_i32_1382
  let v2503 : BitVec 32 := Scalar.select v2501 v2502 v2443
  let c31_i32_1385 : BitVec 32 := 31#32
  let v2506 : BitVec 32 := Scalar.minsi v2503 c31_i32_1385
  let c512_i32_1386 : BitVec 32 := 512#32
  let v2507 : BitVec 32 := Scalar.muli v2506 c512_i32_1386
  let v2508 : BitVec 32 := v2507
  let v2514 : Index := Scalar.indexCast v2508
  ![0, 0, v2514.toNat]
def k0_mult128 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c512_i32_1397 : BitVec 32 := 512#32
  let v2526 : BitVec 32 := Scalar.muli v2445 c512_i32_1397
  v2526
def k0_off208 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c1_i32_1349 : BitVec 32 := 1#32
  let v2442 : BitVec 32 := Scalar.addi v2383 c1_i32_1349
  let v2443 : BitVec 32 := Scalar.select v2441 v2442 v2383
  let v2529 : Index := Scalar.indexCast v2443
  let c0_1400 : Index := 0#32
  let c0_1401 : Index := 0#32
  ![v2529.toNat, 0, 0]
def k0_off209 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c1_i32_1349 : BitVec 32 := 1#32
  let v2442 : BitVec 32 := Scalar.addi v2383 c1_i32_1349
  let v2443 : BitVec 32 := Scalar.select v2441 v2442 v2383
  let v2542 : Index := Scalar.indexCast v2443
  let c0_1405 : Index := 0#32
  let c0_1406 : Index := 0#32
  ![v2542.toNat, 0, 0]
def k0_off210 (arg12 : BitVec 32) (arg13 : BitVec 32) : Fin 3 → Nat :=
  let c0_1407 : Index := 0#32
  let c0_1408 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c512_i32_1397 : BitVec 32 := 512#32
  let v2526 : BitVec 32 := Scalar.muli v2445 c512_i32_1397
  let v2527 : BitVec 32 := v2526
  let v2547 : Index := Scalar.indexCast v2527
  ![0, 0, v2547.toNat]
def k0_mult129 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c1_i32_1415 : BitVec 32 := 1#32
  let v2562 : BitVec 32 := Scalar.addi v2503 c1_i32_1415
  let v2563 : BitVec 32 := Scalar.select v2561 v2562 v2503
  let c31_i32_1418 : BitVec 32 := 31#32
  let v2566 : BitVec 32 := Scalar.minsi v2563 c31_i32_1418
  let c512_i32_1419 : BitVec 32 := 512#32
  let v2567 : BitVec 32 := Scalar.muli v2566 c512_i32_1419
  v2567
def k0_mult130 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c512_i32_1420 : BitVec 32 := 512#32
  let v2569 : BitVec 32 := Scalar.muli v2565 c512_i32_1420
  v2569
def k0_off211 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c512_i32_1420 : BitVec 32 := 512#32
  let v2569 : BitVec 32 := Scalar.muli v2565 c512_i32_1420
  let v2570 : BitVec 32 := v2569
  let v2571 : Index := Scalar.indexCast v2570
  let c0_1421 : Index := 0#32
  ![v2571.toNat, 0]
def k0_off212 (arg12 : BitVec 32) (arg13 : BitVec 32) : Fin 3 → Nat :=
  let c0_1422 : Index := 0#32
  let c0_1423 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c1_i32_1415 : BitVec 32 := 1#32
  let v2562 : BitVec 32 := Scalar.addi v2503 c1_i32_1415
  let v2563 : BitVec 32 := Scalar.select v2561 v2562 v2503
  let c31_i32_1418 : BitVec 32 := 31#32
  let v2566 : BitVec 32 := Scalar.minsi v2563 c31_i32_1418
  let c512_i32_1419 : BitVec 32 := 512#32
  let v2567 : BitVec 32 := Scalar.muli v2566 c512_i32_1419
  let v2568 : BitVec 32 := v2567
  let v2574 : Index := Scalar.indexCast v2568
  ![0, 0, v2574.toNat]
def k0_mult131 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c512_i32_1430 : BitVec 32 := 512#32
  let v2586 : BitVec 32 := Scalar.muli v2505 c512_i32_1430
  v2586
def k0_off213 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c1_i32_1382 : BitVec 32 := 1#32
  let v2502 : BitVec 32 := Scalar.addi v2443 c1_i32_1382
  let v2503 : BitVec 32 := Scalar.select v2501 v2502 v2443
  let v2589 : Index := Scalar.indexCast v2503
  let c0_1433 : Index := 0#32
  let c0_1434 : Index := 0#32
  ![v2589.toNat, 0, 0]
def k0_off214 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c1_i32_1382 : BitVec 32 := 1#32
  let v2502 : BitVec 32 := Scalar.addi v2443 c1_i32_1382
  let v2503 : BitVec 32 := Scalar.select v2501 v2502 v2443
  let v2602 : Index := Scalar.indexCast v2503
  let c0_1438 : Index := 0#32
  let c0_1439 : Index := 0#32
  ![v2602.toNat, 0, 0]
def k0_off215 (arg12 : BitVec 32) (arg13 : BitVec 32) : Fin 3 → Nat :=
  let c0_1440 : Index := 0#32
  let c0_1441 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c512_i32_1430 : BitVec 32 := 512#32
  let v2586 : BitVec 32 := Scalar.muli v2505 c512_i32_1430
  let v2587 : BitVec 32 := v2586
  let v2607 : Index := Scalar.indexCast v2587
  ![0, 0, v2607.toNat]
def k0_mult132 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c1_i32_1448 : BitVec 32 := 1#32
  let v2622 : BitVec 32 := Scalar.addi v2563 c1_i32_1448
  let v2623 : BitVec 32 := Scalar.select v2621 v2622 v2563
  let c31_i32_1451 : BitVec 32 := 31#32
  let v2626 : BitVec 32 := Scalar.minsi v2623 c31_i32_1451
  let c512_i32_1452 : BitVec 32 := 512#32
  let v2627 : BitVec 32 := Scalar.muli v2626 c512_i32_1452
  v2627
def k0_mult133 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c512_i32_1453 : BitVec 32 := 512#32
  let v2629 : BitVec 32 := Scalar.muli v2625 c512_i32_1453
  v2629
def k0_off216 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c512_i32_1453 : BitVec 32 := 512#32
  let v2629 : BitVec 32 := Scalar.muli v2625 c512_i32_1453
  let v2630 : BitVec 32 := v2629
  let v2631 : Index := Scalar.indexCast v2630
  let c0_1454 : Index := 0#32
  ![v2631.toNat, 0]
def k0_off217 (arg12 : BitVec 32) (arg13 : BitVec 32) : Fin 3 → Nat :=
  let c0_1455 : Index := 0#32
  let c0_1456 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c1_i32_1448 : BitVec 32 := 1#32
  let v2622 : BitVec 32 := Scalar.addi v2563 c1_i32_1448
  let v2623 : BitVec 32 := Scalar.select v2621 v2622 v2563
  let c31_i32_1451 : BitVec 32 := 31#32
  let v2626 : BitVec 32 := Scalar.minsi v2623 c31_i32_1451
  let c512_i32_1452 : BitVec 32 := 512#32
  let v2627 : BitVec 32 := Scalar.muli v2626 c512_i32_1452
  let v2628 : BitVec 32 := v2627
  let v2634 : Index := Scalar.indexCast v2628
  ![0, 0, v2634.toNat]
def k0_mult134 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c512_i32_1463 : BitVec 32 := 512#32
  let v2646 : BitVec 32 := Scalar.muli v2565 c512_i32_1463
  v2646
def k0_off218 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c1_i32_1415 : BitVec 32 := 1#32
  let v2562 : BitVec 32 := Scalar.addi v2503 c1_i32_1415
  let v2563 : BitVec 32 := Scalar.select v2561 v2562 v2503
  let v2649 : Index := Scalar.indexCast v2563
  let c0_1466 : Index := 0#32
  let c0_1467 : Index := 0#32
  ![v2649.toNat, 0, 0]
def k0_off219 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c1_i32_1415 : BitVec 32 := 1#32
  let v2562 : BitVec 32 := Scalar.addi v2503 c1_i32_1415
  let v2563 : BitVec 32 := Scalar.select v2561 v2562 v2503
  let v2662 : Index := Scalar.indexCast v2563
  let c0_1471 : Index := 0#32
  let c0_1472 : Index := 0#32
  ![v2662.toNat, 0, 0]
def k0_off220 (arg12 : BitVec 32) (arg13 : BitVec 32) : Fin 3 → Nat :=
  let c0_1473 : Index := 0#32
  let c0_1474 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c512_i32_1463 : BitVec 32 := 512#32
  let v2646 : BitVec 32 := Scalar.muli v2565 c512_i32_1463
  let v2647 : BitVec 32 := v2646
  let v2667 : Index := Scalar.indexCast v2647
  ![0, 0, v2667.toNat]
def k0_mult135 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c1_i32_1481 : BitVec 32 := 1#32
  let v2682 : BitVec 32 := Scalar.addi v2623 c1_i32_1481
  let v2683 : BitVec 32 := Scalar.select v2681 v2682 v2623
  let c31_i32_1484 : BitVec 32 := 31#32
  let v2686 : BitVec 32 := Scalar.minsi v2683 c31_i32_1484
  let c512_i32_1485 : BitVec 32 := 512#32
  let v2687 : BitVec 32 := Scalar.muli v2686 c512_i32_1485
  v2687
def k0_mult136 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c512_i32_1486 : BitVec 32 := 512#32
  let v2689 : BitVec 32 := Scalar.muli v2685 c512_i32_1486
  v2689
def k0_off221 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c512_i32_1486 : BitVec 32 := 512#32
  let v2689 : BitVec 32 := Scalar.muli v2685 c512_i32_1486
  let v2690 : BitVec 32 := v2689
  let v2691 : Index := Scalar.indexCast v2690
  let c0_1487 : Index := 0#32
  ![v2691.toNat, 0]
def k0_off222 (arg12 : BitVec 32) (arg13 : BitVec 32) : Fin 3 → Nat :=
  let c0_1488 : Index := 0#32
  let c0_1489 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c1_i32_1481 : BitVec 32 := 1#32
  let v2682 : BitVec 32 := Scalar.addi v2623 c1_i32_1481
  let v2683 : BitVec 32 := Scalar.select v2681 v2682 v2623
  let c31_i32_1484 : BitVec 32 := 31#32
  let v2686 : BitVec 32 := Scalar.minsi v2683 c31_i32_1484
  let c512_i32_1485 : BitVec 32 := 512#32
  let v2687 : BitVec 32 := Scalar.muli v2686 c512_i32_1485
  let v2688 : BitVec 32 := v2687
  let v2694 : Index := Scalar.indexCast v2688
  ![0, 0, v2694.toNat]
def k0_mult137 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c512_i32_1496 : BitVec 32 := 512#32
  let v2706 : BitVec 32 := Scalar.muli v2625 c512_i32_1496
  v2706
def k0_off223 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c1_i32_1448 : BitVec 32 := 1#32
  let v2622 : BitVec 32 := Scalar.addi v2563 c1_i32_1448
  let v2623 : BitVec 32 := Scalar.select v2621 v2622 v2563
  let v2709 : Index := Scalar.indexCast v2623
  let c0_1499 : Index := 0#32
  let c0_1500 : Index := 0#32
  ![v2709.toNat, 0, 0]
def k0_off224 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c1_i32_1448 : BitVec 32 := 1#32
  let v2622 : BitVec 32 := Scalar.addi v2563 c1_i32_1448
  let v2623 : BitVec 32 := Scalar.select v2621 v2622 v2563
  let v2722 : Index := Scalar.indexCast v2623
  let c0_1504 : Index := 0#32
  let c0_1505 : Index := 0#32
  ![v2722.toNat, 0, 0]
def k0_off225 (arg12 : BitVec 32) (arg13 : BitVec 32) : Fin 3 → Nat :=
  let c0_1506 : Index := 0#32
  let c0_1507 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c512_i32_1496 : BitVec 32 := 512#32
  let v2706 : BitVec 32 := Scalar.muli v2625 c512_i32_1496
  let v2707 : BitVec 32 := v2706
  let v2727 : Index := Scalar.indexCast v2707
  ![0, 0, v2727.toNat]
def k0_mult138 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c1_i32_1514 : BitVec 32 := 1#32
  let v2742 : BitVec 32 := Scalar.addi v2683 c1_i32_1514
  let v2743 : BitVec 32 := Scalar.select v2741 v2742 v2683
  let c31_i32_1517 : BitVec 32 := 31#32
  let v2746 : BitVec 32 := Scalar.minsi v2743 c31_i32_1517
  let c512_i32_1518 : BitVec 32 := 512#32
  let v2747 : BitVec 32 := Scalar.muli v2746 c512_i32_1518
  v2747
def k0_mult139 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c512_i32_1519 : BitVec 32 := 512#32
  let v2749 : BitVec 32 := Scalar.muli v2745 c512_i32_1519
  v2749
def k0_off226 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c512_i32_1519 : BitVec 32 := 512#32
  let v2749 : BitVec 32 := Scalar.muli v2745 c512_i32_1519
  let v2750 : BitVec 32 := v2749
  let v2751 : Index := Scalar.indexCast v2750
  let c0_1520 : Index := 0#32
  ![v2751.toNat, 0]
def k0_off227 (arg12 : BitVec 32) (arg13 : BitVec 32) : Fin 3 → Nat :=
  let c0_1521 : Index := 0#32
  let c0_1522 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c1_i32_1514 : BitVec 32 := 1#32
  let v2742 : BitVec 32 := Scalar.addi v2683 c1_i32_1514
  let v2743 : BitVec 32 := Scalar.select v2741 v2742 v2683
  let c31_i32_1517 : BitVec 32 := 31#32
  let v2746 : BitVec 32 := Scalar.minsi v2743 c31_i32_1517
  let c512_i32_1518 : BitVec 32 := 512#32
  let v2747 : BitVec 32 := Scalar.muli v2746 c512_i32_1518
  let v2748 : BitVec 32 := v2747
  let v2754 : Index := Scalar.indexCast v2748
  ![0, 0, v2754.toNat]
def k0_mult140 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c512_i32_1529 : BitVec 32 := 512#32
  let v2766 : BitVec 32 := Scalar.muli v2685 c512_i32_1529
  v2766
def k0_off228 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c1_i32_1481 : BitVec 32 := 1#32
  let v2682 : BitVec 32 := Scalar.addi v2623 c1_i32_1481
  let v2683 : BitVec 32 := Scalar.select v2681 v2682 v2623
  let v2769 : Index := Scalar.indexCast v2683
  let c0_1532 : Index := 0#32
  let c0_1533 : Index := 0#32
  ![v2769.toNat, 0, 0]

variable {F : FTy → Type} [FloatOps F]

def k0_off229 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c1_i32_1481 : BitVec 32 := 1#32
  let v2682 : BitVec 32 := Scalar.addi v2623 c1_i32_1481
  let v2683 : BitVec 32 := Scalar.select v2681 v2682 v2623
  let v2782 : Index := Scalar.indexCast v2683
  let c0_1537 : Index := 0#32
  let c0_1538 : Index := 0#32
  ![v2782.toNat, 0, 0]
def k0_off230 (arg12 : BitVec 32) (arg13 : BitVec 32) : Fin 3 → Nat :=
  let c0_1539 : Index := 0#32
  let c0_1540 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c512_i32_1529 : BitVec 32 := 512#32
  let v2766 : BitVec 32 := Scalar.muli v2685 c512_i32_1529
  let v2767 : BitVec 32 := v2766
  let v2787 : Index := Scalar.indexCast v2767
  ![0, 0, v2787.toNat]
def k0_mult141 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c1_i32_1547 : BitVec 32 := 1#32
  let v2802 : BitVec 32 := Scalar.addi v2743 c1_i32_1547
  let v2803 : BitVec 32 := Scalar.select v2801 v2802 v2743
  let c31_i32_1550 : BitVec 32 := 31#32
  let v2806 : BitVec 32 := Scalar.minsi v2803 c31_i32_1550
  let c512_i32_1551 : BitVec 32 := 512#32
  let v2807 : BitVec 32 := Scalar.muli v2806 c512_i32_1551
  v2807
def k0_mult142 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c512_i32_1552 : BitVec 32 := 512#32
  let v2809 : BitVec 32 := Scalar.muli v2805 c512_i32_1552
  v2809
def k0_off231 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c512_i32_1552 : BitVec 32 := 512#32
  let v2809 : BitVec 32 := Scalar.muli v2805 c512_i32_1552
  let v2810 : BitVec 32 := v2809
  let v2811 : Index := Scalar.indexCast v2810
  let c0_1553 : Index := 0#32
  ![v2811.toNat, 0]
def k0_off232 (arg12 : BitVec 32) (arg13 : BitVec 32) : Fin 3 → Nat :=
  let c0_1554 : Index := 0#32
  let c0_1555 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c1_i32_1547 : BitVec 32 := 1#32
  let v2802 : BitVec 32 := Scalar.addi v2743 c1_i32_1547
  let v2803 : BitVec 32 := Scalar.select v2801 v2802 v2743
  let c31_i32_1550 : BitVec 32 := 31#32
  let v2806 : BitVec 32 := Scalar.minsi v2803 c31_i32_1550
  let c512_i32_1551 : BitVec 32 := 512#32
  let v2807 : BitVec 32 := Scalar.muli v2806 c512_i32_1551
  let v2808 : BitVec 32 := v2807
  let v2814 : Index := Scalar.indexCast v2808
  ![0, 0, v2814.toNat]
def k0_mult143 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c512_i32_1562 : BitVec 32 := 512#32
  let v2826 : BitVec 32 := Scalar.muli v2745 c512_i32_1562
  v2826
def k0_off233 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c1_i32_1514 : BitVec 32 := 1#32
  let v2742 : BitVec 32 := Scalar.addi v2683 c1_i32_1514
  let v2743 : BitVec 32 := Scalar.select v2741 v2742 v2683
  let v2829 : Index := Scalar.indexCast v2743
  let c0_1565 : Index := 0#32
  let c0_1566 : Index := 0#32
  ![v2829.toNat, 0, 0]
def k0_off234 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c1_i32_1514 : BitVec 32 := 1#32
  let v2742 : BitVec 32 := Scalar.addi v2683 c1_i32_1514
  let v2743 : BitVec 32 := Scalar.select v2741 v2742 v2683
  let v2842 : Index := Scalar.indexCast v2743
  let c0_1570 : Index := 0#32
  let c0_1571 : Index := 0#32
  ![v2842.toNat, 0, 0]
def k0_off235 (arg12 : BitVec 32) (arg13 : BitVec 32) : Fin 3 → Nat :=
  let c0_1572 : Index := 0#32
  let c0_1573 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c512_i32_1562 : BitVec 32 := 512#32
  let v2826 : BitVec 32 := Scalar.muli v2745 c512_i32_1562
  let v2827 : BitVec 32 := v2826
  let v2847 : Index := Scalar.indexCast v2827
  ![0, 0, v2847.toNat]
def k0_mult144 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c1_i32_1580 : BitVec 32 := 1#32
  let v2862 : BitVec 32 := Scalar.addi v2803 c1_i32_1580
  let v2863 : BitVec 32 := Scalar.select v2861 v2862 v2803
  let c31_i32_1583 : BitVec 32 := 31#32
  let v2866 : BitVec 32 := Scalar.minsi v2863 c31_i32_1583
  let c512_i32_1584 : BitVec 32 := 512#32
  let v2867 : BitVec 32 := Scalar.muli v2866 c512_i32_1584
  v2867
def k0_mult145 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c512_i32_1585 : BitVec 32 := 512#32
  let v2869 : BitVec 32 := Scalar.muli v2865 c512_i32_1585
  v2869
def k0_off236 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c512_i32_1585 : BitVec 32 := 512#32
  let v2869 : BitVec 32 := Scalar.muli v2865 c512_i32_1585
  let v2870 : BitVec 32 := v2869
  let v2871 : Index := Scalar.indexCast v2870
  let c0_1586 : Index := 0#32
  ![v2871.toNat, 0]
def k0_off237 (arg12 : BitVec 32) (arg13 : BitVec 32) : Fin 3 → Nat :=
  let c0_1587 : Index := 0#32
  let c0_1588 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c1_i32_1580 : BitVec 32 := 1#32
  let v2862 : BitVec 32 := Scalar.addi v2803 c1_i32_1580
  let v2863 : BitVec 32 := Scalar.select v2861 v2862 v2803
  let c31_i32_1583 : BitVec 32 := 31#32
  let v2866 : BitVec 32 := Scalar.minsi v2863 c31_i32_1583
  let c512_i32_1584 : BitVec 32 := 512#32
  let v2867 : BitVec 32 := Scalar.muli v2866 c512_i32_1584
  let v2868 : BitVec 32 := v2867
  let v2874 : Index := Scalar.indexCast v2868
  ![0, 0, v2874.toNat]
def k0_mult146 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c512_i32_1595 : BitVec 32 := 512#32
  let v2886 : BitVec 32 := Scalar.muli v2805 c512_i32_1595
  v2886
def k0_off238 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c1_i32_1547 : BitVec 32 := 1#32
  let v2802 : BitVec 32 := Scalar.addi v2743 c1_i32_1547
  let v2803 : BitVec 32 := Scalar.select v2801 v2802 v2743
  let v2889 : Index := Scalar.indexCast v2803
  let c0_1598 : Index := 0#32
  let c0_1599 : Index := 0#32
  ![v2889.toNat, 0, 0]
def k0_off239 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c1_i32_1547 : BitVec 32 := 1#32
  let v2802 : BitVec 32 := Scalar.addi v2743 c1_i32_1547
  let v2803 : BitVec 32 := Scalar.select v2801 v2802 v2743
  let v2902 : Index := Scalar.indexCast v2803
  let c0_1603 : Index := 0#32
  let c0_1604 : Index := 0#32
  ![v2902.toNat, 0, 0]
def k0_off240 (arg12 : BitVec 32) (arg13 : BitVec 32) : Fin 3 → Nat :=
  let c0_1605 : Index := 0#32
  let c0_1606 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c512_i32_1595 : BitVec 32 := 512#32
  let v2886 : BitVec 32 := Scalar.muli v2805 c512_i32_1595
  let v2887 : BitVec 32 := v2886
  let v2907 : Index := Scalar.indexCast v2887
  ![0, 0, v2907.toNat]
def k0_mult147 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c1_i32_1613 : BitVec 32 := 1#32
  let v2922 : BitVec 32 := Scalar.addi v2863 c1_i32_1613
  let v2923 : BitVec 32 := Scalar.select v2921 v2922 v2863
  let c31_i32_1616 : BitVec 32 := 31#32
  let v2926 : BitVec 32 := Scalar.minsi v2923 c31_i32_1616
  let c512_i32_1617 : BitVec 32 := 512#32
  let v2927 : BitVec 32 := Scalar.muli v2926 c512_i32_1617
  v2927
def k0_mult148 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c512_i32_1618 : BitVec 32 := 512#32
  let v2929 : BitVec 32 := Scalar.muli v2925 c512_i32_1618
  v2929
def k0_off241 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c512_i32_1618 : BitVec 32 := 512#32
  let v2929 : BitVec 32 := Scalar.muli v2925 c512_i32_1618
  let v2930 : BitVec 32 := v2929
  let v2931 : Index := Scalar.indexCast v2930
  let c0_1619 : Index := 0#32
  ![v2931.toNat, 0]
def k0_off242 (arg12 : BitVec 32) (arg13 : BitVec 32) : Fin 3 → Nat :=
  let c0_1620 : Index := 0#32
  let c0_1621 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c1_i32_1613 : BitVec 32 := 1#32
  let v2922 : BitVec 32 := Scalar.addi v2863 c1_i32_1613
  let v2923 : BitVec 32 := Scalar.select v2921 v2922 v2863
  let c31_i32_1616 : BitVec 32 := 31#32
  let v2926 : BitVec 32 := Scalar.minsi v2923 c31_i32_1616
  let c512_i32_1617 : BitVec 32 := 512#32
  let v2927 : BitVec 32 := Scalar.muli v2926 c512_i32_1617
  let v2928 : BitVec 32 := v2927
  let v2934 : Index := Scalar.indexCast v2928
  ![0, 0, v2934.toNat]
def k0_mult149 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c512_i32_1628 : BitVec 32 := 512#32
  let v2946 : BitVec 32 := Scalar.muli v2865 c512_i32_1628
  v2946
def k0_off243 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c1_i32_1580 : BitVec 32 := 1#32
  let v2862 : BitVec 32 := Scalar.addi v2803 c1_i32_1580
  let v2863 : BitVec 32 := Scalar.select v2861 v2862 v2803
  let v2949 : Index := Scalar.indexCast v2863
  let c0_1631 : Index := 0#32
  let c0_1632 : Index := 0#32
  ![v2949.toNat, 0, 0]
def k0_off244 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c1_i32_1580 : BitVec 32 := 1#32
  let v2862 : BitVec 32 := Scalar.addi v2803 c1_i32_1580
  let v2863 : BitVec 32 := Scalar.select v2861 v2862 v2803
  let v2962 : Index := Scalar.indexCast v2863
  let c0_1636 : Index := 0#32
  let c0_1637 : Index := 0#32
  ![v2962.toNat, 0, 0]
def k0_off245 (arg12 : BitVec 32) (arg13 : BitVec 32) : Fin 3 → Nat :=
  let c0_1638 : Index := 0#32
  let c0_1639 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c512_i32_1628 : BitVec 32 := 512#32
  let v2946 : BitVec 32 := Scalar.muli v2865 c512_i32_1628
  let v2947 : BitVec 32 := v2946
  let v2967 : Index := Scalar.indexCast v2947
  ![0, 0, v2967.toNat]
def k0_mult150 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c1_i32_1646 : BitVec 32 := 1#32
  let v2982 : BitVec 32 := Scalar.addi v2923 c1_i32_1646
  let v2983 : BitVec 32 := Scalar.select v2981 v2982 v2923
  let c31_i32_1649 : BitVec 32 := 31#32
  let v2986 : BitVec 32 := Scalar.minsi v2983 c31_i32_1649
  let c512_i32_1650 : BitVec 32 := 512#32
  let v2987 : BitVec 32 := Scalar.muli v2986 c512_i32_1650
  v2987
def k0_mult151 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c512_i32_1651 : BitVec 32 := 512#32
  let v2989 : BitVec 32 := Scalar.muli v2985 c512_i32_1651
  v2989
def k0_off246 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c512_i32_1651 : BitVec 32 := 512#32
  let v2989 : BitVec 32 := Scalar.muli v2985 c512_i32_1651
  let v2990 : BitVec 32 := v2989
  let v2991 : Index := Scalar.indexCast v2990
  let c0_1652 : Index := 0#32
  ![v2991.toNat, 0]
def k0_off247 (arg12 : BitVec 32) (arg13 : BitVec 32) : Fin 3 → Nat :=
  let c0_1653 : Index := 0#32
  let c0_1654 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c1_i32_1646 : BitVec 32 := 1#32
  let v2982 : BitVec 32 := Scalar.addi v2923 c1_i32_1646
  let v2983 : BitVec 32 := Scalar.select v2981 v2982 v2923
  let c31_i32_1649 : BitVec 32 := 31#32
  let v2986 : BitVec 32 := Scalar.minsi v2983 c31_i32_1649
  let c512_i32_1650 : BitVec 32 := 512#32
  let v2987 : BitVec 32 := Scalar.muli v2986 c512_i32_1650
  let v2988 : BitVec 32 := v2987
  let v2994 : Index := Scalar.indexCast v2988
  ![0, 0, v2994.toNat]
def k0_mult152 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c512_i32_1661 : BitVec 32 := 512#32
  let v3006 : BitVec 32 := Scalar.muli v2925 c512_i32_1661
  v3006
def k0_off248 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c1_i32_1613 : BitVec 32 := 1#32
  let v2922 : BitVec 32 := Scalar.addi v2863 c1_i32_1613
  let v2923 : BitVec 32 := Scalar.select v2921 v2922 v2863
  let v3009 : Index := Scalar.indexCast v2923
  let c0_1664 : Index := 0#32
  let c0_1665 : Index := 0#32
  ![v3009.toNat, 0, 0]
def k0_off249 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c1_i32_1613 : BitVec 32 := 1#32
  let v2922 : BitVec 32 := Scalar.addi v2863 c1_i32_1613
  let v2923 : BitVec 32 := Scalar.select v2921 v2922 v2863
  let v3022 : Index := Scalar.indexCast v2923
  let c0_1669 : Index := 0#32
  let c0_1670 : Index := 0#32
  ![v3022.toNat, 0, 0]
def k0_off250 (arg12 : BitVec 32) (arg13 : BitVec 32) : Fin 3 → Nat :=
  let c0_1671 : Index := 0#32
  let c0_1672 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c512_i32_1661 : BitVec 32 := 512#32
  let v3006 : BitVec 32 := Scalar.muli v2925 c512_i32_1661
  let v3007 : BitVec 32 := v3006
  let v3027 : Index := Scalar.indexCast v3007
  ![0, 0, v3027.toNat]
def k0_mult153 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c1_i32_1679 : BitVec 32 := 1#32
  let v3042 : BitVec 32 := Scalar.addi v2983 c1_i32_1679
  let v3043 : BitVec 32 := Scalar.select v3041 v3042 v2983
  let c31_i32_1682 : BitVec 32 := 31#32
  let v3046 : BitVec 32 := Scalar.minsi v3043 c31_i32_1682
  let c512_i32_1683 : BitVec 32 := 512#32
  let v3047 : BitVec 32 := Scalar.muli v3046 c512_i32_1683
  v3047
def k0_mult154 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c512_i32_1684 : BitVec 32 := 512#32
  let v3049 : BitVec 32 := Scalar.muli v3045 c512_i32_1684
  v3049
def k0_off251 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c512_i32_1684 : BitVec 32 := 512#32
  let v3049 : BitVec 32 := Scalar.muli v3045 c512_i32_1684
  let v3050 : BitVec 32 := v3049
  let v3051 : Index := Scalar.indexCast v3050
  let c0_1685 : Index := 0#32
  ![v3051.toNat, 0]
def k0_off252 (arg12 : BitVec 32) (arg13 : BitVec 32) : Fin 3 → Nat :=
  let c0_1686 : Index := 0#32
  let c0_1687 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c1_i32_1679 : BitVec 32 := 1#32
  let v3042 : BitVec 32 := Scalar.addi v2983 c1_i32_1679
  let v3043 : BitVec 32 := Scalar.select v3041 v3042 v2983
  let c31_i32_1682 : BitVec 32 := 31#32
  let v3046 : BitVec 32 := Scalar.minsi v3043 c31_i32_1682
  let c512_i32_1683 : BitVec 32 := 512#32
  let v3047 : BitVec 32 := Scalar.muli v3046 c512_i32_1683
  let v3048 : BitVec 32 := v3047
  let v3054 : Index := Scalar.indexCast v3048
  ![0, 0, v3054.toNat]
def k0_mult155 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c512_i32_1694 : BitVec 32 := 512#32
  let v3066 : BitVec 32 := Scalar.muli v2985 c512_i32_1694
  v3066
def k0_off253 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c1_i32_1646 : BitVec 32 := 1#32
  let v2982 : BitVec 32 := Scalar.addi v2923 c1_i32_1646
  let v2983 : BitVec 32 := Scalar.select v2981 v2982 v2923
  let v3069 : Index := Scalar.indexCast v2983
  let c0_1697 : Index := 0#32
  let c0_1698 : Index := 0#32
  ![v3069.toNat, 0, 0]
def k0_off254 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c1_i32_1646 : BitVec 32 := 1#32
  let v2982 : BitVec 32 := Scalar.addi v2923 c1_i32_1646
  let v2983 : BitVec 32 := Scalar.select v2981 v2982 v2923
  let v3082 : Index := Scalar.indexCast v2983
  let c0_1702 : Index := 0#32
  let c0_1703 : Index := 0#32
  ![v3082.toNat, 0, 0]
def k0_off255 (arg12 : BitVec 32) (arg13 : BitVec 32) : Fin 3 → Nat :=
  let c0_1704 : Index := 0#32
  let c0_1705 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c512_i32_1694 : BitVec 32 := 512#32
  let v3066 : BitVec 32 := Scalar.muli v2985 c512_i32_1694
  let v3067 : BitVec 32 := v3066
  let v3087 : Index := Scalar.indexCast v3067
  ![0, 0, v3087.toNat]
def k0_mult156 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c1_i32_1712 : BitVec 32 := 1#32
  let v3102 : BitVec 32 := Scalar.addi v3043 c1_i32_1712
  let v3103 : BitVec 32 := Scalar.select v3101 v3102 v3043
  let c31_i32_1715 : BitVec 32 := 31#32
  let v3106 : BitVec 32 := Scalar.minsi v3103 c31_i32_1715
  let c512_i32_1716 : BitVec 32 := 512#32
  let v3107 : BitVec 32 := Scalar.muli v3106 c512_i32_1716
  v3107
def k0_mult157 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c512_i32_1717 : BitVec 32 := 512#32
  let v3109 : BitVec 32 := Scalar.muli v3105 c512_i32_1717
  v3109
def k0_off256 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c512_i32_1717 : BitVec 32 := 512#32
  let v3109 : BitVec 32 := Scalar.muli v3105 c512_i32_1717
  let v3110 : BitVec 32 := v3109
  let v3111 : Index := Scalar.indexCast v3110
  let c0_1718 : Index := 0#32
  ![v3111.toNat, 0]
def k0_off257 (arg12 : BitVec 32) (arg13 : BitVec 32) : Fin 3 → Nat :=
  let c0_1719 : Index := 0#32
  let c0_1720 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c1_i32_1712 : BitVec 32 := 1#32
  let v3102 : BitVec 32 := Scalar.addi v3043 c1_i32_1712
  let v3103 : BitVec 32 := Scalar.select v3101 v3102 v3043
  let c31_i32_1715 : BitVec 32 := 31#32
  let v3106 : BitVec 32 := Scalar.minsi v3103 c31_i32_1715
  let c512_i32_1716 : BitVec 32 := 512#32
  let v3107 : BitVec 32 := Scalar.muli v3106 c512_i32_1716
  let v3108 : BitVec 32 := v3107
  let v3114 : Index := Scalar.indexCast v3108
  ![0, 0, v3114.toNat]
def k0_mult158 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c512_i32_1727 : BitVec 32 := 512#32
  let v3126 : BitVec 32 := Scalar.muli v3045 c512_i32_1727
  v3126
def k0_off258 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c1_i32_1679 : BitVec 32 := 1#32
  let v3042 : BitVec 32 := Scalar.addi v2983 c1_i32_1679
  let v3043 : BitVec 32 := Scalar.select v3041 v3042 v2983
  let v3129 : Index := Scalar.indexCast v3043
  let c0_1730 : Index := 0#32
  let c0_1731 : Index := 0#32
  ![v3129.toNat, 0, 0]
def k0_off259 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c1_i32_1679 : BitVec 32 := 1#32
  let v3042 : BitVec 32 := Scalar.addi v2983 c1_i32_1679
  let v3043 : BitVec 32 := Scalar.select v3041 v3042 v2983
  let v3142 : Index := Scalar.indexCast v3043
  let c0_1735 : Index := 0#32
  let c0_1736 : Index := 0#32
  ![v3142.toNat, 0, 0]
def k0_off260 (arg12 : BitVec 32) (arg13 : BitVec 32) : Fin 3 → Nat :=
  let c0_1737 : Index := 0#32
  let c0_1738 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c512_i32_1727 : BitVec 32 := 512#32
  let v3126 : BitVec 32 := Scalar.muli v3045 c512_i32_1727
  let v3127 : BitVec 32 := v3126
  let v3147 : Index := Scalar.indexCast v3127
  ![0, 0, v3147.toNat]
def k0_mult159 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c1_i32_1745 : BitVec 32 := 1#32
  let v3162 : BitVec 32 := Scalar.addi v3103 c1_i32_1745
  let v3163 : BitVec 32 := Scalar.select v3161 v3162 v3103
  let c31_i32_1748 : BitVec 32 := 31#32
  let v3166 : BitVec 32 := Scalar.minsi v3163 c31_i32_1748
  let c512_i32_1749 : BitVec 32 := 512#32
  let v3167 : BitVec 32 := Scalar.muli v3166 c512_i32_1749
  v3167
def k0_mult160 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c512_i32_1750 : BitVec 32 := 512#32
  let v3169 : BitVec 32 := Scalar.muli v3165 c512_i32_1750
  v3169
def k0_off261 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c512_i32_1750 : BitVec 32 := 512#32
  let v3169 : BitVec 32 := Scalar.muli v3165 c512_i32_1750
  let v3170 : BitVec 32 := v3169
  let v3171 : Index := Scalar.indexCast v3170
  let c0_1751 : Index := 0#32
  ![v3171.toNat, 0]
def k0_off262 (arg12 : BitVec 32) (arg13 : BitVec 32) : Fin 3 → Nat :=
  let c0_1752 : Index := 0#32
  let c0_1753 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c1_i32_1745 : BitVec 32 := 1#32
  let v3162 : BitVec 32 := Scalar.addi v3103 c1_i32_1745
  let v3163 : BitVec 32 := Scalar.select v3161 v3162 v3103
  let c31_i32_1748 : BitVec 32 := 31#32
  let v3166 : BitVec 32 := Scalar.minsi v3163 c31_i32_1748
  let c512_i32_1749 : BitVec 32 := 512#32
  let v3167 : BitVec 32 := Scalar.muli v3166 c512_i32_1749
  let v3168 : BitVec 32 := v3167
  let v3174 : Index := Scalar.indexCast v3168
  ![0, 0, v3174.toNat]
def k0_mult161 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c512_i32_1760 : BitVec 32 := 512#32
  let v3186 : BitVec 32 := Scalar.muli v3105 c512_i32_1760
  v3186
def k0_off263 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c1_i32_1712 : BitVec 32 := 1#32
  let v3102 : BitVec 32 := Scalar.addi v3043 c1_i32_1712
  let v3103 : BitVec 32 := Scalar.select v3101 v3102 v3043
  let v3189 : Index := Scalar.indexCast v3103
  let c0_1763 : Index := 0#32
  let c0_1764 : Index := 0#32
  ![v3189.toNat, 0, 0]
def k0_off264 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c1_i32_1712 : BitVec 32 := 1#32
  let v3102 : BitVec 32 := Scalar.addi v3043 c1_i32_1712
  let v3103 : BitVec 32 := Scalar.select v3101 v3102 v3043
  let v3202 : Index := Scalar.indexCast v3103
  let c0_1768 : Index := 0#32
  let c0_1769 : Index := 0#32
  ![v3202.toNat, 0, 0]
def k0_off265 (arg12 : BitVec 32) (arg13 : BitVec 32) : Fin 3 → Nat :=
  let c0_1770 : Index := 0#32
  let c0_1771 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c512_i32_1760 : BitVec 32 := 512#32
  let v3186 : BitVec 32 := Scalar.muli v3105 c512_i32_1760
  let v3187 : BitVec 32 := v3186
  let v3207 : Index := Scalar.indexCast v3187
  ![0, 0, v3207.toNat]
def k0_mult162 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c1_i32_1778 : BitVec 32 := 1#32
  let v3222 : BitVec 32 := Scalar.addi v3163 c1_i32_1778
  let v3223 : BitVec 32 := Scalar.select v3221 v3222 v3163
  let c31_i32_1781 : BitVec 32 := 31#32
  let v3226 : BitVec 32 := Scalar.minsi v3223 c31_i32_1781
  let c512_i32_1782 : BitVec 32 := 512#32
  let v3227 : BitVec 32 := Scalar.muli v3226 c512_i32_1782
  v3227
def k0_mult163 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c512_i32_1783 : BitVec 32 := 512#32
  let v3229 : BitVec 32 := Scalar.muli v3225 c512_i32_1783
  v3229
def k0_off266 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c512_i32_1783 : BitVec 32 := 512#32
  let v3229 : BitVec 32 := Scalar.muli v3225 c512_i32_1783
  let v3230 : BitVec 32 := v3229
  let v3231 : Index := Scalar.indexCast v3230
  let c0_1784 : Index := 0#32
  ![v3231.toNat, 0]
def k0_off267 (arg12 : BitVec 32) (arg13 : BitVec 32) : Fin 3 → Nat :=
  let c0_1785 : Index := 0#32
  let c0_1786 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c1_i32_1778 : BitVec 32 := 1#32
  let v3222 : BitVec 32 := Scalar.addi v3163 c1_i32_1778
  let v3223 : BitVec 32 := Scalar.select v3221 v3222 v3163
  let c31_i32_1781 : BitVec 32 := 31#32
  let v3226 : BitVec 32 := Scalar.minsi v3223 c31_i32_1781
  let c512_i32_1782 : BitVec 32 := 512#32
  let v3227 : BitVec 32 := Scalar.muli v3226 c512_i32_1782
  let v3228 : BitVec 32 := v3227
  let v3234 : Index := Scalar.indexCast v3228
  ![0, 0, v3234.toNat]
def k0_mult164 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c512_i32_1793 : BitVec 32 := 512#32
  let v3246 : BitVec 32 := Scalar.muli v3165 c512_i32_1793
  v3246
def k0_off268 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c1_i32_1745 : BitVec 32 := 1#32
  let v3162 : BitVec 32 := Scalar.addi v3103 c1_i32_1745
  let v3163 : BitVec 32 := Scalar.select v3161 v3162 v3103
  let v3249 : Index := Scalar.indexCast v3163
  let c0_1796 : Index := 0#32
  let c0_1797 : Index := 0#32
  ![v3249.toNat, 0, 0]
def k0_off269 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c1_i32_1745 : BitVec 32 := 1#32
  let v3162 : BitVec 32 := Scalar.addi v3103 c1_i32_1745
  let v3163 : BitVec 32 := Scalar.select v3161 v3162 v3103
  let v3262 : Index := Scalar.indexCast v3163
  let c0_1801 : Index := 0#32
  let c0_1802 : Index := 0#32
  ![v3262.toNat, 0, 0]
def k0_off270 (arg12 : BitVec 32) (arg13 : BitVec 32) : Fin 3 → Nat :=
  let c0_1803 : Index := 0#32
  let c0_1804 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c512_i32_1793 : BitVec 32 := 512#32
  let v3246 : BitVec 32 := Scalar.muli v3165 c512_i32_1793
  let v3247 : BitVec 32 := v3246
  let v3267 : Index := Scalar.indexCast v3247
  ![0, 0, v3267.toNat]
def k0_mult165 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c1_i32_1811 : BitVec 32 := 1#32
  let v3282 : BitVec 32 := Scalar.addi v3223 c1_i32_1811
  let v3283 : BitVec 32 := Scalar.select v3281 v3282 v3223
  let c31_i32_1814 : BitVec 32 := 31#32
  let v3286 : BitVec 32 := Scalar.minsi v3283 c31_i32_1814
  let c512_i32_1815 : BitVec 32 := 512#32
  let v3287 : BitVec 32 := Scalar.muli v3286 c512_i32_1815
  v3287
def k0_mult166 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c512_i32_1816 : BitVec 32 := 512#32
  let v3289 : BitVec 32 := Scalar.muli v3285 c512_i32_1816
  v3289
def k0_off271 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c512_i32_1816 : BitVec 32 := 512#32
  let v3289 : BitVec 32 := Scalar.muli v3285 c512_i32_1816
  let v3290 : BitVec 32 := v3289
  let v3291 : Index := Scalar.indexCast v3290
  let c0_1817 : Index := 0#32
  ![v3291.toNat, 0]
def k0_off272 (arg12 : BitVec 32) (arg13 : BitVec 32) : Fin 3 → Nat :=
  let c0_1818 : Index := 0#32
  let c0_1819 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c1_i32_1811 : BitVec 32 := 1#32
  let v3282 : BitVec 32 := Scalar.addi v3223 c1_i32_1811
  let v3283 : BitVec 32 := Scalar.select v3281 v3282 v3223
  let c31_i32_1814 : BitVec 32 := 31#32
  let v3286 : BitVec 32 := Scalar.minsi v3283 c31_i32_1814
  let c512_i32_1815 : BitVec 32 := 512#32
  let v3287 : BitVec 32 := Scalar.muli v3286 c512_i32_1815
  let v3288 : BitVec 32 := v3287
  let v3294 : Index := Scalar.indexCast v3288
  ![0, 0, v3294.toNat]
def k0_mult167 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c512_i32_1826 : BitVec 32 := 512#32
  let v3306 : BitVec 32 := Scalar.muli v3225 c512_i32_1826
  v3306
def k0_off273 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c1_i32_1778 : BitVec 32 := 1#32
  let v3222 : BitVec 32 := Scalar.addi v3163 c1_i32_1778
  let v3223 : BitVec 32 := Scalar.select v3221 v3222 v3163
  let v3309 : Index := Scalar.indexCast v3223
  let c0_1829 : Index := 0#32
  let c0_1830 : Index := 0#32
  ![v3309.toNat, 0, 0]
def k0_off274 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c1_i32_1778 : BitVec 32 := 1#32
  let v3222 : BitVec 32 := Scalar.addi v3163 c1_i32_1778
  let v3223 : BitVec 32 := Scalar.select v3221 v3222 v3163
  let v3322 : Index := Scalar.indexCast v3223
  let c0_1834 : Index := 0#32
  let c0_1835 : Index := 0#32
  ![v3322.toNat, 0, 0]
def k0_off275 (arg12 : BitVec 32) (arg13 : BitVec 32) : Fin 3 → Nat :=
  let c0_1836 : Index := 0#32
  let c0_1837 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c512_i32_1826 : BitVec 32 := 512#32
  let v3306 : BitVec 32 := Scalar.muli v3225 c512_i32_1826
  let v3307 : BitVec 32 := v3306
  let v3327 : Index := Scalar.indexCast v3307
  ![0, 0, v3327.toNat]
def k0_mult168 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c1_i32_1844 : BitVec 32 := 1#32
  let v3342 : BitVec 32 := Scalar.addi v3283 c1_i32_1844
  let v3343 : BitVec 32 := Scalar.select v3341 v3342 v3283
  let c31_i32_1847 : BitVec 32 := 31#32
  let v3346 : BitVec 32 := Scalar.minsi v3343 c31_i32_1847
  let c512_i32_1848 : BitVec 32 := 512#32
  let v3347 : BitVec 32 := Scalar.muli v3346 c512_i32_1848
  v3347
def k0_mult169 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c512_i32_1849 : BitVec 32 := 512#32
  let v3349 : BitVec 32 := Scalar.muli v3345 c512_i32_1849
  v3349
def k0_off276 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c512_i32_1849 : BitVec 32 := 512#32
  let v3349 : BitVec 32 := Scalar.muli v3345 c512_i32_1849
  let v3350 : BitVec 32 := v3349
  let v3351 : Index := Scalar.indexCast v3350
  let c0_1850 : Index := 0#32
  ![v3351.toNat, 0]
def k0_off277 (arg12 : BitVec 32) (arg13 : BitVec 32) : Fin 3 → Nat :=
  let c0_1851 : Index := 0#32
  let c0_1852 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c1_i32_1844 : BitVec 32 := 1#32
  let v3342 : BitVec 32 := Scalar.addi v3283 c1_i32_1844
  let v3343 : BitVec 32 := Scalar.select v3341 v3342 v3283
  let c31_i32_1847 : BitVec 32 := 31#32
  let v3346 : BitVec 32 := Scalar.minsi v3343 c31_i32_1847
  let c512_i32_1848 : BitVec 32 := 512#32
  let v3347 : BitVec 32 := Scalar.muli v3346 c512_i32_1848
  let v3348 : BitVec 32 := v3347
  let v3354 : Index := Scalar.indexCast v3348
  ![0, 0, v3354.toNat]
def k0_mult170 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c512_i32_1859 : BitVec 32 := 512#32
  let v3366 : BitVec 32 := Scalar.muli v3285 c512_i32_1859
  v3366
def k0_off278 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c1_i32_1811 : BitVec 32 := 1#32
  let v3282 : BitVec 32 := Scalar.addi v3223 c1_i32_1811
  let v3283 : BitVec 32 := Scalar.select v3281 v3282 v3223
  let v3369 : Index := Scalar.indexCast v3283
  let c0_1862 : Index := 0#32
  let c0_1863 : Index := 0#32
  ![v3369.toNat, 0, 0]
def k0_off279 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c1_i32_1811 : BitVec 32 := 1#32
  let v3282 : BitVec 32 := Scalar.addi v3223 c1_i32_1811
  let v3283 : BitVec 32 := Scalar.select v3281 v3282 v3223
  let v3382 : Index := Scalar.indexCast v3283
  let c0_1867 : Index := 0#32
  let c0_1868 : Index := 0#32
  ![v3382.toNat, 0, 0]
def k0_off280 (arg12 : BitVec 32) (arg13 : BitVec 32) : Fin 3 → Nat :=
  let c0_1869 : Index := 0#32
  let c0_1870 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c512_i32_1859 : BitVec 32 := 512#32
  let v3366 : BitVec 32 := Scalar.muli v3285 c512_i32_1859
  let v3367 : BitVec 32 := v3366
  let v3387 : Index := Scalar.indexCast v3367
  ![0, 0, v3387.toNat]

variable {F : FTy → Type} [FloatOps F]

def k0_mult171 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c1_i32_1877 : BitVec 32 := 1#32
  let v3402 : BitVec 32 := Scalar.addi v3343 c1_i32_1877
  let v3403 : BitVec 32 := Scalar.select v3401 v3402 v3343
  let c31_i32_1880 : BitVec 32 := 31#32
  let v3406 : BitVec 32 := Scalar.minsi v3403 c31_i32_1880
  let c512_i32_1881 : BitVec 32 := 512#32
  let v3407 : BitVec 32 := Scalar.muli v3406 c512_i32_1881
  v3407
def k0_mult172 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c512_i32_1882 : BitVec 32 := 512#32
  let v3409 : BitVec 32 := Scalar.muli v3405 c512_i32_1882
  v3409
def k0_off281 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c512_i32_1882 : BitVec 32 := 512#32
  let v3409 : BitVec 32 := Scalar.muli v3405 c512_i32_1882
  let v3410 : BitVec 32 := v3409
  let v3411 : Index := Scalar.indexCast v3410
  let c0_1883 : Index := 0#32
  ![v3411.toNat, 0]
def k0_off282 (arg12 : BitVec 32) (arg13 : BitVec 32) : Fin 3 → Nat :=
  let c0_1884 : Index := 0#32
  let c0_1885 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c1_i32_1877 : BitVec 32 := 1#32
  let v3402 : BitVec 32 := Scalar.addi v3343 c1_i32_1877
  let v3403 : BitVec 32 := Scalar.select v3401 v3402 v3343
  let c31_i32_1880 : BitVec 32 := 31#32
  let v3406 : BitVec 32 := Scalar.minsi v3403 c31_i32_1880
  let c512_i32_1881 : BitVec 32 := 512#32
  let v3407 : BitVec 32 := Scalar.muli v3406 c512_i32_1881
  let v3408 : BitVec 32 := v3407
  let v3414 : Index := Scalar.indexCast v3408
  ![0, 0, v3414.toNat]
def k0_mult173 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c512_i32_1892 : BitVec 32 := 512#32
  let v3426 : BitVec 32 := Scalar.muli v3345 c512_i32_1892
  v3426
def k0_off283 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c1_i32_1844 : BitVec 32 := 1#32
  let v3342 : BitVec 32 := Scalar.addi v3283 c1_i32_1844
  let v3343 : BitVec 32 := Scalar.select v3341 v3342 v3283
  let v3429 : Index := Scalar.indexCast v3343
  let c0_1895 : Index := 0#32
  let c0_1896 : Index := 0#32
  ![v3429.toNat, 0, 0]
def k0_off284 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c1_i32_1844 : BitVec 32 := 1#32
  let v3342 : BitVec 32 := Scalar.addi v3283 c1_i32_1844
  let v3343 : BitVec 32 := Scalar.select v3341 v3342 v3283
  let v3442 : Index := Scalar.indexCast v3343
  let c0_1900 : Index := 0#32
  let c0_1901 : Index := 0#32
  ![v3442.toNat, 0, 0]
def k0_off285 (arg12 : BitVec 32) (arg13 : BitVec 32) : Fin 3 → Nat :=
  let c0_1902 : Index := 0#32
  let c0_1903 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c512_i32_1892 : BitVec 32 := 512#32
  let v3426 : BitVec 32 := Scalar.muli v3345 c512_i32_1892
  let v3427 : BitVec 32 := v3426
  let v3447 : Index := Scalar.indexCast v3427
  ![0, 0, v3447.toNat]
def k0_mult174 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c1_i32_1910 : BitVec 32 := 1#32
  let v3462 : BitVec 32 := Scalar.addi v3403 c1_i32_1910
  let v3463 : BitVec 32 := Scalar.select v3461 v3462 v3403
  let c31_i32_1913 : BitVec 32 := 31#32
  let v3466 : BitVec 32 := Scalar.minsi v3463 c31_i32_1913
  let c512_i32_1914 : BitVec 32 := 512#32
  let v3467 : BitVec 32 := Scalar.muli v3466 c512_i32_1914
  v3467
def k0_mult175 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c512_i32_1915 : BitVec 32 := 512#32
  let v3469 : BitVec 32 := Scalar.muli v3465 c512_i32_1915
  v3469
def k0_off286 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c512_i32_1915 : BitVec 32 := 512#32
  let v3469 : BitVec 32 := Scalar.muli v3465 c512_i32_1915
  let v3470 : BitVec 32 := v3469
  let v3471 : Index := Scalar.indexCast v3470
  let c0_1916 : Index := 0#32
  ![v3471.toNat, 0]
def k0_off287 (arg12 : BitVec 32) (arg13 : BitVec 32) : Fin 3 → Nat :=
  let c0_1917 : Index := 0#32
  let c0_1918 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c1_i32_1910 : BitVec 32 := 1#32
  let v3462 : BitVec 32 := Scalar.addi v3403 c1_i32_1910
  let v3463 : BitVec 32 := Scalar.select v3461 v3462 v3403
  let c31_i32_1913 : BitVec 32 := 31#32
  let v3466 : BitVec 32 := Scalar.minsi v3463 c31_i32_1913
  let c512_i32_1914 : BitVec 32 := 512#32
  let v3467 : BitVec 32 := Scalar.muli v3466 c512_i32_1914
  let v3468 : BitVec 32 := v3467
  let v3474 : Index := Scalar.indexCast v3468
  ![0, 0, v3474.toNat]
def k0_mult176 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c512_i32_1925 : BitVec 32 := 512#32
  let v3486 : BitVec 32 := Scalar.muli v3405 c512_i32_1925
  v3486
def k0_off288 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c1_i32_1877 : BitVec 32 := 1#32
  let v3402 : BitVec 32 := Scalar.addi v3343 c1_i32_1877
  let v3403 : BitVec 32 := Scalar.select v3401 v3402 v3343
  let v3489 : Index := Scalar.indexCast v3403
  let c0_1928 : Index := 0#32
  let c0_1929 : Index := 0#32
  ![v3489.toNat, 0, 0]
def k0_off289 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c1_i32_1877 : BitVec 32 := 1#32
  let v3402 : BitVec 32 := Scalar.addi v3343 c1_i32_1877
  let v3403 : BitVec 32 := Scalar.select v3401 v3402 v3343
  let v3502 : Index := Scalar.indexCast v3403
  let c0_1933 : Index := 0#32
  let c0_1934 : Index := 0#32
  ![v3502.toNat, 0, 0]
def k0_off290 (arg12 : BitVec 32) (arg13 : BitVec 32) : Fin 3 → Nat :=
  let c0_1935 : Index := 0#32
  let c0_1936 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c512_i32_1925 : BitVec 32 := 512#32
  let v3486 : BitVec 32 := Scalar.muli v3405 c512_i32_1925
  let v3487 : BitVec 32 := v3486
  let v3507 : Index := Scalar.indexCast v3487
  ![0, 0, v3507.toNat]
def k0_mult177 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c1_i32_1943 : BitVec 32 := 1#32
  let v3522 : BitVec 32 := Scalar.addi v3463 c1_i32_1943
  let v3523 : BitVec 32 := Scalar.select v3521 v3522 v3463
  let c31_i32_1946 : BitVec 32 := 31#32
  let v3526 : BitVec 32 := Scalar.minsi v3523 c31_i32_1946
  let c512_i32_1947 : BitVec 32 := 512#32
  let v3527 : BitVec 32 := Scalar.muli v3526 c512_i32_1947
  v3527
def k0_mult178 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c512_i32_1948 : BitVec 32 := 512#32
  let v3529 : BitVec 32 := Scalar.muli v3525 c512_i32_1948
  v3529
def k0_off291 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c512_i32_1948 : BitVec 32 := 512#32
  let v3529 : BitVec 32 := Scalar.muli v3525 c512_i32_1948
  let v3530 : BitVec 32 := v3529
  let v3531 : Index := Scalar.indexCast v3530
  let c0_1949 : Index := 0#32
  ![v3531.toNat, 0]
def k0_off292 (arg12 : BitVec 32) (arg13 : BitVec 32) : Fin 3 → Nat :=
  let c0_1950 : Index := 0#32
  let c0_1951 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c1_i32_1943 : BitVec 32 := 1#32
  let v3522 : BitVec 32 := Scalar.addi v3463 c1_i32_1943
  let v3523 : BitVec 32 := Scalar.select v3521 v3522 v3463
  let c31_i32_1946 : BitVec 32 := 31#32
  let v3526 : BitVec 32 := Scalar.minsi v3523 c31_i32_1946
  let c512_i32_1947 : BitVec 32 := 512#32
  let v3527 : BitVec 32 := Scalar.muli v3526 c512_i32_1947
  let v3528 : BitVec 32 := v3527
  let v3534 : Index := Scalar.indexCast v3528
  ![0, 0, v3534.toNat]
def k0_mult179 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c512_i32_1958 : BitVec 32 := 512#32
  let v3546 : BitVec 32 := Scalar.muli v3465 c512_i32_1958
  v3546
def k0_off293 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c1_i32_1910 : BitVec 32 := 1#32
  let v3462 : BitVec 32 := Scalar.addi v3403 c1_i32_1910
  let v3463 : BitVec 32 := Scalar.select v3461 v3462 v3403
  let v3549 : Index := Scalar.indexCast v3463
  let c0_1961 : Index := 0#32
  let c0_1962 : Index := 0#32
  ![v3549.toNat, 0, 0]
def k0_off294 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c1_i32_1910 : BitVec 32 := 1#32
  let v3462 : BitVec 32 := Scalar.addi v3403 c1_i32_1910
  let v3463 : BitVec 32 := Scalar.select v3461 v3462 v3403
  let v3562 : Index := Scalar.indexCast v3463
  let c0_1966 : Index := 0#32
  let c0_1967 : Index := 0#32
  ![v3562.toNat, 0, 0]
def k0_off295 (arg12 : BitVec 32) (arg13 : BitVec 32) : Fin 3 → Nat :=
  let c0_1968 : Index := 0#32
  let c0_1969 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c512_i32_1958 : BitVec 32 := 512#32
  let v3546 : BitVec 32 := Scalar.muli v3465 c512_i32_1958
  let v3547 : BitVec 32 := v3546
  let v3567 : Index := Scalar.indexCast v3547
  ![0, 0, v3567.toNat]
def k0_mult180 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c1_i32_1976 : BitVec 32 := 1#32
  let v3582 : BitVec 32 := Scalar.addi v3523 c1_i32_1976
  let v3583 : BitVec 32 := Scalar.select v3581 v3582 v3523
  let c31_i32_1979 : BitVec 32 := 31#32
  let v3586 : BitVec 32 := Scalar.minsi v3583 c31_i32_1979
  let c512_i32_1980 : BitVec 32 := 512#32
  let v3587 : BitVec 32 := Scalar.muli v3586 c512_i32_1980
  v3587
def k0_mult181 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c512_i32_1981 : BitVec 32 := 512#32
  let v3589 : BitVec 32 := Scalar.muli v3585 c512_i32_1981
  v3589
def k0_off296 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c512_i32_1981 : BitVec 32 := 512#32
  let v3589 : BitVec 32 := Scalar.muli v3585 c512_i32_1981
  let v3590 : BitVec 32 := v3589
  let v3591 : Index := Scalar.indexCast v3590
  let c0_1982 : Index := 0#32
  ![v3591.toNat, 0]
def k0_off297 (arg12 : BitVec 32) (arg13 : BitVec 32) : Fin 3 → Nat :=
  let c0_1983 : Index := 0#32
  let c0_1984 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c1_i32_1976 : BitVec 32 := 1#32
  let v3582 : BitVec 32 := Scalar.addi v3523 c1_i32_1976
  let v3583 : BitVec 32 := Scalar.select v3581 v3582 v3523
  let c31_i32_1979 : BitVec 32 := 31#32
  let v3586 : BitVec 32 := Scalar.minsi v3583 c31_i32_1979
  let c512_i32_1980 : BitVec 32 := 512#32
  let v3587 : BitVec 32 := Scalar.muli v3586 c512_i32_1980
  let v3588 : BitVec 32 := v3587
  let v3594 : Index := Scalar.indexCast v3588
  ![0, 0, v3594.toNat]
def k0_mult182 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c512_i32_1991 : BitVec 32 := 512#32
  let v3606 : BitVec 32 := Scalar.muli v3525 c512_i32_1991
  v3606
def k0_off298 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c1_i32_1943 : BitVec 32 := 1#32
  let v3522 : BitVec 32 := Scalar.addi v3463 c1_i32_1943
  let v3523 : BitVec 32 := Scalar.select v3521 v3522 v3463
  let v3609 : Index := Scalar.indexCast v3523
  let c0_1994 : Index := 0#32
  let c0_1995 : Index := 0#32
  ![v3609.toNat, 0, 0]
def k0_off299 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c1_i32_1943 : BitVec 32 := 1#32
  let v3522 : BitVec 32 := Scalar.addi v3463 c1_i32_1943
  let v3523 : BitVec 32 := Scalar.select v3521 v3522 v3463
  let v3622 : Index := Scalar.indexCast v3523
  let c0_1999 : Index := 0#32
  let c0_2000 : Index := 0#32
  ![v3622.toNat, 0, 0]
def k0_off300 (arg12 : BitVec 32) (arg13 : BitVec 32) : Fin 3 → Nat :=
  let c0_2001 : Index := 0#32
  let c0_2002 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c512_i32_1991 : BitVec 32 := 512#32
  let v3606 : BitVec 32 := Scalar.muli v3525 c512_i32_1991
  let v3607 : BitVec 32 := v3606
  let v3627 : Index := Scalar.indexCast v3607
  ![0, 0, v3627.toNat]
def k0_mult183 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c1_i32_2009 : BitVec 32 := 1#32
  let v3642 : BitVec 32 := Scalar.addi v3583 c1_i32_2009
  let v3643 : BitVec 32 := Scalar.select v3641 v3642 v3583
  let c31_i32_2012 : BitVec 32 := 31#32
  let v3646 : BitVec 32 := Scalar.minsi v3643 c31_i32_2012
  let c512_i32_2013 : BitVec 32 := 512#32
  let v3647 : BitVec 32 := Scalar.muli v3646 c512_i32_2013
  v3647
def k0_mult184 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c0_i32_2011 : BitVec 32 := 0#32
  let c1_i32_2010 : BitVec 32 := 1#32
  let v3644 : BitVec 32 := Scalar.addi v3585 c1_i32_2010
  let v3645 : BitVec 32 := Scalar.select v3641 c0_i32_2011 v3644
  let c512_i32_2014 : BitVec 32 := 512#32
  let v3649 : BitVec 32 := Scalar.muli v3645 c512_i32_2014
  v3649
def k0_off301 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c0_i32_2011 : BitVec 32 := 0#32
  let c1_i32_2010 : BitVec 32 := 1#32
  let v3644 : BitVec 32 := Scalar.addi v3585 c1_i32_2010
  let v3645 : BitVec 32 := Scalar.select v3641 c0_i32_2011 v3644
  let c512_i32_2014 : BitVec 32 := 512#32
  let v3649 : BitVec 32 := Scalar.muli v3645 c512_i32_2014
  let v3650 : BitVec 32 := v3649
  let v3651 : Index := Scalar.indexCast v3650
  let c0_2015 : Index := 0#32
  ![v3651.toNat, 0]
def k0_off302 (arg12 : BitVec 32) (arg13 : BitVec 32) : Fin 3 → Nat :=
  let c0_2016 : Index := 0#32
  let c0_2017 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c1_i32_2009 : BitVec 32 := 1#32
  let v3642 : BitVec 32 := Scalar.addi v3583 c1_i32_2009
  let v3643 : BitVec 32 := Scalar.select v3641 v3642 v3583
  let c31_i32_2012 : BitVec 32 := 31#32
  let v3646 : BitVec 32 := Scalar.minsi v3643 c31_i32_2012
  let c512_i32_2013 : BitVec 32 := 512#32
  let v3647 : BitVec 32 := Scalar.muli v3646 c512_i32_2013
  let v3648 : BitVec 32 := v3647
  let v3654 : Index := Scalar.indexCast v3648
  ![0, 0, v3654.toNat]
def k0_mult185 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c512_i32_2024 : BitVec 32 := 512#32
  let v3666 : BitVec 32 := Scalar.muli v3585 c512_i32_2024
  v3666
def k0_off303 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c1_i32_1976 : BitVec 32 := 1#32
  let v3582 : BitVec 32 := Scalar.addi v3523 c1_i32_1976
  let v3583 : BitVec 32 := Scalar.select v3581 v3582 v3523
  let v3669 : Index := Scalar.indexCast v3583
  let c0_2027 : Index := 0#32
  let c0_2028 : Index := 0#32
  ![v3669.toNat, 0, 0]
def k0_off304 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c1_i32_1976 : BitVec 32 := 1#32
  let v3582 : BitVec 32 := Scalar.addi v3523 c1_i32_1976
  let v3583 : BitVec 32 := Scalar.select v3581 v3582 v3523
  let v3682 : Index := Scalar.indexCast v3583
  let c0_2032 : Index := 0#32
  let c0_2033 : Index := 0#32
  ![v3682.toNat, 0, 0]
def k0_off305 (arg12 : BitVec 32) (arg13 : BitVec 32) : Fin 3 → Nat :=
  let c0_2034 : Index := 0#32
  let c0_2035 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c512_i32_2024 : BitVec 32 := 512#32
  let v3666 : BitVec 32 := Scalar.muli v3585 c512_i32_2024
  let v3667 : BitVec 32 := v3666
  let v3687 : Index := Scalar.indexCast v3667
  ![0, 0, v3687.toNat]
def k0_mult186 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c0_i32_2011 : BitVec 32 := 0#32
  let c1_i32_2010 : BitVec 32 := 1#32
  let v3644 : BitVec 32 := Scalar.addi v3585 c1_i32_2010
  let v3645 : BitVec 32 := Scalar.select v3641 c0_i32_2011 v3644
  let c1_i32_2041 : BitVec 32 := 1#32
  let v3700 : BitVec 32 := Scalar.addi v3645 c1_i32_2041
  let c1_i32_2009 : BitVec 32 := 1#32
  let v3642 : BitVec 32 := Scalar.addi v3583 c1_i32_2009
  let v3643 : BitVec 32 := Scalar.select v3641 v3642 v3583
  let v3701 : BitVec 1 := Scalar.cmpi .eq v3700 v3643
  let c1_i32_2042 : BitVec 32 := 1#32
  let v3702 : BitVec 32 := Scalar.addi v3643 c1_i32_2042
  let v3703 : BitVec 32 := Scalar.select v3701 v3702 v3643
  let c31_i32_2045 : BitVec 32 := 31#32
  let v3706 : BitVec 32 := Scalar.minsi v3703 c31_i32_2045
  let c512_i32_2046 : BitVec 32 := 512#32
  let v3707 : BitVec 32 := Scalar.muli v3706 c512_i32_2046
  v3707
def k0_mult187 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c0_i32_2011 : BitVec 32 := 0#32
  let c1_i32_2010 : BitVec 32 := 1#32
  let v3644 : BitVec 32 := Scalar.addi v3585 c1_i32_2010
  let v3645 : BitVec 32 := Scalar.select v3641 c0_i32_2011 v3644
  let c1_i32_2041 : BitVec 32 := 1#32
  let v3700 : BitVec 32 := Scalar.addi v3645 c1_i32_2041
  let c1_i32_2009 : BitVec 32 := 1#32
  let v3642 : BitVec 32 := Scalar.addi v3583 c1_i32_2009
  let v3643 : BitVec 32 := Scalar.select v3641 v3642 v3583
  let v3701 : BitVec 1 := Scalar.cmpi .eq v3700 v3643
  let c0_i32_2044 : BitVec 32 := 0#32
  let c1_i32_2043 : BitVec 32 := 1#32
  let v3704 : BitVec 32 := Scalar.addi v3645 c1_i32_2043
  let v3705 : BitVec 32 := Scalar.select v3701 c0_i32_2044 v3704
  let c512_i32_2047 : BitVec 32 := 512#32
  let v3709 : BitVec 32 := Scalar.muli v3705 c512_i32_2047
  v3709
def k0_off306 (arg12 : BitVec 32) (arg13 : BitVec 32) : Fin 2 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c0_i32_2011 : BitVec 32 := 0#32
  let c1_i32_2010 : BitVec 32 := 1#32
  let v3644 : BitVec 32 := Scalar.addi v3585 c1_i32_2010
  let v3645 : BitVec 32 := Scalar.select v3641 c0_i32_2011 v3644
  let c1_i32_2041 : BitVec 32 := 1#32
  let v3700 : BitVec 32 := Scalar.addi v3645 c1_i32_2041
  let c1_i32_2009 : BitVec 32 := 1#32
  let v3642 : BitVec 32 := Scalar.addi v3583 c1_i32_2009
  let v3643 : BitVec 32 := Scalar.select v3641 v3642 v3583
  let v3701 : BitVec 1 := Scalar.cmpi .eq v3700 v3643
  let c0_i32_2044 : BitVec 32 := 0#32
  let c1_i32_2043 : BitVec 32 := 1#32
  let v3704 : BitVec 32 := Scalar.addi v3645 c1_i32_2043
  let v3705 : BitVec 32 := Scalar.select v3701 c0_i32_2044 v3704
  let c512_i32_2047 : BitVec 32 := 512#32
  let v3709 : BitVec 32 := Scalar.muli v3705 c512_i32_2047
  let v3710 : BitVec 32 := v3709
  let v3711 : Index := Scalar.indexCast v3710
  let c0_2048 : Index := 0#32
  ![v3711.toNat, 0]
def k0_off307 (arg12 : BitVec 32) (arg13 : BitVec 32) : Fin 3 → Nat :=
  let c0_2049 : Index := 0#32
  let c0_2050 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c0_i32_2011 : BitVec 32 := 0#32
  let c1_i32_2010 : BitVec 32 := 1#32
  let v3644 : BitVec 32 := Scalar.addi v3585 c1_i32_2010
  let v3645 : BitVec 32 := Scalar.select v3641 c0_i32_2011 v3644
  let c1_i32_2041 : BitVec 32 := 1#32
  let v3700 : BitVec 32 := Scalar.addi v3645 c1_i32_2041
  let c1_i32_2009 : BitVec 32 := 1#32
  let v3642 : BitVec 32 := Scalar.addi v3583 c1_i32_2009
  let v3643 : BitVec 32 := Scalar.select v3641 v3642 v3583
  let v3701 : BitVec 1 := Scalar.cmpi .eq v3700 v3643
  let c1_i32_2042 : BitVec 32 := 1#32
  let v3702 : BitVec 32 := Scalar.addi v3643 c1_i32_2042
  let v3703 : BitVec 32 := Scalar.select v3701 v3702 v3643
  let c31_i32_2045 : BitVec 32 := 31#32
  let v3706 : BitVec 32 := Scalar.minsi v3703 c31_i32_2045
  let c512_i32_2046 : BitVec 32 := 512#32
  let v3707 : BitVec 32 := Scalar.muli v3706 c512_i32_2046
  let v3708 : BitVec 32 := v3707
  let v3714 : Index := Scalar.indexCast v3708
  ![0, 0, v3714.toNat]
def k0_mult188 (arg12 : BitVec 32) (arg13 : BitVec 32) : BitVec 32 :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c0_i32_2011 : BitVec 32 := 0#32
  let c1_i32_2010 : BitVec 32 := 1#32
  let v3644 : BitVec 32 := Scalar.addi v3585 c1_i32_2010
  let v3645 : BitVec 32 := Scalar.select v3641 c0_i32_2011 v3644
  let c512_i32_2057 : BitVec 32 := 512#32
  let v3726 : BitVec 32 := Scalar.muli v3645 c512_i32_2057
  v3726
def k0_off308 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c1_i32_2009 : BitVec 32 := 1#32
  let v3642 : BitVec 32 := Scalar.addi v3583 c1_i32_2009
  let v3643 : BitVec 32 := Scalar.select v3641 v3642 v3583
  let v3729 : Index := Scalar.indexCast v3643
  let c0_2060 : Index := 0#32
  let c0_2061 : Index := 0#32
  ![v3729.toNat, 0, 0]
def k0_off309 (arg12 : BitVec 32) (arg13 : BitVec 32) : Fin 3 → Nat :=
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c1_i32_2009 : BitVec 32 := 1#32
  let v3642 : BitVec 32 := Scalar.addi v3583 c1_i32_2009
  let v3643 : BitVec 32 := Scalar.select v3641 v3642 v3583
  let v3742 : Index := Scalar.indexCast v3643
  let c0_2065 : Index := 0#32
  let c0_2066 : Index := 0#32
  ![v3742.toNat, 0, 0]
def k0_off310 (arg12 : BitVec 32) (arg13 : BitVec 32) : Fin 3 → Nat :=
  let c0_2067 : Index := 0#32
  let c0_2068 : Index := 0#32
  let c1_i32_29 : BitVec 32 := 1#32
  let v40 : BitVec 32 := Scalar.addi arg13 c1_i32_29
  let v41 : BitVec 1 := Scalar.cmpi .eq v40 arg12
  let c0_i32_32 : BitVec 32 := 0#32
  let c1_i32_31 : BitVec 32 := 1#32
  let v44 : BitVec 32 := Scalar.addi arg13 c1_i32_31
  let v45 : BitVec 32 := Scalar.select v41 c0_i32_32 v44
  let c1_i32_61 : BitVec 32 := 1#32
  let v100 : BitVec 32 := Scalar.addi v45 c1_i32_61
  let c1_i32_30 : BitVec 32 := 1#32
  let v42 : BitVec 32 := Scalar.addi arg12 c1_i32_30
  let v43 : BitVec 32 := Scalar.select v41 v42 arg12
  let v101 : BitVec 1 := Scalar.cmpi .eq v100 v43
  let c0_i32_64 : BitVec 32 := 0#32
  let c1_i32_63 : BitVec 32 := 1#32
  let v104 : BitVec 32 := Scalar.addi v45 c1_i32_63
  let v105 : BitVec 32 := Scalar.select v101 c0_i32_64 v104
  let c1_i32_94 : BitVec 32 := 1#32
  let v160 : BitVec 32 := Scalar.addi v105 c1_i32_94
  let c1_i32_62 : BitVec 32 := 1#32
  let v102 : BitVec 32 := Scalar.addi v43 c1_i32_62
  let v103 : BitVec 32 := Scalar.select v101 v102 v43
  let v161 : BitVec 1 := Scalar.cmpi .eq v160 v103
  let c0_i32_97 : BitVec 32 := 0#32
  let c1_i32_96 : BitVec 32 := 1#32
  let v164 : BitVec 32 := Scalar.addi v105 c1_i32_96
  let v165 : BitVec 32 := Scalar.select v161 c0_i32_97 v164
  let c1_i32_127 : BitVec 32 := 1#32
  let v220 : BitVec 32 := Scalar.addi v165 c1_i32_127
  let c1_i32_95 : BitVec 32 := 1#32
  let v162 : BitVec 32 := Scalar.addi v103 c1_i32_95
  let v163 : BitVec 32 := Scalar.select v161 v162 v103
  let v221 : BitVec 1 := Scalar.cmpi .eq v220 v163
  let c0_i32_130 : BitVec 32 := 0#32
  let c1_i32_129 : BitVec 32 := 1#32
  let v224 : BitVec 32 := Scalar.addi v165 c1_i32_129
  let v225 : BitVec 32 := Scalar.select v221 c0_i32_130 v224
  let c1_i32_160 : BitVec 32 := 1#32
  let v280 : BitVec 32 := Scalar.addi v225 c1_i32_160
  let c1_i32_128 : BitVec 32 := 1#32
  let v222 : BitVec 32 := Scalar.addi v163 c1_i32_128
  let v223 : BitVec 32 := Scalar.select v221 v222 v163
  let v281 : BitVec 1 := Scalar.cmpi .eq v280 v223
  let c0_i32_163 : BitVec 32 := 0#32
  let c1_i32_162 : BitVec 32 := 1#32
  let v284 : BitVec 32 := Scalar.addi v225 c1_i32_162
  let v285 : BitVec 32 := Scalar.select v281 c0_i32_163 v284
  let c1_i32_193 : BitVec 32 := 1#32
  let v340 : BitVec 32 := Scalar.addi v285 c1_i32_193
  let c1_i32_161 : BitVec 32 := 1#32
  let v282 : BitVec 32 := Scalar.addi v223 c1_i32_161
  let v283 : BitVec 32 := Scalar.select v281 v282 v223
  let v341 : BitVec 1 := Scalar.cmpi .eq v340 v283
  let c0_i32_196 : BitVec 32 := 0#32
  let c1_i32_195 : BitVec 32 := 1#32
  let v344 : BitVec 32 := Scalar.addi v285 c1_i32_195
  let v345 : BitVec 32 := Scalar.select v341 c0_i32_196 v344
  let c1_i32_226 : BitVec 32 := 1#32
  let v400 : BitVec 32 := Scalar.addi v345 c1_i32_226
  let c1_i32_194 : BitVec 32 := 1#32
  let v342 : BitVec 32 := Scalar.addi v283 c1_i32_194
  let v343 : BitVec 32 := Scalar.select v341 v342 v283
  let v401 : BitVec 1 := Scalar.cmpi .eq v400 v343
  let c0_i32_229 : BitVec 32 := 0#32
  let c1_i32_228 : BitVec 32 := 1#32
  let v404 : BitVec 32 := Scalar.addi v345 c1_i32_228
  let v405 : BitVec 32 := Scalar.select v401 c0_i32_229 v404
  let c1_i32_259 : BitVec 32 := 1#32
  let v460 : BitVec 32 := Scalar.addi v405 c1_i32_259
  let c1_i32_227 : BitVec 32 := 1#32
  let v402 : BitVec 32 := Scalar.addi v343 c1_i32_227
  let v403 : BitVec 32 := Scalar.select v401 v402 v343
  let v461 : BitVec 1 := Scalar.cmpi .eq v460 v403
  let c0_i32_262 : BitVec 32 := 0#32
  let c1_i32_261 : BitVec 32 := 1#32
  let v464 : BitVec 32 := Scalar.addi v405 c1_i32_261
  let v465 : BitVec 32 := Scalar.select v461 c0_i32_262 v464
  let c1_i32_292 : BitVec 32 := 1#32
  let v520 : BitVec 32 := Scalar.addi v465 c1_i32_292
  let c1_i32_260 : BitVec 32 := 1#32
  let v462 : BitVec 32 := Scalar.addi v403 c1_i32_260
  let v463 : BitVec 32 := Scalar.select v461 v462 v403
  let v521 : BitVec 1 := Scalar.cmpi .eq v520 v463
  let c0_i32_295 : BitVec 32 := 0#32
  let c1_i32_294 : BitVec 32 := 1#32
  let v524 : BitVec 32 := Scalar.addi v465 c1_i32_294
  let v525 : BitVec 32 := Scalar.select v521 c0_i32_295 v524
  let c1_i32_325 : BitVec 32 := 1#32
  let v580 : BitVec 32 := Scalar.addi v525 c1_i32_325
  let c1_i32_293 : BitVec 32 := 1#32
  let v522 : BitVec 32 := Scalar.addi v463 c1_i32_293
  let v523 : BitVec 32 := Scalar.select v521 v522 v463
  let v581 : BitVec 1 := Scalar.cmpi .eq v580 v523
  let c0_i32_328 : BitVec 32 := 0#32
  let c1_i32_327 : BitVec 32 := 1#32
  let v584 : BitVec 32 := Scalar.addi v525 c1_i32_327
  let v585 : BitVec 32 := Scalar.select v581 c0_i32_328 v584
  let c1_i32_358 : BitVec 32 := 1#32
  let v640 : BitVec 32 := Scalar.addi v585 c1_i32_358
  let c1_i32_326 : BitVec 32 := 1#32
  let v582 : BitVec 32 := Scalar.addi v523 c1_i32_326
  let v583 : BitVec 32 := Scalar.select v581 v582 v523
  let v641 : BitVec 1 := Scalar.cmpi .eq v640 v583
  let c0_i32_361 : BitVec 32 := 0#32
  let c1_i32_360 : BitVec 32 := 1#32
  let v644 : BitVec 32 := Scalar.addi v585 c1_i32_360
  let v645 : BitVec 32 := Scalar.select v641 c0_i32_361 v644
  let c1_i32_391 : BitVec 32 := 1#32
  let v700 : BitVec 32 := Scalar.addi v645 c1_i32_391
  let c1_i32_359 : BitVec 32 := 1#32
  let v642 : BitVec 32 := Scalar.addi v583 c1_i32_359
  let v643 : BitVec 32 := Scalar.select v641 v642 v583
  let v701 : BitVec 1 := Scalar.cmpi .eq v700 v643
  let c0_i32_394 : BitVec 32 := 0#32
  let c1_i32_393 : BitVec 32 := 1#32
  let v704 : BitVec 32 := Scalar.addi v645 c1_i32_393
  let v705 : BitVec 32 := Scalar.select v701 c0_i32_394 v704
  let c1_i32_424 : BitVec 32 := 1#32
  let v760 : BitVec 32 := Scalar.addi v705 c1_i32_424
  let c1_i32_392 : BitVec 32 := 1#32
  let v702 : BitVec 32 := Scalar.addi v643 c1_i32_392
  let v703 : BitVec 32 := Scalar.select v701 v702 v643
  let v761 : BitVec 1 := Scalar.cmpi .eq v760 v703
  let c0_i32_427 : BitVec 32 := 0#32
  let c1_i32_426 : BitVec 32 := 1#32
  let v764 : BitVec 32 := Scalar.addi v705 c1_i32_426
  let v765 : BitVec 32 := Scalar.select v761 c0_i32_427 v764
  let c1_i32_457 : BitVec 32 := 1#32
  let v820 : BitVec 32 := Scalar.addi v765 c1_i32_457
  let c1_i32_425 : BitVec 32 := 1#32
  let v762 : BitVec 32 := Scalar.addi v703 c1_i32_425
  let v763 : BitVec 32 := Scalar.select v761 v762 v703
  let v821 : BitVec 1 := Scalar.cmpi .eq v820 v763
  let c0_i32_460 : BitVec 32 := 0#32
  let c1_i32_459 : BitVec 32 := 1#32
  let v824 : BitVec 32 := Scalar.addi v765 c1_i32_459
  let v825 : BitVec 32 := Scalar.select v821 c0_i32_460 v824
  let c1_i32_490 : BitVec 32 := 1#32
  let v880 : BitVec 32 := Scalar.addi v825 c1_i32_490
  let c1_i32_458 : BitVec 32 := 1#32
  let v822 : BitVec 32 := Scalar.addi v763 c1_i32_458
  let v823 : BitVec 32 := Scalar.select v821 v822 v763
  let v881 : BitVec 1 := Scalar.cmpi .eq v880 v823
  let c0_i32_493 : BitVec 32 := 0#32
  let c1_i32_492 : BitVec 32 := 1#32
  let v884 : BitVec 32 := Scalar.addi v825 c1_i32_492
  let v885 : BitVec 32 := Scalar.select v881 c0_i32_493 v884
  let c1_i32_523 : BitVec 32 := 1#32
  let v940 : BitVec 32 := Scalar.addi v885 c1_i32_523
  let c1_i32_491 : BitVec 32 := 1#32
  let v882 : BitVec 32 := Scalar.addi v823 c1_i32_491
  let v883 : BitVec 32 := Scalar.select v881 v882 v823
  let v941 : BitVec 1 := Scalar.cmpi .eq v940 v883
  let c0_i32_526 : BitVec 32 := 0#32
  let c1_i32_525 : BitVec 32 := 1#32
  let v944 : BitVec 32 := Scalar.addi v885 c1_i32_525
  let v945 : BitVec 32 := Scalar.select v941 c0_i32_526 v944
  let c1_i32_556 : BitVec 32 := 1#32
  let v1000 : BitVec 32 := Scalar.addi v945 c1_i32_556
  let c1_i32_524 : BitVec 32 := 1#32
  let v942 : BitVec 32 := Scalar.addi v883 c1_i32_524
  let v943 : BitVec 32 := Scalar.select v941 v942 v883
  let v1001 : BitVec 1 := Scalar.cmpi .eq v1000 v943
  let c0_i32_559 : BitVec 32 := 0#32
  let c1_i32_558 : BitVec 32 := 1#32
  let v1004 : BitVec 32 := Scalar.addi v945 c1_i32_558
  let v1005 : BitVec 32 := Scalar.select v1001 c0_i32_559 v1004
  let c1_i32_589 : BitVec 32 := 1#32
  let v1060 : BitVec 32 := Scalar.addi v1005 c1_i32_589
  let c1_i32_557 : BitVec 32 := 1#32
  let v1002 : BitVec 32 := Scalar.addi v943 c1_i32_557
  let v1003 : BitVec 32 := Scalar.select v1001 v1002 v943
  let v1061 : BitVec 1 := Scalar.cmpi .eq v1060 v1003
  let c0_i32_592 : BitVec 32 := 0#32
  let c1_i32_591 : BitVec 32 := 1#32
  let v1064 : BitVec 32 := Scalar.addi v1005 c1_i32_591
  let v1065 : BitVec 32 := Scalar.select v1061 c0_i32_592 v1064
  let c1_i32_622 : BitVec 32 := 1#32
  let v1120 : BitVec 32 := Scalar.addi v1065 c1_i32_622
  let c1_i32_590 : BitVec 32 := 1#32
  let v1062 : BitVec 32 := Scalar.addi v1003 c1_i32_590
  let v1063 : BitVec 32 := Scalar.select v1061 v1062 v1003
  let v1121 : BitVec 1 := Scalar.cmpi .eq v1120 v1063
  let c0_i32_625 : BitVec 32 := 0#32
  let c1_i32_624 : BitVec 32 := 1#32
  let v1124 : BitVec 32 := Scalar.addi v1065 c1_i32_624
  let v1125 : BitVec 32 := Scalar.select v1121 c0_i32_625 v1124
  let c1_i32_655 : BitVec 32 := 1#32
  let v1180 : BitVec 32 := Scalar.addi v1125 c1_i32_655
  let c1_i32_623 : BitVec 32 := 1#32
  let v1122 : BitVec 32 := Scalar.addi v1063 c1_i32_623
  let v1123 : BitVec 32 := Scalar.select v1121 v1122 v1063
  let v1181 : BitVec 1 := Scalar.cmpi .eq v1180 v1123
  let c0_i32_658 : BitVec 32 := 0#32
  let c1_i32_657 : BitVec 32 := 1#32
  let v1184 : BitVec 32 := Scalar.addi v1125 c1_i32_657
  let v1185 : BitVec 32 := Scalar.select v1181 c0_i32_658 v1184
  let c1_i32_688 : BitVec 32 := 1#32
  let v1240 : BitVec 32 := Scalar.addi v1185 c1_i32_688
  let c1_i32_656 : BitVec 32 := 1#32
  let v1182 : BitVec 32 := Scalar.addi v1123 c1_i32_656
  let v1183 : BitVec 32 := Scalar.select v1181 v1182 v1123
  let v1241 : BitVec 1 := Scalar.cmpi .eq v1240 v1183
  let c0_i32_691 : BitVec 32 := 0#32
  let c1_i32_690 : BitVec 32 := 1#32
  let v1244 : BitVec 32 := Scalar.addi v1185 c1_i32_690
  let v1245 : BitVec 32 := Scalar.select v1241 c0_i32_691 v1244
  let c1_i32_721 : BitVec 32 := 1#32
  let v1300 : BitVec 32 := Scalar.addi v1245 c1_i32_721
  let c1_i32_689 : BitVec 32 := 1#32
  let v1242 : BitVec 32 := Scalar.addi v1183 c1_i32_689
  let v1243 : BitVec 32 := Scalar.select v1241 v1242 v1183
  let v1301 : BitVec 1 := Scalar.cmpi .eq v1300 v1243
  let c0_i32_724 : BitVec 32 := 0#32
  let c1_i32_723 : BitVec 32 := 1#32
  let v1304 : BitVec 32 := Scalar.addi v1245 c1_i32_723
  let v1305 : BitVec 32 := Scalar.select v1301 c0_i32_724 v1304
  let c1_i32_754 : BitVec 32 := 1#32
  let v1360 : BitVec 32 := Scalar.addi v1305 c1_i32_754
  let c1_i32_722 : BitVec 32 := 1#32
  let v1302 : BitVec 32 := Scalar.addi v1243 c1_i32_722
  let v1303 : BitVec 32 := Scalar.select v1301 v1302 v1243
  let v1361 : BitVec 1 := Scalar.cmpi .eq v1360 v1303
  let c0_i32_757 : BitVec 32 := 0#32
  let c1_i32_756 : BitVec 32 := 1#32
  let v1364 : BitVec 32 := Scalar.addi v1305 c1_i32_756
  let v1365 : BitVec 32 := Scalar.select v1361 c0_i32_757 v1364
  let c1_i32_787 : BitVec 32 := 1#32
  let v1420 : BitVec 32 := Scalar.addi v1365 c1_i32_787
  let c1_i32_755 : BitVec 32 := 1#32
  let v1362 : BitVec 32 := Scalar.addi v1303 c1_i32_755
  let v1363 : BitVec 32 := Scalar.select v1361 v1362 v1303
  let v1421 : BitVec 1 := Scalar.cmpi .eq v1420 v1363
  let c0_i32_790 : BitVec 32 := 0#32
  let c1_i32_789 : BitVec 32 := 1#32
  let v1424 : BitVec 32 := Scalar.addi v1365 c1_i32_789
  let v1425 : BitVec 32 := Scalar.select v1421 c0_i32_790 v1424
  let c1_i32_820 : BitVec 32 := 1#32
  let v1480 : BitVec 32 := Scalar.addi v1425 c1_i32_820
  let c1_i32_788 : BitVec 32 := 1#32
  let v1422 : BitVec 32 := Scalar.addi v1363 c1_i32_788
  let v1423 : BitVec 32 := Scalar.select v1421 v1422 v1363
  let v1481 : BitVec 1 := Scalar.cmpi .eq v1480 v1423
  let c0_i32_823 : BitVec 32 := 0#32
  let c1_i32_822 : BitVec 32 := 1#32
  let v1484 : BitVec 32 := Scalar.addi v1425 c1_i32_822
  let v1485 : BitVec 32 := Scalar.select v1481 c0_i32_823 v1484
  let c1_i32_853 : BitVec 32 := 1#32
  let v1540 : BitVec 32 := Scalar.addi v1485 c1_i32_853
  let c1_i32_821 : BitVec 32 := 1#32
  let v1482 : BitVec 32 := Scalar.addi v1423 c1_i32_821
  let v1483 : BitVec 32 := Scalar.select v1481 v1482 v1423
  let v1541 : BitVec 1 := Scalar.cmpi .eq v1540 v1483
  let c0_i32_856 : BitVec 32 := 0#32
  let c1_i32_855 : BitVec 32 := 1#32
  let v1544 : BitVec 32 := Scalar.addi v1485 c1_i32_855
  let v1545 : BitVec 32 := Scalar.select v1541 c0_i32_856 v1544
  let c1_i32_886 : BitVec 32 := 1#32
  let v1600 : BitVec 32 := Scalar.addi v1545 c1_i32_886
  let c1_i32_854 : BitVec 32 := 1#32
  let v1542 : BitVec 32 := Scalar.addi v1483 c1_i32_854
  let v1543 : BitVec 32 := Scalar.select v1541 v1542 v1483
  let v1601 : BitVec 1 := Scalar.cmpi .eq v1600 v1543
  let c0_i32_889 : BitVec 32 := 0#32
  let c1_i32_888 : BitVec 32 := 1#32
  let v1604 : BitVec 32 := Scalar.addi v1545 c1_i32_888
  let v1605 : BitVec 32 := Scalar.select v1601 c0_i32_889 v1604
  let c1_i32_919 : BitVec 32 := 1#32
  let v1660 : BitVec 32 := Scalar.addi v1605 c1_i32_919
  let c1_i32_887 : BitVec 32 := 1#32
  let v1602 : BitVec 32 := Scalar.addi v1543 c1_i32_887
  let v1603 : BitVec 32 := Scalar.select v1601 v1602 v1543
  let v1661 : BitVec 1 := Scalar.cmpi .eq v1660 v1603
  let c0_i32_922 : BitVec 32 := 0#32
  let c1_i32_921 : BitVec 32 := 1#32
  let v1664 : BitVec 32 := Scalar.addi v1605 c1_i32_921
  let v1665 : BitVec 32 := Scalar.select v1661 c0_i32_922 v1664
  let c1_i32_952 : BitVec 32 := 1#32
  let v1720 : BitVec 32 := Scalar.addi v1665 c1_i32_952
  let c1_i32_920 : BitVec 32 := 1#32
  let v1662 : BitVec 32 := Scalar.addi v1603 c1_i32_920
  let v1663 : BitVec 32 := Scalar.select v1661 v1662 v1603
  let v1721 : BitVec 1 := Scalar.cmpi .eq v1720 v1663
  let c0_i32_955 : BitVec 32 := 0#32
  let c1_i32_954 : BitVec 32 := 1#32
  let v1724 : BitVec 32 := Scalar.addi v1665 c1_i32_954
  let v1725 : BitVec 32 := Scalar.select v1721 c0_i32_955 v1724
  let c1_i32_985 : BitVec 32 := 1#32
  let v1780 : BitVec 32 := Scalar.addi v1725 c1_i32_985
  let c1_i32_953 : BitVec 32 := 1#32
  let v1722 : BitVec 32 := Scalar.addi v1663 c1_i32_953
  let v1723 : BitVec 32 := Scalar.select v1721 v1722 v1663
  let v1781 : BitVec 1 := Scalar.cmpi .eq v1780 v1723
  let c0_i32_988 : BitVec 32 := 0#32
  let c1_i32_987 : BitVec 32 := 1#32
  let v1784 : BitVec 32 := Scalar.addi v1725 c1_i32_987
  let v1785 : BitVec 32 := Scalar.select v1781 c0_i32_988 v1784
  let c1_i32_1018 : BitVec 32 := 1#32
  let v1840 : BitVec 32 := Scalar.addi v1785 c1_i32_1018
  let c1_i32_986 : BitVec 32 := 1#32
  let v1782 : BitVec 32 := Scalar.addi v1723 c1_i32_986
  let v1783 : BitVec 32 := Scalar.select v1781 v1782 v1723
  let v1841 : BitVec 1 := Scalar.cmpi .eq v1840 v1783
  let c0_i32_1021 : BitVec 32 := 0#32
  let c1_i32_1020 : BitVec 32 := 1#32
  let v1844 : BitVec 32 := Scalar.addi v1785 c1_i32_1020
  let v1845 : BitVec 32 := Scalar.select v1841 c0_i32_1021 v1844
  let c1_i32_1051 : BitVec 32 := 1#32
  let v1900 : BitVec 32 := Scalar.addi v1845 c1_i32_1051
  let c1_i32_1019 : BitVec 32 := 1#32
  let v1842 : BitVec 32 := Scalar.addi v1783 c1_i32_1019
  let v1843 : BitVec 32 := Scalar.select v1841 v1842 v1783
  let v1901 : BitVec 1 := Scalar.cmpi .eq v1900 v1843
  let c0_i32_1054 : BitVec 32 := 0#32
  let c1_i32_1053 : BitVec 32 := 1#32
  let v1904 : BitVec 32 := Scalar.addi v1845 c1_i32_1053
  let v1905 : BitVec 32 := Scalar.select v1901 c0_i32_1054 v1904
  let c1_i32_1084 : BitVec 32 := 1#32
  let v1960 : BitVec 32 := Scalar.addi v1905 c1_i32_1084
  let c1_i32_1052 : BitVec 32 := 1#32
  let v1902 : BitVec 32 := Scalar.addi v1843 c1_i32_1052
  let v1903 : BitVec 32 := Scalar.select v1901 v1902 v1843
  let v1961 : BitVec 1 := Scalar.cmpi .eq v1960 v1903
  let c0_i32_1087 : BitVec 32 := 0#32
  let c1_i32_1086 : BitVec 32 := 1#32
  let v1964 : BitVec 32 := Scalar.addi v1905 c1_i32_1086
  let v1965 : BitVec 32 := Scalar.select v1961 c0_i32_1087 v1964
  let c1_i32_1117 : BitVec 32 := 1#32
  let v2020 : BitVec 32 := Scalar.addi v1965 c1_i32_1117
  let c1_i32_1085 : BitVec 32 := 1#32
  let v1962 : BitVec 32 := Scalar.addi v1903 c1_i32_1085
  let v1963 : BitVec 32 := Scalar.select v1961 v1962 v1903
  let v2021 : BitVec 1 := Scalar.cmpi .eq v2020 v1963
  let c0_i32_1120 : BitVec 32 := 0#32
  let c1_i32_1119 : BitVec 32 := 1#32
  let v2024 : BitVec 32 := Scalar.addi v1965 c1_i32_1119
  let v2025 : BitVec 32 := Scalar.select v2021 c0_i32_1120 v2024
  let c1_i32_1150 : BitVec 32 := 1#32
  let v2080 : BitVec 32 := Scalar.addi v2025 c1_i32_1150
  let c1_i32_1118 : BitVec 32 := 1#32
  let v2022 : BitVec 32 := Scalar.addi v1963 c1_i32_1118
  let v2023 : BitVec 32 := Scalar.select v2021 v2022 v1963
  let v2081 : BitVec 1 := Scalar.cmpi .eq v2080 v2023
  let c0_i32_1153 : BitVec 32 := 0#32
  let c1_i32_1152 : BitVec 32 := 1#32
  let v2084 : BitVec 32 := Scalar.addi v2025 c1_i32_1152
  let v2085 : BitVec 32 := Scalar.select v2081 c0_i32_1153 v2084
  let c1_i32_1183 : BitVec 32 := 1#32
  let v2140 : BitVec 32 := Scalar.addi v2085 c1_i32_1183
  let c1_i32_1151 : BitVec 32 := 1#32
  let v2082 : BitVec 32 := Scalar.addi v2023 c1_i32_1151
  let v2083 : BitVec 32 := Scalar.select v2081 v2082 v2023
  let v2141 : BitVec 1 := Scalar.cmpi .eq v2140 v2083
  let c0_i32_1186 : BitVec 32 := 0#32
  let c1_i32_1185 : BitVec 32 := 1#32
  let v2144 : BitVec 32 := Scalar.addi v2085 c1_i32_1185
  let v2145 : BitVec 32 := Scalar.select v2141 c0_i32_1186 v2144
  let c1_i32_1216 : BitVec 32 := 1#32
  let v2200 : BitVec 32 := Scalar.addi v2145 c1_i32_1216
  let c1_i32_1184 : BitVec 32 := 1#32
  let v2142 : BitVec 32 := Scalar.addi v2083 c1_i32_1184
  let v2143 : BitVec 32 := Scalar.select v2141 v2142 v2083
  let v2201 : BitVec 1 := Scalar.cmpi .eq v2200 v2143
  let c0_i32_1219 : BitVec 32 := 0#32
  let c1_i32_1218 : BitVec 32 := 1#32
  let v2204 : BitVec 32 := Scalar.addi v2145 c1_i32_1218
  let v2205 : BitVec 32 := Scalar.select v2201 c0_i32_1219 v2204
  let c1_i32_1249 : BitVec 32 := 1#32
  let v2260 : BitVec 32 := Scalar.addi v2205 c1_i32_1249
  let c1_i32_1217 : BitVec 32 := 1#32
  let v2202 : BitVec 32 := Scalar.addi v2143 c1_i32_1217
  let v2203 : BitVec 32 := Scalar.select v2201 v2202 v2143
  let v2261 : BitVec 1 := Scalar.cmpi .eq v2260 v2203
  let c0_i32_1252 : BitVec 32 := 0#32
  let c1_i32_1251 : BitVec 32 := 1#32
  let v2264 : BitVec 32 := Scalar.addi v2205 c1_i32_1251
  let v2265 : BitVec 32 := Scalar.select v2261 c0_i32_1252 v2264
  let c1_i32_1282 : BitVec 32 := 1#32
  let v2320 : BitVec 32 := Scalar.addi v2265 c1_i32_1282
  let c1_i32_1250 : BitVec 32 := 1#32
  let v2262 : BitVec 32 := Scalar.addi v2203 c1_i32_1250
  let v2263 : BitVec 32 := Scalar.select v2261 v2262 v2203
  let v2321 : BitVec 1 := Scalar.cmpi .eq v2320 v2263
  let c0_i32_1285 : BitVec 32 := 0#32
  let c1_i32_1284 : BitVec 32 := 1#32
  let v2324 : BitVec 32 := Scalar.addi v2265 c1_i32_1284
  let v2325 : BitVec 32 := Scalar.select v2321 c0_i32_1285 v2324
  let c1_i32_1315 : BitVec 32 := 1#32
  let v2380 : BitVec 32 := Scalar.addi v2325 c1_i32_1315
  let c1_i32_1283 : BitVec 32 := 1#32
  let v2322 : BitVec 32 := Scalar.addi v2263 c1_i32_1283
  let v2323 : BitVec 32 := Scalar.select v2321 v2322 v2263
  let v2381 : BitVec 1 := Scalar.cmpi .eq v2380 v2323
  let c0_i32_1318 : BitVec 32 := 0#32
  let c1_i32_1317 : BitVec 32 := 1#32
  let v2384 : BitVec 32 := Scalar.addi v2325 c1_i32_1317
  let v2385 : BitVec 32 := Scalar.select v2381 c0_i32_1318 v2384
  let c1_i32_1348 : BitVec 32 := 1#32
  let v2440 : BitVec 32 := Scalar.addi v2385 c1_i32_1348
  let c1_i32_1316 : BitVec 32 := 1#32
  let v2382 : BitVec 32 := Scalar.addi v2323 c1_i32_1316
  let v2383 : BitVec 32 := Scalar.select v2381 v2382 v2323
  let v2441 : BitVec 1 := Scalar.cmpi .eq v2440 v2383
  let c0_i32_1351 : BitVec 32 := 0#32
  let c1_i32_1350 : BitVec 32 := 1#32
  let v2444 : BitVec 32 := Scalar.addi v2385 c1_i32_1350
  let v2445 : BitVec 32 := Scalar.select v2441 c0_i32_1351 v2444
  let c1_i32_1381 : BitVec 32 := 1#32
  let v2500 : BitVec 32 := Scalar.addi v2445 c1_i32_1381
  let c1_i32_1349 : BitVec 32 := 1#32
  let v2442 : BitVec 32 := Scalar.addi v2383 c1_i32_1349
  let v2443 : BitVec 32 := Scalar.select v2441 v2442 v2383
  let v2501 : BitVec 1 := Scalar.cmpi .eq v2500 v2443
  let c0_i32_1384 : BitVec 32 := 0#32
  let c1_i32_1383 : BitVec 32 := 1#32
  let v2504 : BitVec 32 := Scalar.addi v2445 c1_i32_1383
  let v2505 : BitVec 32 := Scalar.select v2501 c0_i32_1384 v2504
  let c1_i32_1414 : BitVec 32 := 1#32
  let v2560 : BitVec 32 := Scalar.addi v2505 c1_i32_1414
  let c1_i32_1382 : BitVec 32 := 1#32
  let v2502 : BitVec 32 := Scalar.addi v2443 c1_i32_1382
  let v2503 : BitVec 32 := Scalar.select v2501 v2502 v2443
  let v2561 : BitVec 1 := Scalar.cmpi .eq v2560 v2503
  let c0_i32_1417 : BitVec 32 := 0#32
  let c1_i32_1416 : BitVec 32 := 1#32
  let v2564 : BitVec 32 := Scalar.addi v2505 c1_i32_1416
  let v2565 : BitVec 32 := Scalar.select v2561 c0_i32_1417 v2564
  let c1_i32_1447 : BitVec 32 := 1#32
  let v2620 : BitVec 32 := Scalar.addi v2565 c1_i32_1447
  let c1_i32_1415 : BitVec 32 := 1#32
  let v2562 : BitVec 32 := Scalar.addi v2503 c1_i32_1415
  let v2563 : BitVec 32 := Scalar.select v2561 v2562 v2503
  let v2621 : BitVec 1 := Scalar.cmpi .eq v2620 v2563
  let c0_i32_1450 : BitVec 32 := 0#32
  let c1_i32_1449 : BitVec 32 := 1#32
  let v2624 : BitVec 32 := Scalar.addi v2565 c1_i32_1449
  let v2625 : BitVec 32 := Scalar.select v2621 c0_i32_1450 v2624
  let c1_i32_1480 : BitVec 32 := 1#32
  let v2680 : BitVec 32 := Scalar.addi v2625 c1_i32_1480
  let c1_i32_1448 : BitVec 32 := 1#32
  let v2622 : BitVec 32 := Scalar.addi v2563 c1_i32_1448
  let v2623 : BitVec 32 := Scalar.select v2621 v2622 v2563
  let v2681 : BitVec 1 := Scalar.cmpi .eq v2680 v2623
  let c0_i32_1483 : BitVec 32 := 0#32
  let c1_i32_1482 : BitVec 32 := 1#32
  let v2684 : BitVec 32 := Scalar.addi v2625 c1_i32_1482
  let v2685 : BitVec 32 := Scalar.select v2681 c0_i32_1483 v2684
  let c1_i32_1513 : BitVec 32 := 1#32
  let v2740 : BitVec 32 := Scalar.addi v2685 c1_i32_1513
  let c1_i32_1481 : BitVec 32 := 1#32
  let v2682 : BitVec 32 := Scalar.addi v2623 c1_i32_1481
  let v2683 : BitVec 32 := Scalar.select v2681 v2682 v2623
  let v2741 : BitVec 1 := Scalar.cmpi .eq v2740 v2683
  let c0_i32_1516 : BitVec 32 := 0#32
  let c1_i32_1515 : BitVec 32 := 1#32
  let v2744 : BitVec 32 := Scalar.addi v2685 c1_i32_1515
  let v2745 : BitVec 32 := Scalar.select v2741 c0_i32_1516 v2744
  let c1_i32_1546 : BitVec 32 := 1#32
  let v2800 : BitVec 32 := Scalar.addi v2745 c1_i32_1546
  let c1_i32_1514 : BitVec 32 := 1#32
  let v2742 : BitVec 32 := Scalar.addi v2683 c1_i32_1514
  let v2743 : BitVec 32 := Scalar.select v2741 v2742 v2683
  let v2801 : BitVec 1 := Scalar.cmpi .eq v2800 v2743
  let c0_i32_1549 : BitVec 32 := 0#32
  let c1_i32_1548 : BitVec 32 := 1#32
  let v2804 : BitVec 32 := Scalar.addi v2745 c1_i32_1548
  let v2805 : BitVec 32 := Scalar.select v2801 c0_i32_1549 v2804
  let c1_i32_1579 : BitVec 32 := 1#32
  let v2860 : BitVec 32 := Scalar.addi v2805 c1_i32_1579
  let c1_i32_1547 : BitVec 32 := 1#32
  let v2802 : BitVec 32 := Scalar.addi v2743 c1_i32_1547
  let v2803 : BitVec 32 := Scalar.select v2801 v2802 v2743
  let v2861 : BitVec 1 := Scalar.cmpi .eq v2860 v2803
  let c0_i32_1582 : BitVec 32 := 0#32
  let c1_i32_1581 : BitVec 32 := 1#32
  let v2864 : BitVec 32 := Scalar.addi v2805 c1_i32_1581
  let v2865 : BitVec 32 := Scalar.select v2861 c0_i32_1582 v2864
  let c1_i32_1612 : BitVec 32 := 1#32
  let v2920 : BitVec 32 := Scalar.addi v2865 c1_i32_1612
  let c1_i32_1580 : BitVec 32 := 1#32
  let v2862 : BitVec 32 := Scalar.addi v2803 c1_i32_1580
  let v2863 : BitVec 32 := Scalar.select v2861 v2862 v2803
  let v2921 : BitVec 1 := Scalar.cmpi .eq v2920 v2863
  let c0_i32_1615 : BitVec 32 := 0#32
  let c1_i32_1614 : BitVec 32 := 1#32
  let v2924 : BitVec 32 := Scalar.addi v2865 c1_i32_1614
  let v2925 : BitVec 32 := Scalar.select v2921 c0_i32_1615 v2924
  let c1_i32_1645 : BitVec 32 := 1#32
  let v2980 : BitVec 32 := Scalar.addi v2925 c1_i32_1645
  let c1_i32_1613 : BitVec 32 := 1#32
  let v2922 : BitVec 32 := Scalar.addi v2863 c1_i32_1613
  let v2923 : BitVec 32 := Scalar.select v2921 v2922 v2863
  let v2981 : BitVec 1 := Scalar.cmpi .eq v2980 v2923
  let c0_i32_1648 : BitVec 32 := 0#32
  let c1_i32_1647 : BitVec 32 := 1#32
  let v2984 : BitVec 32 := Scalar.addi v2925 c1_i32_1647
  let v2985 : BitVec 32 := Scalar.select v2981 c0_i32_1648 v2984
  let c1_i32_1678 : BitVec 32 := 1#32
  let v3040 : BitVec 32 := Scalar.addi v2985 c1_i32_1678
  let c1_i32_1646 : BitVec 32 := 1#32
  let v2982 : BitVec 32 := Scalar.addi v2923 c1_i32_1646
  let v2983 : BitVec 32 := Scalar.select v2981 v2982 v2923
  let v3041 : BitVec 1 := Scalar.cmpi .eq v3040 v2983
  let c0_i32_1681 : BitVec 32 := 0#32
  let c1_i32_1680 : BitVec 32 := 1#32
  let v3044 : BitVec 32 := Scalar.addi v2985 c1_i32_1680
  let v3045 : BitVec 32 := Scalar.select v3041 c0_i32_1681 v3044
  let c1_i32_1711 : BitVec 32 := 1#32
  let v3100 : BitVec 32 := Scalar.addi v3045 c1_i32_1711
  let c1_i32_1679 : BitVec 32 := 1#32
  let v3042 : BitVec 32 := Scalar.addi v2983 c1_i32_1679
  let v3043 : BitVec 32 := Scalar.select v3041 v3042 v2983
  let v3101 : BitVec 1 := Scalar.cmpi .eq v3100 v3043
  let c0_i32_1714 : BitVec 32 := 0#32
  let c1_i32_1713 : BitVec 32 := 1#32
  let v3104 : BitVec 32 := Scalar.addi v3045 c1_i32_1713
  let v3105 : BitVec 32 := Scalar.select v3101 c0_i32_1714 v3104
  let c1_i32_1744 : BitVec 32 := 1#32
  let v3160 : BitVec 32 := Scalar.addi v3105 c1_i32_1744
  let c1_i32_1712 : BitVec 32 := 1#32
  let v3102 : BitVec 32 := Scalar.addi v3043 c1_i32_1712
  let v3103 : BitVec 32 := Scalar.select v3101 v3102 v3043
  let v3161 : BitVec 1 := Scalar.cmpi .eq v3160 v3103
  let c0_i32_1747 : BitVec 32 := 0#32
  let c1_i32_1746 : BitVec 32 := 1#32
  let v3164 : BitVec 32 := Scalar.addi v3105 c1_i32_1746
  let v3165 : BitVec 32 := Scalar.select v3161 c0_i32_1747 v3164
  let c1_i32_1777 : BitVec 32 := 1#32
  let v3220 : BitVec 32 := Scalar.addi v3165 c1_i32_1777
  let c1_i32_1745 : BitVec 32 := 1#32
  let v3162 : BitVec 32 := Scalar.addi v3103 c1_i32_1745
  let v3163 : BitVec 32 := Scalar.select v3161 v3162 v3103
  let v3221 : BitVec 1 := Scalar.cmpi .eq v3220 v3163
  let c0_i32_1780 : BitVec 32 := 0#32
  let c1_i32_1779 : BitVec 32 := 1#32
  let v3224 : BitVec 32 := Scalar.addi v3165 c1_i32_1779
  let v3225 : BitVec 32 := Scalar.select v3221 c0_i32_1780 v3224
  let c1_i32_1810 : BitVec 32 := 1#32
  let v3280 : BitVec 32 := Scalar.addi v3225 c1_i32_1810
  let c1_i32_1778 : BitVec 32 := 1#32
  let v3222 : BitVec 32 := Scalar.addi v3163 c1_i32_1778
  let v3223 : BitVec 32 := Scalar.select v3221 v3222 v3163
  let v3281 : BitVec 1 := Scalar.cmpi .eq v3280 v3223
  let c0_i32_1813 : BitVec 32 := 0#32
  let c1_i32_1812 : BitVec 32 := 1#32
  let v3284 : BitVec 32 := Scalar.addi v3225 c1_i32_1812
  let v3285 : BitVec 32 := Scalar.select v3281 c0_i32_1813 v3284
  let c1_i32_1843 : BitVec 32 := 1#32
  let v3340 : BitVec 32 := Scalar.addi v3285 c1_i32_1843
  let c1_i32_1811 : BitVec 32 := 1#32
  let v3282 : BitVec 32 := Scalar.addi v3223 c1_i32_1811
  let v3283 : BitVec 32 := Scalar.select v3281 v3282 v3223
  let v3341 : BitVec 1 := Scalar.cmpi .eq v3340 v3283
  let c0_i32_1846 : BitVec 32 := 0#32
  let c1_i32_1845 : BitVec 32 := 1#32
  let v3344 : BitVec 32 := Scalar.addi v3285 c1_i32_1845
  let v3345 : BitVec 32 := Scalar.select v3341 c0_i32_1846 v3344
  let c1_i32_1876 : BitVec 32 := 1#32
  let v3400 : BitVec 32 := Scalar.addi v3345 c1_i32_1876
  let c1_i32_1844 : BitVec 32 := 1#32
  let v3342 : BitVec 32 := Scalar.addi v3283 c1_i32_1844
  let v3343 : BitVec 32 := Scalar.select v3341 v3342 v3283
  let v3401 : BitVec 1 := Scalar.cmpi .eq v3400 v3343
  let c0_i32_1879 : BitVec 32 := 0#32
  let c1_i32_1878 : BitVec 32 := 1#32
  let v3404 : BitVec 32 := Scalar.addi v3345 c1_i32_1878
  let v3405 : BitVec 32 := Scalar.select v3401 c0_i32_1879 v3404
  let c1_i32_1909 : BitVec 32 := 1#32
  let v3460 : BitVec 32 := Scalar.addi v3405 c1_i32_1909
  let c1_i32_1877 : BitVec 32 := 1#32
  let v3402 : BitVec 32 := Scalar.addi v3343 c1_i32_1877
  let v3403 : BitVec 32 := Scalar.select v3401 v3402 v3343
  let v3461 : BitVec 1 := Scalar.cmpi .eq v3460 v3403
  let c0_i32_1912 : BitVec 32 := 0#32
  let c1_i32_1911 : BitVec 32 := 1#32
  let v3464 : BitVec 32 := Scalar.addi v3405 c1_i32_1911
  let v3465 : BitVec 32 := Scalar.select v3461 c0_i32_1912 v3464
  let c1_i32_1942 : BitVec 32 := 1#32
  let v3520 : BitVec 32 := Scalar.addi v3465 c1_i32_1942
  let c1_i32_1910 : BitVec 32 := 1#32
  let v3462 : BitVec 32 := Scalar.addi v3403 c1_i32_1910
  let v3463 : BitVec 32 := Scalar.select v3461 v3462 v3403
  let v3521 : BitVec 1 := Scalar.cmpi .eq v3520 v3463
  let c0_i32_1945 : BitVec 32 := 0#32
  let c1_i32_1944 : BitVec 32 := 1#32
  let v3524 : BitVec 32 := Scalar.addi v3465 c1_i32_1944
  let v3525 : BitVec 32 := Scalar.select v3521 c0_i32_1945 v3524
  let c1_i32_1975 : BitVec 32 := 1#32
  let v3580 : BitVec 32 := Scalar.addi v3525 c1_i32_1975
  let c1_i32_1943 : BitVec 32 := 1#32
  let v3522 : BitVec 32 := Scalar.addi v3463 c1_i32_1943
  let v3523 : BitVec 32 := Scalar.select v3521 v3522 v3463
  let v3581 : BitVec 1 := Scalar.cmpi .eq v3580 v3523
  let c0_i32_1978 : BitVec 32 := 0#32
  let c1_i32_1977 : BitVec 32 := 1#32
  let v3584 : BitVec 32 := Scalar.addi v3525 c1_i32_1977
  let v3585 : BitVec 32 := Scalar.select v3581 c0_i32_1978 v3584
  let c1_i32_2008 : BitVec 32 := 1#32
  let v3640 : BitVec 32 := Scalar.addi v3585 c1_i32_2008
  let c1_i32_1976 : BitVec 32 := 1#32
  let v3582 : BitVec 32 := Scalar.addi v3523 c1_i32_1976
  let v3583 : BitVec 32 := Scalar.select v3581 v3582 v3523
  let v3641 : BitVec 1 := Scalar.cmpi .eq v3640 v3583
  let c0_i32_2011 : BitVec 32 := 0#32
  let c1_i32_2010 : BitVec 32 := 1#32
  let v3644 : BitVec 32 := Scalar.addi v3585 c1_i32_2010
  let v3645 : BitVec 32 := Scalar.select v3641 c0_i32_2011 v3644
  let c512_i32_2057 : BitVec 32 := 512#32
  let v3726 : BitVec 32 := Scalar.muli v3645 c512_i32_2057
  let v3727 : BitVec 32 := v3726
  let v3747 : Index := Scalar.indexCast v3727
  ![0, 0, v3747.toNat]

def k0_chk1_0 (arg12 : BitVec 32) (arg13 : BitVec 32) : Prop :=
  (512 ∣ (k0_mult3 arg12 arg13).toNat) ∧
  (512 ∣ (k0_mult4 arg12 arg13).toNat) ∧
  (∀ a, (k0_off1 arg12 arg13) a + S512x192.size a ≤ S16384x256.size a) ∧
  (∀ a, (k0_off2 arg12 arg13) a + S1x192x512.size a ≤ S1x192x16384.size a) ∧
  (512 ∣ (k0_mult5 arg13).toNat) ∧
  (∀ a, (k0_off5 arg13) a + S1x144x512.size a ≤ S1x144x16384.size a) ∧
  (512 ∣ (k0_mult6 arg12 arg13).toNat) ∧
  (512 ∣ (k0_mult7 arg12 arg13).toNat) ∧
  (∀ a, (k0_off6 arg12 arg13) a + S512x192.size a ≤ S16384x256.size a) ∧
  (∀ a, (k0_off7 arg12 arg13) a + S1x192x512.size a ≤ S1x192x16384.size a) ∧
  (512 ∣ (k0_mult8 arg12 arg13).toNat) ∧
  (∀ a, (k0_off8 arg12 arg13) a + S1x1x512.size a ≤ S32x1x512.size a) ∧
  (∀ a, (k0_off9 arg12 arg13) a + S1x144x512.size a ≤ S32x144x512.size a) ∧
  (∀ a, (k0_off10 arg12 arg13) a + S1x144x512.size a ≤ S1x144x16384.size a) ∧
  (512 ∣ (k0_mult9 arg12 arg13).toNat) ∧
  (512 ∣ (k0_mult10 arg12 arg13).toNat) ∧
  (∀ a, (k0_off11 arg12 arg13) a + S512x192.size a ≤ S16384x256.size a) ∧
  (∀ a, (k0_off12 arg12 arg13) a + S1x192x512.size a ≤ S1x192x16384.size a) ∧
  (512 ∣ (k0_mult11 arg12 arg13).toNat) ∧
  (∀ a, (k0_off13 arg12 arg13) a + S1x1x512.size a ≤ S32x1x512.size a) ∧
  (∀ a, (k0_off14 arg12 arg13) a + S1x144x512.size a ≤ S32x144x512.size a) ∧
  (∀ a, (k0_off15 arg12 arg13) a + S1x144x512.size a ≤ S1x144x16384.size a) ∧
  (512 ∣ (k0_mult12 arg12 arg13).toNat) ∧
  (512 ∣ (k0_mult13 arg12 arg13).toNat) ∧
  (∀ a, (k0_off16 arg12 arg13) a + S512x192.size a ≤ S16384x256.size a) ∧
  (∀ a, (k0_off17 arg12 arg13) a + S1x192x512.size a ≤ S1x192x16384.size a) ∧
  (512 ∣ (k0_mult14 arg12 arg13).toNat) ∧
  (∀ a, (k0_off18 arg12 arg13) a + S1x1x512.size a ≤ S32x1x512.size a) ∧
  (∀ a, (k0_off19 arg12 arg13) a + S1x144x512.size a ≤ S32x144x512.size a) ∧
  (∀ a, (k0_off20 arg12 arg13) a + S1x144x512.size a ≤ S1x144x16384.size a) ∧
  (512 ∣ (k0_mult15 arg12 arg13).toNat) ∧
  (512 ∣ (k0_mult16 arg12 arg13).toNat)
def k0_chk1_1 (arg12 : BitVec 32) (arg13 : BitVec 32) : Prop :=
  (∀ a, (k0_off21 arg12 arg13) a + S512x192.size a ≤ S16384x256.size a) ∧
  (∀ a, (k0_off22 arg12 arg13) a + S1x192x512.size a ≤ S1x192x16384.size a) ∧
  (512 ∣ (k0_mult17 arg12 arg13).toNat) ∧
  (∀ a, (k0_off23 arg12 arg13) a + S1x1x512.size a ≤ S32x1x512.size a) ∧
  (∀ a, (k0_off24 arg12 arg13) a + S1x144x512.size a ≤ S32x144x512.size a) ∧
  (∀ a, (k0_off25 arg12 arg13) a + S1x144x512.size a ≤ S1x144x16384.size a) ∧
  (512 ∣ (k0_mult18 arg12 arg13).toNat) ∧
  (512 ∣ (k0_mult19 arg12 arg13).toNat) ∧
  (∀ a, (k0_off26 arg12 arg13) a + S512x192.size a ≤ S16384x256.size a) ∧
  (∀ a, (k0_off27 arg12 arg13) a + S1x192x512.size a ≤ S1x192x16384.size a) ∧
  (512 ∣ (k0_mult20 arg12 arg13).toNat) ∧
  (∀ a, (k0_off28 arg12 arg13) a + S1x1x512.size a ≤ S32x1x512.size a) ∧
  (∀ a, (k0_off29 arg12 arg13) a + S1x144x512.size a ≤ S32x144x512.size a) ∧
  (∀ a, (k0_off30 arg12 arg13) a + S1x144x512.size a ≤ S1x144x16384.size a) ∧
  (512 ∣ (k0_mult21 arg12 arg13).toNat) ∧
  (512 ∣ (k0_mult22 arg12 arg13).toNat) ∧
  (∀ a, (k0_off31 arg12 arg13) a + S512x192.size a ≤ S16384x256.size a) ∧
  (∀ a, (k0_off32 arg12 arg13) a + S1x192x512.size a ≤ S1x192x16384.size a) ∧
  (512 ∣ (k0_mult23 arg12 arg13).toNat) ∧
  (∀ a, (k0_off33 arg12 arg13) a + S1x1x512.size a ≤ S32x1x512.size a) ∧
  (∀ a, (k0_off34 arg12 arg13) a + S1x144x512.size a ≤ S32x144x512.size a) ∧
  (∀ a, (k0_off35 arg12 arg13) a + S1x144x512.size a ≤ S1x144x16384.size a) ∧
  (512 ∣ (k0_mult24 arg12 arg13).toNat) ∧
  (512 ∣ (k0_mult25 arg12 arg13).toNat) ∧
  (∀ a, (k0_off36 arg12 arg13) a + S512x192.size a ≤ S16384x256.size a) ∧
  (∀ a, (k0_off37 arg12 arg13) a + S1x192x512.size a ≤ S1x192x16384.size a) ∧
  (512 ∣ (k0_mult26 arg12 arg13).toNat) ∧
  (∀ a, (k0_off38 arg12 arg13) a + S1x1x512.size a ≤ S32x1x512.size a) ∧
  (∀ a, (k0_off39 arg12 arg13) a + S1x144x512.size a ≤ S32x144x512.size a) ∧
  (∀ a, (k0_off40 arg12 arg13) a + S1x144x512.size a ≤ S1x144x16384.size a) ∧
  (512 ∣ (k0_mult27 arg12 arg13).toNat) ∧
  (512 ∣ (k0_mult28 arg12 arg13).toNat)
def k0_chk1_2 (arg12 : BitVec 32) (arg13 : BitVec 32) : Prop :=
  (∀ a, (k0_off41 arg12 arg13) a + S512x192.size a ≤ S16384x256.size a) ∧
  (∀ a, (k0_off42 arg12 arg13) a + S1x192x512.size a ≤ S1x192x16384.size a) ∧
  (512 ∣ (k0_mult29 arg12 arg13).toNat) ∧
  (∀ a, (k0_off43 arg12 arg13) a + S1x1x512.size a ≤ S32x1x512.size a) ∧
  (∀ a, (k0_off44 arg12 arg13) a + S1x144x512.size a ≤ S32x144x512.size a) ∧
  (∀ a, (k0_off45 arg12 arg13) a + S1x144x512.size a ≤ S1x144x16384.size a) ∧
  (512 ∣ (k0_mult30 arg12 arg13).toNat) ∧
  (512 ∣ (k0_mult31 arg12 arg13).toNat) ∧
  (∀ a, (k0_off46 arg12 arg13) a + S512x192.size a ≤ S16384x256.size a) ∧
  (∀ a, (k0_off47 arg12 arg13) a + S1x192x512.size a ≤ S1x192x16384.size a) ∧
  (512 ∣ (k0_mult32 arg12 arg13).toNat) ∧
  (∀ a, (k0_off48 arg12 arg13) a + S1x1x512.size a ≤ S32x1x512.size a) ∧
  (∀ a, (k0_off49 arg12 arg13) a + S1x144x512.size a ≤ S32x144x512.size a) ∧
  (∀ a, (k0_off50 arg12 arg13) a + S1x144x512.size a ≤ S1x144x16384.size a) ∧
  (512 ∣ (k0_mult33 arg12 arg13).toNat) ∧
  (512 ∣ (k0_mult34 arg12 arg13).toNat) ∧
  (∀ a, (k0_off51 arg12 arg13) a + S512x192.size a ≤ S16384x256.size a) ∧
  (∀ a, (k0_off52 arg12 arg13) a + S1x192x512.size a ≤ S1x192x16384.size a) ∧
  (512 ∣ (k0_mult35 arg12 arg13).toNat) ∧
  (∀ a, (k0_off53 arg12 arg13) a + S1x1x512.size a ≤ S32x1x512.size a) ∧
  (∀ a, (k0_off54 arg12 arg13) a + S1x144x512.size a ≤ S32x144x512.size a) ∧
  (∀ a, (k0_off55 arg12 arg13) a + S1x144x512.size a ≤ S1x144x16384.size a) ∧
  (512 ∣ (k0_mult36 arg12 arg13).toNat) ∧
  (512 ∣ (k0_mult37 arg12 arg13).toNat) ∧
  (∀ a, (k0_off56 arg12 arg13) a + S512x192.size a ≤ S16384x256.size a) ∧
  (∀ a, (k0_off57 arg12 arg13) a + S1x192x512.size a ≤ S1x192x16384.size a) ∧
  (512 ∣ (k0_mult38 arg12 arg13).toNat) ∧
  (∀ a, (k0_off58 arg12 arg13) a + S1x1x512.size a ≤ S32x1x512.size a) ∧
  (∀ a, (k0_off59 arg12 arg13) a + S1x144x512.size a ≤ S32x144x512.size a) ∧
  (∀ a, (k0_off60 arg12 arg13) a + S1x144x512.size a ≤ S1x144x16384.size a) ∧
  (512 ∣ (k0_mult39 arg12 arg13).toNat) ∧
  (512 ∣ (k0_mult40 arg12 arg13).toNat)
def k0_chk1_3 (arg12 : BitVec 32) (arg13 : BitVec 32) : Prop :=
  (∀ a, (k0_off61 arg12 arg13) a + S512x192.size a ≤ S16384x256.size a) ∧
  (∀ a, (k0_off62 arg12 arg13) a + S1x192x512.size a ≤ S1x192x16384.size a) ∧
  (512 ∣ (k0_mult41 arg12 arg13).toNat) ∧
  (∀ a, (k0_off63 arg12 arg13) a + S1x1x512.size a ≤ S32x1x512.size a) ∧
  (∀ a, (k0_off64 arg12 arg13) a + S1x144x512.size a ≤ S32x144x512.size a) ∧
  (∀ a, (k0_off65 arg12 arg13) a + S1x144x512.size a ≤ S1x144x16384.size a) ∧
  (512 ∣ (k0_mult42 arg12 arg13).toNat) ∧
  (512 ∣ (k0_mult43 arg12 arg13).toNat) ∧
  (∀ a, (k0_off66 arg12 arg13) a + S512x192.size a ≤ S16384x256.size a) ∧
  (∀ a, (k0_off67 arg12 arg13) a + S1x192x512.size a ≤ S1x192x16384.size a) ∧
  (512 ∣ (k0_mult44 arg12 arg13).toNat) ∧
  (∀ a, (k0_off68 arg12 arg13) a + S1x1x512.size a ≤ S32x1x512.size a) ∧
  (∀ a, (k0_off69 arg12 arg13) a + S1x144x512.size a ≤ S32x144x512.size a) ∧
  (∀ a, (k0_off70 arg12 arg13) a + S1x144x512.size a ≤ S1x144x16384.size a) ∧
  (512 ∣ (k0_mult45 arg12 arg13).toNat) ∧
  (512 ∣ (k0_mult46 arg12 arg13).toNat) ∧
  (∀ a, (k0_off71 arg12 arg13) a + S512x192.size a ≤ S16384x256.size a) ∧
  (∀ a, (k0_off72 arg12 arg13) a + S1x192x512.size a ≤ S1x192x16384.size a) ∧
  (512 ∣ (k0_mult47 arg12 arg13).toNat) ∧
  (∀ a, (k0_off73 arg12 arg13) a + S1x1x512.size a ≤ S32x1x512.size a) ∧
  (∀ a, (k0_off74 arg12 arg13) a + S1x144x512.size a ≤ S32x144x512.size a) ∧
  (∀ a, (k0_off75 arg12 arg13) a + S1x144x512.size a ≤ S1x144x16384.size a) ∧
  (512 ∣ (k0_mult48 arg12 arg13).toNat) ∧
  (512 ∣ (k0_mult49 arg12 arg13).toNat) ∧
  (∀ a, (k0_off76 arg12 arg13) a + S512x192.size a ≤ S16384x256.size a) ∧
  (∀ a, (k0_off77 arg12 arg13) a + S1x192x512.size a ≤ S1x192x16384.size a) ∧
  (512 ∣ (k0_mult50 arg12 arg13).toNat) ∧
  (∀ a, (k0_off78 arg12 arg13) a + S1x1x512.size a ≤ S32x1x512.size a) ∧
  (∀ a, (k0_off79 arg12 arg13) a + S1x144x512.size a ≤ S32x144x512.size a) ∧
  (∀ a, (k0_off80 arg12 arg13) a + S1x144x512.size a ≤ S1x144x16384.size a) ∧
  (512 ∣ (k0_mult51 arg12 arg13).toNat) ∧
  (512 ∣ (k0_mult52 arg12 arg13).toNat)
def k0_chk1_4 (arg12 : BitVec 32) (arg13 : BitVec 32) : Prop :=
  (∀ a, (k0_off81 arg12 arg13) a + S512x192.size a ≤ S16384x256.size a) ∧
  (∀ a, (k0_off82 arg12 arg13) a + S1x192x512.size a ≤ S1x192x16384.size a) ∧
  (512 ∣ (k0_mult53 arg12 arg13).toNat) ∧
  (∀ a, (k0_off83 arg12 arg13) a + S1x1x512.size a ≤ S32x1x512.size a) ∧
  (∀ a, (k0_off84 arg12 arg13) a + S1x144x512.size a ≤ S32x144x512.size a) ∧
  (∀ a, (k0_off85 arg12 arg13) a + S1x144x512.size a ≤ S1x144x16384.size a) ∧
  (512 ∣ (k0_mult54 arg12 arg13).toNat) ∧
  (512 ∣ (k0_mult55 arg12 arg13).toNat) ∧
  (∀ a, (k0_off86 arg12 arg13) a + S512x192.size a ≤ S16384x256.size a) ∧
  (∀ a, (k0_off87 arg12 arg13) a + S1x192x512.size a ≤ S1x192x16384.size a) ∧
  (512 ∣ (k0_mult56 arg12 arg13).toNat) ∧
  (∀ a, (k0_off88 arg12 arg13) a + S1x1x512.size a ≤ S32x1x512.size a) ∧
  (∀ a, (k0_off89 arg12 arg13) a + S1x144x512.size a ≤ S32x144x512.size a) ∧
  (∀ a, (k0_off90 arg12 arg13) a + S1x144x512.size a ≤ S1x144x16384.size a) ∧
  (512 ∣ (k0_mult57 arg12 arg13).toNat) ∧
  (512 ∣ (k0_mult58 arg12 arg13).toNat) ∧
  (∀ a, (k0_off91 arg12 arg13) a + S512x192.size a ≤ S16384x256.size a) ∧
  (∀ a, (k0_off92 arg12 arg13) a + S1x192x512.size a ≤ S1x192x16384.size a) ∧
  (512 ∣ (k0_mult59 arg12 arg13).toNat) ∧
  (∀ a, (k0_off93 arg12 arg13) a + S1x1x512.size a ≤ S32x1x512.size a) ∧
  (∀ a, (k0_off94 arg12 arg13) a + S1x144x512.size a ≤ S32x144x512.size a) ∧
  (∀ a, (k0_off95 arg12 arg13) a + S1x144x512.size a ≤ S1x144x16384.size a) ∧
  (512 ∣ (k0_mult60 arg12 arg13).toNat) ∧
  (512 ∣ (k0_mult61 arg12 arg13).toNat) ∧
  (∀ a, (k0_off96 arg12 arg13) a + S512x192.size a ≤ S16384x256.size a) ∧
  (∀ a, (k0_off97 arg12 arg13) a + S1x192x512.size a ≤ S1x192x16384.size a) ∧
  (512 ∣ (k0_mult62 arg12 arg13).toNat) ∧
  (∀ a, (k0_off98 arg12 arg13) a + S1x1x512.size a ≤ S32x1x512.size a) ∧
  (∀ a, (k0_off99 arg12 arg13) a + S1x144x512.size a ≤ S32x144x512.size a) ∧
  (∀ a, (k0_off100 arg12 arg13) a + S1x144x512.size a ≤ S1x144x16384.size a) ∧
  (512 ∣ (k0_mult63 arg12 arg13).toNat) ∧
  (512 ∣ (k0_mult64 arg12 arg13).toNat)
def k0_chk1_5 (arg12 : BitVec 32) (arg13 : BitVec 32) : Prop :=
  (∀ a, (k0_off101 arg12 arg13) a + S512x192.size a ≤ S16384x256.size a) ∧
  (∀ a, (k0_off102 arg12 arg13) a + S1x192x512.size a ≤ S1x192x16384.size a) ∧
  (512 ∣ (k0_mult65 arg12 arg13).toNat) ∧
  (∀ a, (k0_off103 arg12 arg13) a + S1x1x512.size a ≤ S32x1x512.size a) ∧
  (∀ a, (k0_off104 arg12 arg13) a + S1x144x512.size a ≤ S32x144x512.size a) ∧
  (∀ a, (k0_off105 arg12 arg13) a + S1x144x512.size a ≤ S1x144x16384.size a) ∧
  (512 ∣ (k0_mult66 arg12 arg13).toNat) ∧
  (512 ∣ (k0_mult67 arg12 arg13).toNat) ∧
  (∀ a, (k0_off106 arg12 arg13) a + S512x192.size a ≤ S16384x256.size a) ∧
  (∀ a, (k0_off107 arg12 arg13) a + S1x192x512.size a ≤ S1x192x16384.size a) ∧
  (512 ∣ (k0_mult68 arg12 arg13).toNat) ∧
  (∀ a, (k0_off108 arg12 arg13) a + S1x1x512.size a ≤ S32x1x512.size a) ∧
  (∀ a, (k0_off109 arg12 arg13) a + S1x144x512.size a ≤ S32x144x512.size a) ∧
  (∀ a, (k0_off110 arg12 arg13) a + S1x144x512.size a ≤ S1x144x16384.size a) ∧
  (512 ∣ (k0_mult69 arg12 arg13).toNat) ∧
  (512 ∣ (k0_mult70 arg12 arg13).toNat) ∧
  (∀ a, (k0_off111 arg12 arg13) a + S512x192.size a ≤ S16384x256.size a) ∧
  (∀ a, (k0_off112 arg12 arg13) a + S1x192x512.size a ≤ S1x192x16384.size a) ∧
  (512 ∣ (k0_mult71 arg12 arg13).toNat) ∧
  (∀ a, (k0_off113 arg12 arg13) a + S1x1x512.size a ≤ S32x1x512.size a) ∧
  (∀ a, (k0_off114 arg12 arg13) a + S1x144x512.size a ≤ S32x144x512.size a) ∧
  (∀ a, (k0_off115 arg12 arg13) a + S1x144x512.size a ≤ S1x144x16384.size a) ∧
  (512 ∣ (k0_mult72 arg12 arg13).toNat) ∧
  (512 ∣ (k0_mult73 arg12 arg13).toNat) ∧
  (∀ a, (k0_off116 arg12 arg13) a + S512x192.size a ≤ S16384x256.size a) ∧
  (∀ a, (k0_off117 arg12 arg13) a + S1x192x512.size a ≤ S1x192x16384.size a) ∧
  (512 ∣ (k0_mult74 arg12 arg13).toNat) ∧
  (∀ a, (k0_off118 arg12 arg13) a + S1x1x512.size a ≤ S32x1x512.size a) ∧
  (∀ a, (k0_off119 arg12 arg13) a + S1x144x512.size a ≤ S32x144x512.size a) ∧
  (∀ a, (k0_off120 arg12 arg13) a + S1x144x512.size a ≤ S1x144x16384.size a) ∧
  (512 ∣ (k0_mult75 arg12 arg13).toNat) ∧
  (512 ∣ (k0_mult76 arg12 arg13).toNat)
def k0_chk1_6 (arg12 : BitVec 32) (arg13 : BitVec 32) : Prop :=
  (∀ a, (k0_off121 arg12 arg13) a + S512x192.size a ≤ S16384x256.size a) ∧
  (∀ a, (k0_off122 arg12 arg13) a + S1x192x512.size a ≤ S1x192x16384.size a) ∧
  (512 ∣ (k0_mult77 arg12 arg13).toNat) ∧
  (∀ a, (k0_off123 arg12 arg13) a + S1x1x512.size a ≤ S32x1x512.size a) ∧
  (∀ a, (k0_off124 arg12 arg13) a + S1x144x512.size a ≤ S32x144x512.size a) ∧
  (∀ a, (k0_off125 arg12 arg13) a + S1x144x512.size a ≤ S1x144x16384.size a) ∧
  (512 ∣ (k0_mult78 arg12 arg13).toNat) ∧
  (512 ∣ (k0_mult79 arg12 arg13).toNat) ∧
  (∀ a, (k0_off126 arg12 arg13) a + S512x192.size a ≤ S16384x256.size a) ∧
  (∀ a, (k0_off127 arg12 arg13) a + S1x192x512.size a ≤ S1x192x16384.size a) ∧
  (512 ∣ (k0_mult80 arg12 arg13).toNat) ∧
  (∀ a, (k0_off128 arg12 arg13) a + S1x1x512.size a ≤ S32x1x512.size a) ∧
  (∀ a, (k0_off129 arg12 arg13) a + S1x144x512.size a ≤ S32x144x512.size a) ∧
  (∀ a, (k0_off130 arg12 arg13) a + S1x144x512.size a ≤ S1x144x16384.size a) ∧
  (512 ∣ (k0_mult81 arg12 arg13).toNat) ∧
  (512 ∣ (k0_mult82 arg12 arg13).toNat) ∧
  (∀ a, (k0_off131 arg12 arg13) a + S512x192.size a ≤ S16384x256.size a) ∧
  (∀ a, (k0_off132 arg12 arg13) a + S1x192x512.size a ≤ S1x192x16384.size a) ∧
  (512 ∣ (k0_mult83 arg12 arg13).toNat) ∧
  (∀ a, (k0_off133 arg12 arg13) a + S1x1x512.size a ≤ S32x1x512.size a) ∧
  (∀ a, (k0_off134 arg12 arg13) a + S1x144x512.size a ≤ S32x144x512.size a) ∧
  (∀ a, (k0_off135 arg12 arg13) a + S1x144x512.size a ≤ S1x144x16384.size a) ∧
  (512 ∣ (k0_mult84 arg12 arg13).toNat) ∧
  (512 ∣ (k0_mult85 arg12 arg13).toNat) ∧
  (∀ a, (k0_off136 arg12 arg13) a + S512x192.size a ≤ S16384x256.size a) ∧
  (∀ a, (k0_off137 arg12 arg13) a + S1x192x512.size a ≤ S1x192x16384.size a) ∧
  (512 ∣ (k0_mult86 arg12 arg13).toNat) ∧
  (∀ a, (k0_off138 arg12 arg13) a + S1x1x512.size a ≤ S32x1x512.size a) ∧
  (∀ a, (k0_off139 arg12 arg13) a + S1x144x512.size a ≤ S32x144x512.size a) ∧
  (∀ a, (k0_off140 arg12 arg13) a + S1x144x512.size a ≤ S1x144x16384.size a) ∧
  (512 ∣ (k0_mult87 arg12 arg13).toNat) ∧
  (512 ∣ (k0_mult88 arg12 arg13).toNat)
def k0_chk1_7 (arg12 : BitVec 32) (arg13 : BitVec 32) : Prop :=
  (∀ a, (k0_off141 arg12 arg13) a + S512x192.size a ≤ S16384x256.size a) ∧
  (∀ a, (k0_off142 arg12 arg13) a + S1x192x512.size a ≤ S1x192x16384.size a) ∧
  (512 ∣ (k0_mult89 arg12 arg13).toNat) ∧
  (∀ a, (k0_off143 arg12 arg13) a + S1x1x512.size a ≤ S32x1x512.size a) ∧
  (∀ a, (k0_off144 arg12 arg13) a + S1x144x512.size a ≤ S32x144x512.size a) ∧
  (∀ a, (k0_off145 arg12 arg13) a + S1x144x512.size a ≤ S1x144x16384.size a) ∧
  (512 ∣ (k0_mult90 arg12 arg13).toNat) ∧
  (512 ∣ (k0_mult91 arg12 arg13).toNat) ∧
  (∀ a, (k0_off146 arg12 arg13) a + S512x192.size a ≤ S16384x256.size a) ∧
  (∀ a, (k0_off147 arg12 arg13) a + S1x192x512.size a ≤ S1x192x16384.size a) ∧
  (512 ∣ (k0_mult92 arg12 arg13).toNat) ∧
  (∀ a, (k0_off148 arg12 arg13) a + S1x1x512.size a ≤ S32x1x512.size a) ∧
  (∀ a, (k0_off149 arg12 arg13) a + S1x144x512.size a ≤ S32x144x512.size a) ∧
  (∀ a, (k0_off150 arg12 arg13) a + S1x144x512.size a ≤ S1x144x16384.size a) ∧
  (512 ∣ (k0_mult93 arg12 arg13).toNat) ∧
  (512 ∣ (k0_mult94 arg12 arg13).toNat) ∧
  (∀ a, (k0_off151 arg12 arg13) a + S512x192.size a ≤ S16384x256.size a) ∧
  (∀ a, (k0_off152 arg12 arg13) a + S1x192x512.size a ≤ S1x192x16384.size a) ∧
  (512 ∣ (k0_mult95 arg12 arg13).toNat) ∧
  (∀ a, (k0_off153 arg12 arg13) a + S1x1x512.size a ≤ S32x1x512.size a) ∧
  (∀ a, (k0_off154 arg12 arg13) a + S1x144x512.size a ≤ S32x144x512.size a) ∧
  (∀ a, (k0_off155 arg12 arg13) a + S1x144x512.size a ≤ S1x144x16384.size a) ∧
  (512 ∣ (k0_mult96 arg12 arg13).toNat) ∧
  (512 ∣ (k0_mult97 arg12 arg13).toNat) ∧
  (∀ a, (k0_off156 arg12 arg13) a + S512x192.size a ≤ S16384x256.size a) ∧
  (∀ a, (k0_off157 arg12 arg13) a + S1x192x512.size a ≤ S1x192x16384.size a) ∧
  (512 ∣ (k0_mult98 arg12 arg13).toNat) ∧
  (∀ a, (k0_off158 arg12 arg13) a + S1x1x512.size a ≤ S32x1x512.size a) ∧
  (∀ a, (k0_off159 arg12 arg13) a + S1x144x512.size a ≤ S32x144x512.size a) ∧
  (∀ a, (k0_off160 arg12 arg13) a + S1x144x512.size a ≤ S1x144x16384.size a) ∧
  (512 ∣ (k0_mult99 arg12 arg13).toNat) ∧
  (512 ∣ (k0_mult100 arg12 arg13).toNat)
def k0_chk1_8 (arg12 : BitVec 32) (arg13 : BitVec 32) : Prop :=
  (∀ a, (k0_off161 arg12 arg13) a + S512x192.size a ≤ S16384x256.size a) ∧
  (∀ a, (k0_off162 arg12 arg13) a + S1x192x512.size a ≤ S1x192x16384.size a) ∧
  (512 ∣ (k0_mult101 arg12 arg13).toNat) ∧
  (∀ a, (k0_off163 arg12 arg13) a + S1x1x512.size a ≤ S32x1x512.size a) ∧
  (∀ a, (k0_off164 arg12 arg13) a + S1x144x512.size a ≤ S32x144x512.size a) ∧
  (∀ a, (k0_off165 arg12 arg13) a + S1x144x512.size a ≤ S1x144x16384.size a) ∧
  (512 ∣ (k0_mult102 arg12 arg13).toNat) ∧
  (512 ∣ (k0_mult103 arg12 arg13).toNat) ∧
  (∀ a, (k0_off166 arg12 arg13) a + S512x192.size a ≤ S16384x256.size a) ∧
  (∀ a, (k0_off167 arg12 arg13) a + S1x192x512.size a ≤ S1x192x16384.size a) ∧
  (512 ∣ (k0_mult104 arg12 arg13).toNat) ∧
  (∀ a, (k0_off168 arg12 arg13) a + S1x1x512.size a ≤ S32x1x512.size a) ∧
  (∀ a, (k0_off169 arg12 arg13) a + S1x144x512.size a ≤ S32x144x512.size a) ∧
  (∀ a, (k0_off170 arg12 arg13) a + S1x144x512.size a ≤ S1x144x16384.size a) ∧
  (512 ∣ (k0_mult105 arg12 arg13).toNat) ∧
  (512 ∣ (k0_mult106 arg12 arg13).toNat) ∧
  (∀ a, (k0_off171 arg12 arg13) a + S512x192.size a ≤ S16384x256.size a) ∧
  (∀ a, (k0_off172 arg12 arg13) a + S1x192x512.size a ≤ S1x192x16384.size a) ∧
  (512 ∣ (k0_mult107 arg12 arg13).toNat) ∧
  (∀ a, (k0_off173 arg12 arg13) a + S1x1x512.size a ≤ S32x1x512.size a) ∧
  (∀ a, (k0_off174 arg12 arg13) a + S1x144x512.size a ≤ S32x144x512.size a) ∧
  (∀ a, (k0_off175 arg12 arg13) a + S1x144x512.size a ≤ S1x144x16384.size a) ∧
  (512 ∣ (k0_mult108 arg12 arg13).toNat) ∧
  (512 ∣ (k0_mult109 arg12 arg13).toNat) ∧
  (∀ a, (k0_off176 arg12 arg13) a + S512x192.size a ≤ S16384x256.size a) ∧
  (∀ a, (k0_off177 arg12 arg13) a + S1x192x512.size a ≤ S1x192x16384.size a) ∧
  (512 ∣ (k0_mult110 arg12 arg13).toNat) ∧
  (∀ a, (k0_off178 arg12 arg13) a + S1x1x512.size a ≤ S32x1x512.size a) ∧
  (∀ a, (k0_off179 arg12 arg13) a + S1x144x512.size a ≤ S32x144x512.size a) ∧
  (∀ a, (k0_off180 arg12 arg13) a + S1x144x512.size a ≤ S1x144x16384.size a) ∧
  (512 ∣ (k0_mult111 arg12 arg13).toNat) ∧
  (512 ∣ (k0_mult112 arg12 arg13).toNat)
def k0_chk1_9 (arg12 : BitVec 32) (arg13 : BitVec 32) : Prop :=
  (∀ a, (k0_off181 arg12 arg13) a + S512x192.size a ≤ S16384x256.size a) ∧
  (∀ a, (k0_off182 arg12 arg13) a + S1x192x512.size a ≤ S1x192x16384.size a) ∧
  (512 ∣ (k0_mult113 arg12 arg13).toNat) ∧
  (∀ a, (k0_off183 arg12 arg13) a + S1x1x512.size a ≤ S32x1x512.size a) ∧
  (∀ a, (k0_off184 arg12 arg13) a + S1x144x512.size a ≤ S32x144x512.size a) ∧
  (∀ a, (k0_off185 arg12 arg13) a + S1x144x512.size a ≤ S1x144x16384.size a) ∧
  (512 ∣ (k0_mult114 arg12 arg13).toNat) ∧
  (512 ∣ (k0_mult115 arg12 arg13).toNat) ∧
  (∀ a, (k0_off186 arg12 arg13) a + S512x192.size a ≤ S16384x256.size a) ∧
  (∀ a, (k0_off187 arg12 arg13) a + S1x192x512.size a ≤ S1x192x16384.size a) ∧
  (512 ∣ (k0_mult116 arg12 arg13).toNat) ∧
  (∀ a, (k0_off188 arg12 arg13) a + S1x1x512.size a ≤ S32x1x512.size a) ∧
  (∀ a, (k0_off189 arg12 arg13) a + S1x144x512.size a ≤ S32x144x512.size a) ∧
  (∀ a, (k0_off190 arg12 arg13) a + S1x144x512.size a ≤ S1x144x16384.size a) ∧
  (512 ∣ (k0_mult117 arg12 arg13).toNat) ∧
  (512 ∣ (k0_mult118 arg12 arg13).toNat) ∧
  (∀ a, (k0_off191 arg12 arg13) a + S512x192.size a ≤ S16384x256.size a) ∧
  (∀ a, (k0_off192 arg12 arg13) a + S1x192x512.size a ≤ S1x192x16384.size a) ∧
  (512 ∣ (k0_mult119 arg12 arg13).toNat) ∧
  (∀ a, (k0_off193 arg12 arg13) a + S1x1x512.size a ≤ S32x1x512.size a) ∧
  (∀ a, (k0_off194 arg12 arg13) a + S1x144x512.size a ≤ S32x144x512.size a) ∧
  (∀ a, (k0_off195 arg12 arg13) a + S1x144x512.size a ≤ S1x144x16384.size a) ∧
  (512 ∣ (k0_mult120 arg12 arg13).toNat) ∧
  (512 ∣ (k0_mult121 arg12 arg13).toNat) ∧
  (∀ a, (k0_off196 arg12 arg13) a + S512x192.size a ≤ S16384x256.size a) ∧
  (∀ a, (k0_off197 arg12 arg13) a + S1x192x512.size a ≤ S1x192x16384.size a) ∧
  (512 ∣ (k0_mult122 arg12 arg13).toNat) ∧
  (∀ a, (k0_off198 arg12 arg13) a + S1x1x512.size a ≤ S32x1x512.size a) ∧
  (∀ a, (k0_off199 arg12 arg13) a + S1x144x512.size a ≤ S32x144x512.size a) ∧
  (∀ a, (k0_off200 arg12 arg13) a + S1x144x512.size a ≤ S1x144x16384.size a) ∧
  (512 ∣ (k0_mult123 arg12 arg13).toNat) ∧
  (512 ∣ (k0_mult124 arg12 arg13).toNat)
def k0_chk1_10 (arg12 : BitVec 32) (arg13 : BitVec 32) : Prop :=
  (∀ a, (k0_off201 arg12 arg13) a + S512x192.size a ≤ S16384x256.size a) ∧
  (∀ a, (k0_off202 arg12 arg13) a + S1x192x512.size a ≤ S1x192x16384.size a) ∧
  (512 ∣ (k0_mult125 arg12 arg13).toNat) ∧
  (∀ a, (k0_off203 arg12 arg13) a + S1x1x512.size a ≤ S32x1x512.size a) ∧
  (∀ a, (k0_off204 arg12 arg13) a + S1x144x512.size a ≤ S32x144x512.size a) ∧
  (∀ a, (k0_off205 arg12 arg13) a + S1x144x512.size a ≤ S1x144x16384.size a) ∧
  (512 ∣ (k0_mult126 arg12 arg13).toNat) ∧
  (512 ∣ (k0_mult127 arg12 arg13).toNat) ∧
  (∀ a, (k0_off206 arg12 arg13) a + S512x192.size a ≤ S16384x256.size a) ∧
  (∀ a, (k0_off207 arg12 arg13) a + S1x192x512.size a ≤ S1x192x16384.size a) ∧
  (512 ∣ (k0_mult128 arg12 arg13).toNat) ∧
  (∀ a, (k0_off208 arg12 arg13) a + S1x1x512.size a ≤ S32x1x512.size a) ∧
  (∀ a, (k0_off209 arg12 arg13) a + S1x144x512.size a ≤ S32x144x512.size a) ∧
  (∀ a, (k0_off210 arg12 arg13) a + S1x144x512.size a ≤ S1x144x16384.size a) ∧
  (512 ∣ (k0_mult129 arg12 arg13).toNat) ∧
  (512 ∣ (k0_mult130 arg12 arg13).toNat) ∧
  (∀ a, (k0_off211 arg12 arg13) a + S512x192.size a ≤ S16384x256.size a) ∧
  (∀ a, (k0_off212 arg12 arg13) a + S1x192x512.size a ≤ S1x192x16384.size a) ∧
  (512 ∣ (k0_mult131 arg12 arg13).toNat) ∧
  (∀ a, (k0_off213 arg12 arg13) a + S1x1x512.size a ≤ S32x1x512.size a) ∧
  (∀ a, (k0_off214 arg12 arg13) a + S1x144x512.size a ≤ S32x144x512.size a) ∧
  (∀ a, (k0_off215 arg12 arg13) a + S1x144x512.size a ≤ S1x144x16384.size a) ∧
  (512 ∣ (k0_mult132 arg12 arg13).toNat) ∧
  (512 ∣ (k0_mult133 arg12 arg13).toNat) ∧
  (∀ a, (k0_off216 arg12 arg13) a + S512x192.size a ≤ S16384x256.size a) ∧
  (∀ a, (k0_off217 arg12 arg13) a + S1x192x512.size a ≤ S1x192x16384.size a) ∧
  (512 ∣ (k0_mult134 arg12 arg13).toNat) ∧
  (∀ a, (k0_off218 arg12 arg13) a + S1x1x512.size a ≤ S32x1x512.size a) ∧
  (∀ a, (k0_off219 arg12 arg13) a + S1x144x512.size a ≤ S32x144x512.size a) ∧
  (∀ a, (k0_off220 arg12 arg13) a + S1x144x512.size a ≤ S1x144x16384.size a) ∧
  (512 ∣ (k0_mult135 arg12 arg13).toNat) ∧
  (512 ∣ (k0_mult136 arg12 arg13).toNat)
def k0_chk1_11 (arg12 : BitVec 32) (arg13 : BitVec 32) : Prop :=
  (∀ a, (k0_off221 arg12 arg13) a + S512x192.size a ≤ S16384x256.size a) ∧
  (∀ a, (k0_off222 arg12 arg13) a + S1x192x512.size a ≤ S1x192x16384.size a) ∧
  (512 ∣ (k0_mult137 arg12 arg13).toNat) ∧
  (∀ a, (k0_off223 arg12 arg13) a + S1x1x512.size a ≤ S32x1x512.size a) ∧
  (∀ a, (k0_off224 arg12 arg13) a + S1x144x512.size a ≤ S32x144x512.size a) ∧
  (∀ a, (k0_off225 arg12 arg13) a + S1x144x512.size a ≤ S1x144x16384.size a) ∧
  (512 ∣ (k0_mult138 arg12 arg13).toNat) ∧
  (512 ∣ (k0_mult139 arg12 arg13).toNat) ∧
  (∀ a, (k0_off226 arg12 arg13) a + S512x192.size a ≤ S16384x256.size a) ∧
  (∀ a, (k0_off227 arg12 arg13) a + S1x192x512.size a ≤ S1x192x16384.size a) ∧
  (512 ∣ (k0_mult140 arg12 arg13).toNat) ∧
  (∀ a, (k0_off228 arg12 arg13) a + S1x1x512.size a ≤ S32x1x512.size a) ∧
  (∀ a, (k0_off229 arg12 arg13) a + S1x144x512.size a ≤ S32x144x512.size a) ∧
  (∀ a, (k0_off230 arg12 arg13) a + S1x144x512.size a ≤ S1x144x16384.size a) ∧
  (512 ∣ (k0_mult141 arg12 arg13).toNat) ∧
  (512 ∣ (k0_mult142 arg12 arg13).toNat) ∧
  (∀ a, (k0_off231 arg12 arg13) a + S512x192.size a ≤ S16384x256.size a) ∧
  (∀ a, (k0_off232 arg12 arg13) a + S1x192x512.size a ≤ S1x192x16384.size a) ∧
  (512 ∣ (k0_mult143 arg12 arg13).toNat) ∧
  (∀ a, (k0_off233 arg12 arg13) a + S1x1x512.size a ≤ S32x1x512.size a) ∧
  (∀ a, (k0_off234 arg12 arg13) a + S1x144x512.size a ≤ S32x144x512.size a) ∧
  (∀ a, (k0_off235 arg12 arg13) a + S1x144x512.size a ≤ S1x144x16384.size a) ∧
  (512 ∣ (k0_mult144 arg12 arg13).toNat) ∧
  (512 ∣ (k0_mult145 arg12 arg13).toNat) ∧
  (∀ a, (k0_off236 arg12 arg13) a + S512x192.size a ≤ S16384x256.size a) ∧
  (∀ a, (k0_off237 arg12 arg13) a + S1x192x512.size a ≤ S1x192x16384.size a) ∧
  (512 ∣ (k0_mult146 arg12 arg13).toNat) ∧
  (∀ a, (k0_off238 arg12 arg13) a + S1x1x512.size a ≤ S32x1x512.size a) ∧
  (∀ a, (k0_off239 arg12 arg13) a + S1x144x512.size a ≤ S32x144x512.size a) ∧
  (∀ a, (k0_off240 arg12 arg13) a + S1x144x512.size a ≤ S1x144x16384.size a) ∧
  (512 ∣ (k0_mult147 arg12 arg13).toNat) ∧
  (512 ∣ (k0_mult148 arg12 arg13).toNat)
def k0_chk1_12 (arg12 : BitVec 32) (arg13 : BitVec 32) : Prop :=
  (∀ a, (k0_off241 arg12 arg13) a + S512x192.size a ≤ S16384x256.size a) ∧
  (∀ a, (k0_off242 arg12 arg13) a + S1x192x512.size a ≤ S1x192x16384.size a) ∧
  (512 ∣ (k0_mult149 arg12 arg13).toNat) ∧
  (∀ a, (k0_off243 arg12 arg13) a + S1x1x512.size a ≤ S32x1x512.size a) ∧
  (∀ a, (k0_off244 arg12 arg13) a + S1x144x512.size a ≤ S32x144x512.size a) ∧
  (∀ a, (k0_off245 arg12 arg13) a + S1x144x512.size a ≤ S1x144x16384.size a) ∧
  (512 ∣ (k0_mult150 arg12 arg13).toNat) ∧
  (512 ∣ (k0_mult151 arg12 arg13).toNat) ∧
  (∀ a, (k0_off246 arg12 arg13) a + S512x192.size a ≤ S16384x256.size a) ∧
  (∀ a, (k0_off247 arg12 arg13) a + S1x192x512.size a ≤ S1x192x16384.size a) ∧
  (512 ∣ (k0_mult152 arg12 arg13).toNat) ∧
  (∀ a, (k0_off248 arg12 arg13) a + S1x1x512.size a ≤ S32x1x512.size a) ∧
  (∀ a, (k0_off249 arg12 arg13) a + S1x144x512.size a ≤ S32x144x512.size a) ∧
  (∀ a, (k0_off250 arg12 arg13) a + S1x144x512.size a ≤ S1x144x16384.size a) ∧
  (512 ∣ (k0_mult153 arg12 arg13).toNat) ∧
  (512 ∣ (k0_mult154 arg12 arg13).toNat) ∧
  (∀ a, (k0_off251 arg12 arg13) a + S512x192.size a ≤ S16384x256.size a) ∧
  (∀ a, (k0_off252 arg12 arg13) a + S1x192x512.size a ≤ S1x192x16384.size a) ∧
  (512 ∣ (k0_mult155 arg12 arg13).toNat) ∧
  (∀ a, (k0_off253 arg12 arg13) a + S1x1x512.size a ≤ S32x1x512.size a) ∧
  (∀ a, (k0_off254 arg12 arg13) a + S1x144x512.size a ≤ S32x144x512.size a) ∧
  (∀ a, (k0_off255 arg12 arg13) a + S1x144x512.size a ≤ S1x144x16384.size a) ∧
  (512 ∣ (k0_mult156 arg12 arg13).toNat) ∧
  (512 ∣ (k0_mult157 arg12 arg13).toNat) ∧
  (∀ a, (k0_off256 arg12 arg13) a + S512x192.size a ≤ S16384x256.size a) ∧
  (∀ a, (k0_off257 arg12 arg13) a + S1x192x512.size a ≤ S1x192x16384.size a) ∧
  (512 ∣ (k0_mult158 arg12 arg13).toNat) ∧
  (∀ a, (k0_off258 arg12 arg13) a + S1x1x512.size a ≤ S32x1x512.size a) ∧
  (∀ a, (k0_off259 arg12 arg13) a + S1x144x512.size a ≤ S32x144x512.size a) ∧
  (∀ a, (k0_off260 arg12 arg13) a + S1x144x512.size a ≤ S1x144x16384.size a) ∧
  (512 ∣ (k0_mult159 arg12 arg13).toNat) ∧
  (512 ∣ (k0_mult160 arg12 arg13).toNat)
def k0_chk1_13 (arg12 : BitVec 32) (arg13 : BitVec 32) : Prop :=
  (∀ a, (k0_off261 arg12 arg13) a + S512x192.size a ≤ S16384x256.size a) ∧
  (∀ a, (k0_off262 arg12 arg13) a + S1x192x512.size a ≤ S1x192x16384.size a) ∧
  (512 ∣ (k0_mult161 arg12 arg13).toNat) ∧
  (∀ a, (k0_off263 arg12 arg13) a + S1x1x512.size a ≤ S32x1x512.size a) ∧
  (∀ a, (k0_off264 arg12 arg13) a + S1x144x512.size a ≤ S32x144x512.size a) ∧
  (∀ a, (k0_off265 arg12 arg13) a + S1x144x512.size a ≤ S1x144x16384.size a) ∧
  (512 ∣ (k0_mult162 arg12 arg13).toNat) ∧
  (512 ∣ (k0_mult163 arg12 arg13).toNat) ∧
  (∀ a, (k0_off266 arg12 arg13) a + S512x192.size a ≤ S16384x256.size a) ∧
  (∀ a, (k0_off267 arg12 arg13) a + S1x192x512.size a ≤ S1x192x16384.size a) ∧
  (512 ∣ (k0_mult164 arg12 arg13).toNat) ∧
  (∀ a, (k0_off268 arg12 arg13) a + S1x1x512.size a ≤ S32x1x512.size a) ∧
  (∀ a, (k0_off269 arg12 arg13) a + S1x144x512.size a ≤ S32x144x512.size a) ∧
  (∀ a, (k0_off270 arg12 arg13) a + S1x144x512.size a ≤ S1x144x16384.size a) ∧
  (512 ∣ (k0_mult165 arg12 arg13).toNat) ∧
  (512 ∣ (k0_mult166 arg12 arg13).toNat) ∧
  (∀ a, (k0_off271 arg12 arg13) a + S512x192.size a ≤ S16384x256.size a) ∧
  (∀ a, (k0_off272 arg12 arg13) a + S1x192x512.size a ≤ S1x192x16384.size a) ∧
  (512 ∣ (k0_mult167 arg12 arg13).toNat) ∧
  (∀ a, (k0_off273 arg12 arg13) a + S1x1x512.size a ≤ S32x1x512.size a) ∧
  (∀ a, (k0_off274 arg12 arg13) a + S1x144x512.size a ≤ S32x144x512.size a) ∧
  (∀ a, (k0_off275 arg12 arg13) a + S1x144x512.size a ≤ S1x144x16384.size a) ∧
  (512 ∣ (k0_mult168 arg12 arg13).toNat) ∧
  (512 ∣ (k0_mult169 arg12 arg13).toNat) ∧
  (∀ a, (k0_off276 arg12 arg13) a + S512x192.size a ≤ S16384x256.size a) ∧
  (∀ a, (k0_off277 arg12 arg13) a + S1x192x512.size a ≤ S1x192x16384.size a) ∧
  (512 ∣ (k0_mult170 arg12 arg13).toNat) ∧
  (∀ a, (k0_off278 arg12 arg13) a + S1x1x512.size a ≤ S32x1x512.size a) ∧
  (∀ a, (k0_off279 arg12 arg13) a + S1x144x512.size a ≤ S32x144x512.size a) ∧
  (∀ a, (k0_off280 arg12 arg13) a + S1x144x512.size a ≤ S1x144x16384.size a) ∧
  (512 ∣ (k0_mult171 arg12 arg13).toNat) ∧
  (512 ∣ (k0_mult172 arg12 arg13).toNat)
def k0_chk1_14 (arg12 : BitVec 32) (arg13 : BitVec 32) : Prop :=
  (∀ a, (k0_off281 arg12 arg13) a + S512x192.size a ≤ S16384x256.size a) ∧
  (∀ a, (k0_off282 arg12 arg13) a + S1x192x512.size a ≤ S1x192x16384.size a) ∧
  (512 ∣ (k0_mult173 arg12 arg13).toNat) ∧
  (∀ a, (k0_off283 arg12 arg13) a + S1x1x512.size a ≤ S32x1x512.size a) ∧
  (∀ a, (k0_off284 arg12 arg13) a + S1x144x512.size a ≤ S32x144x512.size a) ∧
  (∀ a, (k0_off285 arg12 arg13) a + S1x144x512.size a ≤ S1x144x16384.size a) ∧
  (512 ∣ (k0_mult174 arg12 arg13).toNat) ∧
  (512 ∣ (k0_mult175 arg12 arg13).toNat) ∧
  (∀ a, (k0_off286 arg12 arg13) a + S512x192.size a ≤ S16384x256.size a) ∧
  (∀ a, (k0_off287 arg12 arg13) a + S1x192x512.size a ≤ S1x192x16384.size a) ∧
  (512 ∣ (k0_mult176 arg12 arg13).toNat) ∧
  (∀ a, (k0_off288 arg12 arg13) a + S1x1x512.size a ≤ S32x1x512.size a) ∧
  (∀ a, (k0_off289 arg12 arg13) a + S1x144x512.size a ≤ S32x144x512.size a) ∧
  (∀ a, (k0_off290 arg12 arg13) a + S1x144x512.size a ≤ S1x144x16384.size a) ∧
  (512 ∣ (k0_mult177 arg12 arg13).toNat) ∧
  (512 ∣ (k0_mult178 arg12 arg13).toNat) ∧
  (∀ a, (k0_off291 arg12 arg13) a + S512x192.size a ≤ S16384x256.size a) ∧
  (∀ a, (k0_off292 arg12 arg13) a + S1x192x512.size a ≤ S1x192x16384.size a) ∧
  (512 ∣ (k0_mult179 arg12 arg13).toNat) ∧
  (∀ a, (k0_off293 arg12 arg13) a + S1x1x512.size a ≤ S32x1x512.size a) ∧
  (∀ a, (k0_off294 arg12 arg13) a + S1x144x512.size a ≤ S32x144x512.size a) ∧
  (∀ a, (k0_off295 arg12 arg13) a + S1x144x512.size a ≤ S1x144x16384.size a) ∧
  (512 ∣ (k0_mult180 arg12 arg13).toNat) ∧
  (512 ∣ (k0_mult181 arg12 arg13).toNat) ∧
  (∀ a, (k0_off296 arg12 arg13) a + S512x192.size a ≤ S16384x256.size a) ∧
  (∀ a, (k0_off297 arg12 arg13) a + S1x192x512.size a ≤ S1x192x16384.size a) ∧
  (512 ∣ (k0_mult182 arg12 arg13).toNat) ∧
  (∀ a, (k0_off298 arg12 arg13) a + S1x1x512.size a ≤ S32x1x512.size a) ∧
  (∀ a, (k0_off299 arg12 arg13) a + S1x144x512.size a ≤ S32x144x512.size a) ∧
  (∀ a, (k0_off300 arg12 arg13) a + S1x144x512.size a ≤ S1x144x16384.size a) ∧
  (512 ∣ (k0_mult183 arg12 arg13).toNat) ∧
  (512 ∣ (k0_mult184 arg12 arg13).toNat)
def k0_chk1_15 (arg12 : BitVec 32) (arg13 : BitVec 32) : Prop :=
  (∀ a, (k0_off301 arg12 arg13) a + S512x192.size a ≤ S16384x256.size a) ∧
  (∀ a, (k0_off302 arg12 arg13) a + S1x192x512.size a ≤ S1x192x16384.size a) ∧
  (512 ∣ (k0_mult185 arg12 arg13).toNat) ∧
  (∀ a, (k0_off303 arg12 arg13) a + S1x1x512.size a ≤ S32x1x512.size a) ∧
  (∀ a, (k0_off304 arg12 arg13) a + S1x144x512.size a ≤ S32x144x512.size a) ∧
  (∀ a, (k0_off305 arg12 arg13) a + S1x144x512.size a ≤ S1x144x16384.size a) ∧
  (512 ∣ (k0_mult186 arg12 arg13).toNat) ∧
  (512 ∣ (k0_mult187 arg12 arg13).toNat) ∧
  (∀ a, (k0_off306 arg12 arg13) a + S512x192.size a ≤ S16384x256.size a) ∧
  (∀ a, (k0_off307 arg12 arg13) a + S1x192x512.size a ≤ S1x192x16384.size a) ∧
  (512 ∣ (k0_mult188 arg12 arg13).toNat) ∧
  (∀ a, (k0_off308 arg12 arg13) a + S1x1x512.size a ≤ S32x1x512.size a) ∧
  (∀ a, (k0_off309 arg12 arg13) a + S1x144x512.size a ≤ S32x144x512.size a) ∧
  (∀ a, (k0_off310 arg12 arg13) a + S1x144x512.size a ≤ S1x144x16384.size a)
def k0_chk1 (arg12 : BitVec 32) (arg13 : BitVec 32) : Prop :=
  k0_chk1_0 arg12 arg13 ∧
  k0_chk1_1 arg12 arg13 ∧
  k0_chk1_2 arg12 arg13 ∧
  k0_chk1_3 arg12 arg13 ∧
  k0_chk1_4 arg12 arg13 ∧
  k0_chk1_5 arg12 arg13 ∧
  k0_chk1_6 arg12 arg13 ∧
  k0_chk1_7 arg12 arg13 ∧
  k0_chk1_8 arg12 arg13 ∧
  k0_chk1_9 arg12 arg13 ∧
  k0_chk1_10 arg12 arg13 ∧
  k0_chk1_11 arg12 arg13 ∧
  k0_chk1_12 arg12 arg13 ∧
  k0_chk1_13 arg12 arg13 ∧
  k0_chk1_14 arg12 arg13 ∧
  k0_chk1_15 arg12 arg13
theorem k0_mult3_dvd : ∀ (arg12 : BitVec 32) (arg13 : BitVec 32) (k0_hw1 : k0_chk1 arg12 arg13), 512 ∣ (k0_mult3 arg12 arg13).toNat := fun arg12 arg13 k0_hw1 => k0_hw1.1.1
theorem k0_mult4_dvd : ∀ (arg12 : BitVec 32) (arg13 : BitVec 32) (k0_hw1 : k0_chk1 arg12 arg13), 512 ∣ (k0_mult4 arg12 arg13).toNat := fun arg12 arg13 k0_hw1 => k0_hw1.1.2.1
theorem k0_off1_inb : ∀ (arg12 : BitVec 32) (arg13 : BitVec 32) (k0_hw1 : k0_chk1 arg12 arg13), ∀ a, (k0_off1 arg12 arg13) a + S512x192.size a ≤ S16384x256.size a := fun arg12 arg13 k0_hw1 => k0_hw1.1.2.2.1
theorem k0_off2_inb : ∀ (arg12 : BitVec 32) (arg13 : BitVec 32) (k0_hw1 : k0_chk1 arg12 arg13), ∀ a, (k0_off2 arg12 arg13) a + S1x192x512.size a ≤ S1x192x16384.size a := fun arg12 arg13 k0_hw1 => k0_hw1.1.2.2.2.1
theorem k0_mult5_dvd : ∀ (arg12 : BitVec 32) (arg13 : BitVec 32) (k0_hw1 : k0_chk1 arg12 arg13), 512 ∣ (k0_mult5 arg13).toNat := fun arg12 arg13 k0_hw1 => k0_hw1.1.2.2.2.2.1
theorem k0_off5_inb : ∀ (arg12 : BitVec 32) (arg13 : BitVec 32) (k0_hw1 : k0_chk1 arg12 arg13), ∀ a, (k0_off5 arg13) a + S1x144x512.size a ≤ S1x144x16384.size a := fun arg12 arg13 k0_hw1 => k0_hw1.1.2.2.2.2.2.1
theorem k0_mult6_dvd : ∀ (arg12 : BitVec 32) (arg13 : BitVec 32) (k0_hw1 : k0_chk1 arg12 arg13), 512 ∣ (k0_mult6 arg12 arg13).toNat := fun arg12 arg13 k0_hw1 => k0_hw1.1.2.2.2.2.2.2.1
theorem k0_mult7_dvd : ∀ (arg12 : BitVec 32) (arg13 : BitVec 32) (k0_hw1 : k0_chk1 arg12 arg13), 512 ∣ (k0_mult7 arg12 arg13).toNat := fun arg12 arg13 k0_hw1 => k0_hw1.1.2.2.2.2.2.2.2.1
theorem k0_off6_inb : ∀ (arg12 : BitVec 32) (arg13 : BitVec 32) (k0_hw1 : k0_chk1 arg12 arg13), ∀ a, (k0_off6 arg12 arg13) a + S512x192.size a ≤ S16384x256.size a := fun arg12 arg13 k0_hw1 => k0_hw1.1.2.2.2.2.2.2.2.2.1
theorem k0_off7_inb : ∀ (arg12 : BitVec 32) (arg13 : BitVec 32) (k0_hw1 : k0_chk1 arg12 arg13), ∀ a, (k0_off7 arg12 arg13) a + S1x192x512.size a ≤ S1x192x16384.size a := fun arg12 arg13 k0_hw1 => k0_hw1.1.2.2.2.2.2.2.2.2.2.1
theorem k0_mult8_dvd : ∀ (arg12 : BitVec 32) (arg13 : BitVec 32) (k0_hw1 : k0_chk1 arg12 arg13), 512 ∣ (k0_mult8 arg12 arg13).toNat := fun arg12 arg13 k0_hw1 => k0_hw1.1.2.2.2.2.2.2.2.2.2.2.1
theorem k0_off8_inb : ∀ (arg12 : BitVec 32) (arg13 : BitVec 32) (k0_hw1 : k0_chk1 arg12 arg13), ∀ a, (k0_off8 arg12 arg13) a + S1x1x512.size a ≤ S32x1x512.size a := fun arg12 arg13 k0_hw1 => k0_hw1.1.2.2.2.2.2.2.2.2.2.2.2.1
theorem k0_off9_inb : ∀ (arg12 : BitVec 32) (arg13 : BitVec 32) (k0_hw1 : k0_chk1 arg12 arg13), ∀ a, (k0_off9 arg12 arg13) a + S1x144x512.size a ≤ S32x144x512.size a := fun arg12 arg13 k0_hw1 => k0_hw1.1.2.2.2.2.2.2.2.2.2.2.2.2.1
theorem k0_off10_inb : ∀ (arg12 : BitVec 32) (arg13 : BitVec 32) (k0_hw1 : k0_chk1 arg12 arg13), ∀ a, (k0_off10 arg12 arg13) a + S1x144x512.size a ≤ S1x144x16384.size a := fun arg12 arg13 k0_hw1 => k0_hw1.1.2.2.2.2.2.2.2.2.2.2.2.2.2.1
theorem k0_mult9_dvd : ∀ (arg12 : BitVec 32) (arg13 : BitVec 32) (k0_hw1 : k0_chk1 arg12 arg13), 512 ∣ (k0_mult9 arg12 arg13).toNat := fun arg12 arg13 k0_hw1 => k0_hw1.1.2.2.2.2.2.2.2.2.2.2.2.2.2.2.1
theorem k0_mult10_dvd : ∀ (arg12 : BitVec 32) (arg13 : BitVec 32) (k0_hw1 : k0_chk1 arg12 arg13), 512 ∣ (k0_mult10 arg12 arg13).toNat := fun arg12 arg13 k0_hw1 => k0_hw1.1.2.2.2.2.2.2.2.2.2.2.2.2.2.2.2.1
theorem k0_off11_inb : ∀ (arg12 : BitVec 32) (arg13 : BitVec 32) (k0_hw1 : k0_chk1 arg12 arg13), ∀ a, (k0_off11 arg12 arg13) a + S512x192.size a ≤ S16384x256.size a := fun arg12 arg13 k0_hw1 => k0_hw1.1.2.2.2.2.2.2.2.2.2.2.2.2.2.2.2.2.1
theorem k0_off12_inb : ∀ (arg12 : BitVec 32) (arg13 : BitVec 32) (k0_hw1 : k0_chk1 arg12 arg13), ∀ a, (k0_off12 arg12 arg13) a + S1x192x512.size a ≤ S1x192x16384.size a := fun arg12 arg13 k0_hw1 => k0_hw1.1.2.2.2.2.2.2.2.2.2.2.2.2.2.2.2.2.2.1
theorem k0_mult11_dvd : ∀ (arg12 : BitVec 32) (arg13 : BitVec 32) (k0_hw1 : k0_chk1 arg12 arg13), 512 ∣ (k0_mult11 arg12 arg13).toNat := fun arg12 arg13 k0_hw1 => k0_hw1.1.2.2.2.2.2.2.2.2.2.2.2.2.2.2.2.2.2.2.1
theorem k0_off13_inb : ∀ (arg12 : BitVec 32) (arg13 : BitVec 32) (k0_hw1 : k0_chk1 arg12 arg13), ∀ a, (k0_off13 arg12 arg13) a + S1x1x512.size a ≤ S32x1x512.size a := fun arg12 arg13 k0_hw1 => k0_hw1.1.2.2.2.2.2.2.2.2.2.2.2.2.2.2.2.2.2.2.2.1
theorem k0_off14_inb : ∀ (arg12 : BitVec 32) (arg13 : BitVec 32) (k0_hw1 : k0_chk1 arg12 arg13), ∀ a, (k0_off14 arg12 arg13) a + S1x144x512.size a ≤ S32x144x512.size a := fun arg12 arg13 k0_hw1 => k0_hw1.1.2.2.2.2.2.2.2.2.2.2.2.2.2.2.2.2.2.2.2.2.1
theorem k0_off15_inb : ∀ (arg12 : BitVec 32) (arg13 : BitVec 32) (k0_hw1 : k0_chk1 arg12 arg13), ∀ a, (k0_off15 arg12 arg13) a + S1x144x512.size a ≤ S1x144x16384.size a := fun arg12 arg13 k0_hw1 => k0_hw1.1.2.2.2.2.2.2.2.2.2.2.2.2.2.2.2.2.2.2.2.2.2.1
theorem k0_mult12_dvd : ∀ (arg12 : BitVec 32) (arg13 : BitVec 32) (k0_hw1 : k0_chk1 arg12 arg13), 512 ∣ (k0_mult12 arg12 arg13).toNat := fun arg12 arg13 k0_hw1 => k0_hw1.1.2.2.2.2.2.2.2.2.2.2.2.2.2.2.2.2.2.2.2.2.2.2.1
theorem k0_mult13_dvd : ∀ (arg12 : BitVec 32) (arg13 : BitVec 32) (k0_hw1 : k0_chk1 arg12 arg13), 512 ∣ (k0_mult13 arg12 arg13).toNat := fun arg12 arg13 k0_hw1 => k0_hw1.1.2.2.2.2.2.2.2.2.2.2.2.2.2.2.2.2.2.2.2.2.2.2.2.1
theorem k0_off16_inb : ∀ (arg12 : BitVec 32) (arg13 : BitVec 32) (k0_hw1 : k0_chk1 arg12 arg13), ∀ a, (k0_off16 arg12 arg13) a + S512x192.size a ≤ S16384x256.size a := fun arg12 arg13 k0_hw1 => k0_hw1.1.2.2.2.2.2.2.2.2.2.2.2.2.2.2.2.2.2.2.2.2.2.2.2.2.1
theorem k0_off17_inb : ∀ (arg12 : BitVec 32) (arg13 : BitVec 32) (k0_hw1 : k0_chk1 arg12 arg13), ∀ a, (k0_off17 arg12 arg13) a + S1x192x512.size a ≤ S1x192x16384.size a := fun arg12 arg13 k0_hw1 => k0_hw1.1.2.2.2.2.2.2.2.2.2.2.2.2.2.2.2.2.2.2.2.2.2.2.2.2.2.1
theorem k0_mult14_dvd : ∀ (arg12 : BitVec 32) (arg13 : BitVec 32) (k0_hw1 : k0_chk1 arg12 arg13), 512 ∣ (k0_mult14 arg12 arg13).toNat := fun arg12 arg13 k0_hw1 => k0_hw1.1.2.2.2.2.2.2.2.2.2.2.2.2.2.2.2.2.2.2.2.2.2.2.2.2.2.2.1
theorem k0_off18_inb : ∀ (arg12 : BitVec 32) (arg13 : BitVec 32) (k0_hw1 : k0_chk1 arg12 arg13), ∀ a, (k0_off18 arg12 arg13) a + S1x1x512.size a ≤ S32x1x512.size a := fun arg12 arg13 k0_hw1 => k0_hw1.1.2.2.2.2.2.2.2.2.2.2.2.2.2.2.2.2.2.2.2.2.2.2.2.2.2.2.2.1
theorem k0_off19_inb : ∀ (arg12 : BitVec 32) (arg13 : BitVec 32) (k0_hw1 : k0_chk1 arg12 arg13), ∀ a, (k0_off19 arg12 arg13) a + S1x144x512.size a ≤ S32x144x512.size a := fun arg12 arg13 k0_hw1 => k0_hw1.1.2.2.2.2.2.2.2.2.2.2.2.2.2.2.2.2.2.2.2.2.2.2.2.2.2.2.2.2.1
theorem k0_off20_inb : ∀ (arg12 : BitVec 32) (arg13 : BitVec 32) (k0_hw1 : k0_chk1 arg12 arg13), ∀ a, (k0_off20 arg12 arg13) a + S1x144x512.size a ≤ S1x144x16384.size a := fun arg12 arg13 k0_hw1 => k0_hw1.1.2.2.2.2.2.2.2.2.2.2.2.2.2.2.2.2.2.2.2.2.2.2.2.2.2.2.2.2.2.1
theorem k0_mult15_dvd : ∀ (arg12 : BitVec 32) (arg13 : BitVec 32) (k0_hw1 : k0_chk1 arg12 arg13), 512 ∣ (k0_mult15 arg12 arg13).toNat := fun arg12 arg13 k0_hw1 => k0_hw1.1.2.2.2.2.2.2.2.2.2.2.2.2.2.2.2.2.2.2.2.2.2.2.2.2.2.2.2.2.2.2.1
theorem k0_mult16_dvd : ∀ (arg12 : BitVec 32) (arg13 : BitVec 32) (k0_hw1 : k0_chk1 arg12 arg13), 512 ∣ (k0_mult16 arg12 arg13).toNat := fun arg12 arg13 k0_hw1 => k0_hw1.1.2.2.2.2.2.2.2.2.2.2.2.2.2.2.2.2.2.2.2.2.2.2.2.2.2.2.2.2.2.2.2
theorem k0_off21_inb : ∀ (arg12 : BitVec 32) (arg13 : BitVec 32) (k0_hw1 : k0_chk1 arg12 arg13), ∀ a, (k0_off21 arg12 arg13) a + S512x192.size a ≤ S16384x256.size a := fun arg12 arg13 k0_hw1 => k0_hw1.2.1.1
theorem k0_off22_inb : ∀ (arg12 : BitVec 32) (arg13 : BitVec 32) (k0_hw1 : k0_chk1 arg12 arg13), ∀ a, (k0_off22 arg12 arg13) a + S1x192x512.size a ≤ S1x192x16384.size a := fun arg12 arg13 k0_hw1 => k0_hw1.2.1.2.1
theorem k0_mult17_dvd : ∀ (arg12 : BitVec 32) (arg13 : BitVec 32) (k0_hw1 : k0_chk1 arg12 arg13), 512 ∣ (k0_mult17 arg12 arg13).toNat := fun arg12 arg13 k0_hw1 => k0_hw1.2.1.2.2.1
theorem k0_off23_inb : ∀ (arg12 : BitVec 32) (arg13 : BitVec 32) (k0_hw1 : k0_chk1 arg12 arg13), ∀ a, (k0_off23 arg12 arg13) a + S1x1x512.size a ≤ S32x1x512.size a := fun arg12 arg13 k0_hw1 => k0_hw1.2.1.2.2.2.1
theorem k0_off24_inb : ∀ (arg12 : BitVec 32) (arg13 : BitVec 32) (k0_hw1 : k0_chk1 arg12 arg13), ∀ a, (k0_off24 arg12 arg13) a + S1x144x512.size a ≤ S32x144x512.size a := fun arg12 arg13 k0_hw1 => k0_hw1.2.1.2.2.2.2.1
theorem k0_off25_inb : ∀ (arg12 : BitVec 32) (arg13 : BitVec 32) (k0_hw1 : k0_chk1 arg12 arg13), ∀ a, (k0_off25 arg12 arg13) a + S1x144x512.size a ≤ S1x144x16384.size a := fun arg12 arg13 k0_hw1 => k0_hw1.2.1.2.2.2.2.2.1
theorem k0_mult18_dvd : ∀ (arg12 : BitVec 32) (arg13 : BitVec 32) (k0_hw1 : k0_chk1 arg12 arg13), 512 ∣ (k0_mult18 arg12 arg13).toNat := fun arg12 arg13 k0_hw1 => k0_hw1.2.1.2.2.2.2.2.2.1
theorem k0_mult19_dvd : ∀ (arg12 : BitVec 32) (arg13 : BitVec 32) (k0_hw1 : k0_chk1 arg12 arg13), 512 ∣ (k0_mult19 arg12 arg13).toNat := fun arg12 arg13 k0_hw1 => k0_hw1.2.1.2.2.2.2.2.2.2.1
theorem k0_off26_inb : ∀ (arg12 : BitVec 32) (arg13 : BitVec 32) (k0_hw1 : k0_chk1 arg12 arg13), ∀ a, (k0_off26 arg12 arg13) a + S512x192.size a ≤ S16384x256.size a := fun arg12 arg13 k0_hw1 => k0_hw1.2.1.2.2.2.2.2.2.2.2.1
theorem k0_off27_inb : ∀ (arg12 : BitVec 32) (arg13 : BitVec 32) (k0_hw1 : k0_chk1 arg12 arg13), ∀ a, (k0_off27 arg12 arg13) a + S1x192x512.size a ≤ S1x192x16384.size a := fun arg12 arg13 k0_hw1 => k0_hw1.2.1.2.2.2.2.2.2.2.2.2.1
theorem k0_mult20_dvd : ∀ (arg12 : BitVec 32) (arg13 : BitVec 32) (k0_hw1 : k0_chk1 arg12 arg13), 512 ∣ (k0_mult20 arg12 arg13).toNat := fun arg12 arg13 k0_hw1 => k0_hw1.2.1.2.2.2.2.2.2.2.2.2.2.1
theorem k0_off28_inb : ∀ (arg12 : BitVec 32) (arg13 : BitVec 32) (k0_hw1 : k0_chk1 arg12 arg13), ∀ a, (k0_off28 arg12 arg13) a + S1x1x512.size a ≤ S32x1x512.size a := fun arg12 arg13 k0_hw1 => k0_hw1.2.1.2.2.2.2.2.2.2.2.2.2.2.1
theorem k0_off29_inb : ∀ (arg12 : BitVec 32) (arg13 : BitVec 32) (k0_hw1 : k0_chk1 arg12 arg13), ∀ a, (k0_off29 arg12 arg13) a + S1x144x512.size a ≤ S32x144x512.size a := fun arg12 arg13 k0_hw1 => k0_hw1.2.1.2.2.2.2.2.2.2.2.2.2.2.2.1
theorem k0_off30_inb : ∀ (arg12 : BitVec 32) (arg13 : BitVec 32) (k0_hw1 : k0_chk1 arg12 arg13), ∀ a, (k0_off30 arg12 arg13) a + S1x144x512.size a ≤ S1x144x16384.size a := fun arg12 arg13 k0_hw1 => k0_hw1.2.1.2.2.2.2.2.2.2.2.2.2.2.2.2.1
theorem k0_mult21_dvd : ∀ (arg12 : BitVec 32) (arg13 : BitVec 32) (k0_hw1 : k0_chk1 arg12 arg13), 512 ∣ (k0_mult21 arg12 arg13).toNat := fun arg12 arg13 k0_hw1 => k0_hw1.2.1.2.2.2.2.2.2.2.2.2.2.2.2.2.2.1
theorem k0_mult22_dvd : ∀ (arg12 : BitVec 32) (arg13 : BitVec 32) (k0_hw1 : k0_chk1 arg12 arg13), 512 ∣ (k0_mult22 arg12 arg13).toNat := fun arg12 arg13 k0_hw1 => k0_hw1.2.1.2.2.2.2.2.2.2.2.2.2.2.2.2.2.2.1
theorem k0_off31_inb : ∀ (arg12 : BitVec 32) (arg13 : BitVec 32) (k0_hw1 : k0_chk1 arg12 arg13), ∀ a, (k0_off31 arg12 arg13) a + S512x192.size a ≤ S16384x256.size a := fun arg12 arg13 k0_hw1 => k0_hw1.2.1.2.2.2.2.2.2.2.2.2.2.2.2.2.2.2.2.1
theorem k0_off32_inb : ∀ (arg12 : BitVec 32) (arg13 : BitVec 32) (k0_hw1 : k0_chk1 arg12 arg13), ∀ a, (k0_off32 arg12 arg13) a + S1x192x512.size a ≤ S1x192x16384.size a := fun arg12 arg13 k0_hw1 => k0_hw1.2.1.2.2.2.2.2.2.2.2.2.2.2.2.2.2.2.2.2.1
theorem k0_mult23_dvd : ∀ (arg12 : BitVec 32) (arg13 : BitVec 32) (k0_hw1 : k0_chk1 arg12 arg13), 512 ∣ (k0_mult23 arg12 arg13).toNat := fun arg12 arg13 k0_hw1 => k0_hw1.2.1.2.2.2.2.2.2.2.2.2.2.2.2.2.2.2.2.2.2.1
theorem k0_off33_inb : ∀ (arg12 : BitVec 32) (arg13 : BitVec 32) (k0_hw1 : k0_chk1 arg12 arg13), ∀ a, (k0_off33 arg12 arg13) a + S1x1x512.size a ≤ S32x1x512.size a := fun arg12 arg13 k0_hw1 => k0_hw1.2.1.2.2.2.2.2.2.2.2.2.2.2.2.2.2.2.2.2.2.2.1
theorem k0_off34_inb : ∀ (arg12 : BitVec 32) (arg13 : BitVec 32) (k0_hw1 : k0_chk1 arg12 arg13), ∀ a, (k0_off34 arg12 arg13) a + S1x144x512.size a ≤ S32x144x512.size a := fun arg12 arg13 k0_hw1 => k0_hw1.2.1.2.2.2.2.2.2.2.2.2.2.2.2.2.2.2.2.2.2.2.2.1
theorem k0_off35_inb : ∀ (arg12 : BitVec 32) (arg13 : BitVec 32) (k0_hw1 : k0_chk1 arg12 arg13), ∀ a, (k0_off35 arg12 arg13) a + S1x144x512.size a ≤ S1x144x16384.size a := fun arg12 arg13 k0_hw1 => k0_hw1.2.1.2.2.2.2.2.2.2.2.2.2.2.2.2.2.2.2.2.2.2.2.2.1
theorem k0_mult24_dvd : ∀ (arg12 : BitVec 32) (arg13 : BitVec 32) (k0_hw1 : k0_chk1 arg12 arg13), 512 ∣ (k0_mult24 arg12 arg13).toNat := fun arg12 arg13 k0_hw1 => k0_hw1.2.1.2.2.2.2.2.2.2.2.2.2.2.2.2.2.2.2.2.2.2.2.2.2.1
theorem k0_mult25_dvd : ∀ (arg12 : BitVec 32) (arg13 : BitVec 32) (k0_hw1 : k0_chk1 arg12 arg13), 512 ∣ (k0_mult25 arg12 arg13).toNat := fun arg12 arg13 k0_hw1 => k0_hw1.2.1.2.2.2.2.2.2.2.2.2.2.2.2.2.2.2.2.2.2.2.2.2.2.2.1
theorem k0_off36_inb : ∀ (arg12 : BitVec 32) (arg13 : BitVec 32) (k0_hw1 : k0_chk1 arg12 arg13), ∀ a, (k0_off36 arg12 arg13) a + S512x192.size a ≤ S16384x256.size a := fun arg12 arg13 k0_hw1 => k0_hw1.2.1.2.2.2.2.2.2.2.2.2.2.2.2.2.2.2.2.2.2.2.2.2.2.2.2.1
theorem k0_off37_inb : ∀ (arg12 : BitVec 32) (arg13 : BitVec 32) (k0_hw1 : k0_chk1 arg12 arg13), ∀ a, (k0_off37 arg12 arg13) a + S1x192x512.size a ≤ S1x192x16384.size a := fun arg12 arg13 k0_hw1 => k0_hw1.2.1.2.2.2.2.2.2.2.2.2.2.2.2.2.2.2.2.2.2.2.2.2.2.2.2.2.1
theorem k0_mult26_dvd : ∀ (arg12 : BitVec 32) (arg13 : BitVec 32) (k0_hw1 : k0_chk1 arg12 arg13), 512 ∣ (k0_mult26 arg12 arg13).toNat := fun arg12 arg13 k0_hw1 => k0_hw1.2.1.2.2.2.2.2.2.2.2.2.2.2.2.2.2.2.2.2.2.2.2.2.2.2.2.2.2.1
theorem k0_off38_inb : ∀ (arg12 : BitVec 32) (arg13 : BitVec 32) (k0_hw1 : k0_chk1 arg12 arg13), ∀ a, (k0_off38 arg12 arg13) a + S1x1x512.size a ≤ S32x1x512.size a := fun arg12 arg13 k0_hw1 => k0_hw1.2.1.2.2.2.2.2.2.2.2.2.2.2.2.2.2.2.2.2.2.2.2.2.2.2.2.2.2.2.1
theorem k0_off39_inb : ∀ (arg12 : BitVec 32) (arg13 : BitVec 32) (k0_hw1 : k0_chk1 arg12 arg13), ∀ a, (k0_off39 arg12 arg13) a + S1x144x512.size a ≤ S32x144x512.size a := fun arg12 arg13 k0_hw1 => k0_hw1.2.1.2.2.2.2.2.2.2.2.2.2.2.2.2.2.2.2.2.2.2.2.2.2.2.2.2.2.2.2.1
theorem k0_off40_inb : ∀ (arg12 : BitVec 32) (arg13 : BitVec 32) (k0_hw1 : k0_chk1 arg12 arg13), ∀ a, (k0_off40 arg12 arg13) a + S1x144x512.size a ≤ S1x144x16384.size a := fun arg12 arg13 k0_hw1 => k0_hw1.2.1.2.2.2.2.2.2.2.2.2.2.2.2.2.2.2.2.2.2.2.2.2.2.2.2.2.2.2.2.2.1
theorem k0_mult27_dvd : ∀ (arg12 : BitVec 32) (arg13 : BitVec 32) (k0_hw1 : k0_chk1 arg12 arg13), 512 ∣ (k0_mult27 arg12 arg13).toNat := fun arg12 arg13 k0_hw1 => k0_hw1.2.1.2.2.2.2.2.2.2.2.2.2.2.2.2.2.2.2.2.2.2.2.2.2.2.2.2.2.2.2.2.2.1
theorem k0_mult28_dvd : ∀ (arg12 : BitVec 32) (arg13 : BitVec 32) (k0_hw1 : k0_chk1 arg12 arg13), 512 ∣ (k0_mult28 arg12 arg13).toNat := fun arg12 arg13 k0_hw1 => k0_hw1.2.1.2.2.2.2.2.2.2.2.2.2.2.2.2.2.2.2.2.2.2.2.2.2.2.2.2.2.2.2.2.2.2
theorem k0_off41_inb : ∀ (arg12 : BitVec 32) (arg13 : BitVec 32) (k0_hw1 : k0_chk1 arg12 arg13), ∀ a, (k0_off41 arg12 arg13) a + S512x192.size a ≤ S16384x256.size a := fun arg12 arg13 k0_hw1 => k0_hw1.2.2.1.1
theorem k0_off42_inb : ∀ (arg12 : BitVec 32) (arg13 : BitVec 32) (k0_hw1 : k0_chk1 arg12 arg13), ∀ a, (k0_off42 arg12 arg13) a + S1x192x512.size a ≤ S1x192x16384.size a := fun arg12 arg13 k0_hw1 => k0_hw1.2.2.1.2.1
theorem k0_mult29_dvd : ∀ (arg12 : BitVec 32) (arg13 : BitVec 32) (k0_hw1 : k0_chk1 arg12 arg13), 512 ∣ (k0_mult29 arg12 arg13).toNat := fun arg12 arg13 k0_hw1 => k0_hw1.2.2.1.2.2.1
theorem k0_off43_inb : ∀ (arg12 : BitVec 32) (arg13 : BitVec 32) (k0_hw1 : k0_chk1 arg12 arg13), ∀ a, (k0_off43 arg12 arg13) a + S1x1x512.size a ≤ S32x1x512.size a := fun arg12 arg13 k0_hw1 => k0_hw1.2.2.1.2.2.2.1
theorem k0_off44_inb : ∀ (arg12 : BitVec 32) (arg13 : BitVec 32) (k0_hw1 : k0_chk1 arg12 arg13), ∀ a, (k0_off44 arg12 arg13) a + S1x144x512.size a ≤ S32x144x512.size a := fun arg12 arg13 k0_hw1 => k0_hw1.2.2.1.2.2.2.2.1
theorem k0_off45_inb : ∀ (arg12 : BitVec 32) (arg13 : BitVec 32) (k0_hw1 : k0_chk1 arg12 arg13), ∀ a, (k0_off45 arg12 arg13) a + S1x144x512.size a ≤ S1x144x16384.size a := fun arg12 arg13 k0_hw1 => k0_hw1.2.2.1.2.2.2.2.2.1
theorem k0_mult30_dvd : ∀ (arg12 : BitVec 32) (arg13 : BitVec 32) (k0_hw1 : k0_chk1 arg12 arg13), 512 ∣ (k0_mult30 arg12 arg13).toNat := fun arg12 arg13 k0_hw1 => k0_hw1.2.2.1.2.2.2.2.2.2.1
theorem k0_mult31_dvd : ∀ (arg12 : BitVec 32) (arg13 : BitVec 32) (k0_hw1 : k0_chk1 arg12 arg13), 512 ∣ (k0_mult31 arg12 arg13).toNat := fun arg12 arg13 k0_hw1 => k0_hw1.2.2.1.2.2.2.2.2.2.2.1
theorem k0_off46_inb : ∀ (arg12 : BitVec 32) (arg13 : BitVec 32) (k0_hw1 : k0_chk1 arg12 arg13), ∀ a, (k0_off46 arg12 arg13) a + S512x192.size a ≤ S16384x256.size a := fun arg12 arg13 k0_hw1 => k0_hw1.2.2.1.2.2.2.2.2.2.2.2.1
theorem k0_off47_inb : ∀ (arg12 : BitVec 32) (arg13 : BitVec 32) (k0_hw1 : k0_chk1 arg12 arg13), ∀ a, (k0_off47 arg12 arg13) a + S1x192x512.size a ≤ S1x192x16384.size a := fun arg12 arg13 k0_hw1 => k0_hw1.2.2.1.2.2.2.2.2.2.2.2.2.1
theorem k0_mult32_dvd : ∀ (arg12 : BitVec 32) (arg13 : BitVec 32) (k0_hw1 : k0_chk1 arg12 arg13), 512 ∣ (k0_mult32 arg12 arg13).toNat := fun arg12 arg13 k0_hw1 => k0_hw1.2.2.1.2.2.2.2.2.2.2.2.2.2.1
theorem k0_off48_inb : ∀ (arg12 : BitVec 32) (arg13 : BitVec 32) (k0_hw1 : k0_chk1 arg12 arg13), ∀ a, (k0_off48 arg12 arg13) a + S1x1x512.size a ≤ S32x1x512.size a := fun arg12 arg13 k0_hw1 => k0_hw1.2.2.1.2.2.2.2.2.2.2.2.2.2.2.1
theorem k0_off49_inb : ∀ (arg12 : BitVec 32) (arg13 : BitVec 32) (k0_hw1 : k0_chk1 arg12 arg13), ∀ a, (k0_off49 arg12 arg13) a + S1x144x512.size a ≤ S32x144x512.size a := fun arg12 arg13 k0_hw1 => k0_hw1.2.2.1.2.2.2.2.2.2.2.2.2.2.2.2.1
theorem k0_off50_inb : ∀ (arg12 : BitVec 32) (arg13 : BitVec 32) (k0_hw1 : k0_chk1 arg12 arg13), ∀ a, (k0_off50 arg12 arg13) a + S1x144x512.size a ≤ S1x144x16384.size a := fun arg12 arg13 k0_hw1 => k0_hw1.2.2.1.2.2.2.2.2.2.2.2.2.2.2.2.2.1
theorem k0_mult33_dvd : ∀ (arg12 : BitVec 32) (arg13 : BitVec 32) (k0_hw1 : k0_chk1 arg12 arg13), 512 ∣ (k0_mult33 arg12 arg13).toNat := fun arg12 arg13 k0_hw1 => k0_hw1.2.2.1.2.2.2.2.2.2.2.2.2.2.2.2.2.2.1
theorem k0_mult34_dvd : ∀ (arg12 : BitVec 32) (arg13 : BitVec 32) (k0_hw1 : k0_chk1 arg12 arg13), 512 ∣ (k0_mult34 arg12 arg13).toNat := fun arg12 arg13 k0_hw1 => k0_hw1.2.2.1.2.2.2.2.2.2.2.2.2.2.2.2.2.2.2.1
theorem k0_off51_inb : ∀ (arg12 : BitVec 32) (arg13 : BitVec 32) (k0_hw1 : k0_chk1 arg12 arg13), ∀ a, (k0_off51 arg12 arg13) a + S512x192.size a ≤ S16384x256.size a := fun arg12 arg13 k0_hw1 => k0_hw1.2.2.1.2.2.2.2.2.2.2.2.2.2.2.2.2.2.2.2.1
theorem k0_off52_inb : ∀ (arg12 : BitVec 32) (arg13 : BitVec 32) (k0_hw1 : k0_chk1 arg12 arg13), ∀ a, (k0_off52 arg12 arg13) a + S1x192x512.size a ≤ S1x192x16384.size a := fun arg12 arg13 k0_hw1 => k0_hw1.2.2.1.2.2.2.2.2.2.2.2.2.2.2.2.2.2.2.2.2.1
theorem k0_mult35_dvd : ∀ (arg12 : BitVec 32) (arg13 : BitVec 32) (k0_hw1 : k0_chk1 arg12 arg13), 512 ∣ (k0_mult35 arg12 arg13).toNat := fun arg12 arg13 k0_hw1 => k0_hw1.2.2.1.2.2.2.2.2.2.2.2.2.2.2.2.2.2.2.2.2.2.1
theorem k0_off53_inb : ∀ (arg12 : BitVec 32) (arg13 : BitVec 32) (k0_hw1 : k0_chk1 arg12 arg13), ∀ a, (k0_off53 arg12 arg13) a + S1x1x512.size a ≤ S32x1x512.size a := fun arg12 arg13 k0_hw1 => k0_hw1.2.2.1.2.2.2.2.2.2.2.2.2.2.2.2.2.2.2.2.2.2.2.1
theorem k0_off54_inb : ∀ (arg12 : BitVec 32) (arg13 : BitVec 32) (k0_hw1 : k0_chk1 arg12 arg13), ∀ a, (k0_off54 arg12 arg13) a + S1x144x512.size a ≤ S32x144x512.size a := fun arg12 arg13 k0_hw1 => k0_hw1.2.2.1.2.2.2.2.2.2.2.2.2.2.2.2.2.2.2.2.2.2.2.2.1
theorem k0_off55_inb : ∀ (arg12 : BitVec 32) (arg13 : BitVec 32) (k0_hw1 : k0_chk1 arg12 arg13), ∀ a, (k0_off55 arg12 arg13) a + S1x144x512.size a ≤ S1x144x16384.size a := fun arg12 arg13 k0_hw1 => k0_hw1.2.2.1.2.2.2.2.2.2.2.2.2.2.2.2.2.2.2.2.2.2.2.2.2.1
theorem k0_mult36_dvd : ∀ (arg12 : BitVec 32) (arg13 : BitVec 32) (k0_hw1 : k0_chk1 arg12 arg13), 512 ∣ (k0_mult36 arg12 arg13).toNat := fun arg12 arg13 k0_hw1 => k0_hw1.2.2.1.2.2.2.2.2.2.2.2.2.2.2.2.2.2.2.2.2.2.2.2.2.2.1
theorem k0_mult37_dvd : ∀ (arg12 : BitVec 32) (arg13 : BitVec 32) (k0_hw1 : k0_chk1 arg12 arg13), 512 ∣ (k0_mult37 arg12 arg13).toNat := fun arg12 arg13 k0_hw1 => k0_hw1.2.2.1.2.2.2.2.2.2.2.2.2.2.2.2.2.2.2.2.2.2.2.2.2.2.2.1
theorem k0_off56_inb : ∀ (arg12 : BitVec 32) (arg13 : BitVec 32) (k0_hw1 : k0_chk1 arg12 arg13), ∀ a, (k0_off56 arg12 arg13) a + S512x192.size a ≤ S16384x256.size a := fun arg12 arg13 k0_hw1 => k0_hw1.2.2.1.2.2.2.2.2.2.2.2.2.2.2.2.2.2.2.2.2.2.2.2.2.2.2.2.1
theorem k0_off57_inb : ∀ (arg12 : BitVec 32) (arg13 : BitVec 32) (k0_hw1 : k0_chk1 arg12 arg13), ∀ a, (k0_off57 arg12 arg13) a + S1x192x512.size a ≤ S1x192x16384.size a := fun arg12 arg13 k0_hw1 => k0_hw1.2.2.1.2.2.2.2.2.2.2.2.2.2.2.2.2.2.2.2.2.2.2.2.2.2.2.2.2.1
theorem k0_mult38_dvd : ∀ (arg12 : BitVec 32) (arg13 : BitVec 32) (k0_hw1 : k0_chk1 arg12 arg13), 512 ∣ (k0_mult38 arg12 arg13).toNat := fun arg12 arg13 k0_hw1 => k0_hw1.2.2.1.2.2.2.2.2.2.2.2.2.2.2.2.2.2.2.2.2.2.2.2.2.2.2.2.2.2.1
theorem k0_off58_inb : ∀ (arg12 : BitVec 32) (arg13 : BitVec 32) (k0_hw1 : k0_chk1 arg12 arg13), ∀ a, (k0_off58 arg12 arg13) a + S1x1x512.size a ≤ S32x1x512.size a := fun arg12 arg13 k0_hw1 => k0_hw1.2.2.1.2.2.2.2.2.2.2.2.2.2.2.2.2.2.2.2.2.2.2.2.2.2.2.2.2.2.2.1
theorem k0_off59_inb : ∀ (arg12 : BitVec 32) (arg13 : BitVec 32) (k0_hw1 : k0_chk1 arg12 arg13), ∀ a, (k0_off59 arg12 arg13) a + S1x144x512.size a ≤ S32x144x512.size a := fun arg12 arg13 k0_hw1 => k0_hw1.2.2.1.2.2.2.2.2.2.2.2.2.2.2.2.2.2.2.2.2.2.2.2.2.2.2.2.2.2.2.2.1
theorem k0_off60_inb : ∀ (arg12 : BitVec 32) (arg13 : BitVec 32) (k0_hw1 : k0_chk1 arg12 arg13), ∀ a, (k0_off60 arg12 arg13) a + S1x144x512.size a ≤ S1x144x16384.size a := fun arg12 arg13 k0_hw1 => k0_hw1.2.2.1.2.2.2.2.2.2.2.2.2.2.2.2.2.2.2.2.2.2.2.2.2.2.2.2.2.2.2.2.2.1
theorem k0_mult39_dvd : ∀ (arg12 : BitVec 32) (arg13 : BitVec 32) (k0_hw1 : k0_chk1 arg12 arg13), 512 ∣ (k0_mult39 arg12 arg13).toNat := fun arg12 arg13 k0_hw1 => k0_hw1.2.2.1.2.2.2.2.2.2.2.2.2.2.2.2.2.2.2.2.2.2.2.2.2.2.2.2.2.2.2.2.2.2.1
theorem k0_mult40_dvd : ∀ (arg12 : BitVec 32) (arg13 : BitVec 32) (k0_hw1 : k0_chk1 arg12 arg13), 512 ∣ (k0_mult40 arg12 arg13).toNat := fun arg12 arg13 k0_hw1 => k0_hw1.2.2.1.2.2.2.2.2.2.2.2.2.2.2.2.2.2.2.2.2.2.2.2.2.2.2.2.2.2.2.2.2.2.2
theorem k0_off61_inb : ∀ (arg12 : BitVec 32) (arg13 : BitVec 32) (k0_hw1 : k0_chk1 arg12 arg13), ∀ a, (k0_off61 arg12 arg13) a + S512x192.size a ≤ S16384x256.size a := fun arg12 arg13 k0_hw1 => k0_hw1.2.2.2.1.1
theorem k0_off62_inb : ∀ (arg12 : BitVec 32) (arg13 : BitVec 32) (k0_hw1 : k0_chk1 arg12 arg13), ∀ a, (k0_off62 arg12 arg13) a + S1x192x512.size a ≤ S1x192x16384.size a := fun arg12 arg13 k0_hw1 => k0_hw1.2.2.2.1.2.1
theorem k0_mult41_dvd : ∀ (arg12 : BitVec 32) (arg13 : BitVec 32) (k0_hw1 : k0_chk1 arg12 arg13), 512 ∣ (k0_mult41 arg12 arg13).toNat := fun arg12 arg13 k0_hw1 => k0_hw1.2.2.2.1.2.2.1
theorem k0_off63_inb : ∀ (arg12 : BitVec 32) (arg13 : BitVec 32) (k0_hw1 : k0_chk1 arg12 arg13), ∀ a, (k0_off63 arg12 arg13) a + S1x1x512.size a ≤ S32x1x512.size a := fun arg12 arg13 k0_hw1 => k0_hw1.2.2.2.1.2.2.2.1
theorem k0_off64_inb : ∀ (arg12 : BitVec 32) (arg13 : BitVec 32) (k0_hw1 : k0_chk1 arg12 arg13), ∀ a, (k0_off64 arg12 arg13) a + S1x144x512.size a ≤ S32x144x512.size a := fun arg12 arg13 k0_hw1 => k0_hw1.2.2.2.1.2.2.2.2.1
theorem k0_off65_inb : ∀ (arg12 : BitVec 32) (arg13 : BitVec 32) (k0_hw1 : k0_chk1 arg12 arg13), ∀ a, (k0_off65 arg12 arg13) a + S1x144x512.size a ≤ S1x144x16384.size a := fun arg12 arg13 k0_hw1 => k0_hw1.2.2.2.1.2.2.2.2.2.1
theorem k0_mult42_dvd : ∀ (arg12 : BitVec 32) (arg13 : BitVec 32) (k0_hw1 : k0_chk1 arg12 arg13), 512 ∣ (k0_mult42 arg12 arg13).toNat := fun arg12 arg13 k0_hw1 => k0_hw1.2.2.2.1.2.2.2.2.2.2.1
theorem k0_mult43_dvd : ∀ (arg12 : BitVec 32) (arg13 : BitVec 32) (k0_hw1 : k0_chk1 arg12 arg13), 512 ∣ (k0_mult43 arg12 arg13).toNat := fun arg12 arg13 k0_hw1 => k0_hw1.2.2.2.1.2.2.2.2.2.2.2.1
theorem k0_off66_inb : ∀ (arg12 : BitVec 32) (arg13 : BitVec 32) (k0_hw1 : k0_chk1 arg12 arg13), ∀ a, (k0_off66 arg12 arg13) a + S512x192.size a ≤ S16384x256.size a := fun arg12 arg13 k0_hw1 => k0_hw1.2.2.2.1.2.2.2.2.2.2.2.2.1
theorem k0_off67_inb : ∀ (arg12 : BitVec 32) (arg13 : BitVec 32) (k0_hw1 : k0_chk1 arg12 arg13), ∀ a, (k0_off67 arg12 arg13) a + S1x192x512.size a ≤ S1x192x16384.size a := fun arg12 arg13 k0_hw1 => k0_hw1.2.2.2.1.2.2.2.2.2.2.2.2.2.1
theorem k0_mult44_dvd : ∀ (arg12 : BitVec 32) (arg13 : BitVec 32) (k0_hw1 : k0_chk1 arg12 arg13), 512 ∣ (k0_mult44 arg12 arg13).toNat := fun arg12 arg13 k0_hw1 => k0_hw1.2.2.2.1.2.2.2.2.2.2.2.2.2.2.1
theorem k0_off68_inb : ∀ (arg12 : BitVec 32) (arg13 : BitVec 32) (k0_hw1 : k0_chk1 arg12 arg13), ∀ a, (k0_off68 arg12 arg13) a + S1x1x512.size a ≤ S32x1x512.size a := fun arg12 arg13 k0_hw1 => k0_hw1.2.2.2.1.2.2.2.2.2.2.2.2.2.2.2.1
theorem k0_off69_inb : ∀ (arg12 : BitVec 32) (arg13 : BitVec 32) (k0_hw1 : k0_chk1 arg12 arg13), ∀ a, (k0_off69 arg12 arg13) a + S1x144x512.size a ≤ S32x144x512.size a := fun arg12 arg13 k0_hw1 => k0_hw1.2.2.2.1.2.2.2.2.2.2.2.2.2.2.2.2.1
theorem k0_off70_inb : ∀ (arg12 : BitVec 32) (arg13 : BitVec 32) (k0_hw1 : k0_chk1 arg12 arg13), ∀ a, (k0_off70 arg12 arg13) a + S1x144x512.size a ≤ S1x144x16384.size a := fun arg12 arg13 k0_hw1 => k0_hw1.2.2.2.1.2.2.2.2.2.2.2.2.2.2.2.2.2.1
theorem k0_mult45_dvd : ∀ (arg12 : BitVec 32) (arg13 : BitVec 32) (k0_hw1 : k0_chk1 arg12 arg13), 512 ∣ (k0_mult45 arg12 arg13).toNat := fun arg12 arg13 k0_hw1 => k0_hw1.2.2.2.1.2.2.2.2.2.2.2.2.2.2.2.2.2.2.1
theorem k0_mult46_dvd : ∀ (arg12 : BitVec 32) (arg13 : BitVec 32) (k0_hw1 : k0_chk1 arg12 arg13), 512 ∣ (k0_mult46 arg12 arg13).toNat := fun arg12 arg13 k0_hw1 => k0_hw1.2.2.2.1.2.2.2.2.2.2.2.2.2.2.2.2.2.2.2.1
theorem k0_off71_inb : ∀ (arg12 : BitVec 32) (arg13 : BitVec 32) (k0_hw1 : k0_chk1 arg12 arg13), ∀ a, (k0_off71 arg12 arg13) a + S512x192.size a ≤ S16384x256.size a := fun arg12 arg13 k0_hw1 => k0_hw1.2.2.2.1.2.2.2.2.2.2.2.2.2.2.2.2.2.2.2.2.1
theorem k0_off72_inb : ∀ (arg12 : BitVec 32) (arg13 : BitVec 32) (k0_hw1 : k0_chk1 arg12 arg13), ∀ a, (k0_off72 arg12 arg13) a + S1x192x512.size a ≤ S1x192x16384.size a := fun arg12 arg13 k0_hw1 => k0_hw1.2.2.2.1.2.2.2.2.2.2.2.2.2.2.2.2.2.2.2.2.2.1
theorem k0_mult47_dvd : ∀ (arg12 : BitVec 32) (arg13 : BitVec 32) (k0_hw1 : k0_chk1 arg12 arg13), 512 ∣ (k0_mult47 arg12 arg13).toNat := fun arg12 arg13 k0_hw1 => k0_hw1.2.2.2.1.2.2.2.2.2.2.2.2.2.2.2.2.2.2.2.2.2.2.1
theorem k0_off73_inb : ∀ (arg12 : BitVec 32) (arg13 : BitVec 32) (k0_hw1 : k0_chk1 arg12 arg13), ∀ a, (k0_off73 arg12 arg13) a + S1x1x512.size a ≤ S32x1x512.size a := fun arg12 arg13 k0_hw1 => k0_hw1.2.2.2.1.2.2.2.2.2.2.2.2.2.2.2.2.2.2.2.2.2.2.2.1
theorem k0_off74_inb : ∀ (arg12 : BitVec 32) (arg13 : BitVec 32) (k0_hw1 : k0_chk1 arg12 arg13), ∀ a, (k0_off74 arg12 arg13) a + S1x144x512.size a ≤ S32x144x512.size a := fun arg12 arg13 k0_hw1 => k0_hw1.2.2.2.1.2.2.2.2.2.2.2.2.2.2.2.2.2.2.2.2.2.2.2.2.1
theorem k0_off75_inb : ∀ (arg12 : BitVec 32) (arg13 : BitVec 32) (k0_hw1 : k0_chk1 arg12 arg13), ∀ a, (k0_off75 arg12 arg13) a + S1x144x512.size a ≤ S1x144x16384.size a := fun arg12 arg13 k0_hw1 => k0_hw1.2.2.2.1.2.2.2.2.2.2.2.2.2.2.2.2.2.2.2.2.2.2.2.2.2.1
theorem k0_mult48_dvd : ∀ (arg12 : BitVec 32) (arg13 : BitVec 32) (k0_hw1 : k0_chk1 arg12 arg13), 512 ∣ (k0_mult48 arg12 arg13).toNat := fun arg12 arg13 k0_hw1 => k0_hw1.2.2.2.1.2.2.2.2.2.2.2.2.2.2.2.2.2.2.2.2.2.2.2.2.2.2.1
theorem k0_mult49_dvd : ∀ (arg12 : BitVec 32) (arg13 : BitVec 32) (k0_hw1 : k0_chk1 arg12 arg13), 512 ∣ (k0_mult49 arg12 arg13).toNat := fun arg12 arg13 k0_hw1 => k0_hw1.2.2.2.1.2.2.2.2.2.2.2.2.2.2.2.2.2.2.2.2.2.2.2.2.2.2.2.1
theorem k0_off76_inb : ∀ (arg12 : BitVec 32) (arg13 : BitVec 32) (k0_hw1 : k0_chk1 arg12 arg13), ∀ a, (k0_off76 arg12 arg13) a + S512x192.size a ≤ S16384x256.size a := fun arg12 arg13 k0_hw1 => k0_hw1.2.2.2.1.2.2.2.2.2.2.2.2.2.2.2.2.2.2.2.2.2.2.2.2.2.2.2.2.1
theorem k0_off77_inb : ∀ (arg12 : BitVec 32) (arg13 : BitVec 32) (k0_hw1 : k0_chk1 arg12 arg13), ∀ a, (k0_off77 arg12 arg13) a + S1x192x512.size a ≤ S1x192x16384.size a := fun arg12 arg13 k0_hw1 => k0_hw1.2.2.2.1.2.2.2.2.2.2.2.2.2.2.2.2.2.2.2.2.2.2.2.2.2.2.2.2.2.1
theorem k0_mult50_dvd : ∀ (arg12 : BitVec 32) (arg13 : BitVec 32) (k0_hw1 : k0_chk1 arg12 arg13), 512 ∣ (k0_mult50 arg12 arg13).toNat := fun arg12 arg13 k0_hw1 => k0_hw1.2.2.2.1.2.2.2.2.2.2.2.2.2.2.2.2.2.2.2.2.2.2.2.2.2.2.2.2.2.2.1
theorem k0_off78_inb : ∀ (arg12 : BitVec 32) (arg13 : BitVec 32) (k0_hw1 : k0_chk1 arg12 arg13), ∀ a, (k0_off78 arg12 arg13) a + S1x1x512.size a ≤ S32x1x512.size a := fun arg12 arg13 k0_hw1 => k0_hw1.2.2.2.1.2.2.2.2.2.2.2.2.2.2.2.2.2.2.2.2.2.2.2.2.2.2.2.2.2.2.2.1
theorem k0_off79_inb : ∀ (arg12 : BitVec 32) (arg13 : BitVec 32) (k0_hw1 : k0_chk1 arg12 arg13), ∀ a, (k0_off79 arg12 arg13) a + S1x144x512.size a ≤ S32x144x512.size a := fun arg12 arg13 k0_hw1 => k0_hw1.2.2.2.1.2.2.2.2.2.2.2.2.2.2.2.2.2.2.2.2.2.2.2.2.2.2.2.2.2.2.2.2.1
theorem k0_off80_inb : ∀ (arg12 : BitVec 32) (arg13 : BitVec 32) (k0_hw1 : k0_chk1 arg12 arg13), ∀ a, (k0_off80 arg12 arg13) a + S1x144x512.size a ≤ S1x144x16384.size a := fun arg12 arg13 k0_hw1 => k0_hw1.2.2.2.1.2.2.2.2.2.2.2.2.2.2.2.2.2.2.2.2.2.2.2.2.2.2.2.2.2.2.2.2.2.1
theorem k0_mult51_dvd : ∀ (arg12 : BitVec 32) (arg13 : BitVec 32) (k0_hw1 : k0_chk1 arg12 arg13), 512 ∣ (k0_mult51 arg12 arg13).toNat := fun arg12 arg13 k0_hw1 => k0_hw1.2.2.2.1.2.2.2.2.2.2.2.2.2.2.2.2.2.2.2.2.2.2.2.2.2.2.2.2.2.2.2.2.2.2.1
theorem k0_mult52_dvd : ∀ (arg12 : BitVec 32) (arg13 : BitVec 32) (k0_hw1 : k0_chk1 arg12 arg13), 512 ∣ (k0_mult52 arg12 arg13).toNat := fun arg12 arg13 k0_hw1 => k0_hw1.2.2.2.1.2.2.2.2.2.2.2.2.2.2.2.2.2.2.2.2.2.2.2.2.2.2.2.2.2.2.2.2.2.2.2
theorem k0_off81_inb : ∀ (arg12 : BitVec 32) (arg13 : BitVec 32) (k0_hw1 : k0_chk1 arg12 arg13), ∀ a, (k0_off81 arg12 arg13) a + S512x192.size a ≤ S16384x256.size a := fun arg12 arg13 k0_hw1 => k0_hw1.2.2.2.2.1.1
theorem k0_off82_inb : ∀ (arg12 : BitVec 32) (arg13 : BitVec 32) (k0_hw1 : k0_chk1 arg12 arg13), ∀ a, (k0_off82 arg12 arg13) a + S1x192x512.size a ≤ S1x192x16384.size a := fun arg12 arg13 k0_hw1 => k0_hw1.2.2.2.2.1.2.1
theorem k0_mult53_dvd : ∀ (arg12 : BitVec 32) (arg13 : BitVec 32) (k0_hw1 : k0_chk1 arg12 arg13), 512 ∣ (k0_mult53 arg12 arg13).toNat := fun arg12 arg13 k0_hw1 => k0_hw1.2.2.2.2.1.2.2.1
theorem k0_off83_inb : ∀ (arg12 : BitVec 32) (arg13 : BitVec 32) (k0_hw1 : k0_chk1 arg12 arg13), ∀ a, (k0_off83 arg12 arg13) a + S1x1x512.size a ≤ S32x1x512.size a := fun arg12 arg13 k0_hw1 => k0_hw1.2.2.2.2.1.2.2.2.1
theorem k0_off84_inb : ∀ (arg12 : BitVec 32) (arg13 : BitVec 32) (k0_hw1 : k0_chk1 arg12 arg13), ∀ a, (k0_off84 arg12 arg13) a + S1x144x512.size a ≤ S32x144x512.size a := fun arg12 arg13 k0_hw1 => k0_hw1.2.2.2.2.1.2.2.2.2.1
theorem k0_off85_inb : ∀ (arg12 : BitVec 32) (arg13 : BitVec 32) (k0_hw1 : k0_chk1 arg12 arg13), ∀ a, (k0_off85 arg12 arg13) a + S1x144x512.size a ≤ S1x144x16384.size a := fun arg12 arg13 k0_hw1 => k0_hw1.2.2.2.2.1.2.2.2.2.2.1
theorem k0_mult54_dvd : ∀ (arg12 : BitVec 32) (arg13 : BitVec 32) (k0_hw1 : k0_chk1 arg12 arg13), 512 ∣ (k0_mult54 arg12 arg13).toNat := fun arg12 arg13 k0_hw1 => k0_hw1.2.2.2.2.1.2.2.2.2.2.2.1
theorem k0_mult55_dvd : ∀ (arg12 : BitVec 32) (arg13 : BitVec 32) (k0_hw1 : k0_chk1 arg12 arg13), 512 ∣ (k0_mult55 arg12 arg13).toNat := fun arg12 arg13 k0_hw1 => k0_hw1.2.2.2.2.1.2.2.2.2.2.2.2.1
theorem k0_off86_inb : ∀ (arg12 : BitVec 32) (arg13 : BitVec 32) (k0_hw1 : k0_chk1 arg12 arg13), ∀ a, (k0_off86 arg12 arg13) a + S512x192.size a ≤ S16384x256.size a := fun arg12 arg13 k0_hw1 => k0_hw1.2.2.2.2.1.2.2.2.2.2.2.2.2.1
theorem k0_off87_inb : ∀ (arg12 : BitVec 32) (arg13 : BitVec 32) (k0_hw1 : k0_chk1 arg12 arg13), ∀ a, (k0_off87 arg12 arg13) a + S1x192x512.size a ≤ S1x192x16384.size a := fun arg12 arg13 k0_hw1 => k0_hw1.2.2.2.2.1.2.2.2.2.2.2.2.2.2.1
theorem k0_mult56_dvd : ∀ (arg12 : BitVec 32) (arg13 : BitVec 32) (k0_hw1 : k0_chk1 arg12 arg13), 512 ∣ (k0_mult56 arg12 arg13).toNat := fun arg12 arg13 k0_hw1 => k0_hw1.2.2.2.2.1.2.2.2.2.2.2.2.2.2.2.1
theorem k0_off88_inb : ∀ (arg12 : BitVec 32) (arg13 : BitVec 32) (k0_hw1 : k0_chk1 arg12 arg13), ∀ a, (k0_off88 arg12 arg13) a + S1x1x512.size a ≤ S32x1x512.size a := fun arg12 arg13 k0_hw1 => k0_hw1.2.2.2.2.1.2.2.2.2.2.2.2.2.2.2.2.1
theorem k0_off89_inb : ∀ (arg12 : BitVec 32) (arg13 : BitVec 32) (k0_hw1 : k0_chk1 arg12 arg13), ∀ a, (k0_off89 arg12 arg13) a + S1x144x512.size a ≤ S32x144x512.size a := fun arg12 arg13 k0_hw1 => k0_hw1.2.2.2.2.1.2.2.2.2.2.2.2.2.2.2.2.2.1
theorem k0_off90_inb : ∀ (arg12 : BitVec 32) (arg13 : BitVec 32) (k0_hw1 : k0_chk1 arg12 arg13), ∀ a, (k0_off90 arg12 arg13) a + S1x144x512.size a ≤ S1x144x16384.size a := fun arg12 arg13 k0_hw1 => k0_hw1.2.2.2.2.1.2.2.2.2.2.2.2.2.2.2.2.2.2.1
theorem k0_mult57_dvd : ∀ (arg12 : BitVec 32) (arg13 : BitVec 32) (k0_hw1 : k0_chk1 arg12 arg13), 512 ∣ (k0_mult57 arg12 arg13).toNat := fun arg12 arg13 k0_hw1 => k0_hw1.2.2.2.2.1.2.2.2.2.2.2.2.2.2.2.2.2.2.2.1
theorem k0_mult58_dvd : ∀ (arg12 : BitVec 32) (arg13 : BitVec 32) (k0_hw1 : k0_chk1 arg12 arg13), 512 ∣ (k0_mult58 arg12 arg13).toNat := fun arg12 arg13 k0_hw1 => k0_hw1.2.2.2.2.1.2.2.2.2.2.2.2.2.2.2.2.2.2.2.2.1
theorem k0_off91_inb : ∀ (arg12 : BitVec 32) (arg13 : BitVec 32) (k0_hw1 : k0_chk1 arg12 arg13), ∀ a, (k0_off91 arg12 arg13) a + S512x192.size a ≤ S16384x256.size a := fun arg12 arg13 k0_hw1 => k0_hw1.2.2.2.2.1.2.2.2.2.2.2.2.2.2.2.2.2.2.2.2.2.1
theorem k0_off92_inb : ∀ (arg12 : BitVec 32) (arg13 : BitVec 32) (k0_hw1 : k0_chk1 arg12 arg13), ∀ a, (k0_off92 arg12 arg13) a + S1x192x512.size a ≤ S1x192x16384.size a := fun arg12 arg13 k0_hw1 => k0_hw1.2.2.2.2.1.2.2.2.2.2.2.2.2.2.2.2.2.2.2.2.2.2.1
theorem k0_mult59_dvd : ∀ (arg12 : BitVec 32) (arg13 : BitVec 32) (k0_hw1 : k0_chk1 arg12 arg13), 512 ∣ (k0_mult59 arg12 arg13).toNat := fun arg12 arg13 k0_hw1 => k0_hw1.2.2.2.2.1.2.2.2.2.2.2.2.2.2.2.2.2.2.2.2.2.2.2.1
theorem k0_off93_inb : ∀ (arg12 : BitVec 32) (arg13 : BitVec 32) (k0_hw1 : k0_chk1 arg12 arg13), ∀ a, (k0_off93 arg12 arg13) a + S1x1x512.size a ≤ S32x1x512.size a := fun arg12 arg13 k0_hw1 => k0_hw1.2.2.2.2.1.2.2.2.2.2.2.2.2.2.2.2.2.2.2.2.2.2.2.2.1
theorem k0_off94_inb : ∀ (arg12 : BitVec 32) (arg13 : BitVec 32) (k0_hw1 : k0_chk1 arg12 arg13), ∀ a, (k0_off94 arg12 arg13) a + S1x144x512.size a ≤ S32x144x512.size a := fun arg12 arg13 k0_hw1 => k0_hw1.2.2.2.2.1.2.2.2.2.2.2.2.2.2.2.2.2.2.2.2.2.2.2.2.2.1
theorem k0_off95_inb : ∀ (arg12 : BitVec 32) (arg13 : BitVec 32) (k0_hw1 : k0_chk1 arg12 arg13), ∀ a, (k0_off95 arg12 arg13) a + S1x144x512.size a ≤ S1x144x16384.size a := fun arg12 arg13 k0_hw1 => k0_hw1.2.2.2.2.1.2.2.2.2.2.2.2.2.2.2.2.2.2.2.2.2.2.2.2.2.2.1
theorem k0_mult60_dvd : ∀ (arg12 : BitVec 32) (arg13 : BitVec 32) (k0_hw1 : k0_chk1 arg12 arg13), 512 ∣ (k0_mult60 arg12 arg13).toNat := fun arg12 arg13 k0_hw1 => k0_hw1.2.2.2.2.1.2.2.2.2.2.2.2.2.2.2.2.2.2.2.2.2.2.2.2.2.2.2.1
theorem k0_mult61_dvd : ∀ (arg12 : BitVec 32) (arg13 : BitVec 32) (k0_hw1 : k0_chk1 arg12 arg13), 512 ∣ (k0_mult61 arg12 arg13).toNat := fun arg12 arg13 k0_hw1 => k0_hw1.2.2.2.2.1.2.2.2.2.2.2.2.2.2.2.2.2.2.2.2.2.2.2.2.2.2.2.2.1
theorem k0_off96_inb : ∀ (arg12 : BitVec 32) (arg13 : BitVec 32) (k0_hw1 : k0_chk1 arg12 arg13), ∀ a, (k0_off96 arg12 arg13) a + S512x192.size a ≤ S16384x256.size a := fun arg12 arg13 k0_hw1 => k0_hw1.2.2.2.2.1.2.2.2.2.2.2.2.2.2.2.2.2.2.2.2.2.2.2.2.2.2.2.2.2.1
theorem k0_off97_inb : ∀ (arg12 : BitVec 32) (arg13 : BitVec 32) (k0_hw1 : k0_chk1 arg12 arg13), ∀ a, (k0_off97 arg12 arg13) a + S1x192x512.size a ≤ S1x192x16384.size a := fun arg12 arg13 k0_hw1 => k0_hw1.2.2.2.2.1.2.2.2.2.2.2.2.2.2.2.2.2.2.2.2.2.2.2.2.2.2.2.2.2.2.1
theorem k0_mult62_dvd : ∀ (arg12 : BitVec 32) (arg13 : BitVec 32) (k0_hw1 : k0_chk1 arg12 arg13), 512 ∣ (k0_mult62 arg12 arg13).toNat := fun arg12 arg13 k0_hw1 => k0_hw1.2.2.2.2.1.2.2.2.2.2.2.2.2.2.2.2.2.2.2.2.2.2.2.2.2.2.2.2.2.2.2.1
theorem k0_off98_inb : ∀ (arg12 : BitVec 32) (arg13 : BitVec 32) (k0_hw1 : k0_chk1 arg12 arg13), ∀ a, (k0_off98 arg12 arg13) a + S1x1x512.size a ≤ S32x1x512.size a := fun arg12 arg13 k0_hw1 => k0_hw1.2.2.2.2.1.2.2.2.2.2.2.2.2.2.2.2.2.2.2.2.2.2.2.2.2.2.2.2.2.2.2.2.1
theorem k0_off99_inb : ∀ (arg12 : BitVec 32) (arg13 : BitVec 32) (k0_hw1 : k0_chk1 arg12 arg13), ∀ a, (k0_off99 arg12 arg13) a + S1x144x512.size a ≤ S32x144x512.size a := fun arg12 arg13 k0_hw1 => k0_hw1.2.2.2.2.1.2.2.2.2.2.2.2.2.2.2.2.2.2.2.2.2.2.2.2.2.2.2.2.2.2.2.2.2.1
theorem k0_off100_inb : ∀ (arg12 : BitVec 32) (arg13 : BitVec 32) (k0_hw1 : k0_chk1 arg12 arg13), ∀ a, (k0_off100 arg12 arg13) a + S1x144x512.size a ≤ S1x144x16384.size a := fun arg12 arg13 k0_hw1 => k0_hw1.2.2.2.2.1.2.2.2.2.2.2.2.2.2.2.2.2.2.2.2.2.2.2.2.2.2.2.2.2.2.2.2.2.2.1
theorem k0_mult63_dvd : ∀ (arg12 : BitVec 32) (arg13 : BitVec 32) (k0_hw1 : k0_chk1 arg12 arg13), 512 ∣ (k0_mult63 arg12 arg13).toNat := fun arg12 arg13 k0_hw1 => k0_hw1.2.2.2.2.1.2.2.2.2.2.2.2.2.2.2.2.2.2.2.2.2.2.2.2.2.2.2.2.2.2.2.2.2.2.2.1
theorem k0_mult64_dvd : ∀ (arg12 : BitVec 32) (arg13 : BitVec 32) (k0_hw1 : k0_chk1 arg12 arg13), 512 ∣ (k0_mult64 arg12 arg13).toNat := fun arg12 arg13 k0_hw1 => k0_hw1.2.2.2.2.1.2.2.2.2.2.2.2.2.2.2.2.2.2.2.2.2.2.2.2.2.2.2.2.2.2.2.2.2.2.2.2
theorem k0_off101_inb : ∀ (arg12 : BitVec 32) (arg13 : BitVec 32) (k0_hw1 : k0_chk1 arg12 arg13), ∀ a, (k0_off101 arg12 arg13) a + S512x192.size a ≤ S16384x256.size a := fun arg12 arg13 k0_hw1 => k0_hw1.2.2.2.2.2.1.1
theorem k0_off102_inb : ∀ (arg12 : BitVec 32) (arg13 : BitVec 32) (k0_hw1 : k0_chk1 arg12 arg13), ∀ a, (k0_off102 arg12 arg13) a + S1x192x512.size a ≤ S1x192x16384.size a := fun arg12 arg13 k0_hw1 => k0_hw1.2.2.2.2.2.1.2.1
theorem k0_mult65_dvd : ∀ (arg12 : BitVec 32) (arg13 : BitVec 32) (k0_hw1 : k0_chk1 arg12 arg13), 512 ∣ (k0_mult65 arg12 arg13).toNat := fun arg12 arg13 k0_hw1 => k0_hw1.2.2.2.2.2.1.2.2.1
theorem k0_off103_inb : ∀ (arg12 : BitVec 32) (arg13 : BitVec 32) (k0_hw1 : k0_chk1 arg12 arg13), ∀ a, (k0_off103 arg12 arg13) a + S1x1x512.size a ≤ S32x1x512.size a := fun arg12 arg13 k0_hw1 => k0_hw1.2.2.2.2.2.1.2.2.2.1
theorem k0_off104_inb : ∀ (arg12 : BitVec 32) (arg13 : BitVec 32) (k0_hw1 : k0_chk1 arg12 arg13), ∀ a, (k0_off104 arg12 arg13) a + S1x144x512.size a ≤ S32x144x512.size a := fun arg12 arg13 k0_hw1 => k0_hw1.2.2.2.2.2.1.2.2.2.2.1
theorem k0_off105_inb : ∀ (arg12 : BitVec 32) (arg13 : BitVec 32) (k0_hw1 : k0_chk1 arg12 arg13), ∀ a, (k0_off105 arg12 arg13) a + S1x144x512.size a ≤ S1x144x16384.size a := fun arg12 arg13 k0_hw1 => k0_hw1.2.2.2.2.2.1.2.2.2.2.2.1
theorem k0_mult66_dvd : ∀ (arg12 : BitVec 32) (arg13 : BitVec 32) (k0_hw1 : k0_chk1 arg12 arg13), 512 ∣ (k0_mult66 arg12 arg13).toNat := fun arg12 arg13 k0_hw1 => k0_hw1.2.2.2.2.2.1.2.2.2.2.2.2.1
theorem k0_mult67_dvd : ∀ (arg12 : BitVec 32) (arg13 : BitVec 32) (k0_hw1 : k0_chk1 arg12 arg13), 512 ∣ (k0_mult67 arg12 arg13).toNat := fun arg12 arg13 k0_hw1 => k0_hw1.2.2.2.2.2.1.2.2.2.2.2.2.2.1
theorem k0_off106_inb : ∀ (arg12 : BitVec 32) (arg13 : BitVec 32) (k0_hw1 : k0_chk1 arg12 arg13), ∀ a, (k0_off106 arg12 arg13) a + S512x192.size a ≤ S16384x256.size a := fun arg12 arg13 k0_hw1 => k0_hw1.2.2.2.2.2.1.2.2.2.2.2.2.2.2.1
theorem k0_off107_inb : ∀ (arg12 : BitVec 32) (arg13 : BitVec 32) (k0_hw1 : k0_chk1 arg12 arg13), ∀ a, (k0_off107 arg12 arg13) a + S1x192x512.size a ≤ S1x192x16384.size a := fun arg12 arg13 k0_hw1 => k0_hw1.2.2.2.2.2.1.2.2.2.2.2.2.2.2.2.1
theorem k0_mult68_dvd : ∀ (arg12 : BitVec 32) (arg13 : BitVec 32) (k0_hw1 : k0_chk1 arg12 arg13), 512 ∣ (k0_mult68 arg12 arg13).toNat := fun arg12 arg13 k0_hw1 => k0_hw1.2.2.2.2.2.1.2.2.2.2.2.2.2.2.2.2.1
theorem k0_off108_inb : ∀ (arg12 : BitVec 32) (arg13 : BitVec 32) (k0_hw1 : k0_chk1 arg12 arg13), ∀ a, (k0_off108 arg12 arg13) a + S1x1x512.size a ≤ S32x1x512.size a := fun arg12 arg13 k0_hw1 => k0_hw1.2.2.2.2.2.1.2.2.2.2.2.2.2.2.2.2.2.1
theorem k0_off109_inb : ∀ (arg12 : BitVec 32) (arg13 : BitVec 32) (k0_hw1 : k0_chk1 arg12 arg13), ∀ a, (k0_off109 arg12 arg13) a + S1x144x512.size a ≤ S32x144x512.size a := fun arg12 arg13 k0_hw1 => k0_hw1.2.2.2.2.2.1.2.2.2.2.2.2.2.2.2.2.2.2.1
theorem k0_off110_inb : ∀ (arg12 : BitVec 32) (arg13 : BitVec 32) (k0_hw1 : k0_chk1 arg12 arg13), ∀ a, (k0_off110 arg12 arg13) a + S1x144x512.size a ≤ S1x144x16384.size a := fun arg12 arg13 k0_hw1 => k0_hw1.2.2.2.2.2.1.2.2.2.2.2.2.2.2.2.2.2.2.2.1
theorem k0_mult69_dvd : ∀ (arg12 : BitVec 32) (arg13 : BitVec 32) (k0_hw1 : k0_chk1 arg12 arg13), 512 ∣ (k0_mult69 arg12 arg13).toNat := fun arg12 arg13 k0_hw1 => k0_hw1.2.2.2.2.2.1.2.2.2.2.2.2.2.2.2.2.2.2.2.2.1
theorem k0_mult70_dvd : ∀ (arg12 : BitVec 32) (arg13 : BitVec 32) (k0_hw1 : k0_chk1 arg12 arg13), 512 ∣ (k0_mult70 arg12 arg13).toNat := fun arg12 arg13 k0_hw1 => k0_hw1.2.2.2.2.2.1.2.2.2.2.2.2.2.2.2.2.2.2.2.2.2.1
theorem k0_off111_inb : ∀ (arg12 : BitVec 32) (arg13 : BitVec 32) (k0_hw1 : k0_chk1 arg12 arg13), ∀ a, (k0_off111 arg12 arg13) a + S512x192.size a ≤ S16384x256.size a := fun arg12 arg13 k0_hw1 => k0_hw1.2.2.2.2.2.1.2.2.2.2.2.2.2.2.2.2.2.2.2.2.2.2.1
theorem k0_off112_inb : ∀ (arg12 : BitVec 32) (arg13 : BitVec 32) (k0_hw1 : k0_chk1 arg12 arg13), ∀ a, (k0_off112 arg12 arg13) a + S1x192x512.size a ≤ S1x192x16384.size a := fun arg12 arg13 k0_hw1 => k0_hw1.2.2.2.2.2.1.2.2.2.2.2.2.2.2.2.2.2.2.2.2.2.2.2.1
theorem k0_mult71_dvd : ∀ (arg12 : BitVec 32) (arg13 : BitVec 32) (k0_hw1 : k0_chk1 arg12 arg13), 512 ∣ (k0_mult71 arg12 arg13).toNat := fun arg12 arg13 k0_hw1 => k0_hw1.2.2.2.2.2.1.2.2.2.2.2.2.2.2.2.2.2.2.2.2.2.2.2.2.1
theorem k0_off113_inb : ∀ (arg12 : BitVec 32) (arg13 : BitVec 32) (k0_hw1 : k0_chk1 arg12 arg13), ∀ a, (k0_off113 arg12 arg13) a + S1x1x512.size a ≤ S32x1x512.size a := fun arg12 arg13 k0_hw1 => k0_hw1.2.2.2.2.2.1.2.2.2.2.2.2.2.2.2.2.2.2.2.2.2.2.2.2.2.1
theorem k0_off114_inb : ∀ (arg12 : BitVec 32) (arg13 : BitVec 32) (k0_hw1 : k0_chk1 arg12 arg13), ∀ a, (k0_off114 arg12 arg13) a + S1x144x512.size a ≤ S32x144x512.size a := fun arg12 arg13 k0_hw1 => k0_hw1.2.2.2.2.2.1.2.2.2.2.2.2.2.2.2.2.2.2.2.2.2.2.2.2.2.2.1
theorem k0_off115_inb : ∀ (arg12 : BitVec 32) (arg13 : BitVec 32) (k0_hw1 : k0_chk1 arg12 arg13), ∀ a, (k0_off115 arg12 arg13) a + S1x144x512.size a ≤ S1x144x16384.size a := fun arg12 arg13 k0_hw1 => k0_hw1.2.2.2.2.2.1.2.2.2.2.2.2.2.2.2.2.2.2.2.2.2.2.2.2.2.2.2.1
theorem k0_mult72_dvd : ∀ (arg12 : BitVec 32) (arg13 : BitVec 32) (k0_hw1 : k0_chk1 arg12 arg13), 512 ∣ (k0_mult72 arg12 arg13).toNat := fun arg12 arg13 k0_hw1 => k0_hw1.2.2.2.2.2.1.2.2.2.2.2.2.2.2.2.2.2.2.2.2.2.2.2.2.2.2.2.2.1
theorem k0_mult73_dvd : ∀ (arg12 : BitVec 32) (arg13 : BitVec 32) (k0_hw1 : k0_chk1 arg12 arg13), 512 ∣ (k0_mult73 arg12 arg13).toNat := fun arg12 arg13 k0_hw1 => k0_hw1.2.2.2.2.2.1.2.2.2.2.2.2.2.2.2.2.2.2.2.2.2.2.2.2.2.2.2.2.2.1
theorem k0_off116_inb : ∀ (arg12 : BitVec 32) (arg13 : BitVec 32) (k0_hw1 : k0_chk1 arg12 arg13), ∀ a, (k0_off116 arg12 arg13) a + S512x192.size a ≤ S16384x256.size a := fun arg12 arg13 k0_hw1 => k0_hw1.2.2.2.2.2.1.2.2.2.2.2.2.2.2.2.2.2.2.2.2.2.2.2.2.2.2.2.2.2.2.1
theorem k0_off117_inb : ∀ (arg12 : BitVec 32) (arg13 : BitVec 32) (k0_hw1 : k0_chk1 arg12 arg13), ∀ a, (k0_off117 arg12 arg13) a + S1x192x512.size a ≤ S1x192x16384.size a := fun arg12 arg13 k0_hw1 => k0_hw1.2.2.2.2.2.1.2.2.2.2.2.2.2.2.2.2.2.2.2.2.2.2.2.2.2.2.2.2.2.2.2.1
theorem k0_mult74_dvd : ∀ (arg12 : BitVec 32) (arg13 : BitVec 32) (k0_hw1 : k0_chk1 arg12 arg13), 512 ∣ (k0_mult74 arg12 arg13).toNat := fun arg12 arg13 k0_hw1 => k0_hw1.2.2.2.2.2.1.2.2.2.2.2.2.2.2.2.2.2.2.2.2.2.2.2.2.2.2.2.2.2.2.2.2.1
theorem k0_off118_inb : ∀ (arg12 : BitVec 32) (arg13 : BitVec 32) (k0_hw1 : k0_chk1 arg12 arg13), ∀ a, (k0_off118 arg12 arg13) a + S1x1x512.size a ≤ S32x1x512.size a := fun arg12 arg13 k0_hw1 => k0_hw1.2.2.2.2.2.1.2.2.2.2.2.2.2.2.2.2.2.2.2.2.2.2.2.2.2.2.2.2.2.2.2.2.2.1
theorem k0_off119_inb : ∀ (arg12 : BitVec 32) (arg13 : BitVec 32) (k0_hw1 : k0_chk1 arg12 arg13), ∀ a, (k0_off119 arg12 arg13) a + S1x144x512.size a ≤ S32x144x512.size a := fun arg12 arg13 k0_hw1 => k0_hw1.2.2.2.2.2.1.2.2.2.2.2.2.2.2.2.2.2.2.2.2.2.2.2.2.2.2.2.2.2.2.2.2.2.2.1
theorem k0_off120_inb : ∀ (arg12 : BitVec 32) (arg13 : BitVec 32) (k0_hw1 : k0_chk1 arg12 arg13), ∀ a, (k0_off120 arg12 arg13) a + S1x144x512.size a ≤ S1x144x16384.size a := fun arg12 arg13 k0_hw1 => k0_hw1.2.2.2.2.2.1.2.2.2.2.2.2.2.2.2.2.2.2.2.2.2.2.2.2.2.2.2.2.2.2.2.2.2.2.2.1
theorem k0_mult75_dvd : ∀ (arg12 : BitVec 32) (arg13 : BitVec 32) (k0_hw1 : k0_chk1 arg12 arg13), 512 ∣ (k0_mult75 arg12 arg13).toNat := fun arg12 arg13 k0_hw1 => k0_hw1.2.2.2.2.2.1.2.2.2.2.2.2.2.2.2.2.2.2.2.2.2.2.2.2.2.2.2.2.2.2.2.2.2.2.2.2.1
theorem k0_mult76_dvd : ∀ (arg12 : BitVec 32) (arg13 : BitVec 32) (k0_hw1 : k0_chk1 arg12 arg13), 512 ∣ (k0_mult76 arg12 arg13).toNat := fun arg12 arg13 k0_hw1 => k0_hw1.2.2.2.2.2.1.2.2.2.2.2.2.2.2.2.2.2.2.2.2.2.2.2.2.2.2.2.2.2.2.2.2.2.2.2.2.2
theorem k0_off121_inb : ∀ (arg12 : BitVec 32) (arg13 : BitVec 32) (k0_hw1 : k0_chk1 arg12 arg13), ∀ a, (k0_off121 arg12 arg13) a + S512x192.size a ≤ S16384x256.size a := fun arg12 arg13 k0_hw1 => k0_hw1.2.2.2.2.2.2.1.1
theorem k0_off122_inb : ∀ (arg12 : BitVec 32) (arg13 : BitVec 32) (k0_hw1 : k0_chk1 arg12 arg13), ∀ a, (k0_off122 arg12 arg13) a + S1x192x512.size a ≤ S1x192x16384.size a := fun arg12 arg13 k0_hw1 => k0_hw1.2.2.2.2.2.2.1.2.1
theorem k0_mult77_dvd : ∀ (arg12 : BitVec 32) (arg13 : BitVec 32) (k0_hw1 : k0_chk1 arg12 arg13), 512 ∣ (k0_mult77 arg12 arg13).toNat := fun arg12 arg13 k0_hw1 => k0_hw1.2.2.2.2.2.2.1.2.2.1
theorem k0_off123_inb : ∀ (arg12 : BitVec 32) (arg13 : BitVec 32) (k0_hw1 : k0_chk1 arg12 arg13), ∀ a, (k0_off123 arg12 arg13) a + S1x1x512.size a ≤ S32x1x512.size a := fun arg12 arg13 k0_hw1 => k0_hw1.2.2.2.2.2.2.1.2.2.2.1
theorem k0_off124_inb : ∀ (arg12 : BitVec 32) (arg13 : BitVec 32) (k0_hw1 : k0_chk1 arg12 arg13), ∀ a, (k0_off124 arg12 arg13) a + S1x144x512.size a ≤ S32x144x512.size a := fun arg12 arg13 k0_hw1 => k0_hw1.2.2.2.2.2.2.1.2.2.2.2.1
theorem k0_off125_inb : ∀ (arg12 : BitVec 32) (arg13 : BitVec 32) (k0_hw1 : k0_chk1 arg12 arg13), ∀ a, (k0_off125 arg12 arg13) a + S1x144x512.size a ≤ S1x144x16384.size a := fun arg12 arg13 k0_hw1 => k0_hw1.2.2.2.2.2.2.1.2.2.2.2.2.1
theorem k0_mult78_dvd : ∀ (arg12 : BitVec 32) (arg13 : BitVec 32) (k0_hw1 : k0_chk1 arg12 arg13), 512 ∣ (k0_mult78 arg12 arg13).toNat := fun arg12 arg13 k0_hw1 => k0_hw1.2.2.2.2.2.2.1.2.2.2.2.2.2.1
theorem k0_mult79_dvd : ∀ (arg12 : BitVec 32) (arg13 : BitVec 32) (k0_hw1 : k0_chk1 arg12 arg13), 512 ∣ (k0_mult79 arg12 arg13).toNat := fun arg12 arg13 k0_hw1 => k0_hw1.2.2.2.2.2.2.1.2.2.2.2.2.2.2.1
theorem k0_off126_inb : ∀ (arg12 : BitVec 32) (arg13 : BitVec 32) (k0_hw1 : k0_chk1 arg12 arg13), ∀ a, (k0_off126 arg12 arg13) a + S512x192.size a ≤ S16384x256.size a := fun arg12 arg13 k0_hw1 => k0_hw1.2.2.2.2.2.2.1.2.2.2.2.2.2.2.2.1
theorem k0_off127_inb : ∀ (arg12 : BitVec 32) (arg13 : BitVec 32) (k0_hw1 : k0_chk1 arg12 arg13), ∀ a, (k0_off127 arg12 arg13) a + S1x192x512.size a ≤ S1x192x16384.size a := fun arg12 arg13 k0_hw1 => k0_hw1.2.2.2.2.2.2.1.2.2.2.2.2.2.2.2.2.1
theorem k0_mult80_dvd : ∀ (arg12 : BitVec 32) (arg13 : BitVec 32) (k0_hw1 : k0_chk1 arg12 arg13), 512 ∣ (k0_mult80 arg12 arg13).toNat := fun arg12 arg13 k0_hw1 => k0_hw1.2.2.2.2.2.2.1.2.2.2.2.2.2.2.2.2.2.1
theorem k0_off128_inb : ∀ (arg12 : BitVec 32) (arg13 : BitVec 32) (k0_hw1 : k0_chk1 arg12 arg13), ∀ a, (k0_off128 arg12 arg13) a + S1x1x512.size a ≤ S32x1x512.size a := fun arg12 arg13 k0_hw1 => k0_hw1.2.2.2.2.2.2.1.2.2.2.2.2.2.2.2.2.2.2.1
theorem k0_off129_inb : ∀ (arg12 : BitVec 32) (arg13 : BitVec 32) (k0_hw1 : k0_chk1 arg12 arg13), ∀ a, (k0_off129 arg12 arg13) a + S1x144x512.size a ≤ S32x144x512.size a := fun arg12 arg13 k0_hw1 => k0_hw1.2.2.2.2.2.2.1.2.2.2.2.2.2.2.2.2.2.2.2.1
theorem k0_off130_inb : ∀ (arg12 : BitVec 32) (arg13 : BitVec 32) (k0_hw1 : k0_chk1 arg12 arg13), ∀ a, (k0_off130 arg12 arg13) a + S1x144x512.size a ≤ S1x144x16384.size a := fun arg12 arg13 k0_hw1 => k0_hw1.2.2.2.2.2.2.1.2.2.2.2.2.2.2.2.2.2.2.2.2.1
theorem k0_mult81_dvd : ∀ (arg12 : BitVec 32) (arg13 : BitVec 32) (k0_hw1 : k0_chk1 arg12 arg13), 512 ∣ (k0_mult81 arg12 arg13).toNat := fun arg12 arg13 k0_hw1 => k0_hw1.2.2.2.2.2.2.1.2.2.2.2.2.2.2.2.2.2.2.2.2.2.1
theorem k0_mult82_dvd : ∀ (arg12 : BitVec 32) (arg13 : BitVec 32) (k0_hw1 : k0_chk1 arg12 arg13), 512 ∣ (k0_mult82 arg12 arg13).toNat := fun arg12 arg13 k0_hw1 => k0_hw1.2.2.2.2.2.2.1.2.2.2.2.2.2.2.2.2.2.2.2.2.2.2.1
theorem k0_off131_inb : ∀ (arg12 : BitVec 32) (arg13 : BitVec 32) (k0_hw1 : k0_chk1 arg12 arg13), ∀ a, (k0_off131 arg12 arg13) a + S512x192.size a ≤ S16384x256.size a := fun arg12 arg13 k0_hw1 => k0_hw1.2.2.2.2.2.2.1.2.2.2.2.2.2.2.2.2.2.2.2.2.2.2.2.1
theorem k0_off132_inb : ∀ (arg12 : BitVec 32) (arg13 : BitVec 32) (k0_hw1 : k0_chk1 arg12 arg13), ∀ a, (k0_off132 arg12 arg13) a + S1x192x512.size a ≤ S1x192x16384.size a := fun arg12 arg13 k0_hw1 => k0_hw1.2.2.2.2.2.2.1.2.2.2.2.2.2.2.2.2.2.2.2.2.2.2.2.2.1
theorem k0_mult83_dvd : ∀ (arg12 : BitVec 32) (arg13 : BitVec 32) (k0_hw1 : k0_chk1 arg12 arg13), 512 ∣ (k0_mult83 arg12 arg13).toNat := fun arg12 arg13 k0_hw1 => k0_hw1.2.2.2.2.2.2.1.2.2.2.2.2.2.2.2.2.2.2.2.2.2.2.2.2.2.1
theorem k0_off133_inb : ∀ (arg12 : BitVec 32) (arg13 : BitVec 32) (k0_hw1 : k0_chk1 arg12 arg13), ∀ a, (k0_off133 arg12 arg13) a + S1x1x512.size a ≤ S32x1x512.size a := fun arg12 arg13 k0_hw1 => k0_hw1.2.2.2.2.2.2.1.2.2.2.2.2.2.2.2.2.2.2.2.2.2.2.2.2.2.2.1
theorem k0_off134_inb : ∀ (arg12 : BitVec 32) (arg13 : BitVec 32) (k0_hw1 : k0_chk1 arg12 arg13), ∀ a, (k0_off134 arg12 arg13) a + S1x144x512.size a ≤ S32x144x512.size a := fun arg12 arg13 k0_hw1 => k0_hw1.2.2.2.2.2.2.1.2.2.2.2.2.2.2.2.2.2.2.2.2.2.2.2.2.2.2.2.1
theorem k0_off135_inb : ∀ (arg12 : BitVec 32) (arg13 : BitVec 32) (k0_hw1 : k0_chk1 arg12 arg13), ∀ a, (k0_off135 arg12 arg13) a + S1x144x512.size a ≤ S1x144x16384.size a := fun arg12 arg13 k0_hw1 => k0_hw1.2.2.2.2.2.2.1.2.2.2.2.2.2.2.2.2.2.2.2.2.2.2.2.2.2.2.2.2.1
theorem k0_mult84_dvd : ∀ (arg12 : BitVec 32) (arg13 : BitVec 32) (k0_hw1 : k0_chk1 arg12 arg13), 512 ∣ (k0_mult84 arg12 arg13).toNat := fun arg12 arg13 k0_hw1 => k0_hw1.2.2.2.2.2.2.1.2.2.2.2.2.2.2.2.2.2.2.2.2.2.2.2.2.2.2.2.2.2.1
theorem k0_mult85_dvd : ∀ (arg12 : BitVec 32) (arg13 : BitVec 32) (k0_hw1 : k0_chk1 arg12 arg13), 512 ∣ (k0_mult85 arg12 arg13).toNat := fun arg12 arg13 k0_hw1 => k0_hw1.2.2.2.2.2.2.1.2.2.2.2.2.2.2.2.2.2.2.2.2.2.2.2.2.2.2.2.2.2.2.1
theorem k0_off136_inb : ∀ (arg12 : BitVec 32) (arg13 : BitVec 32) (k0_hw1 : k0_chk1 arg12 arg13), ∀ a, (k0_off136 arg12 arg13) a + S512x192.size a ≤ S16384x256.size a := fun arg12 arg13 k0_hw1 => k0_hw1.2.2.2.2.2.2.1.2.2.2.2.2.2.2.2.2.2.2.2.2.2.2.2.2.2.2.2.2.2.2.2.1
theorem k0_off137_inb : ∀ (arg12 : BitVec 32) (arg13 : BitVec 32) (k0_hw1 : k0_chk1 arg12 arg13), ∀ a, (k0_off137 arg12 arg13) a + S1x192x512.size a ≤ S1x192x16384.size a := fun arg12 arg13 k0_hw1 => k0_hw1.2.2.2.2.2.2.1.2.2.2.2.2.2.2.2.2.2.2.2.2.2.2.2.2.2.2.2.2.2.2.2.2.1
theorem k0_mult86_dvd : ∀ (arg12 : BitVec 32) (arg13 : BitVec 32) (k0_hw1 : k0_chk1 arg12 arg13), 512 ∣ (k0_mult86 arg12 arg13).toNat := fun arg12 arg13 k0_hw1 => k0_hw1.2.2.2.2.2.2.1.2.2.2.2.2.2.2.2.2.2.2.2.2.2.2.2.2.2.2.2.2.2.2.2.2.2.1
theorem k0_off138_inb : ∀ (arg12 : BitVec 32) (arg13 : BitVec 32) (k0_hw1 : k0_chk1 arg12 arg13), ∀ a, (k0_off138 arg12 arg13) a + S1x1x512.size a ≤ S32x1x512.size a := fun arg12 arg13 k0_hw1 => k0_hw1.2.2.2.2.2.2.1.2.2.2.2.2.2.2.2.2.2.2.2.2.2.2.2.2.2.2.2.2.2.2.2.2.2.2.1
theorem k0_off139_inb : ∀ (arg12 : BitVec 32) (arg13 : BitVec 32) (k0_hw1 : k0_chk1 arg12 arg13), ∀ a, (k0_off139 arg12 arg13) a + S1x144x512.size a ≤ S32x144x512.size a := fun arg12 arg13 k0_hw1 => k0_hw1.2.2.2.2.2.2.1.2.2.2.2.2.2.2.2.2.2.2.2.2.2.2.2.2.2.2.2.2.2.2.2.2.2.2.2.1
theorem k0_off140_inb : ∀ (arg12 : BitVec 32) (arg13 : BitVec 32) (k0_hw1 : k0_chk1 arg12 arg13), ∀ a, (k0_off140 arg12 arg13) a + S1x144x512.size a ≤ S1x144x16384.size a := fun arg12 arg13 k0_hw1 => k0_hw1.2.2.2.2.2.2.1.2.2.2.2.2.2.2.2.2.2.2.2.2.2.2.2.2.2.2.2.2.2.2.2.2.2.2.2.2.1
theorem k0_mult87_dvd : ∀ (arg12 : BitVec 32) (arg13 : BitVec 32) (k0_hw1 : k0_chk1 arg12 arg13), 512 ∣ (k0_mult87 arg12 arg13).toNat := fun arg12 arg13 k0_hw1 => k0_hw1.2.2.2.2.2.2.1.2.2.2.2.2.2.2.2.2.2.2.2.2.2.2.2.2.2.2.2.2.2.2.2.2.2.2.2.2.2.1
theorem k0_mult88_dvd : ∀ (arg12 : BitVec 32) (arg13 : BitVec 32) (k0_hw1 : k0_chk1 arg12 arg13), 512 ∣ (k0_mult88 arg12 arg13).toNat := fun arg12 arg13 k0_hw1 => k0_hw1.2.2.2.2.2.2.1.2.2.2.2.2.2.2.2.2.2.2.2.2.2.2.2.2.2.2.2.2.2.2.2.2.2.2.2.2.2.2
theorem k0_off141_inb : ∀ (arg12 : BitVec 32) (arg13 : BitVec 32) (k0_hw1 : k0_chk1 arg12 arg13), ∀ a, (k0_off141 arg12 arg13) a + S512x192.size a ≤ S16384x256.size a := fun arg12 arg13 k0_hw1 => k0_hw1.2.2.2.2.2.2.2.1.1
theorem k0_off142_inb : ∀ (arg12 : BitVec 32) (arg13 : BitVec 32) (k0_hw1 : k0_chk1 arg12 arg13), ∀ a, (k0_off142 arg12 arg13) a + S1x192x512.size a ≤ S1x192x16384.size a := fun arg12 arg13 k0_hw1 => k0_hw1.2.2.2.2.2.2.2.1.2.1
theorem k0_mult89_dvd : ∀ (arg12 : BitVec 32) (arg13 : BitVec 32) (k0_hw1 : k0_chk1 arg12 arg13), 512 ∣ (k0_mult89 arg12 arg13).toNat := fun arg12 arg13 k0_hw1 => k0_hw1.2.2.2.2.2.2.2.1.2.2.1
theorem k0_off143_inb : ∀ (arg12 : BitVec 32) (arg13 : BitVec 32) (k0_hw1 : k0_chk1 arg12 arg13), ∀ a, (k0_off143 arg12 arg13) a + S1x1x512.size a ≤ S32x1x512.size a := fun arg12 arg13 k0_hw1 => k0_hw1.2.2.2.2.2.2.2.1.2.2.2.1
theorem k0_off144_inb : ∀ (arg12 : BitVec 32) (arg13 : BitVec 32) (k0_hw1 : k0_chk1 arg12 arg13), ∀ a, (k0_off144 arg12 arg13) a + S1x144x512.size a ≤ S32x144x512.size a := fun arg12 arg13 k0_hw1 => k0_hw1.2.2.2.2.2.2.2.1.2.2.2.2.1
theorem k0_off145_inb : ∀ (arg12 : BitVec 32) (arg13 : BitVec 32) (k0_hw1 : k0_chk1 arg12 arg13), ∀ a, (k0_off145 arg12 arg13) a + S1x144x512.size a ≤ S1x144x16384.size a := fun arg12 arg13 k0_hw1 => k0_hw1.2.2.2.2.2.2.2.1.2.2.2.2.2.1
theorem k0_mult90_dvd : ∀ (arg12 : BitVec 32) (arg13 : BitVec 32) (k0_hw1 : k0_chk1 arg12 arg13), 512 ∣ (k0_mult90 arg12 arg13).toNat := fun arg12 arg13 k0_hw1 => k0_hw1.2.2.2.2.2.2.2.1.2.2.2.2.2.2.1
theorem k0_mult91_dvd : ∀ (arg12 : BitVec 32) (arg13 : BitVec 32) (k0_hw1 : k0_chk1 arg12 arg13), 512 ∣ (k0_mult91 arg12 arg13).toNat := fun arg12 arg13 k0_hw1 => k0_hw1.2.2.2.2.2.2.2.1.2.2.2.2.2.2.2.1
theorem k0_off146_inb : ∀ (arg12 : BitVec 32) (arg13 : BitVec 32) (k0_hw1 : k0_chk1 arg12 arg13), ∀ a, (k0_off146 arg12 arg13) a + S512x192.size a ≤ S16384x256.size a := fun arg12 arg13 k0_hw1 => k0_hw1.2.2.2.2.2.2.2.1.2.2.2.2.2.2.2.2.1
theorem k0_off147_inb : ∀ (arg12 : BitVec 32) (arg13 : BitVec 32) (k0_hw1 : k0_chk1 arg12 arg13), ∀ a, (k0_off147 arg12 arg13) a + S1x192x512.size a ≤ S1x192x16384.size a := fun arg12 arg13 k0_hw1 => k0_hw1.2.2.2.2.2.2.2.1.2.2.2.2.2.2.2.2.2.1
theorem k0_mult92_dvd : ∀ (arg12 : BitVec 32) (arg13 : BitVec 32) (k0_hw1 : k0_chk1 arg12 arg13), 512 ∣ (k0_mult92 arg12 arg13).toNat := fun arg12 arg13 k0_hw1 => k0_hw1.2.2.2.2.2.2.2.1.2.2.2.2.2.2.2.2.2.2.1
theorem k0_off148_inb : ∀ (arg12 : BitVec 32) (arg13 : BitVec 32) (k0_hw1 : k0_chk1 arg12 arg13), ∀ a, (k0_off148 arg12 arg13) a + S1x1x512.size a ≤ S32x1x512.size a := fun arg12 arg13 k0_hw1 => k0_hw1.2.2.2.2.2.2.2.1.2.2.2.2.2.2.2.2.2.2.2.1
theorem k0_off149_inb : ∀ (arg12 : BitVec 32) (arg13 : BitVec 32) (k0_hw1 : k0_chk1 arg12 arg13), ∀ a, (k0_off149 arg12 arg13) a + S1x144x512.size a ≤ S32x144x512.size a := fun arg12 arg13 k0_hw1 => k0_hw1.2.2.2.2.2.2.2.1.2.2.2.2.2.2.2.2.2.2.2.2.1
theorem k0_off150_inb : ∀ (arg12 : BitVec 32) (arg13 : BitVec 32) (k0_hw1 : k0_chk1 arg12 arg13), ∀ a, (k0_off150 arg12 arg13) a + S1x144x512.size a ≤ S1x144x16384.size a := fun arg12 arg13 k0_hw1 => k0_hw1.2.2.2.2.2.2.2.1.2.2.2.2.2.2.2.2.2.2.2.2.2.1
theorem k0_mult93_dvd : ∀ (arg12 : BitVec 32) (arg13 : BitVec 32) (k0_hw1 : k0_chk1 arg12 arg13), 512 ∣ (k0_mult93 arg12 arg13).toNat := fun arg12 arg13 k0_hw1 => k0_hw1.2.2.2.2.2.2.2.1.2.2.2.2.2.2.2.2.2.2.2.2.2.2.1
theorem k0_mult94_dvd : ∀ (arg12 : BitVec 32) (arg13 : BitVec 32) (k0_hw1 : k0_chk1 arg12 arg13), 512 ∣ (k0_mult94 arg12 arg13).toNat := fun arg12 arg13 k0_hw1 => k0_hw1.2.2.2.2.2.2.2.1.2.2.2.2.2.2.2.2.2.2.2.2.2.2.2.1
theorem k0_off151_inb : ∀ (arg12 : BitVec 32) (arg13 : BitVec 32) (k0_hw1 : k0_chk1 arg12 arg13), ∀ a, (k0_off151 arg12 arg13) a + S512x192.size a ≤ S16384x256.size a := fun arg12 arg13 k0_hw1 => k0_hw1.2.2.2.2.2.2.2.1.2.2.2.2.2.2.2.2.2.2.2.2.2.2.2.2.1
theorem k0_off152_inb : ∀ (arg12 : BitVec 32) (arg13 : BitVec 32) (k0_hw1 : k0_chk1 arg12 arg13), ∀ a, (k0_off152 arg12 arg13) a + S1x192x512.size a ≤ S1x192x16384.size a := fun arg12 arg13 k0_hw1 => k0_hw1.2.2.2.2.2.2.2.1.2.2.2.2.2.2.2.2.2.2.2.2.2.2.2.2.2.1
theorem k0_mult95_dvd : ∀ (arg12 : BitVec 32) (arg13 : BitVec 32) (k0_hw1 : k0_chk1 arg12 arg13), 512 ∣ (k0_mult95 arg12 arg13).toNat := fun arg12 arg13 k0_hw1 => k0_hw1.2.2.2.2.2.2.2.1.2.2.2.2.2.2.2.2.2.2.2.2.2.2.2.2.2.2.1
theorem k0_off153_inb : ∀ (arg12 : BitVec 32) (arg13 : BitVec 32) (k0_hw1 : k0_chk1 arg12 arg13), ∀ a, (k0_off153 arg12 arg13) a + S1x1x512.size a ≤ S32x1x512.size a := fun arg12 arg13 k0_hw1 => k0_hw1.2.2.2.2.2.2.2.1.2.2.2.2.2.2.2.2.2.2.2.2.2.2.2.2.2.2.2.1
theorem k0_off154_inb : ∀ (arg12 : BitVec 32) (arg13 : BitVec 32) (k0_hw1 : k0_chk1 arg12 arg13), ∀ a, (k0_off154 arg12 arg13) a + S1x144x512.size a ≤ S32x144x512.size a := fun arg12 arg13 k0_hw1 => k0_hw1.2.2.2.2.2.2.2.1.2.2.2.2.2.2.2.2.2.2.2.2.2.2.2.2.2.2.2.2.1
theorem k0_off155_inb : ∀ (arg12 : BitVec 32) (arg13 : BitVec 32) (k0_hw1 : k0_chk1 arg12 arg13), ∀ a, (k0_off155 arg12 arg13) a + S1x144x512.size a ≤ S1x144x16384.size a := fun arg12 arg13 k0_hw1 => k0_hw1.2.2.2.2.2.2.2.1.2.2.2.2.2.2.2.2.2.2.2.2.2.2.2.2.2.2.2.2.2.1
theorem k0_mult96_dvd : ∀ (arg12 : BitVec 32) (arg13 : BitVec 32) (k0_hw1 : k0_chk1 arg12 arg13), 512 ∣ (k0_mult96 arg12 arg13).toNat := fun arg12 arg13 k0_hw1 => k0_hw1.2.2.2.2.2.2.2.1.2.2.2.2.2.2.2.2.2.2.2.2.2.2.2.2.2.2.2.2.2.2.1
theorem k0_mult97_dvd : ∀ (arg12 : BitVec 32) (arg13 : BitVec 32) (k0_hw1 : k0_chk1 arg12 arg13), 512 ∣ (k0_mult97 arg12 arg13).toNat := fun arg12 arg13 k0_hw1 => k0_hw1.2.2.2.2.2.2.2.1.2.2.2.2.2.2.2.2.2.2.2.2.2.2.2.2.2.2.2.2.2.2.2.1
theorem k0_off156_inb : ∀ (arg12 : BitVec 32) (arg13 : BitVec 32) (k0_hw1 : k0_chk1 arg12 arg13), ∀ a, (k0_off156 arg12 arg13) a + S512x192.size a ≤ S16384x256.size a := fun arg12 arg13 k0_hw1 => k0_hw1.2.2.2.2.2.2.2.1.2.2.2.2.2.2.2.2.2.2.2.2.2.2.2.2.2.2.2.2.2.2.2.2.1
theorem k0_off157_inb : ∀ (arg12 : BitVec 32) (arg13 : BitVec 32) (k0_hw1 : k0_chk1 arg12 arg13), ∀ a, (k0_off157 arg12 arg13) a + S1x192x512.size a ≤ S1x192x16384.size a := fun arg12 arg13 k0_hw1 => k0_hw1.2.2.2.2.2.2.2.1.2.2.2.2.2.2.2.2.2.2.2.2.2.2.2.2.2.2.2.2.2.2.2.2.2.1
theorem k0_mult98_dvd : ∀ (arg12 : BitVec 32) (arg13 : BitVec 32) (k0_hw1 : k0_chk1 arg12 arg13), 512 ∣ (k0_mult98 arg12 arg13).toNat := fun arg12 arg13 k0_hw1 => k0_hw1.2.2.2.2.2.2.2.1.2.2.2.2.2.2.2.2.2.2.2.2.2.2.2.2.2.2.2.2.2.2.2.2.2.2.1
theorem k0_off158_inb : ∀ (arg12 : BitVec 32) (arg13 : BitVec 32) (k0_hw1 : k0_chk1 arg12 arg13), ∀ a, (k0_off158 arg12 arg13) a + S1x1x512.size a ≤ S32x1x512.size a := fun arg12 arg13 k0_hw1 => k0_hw1.2.2.2.2.2.2.2.1.2.2.2.2.2.2.2.2.2.2.2.2.2.2.2.2.2.2.2.2.2.2.2.2.2.2.2.1
theorem k0_off159_inb : ∀ (arg12 : BitVec 32) (arg13 : BitVec 32) (k0_hw1 : k0_chk1 arg12 arg13), ∀ a, (k0_off159 arg12 arg13) a + S1x144x512.size a ≤ S32x144x512.size a := fun arg12 arg13 k0_hw1 => k0_hw1.2.2.2.2.2.2.2.1.2.2.2.2.2.2.2.2.2.2.2.2.2.2.2.2.2.2.2.2.2.2.2.2.2.2.2.2.1
theorem k0_off160_inb : ∀ (arg12 : BitVec 32) (arg13 : BitVec 32) (k0_hw1 : k0_chk1 arg12 arg13), ∀ a, (k0_off160 arg12 arg13) a + S1x144x512.size a ≤ S1x144x16384.size a := fun arg12 arg13 k0_hw1 => k0_hw1.2.2.2.2.2.2.2.1.2.2.2.2.2.2.2.2.2.2.2.2.2.2.2.2.2.2.2.2.2.2.2.2.2.2.2.2.2.1
theorem k0_mult99_dvd : ∀ (arg12 : BitVec 32) (arg13 : BitVec 32) (k0_hw1 : k0_chk1 arg12 arg13), 512 ∣ (k0_mult99 arg12 arg13).toNat := fun arg12 arg13 k0_hw1 => k0_hw1.2.2.2.2.2.2.2.1.2.2.2.2.2.2.2.2.2.2.2.2.2.2.2.2.2.2.2.2.2.2.2.2.2.2.2.2.2.2.1
theorem k0_mult100_dvd : ∀ (arg12 : BitVec 32) (arg13 : BitVec 32) (k0_hw1 : k0_chk1 arg12 arg13), 512 ∣ (k0_mult100 arg12 arg13).toNat := fun arg12 arg13 k0_hw1 => k0_hw1.2.2.2.2.2.2.2.1.2.2.2.2.2.2.2.2.2.2.2.2.2.2.2.2.2.2.2.2.2.2.2.2.2.2.2.2.2.2.2
theorem k0_off161_inb : ∀ (arg12 : BitVec 32) (arg13 : BitVec 32) (k0_hw1 : k0_chk1 arg12 arg13), ∀ a, (k0_off161 arg12 arg13) a + S512x192.size a ≤ S16384x256.size a := fun arg12 arg13 k0_hw1 => k0_hw1.2.2.2.2.2.2.2.2.1.1
theorem k0_off162_inb : ∀ (arg12 : BitVec 32) (arg13 : BitVec 32) (k0_hw1 : k0_chk1 arg12 arg13), ∀ a, (k0_off162 arg12 arg13) a + S1x192x512.size a ≤ S1x192x16384.size a := fun arg12 arg13 k0_hw1 => k0_hw1.2.2.2.2.2.2.2.2.1.2.1
theorem k0_mult101_dvd : ∀ (arg12 : BitVec 32) (arg13 : BitVec 32) (k0_hw1 : k0_chk1 arg12 arg13), 512 ∣ (k0_mult101 arg12 arg13).toNat := fun arg12 arg13 k0_hw1 => k0_hw1.2.2.2.2.2.2.2.2.1.2.2.1
theorem k0_off163_inb : ∀ (arg12 : BitVec 32) (arg13 : BitVec 32) (k0_hw1 : k0_chk1 arg12 arg13), ∀ a, (k0_off163 arg12 arg13) a + S1x1x512.size a ≤ S32x1x512.size a := fun arg12 arg13 k0_hw1 => k0_hw1.2.2.2.2.2.2.2.2.1.2.2.2.1
theorem k0_off164_inb : ∀ (arg12 : BitVec 32) (arg13 : BitVec 32) (k0_hw1 : k0_chk1 arg12 arg13), ∀ a, (k0_off164 arg12 arg13) a + S1x144x512.size a ≤ S32x144x512.size a := fun arg12 arg13 k0_hw1 => k0_hw1.2.2.2.2.2.2.2.2.1.2.2.2.2.1
theorem k0_off165_inb : ∀ (arg12 : BitVec 32) (arg13 : BitVec 32) (k0_hw1 : k0_chk1 arg12 arg13), ∀ a, (k0_off165 arg12 arg13) a + S1x144x512.size a ≤ S1x144x16384.size a := fun arg12 arg13 k0_hw1 => k0_hw1.2.2.2.2.2.2.2.2.1.2.2.2.2.2.1
theorem k0_mult102_dvd : ∀ (arg12 : BitVec 32) (arg13 : BitVec 32) (k0_hw1 : k0_chk1 arg12 arg13), 512 ∣ (k0_mult102 arg12 arg13).toNat := fun arg12 arg13 k0_hw1 => k0_hw1.2.2.2.2.2.2.2.2.1.2.2.2.2.2.2.1
theorem k0_mult103_dvd : ∀ (arg12 : BitVec 32) (arg13 : BitVec 32) (k0_hw1 : k0_chk1 arg12 arg13), 512 ∣ (k0_mult103 arg12 arg13).toNat := fun arg12 arg13 k0_hw1 => k0_hw1.2.2.2.2.2.2.2.2.1.2.2.2.2.2.2.2.1
theorem k0_off166_inb : ∀ (arg12 : BitVec 32) (arg13 : BitVec 32) (k0_hw1 : k0_chk1 arg12 arg13), ∀ a, (k0_off166 arg12 arg13) a + S512x192.size a ≤ S16384x256.size a := fun arg12 arg13 k0_hw1 => k0_hw1.2.2.2.2.2.2.2.2.1.2.2.2.2.2.2.2.2.1
theorem k0_off167_inb : ∀ (arg12 : BitVec 32) (arg13 : BitVec 32) (k0_hw1 : k0_chk1 arg12 arg13), ∀ a, (k0_off167 arg12 arg13) a + S1x192x512.size a ≤ S1x192x16384.size a := fun arg12 arg13 k0_hw1 => k0_hw1.2.2.2.2.2.2.2.2.1.2.2.2.2.2.2.2.2.2.1
theorem k0_mult104_dvd : ∀ (arg12 : BitVec 32) (arg13 : BitVec 32) (k0_hw1 : k0_chk1 arg12 arg13), 512 ∣ (k0_mult104 arg12 arg13).toNat := fun arg12 arg13 k0_hw1 => k0_hw1.2.2.2.2.2.2.2.2.1.2.2.2.2.2.2.2.2.2.2.1
theorem k0_off168_inb : ∀ (arg12 : BitVec 32) (arg13 : BitVec 32) (k0_hw1 : k0_chk1 arg12 arg13), ∀ a, (k0_off168 arg12 arg13) a + S1x1x512.size a ≤ S32x1x512.size a := fun arg12 arg13 k0_hw1 => k0_hw1.2.2.2.2.2.2.2.2.1.2.2.2.2.2.2.2.2.2.2.2.1
theorem k0_off169_inb : ∀ (arg12 : BitVec 32) (arg13 : BitVec 32) (k0_hw1 : k0_chk1 arg12 arg13), ∀ a, (k0_off169 arg12 arg13) a + S1x144x512.size a ≤ S32x144x512.size a := fun arg12 arg13 k0_hw1 => k0_hw1.2.2.2.2.2.2.2.2.1.2.2.2.2.2.2.2.2.2.2.2.2.1
theorem k0_off170_inb : ∀ (arg12 : BitVec 32) (arg13 : BitVec 32) (k0_hw1 : k0_chk1 arg12 arg13), ∀ a, (k0_off170 arg12 arg13) a + S1x144x512.size a ≤ S1x144x16384.size a := fun arg12 arg13 k0_hw1 => k0_hw1.2.2.2.2.2.2.2.2.1.2.2.2.2.2.2.2.2.2.2.2.2.2.1
theorem k0_mult105_dvd : ∀ (arg12 : BitVec 32) (arg13 : BitVec 32) (k0_hw1 : k0_chk1 arg12 arg13), 512 ∣ (k0_mult105 arg12 arg13).toNat := fun arg12 arg13 k0_hw1 => k0_hw1.2.2.2.2.2.2.2.2.1.2.2.2.2.2.2.2.2.2.2.2.2.2.2.1
theorem k0_mult106_dvd : ∀ (arg12 : BitVec 32) (arg13 : BitVec 32) (k0_hw1 : k0_chk1 arg12 arg13), 512 ∣ (k0_mult106 arg12 arg13).toNat := fun arg12 arg13 k0_hw1 => k0_hw1.2.2.2.2.2.2.2.2.1.2.2.2.2.2.2.2.2.2.2.2.2.2.2.2.1
theorem k0_off171_inb : ∀ (arg12 : BitVec 32) (arg13 : BitVec 32) (k0_hw1 : k0_chk1 arg12 arg13), ∀ a, (k0_off171 arg12 arg13) a + S512x192.size a ≤ S16384x256.size a := fun arg12 arg13 k0_hw1 => k0_hw1.2.2.2.2.2.2.2.2.1.2.2.2.2.2.2.2.2.2.2.2.2.2.2.2.2.1
theorem k0_off172_inb : ∀ (arg12 : BitVec 32) (arg13 : BitVec 32) (k0_hw1 : k0_chk1 arg12 arg13), ∀ a, (k0_off172 arg12 arg13) a + S1x192x512.size a ≤ S1x192x16384.size a := fun arg12 arg13 k0_hw1 => k0_hw1.2.2.2.2.2.2.2.2.1.2.2.2.2.2.2.2.2.2.2.2.2.2.2.2.2.2.1
theorem k0_mult107_dvd : ∀ (arg12 : BitVec 32) (arg13 : BitVec 32) (k0_hw1 : k0_chk1 arg12 arg13), 512 ∣ (k0_mult107 arg12 arg13).toNat := fun arg12 arg13 k0_hw1 => k0_hw1.2.2.2.2.2.2.2.2.1.2.2.2.2.2.2.2.2.2.2.2.2.2.2.2.2.2.2.1
theorem k0_off173_inb : ∀ (arg12 : BitVec 32) (arg13 : BitVec 32) (k0_hw1 : k0_chk1 arg12 arg13), ∀ a, (k0_off173 arg12 arg13) a + S1x1x512.size a ≤ S32x1x512.size a := fun arg12 arg13 k0_hw1 => k0_hw1.2.2.2.2.2.2.2.2.1.2.2.2.2.2.2.2.2.2.2.2.2.2.2.2.2.2.2.2.1
theorem k0_off174_inb : ∀ (arg12 : BitVec 32) (arg13 : BitVec 32) (k0_hw1 : k0_chk1 arg12 arg13), ∀ a, (k0_off174 arg12 arg13) a + S1x144x512.size a ≤ S32x144x512.size a := fun arg12 arg13 k0_hw1 => k0_hw1.2.2.2.2.2.2.2.2.1.2.2.2.2.2.2.2.2.2.2.2.2.2.2.2.2.2.2.2.2.1
theorem k0_off175_inb : ∀ (arg12 : BitVec 32) (arg13 : BitVec 32) (k0_hw1 : k0_chk1 arg12 arg13), ∀ a, (k0_off175 arg12 arg13) a + S1x144x512.size a ≤ S1x144x16384.size a := fun arg12 arg13 k0_hw1 => k0_hw1.2.2.2.2.2.2.2.2.1.2.2.2.2.2.2.2.2.2.2.2.2.2.2.2.2.2.2.2.2.2.1
theorem k0_mult108_dvd : ∀ (arg12 : BitVec 32) (arg13 : BitVec 32) (k0_hw1 : k0_chk1 arg12 arg13), 512 ∣ (k0_mult108 arg12 arg13).toNat := fun arg12 arg13 k0_hw1 => k0_hw1.2.2.2.2.2.2.2.2.1.2.2.2.2.2.2.2.2.2.2.2.2.2.2.2.2.2.2.2.2.2.2.1
theorem k0_mult109_dvd : ∀ (arg12 : BitVec 32) (arg13 : BitVec 32) (k0_hw1 : k0_chk1 arg12 arg13), 512 ∣ (k0_mult109 arg12 arg13).toNat := fun arg12 arg13 k0_hw1 => k0_hw1.2.2.2.2.2.2.2.2.1.2.2.2.2.2.2.2.2.2.2.2.2.2.2.2.2.2.2.2.2.2.2.2.1
theorem k0_off176_inb : ∀ (arg12 : BitVec 32) (arg13 : BitVec 32) (k0_hw1 : k0_chk1 arg12 arg13), ∀ a, (k0_off176 arg12 arg13) a + S512x192.size a ≤ S16384x256.size a := fun arg12 arg13 k0_hw1 => k0_hw1.2.2.2.2.2.2.2.2.1.2.2.2.2.2.2.2.2.2.2.2.2.2.2.2.2.2.2.2.2.2.2.2.2.1
theorem k0_off177_inb : ∀ (arg12 : BitVec 32) (arg13 : BitVec 32) (k0_hw1 : k0_chk1 arg12 arg13), ∀ a, (k0_off177 arg12 arg13) a + S1x192x512.size a ≤ S1x192x16384.size a := fun arg12 arg13 k0_hw1 => k0_hw1.2.2.2.2.2.2.2.2.1.2.2.2.2.2.2.2.2.2.2.2.2.2.2.2.2.2.2.2.2.2.2.2.2.2.1
theorem k0_mult110_dvd : ∀ (arg12 : BitVec 32) (arg13 : BitVec 32) (k0_hw1 : k0_chk1 arg12 arg13), 512 ∣ (k0_mult110 arg12 arg13).toNat := fun arg12 arg13 k0_hw1 => k0_hw1.2.2.2.2.2.2.2.2.1.2.2.2.2.2.2.2.2.2.2.2.2.2.2.2.2.2.2.2.2.2.2.2.2.2.2.1
theorem k0_off178_inb : ∀ (arg12 : BitVec 32) (arg13 : BitVec 32) (k0_hw1 : k0_chk1 arg12 arg13), ∀ a, (k0_off178 arg12 arg13) a + S1x1x512.size a ≤ S32x1x512.size a := fun arg12 arg13 k0_hw1 => k0_hw1.2.2.2.2.2.2.2.2.1.2.2.2.2.2.2.2.2.2.2.2.2.2.2.2.2.2.2.2.2.2.2.2.2.2.2.2.1
theorem k0_off179_inb : ∀ (arg12 : BitVec 32) (arg13 : BitVec 32) (k0_hw1 : k0_chk1 arg12 arg13), ∀ a, (k0_off179 arg12 arg13) a + S1x144x512.size a ≤ S32x144x512.size a := fun arg12 arg13 k0_hw1 => k0_hw1.2.2.2.2.2.2.2.2.1.2.2.2.2.2.2.2.2.2.2.2.2.2.2.2.2.2.2.2.2.2.2.2.2.2.2.2.2.1
theorem k0_off180_inb : ∀ (arg12 : BitVec 32) (arg13 : BitVec 32) (k0_hw1 : k0_chk1 arg12 arg13), ∀ a, (k0_off180 arg12 arg13) a + S1x144x512.size a ≤ S1x144x16384.size a := fun arg12 arg13 k0_hw1 => k0_hw1.2.2.2.2.2.2.2.2.1.2.2.2.2.2.2.2.2.2.2.2.2.2.2.2.2.2.2.2.2.2.2.2.2.2.2.2.2.2.1
theorem k0_mult111_dvd : ∀ (arg12 : BitVec 32) (arg13 : BitVec 32) (k0_hw1 : k0_chk1 arg12 arg13), 512 ∣ (k0_mult111 arg12 arg13).toNat := fun arg12 arg13 k0_hw1 => k0_hw1.2.2.2.2.2.2.2.2.1.2.2.2.2.2.2.2.2.2.2.2.2.2.2.2.2.2.2.2.2.2.2.2.2.2.2.2.2.2.2.1
theorem k0_mult112_dvd : ∀ (arg12 : BitVec 32) (arg13 : BitVec 32) (k0_hw1 : k0_chk1 arg12 arg13), 512 ∣ (k0_mult112 arg12 arg13).toNat := fun arg12 arg13 k0_hw1 => k0_hw1.2.2.2.2.2.2.2.2.1.2.2.2.2.2.2.2.2.2.2.2.2.2.2.2.2.2.2.2.2.2.2.2.2.2.2.2.2.2.2.2
theorem k0_off181_inb : ∀ (arg12 : BitVec 32) (arg13 : BitVec 32) (k0_hw1 : k0_chk1 arg12 arg13), ∀ a, (k0_off181 arg12 arg13) a + S512x192.size a ≤ S16384x256.size a := fun arg12 arg13 k0_hw1 => k0_hw1.2.2.2.2.2.2.2.2.2.1.1
theorem k0_off182_inb : ∀ (arg12 : BitVec 32) (arg13 : BitVec 32) (k0_hw1 : k0_chk1 arg12 arg13), ∀ a, (k0_off182 arg12 arg13) a + S1x192x512.size a ≤ S1x192x16384.size a := fun arg12 arg13 k0_hw1 => k0_hw1.2.2.2.2.2.2.2.2.2.1.2.1
theorem k0_mult113_dvd : ∀ (arg12 : BitVec 32) (arg13 : BitVec 32) (k0_hw1 : k0_chk1 arg12 arg13), 512 ∣ (k0_mult113 arg12 arg13).toNat := fun arg12 arg13 k0_hw1 => k0_hw1.2.2.2.2.2.2.2.2.2.1.2.2.1
theorem k0_off183_inb : ∀ (arg12 : BitVec 32) (arg13 : BitVec 32) (k0_hw1 : k0_chk1 arg12 arg13), ∀ a, (k0_off183 arg12 arg13) a + S1x1x512.size a ≤ S32x1x512.size a := fun arg12 arg13 k0_hw1 => k0_hw1.2.2.2.2.2.2.2.2.2.1.2.2.2.1
theorem k0_off184_inb : ∀ (arg12 : BitVec 32) (arg13 : BitVec 32) (k0_hw1 : k0_chk1 arg12 arg13), ∀ a, (k0_off184 arg12 arg13) a + S1x144x512.size a ≤ S32x144x512.size a := fun arg12 arg13 k0_hw1 => k0_hw1.2.2.2.2.2.2.2.2.2.1.2.2.2.2.1
theorem k0_off185_inb : ∀ (arg12 : BitVec 32) (arg13 : BitVec 32) (k0_hw1 : k0_chk1 arg12 arg13), ∀ a, (k0_off185 arg12 arg13) a + S1x144x512.size a ≤ S1x144x16384.size a := fun arg12 arg13 k0_hw1 => k0_hw1.2.2.2.2.2.2.2.2.2.1.2.2.2.2.2.1
theorem k0_mult114_dvd : ∀ (arg12 : BitVec 32) (arg13 : BitVec 32) (k0_hw1 : k0_chk1 arg12 arg13), 512 ∣ (k0_mult114 arg12 arg13).toNat := fun arg12 arg13 k0_hw1 => k0_hw1.2.2.2.2.2.2.2.2.2.1.2.2.2.2.2.2.1
theorem k0_mult115_dvd : ∀ (arg12 : BitVec 32) (arg13 : BitVec 32) (k0_hw1 : k0_chk1 arg12 arg13), 512 ∣ (k0_mult115 arg12 arg13).toNat := fun arg12 arg13 k0_hw1 => k0_hw1.2.2.2.2.2.2.2.2.2.1.2.2.2.2.2.2.2.1
theorem k0_off186_inb : ∀ (arg12 : BitVec 32) (arg13 : BitVec 32) (k0_hw1 : k0_chk1 arg12 arg13), ∀ a, (k0_off186 arg12 arg13) a + S512x192.size a ≤ S16384x256.size a := fun arg12 arg13 k0_hw1 => k0_hw1.2.2.2.2.2.2.2.2.2.1.2.2.2.2.2.2.2.2.1
theorem k0_off187_inb : ∀ (arg12 : BitVec 32) (arg13 : BitVec 32) (k0_hw1 : k0_chk1 arg12 arg13), ∀ a, (k0_off187 arg12 arg13) a + S1x192x512.size a ≤ S1x192x16384.size a := fun arg12 arg13 k0_hw1 => k0_hw1.2.2.2.2.2.2.2.2.2.1.2.2.2.2.2.2.2.2.2.1
theorem k0_mult116_dvd : ∀ (arg12 : BitVec 32) (arg13 : BitVec 32) (k0_hw1 : k0_chk1 arg12 arg13), 512 ∣ (k0_mult116 arg12 arg13).toNat := fun arg12 arg13 k0_hw1 => k0_hw1.2.2.2.2.2.2.2.2.2.1.2.2.2.2.2.2.2.2.2.2.1
theorem k0_off188_inb : ∀ (arg12 : BitVec 32) (arg13 : BitVec 32) (k0_hw1 : k0_chk1 arg12 arg13), ∀ a, (k0_off188 arg12 arg13) a + S1x1x512.size a ≤ S32x1x512.size a := fun arg12 arg13 k0_hw1 => k0_hw1.2.2.2.2.2.2.2.2.2.1.2.2.2.2.2.2.2.2.2.2.2.1
theorem k0_off189_inb : ∀ (arg12 : BitVec 32) (arg13 : BitVec 32) (k0_hw1 : k0_chk1 arg12 arg13), ∀ a, (k0_off189 arg12 arg13) a + S1x144x512.size a ≤ S32x144x512.size a := fun arg12 arg13 k0_hw1 => k0_hw1.2.2.2.2.2.2.2.2.2.1.2.2.2.2.2.2.2.2.2.2.2.2.1
theorem k0_off190_inb : ∀ (arg12 : BitVec 32) (arg13 : BitVec 32) (k0_hw1 : k0_chk1 arg12 arg13), ∀ a, (k0_off190 arg12 arg13) a + S1x144x512.size a ≤ S1x144x16384.size a := fun arg12 arg13 k0_hw1 => k0_hw1.2.2.2.2.2.2.2.2.2.1.2.2.2.2.2.2.2.2.2.2.2.2.2.1
theorem k0_mult117_dvd : ∀ (arg12 : BitVec 32) (arg13 : BitVec 32) (k0_hw1 : k0_chk1 arg12 arg13), 512 ∣ (k0_mult117 arg12 arg13).toNat := fun arg12 arg13 k0_hw1 => k0_hw1.2.2.2.2.2.2.2.2.2.1.2.2.2.2.2.2.2.2.2.2.2.2.2.2.1
theorem k0_mult118_dvd : ∀ (arg12 : BitVec 32) (arg13 : BitVec 32) (k0_hw1 : k0_chk1 arg12 arg13), 512 ∣ (k0_mult118 arg12 arg13).toNat := fun arg12 arg13 k0_hw1 => k0_hw1.2.2.2.2.2.2.2.2.2.1.2.2.2.2.2.2.2.2.2.2.2.2.2.2.2.1
theorem k0_off191_inb : ∀ (arg12 : BitVec 32) (arg13 : BitVec 32) (k0_hw1 : k0_chk1 arg12 arg13), ∀ a, (k0_off191 arg12 arg13) a + S512x192.size a ≤ S16384x256.size a := fun arg12 arg13 k0_hw1 => k0_hw1.2.2.2.2.2.2.2.2.2.1.2.2.2.2.2.2.2.2.2.2.2.2.2.2.2.2.1
theorem k0_off192_inb : ∀ (arg12 : BitVec 32) (arg13 : BitVec 32) (k0_hw1 : k0_chk1 arg12 arg13), ∀ a, (k0_off192 arg12 arg13) a + S1x192x512.size a ≤ S1x192x16384.size a := fun arg12 arg13 k0_hw1 => k0_hw1.2.2.2.2.2.2.2.2.2.1.2.2.2.2.2.2.2.2.2.2.2.2.2.2.2.2.2.1
theorem k0_mult119_dvd : ∀ (arg12 : BitVec 32) (arg13 : BitVec 32) (k0_hw1 : k0_chk1 arg12 arg13), 512 ∣ (k0_mult119 arg12 arg13).toNat := fun arg12 arg13 k0_hw1 => k0_hw1.2.2.2.2.2.2.2.2.2.1.2.2.2.2.2.2.2.2.2.2.2.2.2.2.2.2.2.2.1
theorem k0_off193_inb : ∀ (arg12 : BitVec 32) (arg13 : BitVec 32) (k0_hw1 : k0_chk1 arg12 arg13), ∀ a, (k0_off193 arg12 arg13) a + S1x1x512.size a ≤ S32x1x512.size a := fun arg12 arg13 k0_hw1 => k0_hw1.2.2.2.2.2.2.2.2.2.1.2.2.2.2.2.2.2.2.2.2.2.2.2.2.2.2.2.2.2.1
theorem k0_off194_inb : ∀ (arg12 : BitVec 32) (arg13 : BitVec 32) (k0_hw1 : k0_chk1 arg12 arg13), ∀ a, (k0_off194 arg12 arg13) a + S1x144x512.size a ≤ S32x144x512.size a := fun arg12 arg13 k0_hw1 => k0_hw1.2.2.2.2.2.2.2.2.2.1.2.2.2.2.2.2.2.2.2.2.2.2.2.2.2.2.2.2.2.2.1
theorem k0_off195_inb : ∀ (arg12 : BitVec 32) (arg13 : BitVec 32) (k0_hw1 : k0_chk1 arg12 arg13), ∀ a, (k0_off195 arg12 arg13) a + S1x144x512.size a ≤ S1x144x16384.size a := fun arg12 arg13 k0_hw1 => k0_hw1.2.2.2.2.2.2.2.2.2.1.2.2.2.2.2.2.2.2.2.2.2.2.2.2.2.2.2.2.2.2.2.1
theorem k0_mult120_dvd : ∀ (arg12 : BitVec 32) (arg13 : BitVec 32) (k0_hw1 : k0_chk1 arg12 arg13), 512 ∣ (k0_mult120 arg12 arg13).toNat := fun arg12 arg13 k0_hw1 => k0_hw1.2.2.2.2.2.2.2.2.2.1.2.2.2.2.2.2.2.2.2.2.2.2.2.2.2.2.2.2.2.2.2.2.1
theorem k0_mult121_dvd : ∀ (arg12 : BitVec 32) (arg13 : BitVec 32) (k0_hw1 : k0_chk1 arg12 arg13), 512 ∣ (k0_mult121 arg12 arg13).toNat := fun arg12 arg13 k0_hw1 => k0_hw1.2.2.2.2.2.2.2.2.2.1.2.2.2.2.2.2.2.2.2.2.2.2.2.2.2.2.2.2.2.2.2.2.2.1
theorem k0_off196_inb : ∀ (arg12 : BitVec 32) (arg13 : BitVec 32) (k0_hw1 : k0_chk1 arg12 arg13), ∀ a, (k0_off196 arg12 arg13) a + S512x192.size a ≤ S16384x256.size a := fun arg12 arg13 k0_hw1 => k0_hw1.2.2.2.2.2.2.2.2.2.1.2.2.2.2.2.2.2.2.2.2.2.2.2.2.2.2.2.2.2.2.2.2.2.2.1
theorem k0_off197_inb : ∀ (arg12 : BitVec 32) (arg13 : BitVec 32) (k0_hw1 : k0_chk1 arg12 arg13), ∀ a, (k0_off197 arg12 arg13) a + S1x192x512.size a ≤ S1x192x16384.size a := fun arg12 arg13 k0_hw1 => k0_hw1.2.2.2.2.2.2.2.2.2.1.2.2.2.2.2.2.2.2.2.2.2.2.2.2.2.2.2.2.2.2.2.2.2.2.2.1
theorem k0_mult122_dvd : ∀ (arg12 : BitVec 32) (arg13 : BitVec 32) (k0_hw1 : k0_chk1 arg12 arg13), 512 ∣ (k0_mult122 arg12 arg13).toNat := fun arg12 arg13 k0_hw1 => k0_hw1.2.2.2.2.2.2.2.2.2.1.2.2.2.2.2.2.2.2.2.2.2.2.2.2.2.2.2.2.2.2.2.2.2.2.2.2.1
theorem k0_off198_inb : ∀ (arg12 : BitVec 32) (arg13 : BitVec 32) (k0_hw1 : k0_chk1 arg12 arg13), ∀ a, (k0_off198 arg12 arg13) a + S1x1x512.size a ≤ S32x1x512.size a := fun arg12 arg13 k0_hw1 => k0_hw1.2.2.2.2.2.2.2.2.2.1.2.2.2.2.2.2.2.2.2.2.2.2.2.2.2.2.2.2.2.2.2.2.2.2.2.2.2.1
theorem k0_off199_inb : ∀ (arg12 : BitVec 32) (arg13 : BitVec 32) (k0_hw1 : k0_chk1 arg12 arg13), ∀ a, (k0_off199 arg12 arg13) a + S1x144x512.size a ≤ S32x144x512.size a := fun arg12 arg13 k0_hw1 => k0_hw1.2.2.2.2.2.2.2.2.2.1.2.2.2.2.2.2.2.2.2.2.2.2.2.2.2.2.2.2.2.2.2.2.2.2.2.2.2.2.1
theorem k0_off200_inb : ∀ (arg12 : BitVec 32) (arg13 : BitVec 32) (k0_hw1 : k0_chk1 arg12 arg13), ∀ a, (k0_off200 arg12 arg13) a + S1x144x512.size a ≤ S1x144x16384.size a := fun arg12 arg13 k0_hw1 => k0_hw1.2.2.2.2.2.2.2.2.2.1.2.2.2.2.2.2.2.2.2.2.2.2.2.2.2.2.2.2.2.2.2.2.2.2.2.2.2.2.2.1
theorem k0_mult123_dvd : ∀ (arg12 : BitVec 32) (arg13 : BitVec 32) (k0_hw1 : k0_chk1 arg12 arg13), 512 ∣ (k0_mult123 arg12 arg13).toNat := fun arg12 arg13 k0_hw1 => k0_hw1.2.2.2.2.2.2.2.2.2.1.2.2.2.2.2.2.2.2.2.2.2.2.2.2.2.2.2.2.2.2.2.2.2.2.2.2.2.2.2.2.1
theorem k0_mult124_dvd : ∀ (arg12 : BitVec 32) (arg13 : BitVec 32) (k0_hw1 : k0_chk1 arg12 arg13), 512 ∣ (k0_mult124 arg12 arg13).toNat := fun arg12 arg13 k0_hw1 => k0_hw1.2.2.2.2.2.2.2.2.2.1.2.2.2.2.2.2.2.2.2.2.2.2.2.2.2.2.2.2.2.2.2.2.2.2.2.2.2.2.2.2.2
theorem k0_off201_inb : ∀ (arg12 : BitVec 32) (arg13 : BitVec 32) (k0_hw1 : k0_chk1 arg12 arg13), ∀ a, (k0_off201 arg12 arg13) a + S512x192.size a ≤ S16384x256.size a := fun arg12 arg13 k0_hw1 => k0_hw1.2.2.2.2.2.2.2.2.2.2.1.1
theorem k0_off202_inb : ∀ (arg12 : BitVec 32) (arg13 : BitVec 32) (k0_hw1 : k0_chk1 arg12 arg13), ∀ a, (k0_off202 arg12 arg13) a + S1x192x512.size a ≤ S1x192x16384.size a := fun arg12 arg13 k0_hw1 => k0_hw1.2.2.2.2.2.2.2.2.2.2.1.2.1
theorem k0_mult125_dvd : ∀ (arg12 : BitVec 32) (arg13 : BitVec 32) (k0_hw1 : k0_chk1 arg12 arg13), 512 ∣ (k0_mult125 arg12 arg13).toNat := fun arg12 arg13 k0_hw1 => k0_hw1.2.2.2.2.2.2.2.2.2.2.1.2.2.1
theorem k0_off203_inb : ∀ (arg12 : BitVec 32) (arg13 : BitVec 32) (k0_hw1 : k0_chk1 arg12 arg13), ∀ a, (k0_off203 arg12 arg13) a + S1x1x512.size a ≤ S32x1x512.size a := fun arg12 arg13 k0_hw1 => k0_hw1.2.2.2.2.2.2.2.2.2.2.1.2.2.2.1
theorem k0_off204_inb : ∀ (arg12 : BitVec 32) (arg13 : BitVec 32) (k0_hw1 : k0_chk1 arg12 arg13), ∀ a, (k0_off204 arg12 arg13) a + S1x144x512.size a ≤ S32x144x512.size a := fun arg12 arg13 k0_hw1 => k0_hw1.2.2.2.2.2.2.2.2.2.2.1.2.2.2.2.1
theorem k0_off205_inb : ∀ (arg12 : BitVec 32) (arg13 : BitVec 32) (k0_hw1 : k0_chk1 arg12 arg13), ∀ a, (k0_off205 arg12 arg13) a + S1x144x512.size a ≤ S1x144x16384.size a := fun arg12 arg13 k0_hw1 => k0_hw1.2.2.2.2.2.2.2.2.2.2.1.2.2.2.2.2.1
theorem k0_mult126_dvd : ∀ (arg12 : BitVec 32) (arg13 : BitVec 32) (k0_hw1 : k0_chk1 arg12 arg13), 512 ∣ (k0_mult126 arg12 arg13).toNat := fun arg12 arg13 k0_hw1 => k0_hw1.2.2.2.2.2.2.2.2.2.2.1.2.2.2.2.2.2.1
theorem k0_mult127_dvd : ∀ (arg12 : BitVec 32) (arg13 : BitVec 32) (k0_hw1 : k0_chk1 arg12 arg13), 512 ∣ (k0_mult127 arg12 arg13).toNat := fun arg12 arg13 k0_hw1 => k0_hw1.2.2.2.2.2.2.2.2.2.2.1.2.2.2.2.2.2.2.1
theorem k0_off206_inb : ∀ (arg12 : BitVec 32) (arg13 : BitVec 32) (k0_hw1 : k0_chk1 arg12 arg13), ∀ a, (k0_off206 arg12 arg13) a + S512x192.size a ≤ S16384x256.size a := fun arg12 arg13 k0_hw1 => k0_hw1.2.2.2.2.2.2.2.2.2.2.1.2.2.2.2.2.2.2.2.1
theorem k0_off207_inb : ∀ (arg12 : BitVec 32) (arg13 : BitVec 32) (k0_hw1 : k0_chk1 arg12 arg13), ∀ a, (k0_off207 arg12 arg13) a + S1x192x512.size a ≤ S1x192x16384.size a := fun arg12 arg13 k0_hw1 => k0_hw1.2.2.2.2.2.2.2.2.2.2.1.2.2.2.2.2.2.2.2.2.1
theorem k0_mult128_dvd : ∀ (arg12 : BitVec 32) (arg13 : BitVec 32) (k0_hw1 : k0_chk1 arg12 arg13), 512 ∣ (k0_mult128 arg12 arg13).toNat := fun arg12 arg13 k0_hw1 => k0_hw1.2.2.2.2.2.2.2.2.2.2.1.2.2.2.2.2.2.2.2.2.2.1
theorem k0_off208_inb : ∀ (arg12 : BitVec 32) (arg13 : BitVec 32) (k0_hw1 : k0_chk1 arg12 arg13), ∀ a, (k0_off208 arg12 arg13) a + S1x1x512.size a ≤ S32x1x512.size a := fun arg12 arg13 k0_hw1 => k0_hw1.2.2.2.2.2.2.2.2.2.2.1.2.2.2.2.2.2.2.2.2.2.2.1
theorem k0_off209_inb : ∀ (arg12 : BitVec 32) (arg13 : BitVec 32) (k0_hw1 : k0_chk1 arg12 arg13), ∀ a, (k0_off209 arg12 arg13) a + S1x144x512.size a ≤ S32x144x512.size a := fun arg12 arg13 k0_hw1 => k0_hw1.2.2.2.2.2.2.2.2.2.2.1.2.2.2.2.2.2.2.2.2.2.2.2.1
theorem k0_off210_inb : ∀ (arg12 : BitVec 32) (arg13 : BitVec 32) (k0_hw1 : k0_chk1 arg12 arg13), ∀ a, (k0_off210 arg12 arg13) a + S1x144x512.size a ≤ S1x144x16384.size a := fun arg12 arg13 k0_hw1 => k0_hw1.2.2.2.2.2.2.2.2.2.2.1.2.2.2.2.2.2.2.2.2.2.2.2.2.1
theorem k0_mult129_dvd : ∀ (arg12 : BitVec 32) (arg13 : BitVec 32) (k0_hw1 : k0_chk1 arg12 arg13), 512 ∣ (k0_mult129 arg12 arg13).toNat := fun arg12 arg13 k0_hw1 => k0_hw1.2.2.2.2.2.2.2.2.2.2.1.2.2.2.2.2.2.2.2.2.2.2.2.2.2.1
theorem k0_mult130_dvd : ∀ (arg12 : BitVec 32) (arg13 : BitVec 32) (k0_hw1 : k0_chk1 arg12 arg13), 512 ∣ (k0_mult130 arg12 arg13).toNat := fun arg12 arg13 k0_hw1 => k0_hw1.2.2.2.2.2.2.2.2.2.2.1.2.2.2.2.2.2.2.2.2.2.2.2.2.2.2.1
theorem k0_off211_inb : ∀ (arg12 : BitVec 32) (arg13 : BitVec 32) (k0_hw1 : k0_chk1 arg12 arg13), ∀ a, (k0_off211 arg12 arg13) a + S512x192.size a ≤ S16384x256.size a := fun arg12 arg13 k0_hw1 => k0_hw1.2.2.2.2.2.2.2.2.2.2.1.2.2.2.2.2.2.2.2.2.2.2.2.2.2.2.2.1
theorem k0_off212_inb : ∀ (arg12 : BitVec 32) (arg13 : BitVec 32) (k0_hw1 : k0_chk1 arg12 arg13), ∀ a, (k0_off212 arg12 arg13) a + S1x192x512.size a ≤ S1x192x16384.size a := fun arg12 arg13 k0_hw1 => k0_hw1.2.2.2.2.2.2.2.2.2.2.1.2.2.2.2.2.2.2.2.2.2.2.2.2.2.2.2.2.1
theorem k0_mult131_dvd : ∀ (arg12 : BitVec 32) (arg13 : BitVec 32) (k0_hw1 : k0_chk1 arg12 arg13), 512 ∣ (k0_mult131 arg12 arg13).toNat := fun arg12 arg13 k0_hw1 => k0_hw1.2.2.2.2.2.2.2.2.2.2.1.2.2.2.2.2.2.2.2.2.2.2.2.2.2.2.2.2.2.1
theorem k0_off213_inb : ∀ (arg12 : BitVec 32) (arg13 : BitVec 32) (k0_hw1 : k0_chk1 arg12 arg13), ∀ a, (k0_off213 arg12 arg13) a + S1x1x512.size a ≤ S32x1x512.size a := fun arg12 arg13 k0_hw1 => k0_hw1.2.2.2.2.2.2.2.2.2.2.1.2.2.2.2.2.2.2.2.2.2.2.2.2.2.2.2.2.2.2.1
theorem k0_off214_inb : ∀ (arg12 : BitVec 32) (arg13 : BitVec 32) (k0_hw1 : k0_chk1 arg12 arg13), ∀ a, (k0_off214 arg12 arg13) a + S1x144x512.size a ≤ S32x144x512.size a := fun arg12 arg13 k0_hw1 => k0_hw1.2.2.2.2.2.2.2.2.2.2.1.2.2.2.2.2.2.2.2.2.2.2.2.2.2.2.2.2.2.2.2.1
theorem k0_off215_inb : ∀ (arg12 : BitVec 32) (arg13 : BitVec 32) (k0_hw1 : k0_chk1 arg12 arg13), ∀ a, (k0_off215 arg12 arg13) a + S1x144x512.size a ≤ S1x144x16384.size a := fun arg12 arg13 k0_hw1 => k0_hw1.2.2.2.2.2.2.2.2.2.2.1.2.2.2.2.2.2.2.2.2.2.2.2.2.2.2.2.2.2.2.2.2.1
theorem k0_mult132_dvd : ∀ (arg12 : BitVec 32) (arg13 : BitVec 32) (k0_hw1 : k0_chk1 arg12 arg13), 512 ∣ (k0_mult132 arg12 arg13).toNat := fun arg12 arg13 k0_hw1 => k0_hw1.2.2.2.2.2.2.2.2.2.2.1.2.2.2.2.2.2.2.2.2.2.2.2.2.2.2.2.2.2.2.2.2.2.1
theorem k0_mult133_dvd : ∀ (arg12 : BitVec 32) (arg13 : BitVec 32) (k0_hw1 : k0_chk1 arg12 arg13), 512 ∣ (k0_mult133 arg12 arg13).toNat := fun arg12 arg13 k0_hw1 => k0_hw1.2.2.2.2.2.2.2.2.2.2.1.2.2.2.2.2.2.2.2.2.2.2.2.2.2.2.2.2.2.2.2.2.2.2.1
theorem k0_off216_inb : ∀ (arg12 : BitVec 32) (arg13 : BitVec 32) (k0_hw1 : k0_chk1 arg12 arg13), ∀ a, (k0_off216 arg12 arg13) a + S512x192.size a ≤ S16384x256.size a := fun arg12 arg13 k0_hw1 => k0_hw1.2.2.2.2.2.2.2.2.2.2.1.2.2.2.2.2.2.2.2.2.2.2.2.2.2.2.2.2.2.2.2.2.2.2.2.1
theorem k0_off217_inb : ∀ (arg12 : BitVec 32) (arg13 : BitVec 32) (k0_hw1 : k0_chk1 arg12 arg13), ∀ a, (k0_off217 arg12 arg13) a + S1x192x512.size a ≤ S1x192x16384.size a := fun arg12 arg13 k0_hw1 => k0_hw1.2.2.2.2.2.2.2.2.2.2.1.2.2.2.2.2.2.2.2.2.2.2.2.2.2.2.2.2.2.2.2.2.2.2.2.2.1
theorem k0_mult134_dvd : ∀ (arg12 : BitVec 32) (arg13 : BitVec 32) (k0_hw1 : k0_chk1 arg12 arg13), 512 ∣ (k0_mult134 arg12 arg13).toNat := fun arg12 arg13 k0_hw1 => k0_hw1.2.2.2.2.2.2.2.2.2.2.1.2.2.2.2.2.2.2.2.2.2.2.2.2.2.2.2.2.2.2.2.2.2.2.2.2.2.1
theorem k0_off218_inb : ∀ (arg12 : BitVec 32) (arg13 : BitVec 32) (k0_hw1 : k0_chk1 arg12 arg13), ∀ a, (k0_off218 arg12 arg13) a + S1x1x512.size a ≤ S32x1x512.size a := fun arg12 arg13 k0_hw1 => k0_hw1.2.2.2.2.2.2.2.2.2.2.1.2.2.2.2.2.2.2.2.2.2.2.2.2.2.2.2.2.2.2.2.2.2.2.2.2.2.2.1
theorem k0_off219_inb : ∀ (arg12 : BitVec 32) (arg13 : BitVec 32) (k0_hw1 : k0_chk1 arg12 arg13), ∀ a, (k0_off219 arg12 arg13) a + S1x144x512.size a ≤ S32x144x512.size a := fun arg12 arg13 k0_hw1 => k0_hw1.2.2.2.2.2.2.2.2.2.2.1.2.2.2.2.2.2.2.2.2.2.2.2.2.2.2.2.2.2.2.2.2.2.2.2.2.2.2.2.1
theorem k0_off220_inb : ∀ (arg12 : BitVec 32) (arg13 : BitVec 32) (k0_hw1 : k0_chk1 arg12 arg13), ∀ a, (k0_off220 arg12 arg13) a + S1x144x512.size a ≤ S1x144x16384.size a := fun arg12 arg13 k0_hw1 => k0_hw1.2.2.2.2.2.2.2.2.2.2.1.2.2.2.2.2.2.2.2.2.2.2.2.2.2.2.2.2.2.2.2.2.2.2.2.2.2.2.2.2.1
theorem k0_mult135_dvd : ∀ (arg12 : BitVec 32) (arg13 : BitVec 32) (k0_hw1 : k0_chk1 arg12 arg13), 512 ∣ (k0_mult135 arg12 arg13).toNat := fun arg12 arg13 k0_hw1 => k0_hw1.2.2.2.2.2.2.2.2.2.2.1.2.2.2.2.2.2.2.2.2.2.2.2.2.2.2.2.2.2.2.2.2.2.2.2.2.2.2.2.2.2.1
theorem k0_mult136_dvd : ∀ (arg12 : BitVec 32) (arg13 : BitVec 32) (k0_hw1 : k0_chk1 arg12 arg13), 512 ∣ (k0_mult136 arg12 arg13).toNat := fun arg12 arg13 k0_hw1 => k0_hw1.2.2.2.2.2.2.2.2.2.2.1.2.2.2.2.2.2.2.2.2.2.2.2.2.2.2.2.2.2.2.2.2.2.2.2.2.2.2.2.2.2.2
theorem k0_off221_inb : ∀ (arg12 : BitVec 32) (arg13 : BitVec 32) (k0_hw1 : k0_chk1 arg12 arg13), ∀ a, (k0_off221 arg12 arg13) a + S512x192.size a ≤ S16384x256.size a := fun arg12 arg13 k0_hw1 => k0_hw1.2.2.2.2.2.2.2.2.2.2.2.1.1
theorem k0_off222_inb : ∀ (arg12 : BitVec 32) (arg13 : BitVec 32) (k0_hw1 : k0_chk1 arg12 arg13), ∀ a, (k0_off222 arg12 arg13) a + S1x192x512.size a ≤ S1x192x16384.size a := fun arg12 arg13 k0_hw1 => k0_hw1.2.2.2.2.2.2.2.2.2.2.2.1.2.1
theorem k0_mult137_dvd : ∀ (arg12 : BitVec 32) (arg13 : BitVec 32) (k0_hw1 : k0_chk1 arg12 arg13), 512 ∣ (k0_mult137 arg12 arg13).toNat := fun arg12 arg13 k0_hw1 => k0_hw1.2.2.2.2.2.2.2.2.2.2.2.1.2.2.1
theorem k0_off223_inb : ∀ (arg12 : BitVec 32) (arg13 : BitVec 32) (k0_hw1 : k0_chk1 arg12 arg13), ∀ a, (k0_off223 arg12 arg13) a + S1x1x512.size a ≤ S32x1x512.size a := fun arg12 arg13 k0_hw1 => k0_hw1.2.2.2.2.2.2.2.2.2.2.2.1.2.2.2.1
theorem k0_off224_inb : ∀ (arg12 : BitVec 32) (arg13 : BitVec 32) (k0_hw1 : k0_chk1 arg12 arg13), ∀ a, (k0_off224 arg12 arg13) a + S1x144x512.size a ≤ S32x144x512.size a := fun arg12 arg13 k0_hw1 => k0_hw1.2.2.2.2.2.2.2.2.2.2.2.1.2.2.2.2.1
theorem k0_off225_inb : ∀ (arg12 : BitVec 32) (arg13 : BitVec 32) (k0_hw1 : k0_chk1 arg12 arg13), ∀ a, (k0_off225 arg12 arg13) a + S1x144x512.size a ≤ S1x144x16384.size a := fun arg12 arg13 k0_hw1 => k0_hw1.2.2.2.2.2.2.2.2.2.2.2.1.2.2.2.2.2.1
theorem k0_mult138_dvd : ∀ (arg12 : BitVec 32) (arg13 : BitVec 32) (k0_hw1 : k0_chk1 arg12 arg13), 512 ∣ (k0_mult138 arg12 arg13).toNat := fun arg12 arg13 k0_hw1 => k0_hw1.2.2.2.2.2.2.2.2.2.2.2.1.2.2.2.2.2.2.1
theorem k0_mult139_dvd : ∀ (arg12 : BitVec 32) (arg13 : BitVec 32) (k0_hw1 : k0_chk1 arg12 arg13), 512 ∣ (k0_mult139 arg12 arg13).toNat := fun arg12 arg13 k0_hw1 => k0_hw1.2.2.2.2.2.2.2.2.2.2.2.1.2.2.2.2.2.2.2.1
theorem k0_off226_inb : ∀ (arg12 : BitVec 32) (arg13 : BitVec 32) (k0_hw1 : k0_chk1 arg12 arg13), ∀ a, (k0_off226 arg12 arg13) a + S512x192.size a ≤ S16384x256.size a := fun arg12 arg13 k0_hw1 => k0_hw1.2.2.2.2.2.2.2.2.2.2.2.1.2.2.2.2.2.2.2.2.1
theorem k0_off227_inb : ∀ (arg12 : BitVec 32) (arg13 : BitVec 32) (k0_hw1 : k0_chk1 arg12 arg13), ∀ a, (k0_off227 arg12 arg13) a + S1x192x512.size a ≤ S1x192x16384.size a := fun arg12 arg13 k0_hw1 => k0_hw1.2.2.2.2.2.2.2.2.2.2.2.1.2.2.2.2.2.2.2.2.2.1
theorem k0_mult140_dvd : ∀ (arg12 : BitVec 32) (arg13 : BitVec 32) (k0_hw1 : k0_chk1 arg12 arg13), 512 ∣ (k0_mult140 arg12 arg13).toNat := fun arg12 arg13 k0_hw1 => k0_hw1.2.2.2.2.2.2.2.2.2.2.2.1.2.2.2.2.2.2.2.2.2.2.1
theorem k0_off228_inb : ∀ (arg12 : BitVec 32) (arg13 : BitVec 32) (k0_hw1 : k0_chk1 arg12 arg13), ∀ a, (k0_off228 arg12 arg13) a + S1x1x512.size a ≤ S32x1x512.size a := fun arg12 arg13 k0_hw1 => k0_hw1.2.2.2.2.2.2.2.2.2.2.2.1.2.2.2.2.2.2.2.2.2.2.2.1
theorem k0_off229_inb : ∀ (arg12 : BitVec 32) (arg13 : BitVec 32) (k0_hw1 : k0_chk1 arg12 arg13), ∀ a, (k0_off229 arg12 arg13) a + S1x144x512.size a ≤ S32x144x512.size a := fun arg12 arg13 k0_hw1 => k0_hw1.2.2.2.2.2.2.2.2.2.2.2.1.2.2.2.2.2.2.2.2.2.2.2.2.1
theorem k0_off230_inb : ∀ (arg12 : BitVec 32) (arg13 : BitVec 32) (k0_hw1 : k0_chk1 arg12 arg13), ∀ a, (k0_off230 arg12 arg13) a + S1x144x512.size a ≤ S1x144x16384.size a := fun arg12 arg13 k0_hw1 => k0_hw1.2.2.2.2.2.2.2.2.2.2.2.1.2.2.2.2.2.2.2.2.2.2.2.2.2.1
theorem k0_mult141_dvd : ∀ (arg12 : BitVec 32) (arg13 : BitVec 32) (k0_hw1 : k0_chk1 arg12 arg13), 512 ∣ (k0_mult141 arg12 arg13).toNat := fun arg12 arg13 k0_hw1 => k0_hw1.2.2.2.2.2.2.2.2.2.2.2.1.2.2.2.2.2.2.2.2.2.2.2.2.2.2.1
theorem k0_mult142_dvd : ∀ (arg12 : BitVec 32) (arg13 : BitVec 32) (k0_hw1 : k0_chk1 arg12 arg13), 512 ∣ (k0_mult142 arg12 arg13).toNat := fun arg12 arg13 k0_hw1 => k0_hw1.2.2.2.2.2.2.2.2.2.2.2.1.2.2.2.2.2.2.2.2.2.2.2.2.2.2.2.1
theorem k0_off231_inb : ∀ (arg12 : BitVec 32) (arg13 : BitVec 32) (k0_hw1 : k0_chk1 arg12 arg13), ∀ a, (k0_off231 arg12 arg13) a + S512x192.size a ≤ S16384x256.size a := fun arg12 arg13 k0_hw1 => k0_hw1.2.2.2.2.2.2.2.2.2.2.2.1.2.2.2.2.2.2.2.2.2.2.2.2.2.2.2.2.1
theorem k0_off232_inb : ∀ (arg12 : BitVec 32) (arg13 : BitVec 32) (k0_hw1 : k0_chk1 arg12 arg13), ∀ a, (k0_off232 arg12 arg13) a + S1x192x512.size a ≤ S1x192x16384.size a := fun arg12 arg13 k0_hw1 => k0_hw1.2.2.2.2.2.2.2.2.2.2.2.1.2.2.2.2.2.2.2.2.2.2.2.2.2.2.2.2.2.1
theorem k0_mult143_dvd : ∀ (arg12 : BitVec 32) (arg13 : BitVec 32) (k0_hw1 : k0_chk1 arg12 arg13), 512 ∣ (k0_mult143 arg12 arg13).toNat := fun arg12 arg13 k0_hw1 => k0_hw1.2.2.2.2.2.2.2.2.2.2.2.1.2.2.2.2.2.2.2.2.2.2.2.2.2.2.2.2.2.2.1
theorem k0_off233_inb : ∀ (arg12 : BitVec 32) (arg13 : BitVec 32) (k0_hw1 : k0_chk1 arg12 arg13), ∀ a, (k0_off233 arg12 arg13) a + S1x1x512.size a ≤ S32x1x512.size a := fun arg12 arg13 k0_hw1 => k0_hw1.2.2.2.2.2.2.2.2.2.2.2.1.2.2.2.2.2.2.2.2.2.2.2.2.2.2.2.2.2.2.2.1
theorem k0_off234_inb : ∀ (arg12 : BitVec 32) (arg13 : BitVec 32) (k0_hw1 : k0_chk1 arg12 arg13), ∀ a, (k0_off234 arg12 arg13) a + S1x144x512.size a ≤ S32x144x512.size a := fun arg12 arg13 k0_hw1 => k0_hw1.2.2.2.2.2.2.2.2.2.2.2.1.2.2.2.2.2.2.2.2.2.2.2.2.2.2.2.2.2.2.2.2.1
theorem k0_off235_inb : ∀ (arg12 : BitVec 32) (arg13 : BitVec 32) (k0_hw1 : k0_chk1 arg12 arg13), ∀ a, (k0_off235 arg12 arg13) a + S1x144x512.size a ≤ S1x144x16384.size a := fun arg12 arg13 k0_hw1 => k0_hw1.2.2.2.2.2.2.2.2.2.2.2.1.2.2.2.2.2.2.2.2.2.2.2.2.2.2.2.2.2.2.2.2.2.1
theorem k0_mult144_dvd : ∀ (arg12 : BitVec 32) (arg13 : BitVec 32) (k0_hw1 : k0_chk1 arg12 arg13), 512 ∣ (k0_mult144 arg12 arg13).toNat := fun arg12 arg13 k0_hw1 => k0_hw1.2.2.2.2.2.2.2.2.2.2.2.1.2.2.2.2.2.2.2.2.2.2.2.2.2.2.2.2.2.2.2.2.2.2.1
theorem k0_mult145_dvd : ∀ (arg12 : BitVec 32) (arg13 : BitVec 32) (k0_hw1 : k0_chk1 arg12 arg13), 512 ∣ (k0_mult145 arg12 arg13).toNat := fun arg12 arg13 k0_hw1 => k0_hw1.2.2.2.2.2.2.2.2.2.2.2.1.2.2.2.2.2.2.2.2.2.2.2.2.2.2.2.2.2.2.2.2.2.2.2.1
theorem k0_off236_inb : ∀ (arg12 : BitVec 32) (arg13 : BitVec 32) (k0_hw1 : k0_chk1 arg12 arg13), ∀ a, (k0_off236 arg12 arg13) a + S512x192.size a ≤ S16384x256.size a := fun arg12 arg13 k0_hw1 => k0_hw1.2.2.2.2.2.2.2.2.2.2.2.1.2.2.2.2.2.2.2.2.2.2.2.2.2.2.2.2.2.2.2.2.2.2.2.2.1
theorem k0_off237_inb : ∀ (arg12 : BitVec 32) (arg13 : BitVec 32) (k0_hw1 : k0_chk1 arg12 arg13), ∀ a, (k0_off237 arg12 arg13) a + S1x192x512.size a ≤ S1x192x16384.size a := fun arg12 arg13 k0_hw1 => k0_hw1.2.2.2.2.2.2.2.2.2.2.2.1.2.2.2.2.2.2.2.2.2.2.2.2.2.2.2.2.2.2.2.2.2.2.2.2.2.1
theorem k0_mult146_dvd : ∀ (arg12 : BitVec 32) (arg13 : BitVec 32) (k0_hw1 : k0_chk1 arg12 arg13), 512 ∣ (k0_mult146 arg12 arg13).toNat := fun arg12 arg13 k0_hw1 => k0_hw1.2.2.2.2.2.2.2.2.2.2.2.1.2.2.2.2.2.2.2.2.2.2.2.2.2.2.2.2.2.2.2.2.2.2.2.2.2.2.1
theorem k0_off238_inb : ∀ (arg12 : BitVec 32) (arg13 : BitVec 32) (k0_hw1 : k0_chk1 arg12 arg13), ∀ a, (k0_off238 arg12 arg13) a + S1x1x512.size a ≤ S32x1x512.size a := fun arg12 arg13 k0_hw1 => k0_hw1.2.2.2.2.2.2.2.2.2.2.2.1.2.2.2.2.2.2.2.2.2.2.2.2.2.2.2.2.2.2.2.2.2.2.2.2.2.2.2.1
theorem k0_off239_inb : ∀ (arg12 : BitVec 32) (arg13 : BitVec 32) (k0_hw1 : k0_chk1 arg12 arg13), ∀ a, (k0_off239 arg12 arg13) a + S1x144x512.size a ≤ S32x144x512.size a := fun arg12 arg13 k0_hw1 => k0_hw1.2.2.2.2.2.2.2.2.2.2.2.1.2.2.2.2.2.2.2.2.2.2.2.2.2.2.2.2.2.2.2.2.2.2.2.2.2.2.2.2.1
theorem k0_off240_inb : ∀ (arg12 : BitVec 32) (arg13 : BitVec 32) (k0_hw1 : k0_chk1 arg12 arg13), ∀ a, (k0_off240 arg12 arg13) a + S1x144x512.size a ≤ S1x144x16384.size a := fun arg12 arg13 k0_hw1 => k0_hw1.2.2.2.2.2.2.2.2.2.2.2.1.2.2.2.2.2.2.2.2.2.2.2.2.2.2.2.2.2.2.2.2.2.2.2.2.2.2.2.2.2.1
theorem k0_mult147_dvd : ∀ (arg12 : BitVec 32) (arg13 : BitVec 32) (k0_hw1 : k0_chk1 arg12 arg13), 512 ∣ (k0_mult147 arg12 arg13).toNat := fun arg12 arg13 k0_hw1 => k0_hw1.2.2.2.2.2.2.2.2.2.2.2.1.2.2.2.2.2.2.2.2.2.2.2.2.2.2.2.2.2.2.2.2.2.2.2.2.2.2.2.2.2.2.1
theorem k0_mult148_dvd : ∀ (arg12 : BitVec 32) (arg13 : BitVec 32) (k0_hw1 : k0_chk1 arg12 arg13), 512 ∣ (k0_mult148 arg12 arg13).toNat := fun arg12 arg13 k0_hw1 => k0_hw1.2.2.2.2.2.2.2.2.2.2.2.1.2.2.2.2.2.2.2.2.2.2.2.2.2.2.2.2.2.2.2.2.2.2.2.2.2.2.2.2.2.2.2
theorem k0_off241_inb : ∀ (arg12 : BitVec 32) (arg13 : BitVec 32) (k0_hw1 : k0_chk1 arg12 arg13), ∀ a, (k0_off241 arg12 arg13) a + S512x192.size a ≤ S16384x256.size a := fun arg12 arg13 k0_hw1 => k0_hw1.2.2.2.2.2.2.2.2.2.2.2.2.1.1
theorem k0_off242_inb : ∀ (arg12 : BitVec 32) (arg13 : BitVec 32) (k0_hw1 : k0_chk1 arg12 arg13), ∀ a, (k0_off242 arg12 arg13) a + S1x192x512.size a ≤ S1x192x16384.size a := fun arg12 arg13 k0_hw1 => k0_hw1.2.2.2.2.2.2.2.2.2.2.2.2.1.2.1
theorem k0_mult149_dvd : ∀ (arg12 : BitVec 32) (arg13 : BitVec 32) (k0_hw1 : k0_chk1 arg12 arg13), 512 ∣ (k0_mult149 arg12 arg13).toNat := fun arg12 arg13 k0_hw1 => k0_hw1.2.2.2.2.2.2.2.2.2.2.2.2.1.2.2.1
theorem k0_off243_inb : ∀ (arg12 : BitVec 32) (arg13 : BitVec 32) (k0_hw1 : k0_chk1 arg12 arg13), ∀ a, (k0_off243 arg12 arg13) a + S1x1x512.size a ≤ S32x1x512.size a := fun arg12 arg13 k0_hw1 => k0_hw1.2.2.2.2.2.2.2.2.2.2.2.2.1.2.2.2.1
theorem k0_off244_inb : ∀ (arg12 : BitVec 32) (arg13 : BitVec 32) (k0_hw1 : k0_chk1 arg12 arg13), ∀ a, (k0_off244 arg12 arg13) a + S1x144x512.size a ≤ S32x144x512.size a := fun arg12 arg13 k0_hw1 => k0_hw1.2.2.2.2.2.2.2.2.2.2.2.2.1.2.2.2.2.1
theorem k0_off245_inb : ∀ (arg12 : BitVec 32) (arg13 : BitVec 32) (k0_hw1 : k0_chk1 arg12 arg13), ∀ a, (k0_off245 arg12 arg13) a + S1x144x512.size a ≤ S1x144x16384.size a := fun arg12 arg13 k0_hw1 => k0_hw1.2.2.2.2.2.2.2.2.2.2.2.2.1.2.2.2.2.2.1
theorem k0_mult150_dvd : ∀ (arg12 : BitVec 32) (arg13 : BitVec 32) (k0_hw1 : k0_chk1 arg12 arg13), 512 ∣ (k0_mult150 arg12 arg13).toNat := fun arg12 arg13 k0_hw1 => k0_hw1.2.2.2.2.2.2.2.2.2.2.2.2.1.2.2.2.2.2.2.1
theorem k0_mult151_dvd : ∀ (arg12 : BitVec 32) (arg13 : BitVec 32) (k0_hw1 : k0_chk1 arg12 arg13), 512 ∣ (k0_mult151 arg12 arg13).toNat := fun arg12 arg13 k0_hw1 => k0_hw1.2.2.2.2.2.2.2.2.2.2.2.2.1.2.2.2.2.2.2.2.1
theorem k0_off246_inb : ∀ (arg12 : BitVec 32) (arg13 : BitVec 32) (k0_hw1 : k0_chk1 arg12 arg13), ∀ a, (k0_off246 arg12 arg13) a + S512x192.size a ≤ S16384x256.size a := fun arg12 arg13 k0_hw1 => k0_hw1.2.2.2.2.2.2.2.2.2.2.2.2.1.2.2.2.2.2.2.2.2.1
theorem k0_off247_inb : ∀ (arg12 : BitVec 32) (arg13 : BitVec 32) (k0_hw1 : k0_chk1 arg12 arg13), ∀ a, (k0_off247 arg12 arg13) a + S1x192x512.size a ≤ S1x192x16384.size a := fun arg12 arg13 k0_hw1 => k0_hw1.2.2.2.2.2.2.2.2.2.2.2.2.1.2.2.2.2.2.2.2.2.2.1
theorem k0_mult152_dvd : ∀ (arg12 : BitVec 32) (arg13 : BitVec 32) (k0_hw1 : k0_chk1 arg12 arg13), 512 ∣ (k0_mult152 arg12 arg13).toNat := fun arg12 arg13 k0_hw1 => k0_hw1.2.2.2.2.2.2.2.2.2.2.2.2.1.2.2.2.2.2.2.2.2.2.2.1
theorem k0_off248_inb : ∀ (arg12 : BitVec 32) (arg13 : BitVec 32) (k0_hw1 : k0_chk1 arg12 arg13), ∀ a, (k0_off248 arg12 arg13) a + S1x1x512.size a ≤ S32x1x512.size a := fun arg12 arg13 k0_hw1 => k0_hw1.2.2.2.2.2.2.2.2.2.2.2.2.1.2.2.2.2.2.2.2.2.2.2.2.1
theorem k0_off249_inb : ∀ (arg12 : BitVec 32) (arg13 : BitVec 32) (k0_hw1 : k0_chk1 arg12 arg13), ∀ a, (k0_off249 arg12 arg13) a + S1x144x512.size a ≤ S32x144x512.size a := fun arg12 arg13 k0_hw1 => k0_hw1.2.2.2.2.2.2.2.2.2.2.2.2.1.2.2.2.2.2.2.2.2.2.2.2.2.1
theorem k0_off250_inb : ∀ (arg12 : BitVec 32) (arg13 : BitVec 32) (k0_hw1 : k0_chk1 arg12 arg13), ∀ a, (k0_off250 arg12 arg13) a + S1x144x512.size a ≤ S1x144x16384.size a := fun arg12 arg13 k0_hw1 => k0_hw1.2.2.2.2.2.2.2.2.2.2.2.2.1.2.2.2.2.2.2.2.2.2.2.2.2.2.1
theorem k0_mult153_dvd : ∀ (arg12 : BitVec 32) (arg13 : BitVec 32) (k0_hw1 : k0_chk1 arg12 arg13), 512 ∣ (k0_mult153 arg12 arg13).toNat := fun arg12 arg13 k0_hw1 => k0_hw1.2.2.2.2.2.2.2.2.2.2.2.2.1.2.2.2.2.2.2.2.2.2.2.2.2.2.2.1
theorem k0_mult154_dvd : ∀ (arg12 : BitVec 32) (arg13 : BitVec 32) (k0_hw1 : k0_chk1 arg12 arg13), 512 ∣ (k0_mult154 arg12 arg13).toNat := fun arg12 arg13 k0_hw1 => k0_hw1.2.2.2.2.2.2.2.2.2.2.2.2.1.2.2.2.2.2.2.2.2.2.2.2.2.2.2.2.1
theorem k0_off251_inb : ∀ (arg12 : BitVec 32) (arg13 : BitVec 32) (k0_hw1 : k0_chk1 arg12 arg13), ∀ a, (k0_off251 arg12 arg13) a + S512x192.size a ≤ S16384x256.size a := fun arg12 arg13 k0_hw1 => k0_hw1.2.2.2.2.2.2.2.2.2.2.2.2.1.2.2.2.2.2.2.2.2.2.2.2.2.2.2.2.2.1
theorem k0_off252_inb : ∀ (arg12 : BitVec 32) (arg13 : BitVec 32) (k0_hw1 : k0_chk1 arg12 arg13), ∀ a, (k0_off252 arg12 arg13) a + S1x192x512.size a ≤ S1x192x16384.size a := fun arg12 arg13 k0_hw1 => k0_hw1.2.2.2.2.2.2.2.2.2.2.2.2.1.2.2.2.2.2.2.2.2.2.2.2.2.2.2.2.2.2.1
theorem k0_mult155_dvd : ∀ (arg12 : BitVec 32) (arg13 : BitVec 32) (k0_hw1 : k0_chk1 arg12 arg13), 512 ∣ (k0_mult155 arg12 arg13).toNat := fun arg12 arg13 k0_hw1 => k0_hw1.2.2.2.2.2.2.2.2.2.2.2.2.1.2.2.2.2.2.2.2.2.2.2.2.2.2.2.2.2.2.2.1
theorem k0_off253_inb : ∀ (arg12 : BitVec 32) (arg13 : BitVec 32) (k0_hw1 : k0_chk1 arg12 arg13), ∀ a, (k0_off253 arg12 arg13) a + S1x1x512.size a ≤ S32x1x512.size a := fun arg12 arg13 k0_hw1 => k0_hw1.2.2.2.2.2.2.2.2.2.2.2.2.1.2.2.2.2.2.2.2.2.2.2.2.2.2.2.2.2.2.2.2.1
theorem k0_off254_inb : ∀ (arg12 : BitVec 32) (arg13 : BitVec 32) (k0_hw1 : k0_chk1 arg12 arg13), ∀ a, (k0_off254 arg12 arg13) a + S1x144x512.size a ≤ S32x144x512.size a := fun arg12 arg13 k0_hw1 => k0_hw1.2.2.2.2.2.2.2.2.2.2.2.2.1.2.2.2.2.2.2.2.2.2.2.2.2.2.2.2.2.2.2.2.2.1
theorem k0_off255_inb : ∀ (arg12 : BitVec 32) (arg13 : BitVec 32) (k0_hw1 : k0_chk1 arg12 arg13), ∀ a, (k0_off255 arg12 arg13) a + S1x144x512.size a ≤ S1x144x16384.size a := fun arg12 arg13 k0_hw1 => k0_hw1.2.2.2.2.2.2.2.2.2.2.2.2.1.2.2.2.2.2.2.2.2.2.2.2.2.2.2.2.2.2.2.2.2.2.1
theorem k0_mult156_dvd : ∀ (arg12 : BitVec 32) (arg13 : BitVec 32) (k0_hw1 : k0_chk1 arg12 arg13), 512 ∣ (k0_mult156 arg12 arg13).toNat := fun arg12 arg13 k0_hw1 => k0_hw1.2.2.2.2.2.2.2.2.2.2.2.2.1.2.2.2.2.2.2.2.2.2.2.2.2.2.2.2.2.2.2.2.2.2.2.1
theorem k0_mult157_dvd : ∀ (arg12 : BitVec 32) (arg13 : BitVec 32) (k0_hw1 : k0_chk1 arg12 arg13), 512 ∣ (k0_mult157 arg12 arg13).toNat := fun arg12 arg13 k0_hw1 => k0_hw1.2.2.2.2.2.2.2.2.2.2.2.2.1.2.2.2.2.2.2.2.2.2.2.2.2.2.2.2.2.2.2.2.2.2.2.2.1
theorem k0_off256_inb : ∀ (arg12 : BitVec 32) (arg13 : BitVec 32) (k0_hw1 : k0_chk1 arg12 arg13), ∀ a, (k0_off256 arg12 arg13) a + S512x192.size a ≤ S16384x256.size a := fun arg12 arg13 k0_hw1 => k0_hw1.2.2.2.2.2.2.2.2.2.2.2.2.1.2.2.2.2.2.2.2.2.2.2.2.2.2.2.2.2.2.2.2.2.2.2.2.2.1
theorem k0_off257_inb : ∀ (arg12 : BitVec 32) (arg13 : BitVec 32) (k0_hw1 : k0_chk1 arg12 arg13), ∀ a, (k0_off257 arg12 arg13) a + S1x192x512.size a ≤ S1x192x16384.size a := fun arg12 arg13 k0_hw1 => k0_hw1.2.2.2.2.2.2.2.2.2.2.2.2.1.2.2.2.2.2.2.2.2.2.2.2.2.2.2.2.2.2.2.2.2.2.2.2.2.2.1
theorem k0_mult158_dvd : ∀ (arg12 : BitVec 32) (arg13 : BitVec 32) (k0_hw1 : k0_chk1 arg12 arg13), 512 ∣ (k0_mult158 arg12 arg13).toNat := fun arg12 arg13 k0_hw1 => k0_hw1.2.2.2.2.2.2.2.2.2.2.2.2.1.2.2.2.2.2.2.2.2.2.2.2.2.2.2.2.2.2.2.2.2.2.2.2.2.2.2.1
theorem k0_off258_inb : ∀ (arg12 : BitVec 32) (arg13 : BitVec 32) (k0_hw1 : k0_chk1 arg12 arg13), ∀ a, (k0_off258 arg12 arg13) a + S1x1x512.size a ≤ S32x1x512.size a := fun arg12 arg13 k0_hw1 => k0_hw1.2.2.2.2.2.2.2.2.2.2.2.2.1.2.2.2.2.2.2.2.2.2.2.2.2.2.2.2.2.2.2.2.2.2.2.2.2.2.2.2.1
theorem k0_off259_inb : ∀ (arg12 : BitVec 32) (arg13 : BitVec 32) (k0_hw1 : k0_chk1 arg12 arg13), ∀ a, (k0_off259 arg12 arg13) a + S1x144x512.size a ≤ S32x144x512.size a := fun arg12 arg13 k0_hw1 => k0_hw1.2.2.2.2.2.2.2.2.2.2.2.2.1.2.2.2.2.2.2.2.2.2.2.2.2.2.2.2.2.2.2.2.2.2.2.2.2.2.2.2.2.1
theorem k0_off260_inb : ∀ (arg12 : BitVec 32) (arg13 : BitVec 32) (k0_hw1 : k0_chk1 arg12 arg13), ∀ a, (k0_off260 arg12 arg13) a + S1x144x512.size a ≤ S1x144x16384.size a := fun arg12 arg13 k0_hw1 => k0_hw1.2.2.2.2.2.2.2.2.2.2.2.2.1.2.2.2.2.2.2.2.2.2.2.2.2.2.2.2.2.2.2.2.2.2.2.2.2.2.2.2.2.2.1
theorem k0_mult159_dvd : ∀ (arg12 : BitVec 32) (arg13 : BitVec 32) (k0_hw1 : k0_chk1 arg12 arg13), 512 ∣ (k0_mult159 arg12 arg13).toNat := fun arg12 arg13 k0_hw1 => k0_hw1.2.2.2.2.2.2.2.2.2.2.2.2.1.2.2.2.2.2.2.2.2.2.2.2.2.2.2.2.2.2.2.2.2.2.2.2.2.2.2.2.2.2.2.1
theorem k0_mult160_dvd : ∀ (arg12 : BitVec 32) (arg13 : BitVec 32) (k0_hw1 : k0_chk1 arg12 arg13), 512 ∣ (k0_mult160 arg12 arg13).toNat := fun arg12 arg13 k0_hw1 => k0_hw1.2.2.2.2.2.2.2.2.2.2.2.2.1.2.2.2.2.2.2.2.2.2.2.2.2.2.2.2.2.2.2.2.2.2.2.2.2.2.2.2.2.2.2.2
theorem k0_off261_inb : ∀ (arg12 : BitVec 32) (arg13 : BitVec 32) (k0_hw1 : k0_chk1 arg12 arg13), ∀ a, (k0_off261 arg12 arg13) a + S512x192.size a ≤ S16384x256.size a := fun arg12 arg13 k0_hw1 => k0_hw1.2.2.2.2.2.2.2.2.2.2.2.2.2.1.1
theorem k0_off262_inb : ∀ (arg12 : BitVec 32) (arg13 : BitVec 32) (k0_hw1 : k0_chk1 arg12 arg13), ∀ a, (k0_off262 arg12 arg13) a + S1x192x512.size a ≤ S1x192x16384.size a := fun arg12 arg13 k0_hw1 => k0_hw1.2.2.2.2.2.2.2.2.2.2.2.2.2.1.2.1
theorem k0_mult161_dvd : ∀ (arg12 : BitVec 32) (arg13 : BitVec 32) (k0_hw1 : k0_chk1 arg12 arg13), 512 ∣ (k0_mult161 arg12 arg13).toNat := fun arg12 arg13 k0_hw1 => k0_hw1.2.2.2.2.2.2.2.2.2.2.2.2.2.1.2.2.1
theorem k0_off263_inb : ∀ (arg12 : BitVec 32) (arg13 : BitVec 32) (k0_hw1 : k0_chk1 arg12 arg13), ∀ a, (k0_off263 arg12 arg13) a + S1x1x512.size a ≤ S32x1x512.size a := fun arg12 arg13 k0_hw1 => k0_hw1.2.2.2.2.2.2.2.2.2.2.2.2.2.1.2.2.2.1
theorem k0_off264_inb : ∀ (arg12 : BitVec 32) (arg13 : BitVec 32) (k0_hw1 : k0_chk1 arg12 arg13), ∀ a, (k0_off264 arg12 arg13) a + S1x144x512.size a ≤ S32x144x512.size a := fun arg12 arg13 k0_hw1 => k0_hw1.2.2.2.2.2.2.2.2.2.2.2.2.2.1.2.2.2.2.1
theorem k0_off265_inb : ∀ (arg12 : BitVec 32) (arg13 : BitVec 32) (k0_hw1 : k0_chk1 arg12 arg13), ∀ a, (k0_off265 arg12 arg13) a + S1x144x512.size a ≤ S1x144x16384.size a := fun arg12 arg13 k0_hw1 => k0_hw1.2.2.2.2.2.2.2.2.2.2.2.2.2.1.2.2.2.2.2.1
theorem k0_mult162_dvd : ∀ (arg12 : BitVec 32) (arg13 : BitVec 32) (k0_hw1 : k0_chk1 arg12 arg13), 512 ∣ (k0_mult162 arg12 arg13).toNat := fun arg12 arg13 k0_hw1 => k0_hw1.2.2.2.2.2.2.2.2.2.2.2.2.2.1.2.2.2.2.2.2.1
theorem k0_mult163_dvd : ∀ (arg12 : BitVec 32) (arg13 : BitVec 32) (k0_hw1 : k0_chk1 arg12 arg13), 512 ∣ (k0_mult163 arg12 arg13).toNat := fun arg12 arg13 k0_hw1 => k0_hw1.2.2.2.2.2.2.2.2.2.2.2.2.2.1.2.2.2.2.2.2.2.1
theorem k0_off266_inb : ∀ (arg12 : BitVec 32) (arg13 : BitVec 32) (k0_hw1 : k0_chk1 arg12 arg13), ∀ a, (k0_off266 arg12 arg13) a + S512x192.size a ≤ S16384x256.size a := fun arg12 arg13 k0_hw1 => k0_hw1.2.2.2.2.2.2.2.2.2.2.2.2.2.1.2.2.2.2.2.2.2.2.1
theorem k0_off267_inb : ∀ (arg12 : BitVec 32) (arg13 : BitVec 32) (k0_hw1 : k0_chk1 arg12 arg13), ∀ a, (k0_off267 arg12 arg13) a + S1x192x512.size a ≤ S1x192x16384.size a := fun arg12 arg13 k0_hw1 => k0_hw1.2.2.2.2.2.2.2.2.2.2.2.2.2.1.2.2.2.2.2.2.2.2.2.1
theorem k0_mult164_dvd : ∀ (arg12 : BitVec 32) (arg13 : BitVec 32) (k0_hw1 : k0_chk1 arg12 arg13), 512 ∣ (k0_mult164 arg12 arg13).toNat := fun arg12 arg13 k0_hw1 => k0_hw1.2.2.2.2.2.2.2.2.2.2.2.2.2.1.2.2.2.2.2.2.2.2.2.2.1
theorem k0_off268_inb : ∀ (arg12 : BitVec 32) (arg13 : BitVec 32) (k0_hw1 : k0_chk1 arg12 arg13), ∀ a, (k0_off268 arg12 arg13) a + S1x1x512.size a ≤ S32x1x512.size a := fun arg12 arg13 k0_hw1 => k0_hw1.2.2.2.2.2.2.2.2.2.2.2.2.2.1.2.2.2.2.2.2.2.2.2.2.2.1
theorem k0_off269_inb : ∀ (arg12 : BitVec 32) (arg13 : BitVec 32) (k0_hw1 : k0_chk1 arg12 arg13), ∀ a, (k0_off269 arg12 arg13) a + S1x144x512.size a ≤ S32x144x512.size a := fun arg12 arg13 k0_hw1 => k0_hw1.2.2.2.2.2.2.2.2.2.2.2.2.2.1.2.2.2.2.2.2.2.2.2.2.2.2.1
theorem k0_off270_inb : ∀ (arg12 : BitVec 32) (arg13 : BitVec 32) (k0_hw1 : k0_chk1 arg12 arg13), ∀ a, (k0_off270 arg12 arg13) a + S1x144x512.size a ≤ S1x144x16384.size a := fun arg12 arg13 k0_hw1 => k0_hw1.2.2.2.2.2.2.2.2.2.2.2.2.2.1.2.2.2.2.2.2.2.2.2.2.2.2.2.1
theorem k0_mult165_dvd : ∀ (arg12 : BitVec 32) (arg13 : BitVec 32) (k0_hw1 : k0_chk1 arg12 arg13), 512 ∣ (k0_mult165 arg12 arg13).toNat := fun arg12 arg13 k0_hw1 => k0_hw1.2.2.2.2.2.2.2.2.2.2.2.2.2.1.2.2.2.2.2.2.2.2.2.2.2.2.2.2.1
theorem k0_mult166_dvd : ∀ (arg12 : BitVec 32) (arg13 : BitVec 32) (k0_hw1 : k0_chk1 arg12 arg13), 512 ∣ (k0_mult166 arg12 arg13).toNat := fun arg12 arg13 k0_hw1 => k0_hw1.2.2.2.2.2.2.2.2.2.2.2.2.2.1.2.2.2.2.2.2.2.2.2.2.2.2.2.2.2.1
theorem k0_off271_inb : ∀ (arg12 : BitVec 32) (arg13 : BitVec 32) (k0_hw1 : k0_chk1 arg12 arg13), ∀ a, (k0_off271 arg12 arg13) a + S512x192.size a ≤ S16384x256.size a := fun arg12 arg13 k0_hw1 => k0_hw1.2.2.2.2.2.2.2.2.2.2.2.2.2.1.2.2.2.2.2.2.2.2.2.2.2.2.2.2.2.2.1
theorem k0_off272_inb : ∀ (arg12 : BitVec 32) (arg13 : BitVec 32) (k0_hw1 : k0_chk1 arg12 arg13), ∀ a, (k0_off272 arg12 arg13) a + S1x192x512.size a ≤ S1x192x16384.size a := fun arg12 arg13 k0_hw1 => k0_hw1.2.2.2.2.2.2.2.2.2.2.2.2.2.1.2.2.2.2.2.2.2.2.2.2.2.2.2.2.2.2.2.1
theorem k0_mult167_dvd : ∀ (arg12 : BitVec 32) (arg13 : BitVec 32) (k0_hw1 : k0_chk1 arg12 arg13), 512 ∣ (k0_mult167 arg12 arg13).toNat := fun arg12 arg13 k0_hw1 => k0_hw1.2.2.2.2.2.2.2.2.2.2.2.2.2.1.2.2.2.2.2.2.2.2.2.2.2.2.2.2.2.2.2.2.1
theorem k0_off273_inb : ∀ (arg12 : BitVec 32) (arg13 : BitVec 32) (k0_hw1 : k0_chk1 arg12 arg13), ∀ a, (k0_off273 arg12 arg13) a + S1x1x512.size a ≤ S32x1x512.size a := fun arg12 arg13 k0_hw1 => k0_hw1.2.2.2.2.2.2.2.2.2.2.2.2.2.1.2.2.2.2.2.2.2.2.2.2.2.2.2.2.2.2.2.2.2.1
theorem k0_off274_inb : ∀ (arg12 : BitVec 32) (arg13 : BitVec 32) (k0_hw1 : k0_chk1 arg12 arg13), ∀ a, (k0_off274 arg12 arg13) a + S1x144x512.size a ≤ S32x144x512.size a := fun arg12 arg13 k0_hw1 => k0_hw1.2.2.2.2.2.2.2.2.2.2.2.2.2.1.2.2.2.2.2.2.2.2.2.2.2.2.2.2.2.2.2.2.2.2.1
theorem k0_off275_inb : ∀ (arg12 : BitVec 32) (arg13 : BitVec 32) (k0_hw1 : k0_chk1 arg12 arg13), ∀ a, (k0_off275 arg12 arg13) a + S1x144x512.size a ≤ S1x144x16384.size a := fun arg12 arg13 k0_hw1 => k0_hw1.2.2.2.2.2.2.2.2.2.2.2.2.2.1.2.2.2.2.2.2.2.2.2.2.2.2.2.2.2.2.2.2.2.2.2.1
theorem k0_mult168_dvd : ∀ (arg12 : BitVec 32) (arg13 : BitVec 32) (k0_hw1 : k0_chk1 arg12 arg13), 512 ∣ (k0_mult168 arg12 arg13).toNat := fun arg12 arg13 k0_hw1 => k0_hw1.2.2.2.2.2.2.2.2.2.2.2.2.2.1.2.2.2.2.2.2.2.2.2.2.2.2.2.2.2.2.2.2.2.2.2.2.1
theorem k0_mult169_dvd : ∀ (arg12 : BitVec 32) (arg13 : BitVec 32) (k0_hw1 : k0_chk1 arg12 arg13), 512 ∣ (k0_mult169 arg12 arg13).toNat := fun arg12 arg13 k0_hw1 => k0_hw1.2.2.2.2.2.2.2.2.2.2.2.2.2.1.2.2.2.2.2.2.2.2.2.2.2.2.2.2.2.2.2.2.2.2.2.2.2.1
theorem k0_off276_inb : ∀ (arg12 : BitVec 32) (arg13 : BitVec 32) (k0_hw1 : k0_chk1 arg12 arg13), ∀ a, (k0_off276 arg12 arg13) a + S512x192.size a ≤ S16384x256.size a := fun arg12 arg13 k0_hw1 => k0_hw1.2.2.2.2.2.2.2.2.2.2.2.2.2.1.2.2.2.2.2.2.2.2.2.2.2.2.2.2.2.2.2.2.2.2.2.2.2.2.1
theorem k0_off277_inb : ∀ (arg12 : BitVec 32) (arg13 : BitVec 32) (k0_hw1 : k0_chk1 arg12 arg13), ∀ a, (k0_off277 arg12 arg13) a + S1x192x512.size a ≤ S1x192x16384.size a := fun arg12 arg13 k0_hw1 => k0_hw1.2.2.2.2.2.2.2.2.2.2.2.2.2.1.2.2.2.2.2.2.2.2.2.2.2.2.2.2.2.2.2.2.2.2.2.2.2.2.2.1
theorem k0_mult170_dvd : ∀ (arg12 : BitVec 32) (arg13 : BitVec 32) (k0_hw1 : k0_chk1 arg12 arg13), 512 ∣ (k0_mult170 arg12 arg13).toNat := fun arg12 arg13 k0_hw1 => k0_hw1.2.2.2.2.2.2.2.2.2.2.2.2.2.1.2.2.2.2.2.2.2.2.2.2.2.2.2.2.2.2.2.2.2.2.2.2.2.2.2.2.1
theorem k0_off278_inb : ∀ (arg12 : BitVec 32) (arg13 : BitVec 32) (k0_hw1 : k0_chk1 arg12 arg13), ∀ a, (k0_off278 arg12 arg13) a + S1x1x512.size a ≤ S32x1x512.size a := fun arg12 arg13 k0_hw1 => k0_hw1.2.2.2.2.2.2.2.2.2.2.2.2.2.1.2.2.2.2.2.2.2.2.2.2.2.2.2.2.2.2.2.2.2.2.2.2.2.2.2.2.2.1
theorem k0_off279_inb : ∀ (arg12 : BitVec 32) (arg13 : BitVec 32) (k0_hw1 : k0_chk1 arg12 arg13), ∀ a, (k0_off279 arg12 arg13) a + S1x144x512.size a ≤ S32x144x512.size a := fun arg12 arg13 k0_hw1 => k0_hw1.2.2.2.2.2.2.2.2.2.2.2.2.2.1.2.2.2.2.2.2.2.2.2.2.2.2.2.2.2.2.2.2.2.2.2.2.2.2.2.2.2.2.1
theorem k0_off280_inb : ∀ (arg12 : BitVec 32) (arg13 : BitVec 32) (k0_hw1 : k0_chk1 arg12 arg13), ∀ a, (k0_off280 arg12 arg13) a + S1x144x512.size a ≤ S1x144x16384.size a := fun arg12 arg13 k0_hw1 => k0_hw1.2.2.2.2.2.2.2.2.2.2.2.2.2.1.2.2.2.2.2.2.2.2.2.2.2.2.2.2.2.2.2.2.2.2.2.2.2.2.2.2.2.2.2.1
theorem k0_mult171_dvd : ∀ (arg12 : BitVec 32) (arg13 : BitVec 32) (k0_hw1 : k0_chk1 arg12 arg13), 512 ∣ (k0_mult171 arg12 arg13).toNat := fun arg12 arg13 k0_hw1 => k0_hw1.2.2.2.2.2.2.2.2.2.2.2.2.2.1.2.2.2.2.2.2.2.2.2.2.2.2.2.2.2.2.2.2.2.2.2.2.2.2.2.2.2.2.2.2.1
theorem k0_mult172_dvd : ∀ (arg12 : BitVec 32) (arg13 : BitVec 32) (k0_hw1 : k0_chk1 arg12 arg13), 512 ∣ (k0_mult172 arg12 arg13).toNat := fun arg12 arg13 k0_hw1 => k0_hw1.2.2.2.2.2.2.2.2.2.2.2.2.2.1.2.2.2.2.2.2.2.2.2.2.2.2.2.2.2.2.2.2.2.2.2.2.2.2.2.2.2.2.2.2.2
theorem k0_off281_inb : ∀ (arg12 : BitVec 32) (arg13 : BitVec 32) (k0_hw1 : k0_chk1 arg12 arg13), ∀ a, (k0_off281 arg12 arg13) a + S512x192.size a ≤ S16384x256.size a := fun arg12 arg13 k0_hw1 => k0_hw1.2.2.2.2.2.2.2.2.2.2.2.2.2.2.1.1
theorem k0_off282_inb : ∀ (arg12 : BitVec 32) (arg13 : BitVec 32) (k0_hw1 : k0_chk1 arg12 arg13), ∀ a, (k0_off282 arg12 arg13) a + S1x192x512.size a ≤ S1x192x16384.size a := fun arg12 arg13 k0_hw1 => k0_hw1.2.2.2.2.2.2.2.2.2.2.2.2.2.2.1.2.1
theorem k0_mult173_dvd : ∀ (arg12 : BitVec 32) (arg13 : BitVec 32) (k0_hw1 : k0_chk1 arg12 arg13), 512 ∣ (k0_mult173 arg12 arg13).toNat := fun arg12 arg13 k0_hw1 => k0_hw1.2.2.2.2.2.2.2.2.2.2.2.2.2.2.1.2.2.1
theorem k0_off283_inb : ∀ (arg12 : BitVec 32) (arg13 : BitVec 32) (k0_hw1 : k0_chk1 arg12 arg13), ∀ a, (k0_off283 arg12 arg13) a + S1x1x512.size a ≤ S32x1x512.size a := fun arg12 arg13 k0_hw1 => k0_hw1.2.2.2.2.2.2.2.2.2.2.2.2.2.2.1.2.2.2.1
theorem k0_off284_inb : ∀ (arg12 : BitVec 32) (arg13 : BitVec 32) (k0_hw1 : k0_chk1 arg12 arg13), ∀ a, (k0_off284 arg12 arg13) a + S1x144x512.size a ≤ S32x144x512.size a := fun arg12 arg13 k0_hw1 => k0_hw1.2.2.2.2.2.2.2.2.2.2.2.2.2.2.1.2.2.2.2.1
theorem k0_off285_inb : ∀ (arg12 : BitVec 32) (arg13 : BitVec 32) (k0_hw1 : k0_chk1 arg12 arg13), ∀ a, (k0_off285 arg12 arg13) a + S1x144x512.size a ≤ S1x144x16384.size a := fun arg12 arg13 k0_hw1 => k0_hw1.2.2.2.2.2.2.2.2.2.2.2.2.2.2.1.2.2.2.2.2.1
theorem k0_mult174_dvd : ∀ (arg12 : BitVec 32) (arg13 : BitVec 32) (k0_hw1 : k0_chk1 arg12 arg13), 512 ∣ (k0_mult174 arg12 arg13).toNat := fun arg12 arg13 k0_hw1 => k0_hw1.2.2.2.2.2.2.2.2.2.2.2.2.2.2.1.2.2.2.2.2.2.1
theorem k0_mult175_dvd : ∀ (arg12 : BitVec 32) (arg13 : BitVec 32) (k0_hw1 : k0_chk1 arg12 arg13), 512 ∣ (k0_mult175 arg12 arg13).toNat := fun arg12 arg13 k0_hw1 => k0_hw1.2.2.2.2.2.2.2.2.2.2.2.2.2.2.1.2.2.2.2.2.2.2.1
theorem k0_off286_inb : ∀ (arg12 : BitVec 32) (arg13 : BitVec 32) (k0_hw1 : k0_chk1 arg12 arg13), ∀ a, (k0_off286 arg12 arg13) a + S512x192.size a ≤ S16384x256.size a := fun arg12 arg13 k0_hw1 => k0_hw1.2.2.2.2.2.2.2.2.2.2.2.2.2.2.1.2.2.2.2.2.2.2.2.1
theorem k0_off287_inb : ∀ (arg12 : BitVec 32) (arg13 : BitVec 32) (k0_hw1 : k0_chk1 arg12 arg13), ∀ a, (k0_off287 arg12 arg13) a + S1x192x512.size a ≤ S1x192x16384.size a := fun arg12 arg13 k0_hw1 => k0_hw1.2.2.2.2.2.2.2.2.2.2.2.2.2.2.1.2.2.2.2.2.2.2.2.2.1
theorem k0_mult176_dvd : ∀ (arg12 : BitVec 32) (arg13 : BitVec 32) (k0_hw1 : k0_chk1 arg12 arg13), 512 ∣ (k0_mult176 arg12 arg13).toNat := fun arg12 arg13 k0_hw1 => k0_hw1.2.2.2.2.2.2.2.2.2.2.2.2.2.2.1.2.2.2.2.2.2.2.2.2.2.1
theorem k0_off288_inb : ∀ (arg12 : BitVec 32) (arg13 : BitVec 32) (k0_hw1 : k0_chk1 arg12 arg13), ∀ a, (k0_off288 arg12 arg13) a + S1x1x512.size a ≤ S32x1x512.size a := fun arg12 arg13 k0_hw1 => k0_hw1.2.2.2.2.2.2.2.2.2.2.2.2.2.2.1.2.2.2.2.2.2.2.2.2.2.2.1
theorem k0_off289_inb : ∀ (arg12 : BitVec 32) (arg13 : BitVec 32) (k0_hw1 : k0_chk1 arg12 arg13), ∀ a, (k0_off289 arg12 arg13) a + S1x144x512.size a ≤ S32x144x512.size a := fun arg12 arg13 k0_hw1 => k0_hw1.2.2.2.2.2.2.2.2.2.2.2.2.2.2.1.2.2.2.2.2.2.2.2.2.2.2.2.1
theorem k0_off290_inb : ∀ (arg12 : BitVec 32) (arg13 : BitVec 32) (k0_hw1 : k0_chk1 arg12 arg13), ∀ a, (k0_off290 arg12 arg13) a + S1x144x512.size a ≤ S1x144x16384.size a := fun arg12 arg13 k0_hw1 => k0_hw1.2.2.2.2.2.2.2.2.2.2.2.2.2.2.1.2.2.2.2.2.2.2.2.2.2.2.2.2.1
theorem k0_mult177_dvd : ∀ (arg12 : BitVec 32) (arg13 : BitVec 32) (k0_hw1 : k0_chk1 arg12 arg13), 512 ∣ (k0_mult177 arg12 arg13).toNat := fun arg12 arg13 k0_hw1 => k0_hw1.2.2.2.2.2.2.2.2.2.2.2.2.2.2.1.2.2.2.2.2.2.2.2.2.2.2.2.2.2.1
theorem k0_mult178_dvd : ∀ (arg12 : BitVec 32) (arg13 : BitVec 32) (k0_hw1 : k0_chk1 arg12 arg13), 512 ∣ (k0_mult178 arg12 arg13).toNat := fun arg12 arg13 k0_hw1 => k0_hw1.2.2.2.2.2.2.2.2.2.2.2.2.2.2.1.2.2.2.2.2.2.2.2.2.2.2.2.2.2.2.1
theorem k0_off291_inb : ∀ (arg12 : BitVec 32) (arg13 : BitVec 32) (k0_hw1 : k0_chk1 arg12 arg13), ∀ a, (k0_off291 arg12 arg13) a + S512x192.size a ≤ S16384x256.size a := fun arg12 arg13 k0_hw1 => k0_hw1.2.2.2.2.2.2.2.2.2.2.2.2.2.2.1.2.2.2.2.2.2.2.2.2.2.2.2.2.2.2.2.1
theorem k0_off292_inb : ∀ (arg12 : BitVec 32) (arg13 : BitVec 32) (k0_hw1 : k0_chk1 arg12 arg13), ∀ a, (k0_off292 arg12 arg13) a + S1x192x512.size a ≤ S1x192x16384.size a := fun arg12 arg13 k0_hw1 => k0_hw1.2.2.2.2.2.2.2.2.2.2.2.2.2.2.1.2.2.2.2.2.2.2.2.2.2.2.2.2.2.2.2.2.1
theorem k0_mult179_dvd : ∀ (arg12 : BitVec 32) (arg13 : BitVec 32) (k0_hw1 : k0_chk1 arg12 arg13), 512 ∣ (k0_mult179 arg12 arg13).toNat := fun arg12 arg13 k0_hw1 => k0_hw1.2.2.2.2.2.2.2.2.2.2.2.2.2.2.1.2.2.2.2.2.2.2.2.2.2.2.2.2.2.2.2.2.2.1
theorem k0_off293_inb : ∀ (arg12 : BitVec 32) (arg13 : BitVec 32) (k0_hw1 : k0_chk1 arg12 arg13), ∀ a, (k0_off293 arg12 arg13) a + S1x1x512.size a ≤ S32x1x512.size a := fun arg12 arg13 k0_hw1 => k0_hw1.2.2.2.2.2.2.2.2.2.2.2.2.2.2.1.2.2.2.2.2.2.2.2.2.2.2.2.2.2.2.2.2.2.2.1
theorem k0_off294_inb : ∀ (arg12 : BitVec 32) (arg13 : BitVec 32) (k0_hw1 : k0_chk1 arg12 arg13), ∀ a, (k0_off294 arg12 arg13) a + S1x144x512.size a ≤ S32x144x512.size a := fun arg12 arg13 k0_hw1 => k0_hw1.2.2.2.2.2.2.2.2.2.2.2.2.2.2.1.2.2.2.2.2.2.2.2.2.2.2.2.2.2.2.2.2.2.2.2.1
theorem k0_off295_inb : ∀ (arg12 : BitVec 32) (arg13 : BitVec 32) (k0_hw1 : k0_chk1 arg12 arg13), ∀ a, (k0_off295 arg12 arg13) a + S1x144x512.size a ≤ S1x144x16384.size a := fun arg12 arg13 k0_hw1 => k0_hw1.2.2.2.2.2.2.2.2.2.2.2.2.2.2.1.2.2.2.2.2.2.2.2.2.2.2.2.2.2.2.2.2.2.2.2.2.1
theorem k0_mult180_dvd : ∀ (arg12 : BitVec 32) (arg13 : BitVec 32) (k0_hw1 : k0_chk1 arg12 arg13), 512 ∣ (k0_mult180 arg12 arg13).toNat := fun arg12 arg13 k0_hw1 => k0_hw1.2.2.2.2.2.2.2.2.2.2.2.2.2.2.1.2.2.2.2.2.2.2.2.2.2.2.2.2.2.2.2.2.2.2.2.2.2.1
theorem k0_mult181_dvd : ∀ (arg12 : BitVec 32) (arg13 : BitVec 32) (k0_hw1 : k0_chk1 arg12 arg13), 512 ∣ (k0_mult181 arg12 arg13).toNat := fun arg12 arg13 k0_hw1 => k0_hw1.2.2.2.2.2.2.2.2.2.2.2.2.2.2.1.2.2.2.2.2.2.2.2.2.2.2.2.2.2.2.2.2.2.2.2.2.2.2.1
theorem k0_off296_inb : ∀ (arg12 : BitVec 32) (arg13 : BitVec 32) (k0_hw1 : k0_chk1 arg12 arg13), ∀ a, (k0_off296 arg12 arg13) a + S512x192.size a ≤ S16384x256.size a := fun arg12 arg13 k0_hw1 => k0_hw1.2.2.2.2.2.2.2.2.2.2.2.2.2.2.1.2.2.2.2.2.2.2.2.2.2.2.2.2.2.2.2.2.2.2.2.2.2.2.2.1
theorem k0_off297_inb : ∀ (arg12 : BitVec 32) (arg13 : BitVec 32) (k0_hw1 : k0_chk1 arg12 arg13), ∀ a, (k0_off297 arg12 arg13) a + S1x192x512.size a ≤ S1x192x16384.size a := fun arg12 arg13 k0_hw1 => k0_hw1.2.2.2.2.2.2.2.2.2.2.2.2.2.2.1.2.2.2.2.2.2.2.2.2.2.2.2.2.2.2.2.2.2.2.2.2.2.2.2.2.1
theorem k0_mult182_dvd : ∀ (arg12 : BitVec 32) (arg13 : BitVec 32) (k0_hw1 : k0_chk1 arg12 arg13), 512 ∣ (k0_mult182 arg12 arg13).toNat := fun arg12 arg13 k0_hw1 => k0_hw1.2.2.2.2.2.2.2.2.2.2.2.2.2.2.1.2.2.2.2.2.2.2.2.2.2.2.2.2.2.2.2.2.2.2.2.2.2.2.2.2.2.1
theorem k0_off298_inb : ∀ (arg12 : BitVec 32) (arg13 : BitVec 32) (k0_hw1 : k0_chk1 arg12 arg13), ∀ a, (k0_off298 arg12 arg13) a + S1x1x512.size a ≤ S32x1x512.size a := fun arg12 arg13 k0_hw1 => k0_hw1.2.2.2.2.2.2.2.2.2.2.2.2.2.2.1.2.2.2.2.2.2.2.2.2.2.2.2.2.2.2.2.2.2.2.2.2.2.2.2.2.2.2.1
theorem k0_off299_inb : ∀ (arg12 : BitVec 32) (arg13 : BitVec 32) (k0_hw1 : k0_chk1 arg12 arg13), ∀ a, (k0_off299 arg12 arg13) a + S1x144x512.size a ≤ S32x144x512.size a := fun arg12 arg13 k0_hw1 => k0_hw1.2.2.2.2.2.2.2.2.2.2.2.2.2.2.1.2.2.2.2.2.2.2.2.2.2.2.2.2.2.2.2.2.2.2.2.2.2.2.2.2.2.2.2.1
theorem k0_off300_inb : ∀ (arg12 : BitVec 32) (arg13 : BitVec 32) (k0_hw1 : k0_chk1 arg12 arg13), ∀ a, (k0_off300 arg12 arg13) a + S1x144x512.size a ≤ S1x144x16384.size a := fun arg12 arg13 k0_hw1 => k0_hw1.2.2.2.2.2.2.2.2.2.2.2.2.2.2.1.2.2.2.2.2.2.2.2.2.2.2.2.2.2.2.2.2.2.2.2.2.2.2.2.2.2.2.2.2.1
theorem k0_mult183_dvd : ∀ (arg12 : BitVec 32) (arg13 : BitVec 32) (k0_hw1 : k0_chk1 arg12 arg13), 512 ∣ (k0_mult183 arg12 arg13).toNat := fun arg12 arg13 k0_hw1 => k0_hw1.2.2.2.2.2.2.2.2.2.2.2.2.2.2.1.2.2.2.2.2.2.2.2.2.2.2.2.2.2.2.2.2.2.2.2.2.2.2.2.2.2.2.2.2.2.1
theorem k0_mult184_dvd : ∀ (arg12 : BitVec 32) (arg13 : BitVec 32) (k0_hw1 : k0_chk1 arg12 arg13), 512 ∣ (k0_mult184 arg12 arg13).toNat := fun arg12 arg13 k0_hw1 => k0_hw1.2.2.2.2.2.2.2.2.2.2.2.2.2.2.1.2.2.2.2.2.2.2.2.2.2.2.2.2.2.2.2.2.2.2.2.2.2.2.2.2.2.2.2.2.2.2
theorem k0_off301_inb : ∀ (arg12 : BitVec 32) (arg13 : BitVec 32) (k0_hw1 : k0_chk1 arg12 arg13), ∀ a, (k0_off301 arg12 arg13) a + S512x192.size a ≤ S16384x256.size a := fun arg12 arg13 k0_hw1 => k0_hw1.2.2.2.2.2.2.2.2.2.2.2.2.2.2.2.1
theorem k0_off302_inb : ∀ (arg12 : BitVec 32) (arg13 : BitVec 32) (k0_hw1 : k0_chk1 arg12 arg13), ∀ a, (k0_off302 arg12 arg13) a + S1x192x512.size a ≤ S1x192x16384.size a := fun arg12 arg13 k0_hw1 => k0_hw1.2.2.2.2.2.2.2.2.2.2.2.2.2.2.2.2.1
theorem k0_mult185_dvd : ∀ (arg12 : BitVec 32) (arg13 : BitVec 32) (k0_hw1 : k0_chk1 arg12 arg13), 512 ∣ (k0_mult185 arg12 arg13).toNat := fun arg12 arg13 k0_hw1 => k0_hw1.2.2.2.2.2.2.2.2.2.2.2.2.2.2.2.2.2.1
theorem k0_off303_inb : ∀ (arg12 : BitVec 32) (arg13 : BitVec 32) (k0_hw1 : k0_chk1 arg12 arg13), ∀ a, (k0_off303 arg12 arg13) a + S1x1x512.size a ≤ S32x1x512.size a := fun arg12 arg13 k0_hw1 => k0_hw1.2.2.2.2.2.2.2.2.2.2.2.2.2.2.2.2.2.2.1
theorem k0_off304_inb : ∀ (arg12 : BitVec 32) (arg13 : BitVec 32) (k0_hw1 : k0_chk1 arg12 arg13), ∀ a, (k0_off304 arg12 arg13) a + S1x144x512.size a ≤ S32x144x512.size a := fun arg12 arg13 k0_hw1 => k0_hw1.2.2.2.2.2.2.2.2.2.2.2.2.2.2.2.2.2.2.2.1
theorem k0_off305_inb : ∀ (arg12 : BitVec 32) (arg13 : BitVec 32) (k0_hw1 : k0_chk1 arg12 arg13), ∀ a, (k0_off305 arg12 arg13) a + S1x144x512.size a ≤ S1x144x16384.size a := fun arg12 arg13 k0_hw1 => k0_hw1.2.2.2.2.2.2.2.2.2.2.2.2.2.2.2.2.2.2.2.2.1
theorem k0_mult186_dvd : ∀ (arg12 : BitVec 32) (arg13 : BitVec 32) (k0_hw1 : k0_chk1 arg12 arg13), 512 ∣ (k0_mult186 arg12 arg13).toNat := fun arg12 arg13 k0_hw1 => k0_hw1.2.2.2.2.2.2.2.2.2.2.2.2.2.2.2.2.2.2.2.2.2.1
theorem k0_mult187_dvd : ∀ (arg12 : BitVec 32) (arg13 : BitVec 32) (k0_hw1 : k0_chk1 arg12 arg13), 512 ∣ (k0_mult187 arg12 arg13).toNat := fun arg12 arg13 k0_hw1 => k0_hw1.2.2.2.2.2.2.2.2.2.2.2.2.2.2.2.2.2.2.2.2.2.2.1
theorem k0_off306_inb : ∀ (arg12 : BitVec 32) (arg13 : BitVec 32) (k0_hw1 : k0_chk1 arg12 arg13), ∀ a, (k0_off306 arg12 arg13) a + S512x192.size a ≤ S16384x256.size a := fun arg12 arg13 k0_hw1 => k0_hw1.2.2.2.2.2.2.2.2.2.2.2.2.2.2.2.2.2.2.2.2.2.2.2.1
theorem k0_off307_inb : ∀ (arg12 : BitVec 32) (arg13 : BitVec 32) (k0_hw1 : k0_chk1 arg12 arg13), ∀ a, (k0_off307 arg12 arg13) a + S1x192x512.size a ≤ S1x192x16384.size a := fun arg12 arg13 k0_hw1 => k0_hw1.2.2.2.2.2.2.2.2.2.2.2.2.2.2.2.2.2.2.2.2.2.2.2.2.1
theorem k0_mult188_dvd : ∀ (arg12 : BitVec 32) (arg13 : BitVec 32) (k0_hw1 : k0_chk1 arg12 arg13), 512 ∣ (k0_mult188 arg12 arg13).toNat := fun arg12 arg13 k0_hw1 => k0_hw1.2.2.2.2.2.2.2.2.2.2.2.2.2.2.2.2.2.2.2.2.2.2.2.2.2.1
theorem k0_off308_inb : ∀ (arg12 : BitVec 32) (arg13 : BitVec 32) (k0_hw1 : k0_chk1 arg12 arg13), ∀ a, (k0_off308 arg12 arg13) a + S1x1x512.size a ≤ S32x1x512.size a := fun arg12 arg13 k0_hw1 => k0_hw1.2.2.2.2.2.2.2.2.2.2.2.2.2.2.2.2.2.2.2.2.2.2.2.2.2.2.1
theorem k0_off309_inb : ∀ (arg12 : BitVec 32) (arg13 : BitVec 32) (k0_hw1 : k0_chk1 arg12 arg13), ∀ a, (k0_off309 arg12 arg13) a + S1x144x512.size a ≤ S32x144x512.size a := fun arg12 arg13 k0_hw1 => k0_hw1.2.2.2.2.2.2.2.2.2.2.2.2.2.2.2.2.2.2.2.2.2.2.2.2.2.2.2.1
theorem k0_off310_inb : ∀ (arg12 : BitVec 32) (arg13 : BitVec 32) (k0_hw1 : k0_chk1 arg12 arg13), ∀ a, (k0_off310 arg12 arg13) a + S1x144x512.size a ≤ S1x144x16384.size a := fun arg12 arg13 k0_hw1 => k0_hw1.2.2.2.2.2.2.2.2.2.2.2.2.2.2.2.2.2.2.2.2.2.2.2.2.2.2.2.2

def k0_mult189 : BitVec 32 :=
  let c0_i32_18 : BitVec 32 := 0#32
  c0_i32_18
def k0_mult190 : BitVec 32 :=
  let c0_i32_19 : BitVec 32 := 0#32
  c0_i32_19
@[reducible] def k0_t2_loop : Scf.Loop 32 :=
  let c0_i32_26 : BitVec 32 := 0#32
  let c4_i32 : BitVec 32 := 4#32
  let v39 : BitVec 32 := Scalar.addi c0_i32_26 c4_i32
  let c1_i32_27 : BitVec 32 := 1#32
  ⟨c0_i32_26, v39, c1_i32_27⟩
def k0_mult191 (k0_t2 : Fin k0_t2_loop.trips) : BitVec 32 :=
  let c8_i32_29 : BitVec 32 := 8#32
  let c0_i32_26 : BitVec 32 := 0#32
  let c1_i32_27 : BitVec 32 := 1#32
  let arg11 : BitVec 32 := Scf.iv c0_i32_26 c1_i32_27 k0_t2
  let v40 : BitVec 32 := Scalar.muli c8_i32_29 arg11
  let c0_i32_30 : BitVec 32 := 0#32
  let v41 : BitVec 32 := Scalar.addi v40 c0_i32_30
  let c1_i32_31 : BitVec 32 := 1#32
  let v42 : BitVec 32 := Scalar.addi v41 c1_i32_31
  let c31_i32 : BitVec 32 := 31#32
  let v43 : BitVec 32 := Scalar.minsi v42 c31_i32
  let c512_i32_32 : BitVec 32 := 512#32
  let v44 : BitVec 32 := Scalar.muli v43 c512_i32_32
  v44
def k0_mult192 (k0_t2 : Fin k0_t2_loop.trips) : BitVec 32 :=
  let c8_i32_29 : BitVec 32 := 8#32
  let c0_i32_26 : BitVec 32 := 0#32
  let c1_i32_27 : BitVec 32 := 1#32
  let arg11 : BitVec 32 := Scf.iv c0_i32_26 c1_i32_27 k0_t2
  let v40 : BitVec 32 := Scalar.muli c8_i32_29 arg11
  let c0_i32_30 : BitVec 32 := 0#32
  let v41 : BitVec 32 := Scalar.addi v40 c0_i32_30
  let c1_i32_31 : BitVec 32 := 1#32
  let v42 : BitVec 32 := Scalar.addi v41 c1_i32_31
  let c31_i32 : BitVec 32 := 31#32
  let v43 : BitVec 32 := Scalar.minsi v42 c31_i32
  let c512_i32_33 : BitVec 32 := 512#32
  let v46 : BitVec 32 := Scalar.muli v43 c512_i32_33
  v46
def k0_off311 (k0_t2 : Fin k0_t2_loop.trips) (c0_i32_30 : BitVec 32) : Fin 2 → Nat :=
  let c8_i32_29 : BitVec 32 := 8#32
  let c0_i32_26 : BitVec 32 := 0#32
  let c1_i32_27 : BitVec 32 := 1#32
  let arg11 : BitVec 32 := Scf.iv c0_i32_26 c1_i32_27 k0_t2
  let v40 : BitVec 32 := Scalar.muli c8_i32_29 arg11
  let v41 : BitVec 32 := Scalar.addi v40 c0_i32_30
  let c1_i32_31 : BitVec 32 := 1#32
  let v42 : BitVec 32 := Scalar.addi v41 c1_i32_31
  let c31_i32 : BitVec 32 := 31#32
  let v43 : BitVec 32 := Scalar.minsi v42 c31_i32
  let c512_i32_33 : BitVec 32 := 512#32
  let v46 : BitVec 32 := Scalar.muli v43 c512_i32_33
  let v47 : BitVec 32 := v46
  let v48 : Index := Scalar.indexCast v47
  let c0_34 : Index := 0#32
  ![v48.toNat, 0]
def k0_off312 (k0_t2 : Fin k0_t2_loop.trips) (c0_i32_30 : BitVec 32) : Fin 3 → Nat :=
  let c0_35 : Index := 0#32
  let c0_36 : Index := 0#32
  let c8_i32_29 : BitVec 32 := 8#32
  let c0_i32_26 : BitVec 32 := 0#32
  let c1_i32_27 : BitVec 32 := 1#32
  let arg11 : BitVec 32 := Scf.iv c0_i32_26 c1_i32_27 k0_t2
  let v40 : BitVec 32 := Scalar.muli c8_i32_29 arg11
  let v41 : BitVec 32 := Scalar.addi v40 c0_i32_30
  let c1_i32_31 : BitVec 32 := 1#32
  let v42 : BitVec 32 := Scalar.addi v41 c1_i32_31
  let c31_i32 : BitVec 32 := 31#32
  let v43 : BitVec 32 := Scalar.minsi v42 c31_i32
  let c512_i32_32 : BitVec 32 := 512#32
  let v44 : BitVec 32 := Scalar.muli v43 c512_i32_32
  let v45 : BitVec 32 := v44
  let v51 : Index := Scalar.indexCast v45
  ![0, 0, v51.toNat]
def k0_mult193 (k0_t2 : Fin k0_t2_loop.trips) : BitVec 32 :=
  let c8_i32_29 : BitVec 32 := 8#32
  let c0_i32_26 : BitVec 32 := 0#32
  let c1_i32_27 : BitVec 32 := 1#32
  let arg11 : BitVec 32 := Scf.iv c0_i32_26 c1_i32_27 k0_t2
  let v40 : BitVec 32 := Scalar.muli c8_i32_29 arg11
  let c0_i32_30 : BitVec 32 := 0#32
  let v41 : BitVec 32 := Scalar.addi v40 c0_i32_30
  let c512_i32_40 : BitVec 32 := 512#32
  let v58 : BitVec 32 := Scalar.muli v41 c512_i32_40
  v58
def k0_off313 (k0_t2 : Fin k0_t2_loop.trips) (c0_i32_30 : BitVec 32) : Fin 3 → Nat :=
  let c8_i32_29 : BitVec 32 := 8#32
  let c0_i32_26 : BitVec 32 := 0#32
  let c1_i32_27 : BitVec 32 := 1#32
  let arg11 : BitVec 32 := Scf.iv c0_i32_26 c1_i32_27 k0_t2
  let v40 : BitVec 32 := Scalar.muli c8_i32_29 arg11
  let v41 : BitVec 32 := Scalar.addi v40 c0_i32_30
  let v61 : Index := Scalar.indexCast v41
  let c0_43 : Index := 0#32
  let c0_44 : Index := 0#32
  ![v61.toNat, 0, 0]
def k0_off314 (k0_t2 : Fin k0_t2_loop.trips) (c0_i32_30 : BitVec 32) : Fin 3 → Nat :=
  let c8_i32_29 : BitVec 32 := 8#32
  let c0_i32_26 : BitVec 32 := 0#32
  let c1_i32_27 : BitVec 32 := 1#32
  let arg11 : BitVec 32 := Scf.iv c0_i32_26 c1_i32_27 k0_t2
  let v40 : BitVec 32 := Scalar.muli c8_i32_29 arg11
  let v41 : BitVec 32 := Scalar.addi v40 c0_i32_30
  let v78 : Index := Scalar.indexCast v41
  let c0_47 : Index := 0#32
  let c0_48 : Index := 0#32
  ![v78.toNat, 0, 0]
def k0_off315 (k0_t2 : Fin k0_t2_loop.trips) (c0_i32_30 : BitVec 32) : Fin 3 → Nat :=
  let c0_49 : Index := 0#32
  let c0_50 : Index := 0#32
  let c8_i32_29 : BitVec 32 := 8#32
  let c0_i32_26 : BitVec 32 := 0#32
  let c1_i32_27 : BitVec 32 := 1#32
  let arg11 : BitVec 32 := Scf.iv c0_i32_26 c1_i32_27 k0_t2
  let v40 : BitVec 32 := Scalar.muli c8_i32_29 arg11
  let v41 : BitVec 32 := Scalar.addi v40 c0_i32_30
  let c512_i32_40 : BitVec 32 := 512#32
  let v58 : BitVec 32 := Scalar.muli v41 c512_i32_40
  let v59 : BitVec 32 := v58
  let v83 : Index := Scalar.indexCast v59
  ![0, 0, v83.toNat]
def k0_mult194 (k0_t2 : Fin k0_t2_loop.trips) : BitVec 32 :=
  let c8_i32_29 : BitVec 32 := 8#32
  let c0_i32_26 : BitVec 32 := 0#32
  let c1_i32_27 : BitVec 32 := 1#32
  let arg11 : BitVec 32 := Scf.iv c0_i32_26 c1_i32_27 k0_t2
  let v40 : BitVec 32 := Scalar.muli c8_i32_29 arg11
  let c0_i32_30 : BitVec 32 := 0#32
  let v41 : BitVec 32 := Scalar.addi v40 c0_i32_30
  let c512_i32_52 : BitVec 32 := 512#32
  let v88 : BitVec 32 := Scalar.muli v41 c512_i32_52
  v88
def k0_off316 (k0_t2 : Fin k0_t2_loop.trips) (c0_i32_30 : BitVec 32) : Fin 2 → Nat :=
  let c8_i32_29 : BitVec 32 := 8#32
  let c0_i32_26 : BitVec 32 := 0#32
  let c1_i32_27 : BitVec 32 := 1#32
  let arg11 : BitVec 32 := Scf.iv c0_i32_26 c1_i32_27 k0_t2
  let v40 : BitVec 32 := Scalar.muli c8_i32_29 arg11
  let v41 : BitVec 32 := Scalar.addi v40 c0_i32_30
  let c512_i32_52 : BitVec 32 := 512#32
  let v88 : BitVec 32 := Scalar.muli v41 c512_i32_52
  let v89 : BitVec 32 := v88
  let v96 : Index := Scalar.indexCast v89
  let c0_53 : Index := 0#32
  ![v96.toNat, 0]
def k0_mult195 (k0_t2 : Fin k0_t2_loop.trips) : BitVec 32 :=
  let c8_i32_54 : BitVec 32 := 8#32
  let c0_i32_26 : BitVec 32 := 0#32
  let c1_i32_27 : BitVec 32 := 1#32
  let arg11 : BitVec 32 := Scf.iv c0_i32_26 c1_i32_27 k0_t2
  let v98 : BitVec 32 := Scalar.muli c8_i32_54 arg11
  let c1_i32_55 : BitVec 32 := 1#32
  let v99 : BitVec 32 := Scalar.addi v98 c1_i32_55
  let c1_i32_56 : BitVec 32 := 1#32
  let v100 : BitVec 32 := Scalar.addi v99 c1_i32_56
  let c31_i32_57 : BitVec 32 := 31#32
  let v101 : BitVec 32 := Scalar.minsi v100 c31_i32_57
  let c512_i32_58 : BitVec 32 := 512#32
  let v102 : BitVec 32 := Scalar.muli v101 c512_i32_58
  v102
def k0_mult196 (k0_t2 : Fin k0_t2_loop.trips) : BitVec 32 :=
  let c8_i32_54 : BitVec 32 := 8#32
  let c0_i32_26 : BitVec 32 := 0#32
  let c1_i32_27 : BitVec 32 := 1#32
  let arg11 : BitVec 32 := Scf.iv c0_i32_26 c1_i32_27 k0_t2
  let v98 : BitVec 32 := Scalar.muli c8_i32_54 arg11
  let c1_i32_55 : BitVec 32 := 1#32
  let v99 : BitVec 32 := Scalar.addi v98 c1_i32_55
  let c1_i32_56 : BitVec 32 := 1#32
  let v100 : BitVec 32 := Scalar.addi v99 c1_i32_56
  let c31_i32_57 : BitVec 32 := 31#32
  let v101 : BitVec 32 := Scalar.minsi v100 c31_i32_57
  let c512_i32_59 : BitVec 32 := 512#32
  let v104 : BitVec 32 := Scalar.muli v101 c512_i32_59
  v104
def k0_mult197 (k0_t2 : Fin k0_t2_loop.trips) : BitVec 32 :=
  let c8_i32_54 : BitVec 32 := 8#32
  let c0_i32_26 : BitVec 32 := 0#32
  let c1_i32_27 : BitVec 32 := 1#32
  let arg11 : BitVec 32 := Scf.iv c0_i32_26 c1_i32_27 k0_t2
  let v98 : BitVec 32 := Scalar.muli c8_i32_54 arg11
  let c1_i32_55 : BitVec 32 := 1#32
  let v99 : BitVec 32 := Scalar.addi v98 c1_i32_55
  let c512_i32_66 : BitVec 32 := 512#32
  let v116 : BitVec 32 := Scalar.muli v99 c512_i32_66
  v116
def k0_mult198 (k0_t2 : Fin k0_t2_loop.trips) : BitVec 32 :=
  let c8_i32_54 : BitVec 32 := 8#32
  let c0_i32_26 : BitVec 32 := 0#32
  let c1_i32_27 : BitVec 32 := 1#32
  let arg11 : BitVec 32 := Scf.iv c0_i32_26 c1_i32_27 k0_t2
  let v98 : BitVec 32 := Scalar.muli c8_i32_54 arg11
  let c1_i32_55 : BitVec 32 := 1#32
  let v99 : BitVec 32 := Scalar.addi v98 c1_i32_55
  let c512_i32_78 : BitVec 32 := 512#32
  let v146 : BitVec 32 := Scalar.muli v99 c512_i32_78
  v146
def k0_mult199 (k0_t2 : Fin k0_t2_loop.trips) : BitVec 32 :=
  let c8_i32_80 : BitVec 32 := 8#32
  let c0_i32_26 : BitVec 32 := 0#32
  let c1_i32_27 : BitVec 32 := 1#32
  let arg11 : BitVec 32 := Scf.iv c0_i32_26 c1_i32_27 k0_t2
  let v156 : BitVec 32 := Scalar.muli c8_i32_80 arg11
  let c2_i32 : BitVec 32 := 2#32
  let v157 : BitVec 32 := Scalar.addi v156 c2_i32
  let c1_i32_81 : BitVec 32 := 1#32
  let v158 : BitVec 32 := Scalar.addi v157 c1_i32_81
  let c31_i32_82 : BitVec 32 := 31#32
  let v159 : BitVec 32 := Scalar.minsi v158 c31_i32_82
  let c512_i32_83 : BitVec 32 := 512#32
  let v160 : BitVec 32 := Scalar.muli v159 c512_i32_83
  v160
def k0_mult200 (k0_t2 : Fin k0_t2_loop.trips) : BitVec 32 :=
  let c8_i32_80 : BitVec 32 := 8#32
  let c0_i32_26 : BitVec 32 := 0#32
  let c1_i32_27 : BitVec 32 := 1#32
  let arg11 : BitVec 32 := Scf.iv c0_i32_26 c1_i32_27 k0_t2
  let v156 : BitVec 32 := Scalar.muli c8_i32_80 arg11
  let c2_i32 : BitVec 32 := 2#32
  let v157 : BitVec 32 := Scalar.addi v156 c2_i32
  let c1_i32_81 : BitVec 32 := 1#32
  let v158 : BitVec 32 := Scalar.addi v157 c1_i32_81
  let c31_i32_82 : BitVec 32 := 31#32
  let v159 : BitVec 32 := Scalar.minsi v158 c31_i32_82
  let c512_i32_84 : BitVec 32 := 512#32
  let v162 : BitVec 32 := Scalar.muli v159 c512_i32_84
  v162
def k0_mult201 (k0_t2 : Fin k0_t2_loop.trips) : BitVec 32 :=
  let c8_i32_80 : BitVec 32 := 8#32
  let c0_i32_26 : BitVec 32 := 0#32
  let c1_i32_27 : BitVec 32 := 1#32
  let arg11 : BitVec 32 := Scf.iv c0_i32_26 c1_i32_27 k0_t2
  let v156 : BitVec 32 := Scalar.muli c8_i32_80 arg11
  let c2_i32 : BitVec 32 := 2#32
  let v157 : BitVec 32 := Scalar.addi v156 c2_i32
  let c512_i32_91 : BitVec 32 := 512#32
  let v174 : BitVec 32 := Scalar.muli v157 c512_i32_91
  v174
def k0_mult202 (k0_t2 : Fin k0_t2_loop.trips) : BitVec 32 :=
  let c8_i32_80 : BitVec 32 := 8#32
  let c0_i32_26 : BitVec 32 := 0#32
  let c1_i32_27 : BitVec 32 := 1#32
  let arg11 : BitVec 32 := Scf.iv c0_i32_26 c1_i32_27 k0_t2
  let v156 : BitVec 32 := Scalar.muli c8_i32_80 arg11
  let c2_i32 : BitVec 32 := 2#32
  let v157 : BitVec 32 := Scalar.addi v156 c2_i32
  let c512_i32_103 : BitVec 32 := 512#32
  let v204 : BitVec 32 := Scalar.muli v157 c512_i32_103
  v204
def k0_mult203 (k0_t2 : Fin k0_t2_loop.trips) : BitVec 32 :=
  let c8_i32_105 : BitVec 32 := 8#32
  let c0_i32_26 : BitVec 32 := 0#32
  let c1_i32_27 : BitVec 32 := 1#32
  let arg11 : BitVec 32 := Scf.iv c0_i32_26 c1_i32_27 k0_t2
  let v214 : BitVec 32 := Scalar.muli c8_i32_105 arg11
  let c3_i32 : BitVec 32 := 3#32
  let v215 : BitVec 32 := Scalar.addi v214 c3_i32
  let c1_i32_106 : BitVec 32 := 1#32
  let v216 : BitVec 32 := Scalar.addi v215 c1_i32_106
  let c31_i32_107 : BitVec 32 := 31#32
  let v217 : BitVec 32 := Scalar.minsi v216 c31_i32_107
  let c512_i32_108 : BitVec 32 := 512#32
  let v218 : BitVec 32 := Scalar.muli v217 c512_i32_108
  v218
def k0_mult204 (k0_t2 : Fin k0_t2_loop.trips) : BitVec 32 :=
  let c8_i32_105 : BitVec 32 := 8#32
  let c0_i32_26 : BitVec 32 := 0#32
  let c1_i32_27 : BitVec 32 := 1#32
  let arg11 : BitVec 32 := Scf.iv c0_i32_26 c1_i32_27 k0_t2
  let v214 : BitVec 32 := Scalar.muli c8_i32_105 arg11
  let c3_i32 : BitVec 32 := 3#32
  let v215 : BitVec 32 := Scalar.addi v214 c3_i32
  let c1_i32_106 : BitVec 32 := 1#32
  let v216 : BitVec 32 := Scalar.addi v215 c1_i32_106
  let c31_i32_107 : BitVec 32 := 31#32
  let v217 : BitVec 32 := Scalar.minsi v216 c31_i32_107
  let c512_i32_109 : BitVec 32 := 512#32
  let v220 : BitVec 32 := Scalar.muli v217 c512_i32_109
  v220
def k0_mult205 (k0_t2 : Fin k0_t2_loop.trips) : BitVec 32 :=
  let c8_i32_105 : BitVec 32 := 8#32
  let c0_i32_26 : BitVec 32 := 0#32
  let c1_i32_27 : BitVec 32 := 1#32
  let arg11 : BitVec 32 := Scf.iv c0_i32_26 c1_i32_27 k0_t2
  let v214 : BitVec 32 := Scalar.muli c8_i32_105 arg11
  let c3_i32 : BitVec 32 := 3#32
  let v215 : BitVec 32 := Scalar.addi v214 c3_i32
  let c512_i32_116 : BitVec 32 := 512#32
  let v232 : BitVec 32 := Scalar.muli v215 c512_i32_116
  v232
def k0_mult206 (k0_t2 : Fin k0_t2_loop.trips) : BitVec 32 :=
  let c8_i32_105 : BitVec 32 := 8#32
  let c0_i32_26 : BitVec 32 := 0#32
  let c1_i32_27 : BitVec 32 := 1#32
  let arg11 : BitVec 32 := Scf.iv c0_i32_26 c1_i32_27 k0_t2
  let v214 : BitVec 32 := Scalar.muli c8_i32_105 arg11
  let c3_i32 : BitVec 32 := 3#32
  let v215 : BitVec 32 := Scalar.addi v214 c3_i32
  let c512_i32_128 : BitVec 32 := 512#32
  let v262 : BitVec 32 := Scalar.muli v215 c512_i32_128
  v262
def k0_mult207 (k0_t2 : Fin k0_t2_loop.trips) : BitVec 32 :=
  let c8_i32_130 : BitVec 32 := 8#32
  let c0_i32_26 : BitVec 32 := 0#32
  let c1_i32_27 : BitVec 32 := 1#32
  let arg11 : BitVec 32 := Scf.iv c0_i32_26 c1_i32_27 k0_t2
  let v272 : BitVec 32 := Scalar.muli c8_i32_130 arg11
  let c4_i32_131 : BitVec 32 := 4#32
  let v273 : BitVec 32 := Scalar.addi v272 c4_i32_131
  let c1_i32_132 : BitVec 32 := 1#32
  let v274 : BitVec 32 := Scalar.addi v273 c1_i32_132
  let c31_i32_133 : BitVec 32 := 31#32
  let v275 : BitVec 32 := Scalar.minsi v274 c31_i32_133
  let c512_i32_134 : BitVec 32 := 512#32
  let v276 : BitVec 32 := Scalar.muli v275 c512_i32_134
  v276
def k0_mult208 (k0_t2 : Fin k0_t2_loop.trips) : BitVec 32 :=
  let c8_i32_130 : BitVec 32 := 8#32
  let c0_i32_26 : BitVec 32 := 0#32
  let c1_i32_27 : BitVec 32 := 1#32
  let arg11 : BitVec 32 := Scf.iv c0_i32_26 c1_i32_27 k0_t2
  let v272 : BitVec 32 := Scalar.muli c8_i32_130 arg11
  let c4_i32_131 : BitVec 32 := 4#32
  let v273 : BitVec 32 := Scalar.addi v272 c4_i32_131
  let c1_i32_132 : BitVec 32 := 1#32
  let v274 : BitVec 32 := Scalar.addi v273 c1_i32_132
  let c31_i32_133 : BitVec 32 := 31#32
  let v275 : BitVec 32 := Scalar.minsi v274 c31_i32_133
  let c512_i32_135 : BitVec 32 := 512#32
  let v278 : BitVec 32 := Scalar.muli v275 c512_i32_135
  v278
def k0_mult209 (k0_t2 : Fin k0_t2_loop.trips) : BitVec 32 :=
  let c8_i32_130 : BitVec 32 := 8#32
  let c0_i32_26 : BitVec 32 := 0#32
  let c1_i32_27 : BitVec 32 := 1#32
  let arg11 : BitVec 32 := Scf.iv c0_i32_26 c1_i32_27 k0_t2
  let v272 : BitVec 32 := Scalar.muli c8_i32_130 arg11
  let c4_i32_131 : BitVec 32 := 4#32
  let v273 : BitVec 32 := Scalar.addi v272 c4_i32_131
  let c512_i32_142 : BitVec 32 := 512#32
  let v290 : BitVec 32 := Scalar.muli v273 c512_i32_142
  v290
def k0_mult210 (k0_t2 : Fin k0_t2_loop.trips) : BitVec 32 :=
  let c8_i32_130 : BitVec 32 := 8#32
  let c0_i32_26 : BitVec 32 := 0#32
  let c1_i32_27 : BitVec 32 := 1#32
  let arg11 : BitVec 32 := Scf.iv c0_i32_26 c1_i32_27 k0_t2
  let v272 : BitVec 32 := Scalar.muli c8_i32_130 arg11
  let c4_i32_131 : BitVec 32 := 4#32
  let v273 : BitVec 32 := Scalar.addi v272 c4_i32_131
  let c512_i32_154 : BitVec 32 := 512#32
  let v320 : BitVec 32 := Scalar.muli v273 c512_i32_154
  v320
def k0_mult211 (k0_t2 : Fin k0_t2_loop.trips) : BitVec 32 :=
  let c8_i32_156 : BitVec 32 := 8#32
  let c0_i32_26 : BitVec 32 := 0#32
  let c1_i32_27 : BitVec 32 := 1#32
  let arg11 : BitVec 32 := Scf.iv c0_i32_26 c1_i32_27 k0_t2
  let v330 : BitVec 32 := Scalar.muli c8_i32_156 arg11
  let c5_i32 : BitVec 32 := 5#32
  let v331 : BitVec 32 := Scalar.addi v330 c5_i32
  let c1_i32_157 : BitVec 32 := 1#32
  let v332 : BitVec 32 := Scalar.addi v331 c1_i32_157
  let c31_i32_158 : BitVec 32 := 31#32
  let v333 : BitVec 32 := Scalar.minsi v332 c31_i32_158
  let c512_i32_159 : BitVec 32 := 512#32
  let v334 : BitVec 32 := Scalar.muli v333 c512_i32_159
  v334
def k0_mult212 (k0_t2 : Fin k0_t2_loop.trips) : BitVec 32 :=
  let c8_i32_156 : BitVec 32 := 8#32
  let c0_i32_26 : BitVec 32 := 0#32
  let c1_i32_27 : BitVec 32 := 1#32
  let arg11 : BitVec 32 := Scf.iv c0_i32_26 c1_i32_27 k0_t2
  let v330 : BitVec 32 := Scalar.muli c8_i32_156 arg11
  let c5_i32 : BitVec 32 := 5#32
  let v331 : BitVec 32 := Scalar.addi v330 c5_i32
  let c1_i32_157 : BitVec 32 := 1#32
  let v332 : BitVec 32 := Scalar.addi v331 c1_i32_157
  let c31_i32_158 : BitVec 32 := 31#32
  let v333 : BitVec 32 := Scalar.minsi v332 c31_i32_158
  let c512_i32_160 : BitVec 32 := 512#32
  let v336 : BitVec 32 := Scalar.muli v333 c512_i32_160
  v336
def k0_mult213 (k0_t2 : Fin k0_t2_loop.trips) : BitVec 32 :=
  let c8_i32_156 : BitVec 32 := 8#32
  let c0_i32_26 : BitVec 32 := 0#32
  let c1_i32_27 : BitVec 32 := 1#32
  let arg11 : BitVec 32 := Scf.iv c0_i32_26 c1_i32_27 k0_t2
  let v330 : BitVec 32 := Scalar.muli c8_i32_156 arg11
  let c5_i32 : BitVec 32 := 5#32
  let v331 : BitVec 32 := Scalar.addi v330 c5_i32
  let c512_i32_167 : BitVec 32 := 512#32
  let v348 : BitVec 32 := Scalar.muli v331 c512_i32_167
  v348
def k0_mult214 (k0_t2 : Fin k0_t2_loop.trips) : BitVec 32 :=
  let c8_i32_156 : BitVec 32 := 8#32
  let c0_i32_26 : BitVec 32 := 0#32
  let c1_i32_27 : BitVec 32 := 1#32
  let arg11 : BitVec 32 := Scf.iv c0_i32_26 c1_i32_27 k0_t2
  let v330 : BitVec 32 := Scalar.muli c8_i32_156 arg11
  let c5_i32 : BitVec 32 := 5#32
  let v331 : BitVec 32 := Scalar.addi v330 c5_i32
  let c512_i32_179 : BitVec 32 := 512#32
  let v378 : BitVec 32 := Scalar.muli v331 c512_i32_179
  v378
def k0_mult215 (k0_t2 : Fin k0_t2_loop.trips) : BitVec 32 :=
  let c8_i32_181 : BitVec 32 := 8#32
  let c0_i32_26 : BitVec 32 := 0#32
  let c1_i32_27 : BitVec 32 := 1#32
  let arg11 : BitVec 32 := Scf.iv c0_i32_26 c1_i32_27 k0_t2
  let v388 : BitVec 32 := Scalar.muli c8_i32_181 arg11
  let c6_i32 : BitVec 32 := 6#32
  let v389 : BitVec 32 := Scalar.addi v388 c6_i32
  let c1_i32_182 : BitVec 32 := 1#32
  let v390 : BitVec 32 := Scalar.addi v389 c1_i32_182
  let c31_i32_183 : BitVec 32 := 31#32
  let v391 : BitVec 32 := Scalar.minsi v390 c31_i32_183
  let c512_i32_184 : BitVec 32 := 512#32
  let v392 : BitVec 32 := Scalar.muli v391 c512_i32_184
  v392
def k0_mult216 (k0_t2 : Fin k0_t2_loop.trips) : BitVec 32 :=
  let c8_i32_181 : BitVec 32 := 8#32
  let c0_i32_26 : BitVec 32 := 0#32
  let c1_i32_27 : BitVec 32 := 1#32
  let arg11 : BitVec 32 := Scf.iv c0_i32_26 c1_i32_27 k0_t2
  let v388 : BitVec 32 := Scalar.muli c8_i32_181 arg11
  let c6_i32 : BitVec 32 := 6#32
  let v389 : BitVec 32 := Scalar.addi v388 c6_i32
  let c1_i32_182 : BitVec 32 := 1#32
  let v390 : BitVec 32 := Scalar.addi v389 c1_i32_182
  let c31_i32_183 : BitVec 32 := 31#32
  let v391 : BitVec 32 := Scalar.minsi v390 c31_i32_183
  let c512_i32_185 : BitVec 32 := 512#32
  let v394 : BitVec 32 := Scalar.muli v391 c512_i32_185
  v394
def k0_mult217 (k0_t2 : Fin k0_t2_loop.trips) : BitVec 32 :=
  let c8_i32_181 : BitVec 32 := 8#32
  let c0_i32_26 : BitVec 32 := 0#32
  let c1_i32_27 : BitVec 32 := 1#32
  let arg11 : BitVec 32 := Scf.iv c0_i32_26 c1_i32_27 k0_t2
  let v388 : BitVec 32 := Scalar.muli c8_i32_181 arg11
  let c6_i32 : BitVec 32 := 6#32
  let v389 : BitVec 32 := Scalar.addi v388 c6_i32
  let c512_i32_192 : BitVec 32 := 512#32
  let v406 : BitVec 32 := Scalar.muli v389 c512_i32_192
  v406
def k0_mult218 (k0_t2 : Fin k0_t2_loop.trips) : BitVec 32 :=
  let c8_i32_181 : BitVec 32 := 8#32
  let c0_i32_26 : BitVec 32 := 0#32
  let c1_i32_27 : BitVec 32 := 1#32
  let arg11 : BitVec 32 := Scf.iv c0_i32_26 c1_i32_27 k0_t2
  let v388 : BitVec 32 := Scalar.muli c8_i32_181 arg11
  let c6_i32 : BitVec 32 := 6#32
  let v389 : BitVec 32 := Scalar.addi v388 c6_i32
  let c512_i32_204 : BitVec 32 := 512#32
  let v436 : BitVec 32 := Scalar.muli v389 c512_i32_204
  v436
def k0_mult219 (k0_t2 : Fin k0_t2_loop.trips) : BitVec 32 :=
  let c8_i32_206 : BitVec 32 := 8#32
  let c0_i32_26 : BitVec 32 := 0#32
  let c1_i32_27 : BitVec 32 := 1#32
  let arg11 : BitVec 32 := Scf.iv c0_i32_26 c1_i32_27 k0_t2
  let v446 : BitVec 32 := Scalar.muli c8_i32_206 arg11
  let c7_i32 : BitVec 32 := 7#32
  let v447 : BitVec 32 := Scalar.addi v446 c7_i32
  let c1_i32_207 : BitVec 32 := 1#32
  let v448 : BitVec 32 := Scalar.addi v447 c1_i32_207
  let c31_i32_208 : BitVec 32 := 31#32
  let v449 : BitVec 32 := Scalar.minsi v448 c31_i32_208
  let c512_i32_209 : BitVec 32 := 512#32
  let v450 : BitVec 32 := Scalar.muli v449 c512_i32_209
  v450
def k0_mult220 (k0_t2 : Fin k0_t2_loop.trips) : BitVec 32 :=
  let c8_i32_206 : BitVec 32 := 8#32
  let c0_i32_26 : BitVec 32 := 0#32
  let c1_i32_27 : BitVec 32 := 1#32
  let arg11 : BitVec 32 := Scf.iv c0_i32_26 c1_i32_27 k0_t2
  let v446 : BitVec 32 := Scalar.muli c8_i32_206 arg11
  let c7_i32 : BitVec 32 := 7#32
  let v447 : BitVec 32 := Scalar.addi v446 c7_i32
  let c1_i32_207 : BitVec 32 := 1#32
  let v448 : BitVec 32 := Scalar.addi v447 c1_i32_207
  let c31_i32_208 : BitVec 32 := 31#32
  let v449 : BitVec 32 := Scalar.minsi v448 c31_i32_208
  let c512_i32_210 : BitVec 32 := 512#32
  let v452 : BitVec 32 := Scalar.muli v449 c512_i32_210
  v452
def k0_mult221 (k0_t2 : Fin k0_t2_loop.trips) : BitVec 32 :=
  let c8_i32_206 : BitVec 32 := 8#32
  let c0_i32_26 : BitVec 32 := 0#32
  let c1_i32_27 : BitVec 32 := 1#32
  let arg11 : BitVec 32 := Scf.iv c0_i32_26 c1_i32_27 k0_t2
  let v446 : BitVec 32 := Scalar.muli c8_i32_206 arg11
  let c7_i32 : BitVec 32 := 7#32
  let v447 : BitVec 32 := Scalar.addi v446 c7_i32
  let c512_i32_217 : BitVec 32 := 512#32
  let v464 : BitVec 32 := Scalar.muli v447 c512_i32_217
  v464
def k0_mult222 (k0_t2 : Fin k0_t2_loop.trips) : BitVec 32 :=
  let c8_i32_206 : BitVec 32 := 8#32
  let c0_i32_26 : BitVec 32 := 0#32
  let c1_i32_27 : BitVec 32 := 1#32
  let arg11 : BitVec 32 := Scf.iv c0_i32_26 c1_i32_27 k0_t2
  let v446 : BitVec 32 := Scalar.muli c8_i32_206 arg11
  let c7_i32 : BitVec 32 := 7#32
  let v447 : BitVec 32 := Scalar.addi v446 c7_i32
  let c512_i32_229 : BitVec 32 := 512#32
  let v494 : BitVec 32 := Scalar.muli v447 c512_i32_229
  v494
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x192x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x144x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x8x128 : Shape := ⟨3, ![16384, 8, 128]⟩
abbrev S16384x8x64 : Shape := ⟨3, ![16384, 8, 64]⟩
abbrev S16384x64 : Shape := ⟨2, ![16384, 64]⟩
abbrev S8x16384x16384 : Shape := ⟨3, ![8, 16384, 16384]⟩
abbrev S16384x16384x8 : Shape := ⟨3, ![16384, 16384, 8]⟩
abbrev S_ : Shape := ⟨0, ![]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16384x8x128, .f32⟩
  | .hbm, ⟨3, _⟩ => ⟨S16384x64, .f32⟩
  | .hbm, ⟨4, _⟩ => ⟨S16384x8x128, .f32⟩
  | .hbm, ⟨5, _⟩ => ⟨S8x16384x16384, .f32⟩
  | .hbm, ⟨6, _⟩ => ⟨S16384x16384x8, .f32⟩
  | .hbm, ⟨7, _⟩ => ⟨S8x16384x16384, .f32⟩
  | .hbm, ⟨8, _⟩ => ⟨S8x16384x16384, .f32⟩
  | .hbm, ⟨9, _⟩ => ⟨S_, .f32⟩
  | .hbm, ⟨10, _⟩ => ⟨S8x16384x16384, .f32⟩
  | .hbm, ⟨11, _⟩ => ⟨S8x16384x16384, .f32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S1x16384x16384, .i1⟩
  | .hbm, ⟨16, _⟩ => ⟨S_, .f32⟩
  | .hbm, ⟨17, _⟩ => ⟨S_, .f32⟩
  | .hbm, ⟨18, _⟩ => ⟨S8x16384x16384, .i1⟩
  | .hbm, ⟨19, _⟩ => ⟨S8x16384x16384, .f32⟩
  | .hbm, ⟨20, _⟩ => ⟨S8x16384x16384, .f32⟩
  | .hbm, ⟨21, _⟩ => ⟨S_, .f32⟩
  | .hbm, ⟨22, _⟩ => ⟨S8x16384, .f32⟩
  | .hbm, ⟨23, _⟩ => ⟨S_, .f32⟩
  | .hbm, ⟨24, _⟩ => ⟨S8x16384, .f32⟩
  | .hbm, ⟨25, _⟩ => ⟨S8x16384, .f32⟩
  | .hbm, ⟨26, _⟩ => ⟨S8x16384x1, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S8x16384, .f32⟩
  | .hbm, ⟨32, _⟩ => ⟨S8x16384x1, .f32⟩
  | .hbm, ⟨33, _⟩ => ⟨S8x16384x16384, .f32⟩
  | .hbm, ⟨34, _⟩ => ⟨S8x16384x16384, .f32⟩
  | .hbm, ⟨35, _⟩ => ⟨S8x128x16384, .f32⟩
  | .hbm, ⟨36, _⟩ => ⟨S16384x8x128, .f32⟩
  | .hbm, ⟨37, _⟩ => ⟨S16384x1024, .f32⟩
  | .hbm, ⟨38, _⟩ => ⟨S16384x1024, .bf16⟩
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S4x1024x2816 : Shape := ⟨3, ![4, 1024, 2816]⟩
abbrev S4x2816x1024 : Shape := ⟨3, ![4, 2816, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 24
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4x1024x2816, .f32⟩
  | .hbm, ⟨10, _⟩ => ⟨S4x1024x2816, .f32⟩
  | .hbm, ⟨11, _⟩ => ⟨S4x2816x1024, .f32⟩
  | .hbm, ⟨12, _⟩ => ⟨S1024, .f32⟩
  | .hbm, ⟨13, _⟩ => ⟨S1024, .f32⟩
  | .hbm, ⟨14, _⟩ => ⟨S4x1024x2816, .bf16⟩
  | .hbm, ⟨15, _⟩ => ⟨S4x1024x2816, .bf16⟩
  | .hbm, ⟨16, _⟩ => ⟨S4x2816x1024, .bf16⟩
  | .hbm, ⟨17, _⟩ => ⟨S16384x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S4x1024x2816 : Shape := ⟨3, ![4, 1024, 2816]⟩
abbrev S4x2816x1024 : Shape := ⟨3, ![4, 2816, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 111
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4x1024x2816, .f32⟩
  | .hbm, ⟨10, _⟩ => ⟨S4x1024x2816, .f32⟩
  | .hbm, ⟨11, _⟩ => ⟨S4x2816x1024, .f32⟩
  | .hbm, ⟨12, _⟩ => ⟨S1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1x1024x2816, .f32⟩
  | .hbm, ⟨58, _⟩ => ⟨S1024x2816, .f32⟩
  | .hbm, ⟨59, _⟩ => ⟨S1x1024x2816, .f32⟩
  | .hbm, ⟨60, _⟩ => ⟨S1024x2816, .f32⟩
  | .hbm, ⟨61, _⟩ => ⟨S1x2816x1024, .f32⟩
  | .hbm, ⟨62, _⟩ => ⟨S2816x1024, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S_, .f32⟩
  | .hbm, ⟨67, _⟩ => ⟨S16384x2816, .f32⟩
  | .hbm, ⟨68, _⟩ => ⟨S16384x2816, .f32⟩
  | .hbm, ⟨69, _⟩ => ⟨S_, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S16384x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S16384x1024, .f32⟩
  | .hbm, ⟨98, _⟩ => ⟨S16384x1024, .f32⟩
  | .hbm, ⟨99, _⟩ => ⟨S_, .f32⟩
  | .hbm, ⟨100, _⟩ => ⟨S16384x1, .f32⟩
  | .hbm, ⟨101, _⟩ => ⟨S16384x1, .f32⟩
  | .hbm, ⟨102, _⟩ => ⟨S16384x1, .f32⟩
  | .hbm, ⟨103, _⟩ => ⟨S16384x1024, .f32⟩
  | .hbm, ⟨104, _⟩ => ⟨S16384x1024, .f32⟩
  | .hbm, ⟨105, _⟩ => ⟨S1x1024, .f32⟩
  | .hbm, ⟨106, _⟩ => ⟨S16384x1024, .f32⟩
  | .hbm, ⟨107, _⟩ => ⟨S16384x1024, .f32⟩
  | .hbm, ⟨108, _⟩ => ⟨S1x1024, .f32⟩
  | .hbm, ⟨109, _⟩ => ⟨S16384x1024, .f32⟩
  | .hbm, ⟨110, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S1024 : Shape := ⟨1, ![1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S512x2816 : Shape := ⟨2, ![512, 2816]⟩
abbrev S2816x1024 : Shape := ⟨2, ![2816, 1024]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S1024, .f32⟩
  | .hbm, ⟨8, _⟩ => ⟨S1024, .f32⟩
  | .hbm, ⟨9, _⟩ => ⟨S4x1024x2816, .bf16⟩
  | .hbm, ⟨10, _⟩ => ⟨S4x1024x2816, .bf16⟩
  | .hbm, ⟨11, _⟩ => ⟨S4x2816x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x2816, .bf16⟩
  | .local _ .vmem, ⟨6, _⟩ => ⟨S1x1024x2816, .bf16⟩
  | .local _ .vmem, ⟨7, _⟩ => ⟨S1x2816x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S1024 : Shape := ⟨1, ![1024]⟩
abbrev S_ : Shape := ⟨0, ![]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩
abbrev S16384 : Shape := ⟨1, ![16384]⟩
abbrev S16384x1 : Shape := ⟨2, ![16384, 1]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S1x1024x2816, .f32⟩
  | .hbm, ⟨17, _⟩ => ⟨S1024x2816, .f32⟩
  | .hbm, ⟨18, _⟩ => ⟨S1x1024x2816, .f32⟩
  | .hbm, ⟨19, _⟩ => ⟨S1024x2816, .f32⟩
  | .hbm, ⟨20, _⟩ => ⟨S1x2816x1024, .f32⟩
  | .hbm, ⟨21, _⟩ => ⟨S2816x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S16384x32 : Shape := ⟨2, ![16384, 32]⟩
abbrev S1024x704 : Shape := ⟨2, ![1024, 704]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S_ : Shape := ⟨0, ![]⟩
abbrev S1024x64 : Shape := ⟨2, ![1024, 64]⟩
abbrev S1024x768 : Shape := ⟨2, ![1024, 768]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S1x384 : Shape := ⟨2, ![1, 384]⟩
abbrev S1536x384 : Shape := ⟨2, ![1536, 384]⟩
abbrev S1x256 : Shape := ⟨2, ![1, 256]⟩
abbrev S32x16384 : Shape := ⟨2, ![32, 16384]⟩
abbrev S8x192x16384 : Shape := ⟨3, ![8, 192, 16384]⟩
abbrev S16384x2048 : Shape := ⟨2, ![16384, 2048]⟩
abbrev S8x144x16384 : Shape := ⟨3, ![8, 144, 16384]⟩
abbrev S1024x1024 : Shape := ⟨2, ![1024, 1024]⟩
abbrev S32x1024 : Shape := ⟨2, ![32, 1024]⟩
abbrev S8x192x1024 : Shape := ⟨3, ![8, 192, 1024]⟩
abbrev S1024x2048 : Shape := ⟨2, ![1024, 2048]⟩
abbrev S8x144x1024 : Shape := ⟨3, ![8, 144, 1024]⟩
abbrev S1024x384 : Shape := ⟨2, ![1024, 384]⟩
abbrev S1024x128 : Shape := ⟨2, ![1024, 128]⟩
abbrev S1024 : Shape := ⟨1, ![1024]⟩
abbrev S1024x1 : Shape := ⟨2, ![1024, 1]⟩
abbrev S1536x1024 : Shape := ⟨2, ![1536, 1024]⟩
abbrev S128x1024 : Shape := ⟨2, ![128, 1024]⟩
abbrev S1x128x1024 : Shape := ⟨3, ![1, 128, 1024]⟩
abbrev S1x32x1024 : Shape := ⟨3, ![1, 32, 1024]⟩
abbrev S64x1024 : Shape := ⟨2, ![64, 1024]⟩
abbrev S16x1024 : Shape := ⟨2, ![16, 1024]⟩
abbrev S1x16x1024 : Shape := ⟨3, ![1, 16, 1024]⟩

abbrev nBuf : Space → Nat
  | .hbm => 31
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x32, .f32⟩
  | .hbm, ⟨4, _⟩ => ⟨S16384x32, .f32⟩
  | .hbm, ⟨5, _⟩ => ⟨S1024x704, .f32⟩
  | .hbm, ⟨6, _⟩ => ⟨S384, .f32⟩
  | .hbm, ⟨7, _⟩ => ⟨S384x1536, .f32⟩
  | .hbm, ⟨8, _⟩ => ⟨S256, .f32⟩
  | .hbm, ⟨9, _⟩ => ⟨S256x2048, .f32⟩
  | .hbm, ⟨10, _⟩ => ⟨S_, .f32⟩
  | .hbm, ⟨11, _⟩ => ⟨S1024x64, .f32⟩
  | .hbm, ⟨12, _⟩ => ⟨S1024x768, .f32⟩
  | .hbm, ⟨13, _⟩ => ⟨S1024x768, .bf16⟩
  | .hbm, ⟨14, _⟩ => ⟨S256x8x256, .f32⟩
  | .hbm, ⟨15, _⟩ => ⟨S256x8x128, .f32⟩
  | .hbm, ⟨16, _⟩ => ⟨S256x1024, .f32⟩
  | .hbm, ⟨17, _⟩ => ⟨S256x1024, .bf16⟩
  | .hbm, ⟨18, _⟩ => ⟨S256x8x128, .f32⟩
  | .hbm, ⟨19, _⟩ => ⟨S256x1024, .f32⟩
  | .hbm, ⟨20, _⟩ => ⟨S1024x256, .f32⟩
  | .hbm, ⟨21, _⟩ => ⟨S1024x256, .bf16⟩
  | .hbm, ⟨22, _⟩ => ⟨S1x384, .f32⟩
  | .hbm, ⟨23, _⟩ => ⟨S1536x384, .f32⟩
  | .hbm, ⟨24, _⟩ => ⟨S1536x384, .bf16⟩
  | .hbm, ⟨25, _⟩ => ⟨S1x256, .f32⟩
  | .hbm, ⟨26, _⟩ => ⟨S32x16384, .f32⟩
  | .hbm, ⟨27, _⟩ => ⟨S32x16384, .f32⟩
  | .hbm, ⟨28, _⟩ => ⟨S8x192x16384, .bf16⟩
  | .hbm, ⟨29, _⟩ => ⟨S16384x2048, .bf16⟩
  | .hbm, ⟨30, _⟩ => ⟨S8x144x16384, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x768, .bf16⟩
  | .local _ .vmem, ⟨5, _⟩ => ⟨S1x384, .f32⟩
  | .local _ .vmem, ⟨6, _⟩ => ⟨S1536x384, .bf16⟩
  | .local _ .vmem, ⟨7, _⟩ => ⟨S1x256, .f32⟩
  | .local _ .vmem, ⟨8, _⟩ => ⟨S256x1024, .bf16⟩
  | .local _ .vmem, ⟨9, _⟩ => ⟨S1024x256, .bf16⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S8x192x1024, .bf16⟩
  | .local _ .vmem, ⟨15, _⟩ => ⟨S8x192x1024, .bf16⟩
  | .local _ .vmem, ⟨16, _⟩ => ⟨S1024x2048, .bf16⟩
  | .local _ .vmem, ⟨17, _⟩ => ⟨S1024x2048, .bf16⟩
  | .local _ .vmem, ⟨18, _⟩ => ⟨S8x144x1024, .bf16⟩
  | .local _ .vmem, ⟨19, _⟩ => ⟨S8x144x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x192x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x144x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S16384x1024 : Shape := ⟨2, ![16384, 1024]⟩
abbrev S1x1024 : Shape := ⟨2, ![1, 1024]⟩
abbrev S16384x32 : Shape := ⟨2, ![16384, 32]⟩
abbrev S1024x704 : Shape := ⟨2, ![1024, 704]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S_ : Shape := ⟨0, ![]⟩
abbrev S16384x704 : Shape := ⟨2, ![16384, 704]⟩
abbrev S16384x384 : Shape := ⟨2, ![16384, 384]⟩
abbrev S16384x256 : Shape := ⟨2, ![16384, 256]⟩
abbrev S16384x64 : Shape := ⟨2, ![16384, 64]⟩
abbrev S16384 : Shape := ⟨1, ![16384]⟩
abbrev S16384x1 : Shape := ⟨2, ![16384, 1]⟩
abbrev S1x384 : Shape := ⟨2, ![1, 384]⟩
abbrev S16384x1536 : Shape := ⟨2, ![16384, 1536]⟩
abbrev S16384x8x192 : Shape := ⟨3, ![16384, 8, 192]⟩
abbrev S16384x8x128 : Shape := ⟨3, ![16384, 8, 128]⟩
abbrev S16384x8x64 : Shape := ⟨3, ![16384, 8, 64]⟩
abbrev S16384x8x32 : Shape := ⟨3, ![16384, 8, 32]⟩
abbrev S16384x1x32 : Shape := ⟨3, ![16384, 1, 32]⟩
abbrev S16384x1x64 : Shape := ⟨3, ![16384, 1, 64]⟩
abbrev S1x256 : Shape := ⟨2, ![1, 256]⟩
abbrev S16384x2048 : Shape := ⟨2, ![16384, 2048]⟩
abbrev S16384x8x256 : Shape := ⟨3, ![16384, 8, 256]⟩
abbrev S16384x8x1 : Shape := ⟨3, ![16384, 8, 1]⟩
abbrev S16384x8x15 : Shape := ⟨3, ![16384, 8, 15]⟩
abbrev S16384x8x144 : Shape := ⟨3, ![16384, 8, 144]⟩
abbrev S8x192x16384 : Shape := ⟨3, ![8, 192, 16384]⟩
abbrev S8x144x16384 : Shape := ⟨3, ![8, 144, 16384]⟩

abbrev nBuf : Space → Nat
  | .hbm => 107
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x32, .f32⟩
  | .hbm, ⟨4, _⟩ => ⟨S16384x32, .f32⟩
  | .hbm, ⟨5, _⟩ => ⟨S1024x704, .f32⟩
  | .hbm, ⟨6, _⟩ => ⟨S384, .f32⟩
  | .hbm, ⟨7, _⟩ => ⟨S384x1536, .f32⟩
  | .hbm, ⟨8, _⟩ => ⟨S256, .f32⟩
  | .hbm, ⟨9, _⟩ => ⟨S256x2048, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x704, .f32⟩
  | .hbm, ⟨18, _⟩ => ⟨S16384x384, .f32⟩
  | .hbm, ⟨19, _⟩ => ⟨S16384x256, .f32⟩
  | .hbm, ⟨20, _⟩ => ⟨S16384x64, .f32⟩
  | .hbm, ⟨21, _⟩ => ⟨S16384x384, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x384, .f32⟩
  | .hbm, ⟨33, _⟩ => ⟨S16384x384, .f32⟩
  | .hbm, ⟨34, _⟩ => ⟨S1x384, .f32⟩
  | .hbm, ⟨35, _⟩ => ⟨S16384x384, .f32⟩
  | .hbm, ⟨36, _⟩ => ⟨S16384x384, .f32⟩
  | .hbm, ⟨37, _⟩ => ⟨S16384x1536, .f32⟩
  | .hbm, ⟨38, _⟩ => ⟨S_, .f32⟩
  | .hbm, ⟨39, _⟩ => ⟨S16384x1536, .f32⟩
  | .hbm, ⟨40, _⟩ => ⟨S16384x1536, .f32⟩
  | .hbm, ⟨41, _⟩ => ⟨S16384x8x192, .f32⟩
  | .hbm, ⟨42, _⟩ => ⟨S16384x8x128, .f32⟩
  | .hbm, ⟨43, _⟩ => ⟨S16384x8x64, .f32⟩
  | .hbm, ⟨44, _⟩ => ⟨S16384x8x32, .f32⟩
  | .hbm, ⟨45, _⟩ => ⟨S16384x8x32, .f32⟩
  | .hbm, ⟨46, _⟩ => ⟨S16384x1x32, .f32⟩
  | .hbm, ⟨47, _⟩ => ⟨S16384x1x32, .f32⟩
  | .hbm, ⟨48, _⟩ => ⟨S16384x8x32, .f32⟩
  | .hbm, ⟨49, _⟩ => ⟨S16384x8x32, .f32⟩
  | .hbm, ⟨50, _⟩ => ⟨S16384x8x32, .f32⟩
  | .hbm, ⟨51, _⟩ => ⟨S16384x8x32, .f32⟩
  | .hbm, ⟨52, _⟩ => ⟨S16384x8x32, .f32⟩
  | .hbm, ⟨53, _⟩ => ⟨S16384x8x32, .f32⟩
  | .hbm, ⟨54, _⟩ => ⟨S16384x8x32, .f32⟩
  | .hbm, ⟨55, _⟩ => ⟨S16384x8x32, .f32⟩
  | .hbm, ⟨56, _⟩ => ⟨S16384x8x32, .f32⟩
  | .hbm, ⟨57, _⟩ => ⟨S16384x8x32, .f32⟩
  | .hbm, ⟨58, _⟩ => ⟨S16384x8x64, .f32⟩
  | .hbm, ⟨59, _⟩ => ⟨S16384x8x192, .f32⟩
  | .hbm, ⟨60, _⟩ => ⟨S16384x1x64, .f32⟩
  | .hbm, ⟨61, _⟩ => ⟨S16384x1x32, .f32⟩
  | .hbm, ⟨62, _⟩ => ⟨S16384x1x32, .f32⟩
  | .hbm, ⟨63, _⟩ => ⟨S16384x1x32, .f32⟩
  | .hbm, ⟨64, _⟩ => ⟨S16384x1x32, .f32⟩
  | .hbm, ⟨65, _⟩ => ⟨S16384x1x32, .f32⟩
  | .hbm, ⟨66, _⟩ => ⟨S16384x1x32, .f32⟩
  | .hbm, ⟨67, _⟩ => ⟨S16384x1x32, .f32⟩
  | .hbm, ⟨68, _⟩ => ⟨S16384x1x32, .f32⟩
  | .hbm, ⟨69, _⟩ => ⟨S16384x1x32, .f32⟩
  | .hbm, ⟨70, _⟩ => ⟨S16384x1x32, .f32⟩
  | .hbm, ⟨71, _⟩ => ⟨S16384x1x64, .f32⟩
  | .hbm, ⟨72, _⟩ => ⟨S16384x8x64, .f32⟩
  | .hbm, ⟨73, _⟩ => ⟨S16384x256, .f32⟩
  | .hbm, ⟨74, _⟩ => ⟨S_, .f32⟩
  | .hbm, ⟨75, _⟩ => ⟨S16384, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1, .f32⟩
  | .hbm, ⟨84, _⟩ => ⟨S16384x256, .f32⟩
  | .hbm, ⟨85, _⟩ => ⟨S16384x256, .f32⟩
  | .hbm, ⟨86, _⟩ => ⟨S1x256, .f32⟩
  | .hbm, ⟨87, _⟩ => ⟨S16384x256, .f32⟩
  | .hbm, ⟨88, _⟩ => ⟨S16384x256, .f32⟩
  | .hbm, ⟨89, _⟩ => ⟨S16384x2048, .f32⟩
  | .hbm, ⟨90, _⟩ => ⟨S16384x8x256, .f32⟩
  | .hbm, ⟨91, _⟩ => ⟨S16384x8x128, .f32⟩
  | .hbm, ⟨92, _⟩ => ⟨S_, .f32⟩
  | .hbm, ⟨93, _⟩ => ⟨S16384x8x64, .f32⟩
  | .hbm, ⟨94, _⟩ => ⟨S16384x8x256, .f32⟩
  | .hbm, ⟨95, _⟩ => ⟨S16384x8x128, .f32⟩
  | .hbm, ⟨96, _⟩ => ⟨S_, .f32⟩
  | .hbm, ⟨97, _⟩ => ⟨S16384x8x1, .f32⟩
  | .hbm, ⟨98, _⟩ => ⟨S_, .f32⟩
  | .hbm, ⟨99, _⟩ => ⟨S16384x8x15, .f32⟩
  | .hbm, ⟨100, _⟩ => ⟨S16384x8x144, .f32⟩
  | .hbm, ⟨101, _⟩ => ⟨S8x192x16384, .f32⟩
  | .hbm, ⟨102, _⟩ => ⟨S8x192x16384, .bf16⟩
  | .hbm, ⟨103, _⟩ => ⟨S16384x2048, .f32⟩
  | .hbm, ⟨104, _⟩ => ⟨S16384x2048, .bf16⟩
  | .hbm, ⟨105, _⟩ => ⟨S8x144x16384, .f32⟩
  | .hbm, ⟨106, _⟩ => ⟨S8x144x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_cst_5 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_7 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_8 : Ref sig .tc := ⟨.hbm, 96, rfl⟩
abbrev main_v77 : Ref sig .tc := ⟨.hbm, 97, rfl⟩
abbrev main_cst_9 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩

abbrev nD : Nat := 1
abbrev τ : Topo := Topo.v7x

variable {F : FTy → Type} [FloatOps F]
-- ==== Kernel5.lean ====
abbrev S16384x1024 : Shape := ⟨2, ![16384, 1024]⟩
abbrev S1x1024 : Shape := ⟨2, ![1, 1024]⟩
abbrev S16384x8 : Shape := ⟨2, ![16384, 8]⟩
abbrev S1024x1536 : Shape := ⟨2, ![1024, 1536]⟩
abbrev S1536 : Shape := ⟨1, ![1536]⟩
abbrev S1024x1024 : Shape := ⟨2, ![1024, 1024]⟩
abbrev S1024x256 : Shape := ⟨2, ![1024, 256]⟩
abbrev S1024x4x64 : Shape := ⟨3, ![1024, 4, 64]⟩
abbrev S_ : Shape := ⟨0, ![]⟩
abbrev S1024x4x128 : Shape := ⟨3, ![1024, 4, 128]⟩
abbrev S1024x512 : Shape := ⟨2, ![1024, 512]⟩
abbrev S1024x1792 : Shape := ⟨2, ![1024, 1792]⟩
abbrev S1792x1024 : Shape := ⟨2, ![1792, 1024]⟩
abbrev S1024 : Shape := ⟨1, ![1024]⟩
abbrev S256 : Shape := ⟨1, ![256]⟩
abbrev S4x64 : Shape := ⟨2, ![4, 64]⟩
abbrev S4x128 : Shape := ⟨2, ![4, 128]⟩
abbrev S512 : Shape := ⟨1, ![512]⟩
abbrev S1792 : Shape := ⟨1, ![1792]⟩
abbrev S1792x1 : Shape := ⟨2, ![1792, 1]⟩
abbrev S8x16384 : Shape := ⟨2, ![8, 16384]⟩
abbrev S1024x16384 : Shape := ⟨2, ![1024, 16384]⟩
abbrev S16384x512 : Shape := ⟨2, ![16384, 512]⟩
abbrev S256x16384 : Shape := ⟨2, ![256, 16384]⟩
abbrev S8x1024 : Shape := ⟨2, ![8, 1024]⟩
abbrev S256x1024 : Shape := ⟨2, ![256, 1024]⟩
abbrev S64x1024 : Shape := ⟨2, ![64, 1024]⟩
abbrev S48x1024 : Shape := ⟨2, ![48, 1024]⟩
abbrev S128x1024 : Shape := ⟨2, ![128, 1024]⟩
abbrev S1024x128 : Shape := ⟨2, ![1024, 128]⟩

abbrev nBuf : Space → Nat
  | .hbm => 33
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x8, .f32⟩
  | .hbm, ⟨4, _⟩ => ⟨S16384x8, .f32⟩
  | .hbm, ⟨5, _⟩ => ⟨S1024x1536, .f32⟩
  | .hbm, ⟨6, _⟩ => ⟨S1536, .f32⟩
  | .hbm, ⟨7, _⟩ => ⟨S1024x1024, .f32⟩
  | .hbm, ⟨8, _⟩ => ⟨S1024x256, .f32⟩
  | .hbm, ⟨9, _⟩ => ⟨S1024x4x64, .f32⟩
  | .hbm, ⟨10, _⟩ => ⟨S_, .f32⟩
  | .hbm, ⟨11, _⟩ => ⟨S1024x4x64, .f32⟩
  | .hbm, ⟨12, _⟩ => ⟨S1024x4x128, .f32⟩
  | .hbm, ⟨13, _⟩ => ⟨S1024x512, .f32⟩
  | .hbm, ⟨14, _⟩ => ⟨S1024x256, .f32⟩
  | .hbm, ⟨15, _⟩ => ⟨S1024x1792, .f32⟩
  | .hbm, ⟨16, _⟩ => ⟨S1792x1024, .f32⟩
  | .hbm, ⟨17, _⟩ => ⟨S1792x1024, .bf16⟩
  | .hbm, ⟨18, _⟩ => ⟨S1024, .f32⟩
  | .hbm, ⟨19, _⟩ => ⟨S256, .f32⟩
  | .hbm, ⟨20, _⟩ => ⟨S4x64, .f32⟩
  | .hbm, ⟨21, _⟩ => ⟨S_, .f32⟩
  | .hbm, ⟨22, _⟩ => ⟨S4x64, .f32⟩
  | .hbm, ⟨23, _⟩ => ⟨S4x128, .f32⟩
  | .hbm, ⟨24, _⟩ => ⟨S512, .f32⟩
  | .hbm, ⟨25, _⟩ => ⟨S256, .f32⟩
  | .hbm, ⟨26, _⟩ => ⟨S1792, .f32⟩
  | .hbm, ⟨27, _⟩ => ⟨S1792x1, .f32⟩
  | .hbm, ⟨28, _⟩ => ⟨S8x16384, .f32⟩
  | .hbm, ⟨29, _⟩ => ⟨S8x16384, .f32⟩
  | .hbm, ⟨30, _⟩ => ⟨S1024x16384, .bf16⟩
  | .hbm, ⟨31, _⟩ => ⟨S16384x512, .bf16⟩
  | .hbm, ⟨32, _⟩ => ⟨S256x16384, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1792x1024, .bf16⟩
  | .local _ .vmem, ⟨5, _⟩ => ⟨S1792x1, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S256x1024, .bf16⟩
  | .local _ .vmem, ⟨15, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x1024 : Shape := ⟨2, ![16384, 1024]⟩
abbrev S1x1024 : Shape := ⟨2, ![1, 1024]⟩
abbrev S16384x8 : Shape := ⟨2, ![16384, 8]⟩
abbrev S1024x1536 : Shape := ⟨2, ![1024, 1536]⟩
abbrev S1536 : Shape := ⟨1, ![1536]⟩
abbrev S_ : Shape := ⟨0, ![]⟩
abbrev S16384x1536 : Shape := ⟨2, ![16384, 1536]⟩
abbrev S1x1536 : Shape := ⟨2, ![1, 1536]⟩
abbrev S16384x16x64 : Shape := ⟨3, ![16384, 16, 64]⟩
abbrev S16384x256 : Shape := ⟨2, ![16384, 256]⟩
abbrev S16384x4x64 : Shape := ⟨3, ![16384, 4, 64]⟩
abbrev S16384x16x16 : Shape := ⟨3, ![16384, 16, 16]⟩
abbrev S16384x16x8 : Shape := ⟨3, ![16384, 16, 8]⟩
abbrev S16384x1x8 : Shape := ⟨3, ![16384, 1, 8]⟩
abbrev S16384x16x48 : Shape := ⟨3, ![16384, 16, 48]⟩
abbrev S16384x4x16 : Shape := ⟨3, ![16384, 4, 16]⟩
abbrev S16384x4x8 : Shape := ⟨3, ![16384, 4, 8]⟩
abbrev S16384x4x48 : Shape := ⟨3, ![16384, 4, 48]⟩
abbrev S16384x4x128 : Shape := ⟨3, ![16384, 4, 128]⟩
abbrev S1024x16384 : Shape := ⟨2, ![1024, 16384]⟩
abbrev S16384x512 : Shape := ⟨2, ![16384, 512]⟩
abbrev S256x16384 : Shape := ⟨2, ![256, 16384]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S16384x8, .f32⟩
  | .hbm, ⟨4, _⟩ => ⟨S16384x8, .f32⟩
  | .hbm, ⟨5, _⟩ => ⟨S1024x1536, .f32⟩
  | .hbm, ⟨6, _⟩ => ⟨S1536, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1536, .f32⟩
  | .hbm, ⟨15, _⟩ => ⟨S1x1536, .f32⟩
  | .hbm, ⟨16, _⟩ => ⟨S16384x1536, .f32⟩
  | .hbm, ⟨17, _⟩ => ⟨S16384x1536, .f32⟩
  | .hbm, ⟨18, _⟩ => ⟨S16384x1024, .f32⟩
  | .hbm, ⟨19, _⟩ => ⟨S16384x16x64, .f32⟩
  | .hbm, ⟨20, _⟩ => ⟨S16384x256, .f32⟩
  | .hbm, ⟨21, _⟩ => ⟨S16384x4x64, .f32⟩
  | .hbm, ⟨22, _⟩ => ⟨S16384x256, .f32⟩
  | .hbm, ⟨23, _⟩ => ⟨S16384x16x16, .f32⟩
  | .hbm, ⟨24, _⟩ => ⟨S16384x16x8, .f32⟩
  | .hbm, ⟨25, _⟩ => ⟨S16384x16x8, .f32⟩
  | .hbm, ⟨26, _⟩ => ⟨S16384x1x8, .f32⟩
  | .hbm, ⟨27, _⟩ => ⟨S16384x1x8, .f32⟩
  | .hbm, ⟨28, _⟩ => ⟨S16384x16x8, .f32⟩
  | .hbm, ⟨29, _⟩ => ⟨S16384x16x8, .f32⟩
  | .hbm, ⟨30, _⟩ => ⟨S16384x16x8, .f32⟩
  | .hbm, ⟨31, _⟩ => ⟨S16384x16x8, .f32⟩
  | .hbm, ⟨32, _⟩ => ⟨S16384x16x8, .f32⟩
  | .hbm, ⟨33, _⟩ => ⟨S16384x16x8, .f32⟩
  | .hbm, ⟨34, _⟩ => ⟨S16384x16x8, .f32⟩
  | .hbm, ⟨35, _⟩ => ⟨S16384x16x8, .f32⟩
  | .hbm, ⟨36, _⟩ => ⟨S16384x16x8, .f32⟩
  | .hbm, ⟨37, _⟩ => ⟨S16384x16x8, .f32⟩
  | .hbm, ⟨38, _⟩ => ⟨S16384x16x16, .f32⟩
  | .hbm, ⟨39, _⟩ => ⟨S16384x16x48, .f32⟩
  | .hbm, ⟨40, _⟩ => ⟨S16384x16x64, .f32⟩
  | .hbm, ⟨41, _⟩ => ⟨S_, .f32⟩
  | .hbm, ⟨42, _⟩ => ⟨S16384x16x64, .f32⟩
  | .hbm, ⟨43, _⟩ => ⟨S16384x16x64, .f32⟩
  | .hbm, ⟨44, _⟩ => ⟨S16384x4x16, .f32⟩
  | .hbm, ⟨45, _⟩ => ⟨S16384x4x8, .f32⟩
  | .hbm, ⟨46, _⟩ => ⟨S16384x4x8, .f32⟩
  | .hbm, ⟨47, _⟩ => ⟨S16384x1x8, .f32⟩
  | .hbm, ⟨48, _⟩ => ⟨S16384x1x8, .f32⟩
  | .hbm, ⟨49, _⟩ => ⟨S16384x4x8, .f32⟩
  | .hbm, ⟨50, _⟩ => ⟨S16384x4x8, .f32⟩
  | .hbm, ⟨51, _⟩ => ⟨S16384x4x8, .f32⟩
  | .hbm, ⟨52, _⟩ => ⟨S16384x4x8, .f32⟩
  | .hbm, ⟨53, _⟩ => ⟨S16384x4x8, .f32⟩
  | .hbm, ⟨54, _⟩ => ⟨S16384x4x8, .f32⟩
  | .hbm, ⟨55, _⟩ => ⟨S16384x4x8, .f32⟩
  | .hbm, ⟨56, _⟩ => ⟨S16384x4x8, .f32⟩
  | .hbm, ⟨57, _⟩ => ⟨S16384x4x8, .f32⟩
  | .hbm, ⟨58, _⟩ => ⟨S16384x4x8, .f32⟩
  | .hbm, ⟨59, _⟩ => ⟨S16384x4x16, .f32⟩
  | .hbm, ⟨60, _⟩ => ⟨S16384x4x48, .f32⟩
  | .hbm, ⟨61, _⟩ => ⟨S_, .f32⟩
  | .hbm, ⟨62, _⟩ => ⟨S16384x4x64, .f32⟩
  | .hbm, ⟨63, _⟩ => ⟨S16384x4x128, .f32⟩
  | .hbm, ⟨64, _⟩ => ⟨S16384x1024, .f32⟩
  | .hbm, ⟨65, _⟩ => ⟨S1024x16384, .f32⟩
  | .hbm, ⟨66, _⟩ => ⟨S1024x16384, .bf16⟩
  | .hbm, ⟨67, _⟩ => ⟨S16384x512, .f32⟩
  | .hbm, ⟨68, _⟩ => ⟨S16384x512, .bf16⟩
  | .hbm, ⟨69, _⟩ => ⟨S256x16384, .f32⟩
  | .hbm, ⟨70, _⟩ => ⟨S256x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_1 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩

abbrev nD : Nat := 1
abbrev τ : Topo := Topo.v7x

variable {F : FTy → Type} [FloatOps F]
-- ==== Kernel6.lean ====
abbrev S1x1024 : Shape := ⟨2, ![1, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S1x1024x1024 : Shape := ⟨3, ![1, 1024, 1024]⟩
abbrev S1x1x1024 : Shape := ⟨3, ![1, 1, 1024]⟩
abbrev S8x1024 : Shape := ⟨2, ![8, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x1x6144, .f32⟩
  | .local _ .vmem, ⟨0, _⟩ => ⟨S1x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1x1024 : Shape := ⟨2, ![1, 1024]⟩
abbrev S4x1024x6144 : Shape := ⟨3, ![4, 1024, 6144]⟩
abbrev S4x6144 : Shape := ⟨2, ![4, 6144]⟩
abbrev S_ : Shape := ⟨0, ![]⟩
abbrev S4x6144x1 : Shape := ⟨3, ![4, 6144, 1]⟩
abbrev S4x1x6144 : Shape := ⟨3, ![4, 1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S4x1024x6144, .f32⟩
  | .hbm, ⟨2, _⟩ => ⟨S4x6144, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x6144x1, .f32⟩
  | .hbm, ⟨13, _⟩ => ⟨S4x1x6144, .f32⟩
  | .hbm, ⟨14, _⟩ => ⟨S4x1x6144, .f32⟩
  | .hbm, ⟨15, _⟩ => ⟨S4x1x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel7.lean ====
abbrev S16 : Shape := ⟨1, ![16]⟩
abbrev S1024x16384 : Shape := ⟨2, ![1024, 16384]⟩
abbrev S16384x512 : Shape := ⟨2, ![16384, 512]⟩
abbrev S256x16384 : Shape := ⟨2, ![256, 16384]⟩
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S128x512 : Shape := ⟨2, ![128, 512]⟩
abbrev S1024x512 : Shape := ⟨2, ![1024, 512]⟩
abbrev S256x128 : Shape := ⟨2, ![256, 128]⟩
abbrev S256x1024 : Shape := ⟨2, ![256, 1024]⟩
abbrev S1152x512 : Shape := ⟨2, ![1152, 512]⟩
abbrev S256x1152 : Shape := ⟨2, ![256, 1152]⟩
abbrev S256x512 : Shape := ⟨2, ![256, 512]⟩
abbrev S256x64 : Shape := ⟨2, ![256, 64]⟩
abbrev S64x128 : Shape := ⟨2, ![64, 128]⟩
abbrev S64x512 : Shape := ⟨2, ![64, 512]⟩
abbrev S1 : Shape := ⟨1, ![1]⟩
abbrev S1x128 : Shape := ⟨2, ![1, 128]⟩
abbrev S1x512 : Shape := ⟨2, ![1, 512]⟩
abbrev S512 : Shape := ⟨1, ![512]⟩
abbrev S64x256 : Shape := ⟨2, ![64, 256]⟩
abbrev S1024x1 : Shape := ⟨2, ![1024, 1]⟩

abbrev nBuf : Space → Nat
  | .hbm => 15
  | .vmem => 26
  | .smem => 1
  | _ => 0

abbrev bufTy : (tb : Table) → Fin (tcTables nBuf tb) → BufTy
  | .hbm, ⟨0, _⟩ => ⟨S16, .f32⟩
  | .hbm, ⟨1, _⟩ => ⟨S1024x16384, .bf16⟩
  | .hbm, ⟨2, _⟩ => ⟨S16384x512, .bf16⟩
  | .hbm, ⟨3, _⟩ => ⟨S256x16384, .bf16⟩
  | .hbm, ⟨4, _⟩ => ⟨S16384x1024, .f32⟩
  | .hbm, ⟨5, _⟩ => ⟨S1x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S128x512, .bf16⟩
  | .local _ .vmem, ⟨3, _⟩ => ⟨S128x512, .bf16⟩
  | .local _ .vmem, ⟨4, _⟩ => ⟨S1024x512, .bf16⟩
  | .local _ .vmem, ⟨5, _⟩ => ⟨S1024x512, .bf16⟩
  | .local _ .vmem, ⟨6, _⟩ => ⟨S256x128, .bf16⟩
  | .local _ .vmem, ⟨7, _⟩ => ⟨S256x128, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1152x512, .bf16⟩
  | .local _ .vmem, ⟨20, _⟩ => ⟨S256x1152, .bf16⟩
  | .local _ .vmem, ⟨21, _⟩ => ⟨S1024x1024, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Proof.Norm.lean ====
/-
  The attention kernel's two loops, read as one step repeated: a step of the walk over the tiles below the
  diagonal (`flatStep`), and a step of the walk along the diagonal (`diagStep`). Each is written once, and each
  loop's body is its step some number of times, the two score buffers changing places from one to the next.
-/
module

public import proofs.«01_k».proof.KernelIdeal
public import Idealize.ShloMosaic.Lib.Pipeline.Regions

@[expose] public section

set_option maxRecDepth 16384

noncomputable section

namespace Cert.KernelIdeal.Att

open Idealize.ShloMosaic Idealize.SL.Sem
open Cert.KernelIdeal

variable {F : FTy → Type} [FloatOps F] [Facts]
open Facts₀ Facts

/-- The tile after `(q, j)` on the walk: its row. -/
def nextQ (q j : BitVec 32) : BitVec 32 := Scalar.select (Scalar.cmpi .eq (Scalar.addi j 1#32) q) (Scalar.addi q 1#32) q
/-- The tile after `(q, j)` on the walk: its column. -/
def nextJ (q j : BitVec 32) : BitVec 32 := Scalar.select (Scalar.cmpi .eq (Scalar.addi j 1#32) q) 0#32 (Scalar.addi j 1#32)

/-- Where the keys of column `j` begin. -/
def offK (j : BitVec 32) : Fin 2 → Nat := ![(Scalar.indexCast (Scalar.muli j 512#32)).toNat, 0]
/-- Where the queries of row `q` begin. -/
def offQ (q : BitVec 32) : Fin 3 → Nat := ![0, 0, (Scalar.indexCast (Scalar.muli q 512#32)).toNat]
/-- Where row `q` of a carried array begins. -/
def offR (q : BitVec 32) : Fin 3 → Nat := ![(Scalar.indexCast q).toNat, 0, 0]

/-- Every access of the step at `(q, j)` is inside its buffer. -/
structure StepOK (q j : BitVec 32) : Prop where
  keys : ∀ a, offK (nextJ q j) a + S512x192.size a ≤ S16384x256.size a
  qs : ∀ a, offQ (Scalar.minsi (nextQ q j) 31#32) a + S1x192x512.size a ≤ S1x192x16384.size a
  mx : ∀ a, offR q a + S1x1x512.size a ≤ S32x1x512.size a
  acc : ∀ a, offR q a + S1x144x512.size a ≤ S32x144x512.size a
  vals : ∀ a, offQ j a + S1x144x512.size a ≤ S1x144x16384.size a

/-- The next `n` steps' accesses are inside their buffers. -/
def FlatOK (n : ℕ) : BitVec 32 → BitVec 32 → Prop :=
  Nat.rec (fun _ _ => True) (fun _ ih q j => StepOK q j ∧ ih (nextQ q j) (nextJ q j)) n

/-- A tile of scores, keys by queries. -/
def scores (kt : Vec F S512x192 .bf16) (qt : Vec F S1x192x512 .bf16) : FVec F S512x512 .f32 :=
  matmul dot_S512x192_S192x512_S512x512_1_0_0_1_n_n none (shapeCast S512x192 kt shapeCasts_S512x192_S512x192 : FVec F S512x192 .bf16)
    (shapeCast S192x512 qt shapeCasts_S1x192x512_S192x512 : FVec F S192x512 .bf16) (constant S512x512 .f32 0x00000000#32 : FVec F S512x512 .f32)

/-- A tile's maxima over every eighth key. -/
def max8 (st : FVec F S512x512 .f32) : FVec F S8x512 .f32 :=
  multiReduction .maximumf [0] S8x512 (shapeCast S64x8x512 st shapeCasts_S512x512_S64x8x512 : FVec F S64x8x512 .f32) 0xFF800000#32 reduces_S64x8x512_S8x512 (.inl rfl) rfl

/-- A tile's maximum per query, from the maxima over every eighth key. -/
def maxOf8 (mb : Vec F S8x512 .f32) : FVec F S1x512 .f32 :=
  shapeCast S1x512 (multiReduction .maximumf [0] S512 mb 0xFF800000#32 reduces_S8x512_S512 (.inl rfl) rfl : FVec F S512 .f32) shapeCasts_S512_S1x512

/-- The carried maximum of a row, as one line. -/
def rowM (m : Vec F S1x1x512 .f32) : FVec F S1x512 .f32 := shapeCast S1x512 m shapeCasts_S1x1x512_S1x512

/-- A tile's weights, relative to the maximum `mn`. -/
def weights (st : Vec F S512x512 .f32) (mn : FVec F S1x512 .f32) : FVec F S512x512 .bf16 :=
  truncf .bf16 (exp2 (subf st (broadcastTo S512x512 mn broadcasts_S1x512_S512x512))) bitsLt_bf16_f32

/-- The carried sums rescaled to the new maximum, with the tile's added. -/
def accNew (mp mn : FVec F S1x512 .f32) (acc : Vec F S1x144x512 .f32) (vt : Vec F S1x144x512 .bf16) (p : FVec F S512x512 .bf16) : FVec F S144x512 .f32 :=
  addf (mulf (broadcastTo S144x512 (exp2 (subf mp mn)) broadcasts_S1x512_S144x512) (shapeCast S144x512 acc shapeCasts_S1x144x512_S144x512 : FVec F S144x512 .f32))
    (matmul dot_S144x512_S512x512_S144x512_1_0_0_1_n_n none (shapeCast S144x512 vt shapeCasts_S1x144x512_S144x512 : FVec F S144x512 .bf16) p (constant S144x512 .f32 0x00000000#32 : FVec F S144x512 .f32))

/-- The program of one step of the walk below the diagonal: the next tile's scores and maxima, then this tile's update. -/
def flatStep (arg1 : Memref sig .tc .vmem S1x192x16384 .bf16) (arg2 : Memref sig .tc .vmem S16384x256 .bf16) (arg3 : Memref sig .tc .vmem S1x144x16384 .bf16)
    (sc sn : Memref sig .tc .vmem S512x512 .f32) (mc mn : Memref sig .tc .vmem S8x512 .f32)
    (arg9 : Memref sig .tc .vmem S32x1x512 .f32) (arg10 : Memref sig .tc .vmem S32x144x512 .f32) {α : Type}
    (q j : BitVec 32) (h : StepOK q j) (rest : Prog (TpuEff nD τ sig (Elt F) Λ₀ .tc) α) : Prog (TpuEff nD τ sig (Elt F) Λ₀ .tc) α :=
  .op (.load arg2 (Rect.unit (s := S16384x256) (offK (nextJ q j)) S512x192.size h.keys).toLoadRect (View.loadsAt_vmem h_S512x192)) fun kt =>
  .op (.load arg1 (Rect.unit (s := S1x192x16384) (offQ (Scalar.minsi (nextQ q j) 31#32)) S1x192x512.size h.qs).toLoadRect (View.loadsAt_vmem h_S1x192x512)) fun qt =>
  .op (.load sn (Rect.unit (s := S512x512) ![0, 0] S512x512.size inb_S512x512_S512x512_0_0).toLoadRect (View.loadsAt_vmem h_S512x512)) fun _ =>
  .op (.store sn (Rect.unit (s := S512x512) ![0, 0] S512x512.size inb_S512x512_S512x512_0_0) (shapeCast S512x512 (scores kt qt) shapeCasts_S512x512_S512x512) Finset.univ (View.stores_vmem_bits_univ h_S512x512 rfl) (.inl rfl)) fun _ =>
  .op (.load mn (Rect.unit (s := S8x512) ![0, 0] S8x512.size inb_S8x512_S8x512_0_0).toLoadRect (View.loadsAt_vmem h_S8x512)) fun _ =>
  .op (.store mn (Rect.unit (s := S8x512) ![0, 0] S8x512.size inb_S8x512_S8x512_0_0) (shapeCast S8x512 (max8 (scores kt qt)) shapeCasts_S8x512_S8x512) Finset.univ (View.stores_vmem_bits_univ h_S8x512 rfl) (.inl rfl)) fun _ =>
  .op (.load sc (Rect.unit (s := S512x512) ![0, 0] S512x512.size inb_S512x512_S512x512_0_0).toLoadRect (View.loadsAt_vmem h_S512x512)) fun st =>
  .op (.load arg9 (Rect.unit (s := S32x1x512) (offR q) S1x1x512.size h.mx).toLoadRect (View.loadsAt_vmem h_S1x1x512)) fun m =>
  .op (.load mc (Rect.unit (s := S8x512) ![0, 0] S8x512.size inb_S8x512_S8x512_0_0).toLoadRect (View.loadsAt_vmem h_S8x512)) fun mb =>
  .op (.load arg10 (Rect.unit (s := S32x144x512) (offR q) S1x144x512.size h.acc).toLoadRect (View.loadsAt_vmem h_S1x144x512)) fun acc =>
  .op (.load arg3 (Rect.unit (s := S1x144x16384) (offQ j) S1x144x512.size h.vals).toLoadRect (View.loadsAt_vmem h_S1x144x512)) fun vt =>
  .op (.load arg9 (Rect.unit (s := S32x1x512) (offR q) S1x1x512.size h.mx).toLoadRect (View.loadsAt_vmem h_S1x1x512)) fun _ =>
  .op (.store arg9 (Rect.unit (s := S32x1x512) (offR q) S1x1x512.size h.mx)
    (shapeCast S1x1x512 (maximumf (rowM m) (maxOf8 mb)) shapeCasts_S1x512_S1x1x512) Finset.univ (View.stores_vmem_bits_univ h_S1x1x512 rfl) (.inl rfl)) fun _ =>
  .op (.load arg10 (Rect.unit (s := S32x144x512) (offR q) S1x144x512.size h.acc).toLoadRect (View.loadsAt_vmem h_S1x144x512)) fun _ =>
  .op (.store arg10 (Rect.unit (s := S32x144x512) (offR q) S1x144x512.size h.acc)
    (shapeCast S1x144x512 (accNew (rowM m) (maximumf (rowM m) (maxOf8 mb)) acc vt (weights st (maximumf (rowM m) (maxOf8 mb)))) shapeCasts_S144x512_S1x144x512)
    Finset.univ (View.stores_vmem_bits_univ h_S1x144x512 rfl) (.inl rfl)) fun _ => rest

/-- `n` steps of the walk below the diagonal, the score buffers changing places; it ends with the tile reached. -/
def flatChain (arg1 : Memref sig .tc .vmem S1x192x16384 .bf16) (arg2 : Memref sig .tc .vmem S16384x256 .bf16) (arg3 : Memref sig .tc .vmem S1x144x16384 .bf16)
    (arg9 : Memref sig .tc .vmem S32x1x512 .f32) (arg10 : Memref sig .tc .vmem S32x144x512 .f32) (n : ℕ) :
    (sc sn : Memref sig .tc .vmem S512x512 .f32) → (mc mn : Memref sig .tc .vmem S8x512 .f32) → (q j : BitVec 32) → FlatOK n q j →
      Prog (TpuEff nD τ sig (Elt F) Λ₀ .tc) (BitVec 32 × BitVec 32) :=
  Nat.rec (fun _ _ _ _ q j _ => .ret (q, j))
    (fun _ ih sc sn mc mn q j h => flatStep arg1 arg2 arg3 sc sn mc mn arg9 arg10 q j h.1 (ih sn sc mn mc (nextQ q j) (nextJ q j) h.2)) n

/-- The scores of a diagonal tile with the keys after the query left out. -/
def masked (st : Vec F S512x512 .f32) : Vec F S512x512 .f32 :=
  select (cmpi .sle (iota .tc S512x512 32 [0] iota_S512x512_d0_w32 : IVec S512x512 32) (iota .tc S512x512 32 [1] iota_S512x512_d1_w32 : IVec S512x512 32) : IVec S512x512 1) st
    (broadcast S512x512 (Scalar.ofBits .f32 0xFF800000#32 : F .f32) : FVec F S512x512 .f32)

/-- A whole tile's maximum per query. -/
def maxAll (st : Vec F S512x512 .f32) : FVec F S1x512 .f32 :=
  shapeCast S1x512 (multiReduction .maximumf [0] S512 st 0xFF800000#32 reduces_S512x512_S512 (.inl rfl) rfl : FVec F S512 .f32) shapeCasts_S512_S1x512

/-- A row's result: the sums over the weights' own sum, queries first. -/
def outOf (a : FVec F S144x512 .f32) : FVec F S512x128 .bf16 :=
  truncf .bf16 (transpose S512x128 [1, 0]
    (divf (extractStridedSlice S128x512 ![0, 0] a slices_S144x512_o0_0_S128x512 : FVec F S128x512 .f32)
      (broadcastTo S128x512 (extractStridedSlice S1x512 ![128, 0] a slices_S144x512_o128_0_S1x512 : FVec F S1x512 .f32) broadcasts_S1x512_S128x512))
    transposes_S128x512_p1_0_S512x128) bitsLt_bf16_f32

/-- The program of one step along the diagonal, at trip `t` and place `u` in it. -/
def diagStep (arg1 : Memref sig .tc .vmem S1x192x16384 .bf16) (arg2 : Memref sig .tc .vmem S16384x256 .bf16) (arg3 : Memref sig .tc .vmem S1x144x16384 .bf16)
    (arg4 : Memref sig .tc .vmem S16384x128 .bf16) (harg4 : arg4.IsWhole) (sc sn : Memref sig .tc .vmem S512x512 .f32)
    (arg9 : Memref sig .tc .vmem S32x1x512 .f32) (arg10 : Memref sig .tc .vmem S32x144x512 .f32) {α : Type}
    (t : Fin k0_t2_loop.trips) (u : Fin 8) (rest : Prog (TpuEff nD τ sig (Elt F) Λ₀ .tc) α) : Prog (TpuEff nD τ sig (Elt F) Λ₀ .tc) α :=
  .op (.load arg2 (Rect.unit (s := S16384x256) (k0_off311 t (BitVec.ofNat 32 u.val)) S512x192.size (k0_off311_inb t u)).toLoadRect (View.loadsAt_vmem h_S512x192)) fun kt =>
  .op (.load arg1 (Rect.unit (s := S1x192x16384) (k0_off312 t (BitVec.ofNat 32 u.val)) S1x192x512.size (k0_off312_inb t u)).toLoadRect (View.loadsAt_vmem h_S1x192x512)) fun qt =>
  .op (.load sn (Rect.unit (s := S512x512) ![0, 0] S512x512.size inb_S512x512_S512x512_0_0).toLoadRect (View.loadsAt_vmem h_S512x512)) fun _ =>
  .op (.store sn (Rect.unit (s := S512x512) ![0, 0] S512x512.size inb_S512x512_S512x512_0_0) (shapeCast S512x512 (scores kt qt) shapeCasts_S512x512_S512x512) Finset.univ (View.stores_vmem_bits_univ h_S512x512 rfl) (.inl rfl)) fun _ =>
  .op (.load sc (Rect.unit (s := S512x512) ![0, 0] S512x512.size inb_S512x512_S512x512_0_0).toLoadRect (View.loadsAt_vmem h_S512x512)) fun st =>
  .op (.load arg9 (Rect.unit (s := S32x1x512) (k0_off313 t (BitVec.ofNat 32 u.val)) S1x1x512.size (k0_off313_inb t u)).toLoadRect (View.loadsAt_vmem h_S1x1x512)) fun m =>
  .op (.load arg10 (Rect.unit (s := S32x144x512) (k0_off314 t (BitVec.ofNat 32 u.val)) S1x144x512.size (k0_off314_inb t u)).toLoadRect (View.loadsAt_vmem h_S1x144x512)) fun acc =>
  .op (.load arg3 (Rect.unit (s := S1x144x16384) (k0_off315 t (BitVec.ofNat 32 u.val)) S1x144x512.size (k0_off315_inb t u)).toLoadRect (View.loadsAt_vmem h_S1x144x512)) fun vt =>
  .op (.load arg4 (Rect.unit (s := S16384x128) (k0_off316 t (BitVec.ofNat 32 u.val)) S512x128.size (k0_off316_inb t u)).toLoadRect (View.loadsAt_vmem h_S512x128)) fun _ =>
  .op (.store arg4 (Rect.unit (s := S16384x128) (k0_off316 t (BitVec.ofNat 32 u.val)) S512x128.size (k0_off316_inb t u))
    (outOf (accNew (rowM m) (maximumf (rowM m) (maxAll (masked st))) acc vt (weights (masked st) (maximumf (rowM m) (maxAll (masked st))))))
    Finset.univ (View.stores_vmem h_S512x128 (harg4.storeExact_slice rfl _ (k0_off316_packedbf16 t u)) (fun _ => rfl)) (.inl rfl)) fun _ => rest

/-- One trip along the diagonal: eight steps. -/
def diagBody (arg1 : Memref sig .tc .vmem S1x192x16384 .bf16) (arg2 : Memref sig .tc .vmem S16384x256 .bf16) (arg3 : Memref sig .tc .vmem S1x144x16384 .bf16)
    (arg4 : Memref sig .tc .vmem S16384x128 .bf16) (harg4 : arg4.IsWhole) (arg5 arg6 : Memref sig .tc .vmem S512x512 .f32)
    (arg9 : Memref sig .tc .vmem S32x1x512 .f32) (arg10 : Memref sig .tc .vmem S32x144x512 .f32)
    (t : Fin k0_t2_loop.trips) : Prog (TpuEff nD τ sig (Elt F) Λ₀ .tc) PUnit :=
  diagStep arg1 arg2 arg3 arg4 harg4 arg5 arg6 arg9 arg10 t 0 <| diagStep arg1 arg2 arg3 arg4 harg4 arg6 arg5 arg9 arg10 t 1 <|
  diagStep arg1 arg2 arg3 arg4 harg4 arg5 arg6 arg9 arg10 t 2 <| diagStep arg1 arg2 arg3 arg4 harg4 arg6 arg5 arg9 arg10 t 3 <|
  diagStep arg1 arg2 arg3 arg4 harg4 arg5 arg6 arg9 arg10 t 4 <| diagStep arg1 arg2 arg3 arg4 harg4 arg6 arg5 arg9 arg10 t 5 <|
  diagStep arg1 arg2 arg3 arg4 harg4 arg5 arg6 arg9 arg10 t 6 <| diagStep arg1 arg2 arg3 arg4 harg4 arg6 arg5 arg9 arg10 t 7 <| .ret ⟨⟩

end Cert.KernelIdeal.Att

end
-- ==== Proof.Model.lean ====
/-
  What the attention kernel's steps compute, as functions of the buffers' contents: the walk over the tiles below the
  diagonal (`fstep`, `fstate`), and the walk along the diagonal (`dstep`, `dstate`).
-/
module

public import proofs.«01_k».proof.Proof.Norm
public import proofs.«01_k».proof.Proof.Gen.KernelIdeal
public import Idealize.ShloMosaic.Lib.VecWindow

@[expose] public section

set_option maxRecDepth 16384

noncomputable section

namespace Cert.KernelIdeal.Att

open Idealize.ShloMosaic Idealize.SL.Sem
open Cert.KernelIdeal
open Facts₀ Facts

variable {F : FTy → Type} [FloatOps F]

/-- The tile after `p` on the walk below the diagonal, row by row. -/
def next (p : ℕ × ℕ) : ℕ × ℕ := if p.2 + 1 = p.1 then (p.1 + 1, 0) else (p.1, p.2 + 1)
/-- The `u`-th tile of the walk. -/
def walk (u : ℕ) : ℕ × ℕ := Nat.rec (1, 0) (fun _ p => next p) u

/-- The tile after the next step. -/
theorem walk_succ (u : ℕ) : walk (u + 1) = next (walk u) := rfl

/-- A tile of keys lies in the head's keys. -/
theorem inbK (b : ℕ) : ∀ a, (![512 * min b 31, 0] : Fin 2 → ℕ) a + S512x192.size a ≤ S16384x256.size a :=
  Fin.forall_fin_two.2 ⟨by show 512 * min b 31 + 512 ≤ 16384; omega, by show 0 + 192 ≤ 256; omega⟩
/-- A tile of queries lies in the head's queries. -/
theorem inbQ (a : ℕ) : ∀ x, (![0, 0, 512 * min a 31] : Fin 3 → ℕ) x + S1x192x512.size x ≤ S1x192x16384.size x :=
  fun x => match x with | 0 => Nat.le_refl 1 | 1 => Nat.le_refl 192 | 2 => by show 512 * min a 31 + 512 ≤ 16384; omega
/-- A tile of values lies in the head's values. -/
theorem inbV (b : ℕ) : ∀ x, (![0, 0, 512 * min b 31] : Fin 3 → ℕ) x + S1x144x512.size x ≤ S1x144x16384.size x :=
  fun x => match x with | 0 => Nat.le_refl 1 | 1 => Nat.le_refl 144 | 2 => by show 512 * min b 31 + 512 ≤ 16384; omega
/-- A row of maxima lies in the scratch of maxima. -/
theorem inbM (a : ℕ) : ∀ x, (![min a 31, 0, 0] : Fin 3 → ℕ) x + S1x1x512.size x ≤ S32x1x512.size x :=
  fun x => match x with | 0 => by show min a 31 + 1 ≤ 32; omega | 1 => Nat.le_refl 1 | 2 => Nat.le_refl 512
/-- A row of sums lies in the scratch of sums. -/
theorem inbA (a : ℕ) : ∀ x, (![min a 31, 0, 0] : Fin 3 → ℕ) x + S1x144x512.size x ≤ S32x144x512.size x :=
  fun x => match x with | 0 => by show min a 31 + 1 ≤ 32; omega | 1 => Nat.le_refl 144 | 2 => Nat.le_refl 512
/-- A tile of results lies in the head's results. -/
theorem inbO (a : ℕ) : ∀ x, (![512 * min a 31, 0] : Fin 2 → ℕ) x + S512x128.size x ≤ S16384x128.size x :=
  Fin.forall_fin_two.2 ⟨by show 512 * min a 31 + 512 ≤ 16384; omega, Nat.le_refl 128⟩

/-- The keys of column `b`. -/
def keyT (K : Vec F S16384x256 .bf16) (b : ℕ) : Vec F S512x192 .bf16 := VecWindow.window K ![512 * min b 31, 0] S512x192.size (inbK b)
/-- The queries of row `a`. -/
def qryT (Q : Vec F S1x192x16384 .bf16) (a : ℕ) : Vec F S1x192x512 .bf16 := VecWindow.window Q ![0, 0, 512 * min a 31] S1x192x512.size (inbQ a)
/-- The values of column `b`. -/
def valT (V : Vec F S1x144x16384 .bf16) (b : ℕ) : Vec F S1x144x512 .bf16 := VecWindow.window V ![0, 0, 512 * min b 31] S1x144x512.size (inbV b)
/-- The carried maximum of row `a`. -/
def rowOfM (m : Vec F S32x1x512 .f32) (a : ℕ) : Vec F S1x1x512 .f32 := VecWindow.window m ![min a 31, 0, 0] S1x1x512.size (inbM a)
/-- The carried sums of row `a`. -/
def rowOfA (m : Vec F S32x144x512 .f32) (a : ℕ) : Vec F S1x144x512 .f32 := VecWindow.window m ![min a 31, 0, 0] S1x144x512.size (inbA a)

/-- The contents of the six scratch buffers: the scores and maxima of the tile at hand, those of the other pair, and the two carried arrays. -/
structure FState (F : FTy → Type) where
  sc : Vec F S512x512 .f32
  sn : Vec F S512x512 .f32
  mc : Vec F S8x512 .f32
  mn : Vec F S8x512 .f32
  mx : Vec F S32x1x512 .f32
  ac : Vec F S32x144x512 .f32

/-- A tile's scores as the score buffer holds them. -/
def tileS (Q : Vec F S1x192x16384 .bf16) (K : Vec F S16384x256 .bf16) (a b : ℕ) : Vec F S512x512 .f32 :=
  shapeCast S512x512 (scores (keyT K b) (qryT Q a)) shapeCasts_S512x512_S512x512
/-- A tile's maxima over every eighth key as their buffer holds them. -/
def tileM (Q : Vec F S1x192x16384 .bf16) (K : Vec F S16384x256 .bf16) (a b : ℕ) : Vec F S8x512 .f32 :=
  shapeCast S8x512 (max8 (scores (keyT K b) (qryT Q a))) shapeCasts_S8x512_S8x512

/-- A row's carried maximum after a tile whose maxima are `mc`. -/
def newM (m : Vec F S1x1x512 .f32) (mc : Vec F S8x512 .f32) : FVec F S1x512 .f32 := maximumf (rowM m) (maxOf8 mc)

/-- One step below the diagonal, at the tile `p`. -/
def fstep (Q : Vec F S1x192x16384 .bf16) (K : Vec F S16384x256 .bf16) (V : Vec F S1x144x16384 .bf16) (p : ℕ × ℕ) (S : FState F) : FState F where
  sc := tileS Q K (next p).1 (next p).2
  sn := S.sc
  mc := tileM Q K (next p).1 (next p).2
  mn := S.mc
  mx := VecWindow.put S.mx ![min p.1 31, 0, 0] S1x1x512.size (shapeCast S1x1x512 (newM (rowOfM S.mx p.1) S.mc) shapeCasts_S1x512_S1x1x512)
  ac := VecWindow.put S.ac ![min p.1 31, 0, 0] S1x144x512.size
    (shapeCast S1x144x512 (accNew (rowM (rowOfM S.mx p.1)) (newM (rowOfM S.mx p.1) S.mc) (rowOfA S.ac p.1) (valT V p.2) (weights S.sc (newM (rowOfM S.mx p.1) S.mc)))
      shapeCasts_S144x512_S1x144x512)

/-- The contents before the walk's step `u`, from `S` before its first. -/
def fstate (Q : Vec F S1x192x16384 .bf16) (K : Vec F S16384x256 .bf16) (V : Vec F S1x144x16384 .bf16) (S : FState F) (u : ℕ) : FState F :=
  Nat.rec S (fun u S => fstep Q K V (walk u) S) u

/-- The contents after one more step of the walk. -/
theorem fstate_succ (Q : Vec F S1x192x16384 .bf16) (K : Vec F S16384x256 .bf16) (V : Vec F S1x144x16384 .bf16) (S : FState F) (u : ℕ) :
    fstate Q K V S (u + 1) = fstep Q K V (walk u) (fstate Q K V S u) := rfl

/-- The contents the walk along the diagonal changes: the two score buffers and the result. -/
structure DState (F : FTy → Type) where
  sc : Vec F S512x512 .f32
  sn : Vec F S512x512 .f32
  out : Vec F S16384x128 .bf16

/-- A row's maximum with its diagonal tile's. -/
def lastM (mx : Vec F S32x1x512 .f32) (st : Vec F S512x512 .f32) (r : ℕ) : FVec F S1x512 .f32 :=
  maximumf (rowM (rowOfM mx r)) (maxAll (masked st))

/-- A row's result. -/
def rowOut (V : Vec F S1x144x16384 .bf16) (mx : Vec F S32x1x512 .f32) (ac : Vec F S32x144x512 .f32) (st : Vec F S512x512 .f32) (r : ℕ) : FVec F S512x128 .bf16 :=
  outOf (accNew (rowM (rowOfM mx r)) (lastM mx st r) (rowOfA ac r) (valT V r) (weights (masked st) (lastM mx st r)))

/-- One step along the diagonal, at row `r`. -/
def dstep (Q : Vec F S1x192x16384 .bf16) (K : Vec F S16384x256 .bf16) (V : Vec F S1x144x16384 .bf16) (mx : Vec F S32x1x512 .f32) (ac : Vec F S32x144x512 .f32)
    (r : ℕ) (D : DState F) : DState F where
  sc := tileS Q K (r + 1) (r + 1)
  sn := D.sc
  out := VecWindow.put D.out ![512 * min r 31, 0] S512x128.size (rowOut V mx ac D.sc r)

/-- The contents before the diagonal's row `r`, from `D` before its first. -/
def dstate (Q : Vec F S1x192x16384 .bf16) (K : Vec F S16384x256 .bf16) (V : Vec F S1x144x16384 .bf16) (mx : Vec F S32x1x512 .f32) (ac : Vec F S32x144x512 .f32)
    (D : DState F) (r : ℕ) : DState F :=
  Nat.rec D (fun r D => dstep Q K V mx ac r D) r

/-- The contents after one more step along the diagonal. -/
theorem dstate_succ (Q : Vec F S1x192x16384 .bf16) (K : Vec F S16384x256 .bf16) (V : Vec F S1x144x16384 .bf16) (mx : Vec F S32x1x512 .f32) (ac : Vec F S32x144x512 .f32)
    (D : DState F) (r : ℕ) : dstate Q K V mx ac D (r + 1) = dstep Q K V mx ac r (dstate Q K V mx ac D r) := rfl

/-- The carried maxima at the start: minus infinity. -/
def mx0 : Vec F S32x1x512 .f32 :=
  shapeCast S32x1x512 (broadcast S32x1x512 (Scalar.ofBits .f32 0xFF800000#32 : F .f32) : FVec F S32x1x512 .f32) shapeCasts_S32x1x512_S32x1x512
/-- The carried sums at the start: zero. -/
def ac0 : Vec F S32x144x512 .f32 :=
  shapeCast S32x144x512 (broadcast S32x144x512 (Scalar.ofBits .f32 0x00000000#32 : F .f32) : FVec F S32x144x512 .f32) shapeCasts_S32x144x512_S32x144x512

/-- The contents before the walk's first step, the other pair of buffers at anything. -/
def start (Q : Vec F S1x192x16384 .bf16) (K : Vec F S16384x256 .bf16) (sn : Vec F S512x512 .f32) (mn : Vec F S8x512 .f32) : FState F :=
  ⟨tileS Q K 1 0, sn, tileM Q K 1 0, mn, mx0, ac0⟩

/-! ## The walk's words -/

/-- The next tile, counted in words, is the next tile. -/
theorem nextWords : ∀ a b : Fin 33, (nextQ (BitVec.ofNat 32 a.val) (BitVec.ofNat 32 b.val), nextJ (BitVec.ofNat 32 a.val) (BitVec.ofNat 32 b.val))
    = (BitVec.ofNat 32 (next (a.val, b.val)).1, BitVec.ofNat 32 (next (a.val, b.val)).2) := by decide +kernel

/-- Every tile of the walk lies under the diagonal, in range. -/
theorem walk_lt : ∀ u : Fin 496, (walk u.val).2 < (walk u.val).1 ∧ (walk u.val).1 < 32 := by decide +kernel

/-- The walk ends after 496 tiles. -/
theorem walk_end : walk 496 = (32, 0) := by decide +kernel

/-- The words carried at the walk's step `u`. -/
def word (u : ℕ) : BitVec 32 × BitVec 32 := (BitVec.ofNat 32 (walk u).1, BitVec.ofNat 32 (walk u).2)

/-- The words carried follow the walk. -/
theorem word_next (u : ℕ) (hu : u < 496) : (nextQ (word u).1 (word u).2, nextJ (word u).1 (word u).2) = word (u + 1) := by
  have h := walk_lt ⟨u, hu⟩
  simp only at h
  exact nextWords ⟨(walk u).1, by omega⟩ ⟨(walk u).2, by omega⟩

/-- Where a tile of keys begins. -/
theorem offK_word : ∀ b : Fin 32, offK (BitVec.ofNat 32 b.val) = ![512 * min b.val 31, 0] := by decide +kernel
/-- Where a tile of queries begins. -/
theorem offQ_word : ∀ b : Fin 32, offQ (BitVec.ofNat 32 b.val) = ![0, 0, 512 * min b.val 31] := by decide +kernel
/-- Where a tile of queries begins, the last one held. -/
theorem offQmin_word : ∀ a : Fin 33, offQ (Scalar.minsi (BitVec.ofNat 32 a.val) 31#32) = ![0, 0, 512 * min a.val 31] := by decide +kernel
/-- Where a row of scratch begins. -/
theorem offR_word : ∀ a : Fin 32, offR (BitVec.ofNat 32 a.val) = ![min a.val 31, 0, 0] := by decide +kernel

/-- The accesses of the walk's next `n` steps, as one check. -/
instance decStepOK (q j : BitVec 32) : Decidable (StepOK q j) :=
  decidable_of_iff ((∀ a, offK (nextJ q j) a + S512x192.size a ≤ S16384x256.size a) ∧ (∀ a, offQ (Scalar.minsi (nextQ q j) 31#32) a + S1x192x512.size a ≤ S1x192x16384.size a)
      ∧ (∀ a, offR q a + S1x1x512.size a ≤ S32x1x512.size a) ∧ (∀ a, offR q a + S1x144x512.size a ≤ S32x144x512.size a) ∧ (∀ a, offQ j a + S1x144x512.size a ≤ S1x144x16384.size a))
    ⟨fun h => ⟨h.1, h.2.1, h.2.2.1, h.2.2.2.1, h.2.2.2.2⟩, fun h => ⟨h.keys, h.qs, h.mx, h.acc, h.vals⟩⟩

/-- The accesses of the walk's step are in bounds. -/
theorem stepOK_word (u : ℕ) (hu : u < 496) : StepOK (word u).1 (word u).2 := by
  have h := walk_lt ⟨u, hu⟩
  have hn := word_next u hu
  rw [Prod.ext_iff] at hn; simp only at h hn
  have h' : (walk (u + 1)).2 < 32 ∧ (walk (u + 1)).1 < 33 := by
    rw [walk_succ]; unfold next; split <;> constructor <;> simp only <;> omega
  constructor
  · rw [hn.2]; exact (offK_word ⟨(walk (u + 1)).2, h'.1⟩) ▸ inbK _
  · rw [hn.1]; exact (offQmin_word ⟨(walk (u + 1)).1, h'.2⟩) ▸ inbQ _
  · exact (offR_word ⟨(walk u).1, h.2⟩) ▸ inbM _
  · exact (offR_word ⟨(walk u).1, h.2⟩) ▸ inbA _
  · exact (offQ_word ⟨(walk u).2, by omega⟩) ▸ inbV _

/-- The accesses of the walk's next steps are in bounds. -/
theorem flatOK_word (n : ℕ) : ∀ u, u + n ≤ 496 → FlatOK n (word u).1 (word u).2 := by
  induction n with
  | zero => intro _ _; exact trivial
  | succ n ih =>
    intro u hu
    have hn := word_next u (by omega)
    rw [Prod.ext_iff] at hn
    refine ⟨stepOK_word u (by omega), ?_⟩
    have h := ih (u + 1) (by omega)
    rw [← hn.1, ← hn.2] at h
    exact h

end Cert.KernelIdeal.Att

end
-- ==== Proof.Step.lean ====
/-
  The attention kernel's body run once: each step's program takes the buffers from the contents before it to the
  model's contents after it, and the two loops follow by induction on the number of steps.
-/
module

public import proofs.«01_k».proof.Proof.Model
public import proofs.«01_k».proof.Proof.Gen.KernelIdeal.Frame
public import Idealize.ShloMosaic.Lib.Pipeline.TableIdle

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal
open Facts₀ Facts

variable {F : FTy → Type} [FloatOps F]

local notation "𝕄" => MT nD τ sig Unit (Elt F) ℕ (UR sig nD τ) ℕ

/-! ## Loads and stores of a whole memref's contents -/

section Rules

variable {s : Shape} {e : EltTy} {α : Type}

/-- A load at a box of a memref held whole reads the box of its contents. -/
theorem load_box (c : Dev nD) (m : Memref sig .tc .vmem s e) (X : Vec F s e) {off off' size : Fin s.rank → ℕ}
    (inb : ∀ a, off a + size a ≤ s.size a) (ho : off = off') (inb' : ∀ a, off' a + size a ≤ s.size a) (hl : m.view.LoadsAt (Rect.unit off size inb).toLoadRect)
    (k : ((Rect.unit off size inb).shape.Idx → Elt F e) → Prog (TpuEff nD τ sig (Elt F) Λ₀ .tc) α) (Q : α → sProp 𝕄) :
    (owns (c : Thread nD τ) m fullShare X : sProp 𝕄)
      ⊢ iprop((owns (c : Thread nD τ) m fullShare X -∗ wp frame (wpE (defs₀ (F := F)) Variants.none (c : Thread nD τ) none) Set.univ (k (VecWindow.window X off' size inb')) Q)
        -∗ wp frame (wpE (defs₀ (F := F)) Variants.none (c : Thread nD τ) none) Set.univ (.op (.load m (Rect.unit off size inb).toLoadRect hl) k) Q) := by
  rw [owns_eq_rep, ← View.readAt_rep_unit m.view X inb ho inb']
  exact wp_load Variants.none (c : Thread nD τ) none Set.univ (m := m) (Memref.setOn_subset_of_access_subset (c : Thread nD τ) (View.set_slice_subset _ _))

/-- A load of a memref's own sizes reads its contents. -/
theorem load_all (c : Dev nD) (m : Memref sig .tc .vmem s e) (X : Vec F s e) {off : Fin s.rank → ℕ}
    (inb : ∀ a, off a + s.size a ≤ s.size a) (hl : m.view.LoadsAt (Rect.unit off s.size inb).toLoadRect)
    (k : ((Rect.unit off s.size inb).shape.Idx → Elt F e) → Prog (TpuEff nD τ sig (Elt F) Λ₀ .tc) α) (Q : α → sProp 𝕄) :
    (owns (c : Thread nD τ) m fullShare X : sProp 𝕄)
      ⊢ iprop((owns (c : Thread nD τ) m fullShare X -∗ wp frame (wpE (defs₀ (F := F)) Variants.none (c : Thread nD τ) none) Set.univ (k X) Q)
        -∗ wp frame (wpE (defs₀ (F := F)) Variants.none (c : Thread nD τ) none) Set.univ (.op (.load m (Rect.unit off s.size inb).toLoadRect hl) k) Q) := by
  rw [owns_eq_rep]
  have h := wp_load (defs := defs₀ (F := F)) Variants.none (c : Thread nD τ) none (Γ := .empty) Set.univ (Ix := Unit) (Name := ℕ) (U := UR sig nD τ) (Lvl := ℕ) (m := m) (r := (Rect.unit off s.size inb).toLoadRect) (hl := hl) (k := k) (Q := Q) (q := fullShare) (f := m.view.rep X) (S := m.view.set)
    (Memref.setOn_subset_of_access_subset (c : Thread nD τ) (View.set_slice_subset _ _))
  rwa [View.readAt_rep_full] at h

/-- An unmasked store at a box of a memref held whole puts the payload over the box. -/
theorem store_box (c : Dev nD) (m : Memref sig .tc .vmem s e) (X : Vec F s e) {off off' size : Fin s.rank → ℕ}
    (inb : ∀ a, off a + size a ≤ s.size a) (ho : off = off') (w : (Rect.unit off size inb).shape.Idx → Elt F e)
    (hx : (m.access (Rect.unit off size inb)).Stores Finset.univ) (hm : Finset.univ = Finset.univ ∨ ∀ a, (Rect.unit off size inb).stride a = 1)
    (k : PUnit → Prog (TpuEff nD τ sig (Elt F) Λ₀ .tc) α) (Q : α → sProp 𝕄) :
    (owns (c : Thread nD τ) m fullShare X : sProp 𝕄)
      ⊢ iprop((owns (c : Thread nD τ) m fullShare (VecWindow.put X off' size w : Vec F s e) -∗ wp frame (wpE (defs₀ (F := F)) Variants.none (c : Thread nD τ) none) Set.univ (k ⟨⟩) Q)
        -∗ wp frame (wpE (defs₀ (F := F)) Variants.none (c : Thread nD τ) none) Set.univ (.op (.store m (Rect.unit off size inb) w Finset.univ hx hm) k) Q) := by
  rw [owns_eq_rep, owns_eq_rep]
  iintro H HK
  iapply (wp_store_writes₀ Variants.none (c : Thread nD τ) none Set.univ (m := m) (r := Rect.unit off size inb) (w := w) (hx := hx) (hm := hm) (k := k) (S := m.view.set) (f := m.view.rep X)
    (View.set_slice_subset _ _)) $$ H
  iintro H
  iapply HK
  iapply (pointsTo_rep_of_read (c : Thread nD τ) m _ fullShare _ (View.read_writes_rep_unit m.view X inb w ho))
  iexact H

/-- An unmasked store of a memref's own sizes leaves the payload. -/
theorem store_all (c : Dev nD) (m : Memref sig .tc .vmem s e) (X : Vec F s e) {off : Fin s.rank → ℕ}
    (inb : ∀ a, off a + s.size a ≤ s.size a) (w : (Rect.unit off s.size inb).shape.Idx → Elt F e)
    (hx : (m.access (Rect.unit off s.size inb)).Stores Finset.univ) (hm : Finset.univ = Finset.univ ∨ ∀ a, (Rect.unit off s.size inb).stride a = 1)
    (k : PUnit → Prog (TpuEff nD τ sig (Elt F) Λ₀ .tc) α) (Q : α → sProp 𝕄) :
    (owns (c : Thread nD τ) m fullShare X : sProp 𝕄)
      ⊢ iprop((owns (c : Thread nD τ) m fullShare (w : Vec F s e) -∗ wp frame (wpE (defs₀ (F := F)) Variants.none (c : Thread nD τ) none) Set.univ (k ⟨⟩) Q)
        -∗ wp frame (wpE (defs₀ (F := F)) Variants.none (c : Thread nD τ) none) Set.univ (.op (.store m (Rect.unit off s.size inb) w Finset.univ hx hm) k) Q) := by
  rw [owns_eq_rep, owns_eq_rep]
  iintro H HK
  iapply (wp_store_writes₀ Variants.none (c : Thread nD τ) none Set.univ (m := m) (r := Rect.unit off s.size inb) (w := w) (hx := hx) (hm := hm) (k := k) (S := m.view.set) (f := m.view.rep X)
    (View.set_slice_subset _ _)) $$ H
  iintro H
  iapply HK
  iapply (pointsTo_rep_of_read (c : Thread nD τ) m _ fullShare _ (View.read_writes_full m.view (m.view.rep X) inb w []))
  iexact H

end Rules

/-! ## One step below the diagonal -/

/-- The three inputs and the six scratch buffers, each at its contents. -/
def held (c : Dev nD) (arg1 : Memref sig .tc .vmem S1x192x16384 .bf16) (arg2 : Memref sig .tc .vmem S16384x256 .bf16) (arg3 : Memref sig .tc .vmem S1x144x16384 .bf16)
    (sc sn : Memref sig .tc .vmem S512x512 .f32) (mc mn : Memref sig .tc .vmem S8x512 .f32) (arg9 : Memref sig .tc .vmem S32x1x512 .f32) (arg10 : Memref sig .tc .vmem S32x144x512 .f32)
    (Q : Vec F S1x192x16384 .bf16) (K : Vec F S16384x256 .bf16) (V : Vec F S1x144x16384 .bf16) (S : FState F) : sProp 𝕄 :=
  iprop(owns (c : Thread nD τ) arg1 fullShare Q ∗ owns (c : Thread nD τ) arg2 fullShare K ∗ owns (c : Thread nD τ) arg3 fullShare V
    ∗ owns (c : Thread nD τ) sc fullShare S.sc ∗ owns (c : Thread nD τ) sn fullShare S.sn ∗ owns (c : Thread nD τ) mc fullShare S.mc ∗ owns (c : Thread nD τ) mn fullShare S.mn
    ∗ owns (c : Thread nD τ) arg9 fullShare S.mx ∗ owns (c : Thread nD τ) arg10 fullShare S.ac)

/-- One step's program takes the contents to the model's, the two pairs of buffers changing places. -/
theorem wp_flatStep (c : Dev nD) (arg1 : Memref sig .tc .vmem S1x192x16384 .bf16) (arg2 : Memref sig .tc .vmem S16384x256 .bf16) (arg3 : Memref sig .tc .vmem S1x144x16384 .bf16)
    (sc sn : Memref sig .tc .vmem S512x512 .f32) (mc mn : Memref sig .tc .vmem S8x512 .f32) (arg9 : Memref sig .tc .vmem S32x1x512 .f32) (arg10 : Memref sig .tc .vmem S32x144x512 .f32)
    (Q : Vec F S1x192x16384 .bf16) (K : Vec F S16384x256 .bf16) (V : Vec F S1x144x16384 .bf16) (S : FState F) {α : Type}
    (q j : BitVec 32) (h : StepOK q j) (p : ℕ × ℕ)
    (hK : offK (nextJ q j) = ![512 * min (next p).2 31, 0]) (hQ : offQ (Scalar.minsi (nextQ q j) 31#32) = ![0, 0, 512 * min (next p).1 31])
    (hR : offR q = ![min p.1 31, 0, 0]) (hV : offQ j = ![0, 0, 512 * min p.2 31])
    (rest : Prog (TpuEff nD τ sig (Elt F) Λ₀ .tc) α) (post : α → sProp 𝕄)
    (hk : held c arg1 arg2 arg3 sn sc mn mc arg9 arg10 Q K V (fstep Q K V p S) ⊢ wp frame (wpE (defs₀ (F := F)) Variants.none (c : Thread nD τ) none) Set.univ rest post) :
    held c arg1 arg2 arg3 sc sn mc mn arg9 arg10 Q K V S
      ⊢ wp frame (wpE (defs₀ (F := F)) Variants.none (c : Thread nD τ) none) Set.univ (flatStep arg1 arg2 arg3 sc sn mc mn arg9 arg10 q j h rest) post := by
  unfold held flatStep
  iintro ⟨H1, H2, H3, Hsc, Hsn, Hmc, Hmn, Hm, Ha⟩
  iapply (load_box c arg2 K _ hK (inbK _)) $$ H2; iintro H2
  iapply (load_box c arg1 Q _ hQ (inbQ _)) $$ H1; iintro H1
  iapply (load_all c sn S.sn inb_S512x512_S512x512_0_0 _ _ _) $$ Hsn; iintro Hsn
  iapply (store_all c sn S.sn inb_S512x512_S512x512_0_0 _ _ _ _ _) $$ Hsn; iintro Hsn
  iapply (load_all c mn S.mn inb_S8x512_S8x512_0_0 _ _ _) $$ Hmn; iintro Hmn
  iapply (store_all c mn S.mn inb_S8x512_S8x512_0_0 _ _ _ _ _) $$ Hmn; iintro Hmn
  iapply (load_all c sc S.sc inb_S512x512_S512x512_0_0 _ _ _) $$ Hsc; iintro Hsc
  iapply (load_box c arg9 S.mx _ hR (inbM _)) $$ Hm; iintro Hm
  iapply (load_all c mc S.mc inb_S8x512_S8x512_0_0 _ _ _) $$ Hmc; iintro Hmc
  iapply (load_box c arg10 S.ac _ hR (inbA _)) $$ Ha; iintro Ha
  iapply (load_box c arg3 V _ hV (inbV _)) $$ H3; iintro H3
  iapply (load_box c arg9 S.mx _ hR (inbM _)) $$ Hm; iintro Hm
  iapply (store_box c arg9 S.mx _ hR) $$ Hm; iintro Hm
  iapply (load_box c arg10 S.ac _ hR (inbA _)) $$ Ha; iintro Ha
  iapply (store_box c arg10 S.ac _ hR) $$ Ha; iintro Ha
  iapply hk
  unfold held
  dsimp only [fstep, tileS, tileM, newM, keyT, qryT, valT, rowOfM, rowOfA]
  isplitl [H1]; · iexact H1
  isplitl [H2]; · iexact H2
  isplitl [H3]; · iexact H3
  isplitl [Hsn]; · iexact Hsn
  isplitl [Hsc]; · iexact Hsc
  isplitl [Hmn]; · iexact Hmn
  isplitl [Hmc]; · iexact Hmc
  isplitl [Hm]; · iexact Hm
  iexact Ha

/-- `n` steps of the walk from its step `u`, an even number of them: the buffers are back in their places. -/
theorem wp_flatChain (c : Dev nD) (arg1 : Memref sig .tc .vmem S1x192x16384 .bf16) (arg2 : Memref sig .tc .vmem S16384x256 .bf16) (arg3 : Memref sig .tc .vmem S1x144x16384 .bf16)
    (arg9 : Memref sig .tc .vmem S32x1x512 .f32) (arg10 : Memref sig .tc .vmem S32x144x512 .f32)
    (Q : Vec F S1x192x16384 .bf16) (K : Vec F S16384x256 .bf16) (V : Vec F S1x144x16384 .bf16) (S₀ : FState F) (post : BitVec 32 × BitVec 32 → sProp 𝕄) (n : ℕ) :
    ∀ (sc sn : Memref sig .tc .vmem S512x512 .f32) (mc mn : Memref sig .tc .vmem S8x512 .f32) (u : ℕ) (hu : u + n ≤ 496) (w : BitVec 32 × BitVec 32) (hw : w = word u) (h : FlatOK n w.1 w.2)
      (hk : (if n % 2 = 0 then held c arg1 arg2 arg3 sc sn mc mn arg9 arg10 Q K V (fstate Q K V S₀ (u + n)) else held c arg1 arg2 arg3 sn sc mn mc arg9 arg10 Q K V (fstate Q K V S₀ (u + n)))
        ⊢ post (word (u + n))),
      held c arg1 arg2 arg3 sc sn mc mn arg9 arg10 Q K V (fstate Q K V S₀ u)
        ⊢ wp frame (wpE (defs₀ (F := F)) Variants.none (c : Thread nD τ) none) Set.univ (flatChain arg1 arg2 arg3 arg9 arg10 n sc sn mc mn w.1 w.2 h) post := by
  induction n with
  | zero =>
    intro sc sn mc mn u hu w hw h hk
    subst hw
    exact exec_ret _ _ _ _ _ hk
  | succ n ih =>
    intro sc sn mc mn u hu w hw h hk
    subst hw
    have hl := walk_lt ⟨u, by omega⟩
    have hn := word_next u (by omega)
    have hl' : (walk (u + 1)).2 < 32 ∧ (walk (u + 1)).1 < 33 := by
      simp only at hl
      rw [walk_succ]; unfold next; split <;> constructor <;> simp only <;> omega
    rw [Prod.ext_iff] at hn
    simp only at hl hn
    refine wp_flatStep c arg1 arg2 arg3 sc sn mc mn arg9 arg10 Q K V _ _ _ h.1 (walk u) ?_ ?_ ?_ ?_ _ post ?_
    · rw [hn.2]; exact offK_word ⟨(walk (u + 1)).2, hl'.1⟩
    · rw [hn.1]; exact offQmin_word ⟨(walk (u + 1)).1, hl'.2⟩
    · exact offR_word ⟨(walk u).1, hl.2⟩
    · exact offQ_word ⟨(walk u).2, by omega⟩
    · refine ih sn sc mn mc (u + 1) (by omega) (nextQ (word u).1 (word u).2, nextJ (word u).1 (word u).2) (Prod.ext hn.1 hn.2) h.2 ?_
      rw [show u + 1 + n = u + (n + 1) by omega]
      split at hk <;> split <;> first | exact hk | omega

end Cert.KernelIdeal.Att

end
-- ==== Proof.Whole.lean ====
/-
  The attention kernel's body is a start, the walk below the diagonal, a second start, and the walk along the diagonal.
-/
module

public import proofs.«01_k».proof.Proof.Norm

@[expose] public section

set_option maxRecDepth 16384

noncomputable section

namespace Cert.KernelIdeal.Att

open Idealize.ShloMosaic Idealize.SL.Sem
open Cert.KernelIdeal

variable {F : FTy → Type} [FloatOps F] [Facts]
open Facts₀ Facts

/-- The program before the walk below the diagonal: the carried arrays set, the first tile's scores and maxima. -/
def flatStart (arg1 : Memref sig .tc .vmem S1x192x16384 .bf16) (arg2 : Memref sig .tc .vmem S16384x256 .bf16) (arg5 : Memref sig .tc .vmem S512x512 .f32)
    (arg7 : Memref sig .tc .vmem S8x512 .f32) (arg9 : Memref sig .tc .vmem S32x1x512 .f32) (arg10 : Memref sig .tc .vmem S32x144x512 .f32) {α : Type}
    (rest : Prog (TpuEff nD τ sig (Elt F) Λ₀ .tc) α) : Prog (TpuEff nD τ sig (Elt F) Λ₀ .tc) α :=
  .op (.load arg9 (Rect.unit (s := S32x1x512) ![0, 0, 0] S32x1x512.size inb_S32x1x512_S32x1x512_0_0_0).toLoadRect (View.loadsAt_vmem h_S32x1x512)) fun _ =>
  .op (.store arg9 (Rect.unit (s := S32x1x512) ![0, 0, 0] S32x1x512.size inb_S32x1x512_S32x1x512_0_0_0)
    (shapeCast S32x1x512 (broadcast S32x1x512 (Scalar.ofBits .f32 0xFF800000#32 : F .f32) : FVec F S32x1x512 .f32) shapeCasts_S32x1x512_S32x1x512)
    Finset.univ (View.stores_vmem_bits_univ h_S32x1x512 rfl) (.inl rfl)) fun _ =>
  .op (.load arg10 (Rect.unit (s := S32x144x512) ![0, 0, 0] S32x144x512.size inb_S32x144x512_S32x144x512_0_0_0).toLoadRect (View.loadsAt_vmem h_S32x144x512)) fun _ =>
  .op (.store arg10 (Rect.unit (s := S32x144x512) ![0, 0, 0] S32x144x512.size inb_S32x144x512_S32x144x512_0_0_0)
    (shapeCast S32x144x512 (broadcast S32x144x512 (Scalar.ofBits .f32 0x00000000#32 : F .f32) : FVec F S32x144x512 .f32) shapeCasts_S32x144x512_S32x144x512)
    Finset.univ (View.stores_vmem_bits_univ h_S32x144x512 rfl) (.inl rfl)) fun _ =>
  .op (.load arg2 (Rect.unit (s := S16384x256) ![0, 0] S512x192.size inb_S16384x256_S512x192_0_0).toLoadRect (View.loadsAt_vmem h_S512x192)) fun kt =>
  .op (.load arg1 (Rect.unit (s := S1x192x16384) ![0, 0, 512] S1x192x512.size inb_S1x192x16384_S1x192x512_0_0_512).toLoadRect (View.loadsAt_vmem h_S1x192x512)) fun qt =>
  .op (.load arg5 (Rect.unit (s := S512x512) ![0, 0] S512x512.size inb_S512x512_S512x512_0_0).toLoadRect (View.loadsAt_vmem h_S512x512)) fun _ =>
  .op (.store arg5 (Rect.unit (s := S512x512) ![0, 0] S512x512.size inb_S512x512_S512x512_0_0) (shapeCast S512x512 (scores kt qt) shapeCasts_S512x512_S512x512) Finset.univ (View.stores_vmem_bits_univ h_S512x512 rfl) (.inl rfl)) fun _ =>
  .op (.load arg7 (Rect.unit (s := S8x512) ![0, 0] S8x512.size inb_S8x512_S8x512_0_0).toLoadRect (View.loadsAt_vmem h_S8x512)) fun _ =>
  .op (.store arg7 (Rect.unit (s := S8x512) ![0, 0] S8x512.size inb_S8x512_S8x512_0_0) (shapeCast S8x512 (max8 (scores kt qt)) shapeCasts_S8x512_S8x512) Finset.univ (View.stores_vmem_bits_univ h_S8x512 rfl) (.inl rfl)) fun _ => rest

/-- The program before the walk along the diagonal: the first tile's scores. -/
def diagStart (arg1 : Memref sig .tc .vmem S1x192x16384 .bf16) (arg2 : Memref sig .tc .vmem S16384x256 .bf16) (arg5 : Memref sig .tc .vmem S512x512 .f32) {α : Type}
    (rest : Prog (TpuEff nD τ sig (Elt F) Λ₀ .tc) α) : Prog (TpuEff nD τ sig (Elt F) Λ₀ .tc) α :=
  .op (.load arg2 (Rect.unit (s := S16384x256) ![0, 0] S512x192.size inb_S16384x256_S512x192_0_0).toLoadRect (View.loadsAt_vmem h_S512x192)) fun kt =>
  .op (.load arg1 (Rect.unit (s := S1x192x16384) ![0, 0, 0] S1x192x512.size inb_S1x192x16384_S1x192x512_0_0_0).toLoadRect (View.loadsAt_vmem h_S1x192x512)) fun qt =>
  .op (.load arg5 (Rect.unit (s := S512x512) ![0, 0] S512x512.size inb_S512x512_S512x512_0_0).toLoadRect (View.loadsAt_vmem h_S512x512)) fun _ =>
  .op (.store arg5 (Rect.unit (s := S512x512) ![0, 0] S512x512.size inb_S512x512_S512x512_0_0) (shapeCast S512x512 (scores kt qt) shapeCasts_S512x512_S512x512) Finset.univ (View.stores_vmem_bits_univ h_S512x512 rfl) (.inl rfl)) fun _ => rest

/-- A trip of the walk below the diagonal, as the program prints it. -/
def flatBody (i : grid0.Coords) (arg1 : Memref sig .tc .vmem S1x192x16384 .bf16) (harg1 : arg1.IsWhole) (arg2 : Memref sig .tc .vmem S16384x256 .bf16) (harg2 : arg2.IsWhole) (arg3 : Memref sig .tc .vmem S1x144x16384 .bf16) (harg3 : arg3.IsWhole) (arg4 : Memref sig .tc .vmem S16384x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S32x1x512 .f32) (harg9 : arg9.IsWhole) (arg10 : Memref sig .tc .vmem S32x144x512 .f32) (harg10 : arg10.IsWhole)
    (k0_t1 : Fin k0_t1_loop.trips) : BitVec 32 × BitVec 32 → Prog (TpuEff nD τ sig (Elt F) Λ₀ .tc) (BitVec 32 × BitVec 32) := fun (arg12, arg13) => do
  let ⟨k0_hw1, v2203, v2205, v2261, v2263, v2264⟩ : Σ' (k0_hw1 : k0_chk1 arg12 arg13) (v2203 : BitVec 32) (v2205 : BitVec 32) (v2261 : BitVec 1) (v2263 : BitVec 32), BitVec 32 ← k0_part101 i arg1 harg1 arg2 harg2 arg3 harg3 arg4 harg4 arg5 harg5 arg6 harg6 arg7 harg7 arg8 harg8 arg9 harg9 arg10 harg10 0#32 1#32 k0_t1 arg12 arg13
  let ⟨v2265, v2287, v2295, v2297, v2301⟩ : Σ' (v2265 : BitVec 32) (v2287 : BitVec 32) (v2295 : FVec F S1x512 .f32) (v2297 : FVec F S1x512 .f32), FVec F S512x512 .bf16 ← k0_part61 i arg1 harg1 arg2 harg2 arg3 harg3 arg4 harg4 arg5 harg5 arg6 harg6 arg7 harg7 arg8 harg8 arg9 harg9 arg10 harg10 arg12 arg13 k0_hw1 v2203 v2205 v2261 v2263 v2264
  let ⟨v2323, v2325, v2337⟩ : Σ' (v2323 : BitVec 32) (v2325 : BitVec 32), FVec F S512x512 .f32 ← k0_part62 i arg1 harg1 arg2 harg2 arg3 harg3 arg4 harg4 arg5 harg5 arg6 harg6 arg7 harg7 arg8 harg8 arg9 harg9 arg10 harg10 arg12 arg13 k0_hw1 v2203 v2263 v2265 v2287 v2295 v2297 v2301
  let v2371 : FVec F S144x512 .f32 ← k0_part63 i arg1 harg1 arg2 harg2 arg3 harg3 arg4 harg4 arg5 harg5 arg6 harg6 arg7 harg7 arg8 harg8 arg9 harg9 arg10 harg10 arg12 arg13 k0_hw1 v2263 v2265 v2337
  let ⟨v2383, v2385, v2407, v2408, v2410⟩ : Σ' (v2383 : BitVec 32) (v2385 : BitVec 32) (v2407 : BitVec 32) (v2408 : Vec F S512x512 .f32), Vec F S1x1x512 .f32 ← k0_part64 i arg1 harg1 arg2 harg2 arg3 harg3 arg4 harg4 arg5 harg5 arg6 harg6 arg7 harg7 arg8 harg8 arg9 harg9 arg10 harg10 arg12 arg13 k0_hw1 v2323 v2325 v2371
  let ⟨v2443, v2445, v2448, v2449⟩ : Σ' (v2443 : BitVec 32) (v2445 : BitVec 32) (v2448 : BitVec 32), BitVec 32 ← k0_part65 i arg1 harg1 arg2 harg2 arg3 harg3 arg4 harg4 arg5 harg5 arg6 harg6 arg7 harg7 arg8 harg8 arg9 harg9 arg10 harg10 arg12 arg13 k0_hw1 v2323 v2383 v2385 v2407 v2408 v2410
  let ⟨v2467, v2475, v2481, v2486⟩ : Σ' (v2467 : BitVec 32) (v2475 : FVec F S1x512 .f32) (v2481 : FVec F S512x512 .bf16), FVec F S144x512 .f32 ← k0_part66 i arg1 harg1 arg2 harg2 arg3 harg3 arg4 harg4 arg5 harg5 arg6 harg6 arg7 harg7 arg8 harg8 arg9 harg9 arg10 harg10 arg12 arg13 k0_hw1 v2383 v2385 v2448 v2449
  let ⟨v2503, v2505, v2522⟩ : Σ' (v2503 : BitVec 32) (v2505 : BitVec 32), FVec F S8x512 .f32 ← k0_part67 i arg1 harg1 arg2 harg2 arg3 harg3 arg4 harg4 arg5 harg5 arg6 harg6 arg7 harg7 arg8 harg8 arg9 harg9 arg10 harg10 arg12 arg13 k0_hw1 v2383 v2443 v2445 v2467 v2475 v2481 v2486
  let v2561 : BitVec 1 ← k0_part68 i arg1 harg1 arg2 harg2 arg3 harg3 arg4 harg4 arg5 harg5 arg6 harg6 arg7 harg7 arg8 harg8 arg9 harg9 arg10 harg10 arg12 arg13 k0_hw1 v2443 v2445 v2503 v2505 v2522
  let ⟨v2563, v2565, v2587, v2588, v2595, v2596⟩ : Σ' (v2563 : BitVec 32) (v2565 : BitVec 32) (v2587 : BitVec 32) (v2588 : Vec F S512x512 .f32) (v2595 : FVec F S1x512 .f32), FVec F S1x512 .f32 ← k0_part69 i arg1 harg1 arg2 harg2 arg3 harg3 arg4 harg4 arg5 harg5 arg6 harg6 arg7 harg7 arg8 harg8 arg9 harg9 arg10 harg10 arg12 arg13 k0_hw1 v2503 v2505 v2561
  let ⟨v2623, v2625, v2633, v2635⟩ : Σ' (v2623 : BitVec 32) (v2625 : BitVec 32) (v2633 : FVec F S512x192 .bf16), Vec F S1x192x512 .bf16 ← k0_part70 i arg1 harg1 arg2 harg2 arg3 harg3 arg4 harg4 arg5 harg5 arg6 harg6 arg7 harg7 arg8 harg8 arg9 harg9 arg10 harg10 arg12 arg13 k0_hw1 v2503 v2563 v2565 v2587 v2588 v2595 v2596
  let ⟨v2655, v2671⟩ : Σ' (v2655 : FVec F S1x512 .f32), FVec F S144x512 .f32 ← k0_part71 i arg1 harg1 arg2 harg2 arg3 harg3 arg4 harg4 arg5 harg5 arg6 harg6 arg7 harg7 arg8 harg8 arg9 harg9 arg10 harg10 arg12 arg13 k0_hw1 v2563 v2565 v2633 v2635
  let ⟨v2683, v2685, v2707⟩ : Σ' (v2683 : BitVec 32) (v2685 : BitVec 32), BitVec 32 ← k0_part72 i arg1 harg1 arg2 harg2 arg3 harg3 arg4 harg4 arg5 harg5 arg6 harg6 arg7 harg7 arg8 harg8 arg9 harg9 arg10 harg10 arg12 arg13 k0_hw1 v2563 v2623 v2625 v2655 v2671
  let ⟨v2743, v2745, v2746⟩ : Σ' (v2743 : BitVec 32) (v2745 : BitVec 32), BitVec 32 ← k0_part73 i arg1 harg1 arg2 harg2 arg3 harg3 arg4 harg4 arg5 harg5 arg6 harg6 arg7 harg7 arg8 harg8 arg9 harg9 arg10 harg10 arg12 arg13 k0_hw1 v2623 v2683 v2685 v2707
  let ⟨v2767, v2775, v2777, v2781, v2783⟩ : Σ' (v2767 : BitVec 32) (v2775 : FVec F S1x512 .f32) (v2777 : FVec F S1x512 .f32) (v2781 : FVec F S512x512 .bf16), Vec F S1x144x512 .f32 ← k0_part74 i arg1 harg1 arg2 harg2 arg3 harg3 arg4 harg4 arg5 harg5 arg6 harg6 arg7 harg7 arg8 harg8 arg9 harg9 arg10 harg10 arg12 arg13 k0_hw1 v2683 v2685 v2745 v2746
  let ⟨v2803, v2805, v2817⟩ : Σ' (v2803 : BitVec 32) (v2805 : BitVec 32), FVec F S512x512 .f32 ← k0_part75 i arg1 harg1 arg2 harg2 arg3 harg3 arg4 harg4 arg5 harg5 arg6 harg6 arg7 harg7 arg8 harg8 arg9 harg9 arg10 harg10 arg12 arg13 k0_hw1 v2683 v2743 v2745 v2767 v2775 v2777 v2781 v2783
  let v2851 : FVec F S144x512 .f32 ← k0_part76 i arg1 harg1 arg2 harg2 arg3 harg3 arg4 harg4 arg5 harg5 arg6 harg6 arg7 harg7 arg8 harg8 arg9 harg9 arg10 harg10 arg12 arg13 k0_hw1 v2743 v2745 v2817
  let ⟨v2863, v2865, v2887, v2888, v2891, v2892⟩ : Σ' (v2863 : BitVec 32) (v2865 : BitVec 32) (v2887 : BitVec 32) (v2888 : Vec F S512x512 .f32) (v2891 : FVec F S1x512 .f32), Vec F S8x512 .f32 ← k0_part77 i arg1 harg1 arg2 harg2 arg3 harg3 arg4 harg4 arg5 harg5 arg6 harg6 arg7 harg7 arg8 harg8 arg9 harg9 arg10 harg10 arg12 arg13 k0_hw1 v2803 v2805 v2851
  let ⟨v2923, v2925, v2928, v2932⟩ : Σ' (v2923 : BitVec 32) (v2925 : BitVec 32) (v2928 : BitVec 32), Vec F S512x192 .bf16 ← k0_part78 i arg1 harg1 arg2 harg2 arg3 harg3 arg4 harg4 arg5 harg5 arg6 harg6 arg7 harg7 arg8 harg8 arg9 harg9 arg10 harg10 arg12 arg13 k0_hw1 v2803 v2863 v2865 v2887 v2888 v2891 v2892
  let ⟨v2955, v2961, v2966, v2969, cst_1640⟩ : Σ' (v2955 : FVec F S1x512 .f32) (v2961 : FVec F S512x512 .bf16) (v2966 : FVec F S144x512 .f32) (v2969 : FVec F S144x512 .bf16), FVec F S144x512 .f32 ← k0_part79 i arg1 harg1 arg2 harg2 arg3 harg3 arg4 harg4 arg5 harg5 arg6 harg6 arg7 harg7 arg8 harg8 arg9 harg9 arg10 harg10 arg12 arg13 k0_hw1 v2863 v2865 v2928 v2932
  let ⟨v2983, v2985⟩ : Σ' (v2983 : BitVec 32), BitVec 32 ← k0_part80 i arg1 harg1 arg2 harg2 arg3 harg3 arg4 harg4 arg5 harg5 arg6 harg6 arg7 harg7 arg8 harg8 arg9 harg9 arg10 harg10 arg12 arg13 k0_hw1 v2863 v2923 v2925 v2955 v2961 v2966 v2969 cst_1640
  let ⟨v3041, v3043, c1_i32_1680⟩ : Σ' (v3041 : BitVec 1) (v3043 : BitVec 32), BitVec 32 ← k0_part81 i arg1 harg1 arg2 harg2 arg3 harg3 arg4 harg4 arg5 harg5 arg6 harg6 arg7 harg7 arg8 harg8 arg9 harg9 arg10 harg10 arg12 arg13 k0_hw1 v2923 v2925 v2983 v2985
  let ⟨v3045, v3067, v3075, v3077, v3080⟩ : Σ' (v3045 : BitVec 32) (v3067 : BitVec 32) (v3075 : FVec F S1x512 .f32) (v3077 : FVec F S1x512 .f32), FVec F S512x512 .f32 ← k0_part82 i arg1 harg1 arg2 harg2 arg3 harg3 arg4 harg4 arg5 harg5 arg6 harg6 arg7 harg7 arg8 harg8 arg9 harg9 arg10 harg10 arg12 arg13 k0_hw1 v2983 v2985 v3041 v3043 c1_i32_1680
  let ⟨v3103, v3105, v3117⟩ : Σ' (v3103 : BitVec 32) (v3105 : BitVec 32), FVec F S512x512 .f32 ← k0_part83 i arg1 harg1 arg2 harg2 arg3 harg3 arg4 harg4 arg5 harg5 arg6 harg6 arg7 harg7 arg8 harg8 arg9 harg9 arg10 harg10 arg12 arg13 k0_hw1 v2983 v3043 v3045 v3067 v3075 v3077 v3080
  let v3151 : FVec F S144x512 .f32 ← k0_part84 i arg1 harg1 arg2 harg2 arg3 harg3 arg4 harg4 arg5 harg5 arg6 harg6 arg7 harg7 arg8 harg8 arg9 harg9 arg10 harg10 arg12 arg13 k0_hw1 v3043 v3045 v3117
  let ⟨v3163, v3165, v3187, v3188⟩ : Σ' (v3163 : BitVec 32) (v3165 : BitVec 32) (v3187 : BitVec 32), Vec F S512x512 .f32 ← k0_part85 i arg1 harg1 arg2 harg2 arg3 harg3 arg4 harg4 arg5 harg5 arg6 harg6 arg7 harg7 arg8 harg8 arg9 harg9 arg10 harg10 arg12 arg13 k0_hw1 v3043 v3103 v3105 v3151
  let ⟨v3223, v3225, v3228, c512_i32_1783⟩ : Σ' (v3223 : BitVec 32) (v3225 : BitVec 32) (v3228 : BitVec 32), BitVec 32 ← k0_part86 i arg1 harg1 arg2 harg2 arg3 harg3 arg4 harg4 arg5 harg5 arg6 harg6 arg7 harg7 arg8 harg8 arg9 harg9 arg10 harg10 arg12 arg13 k0_hw1 v3103 v3163 v3165 v3187 v3188
  let ⟨v3247, v3255, v3261, v3266⟩ : Σ' (v3247 : BitVec 32) (v3255 : FVec F S1x512 .f32) (v3261 : FVec F S512x512 .bf16), FVec F S144x512 .f32 ← k0_part87 i arg1 harg1 arg2 harg2 arg3 harg3 arg4 harg4 arg5 harg5 arg6 harg6 arg7 harg7 arg8 harg8 arg9 harg9 arg10 harg10 arg12 arg13 k0_hw1 v3163 v3165 v3225 v3228 c512_i32_1783
  let ⟨v3283, v3285, v3302⟩ : Σ' (v3283 : BitVec 32) (v3285 : BitVec 32), FVec F S8x512 .f32 ← k0_part88 i arg1 harg1 arg2 harg2 arg3 harg3 arg4 harg4 arg5 harg5 arg6 harg6 arg7 harg7 arg8 harg8 arg9 harg9 arg10 harg10 arg12 arg13 k0_hw1 v3163 v3223 v3225 v3247 v3255 v3261 v3266
  let v3340 : BitVec 32 ← k0_part89 i arg1 harg1 arg2 harg2 arg3 harg3 arg4 harg4 arg5 harg5 arg6 harg6 arg7 harg7 arg8 harg8 arg9 harg9 arg10 harg10 arg12 arg13 k0_hw1 v3223 v3225 v3285 v3302
  let ⟨v3343, v3345, v3367, v3368, v3371, v3375⟩ : Σ' (v3343 : BitVec 32) (v3345 : BitVec 32) (v3367 : BitVec 32) (v3368 : Vec F S512x512 .f32) (v3371 : FVec F S1x512 .f32), FVec F S1x512 .f32 ← k0_part90 i arg1 harg1 arg2 harg2 arg3 harg3 arg4 harg4 arg5 harg5 arg6 harg6 arg7 harg7 arg8 harg8 arg9 harg9 arg10 harg10 arg12 arg13 k0_hw1 v3283 v3285 v3340
  let ⟨v3403, v3405, v3413⟩ : Σ' (v3403 : BitVec 32) (v3405 : BitVec 32), FVec F S512x192 .bf16 ← k0_part91 i arg1 harg1 arg2 harg2 arg3 harg3 arg4 harg4 arg5 harg5 arg6 harg6 arg7 harg7 arg8 harg8 arg9 harg9 arg10 harg10 arg12 arg13 k0_hw1 v3283 v3343 v3345 v3367 v3368 v3371 v3375
  let ⟨v3435, v3451⟩ : Σ' (v3435 : FVec F S1x512 .f32), FVec F S144x512 .f32 ← k0_part92 i arg1 harg1 arg2 harg2 arg3 harg3 arg4 harg4 arg5 harg5 arg6 harg6 arg7 harg7 arg8 harg8 arg9 harg9 arg10 harg10 arg12 arg13 k0_hw1 v3343 v3345 v3413
  let ⟨v3463, v3465, v3487⟩ : Σ' (v3463 : BitVec 32) (v3465 : BitVec 32), BitVec 32 ← k0_part93 i arg1 harg1 arg2 harg2 arg3 harg3 arg4 harg4 arg5 harg5 arg6 harg6 arg7 harg7 arg8 harg8 arg9 harg9 arg10 harg10 arg12 arg13 k0_hw1 v3343 v3403 v3405 v3435 v3451
  let ⟨v3523, v3525, c31_i32_1946⟩ : Σ' (v3523 : BitVec 32) (v3525 : BitVec 32), BitVec 32 ← k0_part94 i arg1 harg1 arg2 harg2 arg3 harg3 arg4 harg4 arg5 harg5 arg6 harg6 arg7 harg7 arg8 harg8 arg9 harg9 arg10 harg10 arg12 arg13 k0_hw1 v3403 v3463 v3465 v3487
  let ⟨v3547, v3555, v3557, v3561⟩ : Σ' (v3547 : BitVec 32) (v3555 : FVec F S1x512 .f32) (v3557 : FVec F S1x512 .f32), FVec F S512x512 .bf16 ← k0_part95 i arg1 harg1 arg2 harg2 arg3 harg3 arg4 harg4 arg5 harg5 arg6 harg6 arg7 harg7 arg8 harg8 arg9 harg9 arg10 harg10 arg12 arg13 k0_hw1 v3463 v3465 v3523 v3525 c31_i32_1946
  let ⟨v3583, v3585, v3597, v3600⟩ : Σ' (v3583 : BitVec 32) (v3585 : BitVec 32) (v3597 : FVec F S512x512 .f32), FVec F S512x512 .f32 ← k0_part96 i arg1 harg1 arg2 harg2 arg3 harg3 arg4 harg4 arg5 harg5 arg6 harg6 arg7 harg7 arg8 harg8 arg9 harg9 arg10 harg10 arg12 arg13 k0_hw1 v3463 v3523 v3525 v3547 v3555 v3557 v3561
  let ⟨v3631, v3637⟩ : Σ' (v3631 : FVec F S144x512 .f32), Vec F S1x144x512 .f32 ← k0_part97 i arg1 harg1 arg2 harg2 arg3 harg3 arg4 harg4 arg5 harg5 arg6 harg6 arg7 harg7 arg8 harg8 arg9 harg9 arg10 harg10 arg12 arg13 k0_hw1 v3523 v3525 v3597 v3600
  let ⟨v3643, v3645, v3667, v3668, v3671⟩ : Σ' (v3643 : BitVec 32) (v3645 : BitVec 32) (v3667 : BitVec 32) (v3668 : Vec F S512x512 .f32), FVec F S1x512 .f32 ← k0_part98 i arg1 harg1 arg2 harg2 arg3 harg3 arg4 harg4 arg5 harg5 arg6 harg6 arg7 harg7 arg8 harg8 arg9 harg9 arg10 harg10 arg12 arg13 k0_hw1 v3583 v3585 v3631 v3637
  let ⟨v3703, v3705, v3708⟩ : Σ' (v3703 : BitVec 32) (v3705 : BitVec 32), BitVec 32 ← k0_part99 i arg1 harg1 arg2 harg2 arg3 harg3 arg4 harg4 arg5 harg5 arg6 harg6 arg7 harg7 arg8 harg8 arg9 harg9 arg10 harg10 arg12 arg13 k0_hw1 v3583 v3643 v3645 v3667 v3668 v3671
  let ⟨v3735, v3741, v3746, v3749⟩ : Σ' (v3735 : FVec F S1x512 .f32) (v3741 : FVec F S512x512 .bf16) (v3746 : FVec F S144x512 .f32), FVec F S144x512 .bf16 ← k0_part100 i arg1 harg1 arg2 harg2 arg3 harg3 arg4 harg4 arg5 harg5 arg6 harg6 arg7 harg7 arg8 harg8 arg9 harg9 arg10 harg10 arg12 arg13 k0_hw1 v3643 v3645 v3708
  have cst_2069 : FVec F S144x512 .f32 := constant S144x512 .f32 0x00000000#32
  have v3750 : FVec F S144x512 .f32 := matmul dot_S144x512_S512x512_S144x512_1_0_0_1_n_n none v3749 v3741 cst_2069
  have v3751 : FVec F S144x512 .f32 := addf v3746 v3750
  let v3752 : Index := Scalar.indexCast v3643
  let c0_2070 : Index := 0#32
  let c0_2071 : Index := 0#32
  let v3753 : Vec F S1x1x512 .f32 ← Prog.lift (.load arg9 (Rect.unit (s := S32x1x512) (k0_off308 arg12 arg13) S1x1x512.size (k0_off308_inb arg12 arg13 k0_hw1)).toLoadRect (View.loadsAt_vmem h_S1x1x512))
  have v3754 : FVec F S1x512 .f32 := shapeCast S1x512 v3753 shapeCasts_S1x1x512_S1x512
  have v3755 : FVec F S1x1x512 .f32 := shapeCast S1x1x512 v3735 shapeCasts_S1x512_S1x1x512
  Prog.lift (.store arg9 (Rect.unit (s := S32x1x512) (k0_off308 arg12 arg13) S1x1x512.size (k0_off308_inb arg12 arg13 k0_hw1)) v3755 Finset.univ (View.stores_vmem_bits_univ h_S1x1x512 rfl) (.inl rfl))
  let v3756 : Index := Scalar.indexCast v3643
  let c0_2072 : Index := 0#32
  let c0_2073 : Index := 0#32
  let v3757 : Vec F S1x144x512 .f32 ← Prog.lift (.load arg10 (Rect.unit (s := S32x144x512) (k0_off309 arg12 arg13) S1x144x512.size (k0_off309_inb arg12 arg13 k0_hw1)).toLoadRect (View.loadsAt_vmem h_S1x144x512))
  have v3758 : FVec F S144x512 .f32 := shapeCast S144x512 v3757 shapeCasts_S1x144x512_S144x512
  have v3759 : FVec F S1x144x512 .f32 := shapeCast S1x144x512 v3751 shapeCasts_S144x512_S1x144x512
  Prog.lift (.store arg10 (Rect.unit (s := S32x144x512) (k0_off309 arg12 arg13) S1x144x512.size (k0_off309_inb arg12 arg13 k0_hw1)) v3759 Finset.univ (View.stores_vmem_bits_univ h_S1x144x512 rfl) (.inl rfl))
  pure (v3703, v3705)

set_option maxHeartbeats 4000000 in
/-- A trip of the walk below the diagonal is 62 steps, once its accesses are known to lie inside their buffers. -/
theorem flatBody_eq (i : grid0.Coords) (arg1 : Memref sig .tc .vmem S1x192x16384 .bf16) (harg1 : arg1.IsWhole) (arg2 : Memref sig .tc .vmem S16384x256 .bf16) (harg2 : arg2.IsWhole) (arg3 : Memref sig .tc .vmem S1x144x16384 .bf16) (harg3 : arg3.IsWhole) (arg4 : Memref sig .tc .vmem S16384x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S32x1x512 .f32) (harg9 : arg9.IsWhole) (arg10 : Memref sig .tc .vmem S32x144x512 .f32) (harg10 : arg10.IsWhole) (k0_t1 : Fin k0_t1_loop.trips) (w : BitVec 32 × BitVec 32) (h : FlatOK 62 w.1 w.2) :
    flatBody (F := F) i arg1 harg1 arg2 harg2 arg3 harg3 arg4 harg4 arg5 harg5 arg6 harg6 arg7 harg7 arg8 harg8 arg9 harg9 arg10 harg10 k0_t1 w
      = .op (.assume (k0_chk2 w.1) (k0_chk2.dec w.1)) fun _ => .op (.assume (k0_chk1 w.1 w.2) (k0_chk1.dec w.1 w.2)) fun _ => flatChain arg1 arg2 arg3 arg9 arg10 62 arg5 arg6 arg7 arg8 w.1 w.2 h := by chain_rfl

set_option maxHeartbeats 4000000 in
/-- The body of the kernel, read as its four pieces. -/
theorem body_eq (i : grid0.Coords) (arg1 : Memref sig .tc .vmem S1x192x16384 .bf16) (harg1 : arg1.IsWhole) (arg2 : Memref sig .tc .vmem S16384x256 .bf16) (harg2 : arg2.IsWhole) (arg3 : Memref sig .tc .vmem S1x144x16384 .bf16) (harg3 : arg3.IsWhole) (arg4 : Memref sig .tc .vmem S16384x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S32x1x512 .f32) (harg9 : arg9.IsWhole) (arg10 : Memref sig .tc .vmem S32x144x512 .f32) (harg10 : arg10.IsWhole) :
    cc0_mla_attn (F := F) i arg1 harg1 arg2 harg2 arg3 harg3 arg4 harg4 arg5 harg5 arg6 harg6 arg7 harg7 arg8 harg8 arg9 harg9 arg10 harg10
      = flatStart arg1 arg2 arg5 arg7 arg9 arg10 ((Scf.Loop.for k0_t1_loop k0_t1_ok (1#32, 0#32) (flatBody i arg1 harg1 arg2 harg2 arg3 harg3 arg4 harg4 arg5 harg5 arg6 harg6 arg7 harg7 arg8 harg8 arg9 harg9 arg10 harg10) >>= fun _ => .ret (⟨0#32, 0#32⟩ : Σ' (_ : BitVec 32), BitVec 32)) >>= fun _ =>
          diagStart arg1 arg2 arg5 (Scf.Loop.for k0_t2_loop k0_t2_ok ⟨⟩ (fun t _ => diagBody arg1 arg2 arg3 arg4 harg4 arg5 arg6 arg9 arg10 t) >>= fun _ => .ret ⟨⟩)) := by chain_rfl

end Cert.KernelIdeal.Att

end
-- ==== Proof.Body.lean ====
/-
  The attention kernel's body, run: from the three inputs and any contents of the rest it leaves the inputs as they
  were and the result at `attnOut` of them.
-/
module

public import proofs.«01_k».proof.Proof.Step
public import proofs.«01_k».proof.Proof.Whole

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal
open Facts₀ Facts

variable {F : FTy → Type} [FloatOps F]

local notation "𝕄" => MT nD τ sig Unit (Elt F) ℕ (UR sig nD τ) ℕ

/-! ## What a call leaves -/

/-- The carried arrays after the whole walk below the diagonal. -/
def flatEnd (Q : Vec F S1x192x16384 .bf16) (K : Vec F S16384x256 .bf16) (V : Vec F S1x144x16384 .bf16) : FState F :=
  fstate Q K V (start Q K (tileS Q K 1 0) (tileM Q K 1 0)) 496

/-- The result of one call: row by row, what the diagonal's step writes. -/
def attnOut (Q : Vec F S1x192x16384 .bf16) (K : Vec F S16384x256 .bf16) (V : Vec F S1x144x16384 .bf16) : Vec F S16384x128 .bf16 := fun y =>
  rowOut V (flatEnd Q K V).mx (flatEnd Q K V).ac (tileS Q K ((y 0).val / 512) ((y 0).val / 512)) ((y 0).val / 512)
    (fun a => match a with | 0 => ⟨(y 0).val % 512, Nat.mod_lt _ (by decide)⟩ | 1 => ⟨(y 1).val, (y 1).isLt⟩)

/-- The walk below the diagonal reads nothing of the pair of buffers it fills next. -/
theorem fstate_congr (Q : Vec F S1x192x16384 .bf16) (K : Vec F S16384x256 .bf16) (V : Vec F S1x144x16384 .bf16) (S S' : FState F)
    (h1 : S.sc = S'.sc) (h2 : S.mc = S'.mc) (h3 : S.mx = S'.mx) (h4 : S.ac = S'.ac) (u : ℕ) :
    (fstate Q K V S u).sc = (fstate Q K V S' u).sc ∧ (fstate Q K V S u).mc = (fstate Q K V S' u).mc
      ∧ (fstate Q K V S u).mx = (fstate Q K V S' u).mx ∧ (fstate Q K V S u).ac = (fstate Q K V S' u).ac := by
  induction u with
  | zero => exact ⟨h1, h2, h3, h4⟩
  | succ u ih =>
    rw [fstate_succ, fstate_succ]
    refine ⟨rfl, rfl, ?_, ?_⟩
    · simp only [fstep]; rw [ih.2.1, ih.2.2.1]
    · simp only [fstep]; rw [ih.1, ih.2.1, ih.2.2.1, ih.2.2.2]

/-- Along the diagonal the score buffer at hand holds the row's diagonal tile. -/
theorem dstate_sc (Q : Vec F S1x192x16384 .bf16) (K : Vec F S16384x256 .bf16) (V : Vec F S1x144x16384 .bf16) (mx : Vec F S32x1x512 .f32) (ac : Vec F S32x144x512 .f32)
    (D : DState F) (h : D.sc = tileS Q K 0 0) (r : ℕ) : (dstate Q K V mx ac D r).sc = tileS Q K r r := by
  cases r with
  | zero => exact h
  | succ r => rfl

/-- After `r` rows of the diagonal the first `512 r` rows of the result are written. -/
theorem dstate_out (Q : Vec F S1x192x16384 .bf16) (K : Vec F S16384x256 .bf16) (V : Vec F S1x144x16384 .bf16) (D : DState F) (h : D.sc = tileS Q K 0 0) (r : ℕ) (hr : r ≤ 32) :
    ∀ y : S16384x128.Idx, (y 0).val < 512 * r → (dstate Q K V (flatEnd Q K V).mx (flatEnd Q K V).ac D r).out y = attnOut Q K V y := by
  induction r with
  | zero => intro y hy; omega
  | succ r ih =>
    intro y hy
    rw [dstate_succ]
    dsimp only [dstep]
    rw [dstate_sc Q K V _ _ D h]
    unfold VecWindow.put
    have h1 : (y 1).val < 128 := (y 1).isLt
    by_cases hin : ∀ a, (![512 * min r 31, 0] : Fin 2 → ℕ) a ≤ (y a).val ∧ (y a).val < (![512 * min r 31, 0] : Fin 2 → ℕ) a + S512x128.size a
    · rw [dif_pos hin]
      have h0 : 512 * min r 31 ≤ (y 0).val ∧ (y 0).val < 512 * min r 31 + 512 := hin 0
      have hd : (y 0).val / 512 = r := by omega
      unfold attnOut
      rw [hd]
      refine congrArg _ (funext (Fin.forall_fin_two.2 ⟨Fin.ext ?_, Fin.ext ?_⟩))
      · show (y 0).val - 512 * min r 31 = (y 0).val % 512
        omega
      · show (y 1).val - 0 = (y 1).val
        omega
    · rw [dif_neg hin]
      refine ih (by omega) y ?_
      by_contra hge
      exact hin (Fin.forall_fin_two.2 ⟨⟨by show 512 * min r 31 ≤ (y 0).val; omega, by show (y 0).val < 512 * min r 31 + 512; omega⟩,
        ⟨by show 0 ≤ (y 1).val; omega, by show (y 1).val < 0 + 128; omega⟩⟩)

/-! ## One step along the diagonal -/

/-- The full loop makes eight trips. -/
theorem trips1 : k0_t1_loop.trips = 8 := by decide +kernel
/-- The diagonal's loop makes four trips. -/
theorem trips2 : k0_t2_loop.trips = 4 := by decide +kernel

/-- Where the accesses of the diagonal's step at trip `t`, place `u`, begin. -/
theorem diagOffs : ∀ (t : Fin k0_t2_loop.trips) (u : Fin 8),
    k0_off311 t (BitVec.ofNat 32 u.val) = ![512 * min (8 * t.val + u.val + 1) 31, 0] ∧ k0_off312 t (BitVec.ofNat 32 u.val) = ![0, 0, 512 * min (8 * t.val + u.val + 1) 31]
    ∧ k0_off313 t (BitVec.ofNat 32 u.val) = ![min (8 * t.val + u.val) 31, 0, 0] ∧ k0_off314 t (BitVec.ofNat 32 u.val) = ![min (8 * t.val + u.val) 31, 0, 0]
    ∧ k0_off315 t (BitVec.ofNat 32 u.val) = ![0, 0, 512 * min (8 * t.val + u.val) 31] ∧ k0_off316 t (BitVec.ofNat 32 u.val) = ![512 * min (8 * t.val + u.val) 31, 0] := by decide +kernel

/-- The inputs, the carried arrays, the two score buffers and the result, each at its contents. -/
def heldD (c : Dev nD) (arg1 : Memref sig .tc .vmem S1x192x16384 .bf16) (arg2 : Memref sig .tc .vmem S16384x256 .bf16) (arg3 : Memref sig .tc .vmem S1x144x16384 .bf16)
    (arg4 : Memref sig .tc .vmem S16384x128 .bf16) (sc sn : Memref sig .tc .vmem S512x512 .f32) (arg9 : Memref sig .tc .vmem S32x1x512 .f32) (arg10 : Memref sig .tc .vmem S32x144x512 .f32)
    (Q : Vec F S1x192x16384 .bf16) (K : Vec F S16384x256 .bf16) (V : Vec F S1x144x16384 .bf16) (mx : Vec F S32x1x512 .f32) (ac : Vec F S32x144x512 .f32) (D : DState F) : sProp 𝕄 :=
  iprop(owns (c : Thread nD τ) arg1 fullShare Q ∗ owns (c : Thread nD τ) arg2 fullShare K ∗ owns (c : Thread nD τ) arg3 fullShare V
    ∗ owns (c : Thread nD τ) arg9 fullShare mx ∗ owns (c : Thread nD τ) arg10 fullShare ac
    ∗ owns (c : Thread nD τ) sc fullShare D.sc ∗ owns (c : Thread nD τ) sn fullShare D.sn ∗ owns (c : Thread nD τ) arg4 fullShare D.out)

/-- One step's program along the diagonal takes the contents to the model's, the score buffers changing places. -/
theorem wp_diagStep (c : Dev nD) (arg1 : Memref sig .tc .vmem S1x192x16384 .bf16) (arg2 : Memref sig .tc .vmem S16384x256 .bf16) (arg3 : Memref sig .tc .vmem S1x144x16384 .bf16)
    (arg4 : Memref sig .tc .vmem S16384x128 .bf16) (harg4 : arg4.IsWhole) (sc sn : Memref sig .tc .vmem S512x512 .f32)
    (arg9 : Memref sig .tc .vmem S32x1x512 .f32) (arg10 : Memref sig .tc .vmem S32x144x512 .f32)
    (Q : Vec F S1x192x16384 .bf16) (K : Vec F S16384x256 .bf16) (V : Vec F S1x144x16384 .bf16) (mx : Vec F S32x1x512 .f32) (ac : Vec F S32x144x512 .f32) (D : DState F) {α : Type}
    (t : Fin k0_t2_loop.trips) (u : Fin 8) (r : ℕ) (hr : r = 8 * t.val + u.val)
    (rest : Prog (TpuEff nD τ sig (Elt F) Λ₀ .tc) α) (post : α → sProp 𝕄)
    (hk : heldD c arg1 arg2 arg3 arg4 sn sc arg9 arg10 Q K V mx ac (dstate Q K V mx ac D (r + 1)) ⊢ wp frame (wpE (defs₀ (F := F)) Variants.none (c : Thread nD τ) none) Set.univ rest post) :
    heldD c arg1 arg2 arg3 arg4 sc sn arg9 arg10 Q K V mx ac (dstate Q K V mx ac D r)
      ⊢ wp frame (wpE (defs₀ (F := F)) Variants.none (c : Thread nD τ) none) Set.univ (diagStep arg1 arg2 arg3 arg4 harg4 sc sn arg9 arg10 t u rest) post := by
  subst hr
  obtain ⟨hK, hQ, hM, hA, hV, hO⟩ := diagOffs t u
  revert hk
  rw [dstate_succ]
  generalize dstate Q K V mx ac D (8 * t.val + u.val) = D
  intro hk
  unfold heldD diagStep
  iintro ⟨H1, H2, H3, Hm, Ha, Hsc, Hsn, H4⟩
  iapply (load_box c arg2 K _ hK (inbK _)) $$ H2; iintro H2
  iapply (load_box c arg1 Q _ hQ (inbQ _)) $$ H1; iintro H1
  iapply (load_all c sn D.sn inb_S512x512_S512x512_0_0 _ _ _) $$ Hsn; iintro Hsn
  iapply (store_all c sn D.sn inb_S512x512_S512x512_0_0 _ _ _ _ _) $$ Hsn; iintro Hsn
  iapply (load_all c sc D.sc inb_S512x512_S512x512_0_0 _ _ _) $$ Hsc; iintro Hsc
  iapply (load_box c arg9 mx _ hM (inbM _)) $$ Hm; iintro Hm
  iapply (load_box c arg10 ac _ hA (inbA _)) $$ Ha; iintro Ha
  iapply (load_box c arg3 V _ hV (inbV _)) $$ H3; iintro H3
  iapply (load_box c arg4 D.out _ hO (inbO _)) $$ H4; iintro H4
  iapply (store_box c arg4 D.out _ hO) $$ H4; iintro H4
  iapply hk
  unfold heldD
  dsimp only [dstep, tileS, rowOut, lastM, keyT, qryT, valT, rowOfM, rowOfA]
  isplitl [H1]; · iexact H1
  isplitl [H2]; · iexact H2
  isplitl [H3]; · iexact H3
  isplitl [Hm]; · iexact Hm
  isplitl [Ha]; · iexact Ha
  isplitl [Hsn]; · iexact Hsn
  isplitl [Hsc]; · iexact Hsc
  iexact H4

/-- One trip along the diagonal: eight rows. -/
theorem wp_diagBody (c : Dev nD) (arg1 : Memref sig .tc .vmem S1x192x16384 .bf16) (arg2 : Memref sig .tc .vmem S16384x256 .bf16) (arg3 : Memref sig .tc .vmem S1x144x16384 .bf16)
    (arg4 : Memref sig .tc .vmem S16384x128 .bf16) (harg4 : arg4.IsWhole) (arg5 arg6 : Memref sig .tc .vmem S512x512 .f32)
    (arg9 : Memref sig .tc .vmem S32x1x512 .f32) (arg10 : Memref sig .tc .vmem S32x144x512 .f32)
    (Q : Vec F S1x192x16384 .bf16) (K : Vec F S16384x256 .bf16) (V : Vec F S1x144x16384 .bf16) (mx : Vec F S32x1x512 .f32) (ac : Vec F S32x144x512 .f32) (D : DState F)
    (t : Fin k0_t2_loop.trips) :
    heldD c arg1 arg2 arg3 arg4 arg5 arg6 arg9 arg10 Q K V mx ac (dstate Q K V mx ac D (8 * t.val))
      ⊢ wp frame (wpE (defs₀ (F := F)) Variants.none (c : Thread nD τ) none) Set.univ (diagBody arg1 arg2 arg3 arg4 harg4 arg5 arg6 arg9 arg10 t)
        (fun _ => heldD c arg1 arg2 arg3 arg4 arg5 arg6 arg9 arg10 Q K V mx ac (dstate Q K V mx ac D (8 * (t.val + 1)))) := by
  unfold diagBody
  refine wp_diagStep c arg1 arg2 arg3 arg4 harg4 arg5 arg6 arg9 arg10 Q K V mx ac D t 0 _ rfl _ _ ?_
  refine wp_diagStep c arg1 arg2 arg3 arg4 harg4 arg6 arg5 arg9 arg10 Q K V mx ac D t 1 _ rfl _ _ ?_
  refine wp_diagStep c arg1 arg2 arg3 arg4 harg4 arg5 arg6 arg9 arg10 Q K V mx ac D t 2 _ rfl _ _ ?_
  refine wp_diagStep c arg1 arg2 arg3 arg4 harg4 arg6 arg5 arg9 arg10 Q K V mx ac D t 3 _ rfl _ _ ?_
  refine wp_diagStep c arg1 arg2 arg3 arg4 harg4 arg5 arg6 arg9 arg10 Q K V mx ac D t 4 _ rfl _ _ ?_
  refine wp_diagStep c arg1 arg2 arg3 arg4 harg4 arg6 arg5 arg9 arg10 Q K V mx ac D t 5 _ rfl _ _ ?_
  refine wp_diagStep c arg1 arg2 arg3 arg4 harg4 arg5 arg6 arg9 arg10 Q K V mx ac D t 6 _ rfl _ _ ?_
  refine wp_diagStep c arg1 arg2 arg3 arg4 harg4 arg6 arg5 arg9 arg10 Q K V mx ac D t 7 _ rfl _ _ ?_
  exact exec_ret _ _ _ _ _ .rfl

/-! ## The trips of the walk below the diagonal -/

/-- A trip's side conditions can be decided. -/
instance decChecks (a b : BitVec 32) : Decidable (k0_chk2 a ∧ k0_chk1 a b) := @instDecidableAnd _ _ (k0_chk2.dec a) (k0_chk1.dec a b)

/-- The side conditions a trip of the walk assumes hold of the words it is reached with. -/
theorem checks : ∀ t : Fin 8, k0_chk2 (word (62 * t.val)).1 ∧ k0_chk1 (word (62 * t.val)).1 (word (62 * t.val)).2 := by decide +kernel

/-- The walk's carried words and the buffers' contents before trip `t`. -/
def flatInv (c : Dev nD) (arg1 : Memref sig .tc .vmem S1x192x16384 .bf16) (arg2 : Memref sig .tc .vmem S16384x256 .bf16) (arg3 : Memref sig .tc .vmem S1x144x16384 .bf16)
    (sc sn : Memref sig .tc .vmem S512x512 .f32) (mc mn : Memref sig .tc .vmem S8x512 .f32) (arg9 : Memref sig .tc .vmem S32x1x512 .f32) (arg10 : Memref sig .tc .vmem S32x144x512 .f32)
    (Q : Vec F S1x192x16384 .bf16) (K : Vec F S16384x256 .bf16) (V : Vec F S1x144x16384 .bf16) (S₀ : FState F) (t : ℕ) (w : BitVec 32 × BitVec 32) : sProp 𝕄 :=
  iprop(⌜w = word (62 * t)⌝ ∗ held c arg1 arg2 arg3 sc sn mc mn arg9 arg10 Q K V (fstate Q K V S₀ (62 * t)))

/-- A trip of the walk below the diagonal. -/
theorem wp_flatBody (c : Dev nD) (i : grid0.Coords) (arg1 : Memref sig .tc .vmem S1x192x16384 .bf16) (harg1 : arg1.IsWhole) (arg2 : Memref sig .tc .vmem S16384x256 .bf16) (harg2 : arg2.IsWhole)
    (arg3 : Memref sig .tc .vmem S1x144x16384 .bf16) (harg3 : arg3.IsWhole) (arg4 : Memref sig .tc .vmem S16384x128 .bf16) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S8x512 .f32) (harg7 : arg7.IsWhole) (arg8 : Memref sig .tc .vmem S8x512 .f32) (harg8 : arg8.IsWhole)
    (arg9 : Memref sig .tc .vmem S32x1x512 .f32) (harg9 : arg9.IsWhole) (arg10 : Memref sig .tc .vmem S32x144x512 .f32) (harg10 : arg10.IsWhole)
    (Q : Vec F S1x192x16384 .bf16) (K : Vec F S16384x256 .bf16) (V : Vec F S1x144x16384 .bf16) (S₀ : FState F) (t : Fin k0_t1_loop.trips) (w : BitVec 32 × BitVec 32) :
    flatInv c arg1 arg2 arg3 arg5 arg6 arg7 arg8 arg9 arg10 Q K V S₀ t.val w
      ⊢ wp frame (wpE (defs₀ (F := F)) Variants.none (c : Thread nD τ) none) Set.univ
          (flatBody i arg1 harg1 arg2 harg2 arg3 harg3 arg4 harg4 arg5 harg5 arg6 harg6 arg7 harg7 arg8 harg8 arg9 harg9 arg10 harg10 t w)
          (flatInv c arg1 arg2 arg3 arg5 arg6 arg7 arg8 arg9 arg10 Q K V S₀ (t.val + 1)) := by
  unfold flatInv
  have ht : t.val < 8 := trips1 ▸ t.isLt
  have hc := checks ⟨t.val, ht⟩
  iintro ⟨%hw, H⟩
  have h : FlatOK 62 w.1 w.2 := by rw [hw]; exact flatOK_word 62 _ (by omega)
  rw [flatBody_eq _ _ _ _ _ _ _ _ _ _ _ _ _ _ _ _ _ _ _ _ _ _ w h]
  rw [← hw] at hc
  have hk := wp_flatChain c arg1 arg2 arg3 arg9 arg10 Q K V S₀
    (fun w => iprop(⌜w = word (62 * (t.val + 1))⌝ ∗ held c arg1 arg2 arg3 arg5 arg6 arg7 arg8 arg9 arg10 Q K V (fstate Q K V S₀ (62 * (t.val + 1))))) 62
    arg5 arg6 arg7 arg8 (62 * t.val) (by omega) w hw h (by
      rw [if_pos (by decide), show 62 * t.val + 62 = 62 * (t.val + 1) by omega]
      iintro H
      isplitr; · ipureintro; rfl
      iexact H)
  iapply (exec_assume Variants.none (c : Thread nD τ) none Set.univ _ _ hc.1 (exec_assume Variants.none (c : Thread nD τ) none Set.univ _ _ hc.2 hk))
  iexact H

end Cert.KernelIdeal.Att

end
-- ==== Proof.Pure.lean ====
/-
  The attention kernel's vector operations read at an index, the floats being extended reals.
-/
module

public import proofs.«01_k».proof.Proof.Model
public import Idealize.ShloMosaic.Lib.Pointwise

@[expose] public section

set_option maxRecDepth 16384

noncomputable section

namespace Cert.KernelIdeal.Att

open Idealize.ShloMosaic Idealize.ShloMosaic.TcCoe
open Cert.KernelIdeal
open Facts₀ Facts

/-- The pattern of minus infinity. -/
theorem negInf : Ideal.ofBits .f32 0xFF800000#32 = ⊥ := by simp [Ideal.ofBits, Ideal.ieee]

/-- A tile of scores at a key and a query: the sum of products over the 192 coordinates. -/
theorem scores_at (kt : Vec Ideal S512x192 .bf16) (qt : Vec Ideal S1x192x512 .bf16) (k q : Fin 512) :
    scores (F := Ideal) kt qt (ix2 k q) = ∑ d : Fin 192, (show EReal from kt (ix2 k d)) * (show EReal from qt (ix3 0 d q)) := by
  pointwise [scores]

/-- The maxima over every eighth key. -/
theorem max8_at (st : FVec Ideal S512x512 .f32) (r : Fin 8) (q : Fin 512) :
    max8 (F := Ideal) st (ix2 r q) = Finset.univ.fold max ⊥ fun g : Fin 64 => (show EReal from st (ix2 ⟨g.val * 8 + r.val, by omega⟩ q)) := by
  pointwise [max8]
  rw [negInf]

/-- The maximum of those. -/
theorem maxOf8_at (mb : Vec Ideal S8x512 .f32) (q : Fin 512) :
    maxOf8 (F := Ideal) mb (ix2 0 q) = Finset.univ.fold max ⊥ fun g : Fin 8 => (show EReal from mb (ix2 g q)) := by
  pointwise [maxOf8]
  rw [negInf]

/-- A whole tile's maximum. -/
theorem maxAll_at (st : Vec Ideal S512x512 .f32) (q : Fin 512) :
    maxAll (F := Ideal) st (ix2 0 q) = Finset.univ.fold max ⊥ fun g : Fin 512 => (show EReal from st (ix2 g q)) := by
  pointwise [maxAll]
  rw [negInf]

/-- A weight: two to the score less the maximum. -/
theorem weights_at (st : Vec Ideal S512x512 .f32) (mn : FVec Ideal S1x512 .f32) (k q : Fin 512) :
    weights (F := Ideal) st mn (ix2 k q) = Ideal.exp2 ((show EReal from st (ix2 k q)) - (show EReal from mn (ix2 0 q))) := by
  pointwise [weights]
  rfl

/-- The carried sums after a tile. -/
theorem accNew_at (mp mn : FVec Ideal S1x512 .f32) (acc : Vec Ideal S1x144x512 .f32) (vt : Vec Ideal S1x144x512 .bf16) (p : FVec Ideal S512x512 .bf16) (d : Fin 144) (q : Fin 512) :
    accNew (F := Ideal) mp mn acc vt p (ix2 d q)
      = Ideal.exp2 ((show EReal from mp (ix2 0 q)) - (show EReal from mn (ix2 0 q))) * (show EReal from acc (ix3 0 d q))
        + ∑ k : Fin 512, (show EReal from vt (ix3 0 d k)) * (show EReal from p (ix2 k q)) := by
  pointwise [accNew]
  rfl

/-- Words below 512 compare as numbers. -/
theorem sle_small {α : Type} (k q : Fin 512) (x y : α) :
    Scalar.select (IntOp.cmpi CmpIPredicate.sle (BitVec.ofNat 32 k.val) (BitVec.ofNat 32 q.val)) x y = if k.val ≤ q.val then x else y := by
  have hc : IntOp.cmpi CmpIPredicate.sle (BitVec.ofNat 32 k.val) (BitVec.ofNat 32 q.val) = 1#1 ↔ k.val ≤ q.val := by
    rw [IntOp.cmpi_sle]
    have h1 : (BitVec.ofNat 32 k.val).toInt = k.val := by rw [BitVec.toInt_eq_toNat_of_lt] <;> simp <;> omega
    have h2 : (BitVec.ofNat 32 q.val).toInt = q.val := by rw [BitVec.toInt_eq_toNat_of_lt] <;> simp <;> omega
    rw [h1, h2]; omega
  unfold Scalar.select
  by_cases h : k.val ≤ q.val
  · rw [if_pos h, if_pos (show IntOp.cmpi CmpIPredicate.sle (BitVec.ofNat 32 k.val) (BitVec.ofNat 32 q.val) = 1 from hc.2 h)]
  · rw [if_neg h, if_neg (show ¬ IntOp.cmpi CmpIPredicate.sle (BitVec.ofNat 32 k.val) (BitVec.ofNat 32 q.val) = 1 from fun e => h (hc.1 e))]

/-- The diagonal tile's scores, a key after its query at minus infinity. -/
theorem masked_at (st : Vec Ideal S512x512 .f32) (k q : Fin 512) :
    masked (F := Ideal) st (ix2 k q) = if k.val ≤ q.val then (show EReal from st (ix2 k q)) else ⊥ := by
  pointwise [masked]
  rw [negInf]
  exact sle_small k q _ _

/-- A result: a sum over the weights' sum. -/
theorem outOf_at (a : FVec Ideal S144x512 .f32) (q : Fin 512) (d : Fin 128) :
    outOf (F := Ideal) a (ix2 q d) = Ideal.div (show EReal from a (ix2 ⟨d.val, by omega⟩ q)) (show EReal from a (ix2 ⟨128, by omega⟩ q)) := by
  pointwise [outOf]

/-- A tile of scores at a key and a query, from the whole arrays. -/
theorem tileS_at (Q : Vec Ideal S1x192x16384 .bf16) (K : Vec Ideal S16384x256 .bf16) (a b : ℕ) (ha : a < 32) (hb : b < 32) (k q : Fin 512) :
    tileS (F := Ideal) Q K a b (ix2 k q)
      = ∑ d : Fin 192, (show EReal from K (ix2 ⟨512 * b + k.val, by omega⟩ ⟨d.val, by omega⟩)) * (show EReal from Q (ix3 0 d ⟨512 * a + q.val, by omega⟩)) := by
  unfold tileS
  pointwise
  rw [scores_at]
  refine Finset.sum_congr rfl fun d _ => ?_
  unfold keyT qryT VecWindow.window
  refine congrArg₂ (fun x y : EReal => x * y) (congrArg K ?_) (congrArg Q ?_)
  · refine funext (Fin.forall_fin_two.2 ⟨Fin.ext ?_, Fin.ext ?_⟩)
    · show 512 * min b 31 + 1 * k.val = 512 * b + k.val
      omega
    · show 0 + 1 * d.val = d.val
      omega
  · funext x
    match x with
    | 0 => exact Fin.ext rfl
    | 1 => refine Fin.ext ?_; show 0 + 1 * d.val = d.val; omega
    | 2 => refine Fin.ext ?_; show 512 * min a 31 + 1 * q.val = 512 * a + q.val; omega

/-- A tile's maxima over every eighth key, from its scores. -/
theorem tileM_at (Q : Vec Ideal S1x192x16384 .bf16) (K : Vec Ideal S16384x256 .bf16) (a b : ℕ) (r : Fin 8) (q : Fin 512) :
    tileM (F := Ideal) Q K a b (ix2 r q) = Finset.univ.fold max ⊥ fun g : Fin 64 => (show EReal from tileS (F := Ideal) Q K a b (ix2 ⟨g.val * 8 + r.val, by omega⟩ q)) := by
  unfold tileM tileS
  pointwise
  rw [max8_at]

/-- A row's carried maximum. -/
theorem rowM_at (m : Vec Ideal S32x1x512 .f32) (r : ℕ) (hr : r < 32) (q : Fin 512) :
    rowM (F := Ideal) (rowOfM m r) (ix2 0 q) = m (ix3 ⟨r, hr⟩ 0 q) := by
  pointwise [rowM]
  unfold rowOfM VecWindow.window
  refine congrArg m ?_
  funext x
  match x with
  | 0 => refine Fin.ext ?_; show min r 31 + 1 * 0 = r; omega
  | 1 => exact Fin.ext rfl
  | 2 => refine Fin.ext ?_; show 0 + 1 * q.val = q.val; omega

/-- A row's carried sums. -/
theorem rowOfA_at (m : Vec Ideal S32x144x512 .f32) (r : ℕ) (hr : r < 32) (d : Fin 144) (q : Fin 512) :
    rowOfA (F := Ideal) m r (ix3 0 d q) = m (ix3 ⟨r, hr⟩ d q) := by
  unfold rowOfA VecWindow.window
  refine congrArg m ?_
  funext x
  match x with
  | 0 => refine Fin.ext ?_; show min r 31 + 1 * 0 = r; omega
  | 1 => refine Fin.ext ?_; show 0 + 1 * d.val = d.val; omega
  | 2 => refine Fin.ext ?_; show 0 + 1 * q.val = q.val; omega

/-- A column's values. -/
theorem valT_at (V : Vec Ideal S1x144x16384 .bf16) (b : ℕ) (hb : b < 32) (d : Fin 144) (k : Fin 512) :
    valT (F := Ideal) V b (ix3 0 d k) = V (ix3 0 d ⟨512 * b + k.val, by omega⟩) := by
  unfold valT VecWindow.window
  refine congrArg V ?_
  funext x
  match x with
  | 0 => exact Fin.ext rfl
  | 1 => refine Fin.ext ?_; show 0 + 1 * d.val = d.val; omega
  | 2 => refine Fin.ext ?_; show 512 * min b 31 + 1 * k.val = 512 * b + k.val; omega

/-- The carried maxima after one row's is put. -/
theorem putM_at (m : Vec Ideal S32x1x512 .f32) (a : ℕ) (ha : a < 32) (w : FVec Ideal S1x512 .f32) (r : Fin 32) (q : Fin 512) :
    VecWindow.put m ![min a 31, 0, 0] S1x1x512.size (shapeCast S1x1x512 w shapeCasts_S1x512_S1x1x512) (ix3 r 0 q)
      = if r.val = a then w (ix2 0 q) else m (ix3 r 0 q) := by
  unfold VecWindow.put
  by_cases h : r.val = a
  · have hc : ∀ x, (![min a 31, 0, 0] : Fin 3 → ℕ) x ≤ ((ix3 r 0 q : S32x1x512.Idx) x).val ∧ ((ix3 r 0 q : S32x1x512.Idx) x).val < (![min a 31, 0, 0] : Fin 3 → ℕ) x + S1x1x512.size x :=
      fun x => match x with | 0 => by show min a 31 ≤ r.val ∧ r.val < min a 31 + 1; omega | 1 => by show 0 ≤ 0 ∧ 0 < 0 + 1; omega | 2 => by show 0 ≤ q.val ∧ q.val < 0 + 512; omega
    rw [if_pos h, dif_pos hc]
    · have e : (Rect.unitLocal (s := S32x1x512) (off := ![min a 31, 0, 0]) (size := S1x1x512.size) (ix3 r 0 q) hc) = (ix3 0 0 q : S1x1x512.Idx) := by
        funext x
        match x with
        | 0 => refine Fin.ext ?_; show r.val - min a 31 = 0; omega
        | 1 => exact Fin.ext rfl
        | 2 => refine Fin.ext ?_; show q.val - 0 = q.val; omega
      rw [e]
      pointwise
  · rw [if_neg h, dif_neg]
    intro hh
    have := hh 0
    have h0 : min a 31 ≤ r.val ∧ r.val < min a 31 + 1 := this
    omega

/-- The carried sums after one row's are put. -/
theorem putA_at (m : Vec Ideal S32x144x512 .f32) (a : ℕ) (ha : a < 32) (w : FVec Ideal S144x512 .f32) (r : Fin 32) (d : Fin 144) (q : Fin 512) :
    VecWindow.put m ![min a 31, 0, 0] S1x144x512.size (shapeCast S1x144x512 w shapeCasts_S144x512_S1x144x512) (ix3 r d q)
      = if r.val = a then w (ix2 d q) else m (ix3 r d q) := by
  unfold VecWindow.put
  by_cases h : r.val = a
  · have hc : ∀ x, (![min a 31, 0, 0] : Fin 3 → ℕ) x ≤ ((ix3 r d q : S32x144x512.Idx) x).val ∧ ((ix3 r d q : S32x144x512.Idx) x).val < (![min a 31, 0, 0] : Fin 3 → ℕ) x + S1x144x512.size x :=
      fun x => match x with | 0 => by show min a 31 ≤ r.val ∧ r.val < min a 31 + 1; omega | 1 => by show 0 ≤ d.val ∧ d.val < 0 + 144; omega | 2 => by show 0 ≤ q.val ∧ q.val < 0 + 512; omega
    rw [if_pos h, dif_pos hc]
    · have e : (Rect.unitLocal (s := S32x144x512) (off := ![min a 31, 0, 0]) (size := S1x144x512.size) (ix3 r d q) hc) = (ix3 0 d q : S1x144x512.Idx) := by
        funext x
        match x with
        | 0 => refine Fin.ext ?_; show r.val - min a 31 = 0; omega
        | 1 => refine Fin.ext ?_; show d.val - 0 = d.val; omega
        | 2 => refine Fin.ext ?_; show q.val - 0 = q.val; omega
      rw [e]
      pointwise
  · rw [if_neg h, dif_neg]
    intro hh
    have h0 : min a 31 ≤ r.val ∧ r.val < min a 31 + 1 := hh 0
    omega

/-- The carried maxima begin at minus infinity. -/
theorem mx0_at (i : S32x1x512.Idx) : (mx0 : Vec Ideal S32x1x512 .f32) i = (⊥ : EReal) := by
  idx_vars i
  pointwise [mx0]
  exact negInf

/-- The carried sums begin at zero. -/
theorem ac0_at (i : S32x144x512.Idx) : (ac0 : Vec Ideal S32x144x512 .f32) i = (0 : EReal) := by
  idx_vars i
  pointwise [ac0]

end Cert.KernelIdeal.Att

end
-- ==== Proof.Online.lean ====
/-
  The running softmax, over extended reals: what is carried from tile to tile, how a tile changes it, and what the
  quotient at its end is.
-/
module

public import Idealize.ShloMosaic.PureOps.Ideal
public import Mathlib.Data.EReal.Operations
public import Mathlib.Analysis.SpecialFunctions.Pow.Real

@[expose] public section

noncomputable section

namespace Cert.KernelIdeal.Att

open Idealize.ShloMosaic

/-- A nonnegative real factor goes under a sum of extended reals. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih,
      EReal.left_distrib_of_nonneg_of_ne_top (EReal.coe_nonneg.2 hc) (EReal.coe_ne_top _)]

/-- A finite sum of reals as one of extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Two to a real less a real. -/
theorem exp2_coe_sub (a b : ℝ) : Ideal.exp2 ((a : EReal) - (b : EReal)) = (((2 : ℝ) ^ (-b) * (2 : ℝ) ^ a : ℝ) : EReal) := by
  rw [← EReal.coe_sub]
  show ((Real.rpow 2 (a - b) : ℝ) : EReal) = _
  rw [← Real.rpow_add (by norm_num)]
  congr 2
  ring_nf

/-- Two to minus infinity less a real. -/
theorem exp2_bot_sub (b : ℝ) : Ideal.exp2 ((⊥ : EReal) - (b : EReal)) = 0 := by
  rw [EReal.bot_sub]
  rfl

/-- The maximum of finitely many extended reals, none plus infinity and one a real, is a real. -/
theorem fold_max_real {ι : Type} (s : Finset ι) (f : ι → EReal) (ht : ∀ k ∈ s, f k ≠ ⊤) (k : ι) (hk : k ∈ s) (hb : f k ≠ ⊥) :
    ∃ B : ℝ, s.fold max ⊥ f = (B : EReal) := by
  have h1 : s.fold max ⊥ f < ⊤ := Finset.fold_max_lt _ |>.2 ⟨bot_lt_top, fun x hx => lt_top_iff_ne_top.2 (ht x hx)⟩
  have h2 : ⊥ < s.fold max ⊥ f := Finset.lt_fold_max _ |>.2 (.inr ⟨k, hk, bot_lt_iff_ne_bot.2 hb⟩)
  exact ⟨_, (EReal.coe_toReal h1.ne h2.ne').symm⟩

/-- What is carried of a query after its first `n` tiles of 512 keys: nothing yet, or a real `M` and the sums of the
    values by their weights `w` rescaled by `2 ^ (-M)`. -/
def Carried (w : ℕ → ℝ) (v : Fin 144 → ℕ → EReal) (n : ℕ) (m : EReal) (acc : Fin 144 → EReal) : Prop :=
  (n = 0 ∧ m = ⊥ ∧ ∀ d, acc d = 0)
    ∨ ∃ M : ℝ, m = (M : EReal) ∧ ∀ d, acc d = (((2 : ℝ) ^ (-M) : ℝ) : EReal) * ∑ k ∈ Finset.range (512 * n), v d k * (w k : EReal)

/-- A tile's sums, its weights relative to a real maximum. -/
theorem tile_sum (w : ℕ → ℝ) (v : ℕ → EReal) (n : ℕ) (M : ℝ) (t : Fin 512 → EReal)
    (ht : ∀ (M : ℝ) (k : Fin 512), Ideal.exp2 (t k - (M : EReal)) = (((2 : ℝ) ^ (-M) * w (512 * n + k.val) : ℝ) : EReal)) :
    ∑ k : Fin 512, v (512 * n + k.val) * Ideal.exp2 (t k - (M : EReal))
      = (((2 : ℝ) ^ (-M) : ℝ) : EReal) * ∑ k ∈ Finset.range 512, v (512 * n + k) * (w (512 * n + k) : EReal) := by
  rw [coe_mul_sum _ _ (Real.rpow_nonneg (by norm_num) _), Finset.sum_range]
  refine Finset.sum_congr rfl fun k _ => ?_
  rw [ht, EReal.coe_mul, mul_left_comm]

/-- A tile carries on what is carried. -/
theorem Carried.step {w : ℕ → ℝ} {v : Fin 144 → ℕ → EReal} {n : ℕ} {m : EReal} {acc : Fin 144 → EReal} (h : Carried w v n m acc)
    (t : Fin 512 → EReal) (ht : ∀ (M : ℝ) (k : Fin 512), Ideal.exp2 (t k - (M : EReal)) = (((2 : ℝ) ^ (-M) * w (512 * n + k.val) : ℝ) : EReal))
    (b : EReal) (hb : ∃ B : ℝ, b = (B : EReal)) (acc' : Fin 144 → EReal)
    (ha : ∀ d, acc' d = Ideal.exp2 (m - max m b) * acc d + ∑ k : Fin 512, v d (512 * n + k.val) * Ideal.exp2 (t k - max m b)) :
    ∃ M : ℝ, max m b = (M : EReal) ∧ ∀ d, acc' d = (((2 : ℝ) ^ (-M) : ℝ) : EReal) * ∑ k ∈ Finset.range (512 * (n + 1)), v d k * (w k : EReal) := by
  obtain ⟨B, rfl⟩ := hb
  rcases h with ⟨rfl, rfl, h0⟩ | ⟨M, rfl, hM⟩
  · refine ⟨B, max_eq_right bot_le, fun d => ?_⟩
    rw [ha, max_eq_right bot_le, tile_sum w (v d) 0 B t ht, exp2_bot_sub, zero_mul, zero_add]
    simp only [Nat.mul_zero, Nat.zero_add, Nat.mul_one]
  · refine ⟨max M B, (EReal.coe_strictMono.monotone.map_max (a := M) (b := B)).symm, fun d => ?_⟩
    rw [ha, ← EReal.coe_strictMono.monotone.map_max (a := M) (b := B), tile_sum w (v d) n _ t ht, exp2_coe_sub, hM, EReal.coe_mul, mul_assoc, ← mul_assoc _ (((2 : ℝ) ^ (-M) : ℝ) : EReal),
      ← EReal.coe_mul, ← Real.rpow_add (by norm_num), add_neg_cancel, Real.rpow_zero, EReal.coe_one, one_mul,
      ← EReal.left_distrib_of_nonneg_of_ne_top (EReal.coe_nonneg.2 (Real.rpow_nonneg (by norm_num) _)) (EReal.coe_ne_top _),
      Nat.mul_add, Nat.mul_one, Finset.sum_range_add]

/-- The quotient at the end: the values averaged by their weights. -/
theorem final_quotient (w : ℕ → ℝ) (hw : ∀ k, 0 ≤ w k) (v : ℕ → EReal) (one : ℕ → EReal) (h1 : ∀ k, one k = 1) (N : ℕ) (hpos : 0 < ∑ k ∈ Finset.range N, w k) (M : ℝ) :
    Ideal.div ((((2 : ℝ) ^ (-M) : ℝ) : EReal) * ∑ k ∈ Finset.range N, v k * (w k : EReal)) ((((2 : ℝ) ^ (-M) : ℝ) : EReal) * ∑ k ∈ Finset.range N, one k * (w k : EReal))
      = ∑ k ∈ Finset.range N, v k * ((w k / ∑ k ∈ Finset.range N, w k : ℝ) : EReal) := by
  have hp : (0 : ℝ) < (2 : ℝ) ^ (-M) := Real.rpow_pos_of_pos (by norm_num) _
  have hden : (((2 : ℝ) ^ (-M) : ℝ) : EReal) * ∑ k ∈ Finset.range N, one k * (w k : EReal) = (((2 : ℝ) ^ (-M) * ∑ k ∈ Finset.range N, w k : ℝ) : EReal) := by
    rw [EReal.coe_mul]
    refine congrArg _ ?_
    rw [coe_sum]
    exact Finset.sum_congr rfl fun k _ => by rw [h1, one_mul]
  generalize ∑ k ∈ Finset.range N, w k = W at *
  have hne : (2 : ℝ) ^ (-M) * W ≠ 0 := (mul_pos hp hpos).ne'
  rw [hden]
  unfold Ideal.div
  rw [if_neg (by exact_mod_cast hne), ← EReal.coe_inv, mul_comm, ← mul_assoc, ← EReal.coe_mul,
    show ((2 : ℝ) ^ (-M) * W)⁻¹ * (2 : ℝ) ^ (-M) = W⁻¹ by field_simp, coe_mul_sum _ _ (inv_nonneg.2 hpos.le)]
  refine Finset.sum_congr rfl fun k _ => ?_
  rw [mul_left_comm, ← EReal.coe_mul, div_eq_inv_mul]

end Cert.KernelIdeal.Att

end
-- ==== Proof.Value.lean ====
/-
  What the attention kernel's body leaves, the floats being extended reals: every query's values averaged by two to the
  scores of the keys not after it.
-/
module

public import proofs.«01_k».proof.Proof.Body
public import proofs.«01_k».proof.Proof.Pure
public import proofs.«01_k».proof.Proof.Online

@[expose] public section

set_option maxRecDepth 16384

noncomputable section

namespace Cert.KernelIdeal.Att

open Idealize.ShloMosaic Idealize.ShloMosaic.TcCoe
open Cert.KernelIdeal
open Facts₀ Facts

/-- A key's weight for the query `x`: two to its score, or zero after the query. -/
def wt (S : ℕ → ℕ → ℝ) (x k : ℕ) : ℝ := if k ≤ x then (2 : ℝ) ^ (S k x) else 0

/-- A weight is not negative. -/
theorem wt_nonneg (S : ℕ → ℕ → ℝ) (x k : ℕ) : 0 ≤ wt S x k := by
  unfold wt; split
  · exact Real.rpow_nonneg (by norm_num) _
  · exact le_refl _

/-- The weights of a query's keys sum to a positive number, since its own does. -/
theorem wt_sum_pos (S : ℕ → ℕ → ℝ) (x N : ℕ) (h : x < N) : 0 < ∑ k ∈ Finset.range N, wt S x k := by
  refine Finset.sum_pos' (fun k _ => wt_nonneg S x k) ⟨x, Finset.mem_range.2 h, ?_⟩
  unfold wt
  rw [if_pos le_rfl]
  exact Real.rpow_pos_of_pos (by norm_num) _

/-- How many tiles of row `r` are behind when the walk is at the tile `p`. -/
def behind (p : ℕ × ℕ) (r : ℕ) : ℕ := if r < p.1 then r else if r = p.1 then p.2 else 0

/-- One more tile of the walk's own row is behind it. -/
theorem behind_next_same (p : ℕ × ℕ) (h : p.2 < p.1) : behind (next p) p.1 = behind p p.1 + 1 := by
  unfold behind next
  split <;> simp <;> omega

/-- The other rows' counts stay. -/
theorem behind_next_other (p : ℕ × ℕ) (h : p.2 < p.1) (r : ℕ) (hr : r ≠ p.1) : behind (next p) r = behind p r := by
  unfold behind next
  split <;> simp <;> split_ifs <;> omega

/-- The scores of the call are the reals `S`, its values `v`. -/
structure Reads (Q : Vec Ideal S1x192x16384 .bf16) (K : Vec Ideal S16384x256 .bf16) (V : Vec Ideal S1x144x16384 .bf16)
    (S : ℕ → ℕ → ℝ) (v : Fin 144 → ℕ → EReal) : Prop where
  tile : ∀ a b, a < 32 → b < 32 → ∀ k q : Fin 512, tileS (F := Ideal) Q K a b (ix2 k q) = ((S (512 * b + k.val) (512 * a + q.val) : ℝ) : EReal)
  vals : ∀ (d : Fin 144) (k : Fin 16384), V (ix3 0 d k) = v d k.val
  ones : ∀ k, v ⟨128, by omega⟩ k = 1

variable {Q : Vec Ideal S1x192x16384 .bf16} {K : Vec Ideal S16384x256 .bf16} {V : Vec Ideal S1x144x16384 .bf16}
  {S : ℕ → ℕ → ℝ} {v : Fin 144 → ℕ → EReal}

/-- A tile's maximum over its keys is a real. -/
theorem tile_max_real (h : Reads Q K V S v) (a b : ℕ) (ha : a < 32) (hb : b < 32) (q : Fin 512) :
    ∃ B : ℝ, maxOf8 (F := Ideal) (tileM Q K a b) (ix2 0 q) = (B : EReal) := by
  have h8 : ∀ r : Fin 8, ∃ B : ℝ, tileM (F := Ideal) Q K a b (ix2 r q) = (B : EReal) := fun r => by
    rw [tileM_at]
    refine fold_max_real _ _ (fun g _ => ?_) 0 (Finset.mem_univ _) ?_
    · rw [h.tile a b ha hb]; exact EReal.coe_ne_top _
    · rw [h.tile a b ha hb]; exact EReal.coe_ne_bot _
  rw [maxOf8_at]
  refine fold_max_real _ _ (fun g _ => ?_) 0 (Finset.mem_univ _) ?_
  · obtain ⟨B, e⟩ := h8 g
    rw [e]; exact EReal.coe_ne_top _
  · obtain ⟨B, e⟩ := h8 0
    rw [e]; exact EReal.coe_ne_bot _

/-- The masked diagonal tile's maximum is a real. -/
theorem diag_max_real (h : Reads Q K V S v) (r : ℕ) (hr : r < 32) (q : Fin 512) :
    ∃ B : ℝ, maxAll (F := Ideal) (masked (tileS Q K r r)) (ix2 0 q) = (B : EReal) := by
  rw [maxAll_at]
  refine fold_max_real _ _ (fun g _ => ?_) 0 (Finset.mem_univ _) ?_
  · rw [masked_at]
    split
    · rw [h.tile r r hr hr]; exact EReal.coe_ne_top _
    · exact bot_ne_top
  · rw [masked_at]
    show (if ((0 : Fin 512) : ℕ) ≤ q.val then _ else _) ≠ (⊥ : EReal)
    rw [if_pos (show ((0 : Fin 512) : ℕ) ≤ q.val from Nat.zero_le _)]
    show tileS (F := Ideal) Q K r r (ix2 0 q) ≠ (⊥ : EReal)
    rw [h.tile r r hr hr]; exact EReal.coe_ne_bot _

/-- The scores after a step are those of the next tile. -/
theorem fstep_sc (p : ℕ × ℕ) (T : FState Ideal) : (fstep Q K V p T).sc = tileS Q K (next p).1 (next p).2 := by unfold fstep; rfl
/-- The tile's maxima after a step are those of the next tile. -/
theorem fstep_mc (p : ℕ × ℕ) (T : FState Ideal) : (fstep Q K V p T).mc = tileM Q K (next p).1 (next p).2 := by dsimp only [fstep]
/-- The scores at the start. -/
theorem start_sc (sn : Vec Ideal S512x512 .f32) (mn : Vec Ideal S8x512 .f32) : (start Q K sn mn).sc = tileS Q K 1 0 := by unfold start; rfl
/-- The tile's maxima at the start. -/
theorem start_mc (sn : Vec Ideal S512x512 .f32) (mn : Vec Ideal S8x512 .f32) : (start Q K sn mn).mc = tileM Q K 1 0 := by dsimp only [start]
/-- The carried maxima at the start. -/
theorem start_mx (sn : Vec Ideal S512x512 .f32) (mn : Vec Ideal S8x512 .f32) : (start Q K sn mn).mx = mx0 := by unfold start; rfl
/-- The carried sums at the start. -/
theorem start_ac (sn : Vec Ideal S512x512 .f32) (mn : Vec Ideal S8x512 .f32) : (start Q K sn mn).ac = ac0 := by unfold start; rfl

/-- What stands in the buffers before the walk's step `u`: the tile's scores and maxima, and of every query what is
    carried of the tiles behind. -/
theorem walk_inv (h : Reads Q K V S v) (S₀ : FState Ideal) (h1 : S₀.sc = tileS Q K 1 0) (h2 : S₀.mc = tileM Q K 1 0) (h3 : S₀.mx = mx0) (h4 : S₀.ac = ac0) :
    ∀ u, u ≤ 496 → (fstate Q K V S₀ u).sc = tileS Q K (walk u).1 (walk u).2 ∧ (fstate Q K V S₀ u).mc = tileM Q K (walk u).1 (walk u).2
      ∧ ∀ (r : Fin 32) (q : Fin 512), Carried (wt S (512 * r.val + q.val)) v (behind (walk u) r.val) ((fstate Q K V S₀ u).mx (ix3 r 0 q)) (fun d => (fstate Q K V S₀ u).ac (ix3 r d q)) := by
  intro u
  induction u with
  | zero =>
    intro _
    refine ⟨h1, h2, fun r q => .inl ⟨?_, ?_, fun d => ?_⟩⟩
    · show behind (1, 0) r.val = 0
      unfold behind
      split_ifs <;> simp_all
    · show S₀.mx _ = _
      rw [h3]; exact mx0_at _
    · show S₀.ac _ = _
      rw [h4]; exact ac0_at _
  | succ u ih =>
    intro hu
    obtain ⟨i1, i2, i3⟩ := ih (by omega)
    have hl := walk_lt ⟨u, by omega⟩
    simp only at hl
    rw [fstate_succ, walk_succ]
    generalize fstate Q K V S₀ u = T at *
    generalize walk u = p at *
    refine ⟨fstep_sc p T, fstep_mc p T, fun r q => ?_⟩
    obtain ⟨a, b⟩ := p
    simp only at hl i1 i2
    have hm : (fstep Q K V (a, b) T).mx (ix3 r 0 q) = if r.val = a then newM (rowOfM T.mx a) T.mc (ix2 0 q) else T.mx (ix3 r 0 q) :=
      putM_at T.mx a hl.2 _ r q
    have hac : ∀ d, (fstep Q K V (a, b) T).ac (ix3 r d q) = if r.val = a then accNew (rowM (rowOfM T.mx a)) (newM (rowOfM T.mx a) T.mc) (rowOfA T.ac a) (valT V b) (weights T.sc (newM (rowOfM T.mx a) T.mc)) (ix2 d q) else T.ac (ix3 r d q) :=
      fun d => putA_at T.ac a hl.2 _ r d q
    by_cases hr : r.val = a
    · have hnew : newM (F := Ideal) (rowOfM T.mx a) T.mc (ix2 0 q) = max (T.mx (ix3 r 0 q)) (maxOf8 (F := Ideal) (tileM Q K a b) (ix2 0 q)) := by
        rw [← i2]
        have e : (⟨a, hl.2⟩ : Fin 32) = r := Fin.ext hr.symm
        rw [← e, ← rowM_at T.mx a hl.2 q]
        rfl
      have e : (⟨a, hl.2⟩ : Fin 32) = r := Fin.ext hr.symm
      have hb := behind_next_same (a, b) hl.1
      simp only at hb
      have hn : behind (a, b) a = b := by unfold behind; simp
      rw [hr, hb, hn]
      have hc := i3 r q
      rw [hr, hn] at hc
      refine .inr ?_
      have hstep := hc.step (fun k => T.sc (ix2 k q)) (fun M k => ?_) (maxOf8 (F := Ideal) (tileM Q K a b) (ix2 0 q)) (tile_max_real h a b hl.2 (by omega) q)
        (fun d => (fstep Q K V (a, b) T).ac (ix3 r d q)) (fun d => ?_)
      · obtain ⟨M, hM, hd⟩ := hstep
        exact ⟨M, by rw [hm, if_pos hr, hnew]; exact hM, hd⟩
      · rw [i1, h.tile a b hl.2 (by omega), exp2_coe_sub]
        unfold wt
        rw [if_pos (by omega)]
      · rw [hac, if_pos hr, accNew_at]
        refine congrArg₂ (fun x y : EReal => x + y) (congrArg₂ (fun x y : EReal => x * y) ?_ ?_) (Finset.sum_congr rfl fun k _ => congrArg₂ (fun x y : EReal => x * y) ?_ ?_)
        · rw [hnew, rowM_at T.mx a hl.2 q, e]
        · show rowOfA T.ac a (ix3 0 d q) = T.ac (ix3 r d q)
          rw [rowOfA_at T.ac a hl.2, e]
        · show valT V b (ix3 0 d k) = v d (512 * b + k.val)
          rw [valT_at V b (by omega), h.vals]
        · show weights T.sc (newM (rowOfM T.mx a) T.mc) (ix2 k q) = _
          rw [weights_at, hnew]
    · have hb := behind_next_other (a, b) hl.1 r.val hr
      rw [hb, hm, if_neg hr]
      simp only [hac, if_neg hr]
      exact i3 r q

/-- The result at a query and a coordinate: the values averaged by the weights. -/
theorem attnOut_at (h : Reads Q K V S v) (x : Fin 16384) (d : Fin 128) :
    attnOut (F := Ideal) Q K V (ix2 x d)
      = ∑ k ∈ Finset.range 16384, v ⟨d.val, by omega⟩ k * ((wt S x.val k / ∑ k ∈ Finset.range 16384, wt S x.val k : ℝ) : EReal) := by
  have hr : x.val / 512 < 32 := by omega
  have hx : 512 * (x.val / 512) + x.val % 512 = x.val := Nat.div_add_mod _ _
  obtain ⟨-, -, i3⟩ := walk_inv h (start Q K (tileS Q K 1 0) (tileM Q K 1 0)) (start_sc _ _) (start_mc _ _) (start_mx _ _) (start_ac _ _) 496 le_rfl
  have hc := i3 ⟨x.val / 512, hr⟩ ⟨x.val % 512, Nat.mod_lt _ (by decide)⟩
  rw [walk_end, show behind (32, 0) (⟨x.val / 512, hr⟩ : Fin 32).val = x.val / 512 by unfold behind; rw [if_pos hr]] at hc
  simp only [hx] at hc
  rw [show (fstate Q K V (start Q K (tileS Q K 1 0) (tileM Q K 1 0)) 496) = flatEnd Q K V from rfl] at hc
  rw [show attnOut (F := Ideal) Q K V (ix2 x d)
    = outOf (F := Ideal) (accNew (rowM (rowOfM (flatEnd Q K V).mx (x.val / 512))) (lastM (flatEnd Q K V).mx (tileS Q K (x.val / 512) (x.val / 512)) (x.val / 512)) (rowOfA (flatEnd Q K V).ac (x.val / 512))
        (valT V (x.val / 512)) (weights (masked (tileS Q K (x.val / 512) (x.val / 512))) (lastM (flatEnd Q K V).mx (tileS Q K (x.val / 512) (x.val / 512)) (x.val / 512))))
      (ix2 ⟨x.val % 512, Nat.mod_lt _ (by decide)⟩ d) from by
    unfold attnOut rowOut
    refine congrArg _ (funext (Fin.forall_fin_two.2 ⟨rfl, rfl⟩))]
  generalize (flatEnd Q K V).mx = mx at *
  generalize (flatEnd Q K V).ac = ac at *
  generalize hrr : x.val / 512 = r at *
  generalize hqq : (⟨x.val % 512, Nat.mod_lt _ (by decide)⟩ : Fin 512) = q at *
  have hq : x.val % 512 = q.val := by rw [← hqq]
  rw [outOf_at]
  have hl : lastM (F := Ideal) mx (tileS Q K r r) r (ix2 0 q) = max (mx (ix3 ⟨r, hr⟩ 0 q)) (maxAll (F := Ideal) (masked (tileS Q K r r)) (ix2 0 q)) := by
    rw [← rowM_at mx r hr q]; rfl
  have hstep := hc.step (fun k => masked (F := Ideal) (tileS Q K r r) (ix2 k q)) (fun M k => ?_) (maxAll (F := Ideal) (masked (tileS Q K r r)) (ix2 0 q)) (diag_max_real h r hr q)
    (fun d => accNew (F := Ideal) (rowM (rowOfM mx r)) (lastM mx (tileS Q K r r) r) (rowOfA ac r) (valT V r) (weights (masked (tileS Q K r r)) (lastM mx (tileS Q K r r) r)) (ix2 d q)) (fun d => ?_)
  · obtain ⟨M, -, hd⟩ := hstep
    rw [show (show EReal from accNew (F := Ideal) (rowM (rowOfM mx r)) (lastM mx (tileS Q K r r) r) (rowOfA ac r) (valT V r) (weights (masked (tileS Q K r r)) (lastM mx (tileS Q K r r) r)) (ix2 ⟨d.val, by omega⟩ q)) = _ from hd ⟨d.val, by omega⟩,
      show (show EReal from accNew (F := Ideal) (rowM (rowOfM mx r)) (lastM mx (tileS Q K r r) r) (rowOfA ac r) (valT V r) (weights (masked (tileS Q K r r)) (lastM mx (tileS Q K r r) r)) (ix2 ⟨128, by omega⟩ q)) = _ from hd ⟨128, by omega⟩,
      final_quotient (wt S x.val) (wt_nonneg S x.val) (v ⟨d.val, by omega⟩) (v ⟨128, by omega⟩) h.ones _ (wt_sum_pos S x.val _ (by omega)) M]
    have hz : ∀ k ∉ Finset.range (512 * (r + 1)), wt S x.val k = 0 := fun k hk => by
      unfold wt
      rw [if_neg]
      rw [Finset.mem_range] at hk
      omega
    have hsub : Finset.range (512 * (r + 1)) ⊆ Finset.range 16384 := Finset.range_subset_range.2 (by omega)
    rw [Finset.sum_subset hsub fun k _ hk => hz k hk]
    exact Finset.sum_subset hsub fun k _ hk => by rw [hz k hk, zero_div, EReal.coe_zero, mul_zero]
  · rw [masked_at]
    by_cases hk : k.val ≤ q.val
    · rw [if_pos hk, h.tile r r hr hr, exp2_coe_sub]
      unfold wt
      rw [if_pos (by omega), show 512 * r + q.val = x.val by omega]
    · rw [if_neg hk, exp2_bot_sub]
      unfold wt
      rw [if_neg (by omega), mul_zero, EReal.coe_zero]
  · rw [accNew_at]
    refine congrArg₂ (fun x y : EReal => x + y) (congrArg₂ (fun x y : EReal => x * y) ?_ ?_) (Finset.sum_congr rfl fun k _ => congrArg₂ (fun x y : EReal => x * y) ?_ ?_)
    · rw [hl, rowM_at mx r hr q]
    · show rowOfA ac r (ix3 0 d q) = ac (ix3 ⟨r, hr⟩ d q)
      rw [rowOfA_at ac r hr]
    · show valT V r (ix3 0 d k) = v d (512 * r + k.val)
      rw [valT_at V r hr, h.vals]
    · show weights (masked (tileS Q K r r)) (lastM mx (tileS Q K r r) r) (ix2 k q) = _
      rw [weights_at, hl]

end Cert.KernelIdeal.Att

end
-- ==== Proof.Host.lean ====
/-
  The blocks the attention call is handed, read at an index in the five arguments.
-/
module

public import proofs.«01_k».proof.Proof.Gen.KernelIdeal.Frame
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Att

open Idealize.ShloMosaic Idealize.ShloMosaic.TcCoe
open Cert.KernelIdeal

variable (m : (ℓ : Loc nD τ sig) → Buf (Elt Ideal) ℓ)

/-- Where each window's block lies at a point: the point's head. -/
theorem place : ∀ t : Fin cfg0.N, win0_0.index t 0 = t.val ∧ win0_0.index t 1 = 0 ∧ win0_0.index t 2 = 0
    ∧ win0_1.index t 0 = 0 ∧ win0_1.index t 1 = t.val
    ∧ win0_2.index t 0 = t.val ∧ win0_2.index t 1 = 0 ∧ win0_2.index t 2 = 0
    ∧ win0_3.index t 0 = 0 ∧ win0_3.index t 1 = t.val := (by decide +kernel : ∀ t : Fin grid0.N, _)

/-- The host's multiplier of the queries. -/
def qScale : EReal := Ideal.div (Ideal.ofBits .f32 0x3D93CD3A#32) (Ideal.log (Ideal.ofBits .f32 0x40000000#32))

/-- The queries as the call is handed them. -/
def hostQ (a0 : FVec Ideal S16384x8x128 .f32) (a1 : FVec Ideal S16384x8x64 .f32) : FVec Ideal S8x192x16384 .bf16 :=
  truncf .bf16 (transpose S8x192x16384 [1, 2, 0] (mulf (concatenate S16384x8x192 2 [⟨S16384x8x128, a0⟩, ⟨S16384x8x64, a1⟩] Facts₀.concatenates_S16384x8x128_S16384x8x64_S16384x8x192_d2)
    (broadcastInDim S16384x8x192 ![] Facts₀.bcast_S_S16384x8x192 (Host.divf (constant S_ .f32 0x3D93CD3A#32) (Host.log (constant S_ .f32 0x40000000#32) : FVec Ideal S_ .f32)))) Facts₀.transposes_S16384x8x192_S8x192x16384_1_2_0) Facts₀.bitsLt_bf16_f32

/-- The keys as the call is handed them. -/
def hostK (a2 : FVec Ideal S16384x8x128 .f32) (a3 : FVec Ideal S16384x64 .f32) : FVec Ideal S16384x2048 .bf16 :=
  truncf .bf16 (shapeCast S16384x2048 (concatenate S16384x8x256 2 [⟨S16384x8x128, a2⟩,
      ⟨S16384x8x64, broadcastInDim S16384x8x64 ![0, 1, 2] Facts₀.bcast_S16384x1x64_S16384x8x64_0_1_2 (broadcastInDim S16384x1x64 ![0, 2] Facts₀.bcast_S16384x64_S16384x1x64_0_2 a3)⟩,
      ⟨S16384x8x64, broadcastInDim S16384x8x64 ![] Facts₀.bcast_S_S16384x8x64 (constant S_ .f32 0x00000000#32)⟩] Facts₀.concatenates_S16384x8x128_S16384x8x64_S16384x8x64_S16384x8x256_d2)
    Facts₀.shapeCasts_S16384x8x256_S16384x2048) Facts₀.bitsLt_bf16_f32

/-- The values as the call is handed them, under them the row of ones. -/
def hostV (a4 : FVec Ideal S16384x8x128 .f32) : FVec Ideal S8x144x16384 .bf16 :=
  truncf .bf16 (concatenate S8x144x16384 1 [⟨S8x128x16384, transpose S8x128x16384 [1, 2, 0] a4 Facts₀.transposes_S16384x8x128_S8x128x16384_1_2_0⟩,
      ⟨S8x16x16384, select (cmpi .eq (iotaInDim S8x16x16384 32 1) (broadcastInDim S8x16x16384 ![] Facts₀.bcast_S_S8x16x16384 (constantI S_ 32 0#32)))
        (broadcastInDim S8x16x16384 ![] Facts₀.bcast_S_S8x16x16384 (constant S_ .f32 0x3F800000#32) : FVec Ideal S8x16x16384 .f32) (broadcastInDim S8x16x16384 ![] Facts₀.bcast_S_S8x16x16384 (constant S_ .f32 0x00000000#32))⟩]
    Facts₀.concatenates_S8x128x16384_S8x16x16384_S8x144x16384_d1) Facts₀.bitsLt_bf16_f32

/-- What the call finds of the queries. -/
theorem entryQ (c : Dev nD) : (Gen.V m c main_v6 : Vec Ideal S8x192x16384 .bf16) = hostQ (m ((c : Thread nD τ).loc main_arg0)) (m ((c : Thread nD τ).loc main_arg1)) := by
  unfold Gen.V
  simp only [Gen.hostOps0, Gen.hostOps0_1, Gen.hostOps0_2, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the keys. -/
theorem entryK (c : Dev nD) : (Gen.V m c main_v12 : Vec Ideal S16384x2048 .bf16) = hostK (m ((c : Thread nD τ).loc main_arg2)) (m ((c : Thread nD τ).loc main_arg3)) := by
  unfold Gen.V
  simp only [Gen.hostOps0, Gen.hostOps0_1, Gen.hostOps0_2, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the values. -/
theorem entryV (c : Dev nD) : (Gen.V m c main_v20 : Vec Ideal S8x144x16384 .bf16) = hostV (m ((c : Thread nD τ).loc main_arg4)) := by
  unfold Gen.V
  simp only [Gen.hostOps0, Gen.hostOps0_1, Gen.hostOps0_2, List.flatten_cons, List.flatten_nil, List.append_nil, List.cons_append, List.nil_append, StableHlo.TRef.ternary, StableHlo.TRef.unary, StableHlo.TRef.toBuf, StableHlo.TRef.ofBuf, cast_eq]
  after_results_simp <;> rfl

/-- A query's coordinate times the multiplier. -/
theorem hostQ_at (a0 : FVec Ideal S16384x8x128 .f32) (a1 : FVec Ideal S16384x8x64 .f32) (h : Fin 8) (d : Fin 192) (x : Fin 16384) :
    hostQ a0 a1 (ix3 h d x) = (if hd : d.val < 128 then (show EReal from a0 (ix3 x h ⟨d.val, hd⟩)) else (show EReal from a1 (ix3 x h ⟨d.val - 128, by omega⟩))) * qScale := by
  pointwise [hostQ]
  rfl

/-- A key's coordinate. -/
theorem hostK_at (a2 : FVec Ideal S16384x8x128 .f32) (a3 : FVec Ideal S16384x64 .f32) (h : Fin 8) (d : Fin 192) (k : Fin 16384) :
    hostK a2 a3 (ix2 k ⟨256 * h.val + d.val, by omega⟩) = (if hd : d.val < 128 then (show EReal from a2 (ix3 k h ⟨d.val, hd⟩)) else (show EReal from a3 (ix2 k ⟨d.val - 128, by omega⟩))) := by
  pointwise [hostK]
  have e : (256 * h.val + d.val) % 256 = d.val := by omega
  simp only [e]
  split
  · rfl
  · rw [dif_pos (by omega)]

/-- A value's coordinate. -/
theorem hostV_at (a4 : FVec Ideal S16384x8x128 .f32) (h : Fin 8) (d : Fin 128) (k : Fin 16384) : hostV a4 (ix3 h ⟨d.val, by omega⟩ k) = (show EReal from a4 (ix3 k h d)) := by
  pointwise [hostV]

/-- The row of ones. -/
theorem hostV_one (a4 : FVec Ideal S16384x8x128 .f32) (h : Fin 8) (k : Fin 16384) : hostV a4 (ix3 h ⟨128, by omega⟩ k) = (1 : EReal) := by
  pointwise [hostV]

/-- The point's block of the queries. -/
theorem blockQ (c : Dev nD) (t : Fin cfg0.N) (h : Fin 8) (ht : t.val = h.val) (d : Fin 192) (x : Fin 16384) :
    (Gen.iblk m c 0 t : Vec Ideal S1x192x16384 .bf16) (ix3 0 d x) = hostQ (m ((c : Thread nD τ).loc main_arg0)) (m ((c : Thread nD τ).loc main_arg1)) (ix3 h d x) := by
  rw [← entryQ]
  have := place t
  blk_ext [Gen.iblk]

/-- The point's block of the keys. -/
theorem blockK (c : Dev nD) (t : Fin cfg0.N) (h : Fin 8) (ht : t.val = h.val) (d : Fin 256) (k : Fin 16384) :
    (Gen.iblk m c 1 t : Vec Ideal S16384x256 .bf16) (ix2 k d) = hostK (m ((c : Thread nD τ).loc main_arg2)) (m ((c : Thread nD τ).loc main_arg3)) (ix2 k ⟨256 * h.val + d.val, by omega⟩) := by
  rw [← entryK]
  have := place t
  blk_ext [Gen.iblk]

/-- The point's block of the values. -/
theorem blockV (c : Dev nD) (t : Fin cfg0.N) (h : Fin 8) (ht : t.val = h.val) (d : Fin 144) (k : Fin 16384) :
    (Gen.iblk m c 2 t : Vec Ideal S1x144x16384 .bf16) (ix3 0 d k) = hostV (m ((c : Thread nD τ).loc main_arg4)) (ix3 h d k) := by
  rw [← entryV]
  have := place t
  blk_ext [Gen.iblk]

end Cert.KernelIdeal.Att

end
-- ==== Proof.Ref.lean ====
/-
  The reference's result read at an index.
-/
module

public import proofs.«01_k».proof.Proof.Gen.ReferenceIdeal.Run
public import Idealize.ShloMosaic.Lib.Pointwise
public import Idealize.ShloMosaic.Lib.ReduceAll
public import Idealize.ShloMosaic.Lib.Tactic.CleanTypes

@[expose] public section

set_option maxRecDepth 16384

noncomputable section

namespace Cert.ReferenceIdeal.Read

open Idealize.ShloMosaic Idealize.ShloMosaic.TcCoe
open Cert.ReferenceIdeal Cert.ReferenceIdeal.Facts₀ Cert.ReferenceIdeal.Value

/-- The word of minus infinity is minus infinity. -/
theorem negInf : Ideal.ofBits .f32 0xFF800000#32 = ⊥ := by simp [Ideal.ofBits, Ideal.ieee]

/-- A choice by two indices compared as words is the choice by the indices compared. -/
theorem sle_index {α : Type} (k q : Fin 16384) (x y : α) :
    Scalar.select (IntOp.cmpi CmpIPredicate.sle (BitVec.ofNat 32 k.val) (BitVec.ofNat 32 q.val)) x y = if k.val ≤ q.val then x else y := by
  have h1 : (BitVec.ofNat 32 k.val).toInt = k.val := by rw [BitVec.toInt_eq_toNat_of_lt] <;> simp <;> omega
  have h2 : (BitVec.ofNat 32 q.val).toInt = q.val := by rw [BitVec.toInt_eq_toNat_of_lt] <;> simp <;> omega
  have hc : IntOp.cmpi CmpIPredicate.sle (BitVec.ofNat 32 k.val) (BitVec.ofNat 32 q.val) = 1 ↔ k.val ≤ q.val := by
    refine IntOp.cmpi_sle.trans ?_
    rw [h1, h2]; omega
  unfold Scalar.select
  by_cases h : k.val ≤ q.val
  · rw [if_pos h]; exact if_pos (hc.2 h)
  · rw [if_neg h]; exact if_neg fun e => h (hc.1 e)

/-- The masked scores. -/
def logits (a0 : FVec Ideal S16384x8x128 .f32) (a1 : FVec Ideal S16384x8x64 .f32) (a2 : FVec Ideal S16384x8x128 .f32) (a3 : FVec Ideal S16384x64 .f32) : FVec Ideal S8x16384x16384 .f32 :=
  select (broadcastInDim S8x16384x16384 ![0, 1, 2] bcast_S1x16384x16384_S8x16384x16384_0_1_2 (broadcastInDim S1x16384x16384 ![1, 2] bcast_S16384x16384_S1x16384x16384_1_2 (cmpi .sle (iotaInDim S16384x16384 32 1) (iotaInDim S16384x16384 32 0))))
    (mulf (addf (Host.dotGeneral dot_S16384x8x128_S16384x8x128_S8x16384x16384_2_2_0_0_1_1 none a0 a2) (transpose S8x16384x16384 [2, 1, 0] (Host.dotGeneral dot_S16384x64_S16384x8x64_S16384x16384x8_1_2_0_01_n_n none a3 a1) transposes_S16384x16384x8_S8x16384x16384_2_1_0))
      (broadcastInDim S8x16384x16384 ![] bcast_S_S8x16384x16384 (constant S_ .f32 0x3D93CD3A#32)))
    (broadcastInDim S8x16384x16384 ![] bcast_S_S8x16384x16384 (id (constant S_ .f32 0xFF800000#32)))

/-- A maximum over the last of three axes, of any sizes, read at an index. -/
theorem reduceMax_at {n0 n1 n2 : ℕ} (x : FVec Ideal ⟨3, ![n0, n1, n2]⟩ .f32) (init : FVec Ideal S_ .f32) (h : (⟨3, ![n0, n1, n2]⟩ : Shape).ReducesTo [2] ⟨2, ![n0, n1]⟩) (hu : 0 < S_.numel) (i : Fin n0) (j : Fin n1) :
    Host.reduce (FloatOps.maximumf (F := Ideal) (φ := .f32)) x init h hu (ix2 i j) = (Finset.univ : Finset (Fin n2)).fold max (init (Shape.Idx.first hu) : EReal) (fun k => x (ix3 i j k)) := by
  pointwise

/-- The rows' maxima, from minus infinity. -/
def rowTops (x : FVec Ideal S8x16384x16384 .f32) : FVec Ideal S8x16384 .f32 :=
  Host.reduce FloatOps.maximumf x (constant S_ .f32 0xFF800000#32) reducesTo_S8x16384x16384_S8x16384_d2 h_S_

/-- A row's maximum is the maximum over its keys. -/
theorem rowTops_at (x : FVec Ideal S8x16384x16384 .f32) (h : Fin 8) (q : Fin 16384) :
    rowTops x (ix2 h q) = (Finset.univ : Finset (Fin 16384)).fold max (⊥ : EReal) (fun k => x (ix3 h q k)) :=
  (reduceMax_at x (constant S_ .f32 0xFF800000#32) reducesTo_S8x16384x16384_S8x16384_d2 h_S_ h q).trans
    (congrArg (fun b => (Finset.univ : Finset (Fin 16384)).fold max b fun k => x (ix3 h q k)) negInf)

/-- The rows' maxima. -/
def tops (x : FVec Ideal S8x16384x16384 .f32) : FVec Ideal S8x16384 .f32 :=
  maximumf (broadcastInDim S8x16384 ![] bcast_S_S8x16384 (constant S_ .f32 0xFF800000#32)) (rowTops x)

/-- The exponentials of the scores less their row's maximum. -/
def exps (x : FVec Ideal S8x16384x16384 .f32) (t : FVec Ideal S8x16384 .f32) : FVec Ideal S8x16384x16384 .f32 :=
  Host.exp (subf x (broadcastInDim S8x16384x16384 ![0, 1, 2] bcast_S8x16384x1_S8x16384x16384_0_1_2 (broadcastInDim S8x16384x1 ![0, 1] bcast_S8x16384_S8x16384x1_0_1 t)))

/-- The values averaged by the exponentials over their row's sum. -/
def average (a4 : FVec Ideal S16384x8x128 .f32) (e : FVec Ideal S8x16384x16384 .f32) : FVec Ideal S16384x1024 .bf16 :=
  truncf .bf16 (shapeCast S16384x1024 (transpose S16384x8x128 [2, 0, 1] (Host.dotGeneral dot_S16384x8x128_S8x16384x16384_S8x128x16384_0_2_2_1_1_0 none a4
    (Host.divf e (broadcastInDim S8x16384x16384 ![0, 1, 2] bcast_S8x16384x1_S8x16384x16384_0_1_2 (broadcastInDim S8x16384x1 ![0, 1] bcast_S8x16384_S8x16384x1_0_1
      (Host.reduceAdd e (constant S_ .f32 0x00000000#32) reducesTo_S8x16384x16384_S8x16384_d2 h_S_))))) transposes_S8x128x16384_S16384x8x128_2_0_1) shapeCasts_S16384x8x128_S16384x1024) bitsLt_bf16_f32

/-- The reference's result by its parts. -/
theorem res_eq (m : (ℓ : Loc nD τ sig) → Buf (Elt Ideal) ℓ) (c : Dev nD) :
    (res_main_v25 m c : FVec Ideal S16384x1024 .bf16)
      = let x := logits (m ((c.tc : Thread nD τ).loc main_arg0)) (m ((c.tc : Thread nD τ).loc main_arg1)) (m ((c.tc : Thread nD τ).loc main_arg2)) (m ((c.tc : Thread nD τ).loc main_arg3))
        average (m ((c.tc : Thread nD τ).loc main_arg4)) (exps x (tops x)) := rfl

/-- A masked score: the key not after the query, its two products' sum scaled; else minus infinity. -/
theorem logits_at (a0 : FVec Ideal S16384x8x128 .f32) (a1 : FVec Ideal S16384x8x64 .f32) (a2 : FVec Ideal S16384x8x128 .f32) (a3 : FVec Ideal S16384x64 .f32) (h : Fin 8) (x k : Fin 16384) :
    logits a0 a1 a2 a3 (ix3 h x k) = if k.val ≤ x.val then ((∑ d : Fin 128, (show EReal from a0 (ix3 x h d)) * (show EReal from a2 (ix3 k h d))) + ∑ d : Fin 64, (show EReal from a3 (ix2 k d)) * (show EReal from a1 (ix3 x h d))) * Ideal.ofBits .f32 0x3D93CD3A#32 else (⊥ : EReal) := by
  pointwise [logits]
  rw [show id (constant (F := Ideal) S_ .f32 0xFF800000#32) ix0 = (⊥ : EReal) from negInf]
  exact sle_index k x _ _

/-- A maximum with minus infinity leaves the other. -/
theorem max_negInf (y : FVec Ideal S8x16384 .f32) (h : Fin 8) (q : Fin 16384) :
    maximumf (broadcastInDim S8x16384 ![] bcast_S_S8x16384 (constant S_ .f32 0xFF800000#32)) y (ix2 h q) = y (ix2 h q) := by
  pointwise
  rw [negInf]
  exact max_eq_right bot_le

/-- A row's maximum. -/
theorem tops_at (x : FVec Ideal S8x16384x16384 .f32) (h : Fin 8) (q : Fin 16384) :
    tops x (ix2 h q) = (Finset.univ : Finset (Fin 16384)).fold max (⊥ : EReal) (fun k => x (ix3 h q k)) :=
  (max_negInf (rowTops x) h q).trans (rowTops_at x h q)

/-- An exponential. -/
theorem exps_at (x : FVec Ideal S8x16384x16384 .f32) (t : FVec Ideal S8x16384 .f32) (h : Fin 8) (q k : Fin 16384) :
    exps x t (ix3 h q k) = Ideal.exp ((show EReal from x (ix3 h q k)) - (show EReal from t (ix2 h q))) := by
  pointwise [exps]

/-- An average. -/
theorem average_at (a4 : FVec Ideal S16384x8x128 .f32) (e : FVec Ideal S8x16384x16384 .f32) (h : Fin 8) (d : Fin 128) (q : Fin 16384) :
    average a4 e (ix2 q ⟨128 * h.val + d.val, by omega⟩) = ∑ k : Fin 16384, (show EReal from a4 (ix3 k h d)) * Ideal.div (e (ix3 h q k)) (∑ k : Fin 16384, (show EReal from e (ix3 h q k))) := by
  pointwise [average]

end Cert.ReferenceIdeal.Read

end
-- ==== Proof.Transfer.lean ====
/-
  The kernel as printed and the kernel as the ideal pass printed it are one program: the frame of the first is a
  statement about the second, at the machine's own floats.
-/
module

public import proofs.«01_k».proof.Defs
public import Idealize.ShloMosaic.Lib.Pipeline.Regions

@[expose] public section

set_option maxRecDepth 65536

noncomputable section

namespace Cert.KernelIdeal.Att

open Idealize.ShloMosaic Idealize.SL.Sem

/-- The frame, of the kernel as the ideal pass printed it, at any floats. -/
def frameAt (F : FTy → Type) [FloatOps F] [Cert.KernelIdeal.Facts] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

set_option maxHeartbeats 4000000 in
/-- The two frames are one statement. -/
theorem frame_same [Cert.Kernel.Facts] [Cert.KernelIdeal.Facts] : Cert.quiescent_Kernel = frameAt Bits := by chain_rfl

end Cert.KernelIdeal.Att

end
-- ==== Proof.Run.lean ====
/-
  The run of the attention kernel's program at any floats: what the result's array ends at, and that the arguments'
  arrays end as they were.
-/
module

public import proofs.«01_k».proof.Proof.Body
public import proofs.«01_k».proof.Proof.Transfer
public import Idealize.ShloMosaic.Lib.Claim

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal
open Facts₀ Facts

variable {F : FTy → Type} [FloatOps F]

local notation "𝕄" => MT nD τ sig Unit (Elt F) ℕ (UR sig nD τ) ℕ

/-- Before the walk below the diagonal: the carried arrays are filled and the first tile's scores stand. -/
theorem wp_flatStart (c : Dev nD) (arg1 : Memref sig .tc .vmem S1x192x16384 .bf16) (arg2 : Memref sig .tc .vmem S16384x256 .bf16) (arg3 : Memref sig .tc .vmem S1x144x16384 .bf16)
    (sc sn : Memref sig .tc .vmem S512x512 .f32) (mc mn : Memref sig .tc .vmem S8x512 .f32) (arg9 : Memref sig .tc .vmem S32x1x512 .f32) (arg10 : Memref sig .tc .vmem S32x144x512 .f32)
    (Q : Vec F S1x192x16384 .bf16) (K : Vec F S16384x256 .bf16) (V : Vec F S1x144x16384 .bf16) (S : FState F) (R : sProp 𝕄) {α : Type}
    (rest : Prog (TpuEff nD τ sig (Elt F) Λ₀ .tc) α) (post : α → sProp 𝕄)
    (hk : iprop(held c arg1 arg2 arg3 sc sn mc mn arg9 arg10 Q K V (start Q K S.sn S.mn) ∗ R) ⊢ wp frame (wpE (defs₀ (F := F)) Variants.none (c : Thread nD τ) none) Set.univ rest post) :
    iprop(held c arg1 arg2 arg3 sc sn mc mn arg9 arg10 Q K V S ∗ R)
      ⊢ wp frame (wpE (defs₀ (F := F)) Variants.none (c : Thread nD τ) none) Set.univ (flatStart arg1 arg2 sc mc arg9 arg10 rest) post := by
  revert hk
  unfold held flatStart
  intro hk
  iintro ⟨⟨H1, H2, H3, Hsc, Hsn, Hmc, Hmn, Hm, Ha⟩, HR⟩
  iapply (load_all c arg9 S.mx inb_S32x1x512_S32x1x512_0_0_0 _ _ _) $$ Hm; iintro Hm
  iapply (store_all c arg9 S.mx inb_S32x1x512_S32x1x512_0_0_0 _ _ _ _ _) $$ Hm; iintro Hm
  iapply (load_all c arg10 S.ac inb_S32x144x512_S32x144x512_0_0_0 _ _ _) $$ Ha; iintro Ha
  iapply (store_all c arg10 S.ac inb_S32x144x512_S32x144x512_0_0_0 _ _ _ _ _) $$ Ha; iintro Ha
  iapply (load_box c arg2 K _ (show ![0, 0] = ![512 * min 0 31, 0] from rfl) (inbK _)) $$ H2; iintro H2
  iapply (load_box c arg1 Q _ (show ![0, 0, 512] = ![0, 0, 512 * min 1 31] from rfl) (inbQ _)) $$ H1; iintro H1
  iapply (load_all c sc S.sc inb_S512x512_S512x512_0_0 _ _ _) $$ Hsc; iintro Hsc
  iapply (store_all c sc S.sc inb_S512x512_S512x512_0_0 _ _ _ _ _) $$ Hsc; iintro Hsc
  iapply (load_all c mc S.mc inb_S8x512_S8x512_0_0 _ _ _) $$ Hmc; iintro Hmc
  iapply (store_all c mc S.mc inb_S8x512_S8x512_0_0 _ _ _ _ _) $$ Hmc; iintro Hmc
  iapply hk
  dsimp only [start, tileS, tileM, keyT, qryT, mx0, ac0]
  isplitr [HR]
  swap
  · iexact HR
  isplitl [H1]; · iexact H1
  isplitl [H2]; · iexact H2
  isplitl [H3]; · iexact H3
  isplitl [Hsc]; · iexact Hsc
  isplitl [Hsn]; · iexact Hsn
  isplitl [Hmc]; · iexact Hmc
  isplitl [Hmn]; · iexact Hmn
  isplitl [Hm]; · iexact Hm
  iexact Ha

/-- Before the walk along the diagonal: the first tile's scores stand. -/
theorem wp_diagStart (c : Dev nD) (arg1 : Memref sig .tc .vmem S1x192x16384 .bf16) (arg2 : Memref sig .tc .vmem S16384x256 .bf16) (arg3 : Memref sig .tc .vmem S1x144x16384 .bf16)
    (arg4 : Memref sig .tc .vmem S16384x128 .bf16) (sc sn : Memref sig .tc .vmem S512x512 .f32)
    (arg9 : Memref sig .tc .vmem S32x1x512 .f32) (arg10 : Memref sig .tc .vmem S32x144x512 .f32)
    (Q : Vec F S1x192x16384 .bf16) (K : Vec F S16384x256 .bf16) (V : Vec F S1x144x16384 .bf16) (mx : Vec F S32x1x512 .f32) (ac : Vec F S32x144x512 .f32) (D : DState F) (R : sProp 𝕄) {α : Type}
    (rest : Prog (TpuEff nD τ sig (Elt F) Λ₀ .tc) α) (post : α → sProp 𝕄)
    (hk : iprop(heldD c arg1 arg2 arg3 arg4 sc sn arg9 arg10 Q K V mx ac ⟨tileS Q K 0 0, D.sn, D.out⟩ ∗ R) ⊢ wp frame (wpE (defs₀ (F := F)) Variants.none (c : Thread nD τ) none) Set.univ rest post) :
    iprop(heldD c arg1 arg2 arg3 arg4 sc sn arg9 arg10 Q K V mx ac D ∗ R)
      ⊢ wp frame (wpE (defs₀ (F := F)) Variants.none (c : Thread nD τ) none) Set.univ (diagStart arg1 arg2 sc rest) post := by
  revert hk
  unfold heldD diagStart
  intro hk
  iintro ⟨⟨H1, H2, H3, Hm, Ha, Hsc, Hsn, H4⟩, HR⟩
  iapply (load_box c arg2 K _ (show ![0, 0] = ![512 * min 0 31, 0] from rfl) (inbK _)) $$ H2; iintro H2
  iapply (load_box c arg1 Q _ (show ![0, 0, 0] = ![0, 0, 512 * min 0 31] from rfl) (inbQ _)) $$ H1; iintro H1
  iapply (load_all c sc D.sc inb_S512x512_S512x512_0_0 _ _ _) $$ Hsc; iintro Hsc
  iapply (store_all c sc D.sc inb_S512x512_S512x512_0_0 _ _ _ _ _) $$ Hsc; iintro Hsc
  iapply hk
  dsimp only [tileS, keyT, qryT]
  isplitr [HR]
  swap
  · iexact HR
  isplitl [H1]; · iexact H1
  isplitl [H2]; · iexact H2
  isplitl [H3]; · iexact H3
  isplitl [Hm]; · iexact Hm
  isplitl [Ha]; · iexact Ha
  isplitl [Hsc]; · iexact Hsc
  isplitl [Hsn]; · iexact Hsn
  iexact H4

/-- The contents between the trips along the diagonal. -/
def diagInv (c : Dev nD) (arg1 : Memref sig .tc .vmem S1x192x16384 .bf16) (arg2 : Memref sig .tc .vmem S16384x256 .bf16) (arg3 : Memref sig .tc .vmem S1x144x16384 .bf16)
    (arg4 : Memref sig .tc .vmem S16384x128 .bf16) (sc sn : Memref sig .tc .vmem S512x512 .f32) (arg9 : Memref sig .tc .vmem S32x1x512 .f32) (arg10 : Memref sig .tc .vmem S32x144x512 .f32)
    (Q : Vec F S1x192x16384 .bf16) (K : Vec F S16384x256 .bf16) (V : Vec F S1x144x16384 .bf16) (mx : Vec F S32x1x512 .f32) (ac : Vec F S32x144x512 .f32) (D : DState F) (t : ℕ) (_ : PUnit) : sProp 𝕄 :=
  heldD c arg1 arg2 arg3 arg4 sc sn arg9 arg10 Q K V mx ac (dstate Q K V mx ac D (8 * t))

/-- The walk along the diagonal, all of it: the result ends at `attnOut`. -/
theorem wp_diagAll (c : Dev nD) (arg1 : Memref sig .tc .vmem S1x192x16384 .bf16) (arg2 : Memref sig .tc .vmem S16384x256 .bf16) (arg3 : Memref sig .tc .vmem S1x144x16384 .bf16)
    (arg4 : Memref sig .tc .vmem S16384x128 .bf16) (harg4 : arg4.IsWhole) (arg5 arg6 : Memref sig .tc .vmem S512x512 .f32)
    (arg9 : Memref sig .tc .vmem S32x1x512 .f32) (arg10 : Memref sig .tc .vmem S32x144x512 .f32)
    (Q : Vec F S1x192x16384 .bf16) (K : Vec F S16384x256 .bf16) (V : Vec F S1x144x16384 .bf16) (D : DState F) (R : sProp 𝕄) (post : PUnit → sProp 𝕄)
    (hk : iprop((owns (c : Thread nD τ) arg1 fullShare Q ∗ owns (c : Thread nD τ) arg2 fullShare K ∗ owns (c : Thread nD τ) arg3 fullShare V
        ∗ owns (c : Thread nD τ) arg4 fullShare (attnOut Q K V) ∗ (∃ X, owns (c : Thread nD τ) arg5 fullShare X) ∗ (∃ X, owns (c : Thread nD τ) arg6 fullShare X)
        ∗ (∃ X, owns (c : Thread nD τ) arg9 fullShare X) ∗ (∃ X, owns (c : Thread nD τ) arg10 fullShare X)) ∗ R) ⊢ post ⟨⟩) :
    iprop(heldD c arg1 arg2 arg3 arg4 arg5 arg6 arg9 arg10 Q K V (flatEnd Q K V).mx (flatEnd Q K V).ac D ∗ R)
      ⊢ wp frame (wpE (defs₀ (F := F)) Variants.none (c : Thread nD τ) none) Set.univ
        (diagStart arg1 arg2 arg5 (Scf.Loop.for k0_t2_loop k0_t2_ok ⟨⟩ (fun t _ => diagBody arg1 arg2 arg3 arg4 harg4 arg5 arg6 arg9 arg10 t) >>= fun _ => .ret ⟨⟩)) post := by
  refine wp_diagStart c arg1 arg2 arg3 arg4 arg5 arg6 arg9 arg10 Q K V (flatEnd Q K V).mx (flatEnd Q K V).ac D R _ _ ?_
  iintro ⟨H, HR⟩
  iapply (Scf.wp_for_bind frame (wpE (defs₀ (F := F)) Variants.none (c : Thread nD τ) none) Set.univ k0_t2_loop.lb k0_t2_loop.ub k0_t2_loop.st k0_t2_ok PUnit.unit
    (fun t _ => diagBody arg1 arg2 arg3 arg4 harg4 arg5 arg6 arg9 arg10 t)
    (diagInv c arg1 arg2 arg3 arg4 arg5 arg6 arg9 arg10 Q K V (flatEnd Q K V).mx (flatEnd Q K V).ac ⟨tileS Q K 0 0, D.sn, D.out⟩)
    (fun t _ => wp_diagBody c arg1 arg2 arg3 arg4 harg4 arg5 arg6 arg9 arg10 Q K V (flatEnd Q K V).mx (flatEnd Q K V).ac ⟨tileS Q K 0 0, D.sn, D.out⟩ t)) $$ [H]
  · unfold diagInv
    iexact H
  iintro %_ H
  rw [show Scf.trips k0_t2_loop.lb k0_t2_loop.ub k0_t2_loop.st = 4 from trips2]
  unfold diagInv heldD
  icases H with ⟨H1, H2, H3, H9, H10, H5, H6, H4⟩
  rw [show (dstate Q K V (flatEnd Q K V).mx (flatEnd Q K V).ac ⟨tileS Q K 0 0, D.sn, D.out⟩ (8 * 4)).out = attnOut Q K V from
    funext fun y => dstate_out Q K V ⟨tileS Q K 0 0, D.sn, D.out⟩ rfl 32 (by omega) y (y 0).isLt]
  iapply (exec_ret Variants.none (c : Thread nD τ) none Set.univ _ hk)
  isplitr [HR]
  swap
  · iexact HR
  isplitl [H1]; · iexact H1
  isplitl [H2]; · iexact H2
  isplitl [H3]; · iexact H3
  isplitl [H4]; · iexact H4
  isplitl [H5]; · iexists _; iexact H5
  isplitl [H6]; · iexists _; iexact H6
  isplitl [H9]; · iexists _; iexact H9
  iexists _; iexact H10

/-- The buffers the body works in, at any contents. -/
def work (c : Dev nD) (arg5 arg6 : Memref sig .tc .vmem S512x512 .f32) (arg7 arg8 : Memref sig .tc .vmem S8x512 .f32)
    (arg9 : Memref sig .tc .vmem S32x1x512 .f32) (arg10 : Memref sig .tc .vmem S32x144x512 .f32) : sProp 𝕄 :=
  iprop((∃ X, owns (c : Thread nD τ) arg5 fullShare X) ∗ (∃ X, owns (c : Thread nD τ) arg6 fullShare X) ∗ (∃ X, owns (c : Thread nD τ) arg7 fullShare X)
    ∗ (∃ X, owns (c : Thread nD τ) arg8 fullShare X) ∗ (∃ X, owns (c : Thread nD τ) arg9 fullShare X) ∗ (∃ X, owns (c : Thread nD τ) arg10 fullShare X))

/-- The walk below the diagonal, all its trips. -/
theorem wp_flatLoop (c : Dev nD) (i : grid0.Coords) (arg1 : Memref sig .tc .vmem S1x192x16384 .bf16) (harg1 : arg1.IsWhole) (arg2 : Memref sig .tc .vmem S16384x256 .bf16) (harg2 : arg2.IsWhole)
    (arg3 : Memref sig .tc .vmem S1x144x16384 .bf16) (harg3 : arg3.IsWhole) (arg4 : Memref sig .tc .vmem S16384x128 .bf16) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S8x512 .f32) (harg7 : arg7.IsWhole) (arg8 : Memref sig .tc .vmem S8x512 .f32) (harg8 : arg8.IsWhole)
    (arg9 : Memref sig .tc .vmem S32x1x512 .f32) (harg9 : arg9.IsWhole) (arg10 : Memref sig .tc .vmem S32x144x512 .f32) (harg10 : arg10.IsWhole)
    (Q : Vec F S1x192x16384 .bf16) (K : Vec F S16384x256 .bf16) (V : Vec F S1x144x16384 .bf16) (S₀ : FState F) {β : Type}
    (kk : BitVec 32 × BitVec 32 → Prog (TpuEff nD τ sig (Elt F) Λ₀ .tc) β) (post : β → sProp 𝕄) :
    flatInv c arg1 arg2 arg3 arg5 arg6 arg7 arg8 arg9 arg10 Q K V S₀ 0 (1#32, 0#32)
      ⊢ iprop((∀ w, flatInv c arg1 arg2 arg3 arg5 arg6 arg7 arg8 arg9 arg10 Q K V S₀ k0_t1_loop.trips w -∗ wp frame (wpE (defs₀ (F := F)) Variants.none (c : Thread nD τ) none) Set.univ (kk w) post)
        -∗ wp frame (wpE (defs₀ (F := F)) Variants.none (c : Thread nD τ) none) Set.univ
          (Scf.Loop.for k0_t1_loop k0_t1_ok (1#32, 0#32) (flatBody i arg1 harg1 arg2 harg2 arg3 harg3 arg4 harg4 arg5 harg5 arg6 harg6 arg7 harg7 arg8 harg8 arg9 harg9 arg10 harg10) >>= kk) post) := by
  have hb : ∀ (t : Fin k0_t1_loop.trips) (w : BitVec 32 × BitVec 32), flatInv c arg1 arg2 arg3 arg5 arg6 arg7 arg8 arg9 arg10 Q K V S₀ t.val w
      ⊢ wp frame (wpE (defs₀ (F := F)) Variants.none (c : Thread nD τ) none) Set.univ
          (flatBody i arg1 harg1 arg2 harg2 arg3 harg3 arg4 harg4 arg5 harg5 arg6 harg6 arg7 harg7 arg8 harg8 arg9 harg9 arg10 harg10 t w)
          (flatInv c arg1 arg2 arg3 arg5 arg6 arg7 arg8 arg9 arg10 Q K V S₀ (t.val + 1)) := fun t w =>
    wp_flatBody c i arg1 harg1 arg2 harg2 arg3 harg3 arg4 harg4 arg5 harg5 arg6 harg6 arg7 harg7 arg8 harg8 arg9 harg9 arg10 harg10 Q K V S₀ t w
  revert hb
  generalize flatBody (F := F) i arg1 harg1 arg2 harg2 arg3 harg3 arg4 harg4 arg5 harg5 arg6 harg6 arg7 harg7 arg8 harg8 arg9 harg9 arg10 harg10 = body
  generalize flatInv c arg1 arg2 arg3 arg5 arg6 arg7 arg8 arg9 arg10 Q K V S₀ = I
  intro hb
  exact Scf.wp_for_bind frame (wpE (defs₀ (F := F)) Variants.none (c : Thread nD τ) none) Set.univ k0_t1_loop.lb k0_t1_loop.ub k0_t1_loop.st k0_t1_ok (1#32, 0#32) body I hb

/-- The body leaves the inputs and the result at `attnOut`, and the buffers it works in at some contents. -/
theorem wp_body (c : Dev nD) (i : grid0.Coords) (arg1 : Memref sig .tc .vmem S1x192x16384 .bf16) (harg1 : arg1.IsWhole) (arg2 : Memref sig .tc .vmem S16384x256 .bf16) (harg2 : arg2.IsWhole)
    (arg3 : Memref sig .tc .vmem S1x144x16384 .bf16) (harg3 : arg3.IsWhole) (arg4 : Memref sig .tc .vmem S16384x128 .bf16) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S8x512 .f32) (harg7 : arg7.IsWhole) (arg8 : Memref sig .tc .vmem S8x512 .f32) (harg8 : arg8.IsWhole)
    (arg9 : Memref sig .tc .vmem S32x1x512 .f32) (harg9 : arg9.IsWhole) (arg10 : Memref sig .tc .vmem S32x144x512 .f32) (harg10 : arg10.IsWhole)
    (Q : Vec F S1x192x16384 .bf16) (K : Vec F S16384x256 .bf16) (V : Vec F S1x144x16384 .bf16) (O : Vec F S16384x128 .bf16) :
    iprop(owns (c : Thread nD τ) arg1 fullShare Q ∗ owns (c : Thread nD τ) arg2 fullShare K ∗ owns (c : Thread nD τ) arg3 fullShare V
        ∗ owns (c : Thread nD τ) arg4 fullShare O ∗ work c arg5 arg6 arg7 arg8 arg9 arg10)
      ⊢ wp frame (wpE (defs₀ (F := F)) Variants.none (c : Thread nD τ) none) Set.univ
          (cc0_mla_attn i arg1 harg1 arg2 harg2 arg3 harg3 arg4 harg4 arg5 harg5 arg6 harg6 arg7 harg7 arg8 harg8 arg9 harg9 arg10 harg10)
          (fun _ => iprop(owns (c : Thread nD τ) arg1 fullShare Q ∗ owns (c : Thread nD τ) arg2 fullShare K ∗ owns (c : Thread nD τ) arg3 fullShare V
            ∗ owns (c : Thread nD τ) arg4 fullShare (attnOut Q K V) ∗ work c arg5 arg6 arg7 arg8 arg9 arg10)) := by
  rw [body_eq]
  unfold work
  iintro ⟨H1, H2, H3, H4, ⟨%X5, H5⟩, ⟨%X6, H6⟩, ⟨%X7, H7⟩, ⟨%X8, H8⟩, ⟨%X9, H9⟩, ⟨%X10, H10⟩⟩
  iapply (wp_flatStart c arg1 arg2 arg3 arg5 arg6 arg7 arg8 arg9 arg10 Q K V ⟨X5, X6, X7, X8, X9, X10⟩ (owns (c : Thread nD τ) arg4 fullShare O) _ _ ?_)
  swap
  · unfold held
    dsimp only
    isplitr [H4]
    swap
    · iexact H4
    isplitl [H1]; · iexact H1
    isplitl [H2]; · iexact H2
    isplitl [H3]; · iexact H3
    isplitl [H5]; · iexact H5
    isplitl [H6]; · iexact H6
    isplitl [H7]; · iexact H7
    isplitl [H8]; · iexact H8
    isplitl [H9]; · iexact H9
    iexact H10
  dsimp only
  obtain ⟨-, -, hmx, hac⟩ := fstate_congr Q K V (start Q K X6 X8) (start Q K (tileS Q K 1 0) (tileM Q K 1 0)) rfl rfl rfl rfl 496
  iintro ⟨H, H4⟩
  rw [wp_bind]
  have hloop := fun (kk : BitVec 32 × BitVec 32 → Prog (TpuEff nD τ sig (Elt F) Λ₀ .tc) (Σ' (_ : BitVec 32), BitVec 32)) (post : (Σ' (_ : BitVec 32), BitVec 32) → sProp 𝕄) =>
    wp_flatLoop c i arg1 harg1 arg2 harg2 arg3 harg3 arg4 harg4 arg5 harg5 arg6 harg6 arg7 harg7 arg8 harg8 arg9 harg9 arg10 harg10 Q K V (start Q K X6 X8) kk post
  iapply (hloop _ _) $$ [H]
  · unfold flatInv
    isplitr; · ipureintro; rfl
    iexact H
  iintro %w H
  rw [trips1]
  unfold flatInv held
  icases H with ⟨%hw, H1, H2, H3, H5, H6, H7, H8, H9, H10⟩
  rw [show 62 * 8 = 496 from rfl, hmx, hac]
  rw [show (fstate Q K V (start Q K (tileS Q K 1 0) (tileM Q K 1 0)) 496) = flatEnd Q K V from rfl]
  generalize (fstate Q K V (start Q K X6 X8) 496) = S
  have hk : ∀ x7 x8, iprop((owns (c : Thread nD τ) arg1 fullShare Q ∗ owns (c : Thread nD τ) arg2 fullShare K ∗ owns (c : Thread nD τ) arg3 fullShare V
        ∗ owns (c : Thread nD τ) arg4 fullShare (attnOut Q K V) ∗ (∃ X, owns (c : Thread nD τ) arg5 fullShare X) ∗ (∃ X, owns (c : Thread nD τ) arg6 fullShare X)
        ∗ (∃ X, owns (c : Thread nD τ) arg9 fullShare X) ∗ (∃ X, owns (c : Thread nD τ) arg10 fullShare X))
        ∗ (owns (c : Thread nD τ) arg7 fullShare x7 ∗ owns (c : Thread nD τ) arg8 fullShare x8))
      ⊢ (iprop(owns (c : Thread nD τ) arg1 fullShare Q ∗ owns (c : Thread nD τ) arg2 fullShare K ∗ owns (c : Thread nD τ) arg3 fullShare V
        ∗ owns (c : Thread nD τ) arg4 fullShare (attnOut Q K V) ∗ (∃ X, owns (c : Thread nD τ) arg5 fullShare X) ∗ (∃ X, owns (c : Thread nD τ) arg6 fullShare X) ∗ (∃ X, owns (c : Thread nD τ) arg7 fullShare X)
        ∗ (∃ X, owns (c : Thread nD τ) arg8 fullShare X) ∗ (∃ X, owns (c : Thread nD τ) arg9 fullShare X) ∗ (∃ X, owns (c : Thread nD τ) arg10 fullShare X)) : sProp 𝕄) := by
    intro x7 x8
    iintro ⟨⟨H1, H2, H3, H4, H5, H6, H9, H10⟩, H7, H8⟩
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    iexact H10
  have hd := wp_diagAll c arg1 arg2 arg3 arg4 harg4 arg5 arg6 arg9 arg10 Q K V ⟨S.sc, S.sn, O⟩
    iprop(owns (c : Thread nD τ) arg7 fullShare S.mc ∗ owns (c : Thread nD τ) arg8 fullShare S.mn) (fun _ => _) (hk S.mc S.mn)
  iapply (exec_ret Variants.none (c : Thread nD τ) none Set.univ (⟨0#32, 0#32⟩ : Σ' (_ : BitVec 32), BitVec 32) hd)
  isplitr [H7 H8]
  swap
  · isplitl [H7]; · iexact H7
    iexact H8
  unfold heldD
  dsimp only
  isplitl [H1]; · iexact H1
  isplitl [H2]; · iexact H2
  isplitl [H3]; · iexact H3
  isplitl [H9]; · iexact H9
  isplitl [H10]; · iexact H10
  isplitl [H5]; · iexact H5
  isplitl [H6]; · iexact H6
  iexact H4

/-! ## The pipeline's proof data -/

open Idealize.ShloMosaic.Rounds Idealize.ShloMosaic.Pipeline
variable (m : (ℓ : Loc nD τ sig) → Buf (Elt F) ℓ) (ρ : Dev nD → PrngReg)

/-- Arrays as the region finds them; each input's block left in place, the result's at `attnOut` of the three. -/
noncomputable def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => attnOut (Gen.iblk m c 0 t) (Gen.iblk m c 1 t) (Gen.iblk m c 2 t)
  Φ _ := Pipeline.ΦA spec0 c
  q _ := fullShare
  owed _ := 0

/-- The proof data's arrays are what the region finds. -/
theorem A_eq (c : Dev nD) (w : Fin cfg0.W) : (dats m 0 c).A w = Gen.V m c (Pipeline.arrRef spec0 w) := by dsimp only [dats]

/-- What the body leaves in the queries' window, -/
theorem after0_0 (c : Dev nD) (t : Fin cfg0.N) : (dats m 0 c).after 0 t = Gen.iblk m c 0 t := by dsimp only [dats]
/-- in the keys', -/
theorem after0_1 (c : Dev nD) (t : Fin cfg0.N) : (dats m 0 c).after 1 t = Gen.iblk m c 1 t := by dsimp only [dats]
/-- in the values', -/
theorem after0_2 (c : Dev nD) (t : Fin cfg0.N) : (dats m 0 c).after 2 t = Gen.iblk m c 2 t := by dsimp only [dats]
/-- and in the result's. -/
theorem after0_3 (c : Dev nD) (t : Fin cfg0.N) :
    (dats m 0 c).after 3 t = attnOut (Gen.iblk m c 0 t) (Gen.iblk m c 1 t) (Gen.iblk m c 2 t) := by dsimp only [dats]

/-- The queries' buffer holds its block at every point, -/
theorem before0_0 (c : Dev nD) (t : Fin cfg0.N) (d) : (dats m 0 c).before 0 t d = Gen.iblk m c 0 t :=
  Gen.before0_0_of m (dats m 0 c) (A_eq m c 0) (after0_0 m c) t d
/-- the keys' too, -/
theorem before0_1 (c : Dev nD) (t : Fin cfg0.N) (d) : (dats m 0 c).before 1 t d = Gen.iblk m c 1 t :=
  Gen.before0_1_of m (dats m 0 c) (A_eq m c 1) (after0_1 m c) t d
/-- and the values'. -/
theorem before0_2 (c : Dev nD) (t : Fin cfg0.N) (d) : (dats m 0 c).before 2 t d = Gen.iblk m c 2 t :=
  Gen.before0_2_of m (dats m 0 c) (A_eq m c 2) (after0_2 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t)
    ∗ owns (c : Thread nD τ) (Gen.st0_3 t) fullShare ((dats m 0 c).after 3 t))

/-- The buffers the body works in, taken out of the region's scoped buffers. -/
theorem scoped_work (c : Dev nD) :
    (Pipeline.scopedRest (Ix := Unit) (Name := ℕ) (U := UR sig nD τ) (Lvl := ℕ) (Val := Elt F) spec0 c : sProp 𝕄)
      = work c (Memref.whole cc0_scratch0) (Memref.whole cc0_scratch1) (Memref.whole cc0_scratch2) (Memref.whole cc0_scratch3) (Memref.whole cc0_scratch4) (Memref.whole cc0_scratch5) := by
  rw [Gen.scopedRest0_eq c]
  unfold work
  simp only [owns_whole]
  rfl

/-- The body at any point. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3]
  unfold Pipeline.ΦA
  rw [scoped_work]
  generalize (dats m 0 c).owesAt () t.castSucc = O
  iintro ⟨⟨HW, Hp⟩, Ho, ⟨%d0, H0⟩, ⟨%d1, H1⟩, ⟨%d2, H2⟩, ⟨%d3, H3⟩⟩
  iapply (wp_wand_r frame (wpE (defs₀ (F := F)) Variants.none c none) Set.univ)
  isplitr [Hp Ho]
  · iapply (wp_body c _ _ _ _ _ _ _ _ _ _ _ _ _ _ _ _ _ _ _ _ _ (Gen.iblk m c 0 t) (Gen.iblk m c 1 t) (Gen.iblk m c 2 t) _)
    isplitl [H0]; · iexact H0
    isplitl [H1]; · iexact H1
    isplitl [H2]; · iexact H2
    isplitl [H3]; · iexact H3
    iexact HW
  iintro %_ ⟨H0, H1, H2, H3, HW⟩
  isplitl [HW Hp]
  · isplitl [HW]; · iexact HW
    iexact Hp
  isplitl [Ho]; · iexact Ho
  isplitl [H0]; · iexact H0
  isplitl [H1]; · iexact H1
  isplitl [H2]; · iexact H2
  iexact H3

/-- The body table's row at a point is the body. -/
theorem defs₀_row (t : Fin cfg0.N) :
    defs₀ (F := F) .tc cfg0.body (cfg0.bodyArgs t (cfg0.slots t)) = Gen.bodyAt0 t := by
  unfold defs₀; rw [Defs.onTc_tc]

/-- The library's body obligation. -/
theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

set_option backward.isDefEq.respectTransparency.types false in
/-- The run: every window's array at what the library computes, every other buffer as the region found it, and every
    counter at zero. -/
theorem run_main : θ_run defs (onTc (τ := τ) (main (F := F))) (s₀ m ρ) (fun r => (Pipeline.FramePost cfgs (dats m) 0 (Gen.V m)) r ∧ r.2.sem = fun _ => 0) :=
  Pipeline.θ_run_frame (Q' := _) cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hΦ := fun _ _ => rfl)

/-- The frame, at any floats. -/
theorem frameHolds : frameAt F := fun m ρ _ =>
  θ_run_and (Gen.frame_of m ρ (dats m) (A_eq m) ((θ_run defs _ _).mono (fun _ h => h.1) (run_main m ρ)))
    ((θ_run defs _ _).mono (fun _ h => h.2) (run_main m ρ))

end Cert.KernelIdeal.Att

end
-- ==== Proof.Meet.lean ====
/-
  The attention kernel's array is the reference's: both average a head's values by the exponentials of its scores.
-/
module

public import proofs.«01_k».proof.Proof.Value
public import proofs.«01_k».proof.Proof.Host
public import proofs.«01_k».proof.Proof.Ref
public import proofs.«01_k».proof.Proof.Run

@[expose] public section

set_option maxRecDepth 16384

noncomputable section

namespace Cert.KernelIdeal.Att

open Idealize.ShloMosaic Idealize.ShloMosaic.TcCoe
open Cert.KernelIdeal
open Cert.ReferenceIdeal.Read (logits tops exps average logits_at tops_at exps_at average_at)

/-! ## The constants -/

/-- The scale's word is a real. -/
theorem scale_real : ∃ s : ℝ, Ideal.ofBits .f32 0x3D93CD3A#32 = (s : EReal) := by
  refine ⟨_, by simp only [Ideal.ofBits, Ideal.ieee]; rfl⟩

/-- The word of two is two. -/
theorem two_word : Ideal.ofBits .f32 0x40000000#32 = ((2 : ℝ) : EReal) := by
  simp [Ideal.ofBits, Ideal.ieee]
  rw [← EReal.coe_mul]
  norm_num

/-- The queries' multiplier: the scale over the logarithm of two. -/
theorem qScale_eq (s : ℝ) (hs : Ideal.ofBits .f32 0x3D93CD3A#32 = (s : EReal)) : qScale = ((s / Real.log 2 : ℝ) : EReal) := by
  have hl : Real.log 2 ≠ 0 := (Real.log_pos (by norm_num)).ne'
  unfold qScale
  rw [hs, two_word, Ideal.log_coe, if_neg (by norm_num)]
  unfold Ideal.div
  rw [if_neg (by exact_mod_cast hl), ← EReal.coe_inv, ← EReal.coe_mul, div_eq_mul_inv]

/-- Two to a real over the logarithm of two is that real's exponential. -/
theorem two_rpow_div_log (y : ℝ) : (2 : ℝ) ^ (y / Real.log 2) = Real.exp y := by
  have hl : Real.log 2 ≠ 0 := (Real.log_pos (by norm_num)).ne'
  rw [Real.rpow_def_of_pos (by norm_num), mul_div_cancel₀ _ hl]

/-! ## The scores -/

/-- A head's product of a query and a key, both reals. -/
def dotR (r0 : S16384x8x128.Idx → ℝ) (r1 : S16384x8x64.Idx → ℝ) (r2 : S16384x8x128.Idx → ℝ) (r3 : S16384x64.Idx → ℝ) (h : Fin 8) (k x : Fin 16384) : ℝ :=
  (∑ d : Fin 128, r0 (ix3 x h d) * r2 (ix3 k h d)) + ∑ d : Fin 64, r3 (ix2 k d) * r1 (ix3 x h d)

/-- The same product times `s`, by the keys' and queries' places as numbers. -/
def scoreR (r0 : S16384x8x128.Idx → ℝ) (r1 : S16384x8x64.Idx → ℝ) (r2 : S16384x8x128.Idx → ℝ) (r3 : S16384x64.Idx → ℝ) (h : Fin 8) (s : ℝ) (k x : ℕ) : ℝ :=
  if hk : k < 16384 then if hx : x < 16384 then dotR r0 r1 r2 r3 h ⟨k, hk⟩ ⟨x, hx⟩ * s / Real.log 2 else 0 else 0

/-- A sum over the 192 joined coordinates is the sum over the first 128 and that over the last 64. -/
theorem split192 (f : Fin 192 → EReal) : ∑ d, f d = (∑ d : Fin 128, f ⟨d.val, by omega⟩) + ∑ d : Fin 64, f ⟨128 + d.val, by omega⟩ :=
  Fin.sum_univ_add (a := 128) (b := 64) f

/-- The product over the joined coordinates, the queries' scaled, is the product by its two parts, scaled. -/
theorem dot_joined (a0 : FVec Ideal S16384x8x128 .f32) (a1 : FVec Ideal S16384x8x64 .f32) (a2 : FVec Ideal S16384x8x128 .f32) (a3 : FVec Ideal S16384x64 .f32)
    (r0 : S16384x8x128.Idx → ℝ) (r1 : S16384x8x64.Idx → ℝ) (r2 : S16384x8x128.Idx → ℝ) (r3 : S16384x64.Idx → ℝ)
    (h0 : ∀ i, a0 i = (r0 i : EReal)) (h1 : ∀ i, a1 i = (r1 i : EReal)) (h2 : ∀ i, a2 i = (r2 i : EReal)) (h3 : ∀ i, a3 i = (r3 i : EReal))
    (s : ℝ) (hs : Ideal.ofBits .f32 0x3D93CD3A#32 = (s : EReal)) (h : Fin 8) (k x : Fin 16384) :
    (∑ d : Fin 192, (show EReal from hostK a2 a3 (ix2 k ⟨256 * h.val + d.val, by omega⟩)) * (show EReal from hostQ a0 a1 (ix3 h d x)))
      = ((dotR r0 r1 r2 r3 h k x * s / Real.log 2 : ℝ) : EReal) := by
  rw [split192]
  have e1 : ∀ d : Fin 128, (show EReal from hostK a2 a3 (ix2 k ⟨256 * h.val + d.val, by omega⟩)) * (show EReal from hostQ a0 a1 (ix3 h ⟨d.val, by omega⟩ x))
      = ((r2 (ix3 k h d) * (r0 (ix3 x h d) * (s / Real.log 2)) : ℝ) : EReal) := fun d => by
    have eK := hostK_at a2 a3 h ⟨d.val, by omega⟩ k
    have eQ := hostQ_at a0 a1 h ⟨d.val, by omega⟩ x
    rw [dif_pos d.isLt] at eK eQ
    rw [EReal.coe_mul, EReal.coe_mul, ← qScale_eq s hs, ← h2, ← h0]
    exact congrArg₂ (fun x y : EReal => x * y) eK eQ
  have e2 : ∀ d : Fin 64, (show EReal from hostK a2 a3 (ix2 k ⟨256 * h.val + (128 + d.val), by omega⟩)) * (show EReal from hostQ a0 a1 (ix3 h ⟨128 + d.val, by omega⟩ x))
      = ((r3 (ix2 k d) * (r1 (ix3 x h d) * (s / Real.log 2)) : ℝ) : EReal) := fun d => by
    have eK := hostK_at a2 a3 h ⟨128 + d.val, by omega⟩ k
    have eQ := hostQ_at a0 a1 h ⟨128 + d.val, by omega⟩ x
    have hd : (⟨128 + d.val - 128, by omega⟩ : Fin 64) = d := Fin.ext (by simp)
    rw [dif_neg (by simp)] at eK eQ
    simp only [hd] at eK eQ
    rw [EReal.coe_mul, EReal.coe_mul, ← qScale_eq s hs, ← h3, ← h1]
    exact congrArg₂ (fun x y : EReal => x * y) eK eQ
  refine (congrArg₂ (fun x y : EReal => x + y) ((Finset.sum_congr rfl fun d _ => e1 d).trans (coe_sum _ _).symm) ((Finset.sum_congr rfl fun d _ => e2 d).trans (coe_sum _ _).symm)).trans ?_
  show ((_ : ℝ) : EReal) + ((_ : ℝ) : EReal) = _
  rw [← EReal.coe_add]
  congr 1
  unfold dotR
  rw [mul_div_assoc, add_mul, Finset.sum_mul, Finset.sum_mul]
  congr 1 <;> exact Finset.sum_congr rfl fun d _ => by ring

/-! ## The kernel's blocks -/

variable (m : (ℓ : Loc nD τ sig) → Buf (Elt Ideal) ℓ)

/-- The values of a head by their places as numbers. -/
def valR (a4 : FVec Ideal S16384x8x128 .f32) (h : Fin 8) (d : Fin 144) (k : ℕ) : EReal :=
  if hk : k < 16384 then hostV a4 (ix3 h d ⟨k, hk⟩) else 1

/-- At a point the call's scores are the scores of its head, its values the head's. -/
theorem block_reads (c : Dev nD) (t : Fin cfg0.N) (h : Fin 8) (ht : t.val = h.val)
    (r0 : S16384x8x128.Idx → ℝ) (r1 : S16384x8x64.Idx → ℝ) (r2 : S16384x8x128.Idx → ℝ) (r3 : S16384x64.Idx → ℝ)
    (h0 : ∀ i, (m ((c : Thread nD τ).loc main_arg0) : FVec Ideal S16384x8x128 .f32) i = (r0 i : EReal)) (h1 : ∀ i, (m ((c : Thread nD τ).loc main_arg1) : FVec Ideal S16384x8x64 .f32) i = (r1 i : EReal))
    (h2 : ∀ i, (m ((c : Thread nD τ).loc main_arg2) : FVec Ideal S16384x8x128 .f32) i = (r2 i : EReal)) (h3 : ∀ i, (m ((c : Thread nD τ).loc main_arg3) : FVec Ideal S16384x64 .f32) i = (r3 i : EReal))
    (s : ℝ) (hs : Ideal.ofBits .f32 0x3D93CD3A#32 = (s : EReal)) :
    Reads (Gen.iblk m c 0 t : Vec Ideal S1x192x16384 .bf16) (Gen.iblk m c 1 t : Vec Ideal S16384x256 .bf16) (Gen.iblk m c 2 t : Vec Ideal S1x144x16384 .bf16)
      (scoreR r0 r1 r2 r3 h s) (valR (m ((c : Thread nD τ).loc main_arg4)) h) where
  tile a b ha hb k q := by
    rw [tileS_at _ _ a b ha hb]
    unfold scoreR
    rw [dif_pos (by omega), dif_pos (by omega), ← dot_joined _ _ _ _ r0 r1 r2 r3 h0 h1 h2 h3 s hs]
    refine Finset.sum_congr rfl fun d _ => congrArg₂ (fun x y : EReal => x * y) ?_ ?_
    · exact blockK m c t h ht ⟨d.val, by omega⟩ _
    · exact blockQ m c t h ht d _
  vals d k := by
    unfold valR
    rw [dif_pos k.isLt]
    exact blockV m c t h ht d k
  ones k := by
    unfold valR
    split
    · exact hostV_one _ h _
    · rfl

/-! ## The reference's row -/

/-- A row of scores, those after the query at minus infinity, through the softmax: the values averaged by the exponentials. -/
theorem softmax_row (z : Fin 16384 → ℝ) (w : Fin 16384 → ℝ) (x : Fin 16384) (t : Fin 16384 → EReal) (ht : ∀ k, t k = if k.val ≤ x.val then (z k : EReal) else ⊥)
    (hw : ∀ k, w k = if k.val ≤ x.val then Real.exp (z k) else 0) (hW : 0 < ∑ k, w k) (v : Fin 16384 → EReal) :
    ∑ k, v k * Ideal.div (Ideal.exp (t k - (Finset.univ : Finset (Fin 16384)).fold max (⊥ : EReal) t)) (∑ k, Ideal.exp (t k - (Finset.univ : Finset (Fin 16384)).fold max (⊥ : EReal) t))
      = ∑ k, v k * ((w k / ∑ k, w k : ℝ) : EReal) := by
  obtain ⟨B, hB⟩ : ∃ B : ℝ, (Finset.univ : Finset (Fin 16384)).fold max (⊥ : EReal) t = (B : EReal) := by
    refine fold_max_real _ _ (fun g _ => ?_) x (Finset.mem_univ _) ?_
    · rw [ht]
      split
      · exact EReal.coe_ne_top _
      · exact bot_ne_top
    · rw [ht, if_pos le_rfl]; exact EReal.coe_ne_bot _
  rw [hB]
  have he : ∀ k, Ideal.exp (t k - (B : EReal)) = ((Real.exp (-B) * w k : ℝ) : EReal) := fun k => by
    rw [ht, hw]
    split
    · rw [← EReal.coe_sub, Ideal.exp_coe, ← Real.exp_add]
      exact congrArg (fun y : ℝ => ((Real.exp y : ℝ) : EReal)) (by ring)
    · rw [mul_zero, EReal.bot_sub]
      rfl
  have hp : 0 < Real.exp (-B) := Real.exp_pos _
  have hsum : ∑ k, Ideal.exp (t k - (B : EReal)) = ((Real.exp (-B) * ∑ k, w k : ℝ) : EReal) := by
    rw [Finset.mul_sum, coe_sum]
    exact Finset.sum_congr rfl fun k _ => he k
  rw [hsum]
  refine Finset.sum_congr rfl fun k _ => ?_
  rw [he k]
  generalize ∑ k, w k = W at *
  have hne : Real.exp (-B) * W ≠ 0 := (mul_pos hp hW).ne'
  unfold Ideal.div
  rw [if_neg (by exact_mod_cast hne), ← EReal.coe_inv, ← EReal.coe_mul]
  exact congrArg (fun y : ℝ => v k * (y : EReal)) (by field_simp)

/-- The kernel's array at a point, a query and a coordinate is the reference's. -/
theorem value_eq (c : Dev nD) (t : Fin cfg0.N) (h : Fin 8) (ht : t.val = h.val)
    (hr0 : ∀ i, ∃ r : ℝ, (m ((c : Thread nD τ).loc main_arg0) : FVec Ideal S16384x8x128 .f32) i = (r : EReal)) (hr1 : ∀ i, ∃ r : ℝ, (m ((c : Thread nD τ).loc main_arg1) : FVec Ideal S16384x8x64 .f32) i = (r : EReal))
    (hr2 : ∀ i, ∃ r : ℝ, (m ((c : Thread nD τ).loc main_arg2) : FVec Ideal S16384x8x128 .f32) i = (r : EReal)) (hr3 : ∀ i, ∃ r : ℝ, (m ((c : Thread nD τ).loc main_arg3) : FVec Ideal S16384x64 .f32) i = (r : EReal))
    (x : Fin 16384) (d : Fin 128) :
    attnOut (F := Ideal) (Gen.iblk m c 0 t) (Gen.iblk m c 1 t) (Gen.iblk m c 2 t) (ix2 x d)
      = average (m ((c : Thread nD τ).loc main_arg4)) (exps (logits (m ((c : Thread nD τ).loc main_arg0)) (m ((c : Thread nD τ).loc main_arg1)) (m ((c : Thread nD τ).loc main_arg2)) (m ((c : Thread nD τ).loc main_arg3)))
          (tops (logits (m ((c : Thread nD τ).loc main_arg0)) (m ((c : Thread nD τ).loc main_arg1)) (m ((c : Thread nD τ).loc main_arg2)) (m ((c : Thread nD τ).loc main_arg3)))))
        (ix2 x ⟨128 * h.val + d.val, by omega⟩) := by
  choose r0 h0 using hr0
  choose r1 h1 using hr1
  choose r2 h2 using hr2
  choose r3 h3 using hr3
  obtain ⟨s, hs⟩ := scale_real
  rw [attnOut_at (block_reads m c t h ht r0 r1 r2 r3 h0 h1 h2 h3 s hs), average_at]
  have hL : ∀ k, logits (m ((c : Thread nD τ).loc main_arg0)) (m ((c : Thread nD τ).loc main_arg1)) (m ((c : Thread nD τ).loc main_arg2)) (m ((c : Thread nD τ).loc main_arg3)) (ix3 h x k)
      = if k.val ≤ x.val then ((dotR r0 r1 r2 r3 h k x * s : ℝ) : EReal) else ⊥ := fun k => by
    rw [logits_at, hs]
    refine if_congr Iff.rfl ?_ rfl
    rw [EReal.coe_mul]
    refine congrArg (fun y : EReal => y * (s : EReal)) ?_
    unfold dotR
    rw [EReal.coe_add, coe_sum, coe_sum]
    refine congrArg₂ (fun x y : EReal => x + y) (Finset.sum_congr rfl fun d _ => ?_) (Finset.sum_congr rfl fun d _ => ?_)
    · rw [EReal.coe_mul, ← h0, ← h2]
    · rw [EReal.coe_mul, ← h3, ← h1]
  generalize logits (m ((c : Thread nD τ).loc main_arg0)) (m ((c : Thread nD τ).loc main_arg1)) (m ((c : Thread nD τ).loc main_arg2)) (m ((c : Thread nD τ).loc main_arg3)) = L at *
  have hw : ∀ k : Fin 16384, wt (scoreR r0 r1 r2 r3 h s) x.val k.val = if k.val ≤ x.val then Real.exp (dotR r0 r1 r2 r3 h k x * s) else 0 := fun k => by
    unfold wt scoreR
    rw [dif_pos k.isLt, dif_pos x.isLt, two_rpow_div_log]
  have hW : 0 < ∑ k : Fin 16384, wt (scoreR r0 r1 r2 r3 h s) x.val k.val := by
    rw [← Finset.sum_range fun k => wt (scoreR r0 r1 r2 r3 h s) x.val k]
    exact wt_sum_pos _ _ _ x.isLt
  have hrow := softmax_row (fun k => dotR r0 r1 r2 r3 h k x * s) (fun k => wt (scoreR r0 r1 r2 r3 h s) x.val k.val) x (fun k => L (ix3 h x k)) hL hw hW
    (fun k => (m ((c : Thread nD τ).loc main_arg4) : FVec Ideal S16384x8x128 .f32) (ix3 k h d))
  have hE : ∀ k, exps L (tops L) (ix3 h x k) = Ideal.exp (L (ix3 h x k) - (Finset.univ : Finset (Fin 16384)).fold max (⊥ : EReal) fun k => L (ix3 h x k)) := fun k => by
    rw [exps_at, tops_at]
  simp only [hE]
  refine Eq.trans ?_ hrow.symm
  rw [Finset.sum_range, Finset.sum_range]
  refine Finset.sum_congr rfl fun k _ => congrArg (fun y : EReal => y * _) ?_
  unfold valR
  rw [dif_pos k.isLt]
  exact hostV_at _ h d k

end Cert.KernelIdeal.Att

end
-- ==== Proof.Finite.lean ====
/-
  The precondition read: the queries and keys are reals.
-/
module

public import proofs.«01_k».proof.Proof.Gen.Pre_finite_qk
public import Idealize.ShloMosaic.Lib.ReduceAll
public import Idealize.ShloMosaic.Lib.Pointwise

@[expose] public section

set_option maxRecDepth 16384

noncomputable section

namespace Cert.Pre_finite_qk.Read

open Idealize.ShloMosaic
open Cert.Pre_finite_qk Cert.Pre_finite_qk.Facts

/-- A number whose magnitude is below the infinity's is a real. -/
theorem real_of_abs_lt (x : EReal) (h : FloatOps.cmpf (F := Ideal) (φ := .f32) .olt (FloatOps.absf (F := Ideal) (φ := .f32) x) (FloatOps.ofBits (F := Ideal) .f32 0x7F800000#32) = 1#1) : ∃ r : ℝ, x = (r : EReal) := by
  have ht : (FloatOps.ofBits (F := Ideal) .f32 0x7F800000#32 : EReal) = ⊤ := by
    show Ideal.ofBits .f32 0x7F800000#32 = ⊤
    simp [Ideal.ofBits, Ideal.ieee]
  have h' : BitVec.ofBool (decide (max x (-x) < (FloatOps.ofBits (F := Ideal) .f32 0x7F800000#32 : EReal))) = 1#1 := h
  rw [ht] at h'
  have hlt : max x (-x) < (⊤ : EReal) := by
    by_contra hn
    rw [decide_eq_false hn] at h'
    exact absurd h' (by decide)
  rw [max_lt_iff] at hlt
  induction x with
  | bot => exact absurd hlt.2 (by simp)
  | top => exact absurd hlt.1 (by simp)
  | coe r => exact ⟨r, rfl⟩

variable (a0 : FVec Ideal S16384x8x128 .f32) (a1 : FVec Ideal S16384x8x64 .f32) (a2 : FVec Ideal S16384x8x128 .f32) (a3 : FVec Ideal S16384x64 .f32) (a4 : FVec Ideal S16384x8x128 .f32)

/-- Where the precondition holds every query's and key's coordinate is a real. -/
theorem reals (h : ∀ i, fn (F := Ideal) a0 a1 a2 a3 a4 i = 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  haveI : Subsingleton S_.Idx := ⟨fun a b => funext fun x => x.elim0⟩
  have e := h (Shape.Idx.first h_S_)
  dsimp only [fn, fn_part1] at e
  obtain ⟨e, e3⟩ := IntOp.andi_eq_one.1 e
  obtain ⟨e, e2⟩ := IntOp.andi_eq_one.1 e
  obtain ⟨e0, e1⟩ := IntOp.andi_eq_one.1 e
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i)⟩

end Cert.Pre_finite_qk.Read

end
-- ==== Proof.Claims.lean ====
/-
  The claims: the frames, and the kernel's array equal to the reference's.
-/
module

public import proofs.«01_k».proof.Defs
public import proofs.«01_k».proof.Proof.Gen.Kernel
public import proofs.«01_k».proof.Proof.Meet
public import proofs.«01_k».proof.Proof.Finite
public import proofs.«01_k».proof.Proof.Transfer
public import Idealize.ShloMosaic.Lib.Quiescent

@[expose] public section

set_option maxRecDepth 16384

noncomputable section

namespace Cert.KernelIdeal.Att

open Idealize.ShloMosaic Idealize.ShloMosaic.TcCoe Idealize.SL.Sem
open Idealize.ShloMosaic.Rounds
open Cert.KernelIdeal
open Cert.ReferenceIdeal.Read (logits tops exps average)

variable (m : (ℓ : Loc nD τ sig) → Buf (Elt Ideal) ℓ) (ρ : Dev nD → PrngReg)

/-- The reference's array of the kernel's arguments. -/
def answer (c : Dev nD) : FVec Ideal S16384x1024 .bf16 :=
  average (m ((c : Thread nD τ).loc main_arg4)) (exps (logits (m ((c : Thread nD τ).loc main_arg0)) (m ((c : Thread nD τ).loc main_arg1)) (m ((c : Thread nD τ).loc main_arg2)) (m ((c : Thread nD τ).loc main_arg3)))
    (tops (logits (m ((c : Thread nD τ).loc main_arg0)) (m ((c : Thread nD τ).loc main_arg1)) (m ((c : Thread nD τ).loc main_arg2)) (m ((c : Thread nD τ).loc main_arg3)))))

/-- The arguments the precondition speaks of are reals. -/
def Finite (c : Dev nD) : Prop :=
  (∀ i, ∃ r : ℝ, (m ((c : Thread nD τ).loc main_arg0) : FVec Ideal S16384x8x128 .f32) i = (r : EReal)) ∧ (∀ i, ∃ r : ℝ, (m ((c : Thread nD τ).loc main_arg1) : FVec Ideal S16384x8x64 .f32) i = (r : EReal))
    ∧ (∀ i, ∃ r : ℝ, (m ((c : Thread nD τ).loc main_arg2) : FVec Ideal S16384x8x128 .f32) i = (r : EReal)) ∧ (∀ i, ∃ r : ℝ, (m ((c : Thread nD τ).loc main_arg3) : FVec Ideal S16384x64 .f32) i = (r : EReal))

/-- A point's block of the result, its element the array's at the point's columns. -/
theorem block_eq (c : Dev nD) (hf : Finite m c) (t : Fin cfg0.N) (z : S16384x128.Idx) (i : S16384x1024.Idx) (h0 : (i 0).val = (z 0).val) (h1 : (i 1).val = 128 * t.val + (z 1).val) :
    attnOut (F := Ideal) (Gen.iblk m c 0 t) (Gen.iblk m c 1 t) (Gen.iblk m c 2 t) z = answer m c i := by
  have hN : t.val < 8 := t.isLt
  obtain ⟨f0, f1, f2, f3⟩ := hf
  idx_vars z
  idx_vars i
  have e0 : i0 = z0 := Fin.ext h0
  have hz : z1.val < 128 := z1.isLt
  have hlt : 128 * t.val + z1.val < 1024 := by omega
  have e1 : i1 = ⟨128 * t.val + z1.val, hlt⟩ := Fin.ext h1
  rw [e0, e1]
  exact value_eq m c t ⟨t.val, hN⟩ rfl f0 f1 f2 f3 z0 z1

/-- After the run the kernel's array is that one. -/
theorem array_eq (c : Dev nD) (hf : Finite m c) : (dats m 0 c).arrAt 3 cfg0.N = answer m c := by
  refine (dats m 0 c).arrAt_eq_of_covers 3 _ (by decide +kernel) fun t _ y => ?_
  blk_simp
  rw [after0_3]
  have hp := place t
  refine block_eq m c hf t y _ ?_ ?_
  · blk_simp
    rw [hp.2.2.2.2.2.2.2.2.1]
    omega
  · blk_simp
    rw [hp.2.2.2.2.2.2.2.2.2]
    omega

/-- The kernel's run, its array read. -/
theorem run_value (hf : ∀ c, Finite m c) : θ_run defs (onTc (τ := τ) (main (F := Ideal))) (s₀ m ρ) (fun r => ∀ c : Dev nD, r.2.mem ((c : Thread nD τ).loc main_v21) = answer m c) :=
  (θ_run defs _ _).mono (fun _ h c => ((h.1 c).1 3).trans (array_eq m c (hf c))) (run_main m ρ)

end Cert.KernelIdeal.Att

namespace Cert.Proof

open Idealize.ShloMosaic Idealize.ShloMosaic.TcCoe Idealize.SL.Sem
open Cert.KernelIdeal.Att (Finite answer run_value frameHolds frame_same)

/-- The precondition gives the arguments' finiteness. -/
theorem finite_of_pre (m : (ℓ : Loc Cert.KernelIdeal.nD Cert.KernelIdeal.τ Cert.KernelIdeal.sig) → Buf (Elt Ideal) ℓ) (h : Cert.Pre_KernelIdeal_finite_qk m) (c : Dev Cert.KernelIdeal.nD) : Finite m c :=
  Cert.Pre_finite_qk.Read.reals _ _ _ _ _ (fun i => congrFun (h c) i)

/-- The kernel's frame. -/
theorem frame_kernel : Cert.quiescent_Kernel := by
  rw [frame_same]
  exact frameHolds

/-- The frame of its idealization. -/
theorem frame_ideal : Cert.quiescent_KernelIdeal := frameHolds

/-- The same under the precondition. -/
theorem frame_ideal_pre : Cert.quiescent_KernelIdeal_pre_finite_qk := fun m ρ _ => frameHolds m ρ trivial

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The two programs end with equal arrays. -/
theorem algebraic : Cert.algebraic_KernelIdeal_ReferenceIdeal_pre_finite_qk := by
  intro m g m' g' hpre hag
  refine ⟨fun c => answer m c, ?_, ?_⟩
  · exact (θ_run Cert.KernelIdeal.defs _ _).mono (fun _ h c => ⟨h.1 c, h.2.1 c⟩)
      (θ_run_and (run_value m g (finite_of_pre m hpre)) (frameHolds m g trivial))
  · refine (θ_run Cert.ReferenceIdeal.defs _ _).mono (fun _ h c => ⟨(h c).1.trans ?_, (h c).2⟩) (Cert.ReferenceIdeal.Value.run (F := Ideal) m' g')
    refine (Cert.ReferenceIdeal.Read.res_eq m' c).trans ?_
    obtain ⟨a0, a1, a2, a3, a4⟩ := hag c
    unfold answer
    rw [a0, a1, a2, a3, a4]

/-- The same under the precondition. -/
theorem frame_reference_pre : Cert.quiescent_ReferenceIdeal_pre_finite_qk := fun m ρ _ => frame_reference m ρ trivial

end Cert.Proof

end
-- ==== Proof.Rows.lean ====
/-
  One row of the feed-forward part: its norm, its products, its gate, as functions of the row.
-/
module

public import Idealize.ShloMosaic.PureOps.Ideal

@[expose] public section

noncomputable section

namespace Cert.Rows

open Idealize.ShloMosaic

/-- The mean of a row. -/
def mean (z : Fin 1024 → EReal) : EReal := Ideal.div (∑ k, z k) (Ideal.ofBits .f32 0x44800000#32)

/-- A row, its mean taken off, divided by its deviation, scaled and shifted. -/
def norm (z g b : Fin 1024 → EReal) (c : Fin 1024) : EReal :=
  (z c - mean z) * Ideal.rsqrt (mean (fun k => (z k - mean z) * (z k - mean z)) + Ideal.ofBits .f32 0x3727C5AC#32) * g c + b c

/-- A row times a matrix. -/
def times {n p : ℕ} (h : Fin n → EReal) (w : Fin n → Fin p → EReal) (j : Fin p) : EReal := ∑ k, h k * w k j

/-- The conditioned row. -/
def cond (x sc sh : Fin 1024 → EReal) (c : Fin 1024) : EReal := x c * (1 + sc c) + sh c

/-- The gated row. -/
def gated (h : Fin 1024 → EReal) (wg wu : Fin 1024 → Fin 2816 → EReal) (j : Fin 2816) : EReal :=
  times h wg j * Ideal.logistic (times h wg j) * times h wu j

/-- A row with a gated addition to it. -/
def added (x g y : Fin 1024 → EReal) (c : Fin 1024) : EReal := Ideal.ofBits .f32 0x3FD744FD#32 * x c + g c * y c

/-- A row through the feed-forward part, before the norm. -/
def fed (x sc sh g : Fin 1024 → EReal) (wg wu : Fin 1024 → Fin 2816 → EReal) (wd : Fin 2816 → Fin 1024 → EReal) : Fin 1024 → EReal :=
  added x g (times (gated (cond x sc sh) wg wu) wd)

end Cert.Rows

end
-- ==== Proof.Mix.lean ====
/-
  The mixing call: what one of its blocks holds, and what its reference's array holds.
-/
module

public import proofs.«01_k».proof.Proof.Rows
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section

set_option maxRecDepth 16384

noncomputable section

namespace Cert.Kernel2Ideal.Mix

open Idealize.ShloMosaic Idealize.ShloMosaic.TcCoe
open Cert.Kernel2Ideal Cert.Kernel2Ideal.Gen
open Cert.Rows

/-- The row after the attention's addition and its norm. -/
theorem mixed_at (x : Vec Ideal S512x1024 .f32) (g : Vec Ideal S1x1024 .f32) (o : Vec Ideal S512x1024 .bf16) (w : Vec Ideal S1024x1024 .bf16) (lg lb : Vec Ideal S1x1024 .f32) (r : Fin 512) (c : Fin 1024) :
    k0_pay2 (F := Ideal) x g o w lg lb (ix2 r c)
      = norm (added (fun d => x (ix2 r d)) (fun d => g (ix2 0 d)) (times (fun k => o (ix2 r k)) (fun k d => w (ix2 k d)))) (fun d => lg (ix2 0 d)) (fun d => lb (ix2 0 d)) c := by
  pointwise [k0_pay2]
  rfl

/-- The row after the feed-forward part, its mean taken off. -/
theorem centred_at (h : FVec Ideal S512x1024 .f32) (sc sh : Vec Ideal S1x1024 .f32) (wg wu : Vec Ideal S1x1024x2816 .bf16) (wd : Vec Ideal S1x2816x1024 .bf16) (g : Vec Ideal S1x1024 .f32) (r : Fin 512) (c : Fin 1024) :
    k0_pay5 (F := Ideal) h sc (Scalar.ofBits .f32 0x3F800000#32) sh wg wu wd g (ix2 r c)
      = fed (fun d => h (ix2 r d)) (fun d => sc (ix2 0 d)) (fun d => sh (ix2 0 d)) (fun d => g (ix2 0 d))
          (fun d j => wg (ix3 0 d j)) (fun d j => wu (ix3 0 d j)) (fun j d => wd (ix3 0 j d)) c
        - mean (fed (fun d => h (ix2 r d)) (fun d => sc (ix2 0 d)) (fun d => sh (ix2 0 d)) (fun d => g (ix2 0 d))
          (fun d j => wg (ix3 0 d j)) (fun d j => wu (ix3 0 d j)) (fun j d => wd (ix3 0 j d))) := by
  pointwise [k0_pay5]
  rfl

/-- What is left of the norm of a row whose mean is off. -/
theorem scaled_at (g b : FVec Ideal S1x1024 .f32) (z : FVec Ideal S512x1024 .f32) (r : Fin 512) (c : Fin 1024) :
    k0_pay1 (F := Ideal) g b z (ix2 r c)
      = z (ix2 r c) * Ideal.rsqrt (mean (fun k => z (ix2 r k) * z (ix2 r k)) + Ideal.ofBits .f32 0x3727C5AC#32) * g (ix2 0 c) + b (ix2 0 c) := by
  pointwise [k0_pay1]
  rfl

/-- What the body leaves, a row at a time. -/
theorem out_at (o : Vec Ideal S512x1024 .bf16) (w : Vec Ideal S1024x1024 .bf16) (gm lmg lmb : Vec Ideal S1x1024 .f32) (x : Vec Ideal S512x1024 .f32) (sc sh g : Vec Ideal S1x1024 .f32) (wg wu : Vec Ideal S1x1024x2816 .bf16) (wd : Vec Ideal S1x2816x1024 .bf16) (lg lb : Vec Ideal S1x1024 .f32) (r : Fin 512) (c : Fin 1024) :
    out0_14 (F := Ideal) o w gm lmg lmb x sc sh g wg wu wd lg lb (ix2 r c)
      = norm (fed (norm (added (fun d => x (ix2 r d)) (fun d => gm (ix2 0 d)) (times (fun k => o (ix2 r k)) (fun k d => w (ix2 k d)))) (fun d => lmg (ix2 0 d)) (fun d => lmb (ix2 0 d)))
          (fun d => sc (ix2 0 d)) (fun d => sh (ix2 0 d)) (fun d => g (ix2 0 d))
          (fun d j => wg (ix3 0 d j)) (fun d j => wu (ix3 0 d j)) (fun j d => wd (ix3 0 j d))) (fun d => lg (ix2 0 d)) (fun d => lb (ix2 0 d)) c := by
  unfold out0_14
  rw [View.canon_cons_unit_lit _ _ _ (by decide)]
  rw [View.ld_unit_lit _ o (by decide), View.ld_unit_lit _ w (by decide), View.ld_unit_lit _ gm (by decide), View.ld_unit_lit _ lmg (by decide), View.ld_unit_lit _ lmb (by decide),
    View.ld_unit_lit _ x (by decide), View.ld_unit_lit _ sc (by decide), View.ld_unit_lit _ sh (by decide), View.ld_unit_lit _ g (by decide),
    View.ld_unit_lit _ wg (by decide), View.ld_unit_lit _ wu (by decide), View.ld_unit_lit _ wd (by decide), View.ld_unit_lit _ lg (by decide), View.ld_unit_lit _ lb (by decide)]
  have e3 : k0_pay3 (F := Ideal) lg (ix2 0 c) = lg (ix2 0 c) := by pointwise [k0_pay3]
  have e4 : k0_pay4 (F := Ideal) lb (ix2 0 c) = lb (ix2 0 c) := by pointwise [k0_pay4]
  rw [scaled_at, e3, e4]
  simp only [centred_at, mixed_at]
  rfl

end Cert.Kernel2Ideal.Mix

namespace Cert.Reference2Ideal.Read

open Idealize.ShloMosaic Idealize.ShloMosaic.TcCoe
open Cert.Reference2Ideal
open Cert.Rows

variable (o x : FVec Ideal S16384x1024 .f32) (w : FVec Ideal S1024x1024 .f32) (gm : FVec Ideal S1x1024 .f32) (lmg lmb : FVec Ideal S1024 .f32)
  (sc sh g : FVec Ideal S1x1024 .f32) (wg wu : FVec Ideal S4x1024x2816 .f32) (wd : FVec Ideal S4x2816x1024 .f32) (lg lb : FVec Ideal S1024 .f32)

/-- The row with the attention added. -/
theorem added_at (r : Fin 16384) (c : Fin 1024) :
    val_main_v5 (F := Ideal) o x w gm (ix2 r c) = added (fun d => x (ix2 r d)) (fun d => gm (ix2 0 d)) (times (fun k => o (ix2 r k)) (fun k d => w (ix2 k d))) c := by
  pointwise [val_main_v5, val_main_v4, val_main_v3, val_main_v2, val_main_v1, val_main_v0, val_main_cst]
  rfl

/-- The row after its norm. -/
theorem mixed_at (r : Fin 16384) (c : Fin 1024) :
    val_main_v29 (F := Ideal) o x w gm lmg lmb (ix2 r c)
      = norm (fun d => val_main_v5 (F := Ideal) o x w gm (ix2 r d)) (fun d => lmg (ix1 d)) (fun d => lmb (ix1 d)) c := by
  unfold val_main_v29 val_main_v26 val_main_v23 val_main_v18 val_main_v17 val_main_v22 val_main_v21 val_main_v20 val_main_v16 val_main_v14 val_main_v13 val_main_v12 val_main_v11 val_main_v10 val_main_v9 val_main_v7 val_main_v6
  generalize val_main_v5 (F := Ideal) o x w gm = z
  pointwise [val_main_v28, val_main_v27, val_main_v25, val_main_v24, val_main_v19, val_main_cst_4, val_main_v15, val_main_cst_3, val_main_cst_2, val_main_v8, val_main_cst_1, val_main_cst_0]
  rfl

/-- The conditioned row. -/
theorem cond_at (r : Fin 16384) (c : Fin 1024) :
    val_main_v35 (F := Ideal) o x w gm lmg lmb sc sh (ix2 r c)
      = cond (fun d => val_main_v29 (F := Ideal) o x w gm lmg lmb (ix2 r d)) (fun d => sc (ix2 0 d)) (fun d => sh (ix2 0 d)) c := by
  unfold val_main_v35 val_main_v33
  generalize val_main_v29 (F := Ideal) o x w gm lmg lmb = z
  pointwise [val_main_v34, val_main_v32, val_main_v31, val_main_v30, val_main_cst_5]
  rfl

/-- The row's gated product. -/
theorem gated_at (r : Fin 16384) (j : Fin 2816) :
    val_main_v45 (F := Ideal) o x w gm lmg lmb sc sh wg wu (ix2 r j)
      = gated (fun d => val_main_v35 (F := Ideal) o x w gm lmg lmb sc sh (ix2 r d)) (fun d j => wg (ix3 0 d j)) (fun d j => wu (ix3 0 d j)) j := by
  unfold val_main_v45 val_main_v43 val_main_v44 val_main_call0_v5 val_main_call0_v3 val_main_call0_v1 val_main_call0_v0 val_main_v42
  generalize val_main_v35 (F := Ideal) o x w gm lmg lmb sc sh = h
  pointwise [val_main_v37, val_main_v36, val_main_v39, val_main_v38, val_main_call0_v4, val_main_call0_v2, val_main_call0_cst, val_main_call0_cst_0]
  rfl

/-- The row before its last norm, of the row after its first. -/
theorem fed_at (r : Fin 16384) (c : Fin 1024) :
    val_main_v51 (F := Ideal) o x w gm lmg lmb sc sh g wg wu wd (ix2 r c)
      = fed (fun d => val_main_v29 (F := Ideal) o x w gm lmg lmb (ix2 r d)) (fun d => sc (ix2 0 d)) (fun d => sh (ix2 0 d)) (fun d => g (ix2 0 d))
          (fun d j => wg (ix3 0 d j)) (fun d j => wu (ix3 0 d j)) (fun j d => wd (ix3 0 j d)) c := by
  have e : ∀ j, val_main_v45 (F := Ideal) o x w gm lmg lmb sc sh wg wu (ix2 r j) = gated (cond (fun d => val_main_v29 (F := Ideal) o x w gm lmg lmb (ix2 r d)) (fun d => sc (ix2 0 d)) (fun d => sh (ix2 0 d))) (fun d j => wg (ix3 0 d j)) (fun d j => wu (ix3 0 d j)) j := fun j => by
    rw [gated_at]; congr 1; funext d; exact cond_at o x w gm lmg lmb sc sh r d
  unfold val_main_v51 val_main_v50 val_main_v48 val_main_v49 val_main_v46 val_main_v47 val_main_cst_6
  revert e
  generalize val_main_v45 (F := Ideal) o x w gm lmg lmb sc sh wg wu = a
  generalize val_main_v29 (F := Ideal) o x w gm lmg lmb = z
  intro e
  pointwise [val_main_v41, val_main_v40]
  simp only [e]
  rfl

/-- The row after its last norm. -/
theorem norm_at (r : Fin 16384) (c : Fin 1024) :
    val_main_v75 (F := Ideal) o x w gm lmg lmb sc sh g wg wu wd lg lb (ix2 r c)
      = norm (fun d => val_main_v51 (F := Ideal) o x w gm lmg lmb sc sh g wg wu wd (ix2 r d)) (fun d => lg (ix1 d)) (fun d => lb (ix1 d)) c := by
  unfold val_main_v75 val_main_v72 val_main_v69 val_main_v64 val_main_v63 val_main_v68 val_main_v67 val_main_v66 val_main_v62 val_main_v60 val_main_v59 val_main_v58 val_main_v57 val_main_v56 val_main_v55 val_main_v53 val_main_v52
  generalize val_main_v51 (F := Ideal) o x w gm lmg lmb sc sh g wg wu wd = z
  pointwise [val_main_v74, val_main_v73, val_main_v71, val_main_v70, val_main_v65, val_main_cst_11, val_main_v61, val_main_cst_10, val_main_cst_9, val_main_v54, val_main_cst_8, val_main_cst_7]
  rfl

end Cert.Reference2Ideal.Read

end
-- ==== Proof.Launch2.lean ====
/-
  The mixing call on the whole: its blocks read from the arguments, its array its reference's.
-/
module

public import proofs.«01_k».proof.Defs
public import proofs.«01_k».proof.Proof.Mix
public import proofs.«01_k».proof.Proof.Gen.Kernel2
public import proofs.«01_k».proof.Proof.Gen.Kernel2.Frame
public import proofs.«01_k».proof.Proof.Gen.Reference2Ideal.Run
public import Idealize.ShloMosaic.Lib.Quiescent
public import Idealize.ShloMosaic.Lib.Claim
public import Idealize.ShloMosaic.Lib.Pipeline.ValueKit

@[expose] public section

set_option maxRecDepth 16384

noncomputable section

namespace Cert.Kernel2Ideal.Mix

open Idealize.ShloMosaic Idealize.ShloMosaic.TcCoe Idealize.SL.Sem
open Cert.Kernel2Ideal Cert.Kernel2Ideal.Gen
open Cert.Rows

variable (m : (ℓ : Loc nD τ sig) → Buf (Elt Ideal) ℓ) (ρ : Dev nD → PrngReg)

/-- Where the blocks that move lie at a point, and which layer's weights are taken. -/
theorem place : ∀ t : Fin cfg0.N, win0_0.index t 0 = t.val ∧ win0_0.index t 1 = 0
    ∧ win0_5.index t 0 = t.val ∧ win0_5.index t 1 = 0
    ∧ win0_9.index t 0 = 0 ∧ win0_9.index t 1 = 0 ∧ win0_9.index t 2 = 0
    ∧ win0_10.index t 0 = 0 ∧ win0_10.index t 1 = 0 ∧ win0_10.index t 2 = 0
    ∧ win0_11.index t 0 = 0 ∧ win0_11.index t 1 = 0 ∧ win0_11.index t 2 = 0 := (by decide +kernel : ∀ t : Fin grid0.N, _)

/-- Where the written block lies. -/
theorem placeOut : ∀ t : Fin cfg0.N, win0_14.index t 0 = t.val ∧ win0_14.index t 1 = 0 := (by decide +kernel : ∀ t : Fin grid0.N, _)

/-- The blocks of which there is one stay in place. -/
theorem still : ∀ t : Fin cfg0.N, (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_12.index t 0 = 0 ∧ win0_12.index t 1 = 0) ∧ (win0_13.index t 0 = 0 ∧ win0_13.index t 1 = 0) := (by decide +kernel : ∀ t : Fin grid0.N, _)

/-- A vector laid out as a row. -/
def asRow (a : FVec Ideal S1024 .f32) : FVec Ideal S1x1024 .f32 := shapeCast S1x1024 a Facts₀.shapeCasts_S1024_S1x1024

/-- Its elements are the vector's. -/
theorem asRow_at (a : FVec Ideal S1024 .f32) (d : Fin 1024) : asRow a (ix2 0 d) = a (ix1 d) := by
  pointwise [asRow]

/-- The weights into the middle, rounded. -/
def low (a : FVec Ideal S4x1024x2816 .f32) : FVec Ideal S4x1024x2816 .bf16 := truncf .bf16 a Facts₀.bitsLt_bf16_f32

/-- The weights out of it, rounded. -/
def lowD (a : FVec Ideal S4x2816x1024 .f32) : FVec Ideal S4x2816x1024 .bf16 := truncf .bf16 a Facts₀.bitsLt_bf16_f32

/-- The attention's rows, rounded. -/
def lowO (a : FVec Ideal S16384x1024 .f32) : FVec Ideal S16384x1024 .bf16 := truncf .bf16 a Facts₀.bitsLt_bf16_f32

/-- The attention's weights, rounded. -/
def lowW (a : FVec Ideal S1024x1024 .f32) : FVec Ideal S1024x1024 .bf16 := truncf .bf16 a Facts₀.bitsLt_bf16_f32

/-- What the call finds of the gate's weights. -/
theorem entryG (c : Dev nD) : (V m c main_v0 : Vec Ideal S4x1024x2816 .bf16) = low (m ((c : Thread nD τ).loc main_arg9)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the other weights into the middle. -/
theorem entryU (c : Dev nD) : (V m c main_v1 : Vec Ideal S4x1024x2816 .bf16) = low (m ((c : Thread nD τ).loc main_arg10)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the weights out of it. -/
theorem entryD (c : Dev nD) : (V m c main_v2 : Vec Ideal S4x2816x1024 .bf16) = lowD (m ((c : Thread nD τ).loc main_arg11)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the attention's rows. -/
theorem entryO (c : Dev nD) : (V m c main_v3 : Vec Ideal S16384x1024 .bf16) = lowO (m ((c : Thread nD τ).loc main_arg0)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the attention's weights. -/
theorem entryW (c : Dev nD) : (V m c main_v4 : Vec Ideal S1024x1024 .bf16) = lowW (m ((c : Thread nD τ).loc main_arg2)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the first norm's scale. -/
theorem entryMg (c : Dev nD) : (V m c main_v5 : Vec Ideal S1x1024 .f32) = asRow (m ((c : Thread nD τ).loc main_arg4)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the first norm's shift. -/
theorem entryMb (c : Dev nD) : (V m c main_v6 : Vec Ideal S1x1024 .f32) = asRow (m ((c : Thread nD τ).loc main_arg5)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the last norm's scale. -/
theorem entryLg (c : Dev nD) : (V m c main_v7 : Vec Ideal S1x1024 .f32) = asRow (m ((c : Thread nD τ).loc main_arg12)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the last norm's shift. -/
theorem entryLb (c : Dev nD) : (V m c main_v8 : Vec Ideal S1x1024 .f32) = asRow (m ((c : Thread nD τ).loc main_arg13)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- The rows of a point. -/
theorem blockX (c : Dev nD) (t : Fin cfg0.N) (r : Fin 512) (d : Fin 1024) (q : Fin 16384) (hq : q.val = 512 * t.val + r.val) :
    (iblk m c 5 t : Vec Ideal S512x1024 .f32) (ix2 r d) = (m ((c : Thread nD τ).loc main_arg1) : FVec Ideal S16384x1024 .f32) (ix2 q d) := by
  have := place t
  blk_ext [iblk]

/-- The attention's rows of a point. -/
theorem blockO (c : Dev nD) (t : Fin cfg0.N) (r : Fin 512) (d : Fin 1024) (q : Fin 16384) (hq : q.val = 512 * t.val + r.val) :
    (iblk m c 0 t : Vec Ideal S512x1024 .bf16) (ix2 r d) = (m ((c : Thread nD τ).loc main_arg0) : FVec Ideal S16384x1024 .f32) (ix2 q d) := by
  have := place t
  refine Eq.trans (b := (V m c main_v3 : Vec Ideal S16384x1024 .bf16) (ix2 q d)) ?_ (congrFun (entryO m c) _)
  blk_ext [iblk]

/-- The attention's weights. -/
theorem blockW (c : Dev nD) (t : Fin cfg0.N) (k d : Fin 1024) :
    (iblk m c 1 t : Vec Ideal S1024x1024 .bf16) (ix2 k d) = (m ((c : Thread nD τ).loc main_arg2) : FVec Ideal S1024x1024 .f32) (ix2 k d) := by
  have := still t
  refine Eq.trans (b := (V m c main_v4 : Vec Ideal S1024x1024 .bf16) (ix2 k d)) ?_ (congrFun (entryW m c) _)
  blk_ext [iblk]

/-- The gate on the first addition. -/
theorem blockGm (c : Dev nD) (t : Fin cfg0.N) (d : Fin 1024) :
    (iblk m c 2 t : Vec Ideal S1x1024 .f32) (ix2 0 d) = (m ((c : Thread nD τ).loc main_arg3) : FVec Ideal S1x1024 .f32) (ix2 0 d) := by
  have := still t
  blk_ext [iblk]

/-- The scale of the condition. -/
theorem blockS (c : Dev nD) (t : Fin cfg0.N) (d : Fin 1024) :
    (iblk m c 6 t : Vec Ideal S1x1024 .f32) (ix2 0 d) = (m ((c : Thread nD τ).loc main_arg6) : FVec Ideal S1x1024 .f32) (ix2 0 d) := by
  have := still t
  blk_ext [iblk]

/-- The shift of the condition. -/
theorem blockH (c : Dev nD) (t : Fin cfg0.N) (d : Fin 1024) :
    (iblk m c 7 t : Vec Ideal S1x1024 .f32) (ix2 0 d) = (m ((c : Thread nD τ).loc main_arg7) : FVec Ideal S1x1024 .f32) (ix2 0 d) := by
  have := still t
  blk_ext [iblk]

/-- The gate on the second addition. -/
theorem blockM (c : Dev nD) (t : Fin cfg0.N) (d : Fin 1024) :
    (iblk m c 8 t : Vec Ideal S1x1024 .f32) (ix2 0 d) = (m ((c : Thread nD τ).loc main_arg8) : FVec Ideal S1x1024 .f32) (ix2 0 d) := by
  have := still t
  blk_ext [iblk]

/-- The gate's weights. -/
theorem blockG (c : Dev nD) (t : Fin cfg0.N) (d : Fin 1024) (j : Fin 2816) :
    (iblk m c 9 t : Vec Ideal S1x1024x2816 .bf16) (ix3 0 d j) = (m ((c : Thread nD τ).loc main_arg9) : FVec Ideal S4x1024x2816 .f32) (ix3 0 d j) := by
  have := place t
  refine Eq.trans (b := (V m c main_v0 : Vec Ideal S4x1024x2816 .bf16) (ix3 0 d j)) ?_ (congrFun (entryG m c) _)
  blk_ext [iblk]

/-- The other weights into the middle. -/
theorem blockU (c : Dev nD) (t : Fin cfg0.N) (d : Fin 1024) (j : Fin 2816) :
    (iblk m c 10 t : Vec Ideal S1x1024x2816 .bf16) (ix3 0 d j) = (m ((c : Thread nD τ).loc main_arg10) : FVec Ideal S4x1024x2816 .f32) (ix3 0 d j) := by
  have := place t
  refine Eq.trans (b := (V m c main_v1 : Vec Ideal S4x1024x2816 .bf16) (ix3 0 d j)) ?_ (congrFun (entryU m c) _)
  blk_ext [iblk]

/-- The weights out of it. -/
theorem blockD (c : Dev nD) (t : Fin cfg0.N) (d : Fin 2816) (j : Fin 1024) :
    (iblk m c 11 t : Vec Ideal S1x2816x1024 .bf16) (ix3 0 d j) = (m ((c : Thread nD τ).loc main_arg11) : FVec Ideal S4x2816x1024 .f32) (ix3 0 d j) := by
  have := place t
  refine Eq.trans (b := (V m c main_v2 : Vec Ideal S4x2816x1024 .bf16) (ix3 0 d j)) ?_ (congrFun (entryD m c) _)
  blk_ext [iblk]

/-- The first norm's scale. -/
theorem blockMg (c : Dev nD) (t : Fin cfg0.N) (d : Fin 1024) :
    (iblk m c 3 t : Vec Ideal S1x1024 .f32) (ix2 0 d) = (m ((c : Thread nD τ).loc main_arg4) : FVec Ideal S1024 .f32) (ix1 d) := by
  have := still t
  refine Eq.trans (b := (V m c main_v5 : Vec Ideal S1x1024 .f32) (ix2 0 d)) ?_ ((congrFun (entryMg m c) _).trans (asRow_at _ d))
  blk_ext [iblk]

/-- The first norm's shift. -/
theorem blockMb (c : Dev nD) (t : Fin cfg0.N) (d : Fin 1024) :
    (iblk m c 4 t : Vec Ideal S1x1024 .f32) (ix2 0 d) = (m ((c : Thread nD τ).loc main_arg5) : FVec Ideal S1024 .f32) (ix1 d) := by
  have := still t
  refine Eq.trans (b := (V m c main_v6 : Vec Ideal S1x1024 .f32) (ix2 0 d)) ?_ ((congrFun (entryMb m c) _).trans (asRow_at _ d))
  blk_ext [iblk]

/-- The last norm's scale. -/
theorem blockLg (c : Dev nD) (t : Fin cfg0.N) (d : Fin 1024) :
    (iblk m c 12 t : Vec Ideal S1x1024 .f32) (ix2 0 d) = (m ((c : Thread nD τ).loc main_arg12) : FVec Ideal S1024 .f32) (ix1 d) := by
  have := still t
  refine Eq.trans (b := (V m c main_v7 : Vec Ideal S1x1024 .f32) (ix2 0 d)) ?_ ((congrFun (entryLg m c) _).trans (asRow_at _ d))
  blk_ext [iblk]

/-- The last norm's shift. -/
theorem blockLb (c : Dev nD) (t : Fin cfg0.N) (d : Fin 1024) :
    (iblk m c 13 t : Vec Ideal S1x1024 .f32) (ix2 0 d) = (m ((c : Thread nD τ).loc main_arg13) : FVec Ideal S1024 .f32) (ix1 d) := by
  have := still t
  refine Eq.trans (b := (V m c main_v8 : Vec Ideal S1x1024 .f32) (ix2 0 d)) ?_ ((congrFun (entryLb m c) _).trans (asRow_at _ d))
  blk_ext [iblk]

open Cert.Reference2Ideal.Read (val_main_v75) in
/-- The reference's array of the kernel's arguments. -/
def answer (c : Dev nD) : FVec Ideal S16384x1024 .f32 :=
  val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- A point's block of the result, its element the reference's at the point's rows. -/
theorem block_eq (c : Dev nD) (t : Fin cfg0.N) (z : S512x1024.Idx) (i : S16384x1024.Idx) (h0 : (i 0).val = 512 * t.val + (z 0).val) (h1 : (i 1).val = (z 1).val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) z = answer m c i := by
  idx_vars z
  idx_vars i
  have e1 : i1 = z1 := Fin.ext h1
  rw [e1, out_at]
  unfold answer
  rw [Cert.Reference2Ideal.Read.norm_at]
  simp only [Cert.Reference2Ideal.Read.fed_at, Cert.Reference2Ideal.Read.mixed_at, Cert.Reference2Ideal.Read.added_at, blockX m c t z0 _ i0 h0, blockO m c t z0 _ i0 h0, blockW m c t, blockGm m c t, blockMg m c t, blockMb m c t, blockS m c t, blockH m c t, blockM m c t, blockG m c t, blockU m c t, blockD m c t, blockLg m c t, blockLb m c t]

/-- After the run the call's array is the reference's. -/
theorem array_eq (c : Dev nD) : (dats m 0 c).arrAt 14 cfg0.N = answer m c := by
  refine (dats m 0 c).arrAt_eq_of_covers 14 _ (by decide +kernel) fun t _ y => ?_
  blk_simp
  rw [after0_14]
  have hp := placeOut t
  refine block_eq m c t y _ ?_ ?_
  · blk_simp
    rw [hp.1]
    omega
  · blk_simp
    rw [hp.2]
    omega

end Cert.Kernel2Ideal.Mix

namespace Cert.Proof

open Idealize.ShloMosaic Idealize.ShloMosaic.TcCoe Idealize.SL.Sem
open Cert.Kernel2Ideal.Mix (answer array_eq)

/-- The mixing call's frame. -/
theorem frame_kernel2 : Cert.quiescent_Kernel2 := fun m ρ _ => Cert.Kernel2.Gen.frame m ρ

/-- The frame of its idealization. -/
theorem frame_ideal2 : Cert.quiescent_Kernel2Ideal := fun m ρ _ => Cert.Kernel2Ideal.Gen.frame m ρ

/-- The frame of its reference. -/
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- The mixing call and its reference end with equal arrays. -/
theorem algebraic2 : Cert.algebraic_Kernel2Ideal_Reference2Ideal := by
  intro m g m' g' _ hag
  refine ⟨fun c => answer m c, ?_, ?_⟩
  · exact (θ_run Cert.Kernel2Ideal.defs _ _).mono (fun _ h c => ⟨(h c).1.trans (array_eq m c), (h c).2⟩) (Cert.Kernel2Ideal.Value.run_blocks m g)
  · refine (θ_run Cert.Reference2Ideal.defs _ _).mono (fun _ h c => ⟨(h c).1.trans ?_, (h c).2⟩) (Cert.Reference2Ideal.Value.run (F := Ideal) m' g')
    refine (Cert.Reference2Ideal.Read.val_main_v75_eq (StableHlo.launchContents m' c)).trans ?_
    obtain ⟨a0, a1, a2, a3, a4, a5, a6, a7, a8, a9, a10, a11, a12, a13⟩ := hag c
    show Cert.Reference2Ideal.Read.val_main_v75 (F := Ideal) (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) (m' ((c : Thread Cert.Reference2Ideal.nD Cert.Reference2Ideal.τ).loc Cert.Reference2Ideal.main_arg3)) (m' ((c : Thread Cert.Reference2Ideal.nD Cert.Reference2Ideal.τ).loc Cert.Reference2Ideal.main_arg4)) (m' ((c : Thread Cert.Reference2Ideal.nD Cert.Reference2Ideal.τ).loc Cert.Reference2Ideal.main_arg5)) (m' ((c : Thread Cert.Reference2Ideal.nD Cert.Reference2Ideal.τ).loc Cert.Reference2Ideal.main_arg6)) (m' ((c : Thread Cert.Reference2Ideal.nD Cert.Reference2Ideal.τ).loc Cert.Reference2Ideal.main_arg7)) (m' ((c : Thread Cert.Reference2Ideal.nD Cert.Reference2Ideal.τ).loc Cert.Reference2Ideal.main_arg8)) (m' ((c : Thread Cert.Reference2Ideal.nD Cert.Reference2Ideal.τ).loc Cert.Reference2Ideal.main_arg9)) (m' ((c : Thread Cert.Reference2Ideal.nD Cert.Reference2Ideal.τ).loc Cert.Reference2Ideal.main_arg10)) (m' ((c : Thread Cert.Reference2Ideal.nD Cert.Reference2Ideal.τ).loc Cert.Reference2Ideal.main_arg11)) (m' ((c : Thread Cert.Reference2Ideal.nD Cert.Reference2Ideal.τ).loc Cert.Reference2Ideal.main_arg12)) (m' ((c : Thread Cert.Reference2Ideal.nD Cert.Reference2Ideal.τ).loc Cert.Reference2Ideal.main_arg13)) = _
    unfold answer
    rw [a0, a1, a2, a3, a4, a5, a6, a7, a8, a9, a10, a11, a12, a13]

end Cert.Proof

end
-- ==== Proof.Last.lean ====
/-
  The feed-forward call: what one of its blocks holds, and what the reference's array holds.
-/
module

public import proofs.«01_k».proof.Proof.Rows
public import proofs.«01_k».proof.Proof.Gen.Kernel3Ideal.Value
public import proofs.«01_k».proof.Proof.Gen.Reference3Ideal.Read
public import Idealize.ShloMosaic.Lib.Pointwise

@[expose] public section

set_option maxRecDepth 16384

noncomputable section

namespace Cert.Kernel3Ideal.Fed

open Idealize.ShloMosaic Idealize.ShloMosaic.TcCoe
open Cert.Kernel3Ideal Cert.Kernel3Ideal.Gen
open Cert.Rows

/-- The row before its norm. -/
theorem fed_at (x : Vec Ideal S512x1024 .f32) (sc sh : Vec Ideal S1x1024 .f32) (wg wu : Vec Ideal S1x1024x2816 .bf16) (wd : Vec Ideal S1x2816x1024 .bf16) (g : Vec Ideal S1x1024 .f32) (r : Fin 512) (c : Fin 1024) :
    k0_pay2 (F := Ideal) x sc sh wg wu wd g (ix2 r c)
      = fed (fun d => x (ix2 r d)) (fun d => sc (ix2 0 d)) (fun d => sh (ix2 0 d)) (fun d => g (ix2 0 d))
          (fun d j => wg (ix3 0 d j)) (fun d j => wu (ix3 0 d j)) (fun j d => wd (ix3 0 j d)) c := by
  pointwise [k0_pay2]
  rfl

/-- The row after it. -/
theorem norm_at (z : FVec Ideal S512x1024 .f32) (g b : FVec Ideal S1x1024 .f32) (r : Fin 512) (c : Fin 1024) :
    k0_pay1 (F := Ideal) z g b (ix2 r c) = norm (fun d => z (ix2 r d)) (fun d => g (ix2 0 d)) (fun d => b (ix2 0 d)) c := by
  pointwise [k0_pay1]
  rfl

end Cert.Kernel3Ideal.Fed

namespace Cert.Reference3Ideal.Read

open Idealize.ShloMosaic Idealize.ShloMosaic.TcCoe
open Cert.Reference3Ideal
open Cert.Rows

variable (x : FVec Ideal S16384x1024 .f32) (sc sh g : FVec Ideal S1x1024 .f32) (wg wu : FVec Ideal S4x1024x2816 .f32)
  (wd : FVec Ideal S4x2816x1024 .f32) (lg lb : FVec Ideal S1024 .f32)

/-- The conditioned row. -/
theorem cond_at (r : Fin 16384) (c : Fin 1024) :
    val_main_v5 (F := Ideal) x sc sh (ix2 r c) = cond (fun d => x (ix2 r d)) (fun d => sc (ix2 0 d)) (fun d => sh (ix2 0 d)) c := by
  pointwise [val_main_v5, val_main_v4, val_main_v3, val_main_v2, val_main_v1, val_main_v0, val_main_cst]
  rfl

/-- The row's gated product. -/
theorem gated_at (r : Fin 16384) (j : Fin 2816) :
    val_main_v15 (F := Ideal) x sc sh wg wu (ix2 r j)
      = gated (fun d => val_main_v5 (F := Ideal) x sc sh (ix2 r d)) (fun d j => wg (ix3 3 d j)) (fun d j => wu (ix3 3 d j)) j := by
  unfold val_main_v15 val_main_v13 val_main_v14 val_main_call0_v5 val_main_call0_v3 val_main_call0_v1 val_main_call0_v0 val_main_v12
  generalize val_main_v5 (F := Ideal) x sc sh = h
  pointwise [val_main_v7, val_main_v6, val_main_v9, val_main_v8, val_main_call0_v4, val_main_call0_v2, val_main_call0_cst, val_main_call0_cst_0]
  rfl

/-- The row before its norm. -/
theorem fed_at (r : Fin 16384) (c : Fin 1024) :
    val_main_v21 (F := Ideal) x sc sh g wg wu wd (ix2 r c)
      = fed (fun d => x (ix2 r d)) (fun d => sc (ix2 0 d)) (fun d => sh (ix2 0 d)) (fun d => g (ix2 0 d))
          (fun d j => wg (ix3 3 d j)) (fun d j => wu (ix3 3 d j)) (fun j d => wd (ix3 3 j d)) c := by
  have e : ∀ j, val_main_v15 (F := Ideal) x sc sh wg wu (ix2 r j) = gated (cond (fun d => x (ix2 r d)) (fun d => sc (ix2 0 d)) (fun d => sh (ix2 0 d))) (fun d j => wg (ix3 3 d j)) (fun d j => wu (ix3 3 d j)) j := fun j => by
    rw [gated_at]; congr 1; funext d; exact cond_at x sc sh r d
  unfold val_main_v21 val_main_v20 val_main_v18 val_main_v19 val_main_v16 val_main_v17 val_main_cst_0
  revert e
  generalize val_main_v15 (F := Ideal) x sc sh wg wu = a
  intro e
  pointwise [val_main_v11, val_main_v10]
  simp only [e]
  rfl

/-- The row after it. -/
theorem norm_at (r : Fin 16384) (c : Fin 1024) :
    val_main_v45 (F := Ideal) x sc sh g wg wu wd lg lb (ix2 r c)
      = norm (fun d => val_main_v21 (F := Ideal) x sc sh g wg wu wd (ix2 r d)) (fun d => lg (ix1 d)) (fun d => lb (ix1 d)) c := by
  unfold val_main_v45 val_main_v42 val_main_v39 val_main_v34 val_main_v33 val_main_v38 val_main_v37 val_main_v36 val_main_v32 val_main_v30 val_main_v29 val_main_v28 val_main_v27 val_main_v26 val_main_v25 val_main_v23 val_main_v22
  generalize val_main_v21 (F := Ideal) x sc sh g wg wu wd = z
  pointwise [val_main_v44, val_main_v43, val_main_v41, val_main_v40, val_main_v35, val_main_cst_5, val_main_v31, val_main_cst_4, val_main_cst_3, val_main_v24, val_main_cst_2, val_main_cst_1]
  rfl

end Cert.Reference3Ideal.Read

end
-- ==== Proof.Launch3.lean ====
/-
  The feed-forward call on the whole: its blocks read from the arguments, its array the reference's.
-/
module

public import proofs.«01_k».proof.Defs
public import proofs.«01_k».proof.Proof.Last
public import proofs.«01_k».proof.Proof.Gen.Kernel3
public import proofs.«01_k».proof.Proof.Gen.Kernel3.Frame
public import proofs.«01_k».proof.Proof.Gen.Reference3Ideal.Run
public import Idealize.ShloMosaic.Lib.Quiescent
public import Idealize.ShloMosaic.Lib.Claim
public import Idealize.ShloMosaic.Lib.Pipeline.ValueKit

@[expose] public section

set_option maxRecDepth 16384

noncomputable section

namespace Cert.Kernel3Ideal.Fed

open Idealize.ShloMosaic Idealize.ShloMosaic.TcCoe Idealize.SL.Sem
open Cert.Kernel3Ideal Cert.Kernel3Ideal.Gen
open Cert.Rows

variable (m : (ℓ : Loc nD τ sig) → Buf (Elt Ideal) ℓ) (ρ : Dev nD → PrngReg)

/-- Where the blocks that move lie at a point, and which layer's weights are taken. -/
theorem place : ∀ t : Fin cfg0.N, win0_0.index t 0 = t.val ∧ win0_0.index t 1 = 0
    ∧ win0_4.index t 0 = 3 ∧ win0_4.index t 1 = 0 ∧ win0_4.index t 2 = 0
    ∧ win0_5.index t 0 = 3 ∧ win0_5.index t 1 = 0 ∧ win0_5.index t 2 = 0
    ∧ win0_6.index t 0 = 3 ∧ win0_6.index t 1 = 0 ∧ win0_6.index t 2 = 0
    ∧ win0_9.index t 0 = t.val ∧ win0_9.index t 1 = 0 := (by decide +kernel : ∀ t : Fin grid0.N, _)

/-- The one row of a vector stays in place. -/
theorem still : ∀ t : Fin cfg0.N, (win0_1.index t 0 = 0 ∧ win0_1.index t 1 = 0) ∧ (win0_2.index t 0 = 0 ∧ win0_2.index t 1 = 0) ∧ (win0_3.index t 0 = 0 ∧ win0_3.index t 1 = 0)
    ∧ (win0_7.index t 0 = 0 ∧ win0_7.index t 1 = 0) ∧ (win0_8.index t 0 = 0 ∧ win0_8.index t 1 = 0) := (by decide +kernel : ∀ t : Fin grid0.N, _)

/-- A vector laid out as a row. -/
def asRow (a : FVec Ideal S1024 .f32) : FVec Ideal S1x1024 .f32 := shapeCast S1x1024 a Facts₀.shapeCasts_S1024_S1x1024

/-- Its elements are the vector's. -/
theorem asRow_at (a : FVec Ideal S1024 .f32) (d : Fin 1024) : asRow a (ix2 0 d) = a (ix1 d) := by
  pointwise [asRow]

/-- The weights into the middle, rounded. -/
def low (a : FVec Ideal S4x1024x2816 .f32) : FVec Ideal S4x1024x2816 .bf16 := truncf .bf16 a Facts₀.bitsLt_bf16_f32

/-- The weights out of it, rounded. -/
def lowD (a : FVec Ideal S4x2816x1024 .f32) : FVec Ideal S4x2816x1024 .bf16 := truncf .bf16 a Facts₀.bitsLt_bf16_f32

/-- What the call finds of the gate's weights. -/
theorem entryG (c : Dev nD) : (V m c main_v0 : Vec Ideal S4x1024x2816 .bf16) = low (m ((c : Thread nD τ).loc main_arg4)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the other weights into the middle. -/
theorem entryU (c : Dev nD) : (V m c main_v1 : Vec Ideal S4x1024x2816 .bf16) = low (m ((c : Thread nD τ).loc main_arg5)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the weights out of it. -/
theorem entryD (c : Dev nD) : (V m c main_v2 : Vec Ideal S4x2816x1024 .bf16) = lowD (m ((c : Thread nD τ).loc main_arg6)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the norm's scale. -/
theorem entryLg (c : Dev nD) : (V m c main_v3 : Vec Ideal S1x1024 .f32) = asRow (m ((c : Thread nD τ).loc main_arg7)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the norm's shift. -/
theorem entryLb (c : Dev nD) : (V m c main_v4 : Vec Ideal S1x1024 .f32) = asRow (m ((c : Thread nD τ).loc main_arg8)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- The rows of a point. -/
theorem blockX (c : Dev nD) (t : Fin cfg0.N) (r : Fin 512) (d : Fin 1024) (q : Fin 16384) (hq : q.val = 512 * t.val + r.val) :
    (iblk m c 0 t : Vec Ideal S512x1024 .f32) (ix2 r d) = (m ((c : Thread nD τ).loc main_arg0) : FVec Ideal S16384x1024 .f32) (ix2 q d) := by
  have := place t
  blk_ext [iblk]

/-- The scale of the condition. -/
theorem blockS (c : Dev nD) (t : Fin cfg0.N) (d : Fin 1024) :
    (iblk m c 1 t : Vec Ideal S1x1024 .f32) (ix2 0 d) = (m ((c : Thread nD τ).loc main_arg1) : FVec Ideal S1x1024 .f32) (ix2 0 d) := by
  have := still t
  blk_ext [iblk]

/-- The shift of the condition. -/
theorem blockH (c : Dev nD) (t : Fin cfg0.N) (d : Fin 1024) :
    (iblk m c 2 t : Vec Ideal S1x1024 .f32) (ix2 0 d) = (m ((c : Thread nD τ).loc main_arg2) : FVec Ideal S1x1024 .f32) (ix2 0 d) := by
  have := still t
  blk_ext [iblk]

/-- The gate on the addition. -/
theorem blockM (c : Dev nD) (t : Fin cfg0.N) (d : Fin 1024) :
    (iblk m c 3 t : Vec Ideal S1x1024 .f32) (ix2 0 d) = (m ((c : Thread nD τ).loc main_arg3) : FVec Ideal S1x1024 .f32) (ix2 0 d) := by
  have := still t
  blk_ext [iblk]

/-- The gate's weights. -/
theorem blockG (c : Dev nD) (t : Fin cfg0.N) (d : Fin 1024) (j : Fin 2816) :
    (iblk m c 4 t : Vec Ideal S1x1024x2816 .bf16) (ix3 0 d j) = (m ((c : Thread nD τ).loc main_arg4) : FVec Ideal S4x1024x2816 .f32) (ix3 3 d j) := by
  have := place t
  refine Eq.trans (b := (V m c main_v0 : Vec Ideal S4x1024x2816 .bf16) (ix3 3 d j)) ?_ (congrFun (entryG m c) _)
  blk_ext [iblk]

/-- The other weights into the middle. -/
theorem blockU (c : Dev nD) (t : Fin cfg0.N) (d : Fin 1024) (j : Fin 2816) :
    (iblk m c 5 t : Vec Ideal S1x1024x2816 .bf16) (ix3 0 d j) = (m ((c : Thread nD τ).loc main_arg5) : FVec Ideal S4x1024x2816 .f32) (ix3 3 d j) := by
  have := place t
  refine Eq.trans (b := (V m c main_v1 : Vec Ideal S4x1024x2816 .bf16) (ix3 3 d j)) ?_ (congrFun (entryU m c) _)
  blk_ext [iblk]

/-- The weights out of it. -/
theorem blockD (c : Dev nD) (t : Fin cfg0.N) (d : Fin 2816) (j : Fin 1024) :
    (iblk m c 6 t : Vec Ideal S1x2816x1024 .bf16) (ix3 0 d j) = (m ((c : Thread nD τ).loc main_arg6) : FVec Ideal S4x2816x1024 .f32) (ix3 3 d j) := by
  have := place t
  refine Eq.trans (b := (V m c main_v2 : Vec Ideal S4x2816x1024 .bf16) (ix3 3 d j)) ?_ (congrFun (entryD m c) _)
  blk_ext [iblk]

/-- The norm's scale. -/
theorem blockLg (c : Dev nD) (t : Fin cfg0.N) (d : Fin 1024) :
    (iblk m c 7 t : Vec Ideal S1x1024 .f32) (ix2 0 d) = (m ((c : Thread nD τ).loc main_arg7) : FVec Ideal S1024 .f32) (ix1 d) := by
  have := still t
  refine Eq.trans (b := (V m c main_v3 : Vec Ideal S1x1024 .f32) (ix2 0 d)) ?_ ((congrFun (entryLg m c) _).trans (asRow_at _ d))
  blk_ext [iblk]

/-- The norm's shift. -/
theorem blockLb (c : Dev nD) (t : Fin cfg0.N) (d : Fin 1024) :
    (iblk m c 8 t : Vec Ideal S1x1024 .f32) (ix2 0 d) = (m ((c : Thread nD τ).loc main_arg8) : FVec Ideal S1024 .f32) (ix1 d) := by
  have := still t
  refine Eq.trans (b := (V m c main_v4 : Vec Ideal S1x1024 .f32) (ix2 0 d)) ?_ ((congrFun (entryLb m c) _).trans (asRow_at _ d))
  blk_ext [iblk]

/-- What the body leaves, a row at a time. -/
theorem out_at (x : Vec Ideal S512x1024 .f32) (sc sh g : Vec Ideal S1x1024 .f32) (wg wu : Vec Ideal S1x1024x2816 .bf16) (wd : Vec Ideal S1x2816x1024 .bf16) (lg lb : Vec Ideal S1x1024 .f32) (r : Fin 512) (c : Fin 1024) :
    out0_9 (F := Ideal) x sc sh g wg wu wd lg lb (ix2 r c)
      = norm (fed (fun d => x (ix2 r d)) (fun d => sc (ix2 0 d)) (fun d => sh (ix2 0 d)) (fun d => g (ix2 0 d))
          (fun d j => wg (ix3 0 d j)) (fun d j => wu (ix3 0 d j)) (fun j d => wd (ix3 0 j d))) (fun d => lg (ix2 0 d)) (fun d => lb (ix2 0 d)) c := by
  unfold out0_9
  rw [View.canon_cons_unit_lit _ _ _ (by decide)]
  rw [View.ld_unit_lit _ x (by decide), View.ld_unit_lit _ sc (by decide), View.ld_unit_lit _ sh (by decide), View.ld_unit_lit _ g (by decide),
    View.ld_unit_lit _ wg (by decide), View.ld_unit_lit _ wu (by decide), View.ld_unit_lit _ wd (by decide), View.ld_unit_lit _ lg (by decide), View.ld_unit_lit _ lb (by decide)]
  rw [norm_at]
  have e3 : (fun d : Fin 1024 => k0_pay3 (F := Ideal) lg (ix2 0 d)) = fun d => lg (ix2 0 d) := funext fun d => by pointwise [k0_pay3]
  have e4 : (fun d : Fin 1024 => k0_pay4 (F := Ideal) lb (ix2 0 d)) = fun d => lb (ix2 0 d) := funext fun d => by pointwise [k0_pay4]
  rw [e3, e4]
  exact congrArg (fun z => norm z _ _ c) (funext fun d => fed_at x sc sh wg wu wd g r d)

open Cert.Reference3Ideal.Read (val_main_v45) in
/-- The reference's array of the kernel's arguments. -/
def answer (c : Dev nD) : FVec Ideal S16384x1024 .f32 :=
  val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- A point's block of the result, its element the reference's at the point's rows. -/
theorem block_eq (c : Dev nD) (t : Fin cfg0.N) (z : S512x1024.Idx) (i : S16384x1024.Idx) (h0 : (i 0).val = 512 * t.val + (z 0).val) (h1 : (i 1).val = (z 1).val) :
    out0_9 (F := Ideal) (iblk m c 0 t) (iblk m c 1 t) (iblk m c 2 t) (iblk m c 3 t) (iblk m c 4 t) (iblk m c 5 t) (iblk m c 6 t) (iblk m c 7 t) (iblk m c 8 t) z = answer m c i := by
  idx_vars z
  idx_vars i
  have e1 : i1 = z1 := Fin.ext h1
  rw [e1, out_at]
  unfold answer
  rw [Cert.Reference3Ideal.Read.norm_at]
  simp only [Cert.Reference3Ideal.Read.fed_at, blockX m c t z0 _ i0 h0, blockS m c t, blockH m c t, blockM m c t, blockG m c t, blockU m c t, blockD m c t, blockLg m c t, blockLb m c t]

/-- After the run the call's array is the reference's. -/
theorem array_eq (c : Dev nD) : (dats m 0 c).arrAt 9 cfg0.N = answer m c := by
  refine (dats m 0 c).arrAt_eq_of_covers 9 _ (by decide +kernel) fun t _ y => ?_
  blk_simp
  rw [after0_9]
  have hp := place t
  refine block_eq m c t y _ ?_ ?_
  · blk_simp
    rw [hp.2.2.2.2.2.2.2.2.2.2.2.1]
    omega
  · blk_simp
    rw [hp.2.2.2.2.2.2.2.2.2.2.2.2]
    omega

end Cert.Kernel3Ideal.Fed

namespace Cert.Proof

open Idealize.ShloMosaic Idealize.ShloMosaic.TcCoe Idealize.SL.Sem
open Cert.Kernel3Ideal.Fed (answer array_eq)

/-- The feed-forward call's frame. -/
theorem frame_kernel3 : Cert.quiescent_Kernel3 := fun m ρ _ => Cert.Kernel3.Gen.frame m ρ

/-- The frame of its idealization. -/
theorem frame_ideal3 : Cert.quiescent_Kernel3Ideal := fun m ρ _ => Cert.Kernel3Ideal.Gen.frame m ρ

/-- The frame of its reference. -/
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The feed-forward call and its reference end with equal arrays. -/
theorem algebraic3 : Cert.algebraic_Kernel3Ideal_Reference3Ideal := by
  intro m g m' g' _ hag
  refine ⟨fun c => answer m c, ?_, ?_⟩
  · exact (θ_run Cert.Kernel3Ideal.defs _ _).mono (fun _ h c => ⟨(h c).1.trans (array_eq m c), (h c).2⟩) (Cert.Kernel3Ideal.Value.run_blocks m g)
  · refine (θ_run Cert.Reference3Ideal.defs _ _).mono (fun _ h c => ⟨(h c).1.trans ?_, (h c).2⟩) (Cert.Reference3Ideal.Value.run (F := Ideal) m' g')
    refine (Cert.Reference3Ideal.Read.val_main_v45_eq m' c).trans ?_
    obtain ⟨a0, a1, a2, a3, a4, a5, a6, a7, a8⟩ := hag c
    unfold answer
    rw [a0, a1, a2, a3, a4, a5, a6, a7, a8]

end Cert.Proof

end
-- ==== Proof.Rope.lean ====
/-
  A head's rotary coordinates turned by their angles, and one row over its root mean square.
-/
module

public import proofs.«01_k».proof.Proof.Rows

@[expose] public section

noncomputable section

namespace Cert.Rows

open Idealize.ShloMosaic

/-- Sixty-four coordinates turned in pairs by thirty-two angles. -/
def roped (z : Fin 64 → EReal) (c s : Fin 32 → EReal) (d : Fin 64) : EReal :=
  if h : d.val < 32 then z d * c ⟨d.val, h⟩ - z ⟨32 + d.val, by omega⟩ * s ⟨d.val, h⟩
  else z ⟨32 + (d.val - 32), by omega⟩ * c ⟨d.val - 32, by omega⟩ + z ⟨d.val - 32, by omega⟩ * s ⟨d.val - 32, by omega⟩

/-- Equal coordinates, turned by equal angles. -/
theorem roped_congr {z z' : Fin 64 → EReal} {c c' s s' : Fin 32 → EReal} (hz : ∀ e, z e = z' e) (hc : ∀ e, c e = c' e) (hs : ∀ e, s e = s' e) (d : Fin 64) : roped z c s d = roped z' c' s' d := by
  rw [funext hz, funext hc, funext hs]

/-- A row over its root mean square, the count given, scaled. -/
def rms {n : ℕ} (count : EReal) (z g : Fin n → EReal) (k : Fin n) : EReal :=
  z k * Ideal.rsqrt (Ideal.div (∑ e, z e * z e) count + Ideal.ofBits .f32 0x358637BD#32) * g k

end Cert.Rows

end
-- ==== Proof.Mla.lean ====
/-
  The projection of the latent-attention layer: what one of its blocks holds.
-/
module

public import proofs.«01_k».proof.Proof.Rope
public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Kernel4Ideal.Mla

open Idealize.ShloMosaic Idealize.ShloMosaic.TcCoe
open Cert.Kernel4Ideal Cert.Kernel4Ideal.Gen
open Cert.Rows

variable (x : Vec Ideal S1024x1024 .f32) (sc sh : Vec Ideal S1x1024 .f32) (w : Vec Ideal S1024x768 .bf16) (qn : Vec Ideal S1x384 .f32) (wq : Vec Ideal S1536x384 .bf16)
  (kn : Vec Ideal S1x256 .f32) (wk : Vec Ideal S256x1024 .bf16) (wv : Vec Ideal S1024x256 .bf16) (co si : Vec Ideal S32x1024 .f32)
  (l : FVec Ideal S1024x256 .f32) (n : FVec Ideal S1024x256 .bf16) (p : FVec Ideal S1024x128 .f32)
  (z : FVec Ideal S1536x1024 .f32) (zk : FVec Ideal S1024x1024 .f32) (c s : FVec Ideal S32x1024 .f32)

/-- The latents of a row. -/
theorem latent_at (r : Fin 1024) (j : Fin 768) :
    k0_pay1 (F := Ideal) x sc sh w (ix2 r j) = times (cond (fun d => x (ix2 r d)) (fun d => sc (ix2 0 d)) (fun d => sh (ix2 0 d))) (fun d j => w (ix2 d j)) j := by
  pointwise [k0_pay1]
  rfl

/-- The latents the keys and values come from. -/
theorem latents_mid (r : Fin 1024) (e : Fin 256) : k0_pay2 (F := Ideal) x sc sh w (ix2 r e) = k0_pay1 (F := Ideal) x sc sh w (ix2 r ⟨384 + e.val, by omega⟩) := by
  unfold k0_pay2
  generalize k0_pay1 (F := Ideal) x sc sh w = y
  pointwise []

/-- The latents after them. -/
theorem latents_last (r : Fin 1024) (e : Fin 128) : k0_pay3 (F := Ideal) x sc sh w (ix2 r e) = k0_pay1 (F := Ideal) x sc sh w (ix2 r ⟨640 + e.val, by omega⟩) := by
  unfold k0_pay3
  generalize k0_pay1 (F := Ideal) x sc sh w = y
  pointwise []

/-- The queries' product. -/
theorem query_at (j : Fin 1536) (r : Fin 1024) :
    k0_pay4 (F := Ideal) x sc sh w qn wq (ix2 j r)
      = times (rms (Ideal.ofBits .f32 0x43C00000#32) (fun e : Fin 384 => k0_pay1 (F := Ideal) x sc sh w (ix2 r ⟨e.val, by omega⟩)) (fun e => qn (ix2 0 e))) (fun k j => wq (ix2 j k)) j * Ideal.ofBits .f32 0x3DD53B95#32 := by
  unfold k0_pay4 times
  simp only [mul_comm _ (wq _)]
  generalize k0_pay1 (F := Ideal) x sc sh w = y
  pointwise []
  rfl

/-- The keys' and values' latents over their root mean square. -/
theorem normed_at (r : Fin 1024) (k : Fin 256) :
    k0_pay50 (F := Ideal) l kn (ix2 r k) = rms (Ideal.ofBits .f32 0x43800000#32) (fun e => l (ix2 r e)) (fun e => kn (ix2 0 e)) k := by
  pointwise [k0_pay50]
  rfl

/-- The keys' product. -/
theorem key_at (r j : Fin 1024) :
    k0_pay51 (F := Ideal) l kn wk (ix2 r j) = times (fun k => k0_pay50 (F := Ideal) l kn (ix2 r k)) (fun k j => wk (ix2 k j)) j := by
  unfold k0_pay51
  generalize k0_pay50 (F := Ideal) l kn = y
  pointwise []
  rfl

/-- The values' product. -/
theorem value_at (j r : Fin 1024) :
    k0_pay65 (F := Ideal) n wv (ix2 j r) = times (fun k => n (ix2 r k)) (fun k j => wv (ix2 j k)) j := by
  unfold times
  simp only [mul_comm _ (wv _)]
  pointwise [k0_pay65]

/-- The keys' rotary part, under it the rest of its columns. -/
theorem rotary_at (r : Fin 1024) (a : Fin 128) :
    k0_pay56 (F := Ideal) c s (k0_pay52 p) (k0_pay53 p) (k0_pay54 p) (k0_pay55 p c s) (ix2 r a)
      = if h : a.val < 64 then roped (fun e => p (ix2 r ⟨e.val, by omega⟩)) (fun e => c (ix2 e r)) (fun e => s (ix2 e r)) ⟨a.val, h⟩ else p (ix2 r a) := by
  unfold roped
  pointwise [k0_pay56, k0_pay55, k0_pay54, k0_pay53, k0_pay52]
  by_cases h : a.val < 64
  · by_cases h' : a.val < 32
    · simp only [h, h', dite_true]
    · have h2 : a.val - 32 < 32 := by omega
      simp only [h, h', h2, dite_true, dite_false]
  · have h' : ¬ a.val < 32 := by omega
    have h2 : ¬ a.val - 32 < 32 := by omega
    simp only [h, h', h2, dite_false]
    exact congrArg p (congrArg (ix2 r) (Fin.ext (by show 64 + (a.val - 32 - 32) = a.val; omega)))

/-- The rows under the values: one of ones, the rest of nothing. -/
theorem ones_at (a : Fin 16) (r : Fin 1024) : k0_pay66 (F := Ideal) (ix2 a r) = if a.val < 1 then 1 else 0 := by
  pointwise [k0_pay66]
  have e : IntOp.cmpi .eq (BitVec.ofNat 32 a.val) 0#32 = if a.val < 1 then 1#1 else 0#1 := by revert a; decide
  rw [e]
  split_ifs <;> rfl

/-- Head 0 of the queries, the coordinates left as they are. -/
theorem plain0 (a : Fin 128) (r : Fin 1024) : k0_pay9 (F := Ideal) z (ix3 0 a r) = z (ix2 ⟨0 + a.val, by omega⟩ r) := by
  pointwise [k0_pay9]

/-- Head 0 of the queries, the first half of the coordinates turned. -/
theorem low0 (a : Fin 32) (r : Fin 1024) : k0_pay10 (F := Ideal) z c s (ix3 0 a r) = z (ix2 ⟨128 + a.val, by omega⟩ r) * c (ix2 a r) - z (ix2 ⟨160 + a.val, by omega⟩ r) * s (ix2 a r) := by
  pointwise [k0_pay10, k0_pay7, k0_pay8, k0_pay6]

/-- Head 0 of the queries, the second half. -/
theorem high0 (a : Fin 32) (r : Fin 1024) : k0_pay11 (F := Ideal) z c s (ix3 0 a r) = z (ix2 ⟨160 + a.val, by omega⟩ r) * c (ix2 a r) + z (ix2 ⟨128 + a.val, by omega⟩ r) * s (ix2 a r) := by
  pointwise [k0_pay11, k0_pay7, k0_pay8, k0_pay6]

/-- Head 1 of the queries, the coordinates left as they are. -/
theorem plain1 (a : Fin 128) (r : Fin 1024) : k0_pay14 (F := Ideal) z (ix3 0 a r) = z (ix2 ⟨192 + a.val, by omega⟩ r) := by
  pointwise [k0_pay14]

/-- Head 1 of the queries, the first half of the coordinates turned. -/
theorem low1 (a : Fin 32) (r : Fin 1024) : k0_pay15 (F := Ideal) z c s (ix3 0 a r) = z (ix2 ⟨320 + a.val, by omega⟩ r) * c (ix2 a r) - z (ix2 ⟨352 + a.val, by omega⟩ r) * s (ix2 a r) := by
  pointwise [k0_pay15, k0_pay12, k0_pay13, k0_pay6]

/-- Head 1 of the queries, the second half. -/
theorem high1 (a : Fin 32) (r : Fin 1024) : k0_pay17 (F := Ideal) s (k0_pay12 z) (k0_pay16 z c) (ix3 0 a r) = z (ix2 ⟨352 + a.val, by omega⟩ r) * c (ix2 a r) + z (ix2 ⟨320 + a.val, by omega⟩ r) * s (ix2 a r) := by
  pointwise [k0_pay17, k0_pay12, k0_pay16, k0_pay13, k0_pay6, k0_pay13]

/-- Head 2 of the queries, the coordinates left as they are. -/
theorem plain2 (a : Fin 128) (r : Fin 1024) : k0_pay20 (F := Ideal) z (ix3 0 a r) = z (ix2 ⟨384 + a.val, by omega⟩ r) := by
  pointwise [k0_pay20]

/-- Head 2 of the queries, the first half of the coordinates turned. -/
theorem low2 (a : Fin 32) (r : Fin 1024) : k0_pay21 (F := Ideal) z c s (ix3 0 a r) = z (ix2 ⟨512 + a.val, by omega⟩ r) * c (ix2 a r) - z (ix2 ⟨544 + a.val, by omega⟩ r) * s (ix2 a r) := by
  pointwise [k0_pay21, k0_pay18, k0_pay19]

/-- Head 2 of the queries, the second half. -/
theorem high2 (a : Fin 32) (r : Fin 1024) : k0_pay22 (F := Ideal) z c s (ix3 0 a r) = z (ix2 ⟨544 + a.val, by omega⟩ r) * c (ix2 a r) + z (ix2 ⟨512 + a.val, by omega⟩ r) * s (ix2 a r) := by
  pointwise [k0_pay22, k0_pay18, k0_pay19]

/-- Head 3 of the queries, the coordinates left as they are. -/
theorem plain3 (a : Fin 128) (r : Fin 1024) : k0_pay25 (F := Ideal) z (ix3 0 a r) = z (ix2 ⟨576 + a.val, by omega⟩ r) := by
  pointwise [k0_pay25]

/-- Head 3 of the queries, the first half of the coordinates turned. -/
theorem low3 (a : Fin 32) (r : Fin 1024) : k0_pay27 (F := Ideal) (k0_pay26 z c s) (ix3 0 a r) = z (ix2 ⟨704 + a.val, by omega⟩ r) * c (ix2 a r) - z (ix2 ⟨736 + a.val, by omega⟩ r) * s (ix2 a r) := by
  pointwise [k0_pay27, k0_pay26, k0_pay23, k0_pay24]

/-- Head 3 of the queries, the second half. -/
theorem high3 (a : Fin 32) (r : Fin 1024) : k0_pay28 (F := Ideal) c s (k0_pay23 z) (k0_pay24 z) (ix3 0 a r) = z (ix2 ⟨736 + a.val, by omega⟩ r) * c (ix2 a r) + z (ix2 ⟨704 + a.val, by omega⟩ r) * s (ix2 a r) := by
  pointwise [k0_pay28, k0_pay23, k0_pay24]

/-- Head 4 of the queries, the coordinates left as they are. -/
theorem plain4 (a : Fin 128) (r : Fin 1024) : k0_pay31 (F := Ideal) z (ix3 0 a r) = z (ix2 ⟨768 + a.val, by omega⟩ r) := by
  pointwise [k0_pay31]

/-- Head 4 of the queries, the first half of the coordinates turned. -/
theorem low4 (a : Fin 32) (r : Fin 1024) : k0_pay32 (F := Ideal) z c s (ix3 0 a r) = z (ix2 ⟨896 + a.val, by omega⟩ r) * c (ix2 a r) - z (ix2 ⟨928 + a.val, by omega⟩ r) * s (ix2 a r) := by
  pointwise [k0_pay32, k0_pay29, k0_pay30]

/-- Head 4 of the queries, the second half. -/
theorem high4 (a : Fin 32) (r : Fin 1024) : k0_pay33 (F := Ideal) z c s (ix3 0 a r) = z (ix2 ⟨928 + a.val, by omega⟩ r) * c (ix2 a r) + z (ix2 ⟨896 + a.val, by omega⟩ r) * s (ix2 a r) := by
  pointwise [k0_pay33, k0_pay29, k0_pay30]

/-- Head 5 of the queries, the coordinates left as they are. -/
theorem plain5 (a : Fin 128) (r : Fin 1024) : k0_pay36 (F := Ideal) z (ix3 0 a r) = z (ix2 ⟨960 + a.val, by omega⟩ r) := by
  pointwise [k0_pay36]

/-- Head 5 of the queries, the first half of the coordinates turned. -/
theorem low5 (a : Fin 32) (r : Fin 1024) : k0_pay37 (F := Ideal) c s (k0_pay34 z) (k0_pay35 z) (ix3 0 a r) = z (ix2 ⟨1088 + a.val, by omega⟩ r) * c (ix2 a r) - z (ix2 ⟨1120 + a.val, by omega⟩ r) * s (ix2 a r) := by
  pointwise [k0_pay37, k0_pay34, k0_pay35]

/-- Head 5 of the queries, the second half. -/
theorem high5 (a : Fin 32) (r : Fin 1024) : k0_pay38 (F := Ideal) c s (k0_pay34 z) (k0_pay35 z) (ix3 0 a r) = z (ix2 ⟨1120 + a.val, by omega⟩ r) * c (ix2 a r) + z (ix2 ⟨1088 + a.val, by omega⟩ r) * s (ix2 a r) := by
  pointwise [k0_pay38, k0_pay34, k0_pay35]

/-- Head 6 of the queries, the coordinates left as they are. -/
theorem plain6 (a : Fin 128) (r : Fin 1024) : k0_pay41 (F := Ideal) z (ix3 0 a r) = z (ix2 ⟨1152 + a.val, by omega⟩ r) := by
  pointwise [k0_pay41]

/-- Head 6 of the queries, the first half of the coordinates turned. -/
theorem low6 (a : Fin 32) (r : Fin 1024) : k0_pay42 (F := Ideal) z c s (ix3 0 a r) = z (ix2 ⟨1280 + a.val, by omega⟩ r) * c (ix2 a r) - z (ix2 ⟨1312 + a.val, by omega⟩ r) * s (ix2 a r) := by
  pointwise [k0_pay42, k0_pay39, k0_pay40]

/-- Head 6 of the queries, the second half. -/
theorem high6 (a : Fin 32) (r : Fin 1024) : k0_pay43 (F := Ideal) z c s (ix3 0 a r) = z (ix2 ⟨1312 + a.val, by omega⟩ r) * c (ix2 a r) + z (ix2 ⟨1280 + a.val, by omega⟩ r) * s (ix2 a r) := by
  pointwise [k0_pay43, k0_pay39, k0_pay40]

/-- Head 7 of the queries, the coordinates left as they are. -/
theorem plain7 (a : Fin 128) (r : Fin 1024) : k0_pay47 (F := Ideal) (k0_pay46 z) (ix3 0 a r) = z (ix2 ⟨1344 + a.val, by omega⟩ r) := by
  pointwise [k0_pay47, k0_pay46]

/-- Head 7 of the queries, the first half of the coordinates turned. -/
theorem low7 (a : Fin 32) (r : Fin 1024) : k0_pay48 (F := Ideal) c s (k0_pay44 z) (k0_pay45 z) (ix3 0 a r) = z (ix2 ⟨1472 + a.val, by omega⟩ r) * c (ix2 a r) - z (ix2 ⟨1504 + a.val, by omega⟩ r) * s (ix2 a r) := by
  pointwise [k0_pay48, k0_pay44, k0_pay45]

/-- Head 7 of the queries, the second half. -/
theorem high7 (a : Fin 32) (r : Fin 1024) : k0_pay49 (F := Ideal) c s (k0_pay44 z) (k0_pay45 z) (ix3 0 a r) = z (ix2 ⟨1504 + a.val, by omega⟩ r) * c (ix2 a r) + z (ix2 ⟨1472 + a.val, by omega⟩ r) * s (ix2 a r) := by
  pointwise [k0_pay49, k0_pay44, k0_pay45]

/-- Head 0 of the keys. -/
theorem key0 (r : Fin 1024) (a : Fin 128) : k0_pay57 (F := Ideal) zk (ix2 r a) = zk (ix2 r ⟨0 + a.val, by omega⟩) := by
  pointwise [k0_pay57]

/-- Head 1 of the keys. -/
theorem key1 (r : Fin 1024) (a : Fin 128) : k0_pay58 (F := Ideal) zk (ix2 r a) = zk (ix2 r ⟨128 + a.val, by omega⟩) := by
  pointwise [k0_pay58]

/-- Head 2 of the keys. -/
theorem key2 (r : Fin 1024) (a : Fin 128) : k0_pay59 (F := Ideal) zk (ix2 r a) = zk (ix2 r ⟨256 + a.val, by omega⟩) := by
  pointwise [k0_pay59]

/-- Head 3 of the keys. -/
theorem key3 (r : Fin 1024) (a : Fin 128) : k0_pay60 (F := Ideal) zk (ix2 r a) = zk (ix2 r ⟨384 + a.val, by omega⟩) := by
  pointwise [k0_pay60]

/-- Head 4 of the keys. -/
theorem key4 (r : Fin 1024) (a : Fin 128) : k0_pay61 (F := Ideal) zk (ix2 r a) = zk (ix2 r ⟨512 + a.val, by omega⟩) := by
  pointwise [k0_pay61]

/-- Head 5 of the keys. -/
theorem key5 (r : Fin 1024) (a : Fin 128) : k0_pay62 (F := Ideal) zk (ix2 r a) = zk (ix2 r ⟨640 + a.val, by omega⟩) := by
  pointwise [k0_pay62]

/-- Head 6 of the keys. -/
theorem key6 (r : Fin 1024) (a : Fin 128) : k0_pay63 (F := Ideal) zk (ix2 r a) = zk (ix2 r ⟨768 + a.val, by omega⟩) := by
  pointwise [k0_pay63]

/-- Head 7 of the keys. -/
theorem key7 (r : Fin 1024) (a : Fin 128) : k0_pay64 (F := Ideal) zk (ix2 r a) = zk (ix2 r ⟨896 + a.val, by omega⟩) := by
  pointwise [k0_pay64]

/-- Head 0 of the values. -/
theorem value0 (a : Fin 128) (r : Fin 1024) : k0_pay67 (F := Ideal) n wv (ix3 0 a r) = k0_pay65 (F := Ideal) n wv (ix2 ⟨0 + a.val, by omega⟩ r) := by
  unfold k0_pay67
  generalize k0_pay65 (F := Ideal) n wv = zk
  pointwise []

/-- The rows under head 0 of the values. -/
theorem under0 (a : Fin 16) (r : Fin 1024) : k0_pay68 (F := Ideal) (ix3 0 a r) = if a.val < 1 then 1 else 0 := by
  rw [← ones_at a r]
  unfold k0_pay68
  generalize k0_pay66 (F := Ideal) = y
  pointwise []

/-- Head 1 of the values. -/
theorem value1 (a : Fin 128) (r : Fin 1024) : k0_pay70 (F := Ideal) (k0_pay69 n wv) (ix3 0 a r) = k0_pay65 (F := Ideal) n wv (ix2 ⟨128 + a.val, by omega⟩ r) := by
  unfold k0_pay70 k0_pay69
  generalize k0_pay65 (F := Ideal) n wv = zk
  pointwise []

/-- The rows under head 1 of the values. -/
theorem under1 (a : Fin 16) (r : Fin 1024) : k0_pay71 (F := Ideal) k0_pay66 (ix3 0 a r) = if a.val < 1 then 1 else 0 := by
  rw [← ones_at a r]
  unfold k0_pay71
  generalize k0_pay66 (F := Ideal) = y
  pointwise []

/-- Head 2 of the values. -/
theorem value2 (a : Fin 128) (r : Fin 1024) : k0_pay72 (F := Ideal) zk (ix3 0 a r) = zk (ix2 ⟨256 + a.val, by omega⟩ r) := by
  pointwise [k0_pay72]

/-- The rows under head 2 of the values. -/
theorem under2 (a : Fin 16) (r : Fin 1024) : k0_pay73 (F := Ideal) k0_pay66 (ix3 0 a r) = if a.val < 1 then 1 else 0 := by
  rw [← ones_at a r]
  unfold k0_pay73
  generalize k0_pay66 (F := Ideal) = y
  pointwise []

/-- Head 3 of the values. -/
theorem value3 (a : Fin 128) (r : Fin 1024) : k0_pay74 (F := Ideal) zk (ix3 0 a r) = zk (ix2 ⟨384 + a.val, by omega⟩ r) := by
  pointwise [k0_pay74]

/-- The rows under head 3 of the values. -/
theorem under3 (a : Fin 16) (r : Fin 1024) : k0_pay75 (F := Ideal) k0_pay66 (ix3 0 a r) = if a.val < 1 then 1 else 0 := by
  rw [← ones_at a r]
  unfold k0_pay75
  generalize k0_pay66 (F := Ideal) = y
  pointwise []

/-- Head 4 of the values. -/
theorem value4 (a : Fin 128) (r : Fin 1024) : k0_pay76 (F := Ideal) zk (ix3 0 a r) = zk (ix2 ⟨512 + a.val, by omega⟩ r) := by
  pointwise [k0_pay76]

/-- The rows under head 4 of the values. -/
theorem under4 (a : Fin 16) (r : Fin 1024) : k0_pay77 (F := Ideal) k0_pay66 (ix3 0 a r) = if a.val < 1 then 1 else 0 := by
  rw [← ones_at a r]
  unfold k0_pay77
  generalize k0_pay66 (F := Ideal) = y
  pointwise []

/-- Head 5 of the values. -/
theorem value5 (a : Fin 128) (r : Fin 1024) : k0_pay78 (F := Ideal) zk (ix3 0 a r) = zk (ix2 ⟨640 + a.val, by omega⟩ r) := by
  pointwise [k0_pay78]

/-- The rows under head 5 of the values. -/
theorem under5 (a : Fin 16) (r : Fin 1024) : k0_pay79 (F := Ideal) k0_pay66 (ix3 0 a r) = if a.val < 1 then 1 else 0 := by
  rw [← ones_at a r]
  unfold k0_pay79
  generalize k0_pay66 (F := Ideal) = y
  pointwise []

/-- Head 6 of the values. -/
theorem value6 (a : Fin 128) (r : Fin 1024) : k0_pay80 (F := Ideal) zk (ix3 0 a r) = zk (ix2 ⟨768 + a.val, by omega⟩ r) := by
  pointwise [k0_pay80]

/-- The rows under head 6 of the values. -/
theorem under6 (a : Fin 16) (r : Fin 1024) : k0_pay81 (F := Ideal) k0_pay66 (ix3 0 a r) = if a.val < 1 then 1 else 0 := by
  rw [← ones_at a r]
  unfold k0_pay81
  generalize k0_pay66 (F := Ideal) = y
  pointwise []

/-- Head 7 of the values. -/
theorem value7 (a : Fin 128) (r : Fin 1024) : k0_pay82 (F := Ideal) zk (ix3 0 a r) = zk (ix2 ⟨896 + a.val, by omega⟩ r) := by
  pointwise [k0_pay82]

/-- The rows under head 7 of the values. -/
theorem under7 (a : Fin 16) (r : Fin 1024) : k0_pay83 (F := Ideal) k0_pay66 (ix3 0 a r) = if a.val < 1 then 1 else 0 := by
  rw [← ones_at a r]
  unfold k0_pay83
  generalize k0_pay66 (F := Ideal) = y
  pointwise []

/-- The block of the queries. -/
def queries (i : S8x192x1024.Idx) : EReal :=
  have h0 : (i 0).val < 8 := (i 0).isLt
  have h1 : (i 1).val < 192 := (i 1).isLt
  if _h : (i 1).val < 128 then z (ix2 ⟨192 * (i 0).val + (i 1).val, by omega⟩ (i 2))
  else roped (fun e => z (ix2 ⟨192 * (i 0).val + (128 + e.val), by omega⟩ (i 2))) (fun e => c (ix2 e (i 2))) (fun e => s (ix2 e (i 2))) ⟨(i 1).val - 128, by omega⟩

/-- It under a piece of the coordinates left as they are. -/
theorem queries_plain (g : ℕ) (hg : g < 8) (a : Fin 128) (r : Fin 1024) (i : S8x192x1024.Idx) (h0 : (i 0).val = g) (h1 : (i 1).val = a.val) (h2 : i 2 = r) :
    z (ix2 ⟨192 * g + a.val, by omega⟩ r) = queries z c s i := by
  unfold queries
  simp only [h0, h1, h2, a.isLt, dite_true]

/-- It under a piece of the first half of the coordinates turned. -/
theorem queries_low (g : ℕ) (hg : g < 8) (a : Fin 32) (r : Fin 1024) (i : S8x192x1024.Idx) (h0 : (i 0).val = g) (h1 : (i 1).val = 128 + a.val) (h2 : i 2 = r) :
    z (ix2 ⟨192 * g + 128 + a.val, by omega⟩ r) * c (ix2 a r) - z (ix2 ⟨192 * g + 160 + a.val, by omega⟩ r) * s (ix2 a r) = queries z c s i := by
  unfold queries roped
  have e1 : ¬ 128 + a.val < 128 := by omega
  have e2 : 128 + a.val - 128 = a.val := by omega
  have e3 : 192 * g + 128 + a.val = 192 * g + (128 + a.val) := by omega
  have e4 : 192 * g + 160 + a.val = 192 * g + (128 + (32 + a.val)) := by omega
  simp only [h0, h1, h2, e1, e2, e3, e4, a.isLt, dite_true, dite_false]

/-- It under a piece of the second half. -/
theorem queries_high (g : ℕ) (hg : g < 8) (a : Fin 32) (r : Fin 1024) (i : S8x192x1024.Idx) (h0 : (i 0).val = g) (h1 : (i 1).val = 160 + a.val) (h2 : i 2 = r) :
    z (ix2 ⟨192 * g + 160 + a.val, by omega⟩ r) * c (ix2 a r) + z (ix2 ⟨192 * g + 128 + a.val, by omega⟩ r) * s (ix2 a r) = queries z c s i := by
  unfold queries roped
  have e1 : ¬ 160 + a.val < 128 := by omega
  have e2 : 160 + a.val - 128 = 32 + a.val := by omega
  have e3 : 192 * g + 128 + a.val = 192 * g + (128 + a.val) := by omega
  have e4 : 192 * g + 160 + a.val = 192 * g + (128 + (32 + a.val)) := by omega
  have e5 : ¬ 32 + a.val < 32 := by omega
  have e6 : 32 + a.val - 32 = a.val := by omega
  simp only [h0, h1, h2, e1, e2, e3, e4, e5, e6, dite_false]

/-- The block of the keys. -/
def keys (i : S1024x2048.Idx) : EReal :=
  have h1 : (i 1).val < 2048 := (i 1).isLt
  if h : (i 1).val % 256 < 128 then zk (ix2 (i 0) ⟨(i 1).val / 256 * 128 + (i 1).val % 256, by omega⟩) else p (ix2 (i 0) ⟨(i 1).val % 256 - 128, by omega⟩)

/-- It under a head's piece. -/
theorem keys_plain (g : ℕ) (hg : g < 8) (r : Fin 1024) (a : Fin 128) (i : S1024x2048.Idx) (h0 : i 0 = r) (h1 : (i 1).val = 256 * g + a.val) :
    zk (ix2 r ⟨128 * g + a.val, by omega⟩) = keys p zk i := by
  unfold keys
  have e1 : (i 1).val % 256 = a.val := by omega
  have e2 : (i 1).val / 256 = g := by omega
  have e3 : 128 * g = g * 128 := Nat.mul_comm _ _
  simp only [h0, e1, e2, e3, a.isLt, dite_true]

/-- It under a piece of the rotary part. -/
theorem keys_rotary (g : ℕ) (hg : g < 8) (r : Fin 1024) (a : Fin 128) (i : S1024x2048.Idx) (h0 : i 0 = r) (h1 : (i 1).val = 256 * g + 128 + a.val) :
    p (ix2 r a) = keys p zk i := by
  unfold keys
  have e1 : (i 1).val % 256 = 128 + a.val := by omega
  have e2 : ¬ 128 + a.val < 128 := by omega
  have e3 : 128 + a.val - 128 = a.val := by omega
  simp only [h0, e1, e2, e3, dite_false]

/-- The block of the values. -/
def values (i : S8x144x1024.Idx) : EReal :=
  have h0 : (i 0).val < 8 := (i 0).isLt
  if _h : (i 1).val < 128 then zk (ix2 ⟨128 * (i 0).val + (i 1).val, by omega⟩ (i 2)) else if (i 1).val - 128 < 1 then 1 else 0

/-- It under a head's piece. -/
theorem values_plain (g : ℕ) (hg : g < 8) (a : Fin 128) (r : Fin 1024) (i : S8x144x1024.Idx) (h0 : (i 0).val = g) (h1 : (i 1).val = a.val) (h2 : i 2 = r) :
    zk (ix2 ⟨128 * g + a.val, by omega⟩ r) = values zk i := by
  unfold values
  simp only [h0, h1, h2, a.isLt, dite_true]

/-- It under the rows below a head's piece. -/
theorem values_under (a : Fin 16) (i : S8x144x1024.Idx) (h1 : (i 1).val = 128 + a.val) : (if a.val < 1 then (1 : EReal) else 0) = values zk i := by
  unfold values
  have e1 : ¬ 128 + a.val < 128 := by omega
  have e2 : 128 + a.val - 128 = a.val := by omega
  simp only [h1, e1, e2, dite_false]

variable (cc : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x768 .bf16) (harg4 : arg4.IsWhole) (arg5 : Memref sig .tc .vmem S1x384 .f32) (harg5 : arg5.IsWhole) (arg6 : Memref sig .tc .vmem S1536x384 .bf16) (harg6 : arg6.IsWhole) (arg7 : Memref sig .tc .vmem S1x256 .f32) (harg7 : arg7.IsWhole) (arg8 : Memref sig .tc .vmem S256x1024 .bf16) (harg8 : arg8.IsWhole) (arg9 : Memref sig .tc .vmem S1024x256 .bf16) (harg9 : arg9.IsWhole) (arg10 : Memref sig .tc .vmem S32x1024 .f32) (harg10 : arg10.IsWhole) (arg11 : Memref sig .tc .vmem S32x1024 .f32) (harg11 : arg11.IsWhole) (arg12 : Memref sig .tc .vmem S8x192x1024 .bf16) (harg12 : arg12.IsWhole) (arg13 : Memref sig .tc .vmem S1024x2048 .bf16) (harg13 : arg13.IsWhole) (arg14 : Memref sig .tc .vmem S8x144x1024 .bf16) (harg14 : arg14.IsWhole)

/-- What the body leaves of the queries. -/
theorem queries_at (q : S8x192x1024.Idx) :
    out0_A_11 cc i arg1 harg1 arg2 harg2 arg3 harg3 arg4 harg4 arg5 harg5 arg6 harg6 arg7 harg7 arg8 harg8 arg9 harg9 arg10 harg10 arg11 harg11 arg12 harg12 arg13 harg13 arg14 harg14 x sc sh w qn wq kn wk wv co si q = queries (k0_pay4 x sc sh w qn wq) co si q := by
  have e5 : k0_pay5 (F := Ideal) co = co := by funext y; idx_vars y; pointwise [k0_pay5]
  have e6 : k0_pay6 (F := Ideal) si = si := by funext y; idx_vars y; pointwise [k0_pay6]
  unfold out0_A_11
  rw [View.read_writes_eq_canon _ _ _ (cover0_A_11 cc i arg1 harg1 arg2 harg2 arg3 harg3 arg4 harg4 arg5 harg5 arg6 harg6 arg7 harg7 arg8 harg8 arg9 harg9 arg10 harg10 arg11 harg11 arg12 harg12 arg13 harg13 arg14 harg14 x sc sh w qn wq kn wk wv co si)]
  refine View.canon_apply_of_pieces (Val := Elt Ideal) (e := .bf16) (queries (k0_pay4 x sc sh w qn wq) co si) _ ?_ q (cover0_A_11 cc i arg1 harg1 arg2 harg2 arg3 harg3 arg4 harg4 arg5 harg5 arg6 harg6 arg7 harg7 arg8 harg8 arg9 harg9 arg10 harg10 arg11 harg11 arg12 harg12 arg13 harg13 arg14 harg14 x sc sh w qn wq kn wk wv co si q)
  unfold kernelRun0_A
  dsimp only
  sl_unfold_words
  simp only [View.readAt_eq_ld, Memref.IsWhole.read_unread]
  rw [View.ld_unit_lit _ x (by decide), View.ld_unit_lit _ sc (by decide), View.ld_unit_lit _ sh (by decide), View.ld_unit_lit _ w (by decide), View.ld_unit_lit _ qn (by decide), View.ld_unit_lit _ wq (by decide), View.ld_unit_lit _ co (by decide), View.ld_unit_lit _ si (by decide)]
  simp only [e5, e6]
  generalize k0_pay4 (F := Ideal) x sc sh w qn wq = z
  intro pc hpc
  rcases List.mem_cons.mp hpc with rfl | hpc
  · intro y
    idx_vars y
    obtain rfl : y0 = 0 := Fin.ext (Nat.lt_one_iff.mp y0.isLt)
    exact (high7 _ _ _ y1 y2).trans (queries_high _ _ _ 7 (by decide) y1 y2 _ (by show 7 + 1 * 0 = 7; rfl) (by show 160 + 1 * y1.val = 160 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (low7 _ _ _ y1 y2).trans (queries_low _ _ _ 7 (by decide) y1 y2 _ (by show 7 + 1 * 0 = 7; rfl) (by show 128 + 1 * y1.val = 128 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (plain7 _ y1 y2).trans (queries_plain _ _ _ 7 (by decide) y1 y2 _ (by show 7 + 1 * 0 = 7; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (high6 _ _ _ y1 y2).trans (queries_high _ _ _ 6 (by decide) y1 y2 _ (by show 6 + 1 * 0 = 6; rfl) (by show 160 + 1 * y1.val = 160 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (low6 _ _ _ y1 y2).trans (queries_low _ _ _ 6 (by decide) y1 y2 _ (by show 6 + 1 * 0 = 6; rfl) (by show 128 + 1 * y1.val = 128 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (plain6 _ y1 y2).trans (queries_plain _ _ _ 6 (by decide) y1 y2 _ (by show 6 + 1 * 0 = 6; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (high5 _ _ _ y1 y2).trans (queries_high _ _ _ 5 (by decide) y1 y2 _ (by show 5 + 1 * 0 = 5; rfl) (by show 160 + 1 * y1.val = 160 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (low5 _ _ _ y1 y2).trans (queries_low _ _ _ 5 (by decide) y1 y2 _ (by show 5 + 1 * 0 = 5; rfl) (by show 128 + 1 * y1.val = 128 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (plain5 _ y1 y2).trans (queries_plain _ _ _ 5 (by decide) y1 y2 _ (by show 5 + 1 * 0 = 5; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (high4 _ _ _ y1 y2).trans (queries_high _ _ _ 4 (by decide) y1 y2 _ (by show 4 + 1 * 0 = 4; rfl) (by show 160 + 1 * y1.val = 160 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (low4 _ _ _ y1 y2).trans (queries_low _ _ _ 4 (by decide) y1 y2 _ (by show 4 + 1 * 0 = 4; rfl) (by show 128 + 1 * y1.val = 128 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (plain4 _ y1 y2).trans (queries_plain _ _ _ 4 (by decide) y1 y2 _ (by show 4 + 1 * 0 = 4; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (high3 _ _ _ y1 y2).trans (queries_high _ _ _ 3 (by decide) y1 y2 _ (by show 3 + 1 * 0 = 3; rfl) (by show 160 + 1 * y1.val = 160 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (low3 _ _ _ y1 y2).trans (queries_low _ _ _ 3 (by decide) y1 y2 _ (by show 3 + 1 * 0 = 3; rfl) (by show 128 + 1 * y1.val = 128 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (plain3 _ y1 y2).trans (queries_plain _ _ _ 3 (by decide) y1 y2 _ (by show 3 + 1 * 0 = 3; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (high2 _ _ _ y1 y2).trans (queries_high _ _ _ 2 (by decide) y1 y2 _ (by show 2 + 1 * 0 = 2; rfl) (by show 160 + 1 * y1.val = 160 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (low2 _ _ _ y1 y2).trans (queries_low _ _ _ 2 (by decide) y1 y2 _ (by show 2 + 1 * 0 = 2; rfl) (by show 128 + 1 * y1.val = 128 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (plain2 _ y1 y2).trans (queries_plain _ _ _ 2 (by decide) y1 y2 _ (by show 2 + 1 * 0 = 2; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (high1 _ _ _ y1 y2).trans (queries_high _ _ _ 1 (by decide) y1 y2 _ (by show 1 + 1 * 0 = 1; rfl) (by show 160 + 1 * y1.val = 160 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (low1 _ _ _ y1 y2).trans (queries_low _ _ _ 1 (by decide) y1 y2 _ (by show 1 + 1 * 0 = 1; rfl) (by show 128 + 1 * y1.val = 128 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (plain1 _ y1 y2).trans (queries_plain _ _ _ 1 (by decide) y1 y2 _ (by show 1 + 1 * 0 = 1; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (high0 _ _ _ y1 y2).trans (queries_high _ _ _ 0 (by decide) y1 y2 _ (by show 0 + 1 * 0 = 0; rfl) (by show 160 + 1 * y1.val = 160 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (low0 _ _ _ y1 y2).trans (queries_low _ _ _ 0 (by decide) y1 y2 _ (by show 0 + 1 * 0 = 0; rfl) (by show 128 + 1 * y1.val = 128 + y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (plain0 _ y1 y2).trans (queries_plain _ _ _ 0 (by decide) y1 y2 _ (by show 0 + 1 * 0 = 0; rfl) (by show 0 + 1 * y1.val = y1.val; omega) (Fin.ext (by show 0 + 1 * y2.val = y2.val; omega)))
  nomatch hpc

/-- What the body leaves of the keys. -/
theorem keys_at (q : S1024x2048.Idx) :
    out0_A_12 cc i arg1 harg1 arg2 harg2 arg3 harg3 arg4 harg4 arg5 harg5 arg6 harg6 arg7 harg7 arg8 harg8 arg9 harg9 arg10 harg10 arg11 harg11 arg12 harg12 arg13 harg13 arg14 harg14 x sc sh w qn wq kn wk wv co si q = keys (k0_pay56 co si (k0_pay52 (k0_pay3 x sc sh w)) (k0_pay53 (k0_pay3 x sc sh w)) (k0_pay54 (k0_pay3 x sc sh w)) (k0_pay55 (k0_pay3 x sc sh w) co si)) (k0_pay51 (k0_pay2 x sc sh w) kn wk) q := by
  have e5 : k0_pay5 (F := Ideal) co = co := by funext y; idx_vars y; pointwise [k0_pay5]
  have e6 : k0_pay6 (F := Ideal) si = si := by funext y; idx_vars y; pointwise [k0_pay6]
  unfold out0_A_12
  rw [View.read_writes_eq_canon _ _ _ (cover0_A_12 cc i arg1 harg1 arg2 harg2 arg3 harg3 arg4 harg4 arg5 harg5 arg6 harg6 arg7 harg7 arg8 harg8 arg9 harg9 arg10 harg10 arg11 harg11 arg12 harg12 arg13 harg13 arg14 harg14 x sc sh w qn wq kn wk wv co si)]
  refine View.canon_apply_of_pieces (Val := Elt Ideal) (e := .bf16) (keys (k0_pay56 co si (k0_pay52 (k0_pay3 x sc sh w)) (k0_pay53 (k0_pay3 x sc sh w)) (k0_pay54 (k0_pay3 x sc sh w)) (k0_pay55 (k0_pay3 x sc sh w) co si)) (k0_pay51 (k0_pay2 x sc sh w) kn wk)) _ ?_ q (cover0_A_12 cc i arg1 harg1 arg2 harg2 arg3 harg3 arg4 harg4 arg5 harg5 arg6 harg6 arg7 harg7 arg8 harg8 arg9 harg9 arg10 harg10 arg11 harg11 arg12 harg12 arg13 harg13 arg14 harg14 x sc sh w qn wq kn wk wv co si q)
  unfold kernelRun0_A
  dsimp only
  sl_unfold_words
  simp only [View.readAt_eq_ld, Memref.IsWhole.read_unread]
  rw [View.ld_unit_lit _ x (by decide), View.ld_unit_lit _ sc (by decide), View.ld_unit_lit _ sh (by decide), View.ld_unit_lit _ w (by decide), View.ld_unit_lit _ kn (by decide), View.ld_unit_lit _ wk (by decide), View.ld_unit_lit _ co (by decide), View.ld_unit_lit _ si (by decide)]
  simp only [e5, e6]
  generalize k0_pay51 (F := Ideal) (k0_pay2 x sc sh w) kn wk = zk
  generalize k0_pay56 (F := Ideal) co si (k0_pay52 (k0_pay3 x sc sh w)) (k0_pay53 (k0_pay3 x sc sh w)) (k0_pay54 (k0_pay3 x sc sh w)) (k0_pay55 (k0_pay3 x sc sh w) co si) = p
  intro pc hpc
  rcases List.mem_cons.mp hpc with rfl | hpc
  · intro y
    idx_vars y
    exact keys_rotary _ _ 7 (by decide) y0 y1 _ (Fin.ext (by show 0 + 1 * y0.val = y0.val; omega)) (by show 1920 + 1 * y1.val = 256 * 7 + 128 + y1.val; omega)
  rcases List.mem_cons.mp hpc with rfl | hpc
  · intro y
    idx_vars y
    exact (key7 _ y0 y1).trans (keys_plain _ _ 7 (by decide) y0 y1 _ (Fin.ext (by show 0 + 1 * y0.val = y0.val; omega)) (by show 1792 + 1 * y1.val = 256 * 7 + y1.val; omega))
  rcases List.mem_cons.mp hpc with rfl | hpc
  · intro y
    idx_vars y
    exact keys_rotary _ _ 6 (by decide) y0 y1 _ (Fin.ext (by show 0 + 1 * y0.val = y0.val; omega)) (by show 1664 + 1 * y1.val = 256 * 6 + 128 + y1.val; omega)
  rcases List.mem_cons.mp hpc with rfl | hpc
  · intro y
    idx_vars y
    exact (key6 _ y0 y1).trans (keys_plain _ _ 6 (by decide) y0 y1 _ (Fin.ext (by show 0 + 1 * y0.val = y0.val; omega)) (by show 1536 + 1 * y1.val = 256 * 6 + y1.val; omega))
  rcases List.mem_cons.mp hpc with rfl | hpc
  · intro y
    idx_vars y
    exact keys_rotary _ _ 5 (by decide) y0 y1 _ (Fin.ext (by show 0 + 1 * y0.val = y0.val; omega)) (by show 1408 + 1 * y1.val = 256 * 5 + 128 + y1.val; omega)
  rcases List.mem_cons.mp hpc with rfl | hpc
  · intro y
    idx_vars y
    exact (key5 _ y0 y1).trans (keys_plain _ _ 5 (by decide) y0 y1 _ (Fin.ext (by show 0 + 1 * y0.val = y0.val; omega)) (by show 1280 + 1 * y1.val = 256 * 5 + y1.val; omega))
  rcases List.mem_cons.mp hpc with rfl | hpc
  · intro y
    idx_vars y
    exact keys_rotary _ _ 4 (by decide) y0 y1 _ (Fin.ext (by show 0 + 1 * y0.val = y0.val; omega)) (by show 1152 + 1 * y1.val = 256 * 4 + 128 + y1.val; omega)
  rcases List.mem_cons.mp hpc with rfl | hpc
  · intro y
    idx_vars y
    exact (key4 _ y0 y1).trans (keys_plain _ _ 4 (by decide) y0 y1 _ (Fin.ext (by show 0 + 1 * y0.val = y0.val; omega)) (by show 1024 + 1 * y1.val = 256 * 4 + y1.val; omega))
  rcases List.mem_cons.mp hpc with rfl | hpc
  · intro y
    idx_vars y
    exact keys_rotary _ _ 3 (by decide) y0 y1 _ (Fin.ext (by show 0 + 1 * y0.val = y0.val; omega)) (by show 896 + 1 * y1.val = 256 * 3 + 128 + y1.val; omega)
  rcases List.mem_cons.mp hpc with rfl | hpc
  · intro y
    idx_vars y
    exact (key3 _ y0 y1).trans (keys_plain _ _ 3 (by decide) y0 y1 _ (Fin.ext (by show 0 + 1 * y0.val = y0.val; omega)) (by show 768 + 1 * y1.val = 256 * 3 + y1.val; omega))
  rcases List.mem_cons.mp hpc with rfl | hpc
  · intro y
    idx_vars y
    exact keys_rotary _ _ 2 (by decide) y0 y1 _ (Fin.ext (by show 0 + 1 * y0.val = y0.val; omega)) (by show 640 + 1 * y1.val = 256 * 2 + 128 + y1.val; omega)
  rcases List.mem_cons.mp hpc with rfl | hpc
  · intro y
    idx_vars y
    exact (key2 _ y0 y1).trans (keys_plain _ _ 2 (by decide) y0 y1 _ (Fin.ext (by show 0 + 1 * y0.val = y0.val; omega)) (by show 512 + 1 * y1.val = 256 * 2 + y1.val; omega))
  rcases List.mem_cons.mp hpc with rfl | hpc
  · intro y
    idx_vars y
    exact keys_rotary _ _ 1 (by decide) y0 y1 _ (Fin.ext (by show 0 + 1 * y0.val = y0.val; omega)) (by show 384 + 1 * y1.val = 256 * 1 + 128 + y1.val; omega)
  rcases List.mem_cons.mp hpc with rfl | hpc
  · intro y
    idx_vars y
    exact (key1 _ y0 y1).trans (keys_plain _ _ 1 (by decide) y0 y1 _ (Fin.ext (by show 0 + 1 * y0.val = y0.val; omega)) (by show 256 + 1 * y1.val = 256 * 1 + y1.val; omega))
  rcases List.mem_cons.mp hpc with rfl | hpc
  · intro y
    idx_vars y
    exact keys_rotary _ _ 0 (by decide) y0 y1 _ (Fin.ext (by show 0 + 1 * y0.val = y0.val; omega)) (by show 128 + 1 * y1.val = 256 * 0 + 128 + y1.val; omega)
  rcases List.mem_cons.mp hpc with rfl | hpc
  · intro y
    idx_vars y
    exact (key0 _ y0 y1).trans (keys_plain _ _ 0 (by decide) y0 y1 _ (Fin.ext (by show 0 + 1 * y0.val = y0.val; omega)) (by show 0 + 1 * y1.val = 256 * 0 + y1.val; omega))
  nomatch hpc

/-- What the body leaves of the values. -/
theorem values_at (q : S8x144x1024.Idx) :
    out0_A_13 cc i arg1 harg1 arg2 harg2 arg3 harg3 arg4 harg4 arg5 harg5 arg6 harg6 arg7 harg7 arg8 harg8 arg9 harg9 arg10 harg10 arg11 harg11 arg12 harg12 arg13 harg13 arg14 harg14 x sc sh w qn wq kn wk wv co si q = values (k0_pay65 (k0_pay50 (k0_pay2 x sc sh w) kn) wv) q := by
  unfold out0_A_13
  rw [View.read_writes_eq_canon _ _ _ (cover0_A_13 cc i arg1 harg1 arg2 harg2 arg3 harg3 arg4 harg4 arg5 harg5 arg6 harg6 arg7 harg7 arg8 harg8 arg9 harg9 arg10 harg10 arg11 harg11 arg12 harg12 arg13 harg13 arg14 harg14 x sc sh w qn wq kn wk wv co si)]
  refine View.canon_apply_of_pieces (Val := Elt Ideal) (e := .bf16) (values (k0_pay65 (k0_pay50 (k0_pay2 x sc sh w) kn) wv)) _ ?_ q (cover0_A_13 cc i arg1 harg1 arg2 harg2 arg3 harg3 arg4 harg4 arg5 harg5 arg6 harg6 arg7 harg7 arg8 harg8 arg9 harg9 arg10 harg10 arg11 harg11 arg12 harg12 arg13 harg13 arg14 harg14 x sc sh w qn wq kn wk wv co si q)
  unfold kernelRun0_A
  dsimp only
  sl_unfold_words
  simp only [View.readAt_eq_ld, Memref.IsWhole.read_unread]
  rw [View.ld_unit_lit _ x (by decide), View.ld_unit_lit _ sc (by decide), View.ld_unit_lit _ sh (by decide), View.ld_unit_lit _ w (by decide), View.ld_unit_lit _ kn (by decide), View.ld_unit_lit _ wv (by decide)]
  generalize k0_pay50 (F := Ideal) (k0_pay2 x sc sh w) kn = n
  intro pc hpc
  rcases List.mem_cons.mp hpc with rfl | hpc
  · intro y
    idx_vars y
    obtain rfl : y0 = 0 := Fin.ext (Nat.lt_one_iff.mp y0.isLt)
    exact (under7 y1 y2).trans (values_under _ y1 _ (by show 128 + 1 * y1.val = 128 + y1.val; omega))
  rcases List.mem_cons.mp hpc with rfl | hpc
  · intro y
    idx_vars y
    obtain rfl : y0 = 0 := Fin.ext (Nat.lt_one_iff.mp y0.isLt)
    exact (value7 _ y1 y2).trans (values_plain _ 7 (by decide) y1 y2 _ (by show 7 + 1 * 0 = 7; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (under6 y1 y2).trans (values_under _ y1 _ (by show 128 + 1 * y1.val = 128 + y1.val; omega))
  rcases List.mem_cons.mp hpc with rfl | hpc
  · intro y
    idx_vars y
    obtain rfl : y0 = 0 := Fin.ext (Nat.lt_one_iff.mp y0.isLt)
    exact (value6 _ y1 y2).trans (values_plain _ 6 (by decide) y1 y2 _ (by show 6 + 1 * 0 = 6; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (under5 y1 y2).trans (values_under _ y1 _ (by show 128 + 1 * y1.val = 128 + y1.val; omega))
  rcases List.mem_cons.mp hpc with rfl | hpc
  · intro y
    idx_vars y
    obtain rfl : y0 = 0 := Fin.ext (Nat.lt_one_iff.mp y0.isLt)
    exact (value5 _ y1 y2).trans (values_plain _ 5 (by decide) y1 y2 _ (by show 5 + 1 * 0 = 5; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (under4 y1 y2).trans (values_under _ y1 _ (by show 128 + 1 * y1.val = 128 + y1.val; omega))
  rcases List.mem_cons.mp hpc with rfl | hpc
  · intro y
    idx_vars y
    obtain rfl : y0 = 0 := Fin.ext (Nat.lt_one_iff.mp y0.isLt)
    exact (value4 _ y1 y2).trans (values_plain _ 4 (by decide) y1 y2 _ (by show 4 + 1 * 0 = 4; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (under3 y1 y2).trans (values_under _ y1 _ (by show 128 + 1 * y1.val = 128 + y1.val; omega))
  rcases List.mem_cons.mp hpc with rfl | hpc
  · intro y
    idx_vars y
    obtain rfl : y0 = 0 := Fin.ext (Nat.lt_one_iff.mp y0.isLt)
    exact (value3 _ y1 y2).trans (values_plain _ 3 (by decide) y1 y2 _ (by show 3 + 1 * 0 = 3; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (under2 y1 y2).trans (values_under _ y1 _ (by show 128 + 1 * y1.val = 128 + y1.val; omega))
  rcases List.mem_cons.mp hpc with rfl | hpc
  · intro y
    idx_vars y
    obtain rfl : y0 = 0 := Fin.ext (Nat.lt_one_iff.mp y0.isLt)
    exact (value2 _ y1 y2).trans (values_plain _ 2 (by decide) y1 y2 _ (by show 2 + 1 * 0 = 2; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (under1 y1 y2).trans (values_under _ y1 _ (by show 128 + 1 * y1.val = 128 + y1.val; omega))
  rcases List.mem_cons.mp hpc with rfl | hpc
  · intro y
    idx_vars y
    obtain rfl : y0 = 0 := Fin.ext (Nat.lt_one_iff.mp y0.isLt)
    exact (value1 _ _ y1 y2).trans (values_plain _ 1 (by decide) y1 y2 _ (by show 1 + 1 * 0 = 1; rfl) (by show 0 + 1 * y1.val = y1.val; omega) (Fin.ext (by show 0 + 1 * y2.val = y2.val; omega)))
  rcases List.mem_cons.mp hpc with rfl | hpc
  · intro y
    idx_vars y
    obtain rfl : y0 = 0 := Fin.ext (Nat.lt_one_iff.mp y0.isLt)
    exact (under0 y1 y2).trans (values_under _ y1 _ (by show 128 + 1 * y1.val = 128 + y1.val; omega))
  rcases List.mem_cons.mp hpc with rfl | hpc
  · intro y
    idx_vars y
    obtain rfl : y0 = 0 := Fin.ext (Nat.lt_one_iff.mp y0.isLt)
    exact (value0 _ _ y1 y2).trans (values_plain _ 0 (by decide) y1 y2 _ (by show 0 + 1 * 0 = 0; rfl) (by show 0 + 1 * y1.val = y1.val; omega) (Fin.ext (by show 0 + 1 * y2.val = y2.val; omega)))
  nomatch hpc

end Cert.Kernel4Ideal.Mla

end
-- ==== Proof.MlaHost.lean ====
/-
  The projection of the latent-attention layer: the weights as the call is handed them.
-/
module

public import proofs.«01_k».proof.Proof.Gen.Kernel4Ideal.Value
public import Idealize.ShloMosaic.Lib.Claim
public import Idealize.ShloMosaic.Lib.Pointwise
public import Idealize.ShloMosaic.Lib.Pipeline.ValueKit

@[expose] public section

set_option maxRecDepth 16384

noncomputable section

namespace Cert.Kernel4Ideal.Mla

open Idealize.ShloMosaic Idealize.ShloMosaic.TcCoe
open Cert.Kernel4Ideal Cert.Kernel4Ideal.Gen

/-- The latents' weights with columns of nothing after them. -/
def hostIn (a : FVec Ideal S1024x704 .f32) : FVec Ideal S1024x768 .bf16 :=
  truncf .bf16 (concatenate S1024x768 1 [⟨S1024x704, a⟩, ⟨S1024x64, broadcastInDim S1024x64 ![] Facts₀.bcast_S_S1024x64 (constant S_ .f32 0x00000000#32)⟩] Facts₀.concatenates_S1024x704_S1024x64_S1024x768_d1) Facts₀.bitsLt_bf16_f32

/-- The queries' weights turned on their side. -/
def hostQ (a : FVec Ideal S384x1536 .f32) : FVec Ideal S1536x384 .bf16 :=
  truncf .bf16 (transpose S1536x384 [1, 0] a Facts₀.transposes_S384x1536_S1536x384_1_0) Facts₀.bitsLt_bf16_f32

/-- The keys' weights, out of the heads' keys and values. -/
def hostK (a : FVec Ideal S256x2048 .f32) : FVec Ideal S256x1024 .bf16 :=
  truncf .bf16 (shapeCast S256x1024 (extractStridedSlice S256x8x128 ![0, 0, 0] (shapeCast S256x8x256 a Facts₀.shapeCasts_S256x2048_S256x8x256) Facts₀.slices_S256x8x256_S256x8x128_0_0_0) Facts₀.shapeCasts_S256x8x128_S256x1024) Facts₀.bitsLt_bf16_f32

/-- The values' weights, out of the same, turned on their side. -/
def hostV (a : FVec Ideal S256x2048 .f32) : FVec Ideal S1024x256 .bf16 :=
  truncf .bf16 (transpose S1024x256 [1, 0] (shapeCast S256x1024 (extractStridedSlice S256x8x128 ![0, 0, 128] (shapeCast S256x8x256 a Facts₀.shapeCasts_S256x2048_S256x8x256) Facts₀.slices_S256x8x256_S256x8x128_0_0_128) Facts₀.shapeCasts_S256x8x128_S256x1024) Facts₀.transposes_S256x1024_S1024x256_1_0) Facts₀.bitsLt_bf16_f32

/-- The scale of the queries' norm, a row. -/
def hostA (a : FVec Ideal S384 .f32) : FVec Ideal S1x384 .f32 := shapeCast S1x384 a Facts₀.shapeCasts_S384_S1x384

/-- The scale of the other norm, a row. -/
def hostB (a : FVec Ideal S256 .f32) : FVec Ideal S1x256 .f32 := shapeCast S1x256 a Facts₀.shapeCasts_S256_S1x256

/-- A table of the angles turned on its side. -/
def hostT (a : FVec Ideal S16384x32 .f32) : FVec Ideal S32x16384 .f32 := transpose S32x16384 [1, 0] a Facts₀.transposes_S16384x32_S32x16384_1_0

/-- A latent's weight. -/
theorem hostIn_at (a : FVec Ideal S1024x704 .f32) (d : Fin 1024) (j : Fin 768) : hostIn a (ix2 d j) = if h : j.val < 704 then a (ix2 d ⟨j.val, h⟩) else 0 := by
  pointwise [hostIn]

/-- A query's weight. -/
theorem hostQ_at (a : FVec Ideal S384x1536 .f32) (j : Fin 1536) (k : Fin 384) : hostQ a (ix2 j k) = a (ix2 k j) := by
  pointwise [hostQ]

/-- A key's weight. -/
theorem hostK_at (a : FVec Ideal S256x2048 .f32) (k : Fin 256) (j : Fin 1024) : hostK a (ix2 k j) = a (ix2 k ⟨j.val / 128 * 256 + j.val % 128, by omega⟩) := by
  pointwise [hostK]

/-- A value's weight. -/
theorem hostV_at (a : FVec Ideal S256x2048 .f32) (j : Fin 1024) (k : Fin 256) : hostV a (ix2 j k) = a (ix2 k ⟨j.val / 128 * 256 + (128 + j.val % 128), by omega⟩) := by
  pointwise [hostV]

/-- A scale of the queries' norm. -/
theorem hostA_at (a : FVec Ideal S384 .f32) (k : Fin 384) : hostA a (ix2 0 k) = a (ix1 k) := by
  pointwise [hostA]

/-- A scale of the other norm. -/
theorem hostB_at (a : FVec Ideal S256 .f32) (k : Fin 256) : hostB a (ix2 0 k) = a (ix1 k) := by
  pointwise [hostB]

/-- An angle's entry. -/
theorem hostT_at (a : FVec Ideal S16384x32 .f32) (e : Fin 32) (r : Fin 16384) : hostT a (ix2 e r) = a (ix2 r e) := by
  pointwise [hostT]

variable (m : (ℓ : Loc nD τ sig) → Buf (Elt Ideal) ℓ)

/-- What the call finds of the latents' weights. -/
theorem entryIn (c : Dev nD) : (V m c main_v2 : Vec Ideal S1024x768 .bf16) = hostIn (m ((c : Thread nD τ).loc main_arg5)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

/-- What the call finds of the queries' weights. -/
theorem entryQ (c : Dev nD) : (V m c main_v13 : Vec Ideal S1536x384 .bf16) = hostQ (m ((c : Thread nD τ).loc main_arg7)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

/-- What the call finds of the keys' weights. -/
theorem entryK (c : Dev nD) : (V m c main_v6 : Vec Ideal S256x1024 .bf16) = hostK (m ((c : Thread nD τ).loc main_arg9)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

/-- What the call finds of the values' weights. -/
theorem entryV (c : Dev nD) : (V m c main_v10 : Vec Ideal S1024x256 .bf16) = hostV (m ((c : Thread nD τ).loc main_arg9)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

/-- What the call finds of the scale of the queries' norm. -/
theorem entryA (c : Dev nD) : (V m c main_v11 : Vec Ideal S1x384 .f32) = hostA (m ((c : Thread nD τ).loc main_arg6)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

/-- What the call finds of the scale of the other norm. -/
theorem entryB (c : Dev nD) : (V m c main_v14 : Vec Ideal S1x256 .f32) = hostB (m ((c : Thread nD τ).loc main_arg8)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

/-- What the call finds of the cosines. -/
theorem entryC (c : Dev nD) : (V m c main_v15 : Vec Ideal S32x16384 .f32) = hostT (m ((c : Thread nD τ).loc main_arg3)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

/-- What the call finds of the sines. -/
theorem entryS (c : Dev nD) : (V m c main_v16 : Vec Ideal S32x16384 .f32) = hostT (m ((c : Thread nD τ).loc main_arg4)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results_simp <;> rfl

end Cert.Kernel4Ideal.Mla

end
-- ==== Proof.MlaRead.lean ====
/-
  The projection of the latent-attention layer: what its reference's arrays hold.
-/
module

public import proofs.«01_k».proof.Proof.Rope
public import proofs.«01_k».proof.Proof.Gen.Reference4Ideal.Read
public import Idealize.ShloMosaic.Lib.Pointwise

@[expose] public section

set_option maxRecDepth 16384

noncomputable section

namespace Cert.Reference4Ideal.Read

open Idealize.ShloMosaic Idealize.ShloMosaic.TcCoe
open Cert.Reference4Ideal
open Cert.Rows

variable (x : FVec Ideal S16384x1024 .f32) (sc sh : FVec Ideal S1x1024 .f32) (co si : FVec Ideal S16384x32 .f32) (w : FVec Ideal S1024x704 .f32) (qn : FVec Ideal S384 .f32)
  (wq : FVec Ideal S384x1536 .f32) (kn : FVec Ideal S256 .f32) (wk : FVec Ideal S256x2048 .f32)

/-- The latents of a row. -/
theorem latent_at (r : Fin 16384) (j : Fin 704) :
    val_main_v6 (F := Ideal) x sc sh w (ix2 r j) = times (cond (fun d => x (ix2 r d)) (fun d => sc (ix2 0 d)) (fun d => sh (ix2 0 d))) (fun d j => w (ix2 d j)) j := by
  pointwise [val_main_v6, val_main_v5, val_main_v4, val_main_v3, val_main_v2, val_main_v1, val_main_v0, val_main_cst]
  rfl

/-- The queries' product. -/
theorem query_at (r : Fin 16384) (j : Fin 1536) :
    val_main_v25 (F := Ideal) x sc sh w qn wq (ix2 r j)
      = times (rms (Ideal.ofBits .f32 0x43C00000#32) (fun e : Fin 384 => val_main_v6 (F := Ideal) x sc sh w (ix2 r ⟨e.val, by omega⟩)) (fun e => qn (ix1 e))) (fun k j => wq (ix2 k j)) j * Ideal.ofBits .f32 0x3DD53B95#32 := by
  unfold val_main_v25 val_main_v23 val_main_v22 val_main_v19 val_main_v18 val_main_v17 val_main_v16 val_main_v14 val_main_v12 val_main_v11 val_main_v10 val_main_v7
  generalize val_main_v6 (F := Ideal) x sc sh w = y
  pointwise [val_main_v24, val_main_cst_3, val_main_v21, val_main_v20, val_main_v15, val_main_cst_2, val_main_v13, val_main_cst_1, val_main_cst_0]
  rfl

/-- The keys' and values' product. -/
theorem both_at (r : Fin 16384) (j : Fin 2048) :
    val_main_v71 (F := Ideal) x sc sh w kn wk (ix2 r j)
      = times (rms (Ideal.ofBits .f32 0x43800000#32) (fun e : Fin 256 => val_main_v6 (F := Ideal) x sc sh w (ix2 r ⟨384 + e.val, by omega⟩)) (fun e => kn (ix1 e))) (fun k j => wk (ix2 k j)) j := by
  unfold val_main_v71 val_main_v70 val_main_v67 val_main_v66 val_main_v65 val_main_v64 val_main_v62 val_main_v60 val_main_v59 val_main_v58 val_main_v8
  generalize val_main_v6 (F := Ideal) x sc sh w = y
  pointwise [val_main_v69, val_main_v68, val_main_v63, val_main_cst_6, val_main_v61, val_main_cst_5, val_main_cst_4]
  rfl

/-- The queries' array. -/
theorem queries_at (g : Fin 8) (e : Fin 192) (r : Fin 16384) :
    val_main_v81 (F := Ideal) x sc sh co si w qn wq (ix3 g e r)
      = if h : e.val < 128 then val_main_v25 (F := Ideal) x sc sh w qn wq (ix2 r ⟨g.val * 192 + e.val, by omega⟩)
        else roped (fun a => val_main_v25 (F := Ideal) x sc sh w qn wq (ix2 r ⟨g.val * 192 + (128 + a.val), by omega⟩)) (fun a => co (ix2 r a)) (fun a => si (ix2 r a)) ⟨e.val - 128, by omega⟩ := by
  unfold roped
  unfold val_main_v81 val_main_v80 val_main_v44 val_main_v43 val_main_v42 val_main_v41 val_main_v39 val_main_v37 val_main_v36 val_main_v34 val_main_v30 val_main_v29 val_main_v28 val_main_v27 val_main_v26
  generalize val_main_v25 (F := Ideal) x sc sh w qn wq = z
  pointwise [val_main_v40, val_main_v38, val_main_v35, val_main_v33, val_main_v32, val_main_v31]

/-- The keys' array. -/
theorem keys_at (r : Fin 16384) (j : Fin 2048) :
    val_main_v83 (F := Ideal) x sc sh co si w kn wk (ix2 r j)
      = if h : j.val % 256 < 128 then val_main_v71 (F := Ideal) x sc sh w kn wk (ix2 r j)
        else if h' : j.val % 256 - 128 < 64 then roped (fun a => val_main_v6 (F := Ideal) x sc sh w (ix2 r ⟨640 + a.val, by omega⟩)) (fun a => co (ix2 r a)) (fun a => si (ix2 r a)) ⟨j.val % 256 - 128, h'⟩
        else 0 := by
  unfold roped
  unfold val_main_v83 val_main_v82 val_main_v75 val_main_v73 val_main_v72 val_main_v57 val_main_v56 val_main_v55 val_main_v54 val_main_v53 val_main_v52 val_main_v51 val_main_v50 val_main_v47 val_main_v46 val_main_v45 val_main_v9
  generalize val_main_v71 (F := Ideal) x sc sh w kn wk = z
  generalize val_main_v6 (F := Ideal) x sc sh w = y
  pointwise [val_main_v74, val_main_cst_7, val_main_v49, val_main_v48]

/-- The values' array. -/
theorem values_at (g : Fin 8) (e : Fin 144) (r : Fin 16384) :
    val_main_v85 (F := Ideal) x sc sh w kn wk (ix3 g e r)
      = if h : e.val < 128 then val_main_v71 (F := Ideal) x sc sh w kn wk (ix2 r ⟨g.val * 256 + (128 + e.val), by omega⟩) else if e.val - 128 < 1 then 1 else 0 := by
  unfold val_main_v85 val_main_v84 val_main_v79 val_main_v76 val_main_v72
  generalize val_main_v71 (F := Ideal) x sc sh w kn wk = z
  pointwise [val_main_v77, val_main_v78, val_main_cst_8, val_main_cst_9]
  rfl

end Cert.Reference4Ideal.Read

end
-- ==== Proof.Launch4.lean ====
/-
  The projection of the latent-attention layer on the whole: its blocks read from the arguments, its arrays the reference's.
-/
module

public import proofs.«01_k».proof.Defs
public import proofs.«01_k».proof.Proof.Mla
public import proofs.«01_k».proof.Proof.MlaHost
public import proofs.«01_k».proof.Proof.MlaRead
public import proofs.«01_k».proof.Proof.Gen.Kernel4
public import proofs.«01_k».proof.Proof.Gen.Kernel4.Frame
public import proofs.«01_k».proof.Proof.Gen.Reference4Ideal.Run
public import Idealize.ShloMosaic.Lib.Quiescent
public import Idealize.ShloMosaic.Lib.Claim
public import Idealize.ShloMosaic.Lib.Pipeline.ValueKit

@[expose] public section

set_option maxRecDepth 16384

noncomputable section

namespace Cert.Kernel4Ideal.Mla

open Idealize.ShloMosaic Idealize.ShloMosaic.TcCoe Idealize.SL.Sem
open Cert.Kernel4Ideal Cert.Kernel4Ideal.Gen
open Cert.Rows

variable (m : (ℓ : Loc nD τ sig) → Buf (Elt Ideal) ℓ)

/-- Where the blocks that move lie at a point. -/
theorem place : ∀ t : Fin cfg0.N, (win0_0.index t 0 = t.val ∧ win0_0.index t 1 = 0) ∧ (win0_9.index t 0 = 0 ∧ win0_9.index t 1 = t.val) ∧ (win0_10.index t 0 = 0 ∧ win0_10.index t 1 = t.val)
    ∧ (win0_11.index t 0 = 0 ∧ win0_11.index t 1 = 0 ∧ win0_11.index t 2 = t.val) ∧ (win0_12.index t 0 = t.val ∧ win0_12.index t 1 = 0)
    ∧ (win0_13.index t 0 = 0 ∧ win0_13.index t 1 = 0 ∧ win0_13.index t 2 = t.val) := (by decide +kernel : ∀ t : Fin grid0.N, _)

/-- The blocks that stay in place. -/
theorem still : ∀ t : Fin cfg0.N, (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) := (by decide +kernel : ∀ t : Fin grid0.N, _)

/-- The rows of a point. -/
theorem blockX (c : Dev nD) (t : Fin cfg0.N) (r : Fin 1024) (d : Fin 1024) (q : Fin 16384) (hq : q.val = 1024 * t.val + r.val) :
    (iblk m c 0 t : Vec Ideal S1024x1024 .f32) (ix2 r d) = (m ((c : Thread nD τ).loc main_arg0) : FVec Ideal S16384x1024 .f32) (ix2 q d) := by
  have := place t
  blk_ext [iblk]

/-- The scale of the condition. -/
theorem blockS (c : Dev nD) (t : Fin cfg0.N) (d : Fin 1024) :
    (iblk m c 1 t : Vec Ideal S1x1024 .f32) (ix2 0 d) = (m ((c : Thread nD τ).loc main_arg1) : FVec Ideal S1x1024 .f32) (ix2 0 d) := by
  have := still t
  blk_ext [iblk]

/-- The shift of the condition. -/
theorem blockH (c : Dev nD) (t : Fin cfg0.N) (d : Fin 1024) :
    (iblk m c 2 t : Vec Ideal S1x1024 .f32) (ix2 0 d) = (m ((c : Thread nD τ).loc main_arg2) : FVec Ideal S1x1024 .f32) (ix2 0 d) := by
  have := still t
  blk_ext [iblk]

/-- The latents' weights. -/
theorem blockW (c : Dev nD) (t : Fin cfg0.N) (d : Fin 1024) (j : Fin 768) :
    (iblk m c 3 t : Vec Ideal S1024x768 .bf16) (ix2 d j) = if h : j.val < 704 then (m ((c : Thread nD τ).loc main_arg5) : FVec Ideal S1024x704 .f32) (ix2 d ⟨j.val, h⟩) else (0 : EReal) := by
  have := still t
  refine Eq.trans (b := (V m c main_v2 : Vec Ideal S1024x768 .bf16) (ix2 d j)) ?_ ((congrFun (entryIn m c) _).trans (hostIn_at _ d j))
  blk_ext [iblk]

/-- The scale of the queries' norm. -/
theorem blockA (c : Dev nD) (t : Fin cfg0.N) (k : Fin 384) :
    (iblk m c 4 t : Vec Ideal S1x384 .f32) (ix2 0 k) = (m ((c : Thread nD τ).loc main_arg6) : FVec Ideal S384 .f32) (ix1 k) := by
  have := still t
  refine Eq.trans (b := (V m c main_v11 : Vec Ideal S1x384 .f32) (ix2 0 k)) ?_ ((congrFun (entryA m c) _).trans (hostA_at _ k))
  blk_ext [iblk]

/-- The queries' weights. -/
theorem blockQ (c : Dev nD) (t : Fin cfg0.N) (j : Fin 1536) (k : Fin 384) :
    (iblk m c 5 t : Vec Ideal S1536x384 .bf16) (ix2 j k) = (m ((c : Thread nD τ).loc main_arg7) : FVec Ideal S384x1536 .f32) (ix2 k j) := by
  have := still t
  refine Eq.trans (b := (V m c main_v13 : Vec Ideal S1536x384 .bf16) (ix2 j k)) ?_ ((congrFun (entryQ m c) _).trans (hostQ_at _ j k))
  blk_ext [iblk]

/-- The scale of the other norm. -/
theorem blockB (c : Dev nD) (t : Fin cfg0.N) (k : Fin 256) :
    (iblk m c 6 t : Vec Ideal S1x256 .f32) (ix2 0 k) = (m ((c : Thread nD τ).loc main_arg8) : FVec Ideal S256 .f32) (ix1 k) := by
  have := still t
  refine Eq.trans (b := (V m c main_v14 : Vec Ideal S1x256 .f32) (ix2 0 k)) ?_ ((congrFun (entryB m c) _).trans (hostB_at _ k))
  blk_ext [iblk]

/-- The keys' weights. -/
theorem blockK (c : Dev nD) (t : Fin cfg0.N) (k : Fin 256) (j : Fin 1024) :
    (iblk m c 7 t : Vec Ideal S256x1024 .bf16) (ix2 k j) = (m ((c : Thread nD τ).loc main_arg9) : FVec Ideal S256x2048 .f32) (ix2 k ⟨j.val / 128 * 256 + j.val % 128, by omega⟩) := by
  have := still t
  refine Eq.trans (b := (V m c main_v6 : Vec Ideal S256x1024 .bf16) (ix2 k j)) ?_ ((congrFun (entryK m c) _).trans (hostK_at _ k j))
  blk_ext [iblk]

/-- The values' weights. -/
theorem blockV (c : Dev nD) (t : Fin cfg0.N) (j : Fin 1024) (k : Fin 256) :
    (iblk m c 8 t : Vec Ideal S1024x256 .bf16) (ix2 j k) = (m ((c : Thread nD τ).loc main_arg9) : FVec Ideal S256x2048 .f32) (ix2 k ⟨j.val / 128 * 256 + (128 + j.val % 128), by omega⟩) := by
  have := still t
  refine Eq.trans (b := (V m c main_v10 : Vec Ideal S1024x256 .bf16) (ix2 j k)) ?_ ((congrFun (entryV m c) _).trans (hostV_at _ j k))
  blk_ext [iblk]

/-- The cosines of a point's rows. -/
theorem blockC (c : Dev nD) (t : Fin cfg0.N) (e : Fin 32) (r : Fin 1024) (q : Fin 16384) (hq : q.val = 1024 * t.val + r.val) :
    (iblk m c 9 t : Vec Ideal S32x1024 .f32) (ix2 e r) = (m ((c : Thread nD τ).loc main_arg3) : FVec Ideal S16384x32 .f32) (ix2 q e) := by
  have := place t
  refine Eq.trans (b := (V m c main_v15 : Vec Ideal S32x16384 .f32) (ix2 e q)) ?_ ((congrFun (entryC m c) _).trans (hostT_at _ e q))
  blk_ext [iblk]

/-- The sines of a point's rows. -/
theorem blockN (c : Dev nD) (t : Fin cfg0.N) (e : Fin 32) (r : Fin 1024) (q : Fin 16384) (hq : q.val = 1024 * t.val + r.val) :
    (iblk m c 10 t : Vec Ideal S32x1024 .f32) (ix2 e r) = (m ((c : Thread nD τ).loc main_arg4) : FVec Ideal S16384x32 .f32) (ix2 q e) := by
  have := place t
  refine Eq.trans (b := (V m c main_v16 : Vec Ideal S32x16384 .f32) (ix2 e q)) ?_ ((congrFun (entryS m c) _).trans (hostT_at _ e q))
  blk_ext [iblk]

/-- The reference's latents of the kernel's arguments. -/
def latents (c : Dev nD) : FVec Ideal Cert.Reference4Ideal.S16384x704 .f32 :=
  Cert.Reference4Ideal.Read.val_main_v6 (F := Ideal) (m ((c : Thread nD τ).loc main_arg0)) (m ((c : Thread nD τ).loc main_arg1)) (m ((c : Thread nD τ).loc main_arg2)) (m ((c : Thread nD τ).loc main_arg5))

/-- The reference's product for the queries. -/
def forQ (c : Dev nD) : FVec Ideal Cert.Reference4Ideal.S16384x1536 .f32 :=
  Cert.Reference4Ideal.Read.val_main_v25 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))

/-- The reference's product for the keys and the values. -/
def forKV (c : Dev nD) : FVec Ideal Cert.Reference4Ideal.S16384x2048 .f32 :=
  Cert.Reference4Ideal.Read.val_main_v71 (F := Ideal) (m ((c : Thread nD τ).loc main_arg0)) (m ((c : Thread nD τ).loc main_arg1)) (m ((c : Thread nD τ).loc main_arg2)) (m ((c : Thread nD τ).loc main_arg5)) (m ((c : Thread nD τ).loc main_arg8)) (m ((c : Thread nD τ).loc main_arg9))

/-- A point's latents are the reference's, nothing after them. -/
theorem latent_eq (c : Dev nD) (t : Fin cfg0.N) (r : Fin 1024) (j : Fin 768) (q : Fin 16384) (hq : q.val = 1024 * t.val + r.val) :
    k0_pay1 (F := Ideal) (iblk m c 0 t) (iblk m c 1 t) (iblk m c 2 t) (iblk m c 3 t) (ix2 r j) = if h : j.val < 704 then latents m c (ix2 q ⟨j.val, h⟩) else (0 : EReal) := by
  unfold latents
  simp only [Cert.Reference4Ideal.Read.latent_at]
  rw [latent_at]
  simp only [blockX m c t r _ q hq, blockS m c t, blockH m c t, blockW m c t]
  by_cases h : j.val < 704
  · rw [dif_pos h]
    unfold times
    simp only [h, dite_true]
  · rw [dif_neg h]
    unfold times
    simp only [h, dite_false, mul_zero, Finset.sum_const_zero]

/-- A point's product for the queries is the reference's. -/
theorem query_eq (c : Dev nD) (t : Fin cfg0.N) (j : Fin 1536) (r : Fin 1024) (q : Fin 16384) (hq : q.val = 1024 * t.val + r.val) :
    k0_pay4 (F := Ideal) (iblk m c 0 t) (iblk m c 1 t) (iblk m c 2 t) (iblk m c 3 t) (iblk m c 4 t) (iblk m c 5 t) (ix2 j r) = forQ m c (ix2 q j) := by
  have e : ∀ e : Fin 384, k0_pay1 (F := Ideal) (iblk m c 0 t) (iblk m c 1 t) (iblk m c 2 t) (iblk m c 3 t) (ix2 r ⟨e.val, by omega⟩) = latents m c (ix2 q ⟨e.val, by omega⟩) := fun e =>
    (latent_eq m c t r _ q hq).trans (dif_pos (by show e.val < 704; omega))
  unfold forQ
  rw [query_at, Cert.Reference4Ideal.Read.query_at]
  simp only [e, blockA m c t, blockQ m c t]
  rfl

/-- A point's latents of the keys and values, over their root mean square. -/
theorem normed_eq (c : Dev nD) (t : Fin cfg0.N) (r : Fin 1024) (k : Fin 256) (q : Fin 16384) (hq : q.val = 1024 * t.val + r.val) :
    k0_pay50 (F := Ideal) (k0_pay2 (iblk m c 0 t) (iblk m c 1 t) (iblk m c 2 t) (iblk m c 3 t)) (iblk m c 6 t) (ix2 r k)
      = rms (Ideal.ofBits .f32 0x43800000#32) (fun e : Fin 256 => latents m c (ix2 q ⟨384 + e.val, by omega⟩)) (fun e => (m ((c : Thread nD τ).loc main_arg8) : FVec Ideal S256 .f32) (ix1 e)) k := by
  have e : ∀ e : Fin 256, k0_pay2 (F := Ideal) (iblk m c 0 t) (iblk m c 1 t) (iblk m c 2 t) (iblk m c 3 t) (ix2 r e) = latents m c (ix2 q ⟨384 + e.val, by omega⟩) := fun e =>
    (latents_mid _ _ _ _ r e).trans ((latent_eq m c t r _ q hq).trans (dif_pos (by show 384 + e.val < 704; omega)))
  rw [normed_at]
  simp only [e, blockB m c t]

/-- A point's product for the keys is the reference's. -/
theorem key_eq (c : Dev nD) (t : Fin cfg0.N) (r j : Fin 1024) (q : Fin 16384) (hq : q.val = 1024 * t.val + r.val) :
    k0_pay51 (F := Ideal) (k0_pay2 (iblk m c 0 t) (iblk m c 1 t) (iblk m c 2 t) (iblk m c 3 t)) (iblk m c 6 t) (iblk m c 7 t) (ix2 r j) = forKV m c (ix2 q ⟨j.val / 128 * 256 + j.val % 128, by omega⟩) := by
  unfold forKV
  rw [key_at, Cert.Reference4Ideal.Read.both_at]
  simp only [normed_eq m c t r _ q hq, blockK m c t]
  rfl

/-- A point's product for the values is the reference's. -/
theorem value_eq (c : Dev nD) (t : Fin cfg0.N) (j r : Fin 1024) (q : Fin 16384) (hq : q.val = 1024 * t.val + r.val) :
    k0_pay65 (F := Ideal) (k0_pay50 (k0_pay2 (iblk m c 0 t) (iblk m c 1 t) (iblk m c 2 t) (iblk m c 3 t)) (iblk m c 6 t)) (iblk m c 8 t) (ix2 j r) = forKV m c (ix2 q ⟨j.val / 128 * 256 + (128 + j.val % 128), by omega⟩) := by
  unfold forKV
  rw [value_at, Cert.Reference4Ideal.Read.both_at]
  simp only [normed_eq m c t r _ q hq, blockV m c t]
  rfl

/-- A point's rotary part of the keys is the reference's, nothing after it. -/
theorem rotary_eq (c : Dev nD) (t : Fin cfg0.N) (r : Fin 1024) (a : Fin 128) (q : Fin 16384) (hq : q.val = 1024 * t.val + r.val) :
    k0_pay56 (F := Ideal) (iblk m c 9 t) (iblk m c 10 t) (k0_pay52 (k0_pay3 (iblk m c 0 t) (iblk m c 1 t) (iblk m c 2 t) (iblk m c 3 t))) (k0_pay53 (k0_pay3 (iblk m c 0 t) (iblk m c 1 t) (iblk m c 2 t) (iblk m c 3 t))) (k0_pay54 (k0_pay3 (iblk m c 0 t) (iblk m c 1 t) (iblk m c 2 t) (iblk m c 3 t))) (k0_pay55 (k0_pay3 (iblk m c 0 t) (iblk m c 1 t) (iblk m c 2 t) (iblk m c 3 t)) (iblk m c 9 t) (iblk m c 10 t)) (ix2 r a)
      = if h : a.val < 64 then roped (fun e : Fin 64 => latents m c (ix2 q ⟨640 + e.val, by omega⟩)) (fun e => (m ((c : Thread nD τ).loc main_arg3) : FVec Ideal S16384x32 .f32) (ix2 q e)) (fun e => (m ((c : Thread nD τ).loc main_arg4) : FVec Ideal S16384x32 .f32) (ix2 q e)) ⟨a.val, h⟩ else (0 : EReal) := by
  rw [rotary_at]
  by_cases h : a.val < 64
  · rw [dif_pos h, dif_pos h]
    exact roped_congr (fun e => (latents_last _ _ _ _ r _).trans ((latent_eq m c t r _ q hq).trans (dif_pos (by show 640 + e.val < 704; omega)))) (fun e => blockC m c t e r q hq) (fun e => blockN m c t e r q hq) _
  · rw [dif_neg h, dif_neg h]
    exact (latents_last _ _ _ _ r a).trans ((latent_eq m c t r _ q hq).trans (dif_neg (by show ¬ 640 + a.val < 704; omega)))

open Cert.Reference4Ideal.Read (val_main_v81 val_main_v83 val_main_v85)

/-- The reference's queries of the kernel's arguments. -/
def answerQ (c : Dev nD) : FVec Ideal S8x192x16384 .bf16 :=
  val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The reference's keys of the kernel's arguments. -/
def answerK (c : Dev nD) : FVec Ideal S16384x2048 .bf16 :=
  val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))

/-- The reference's values of the kernel's arguments. -/
def answerV (c : Dev nD) : FVec Ideal S8x144x16384 .bf16 :=
  val_main_v85 (F := Ideal) (m ((c : Thread nD τ).loc main_arg0)) (m ((c : Thread nD τ).loc main_arg1)) (m ((c : Thread nD τ).loc main_arg2)) (m ((c : Thread nD τ).loc main_arg5)) (m ((c : Thread nD τ).loc main_arg8)) (m ((c : Thread nD τ).loc main_arg9))

/-- A point's block of the queries. -/
theorem blockQ_eq (c : Dev nD) (t : Fin cfg0.N) (z : S8x192x1024.Idx) (i : S8x192x16384.Idx) (h0 : (i 0).val = (z 0).val) (h1 : (i 1).val = (z 1).val) (h2 : (i 2).val = 1024 * t.val + (z 2).val) :
    (outsAt0 m c t).1 z = answerQ m c i := by
  idx_vars z
  idx_vars i
  have e0 : i0 = z0 := Fin.ext h0
  have e1 : i1 = z1 := Fin.ext h1
  have hz0 : z0.val < 8 := z0.isLt
  have hz1 : z1.val < 192 := z1.isLt
  simp only [outsAt0]
  rw [e0, e1, queries_at]
  unfold answerQ queries
  rw [Cert.Reference4Ideal.Read.queries_at]
  by_cases h : z1.val < 128
  · rw [dif_pos h]
    refine (dif_pos h).trans ((query_eq m c t _ z2 i2 h2).trans ?_)
    exact congrArg (fun p => forQ m c (ix2 i2 p)) (Fin.ext (by show 192 * z0.val + z1.val = z0.val * 192 + z1.val; omega))
  · rw [dif_neg h]
    refine (dif_neg h).trans (roped_congr (fun e => (query_eq m c t _ z2 i2 h2).trans ?_) (fun e => blockC m c t e z2 i2 h2) (fun e => blockN m c t e z2 i2 h2) _)
    exact congrArg (fun p => forQ m c (ix2 i2 p)) (Fin.ext (by show 192 * z0.val + (128 + e.val) = z0.val * 192 + (128 + e.val); omega))

/-- A point's block of the keys. -/
theorem blockK_eq (c : Dev nD) (t : Fin cfg0.N) (z : S1024x2048.Idx) (i : S16384x2048.Idx) (h0 : (i 0).val = 1024 * t.val + (z 0).val) (h1 : (i 1).val = (z 1).val) :
    (outsAt0 m c t).2.1 z = answerK m c i := by
  idx_vars z
  idx_vars i
  have e1 : i1 = z1 := Fin.ext h1
  have hz : z1.val < 2048 := z1.isLt
  simp only [outsAt0]
  rw [e1, keys_at]
  unfold answerK keys
  rw [Cert.Reference4Ideal.Read.keys_at]
  by_cases h : z1.val % 256 < 128
  · rw [dif_pos h]
    refine (dif_pos h).trans ((key_eq m c t z0 _ i0 h0).trans ?_)
    exact congrArg (fun p => forKV m c (ix2 i0 p)) (Fin.ext (by show (z1.val / 256 * 128 + z1.val % 256) / 128 * 256 + (z1.val / 256 * 128 + z1.val % 256) % 128 = z1.val; omega))
  · rw [dif_neg h]
    exact (dif_neg h).trans (rotary_eq m c t z0 _ i0 h0)

/-- A point's block of the values. -/
theorem blockV_eq (c : Dev nD) (t : Fin cfg0.N) (z : S8x144x1024.Idx) (i : S8x144x16384.Idx) (h0 : (i 0).val = (z 0).val) (h1 : (i 1).val = (z 1).val) (h2 : (i 2).val = 1024 * t.val + (z 2).val) :
    (outsAt0 m c t).2.2 z = answerV m c i := by
  idx_vars z
  idx_vars i
  have e0 : i0 = z0 := Fin.ext h0
  have e1 : i1 = z1 := Fin.ext h1
  have hz0 : z0.val < 8 := z0.isLt
  simp only [outsAt0]
  rw [e0, e1, values_at]
  unfold answerV values
  rw [Cert.Reference4Ideal.Read.values_at]
  by_cases h : z1.val < 128
  · rw [dif_pos h]
    refine (dif_pos h).trans ((value_eq m c t _ z2 i2 h2).trans ?_)
    exact congrArg (fun p => forKV m c (ix2 i2 p)) (Fin.ext (by show (128 * z0.val + z1.val) / 128 * 256 + (128 + (128 * z0.val + z1.val) % 128) = z0.val * 256 + (128 + z1.val); omega))
  · rw [dif_neg h]
    exact dif_neg h

/-- After the run the call's queries are the reference's. -/
theorem arrayQ_eq (c : Dev nD) : (dats m 0 c).arrAt 11 cfg0.N = answerQ m c := by
  refine (dats m 0 c).arrAt_eq_of_covers 11 _ (by decide +kernel) fun t _ y => ?_
  blk_simp
  rw [after0_11]
  have hp := place t
  refine blockQ_eq m c t y _ ?_ ?_ ?_
  · blk_simp
    rw [hp.2.2.2.1.1]
    omega
  · blk_simp
    rw [hp.2.2.2.1.2.1]
    omega
  · blk_simp
    rw [hp.2.2.2.1.2.2]
    omega

/-- After the run the call's keys are the reference's. -/
theorem arrayK_eq (c : Dev nD) : (dats m 0 c).arrAt 12 cfg0.N = answerK m c := by
  refine (dats m 0 c).arrAt_eq_of_covers 12 _ (by decide +kernel) fun t _ y => ?_
  blk_simp
  rw [after0_12]
  have hp := place t
  refine blockK_eq m c t y _ ?_ ?_
  · blk_simp
    rw [hp.2.2.2.2.1.1]
    omega
  · blk_simp
    rw [hp.2.2.2.2.1.2]
    omega

/-- After the run the call's values are the reference's. -/
theorem arrayV_eq (c : Dev nD) : (dats m 0 c).arrAt 13 cfg0.N = answerV m c := by
  refine (dats m 0 c).arrAt_eq_of_covers 13 _ (by decide +kernel) fun t _ y => ?_
  blk_simp
  rw [after0_13]
  have hp := place t
  refine blockV_eq m c t y _ ?_ ?_ ?_
  · blk_simp
    rw [hp.2.2.2.2.2.1]
    omega
  · blk_simp
    rw [hp.2.2.2.2.2.2.1]
    omega
  · blk_simp
    rw [hp.2.2.2.2.2.2.2]
    omega

end Cert.Kernel4Ideal.Mla

namespace Cert.Proof

open Idealize.ShloMosaic Idealize.ShloMosaic.TcCoe Idealize.SL.Sem
open Cert.Kernel4Ideal.Mla

/-- The frame of the latent-attention layer's projection. -/
theorem frame_kernel4 : Cert.quiescent_Kernel4 := fun m ρ _ => Cert.Kernel4.Gen.frame m ρ

/-- The frame of its idealization. -/
theorem frame_ideal4 : Cert.quiescent_Kernel4Ideal := fun m ρ _ => Cert.Kernel4Ideal.Gen.frame m ρ

/-- The frame of its reference. -/
theorem frame_reference4 : Cert.quiescent_Reference4Ideal := fun m ρ _ =>
  (θ_run Cert.Reference4Ideal.defs _ _).mono (fun r h => ⟨fun c => (h c).2.2.2, sem_eq_zero_of_no_sems (by decide) r.2⟩) (Cert.Reference4Ideal.Value.run (F := Ideal) m ρ)

/-- The latent-attention layer's projection and its reference end with equal arrays. -/
theorem algebraic4 : Cert.algebraic_Kernel4Ideal_Reference4Ideal := by
  intro m g m' g' _ hag
  refine ⟨fun c => answerQ m c, fun c => answerK m c, fun c => answerV m c, ?_, ?_⟩
  · exact (θ_run Cert.Kernel4Ideal.defs _ _).mono (fun _ h c => ⟨(h c).1.trans (arrayQ_eq m c), (h c).2.1.trans (arrayK_eq m c), (h c).2.2.1.trans (arrayV_eq m c), (h c).2.2.2⟩) (Cert.Kernel4Ideal.Value.run_blocks m g)
  · refine (θ_run Cert.Reference4Ideal.defs _ _).mono (fun _ h c => ⟨(h c).1.trans ?_, (h c).2.1.trans ?_, (h c).2.2.1.trans ?_, (h c).2.2.2⟩) (Cert.Reference4Ideal.Value.run (F := Ideal) m' g')
    · refine (Cert.Reference4Ideal.Read.val_main_v81_eq m' c).trans ?_
      obtain ⟨a0, a1, a2, a3, a4, a5, a6, a7, a8, a9⟩ := hag c
      unfold answerQ
      rw [a0, a1, a2, a3, a4, a5, a6, a7]
    · refine (Cert.Reference4Ideal.Read.val_main_v83_eq m' c).trans ?_
      obtain ⟨a0, a1, a2, a3, a4, a5, a6, a7, a8, a9⟩ := hag c
      unfold answerK
      rw [a0, a1, a2, a3, a4, a5, a8, a9]
    · refine (Cert.Reference4Ideal.Read.val_main_v85_eq _ _ _ _ _ _).trans ?_
      obtain ⟨a0, a1, a2, a3, a4, a5, a6, a7, a8, a9⟩ := hag c
      unfold answerV
      rw [a0, a1, a2, a5, a8, a9]

end Cert.Proof

end
-- ==== Proof.Turn.lean ====
/-
  A head's coordinates turned by an angle, and one row of a projection.
-/
module

public import proofs.«01_k».proof.Proof.Rows

@[expose] public section

noncomputable section

namespace Cert.Rows

open Idealize.ShloMosaic

/-- The first sixteen coordinates turned in pairs by eight angles, the rest left. -/
def turned (z : Fin 64 → EReal) (c s : Fin 8 → EReal) (d : Fin 64) : EReal :=
  if h : d.val < 8 then z d * c ⟨d.val, h⟩ - z ⟨8 + d.val, by omega⟩ * s ⟨d.val, h⟩
  else if h' : d.val - 8 < 8 then z ⟨8 + (d.val - 8), by omega⟩ * c ⟨d.val - 8, h'⟩ + z ⟨d.val - 8, by omega⟩ * s ⟨d.val - 8, h'⟩
  else z ⟨16 + (d.val - 8 - 8), by omega⟩

/-- The same, the sixteen coordinates told from the rest first. -/
theorem turned_eq (z : Fin 64 → EReal) (c s : Fin 8 → EReal) (d : Fin 64) :
    turned z c s d = if h : d.val < 16 then
        if h' : d.val < 8 then z d * c ⟨d.val, h'⟩ - z ⟨8 + d.val, by omega⟩ * s ⟨d.val, h'⟩
        else z ⟨8 + (d.val - 8), by omega⟩ * c ⟨d.val - 8, by omega⟩ + z ⟨d.val - 8, by omega⟩ * s ⟨d.val - 8, by omega⟩
      else z ⟨16 + (d.val - 16), by omega⟩ := by
  unfold turned
  by_cases h : d.val < 8
  · rw [dif_pos h, dif_pos (by omega), dif_pos h]
  · by_cases h' : d.val - 8 < 8
    · rw [dif_neg h, dif_pos h', dif_pos (by omega), dif_neg h]
    · rw [dif_neg h, dif_neg h', dif_neg (by omega)]
      exact congrArg z (Fin.ext (by show 16 + (d.val - 8 - 8) = 16 + (d.val - 16); omega))

/-- A coordinate of the projection of a conditioned row. -/
def proj (x sc sh : Fin 1024 → EReal) (w : Fin 1024 → EReal) (b : EReal) : EReal := (∑ k, w k * cond x sc sh k) + b

end Cert.Rows

end
-- ==== Proof.Swa.lean ====
/-
  The projection of the sliding-window layer: what one of its blocks holds.
-/
module

public import proofs.«01_k».proof.Proof.Turn
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Kernel5Ideal.Swa

open Idealize.ShloMosaic Idealize.ShloMosaic.TcCoe
open Cert.Kernel5Ideal Cert.Kernel5Ideal.Gen
open Cert.Rows

variable (x : Vec Ideal S1024x1024 .f32) (sc sh : Vec Ideal S1x1024 .f32) (w : Vec Ideal S1792x1024 .bf16) (b : Vec Ideal S1792x1 .f32) (co si : Vec Ideal S8x1024 .f32)
  (z : FVec Ideal S1792x1024 .f32) (c s : FVec Ideal S8x1024 .f32)

/-- The product's element. -/
theorem proj_at (j : Fin 1792) (r : Fin 1024) :
    k0_pay1 (F := Ideal) x sc sh w b (ix2 j r) = proj (fun d => x (ix2 r d)) (fun d => sc (ix2 0 d)) (fun d => sh (ix2 0 d)) (fun d => w (ix2 j d)) (b (ix2 j 0)) := by
  pointwise [k0_pay1]
  rfl

/-- Sixty-four rows of the product from a given one, turned: a coordinate of a column. -/
def head (o : ℕ) (ho : o + 64 ≤ 1792) (a : Fin 64) (r : Fin 1024) : EReal :=
  turned (fun e => z (ix2 ⟨o + e.val, by omega⟩ r)) (fun e => c (ix2 e r)) (fun e => s (ix2 e r)) a

/-- The multiplier of the queries. -/
def scale : EReal := Ideal.ofBits .f32 0x3E38AA3B#32

/-- Head 0 of the queries. -/
theorem head0 (a : Fin 64) (r : Fin 1024) : k0_pay4 (F := Ideal) x sc sh w b co si (ix2 a r) = head (k0_pay1 x sc sh w b) (k0_pay2 co) (k0_pay3 si) 0 (by decide) a r * scale := by
  unfold k0_pay4 head turned
  generalize k0_pay1 (F := Ideal) x sc sh w b = z
  generalize k0_pay2 (F := Ideal) co = c
  generalize k0_pay3 (F := Ideal) si = s
  pointwise []
  rfl

/-- Head 1 of the queries. -/
theorem head1 (a : Fin 64) (r : Fin 1024) : k0_pay8 (F := Ideal) c s (k0_pay5 x sc sh w b) (k0_pay6 x sc sh w b) (k0_pay7 x sc sh w b) (ix2 a r) = head (k0_pay1 x sc sh w b) c s 64 (by decide) a r * scale := by
  unfold k0_pay8 k0_pay6 k0_pay7 k0_pay5 head turned
  generalize k0_pay1 (F := Ideal) x sc sh w b = z
  pointwise []
  rfl

/-- Head 4 of the queries. -/
theorem head4 (a : Fin 64) (r : Fin 1024) : k0_pay15 (F := Ideal) c s (k0_pay11 z) (k0_pay12 z) (k0_pay13 z) (k0_pay14 z c s) (ix2 a r) = head z c s 256 (by decide) a r * scale := by
  unfold head turned
  pointwise [k0_pay15, k0_pay14, k0_pay13, k0_pay12, k0_pay11]
  rfl

/-- Head 7 of the queries. -/
theorem head7 (a : Fin 64) (r : Fin 1024) : k0_pay23 (F := Ideal) (k0_pay18 z) (k0_pay21 z c s) (k0_pay22 z c s) (ix2 a r) = head z c s 448 (by decide) a r * scale := by
  unfold head turned
  pointwise [k0_pay23, k0_pay22, k0_pay21, k0_pay20, k0_pay19, k0_pay18]
  rfl

/-- Head 10 of the queries. -/
theorem head10 (a : Fin 64) (r : Fin 1024) : k0_pay27 (F := Ideal) (k0_pay26 z c s) (Scalar.ofBits .f32 0x3E38AA3B#32) (ix2 a r) = head z c s 640 (by decide) a r * scale := by
  unfold head turned
  pointwise [k0_pay27, k0_pay26]
  rfl

/-- Head 2 of the queries. -/
theorem head2 (a : Fin 64) (r : Fin 1024) : k0_pay9 (F := Ideal) z c s (ix2 a r) = head z c s 128 (by decide) a r * scale := by
  unfold head turned
  pointwise [k0_pay9]
  rfl

/-- Head 3 of the queries. -/
theorem head3 (a : Fin 64) (r : Fin 1024) : k0_pay10 (F := Ideal) z c s (ix2 a r) = head z c s 192 (by decide) a r * scale := by
  unfold head turned
  pointwise [k0_pay10]
  rfl

/-- Head 5 of the queries. -/
theorem head5 (a : Fin 64) (r : Fin 1024) : k0_pay16 (F := Ideal) z c s (ix2 a r) = head z c s 320 (by decide) a r * scale := by
  unfold head turned
  pointwise [k0_pay16]
  rfl

/-- Head 6 of the queries. -/
theorem head6 (a : Fin 64) (r : Fin 1024) : k0_pay17 (F := Ideal) z c s (ix2 a r) = head z c s 384 (by decide) a r * scale := by
  unfold head turned
  pointwise [k0_pay17]
  rfl

/-- Head 8 of the queries. -/
theorem head8 (a : Fin 64) (r : Fin 1024) : k0_pay24 (F := Ideal) z c s (ix2 a r) = head z c s 512 (by decide) a r * scale := by
  unfold head turned
  pointwise [k0_pay24]
  rfl

/-- Head 9 of the queries. -/
theorem head9 (a : Fin 64) (r : Fin 1024) : k0_pay25 (F := Ideal) z c s (ix2 a r) = head z c s 576 (by decide) a r * scale := by
  unfold head turned
  pointwise [k0_pay25]
  rfl

/-- Head 11 of the queries. -/
theorem head11 (a : Fin 64) (r : Fin 1024) : k0_pay28 (F := Ideal) z c s (ix2 a r) = head z c s 704 (by decide) a r * scale := by
  unfold head turned
  pointwise [k0_pay28]
  rfl

/-- Head 12 of the queries. -/
theorem head12 (a : Fin 64) (r : Fin 1024) : k0_pay29 (F := Ideal) z c s (ix2 a r) = head z c s 768 (by decide) a r * scale := by
  unfold head turned
  pointwise [k0_pay29]
  rfl

/-- Head 13 of the queries. -/
theorem head13 (a : Fin 64) (r : Fin 1024) : k0_pay30 (F := Ideal) z c s (ix2 a r) = head z c s 832 (by decide) a r * scale := by
  unfold head turned
  pointwise [k0_pay30]
  rfl

/-- Head 14 of the queries. -/
theorem head14 (a : Fin 64) (r : Fin 1024) : k0_pay31 (F := Ideal) z c s (ix2 a r) = head z c s 896 (by decide) a r * scale := by
  unfold head turned
  pointwise [k0_pay31]
  rfl

/-- Head 15 of the queries. -/
theorem head15 (a : Fin 64) (r : Fin 1024) : k0_pay32 (F := Ideal) z c s (ix2 a r) = head z c s 960 (by decide) a r * scale := by
  unfold head turned
  pointwise [k0_pay32]
  rfl

/-- Head 0 of the keys, under it the rows of nothing. -/
theorem key0 (a : Fin 128) (r : Fin 1024) : k0_pay33 (F := Ideal) z c s (ix2 r a) = if h : a.val < 64 then head z c s 1024 (by decide) ⟨a.val, h⟩ r else z (ix2 ⟨1088 + (a.val - 64), by omega⟩ r) := by
  unfold head turned
  pointwise [k0_pay33]

/-- Head 1 of the keys, under it the rows of nothing. -/
theorem key1 (a : Fin 128) (r : Fin 1024) : k0_pay34 (F := Ideal) z c s (ix2 r a) = if h : a.val < 64 then head z c s 1152 (by decide) ⟨a.val, h⟩ r else z (ix2 ⟨1216 + (a.val - 64), by omega⟩ r) := by
  unfold head turned
  pointwise [k0_pay34]

/-- Head 2 of the keys, under it the rows of nothing. -/
theorem key2 (a : Fin 128) (r : Fin 1024) : k0_pay35 (F := Ideal) z c s (ix2 r a) = if h : a.val < 64 then head z c s 1280 (by decide) ⟨a.val, h⟩ r else z (ix2 ⟨1344 + (a.val - 64), by omega⟩ r) := by
  unfold head turned
  pointwise [k0_pay35]

/-- Head 3 of the keys, under it the rows of nothing. -/
theorem key3 (a : Fin 128) (r : Fin 1024) : k0_pay36 (F := Ideal) z c s (ix2 r a) = if h : a.val < 64 then head z c s 1408 (by decide) ⟨a.val, h⟩ r else z (ix2 ⟨1472 + (a.val - 64), by omega⟩ r) := by
  unfold head turned
  pointwise [k0_pay36]

/-- The block of the queries. -/
def queries (i : S1024x1024.Idx) : EReal :=
  head z c s (64 * ((i 0).val / 64)) (by have : (i 0).val < 1024 := (i 0).isLt; omega) ⟨(i 0).val % 64, by omega⟩ (i 1) * scale

/-- It under a head's piece. -/
theorem queries_of (o : ℕ) (ho : o + 64 ≤ 1792) (h64 : o % 64 = 0) (a : Fin 64) (r : Fin 1024) (i : S1024x1024.Idx) (h0 : (i 0).val = o + a.val) (h1 : i 1 = r) :
    head z c s o ho a r * scale = queries z c s i := by
  unfold queries
  have e1 : 64 * ((i 0).val / 64) = o := by omega
  have e2 : (⟨(i 0).val % 64, by omega⟩ : Fin 64) = a := Fin.ext (by show (i 0).val % 64 = a.val; omega)
  rw [e2, h1]
  simp only [e1]

/-- The block of the keys. -/
def keys (i : S1024x512.Idx) : EReal :=
  if h : (i 1).val % 128 < 64 then head z c s (1024 + 128 * ((i 1).val / 128)) (by have : (i 1).val < 512 := (i 1).isLt; omega) ⟨(i 1).val % 128, h⟩ (i 0)
  else z (ix2 ⟨1024 + (i 1).val, by have : (i 1).val < 512 := (i 1).isLt; omega⟩ (i 0))

/-- It under a head's piece. -/
theorem keys_of (g : ℕ) (hg : g < 4) (a : Fin 128) (r : Fin 1024) (i : S1024x512.Idx) (h0 : i 0 = r) (h1 : (i 1).val = 128 * g + a.val) :
    (if h : a.val < 64 then head z c s (1024 + 128 * g) (by omega) ⟨a.val, h⟩ r else z (ix2 ⟨1088 + 128 * g + (a.val - 64), by omega⟩ r)) = keys z c s i := by
  unfold keys
  have e1 : (i 1).val / 128 = g := by omega
  have e2 : (i 1).val % 128 = a.val := by omega
  simp only [e1, e2, h0]
  split
  · rfl
  · refine congrArg z (congrArg (fun j => ix2 j r) (Fin.ext ?_))
    show 1088 + 128 * g + (a.val - 64) = 1024 + (i 1).val
    omega

/-- What the body leaves of the queries. -/
theorem queries_at (i : S1024x1024.Idx) :
    out0_7 (F := Ideal) x sc sh w b co si i = queries (k0_pay1 x sc sh w b) co si i := by
  have e2 : k0_pay2 (F := Ideal) co = co := by funext y; idx_vars y; pointwise [k0_pay2]
  have e3 : k0_pay3 (F := Ideal) si = si := by funext y; idx_vars y; pointwise [k0_pay3]
  unfold_out out0_7
  rw [View.ld_unit_lit _ x (by decide), View.ld_unit_lit _ sc (by decide), View.ld_unit_lit _ sh (by decide), View.ld_unit_lit _ w (by decide), View.ld_unit_lit _ b (by decide), View.ld_unit_lit _ co (by decide), View.ld_unit_lit _ si (by decide)]
  refine View.canon_apply_of_pieces (Val := Elt Ideal) (e := .bf16) (queries (k0_pay1 x sc sh w b) co si) _ ?_ i (cover0_7 _ _ _ _ _ _ _ _ _ _ _ _ _ _ _ _ i)
  intro pc hpc
  rcases List.mem_cons.mp hpc with rfl | hpc
  · intro y
    idx_vars y
    refine (head15 _ _ _ y0 y1).trans ?_
    rw [e2, e3]
    exact queries_of _ _ _ 960 _ (by decide) y0 y1 _ (by show 960 + 1 * y0.val = 960 + y0.val; omega) (Fin.ext (by show 0 + 1 * y1.val = y1.val; omega))
  rcases List.mem_cons.mp hpc with rfl | hpc
  · intro y
    idx_vars y
    refine (head14 _ _ _ y0 y1).trans ?_
    rw [e2, e3]
    exact queries_of _ _ _ 896 _ (by decide) y0 y1 _ (by show 896 + 1 * y0.val = 896 + y0.val; omega) (Fin.ext (by show 0 + 1 * y1.val = y1.val; omega))
  rcases List.mem_cons.mp hpc with rfl | hpc
  · intro y
    idx_vars y
    refine (head13 _ _ _ y0 y1).trans ?_
    rw [e2, e3]
    exact queries_of _ _ _ 832 _ (by decide) y0 y1 _ (by show 832 + 1 * y0.val = 832 + y0.val; omega) (Fin.ext (by show 0 + 1 * y1.val = y1.val; omega))
  rcases List.mem_cons.mp hpc with rfl | hpc
  · intro y
    idx_vars y
    refine (head12 _ _ _ y0 y1).trans ?_
    rw [e2, e3]
    exact queries_of _ _ _ 768 _ (by decide) y0 y1 _ (by show 768 + 1 * y0.val = 768 + y0.val; omega) (Fin.ext (by show 0 + 1 * y1.val = y1.val; omega))
  rcases List.mem_cons.mp hpc with rfl | hpc
  · intro y
    idx_vars y
    refine (head11 _ _ _ y0 y1).trans ?_
    rw [e2, e3]
    exact queries_of _ _ _ 704 _ (by decide) y0 y1 _ (by show 704 + 1 * y0.val = 704 + y0.val; omega) (Fin.ext (by show 0 + 1 * y1.val = y1.val; omega))
  rcases List.mem_cons.mp hpc with rfl | hpc
  · intro y
    idx_vars y
    refine (head10 _ _ _ y0 y1).trans ?_
    rw [e2, e3]
    exact queries_of _ _ _ 640 _ (by decide) y0 y1 _ (by show 640 + 1 * y0.val = 640 + y0.val; omega) (Fin.ext (by show 0 + 1 * y1.val = y1.val; omega))
  rcases List.mem_cons.mp hpc with rfl | hpc
  · intro y
    idx_vars y
    refine (head9 _ _ _ y0 y1).trans ?_
    rw [e2, e3]
    exact queries_of _ _ _ 576 _ (by decide) y0 y1 _ (by show 576 + 1 * y0.val = 576 + y0.val; omega) (Fin.ext (by show 0 + 1 * y1.val = y1.val; omega))
  rcases List.mem_cons.mp hpc with rfl | hpc
  · intro y
    idx_vars y
    refine (head8 _ _ _ y0 y1).trans ?_
    rw [e2, e3]
    exact queries_of _ _ _ 512 _ (by decide) y0 y1 _ (by show 512 + 1 * y0.val = 512 + y0.val; omega) (Fin.ext (by show 0 + 1 * y1.val = y1.val; omega))
  rcases List.mem_cons.mp hpc with rfl | hpc
  · intro y
    idx_vars y
    refine (head7 _ _ _ y0 y1).trans ?_
    rw [e2, e3]
    exact queries_of _ _ _ 448 _ (by decide) y0 y1 _ (by show 448 + 1 * y0.val = 448 + y0.val; omega) (Fin.ext (by show 0 + 1 * y1.val = y1.val; omega))
  rcases List.mem_cons.mp hpc with rfl | hpc
  · intro y
    idx_vars y
    refine (head6 _ _ _ y0 y1).trans ?_
    rw [e2, e3]
    exact queries_of _ _ _ 384 _ (by decide) y0 y1 _ (by show 384 + 1 * y0.val = 384 + y0.val; omega) (Fin.ext (by show 0 + 1 * y1.val = y1.val; omega))
  rcases List.mem_cons.mp hpc with rfl | hpc
  · intro y
    idx_vars y
    refine (head5 _ _ _ y0 y1).trans ?_
    rw [e2, e3]
    exact queries_of _ _ _ 320 _ (by decide) y0 y1 _ (by show 320 + 1 * y0.val = 320 + y0.val; omega) (Fin.ext (by show 0 + 1 * y1.val = y1.val; omega))
  rcases List.mem_cons.mp hpc with rfl | hpc
  · intro y
    idx_vars y
    refine (head4 _ _ _ y0 y1).trans ?_
    rw [e2, e3]
    exact queries_of _ _ _ 256 _ (by decide) y0 y1 _ (by show 256 + 1 * y0.val = 256 + y0.val; omega) (Fin.ext (by show 0 + 1 * y1.val = y1.val; omega))
  rcases List.mem_cons.mp hpc with rfl | hpc
  · intro y
    idx_vars y
    refine (head3 _ _ _ y0 y1).trans ?_
    rw [e2, e3]
    exact queries_of _ _ _ 192 _ (by decide) y0 y1 _ (by show 192 + 1 * y0.val = 192 + y0.val; omega) (Fin.ext (by show 0 + 1 * y1.val = y1.val; omega))
  rcases List.mem_cons.mp hpc with rfl | hpc
  · intro y
    idx_vars y
    refine (head2 _ _ _ y0 y1).trans ?_
    rw [e2, e3]
    exact queries_of _ _ _ 128 _ (by decide) y0 y1 _ (by show 128 + 1 * y0.val = 128 + y0.val; omega) (Fin.ext (by show 0 + 1 * y1.val = y1.val; omega))
  rcases List.mem_cons.mp hpc with rfl | hpc
  · intro y
    idx_vars y
    refine (head1 x sc sh w b _ _ y0 y1).trans ?_
    rw [e2, e3]
    exact queries_of _ _ _ 64 _ (by decide) y0 y1 _ (by show 64 + 1 * y0.val = 64 + y0.val; omega) (Fin.ext (by show 0 + 1 * y1.val = y1.val; omega))
  rcases List.mem_cons.mp hpc with rfl | hpc
  · intro y
    idx_vars y
    refine (head0 x sc sh w b co si y0 y1).trans ?_
    rw [e2, e3]
    exact queries_of _ _ _ 0 _ (by decide) y0 y1 _ (by show 0 + 1 * y0.val = 0 + y0.val; omega) (Fin.ext (by show 0 + 1 * y1.val = y1.val; omega))
  nomatch hpc

/-- What the body leaves of the keys. -/
theorem keys_at (i : S1024x512.Idx) :
    out0_8 (F := Ideal) x sc sh w b co si i = keys (k0_pay1 x sc sh w b) co si i := by
  have e2 : k0_pay2 (F := Ideal) co = co := by funext y; idx_vars y; pointwise [k0_pay2]
  have e3 : k0_pay3 (F := Ideal) si = si := by funext y; idx_vars y; pointwise [k0_pay3]
  unfold_out out0_8
  rw [View.ld_unit_lit _ x (by decide), View.ld_unit_lit _ sc (by decide), View.ld_unit_lit _ sh (by decide), View.ld_unit_lit _ w (by decide), View.ld_unit_lit _ b (by decide), View.ld_unit_lit _ co (by decide), View.ld_unit_lit _ si (by decide)]
  refine View.canon_apply_of_pieces (Val := Elt Ideal) (e := .bf16) (keys (k0_pay1 x sc sh w b) co si) _ ?_ i (cover0_8 _ _ _ _ i)
  intro pc hpc
  rcases List.mem_cons.mp hpc with rfl | hpc
  · intro y
    idx_vars y
    refine (key3 _ _ _ y1 y0).trans ?_
    rw [e2, e3]
    exact keys_of _ _ _ 3 (by decide) y1 y0 _ (Fin.ext (by show 0 + 1 * y0.val = y0.val; omega)) (by show 384 + 1 * y1.val = 128 * 3 + y1.val; omega)
  rcases List.mem_cons.mp hpc with rfl | hpc
  · intro y
    idx_vars y
    refine (key2 _ _ _ y1 y0).trans ?_
    rw [e2, e3]
    exact keys_of _ _ _ 2 (by decide) y1 y0 _ (Fin.ext (by show 0 + 1 * y0.val = y0.val; omega)) (by show 256 + 1 * y1.val = 128 * 2 + y1.val; omega)
  rcases List.mem_cons.mp hpc with rfl | hpc
  · intro y
    idx_vars y
    refine (key1 _ _ _ y1 y0).trans ?_
    rw [e2, e3]
    exact keys_of _ _ _ 1 (by decide) y1 y0 _ (Fin.ext (by show 0 + 1 * y0.val = y0.val; omega)) (by show 128 + 1 * y1.val = 128 * 1 + y1.val; omega)
  rcases List.mem_cons.mp hpc with rfl | hpc
  · intro y
    idx_vars y
    refine (key0 _ _ _ y1 y0).trans ?_
    rw [e2, e3]
    exact keys_of _ _ _ 0 (by decide) y1 y0 _ (Fin.ext (by show 0 + 1 * y0.val = y0.val; omega)) (by show 0 + 1 * y1.val = 128 * 0 + y1.val; omega)
  nomatch hpc

/-- What the body leaves of the values. -/
theorem values_at (j : Fin 256) (r : Fin 1024) :
    out0_9 (F := Ideal) x sc sh w b co si (ix2 j r) = k0_pay1 (F := Ideal) x sc sh w b (ix2 ⟨1536 + j.val, by omega⟩ r) := by
  unfold_out out0_9
  rw [View.canon_cons_unit_lit _ _ _ (by decide)]
  rw [View.ld_unit_lit _ x (by decide), View.ld_unit_lit _ sc (by decide), View.ld_unit_lit _ sh (by decide), View.ld_unit_lit _ w (by decide), View.ld_unit_lit _ b (by decide)]
  generalize k0_pay1 (F := Ideal) x sc sh w b = z
  pointwise [k0_pay37]

end Cert.Kernel5Ideal.Swa

end
-- ==== Proof.SwaHost.lean ====
/-
  The projection of the sliding-window layer: the weights and the bias as the call is handed them.
-/
module

public import proofs.«01_k».proof.Proof.Gen.Kernel5Ideal.Value
public import Idealize.ShloMosaic.Lib.Claim
public import Idealize.ShloMosaic.Lib.Pointwise
public import Idealize.ShloMosaic.Lib.Pipeline.ValueKit

@[expose] public section

set_option maxRecDepth 16384

noncomputable section

namespace Cert.Kernel5Ideal.Swa

open Idealize.ShloMosaic Idealize.ShloMosaic.TcCoe
open Cert.Kernel5Ideal Cert.Kernel5Ideal.Gen

/-- The weights laid out for the call: the keys' heads spread, all turned on their side. -/
def hostW (a : FVec Ideal S1024x1536 .f32) : FVec Ideal S1792x1024 .bf16 :=
  truncf .bf16 (transpose S1792x1024 [1, 0] (concatenate S1024x1792 1 [⟨S1024x1024, extractStridedSlice S1024x1024 ![0, 0] a Facts₀.slices_S1024x1536_S1024x1024_0_0⟩,
      ⟨S1024x512, shapeCast S1024x512 (concatenate S1024x4x128 2 [⟨S1024x4x64, shapeCast S1024x4x64 (extractStridedSlice S1024x256 ![0, 1024] a Facts₀.slices_S1024x1536_S1024x256_0_1024) Facts₀.shapeCasts_S1024x256_S1024x4x64⟩,
        ⟨S1024x4x64, broadcastInDim S1024x4x64 ![] Facts₀.bcast_S_S1024x4x64 (constant S_ .f32 0x00000000#32)⟩] Facts₀.concatenates_S1024x4x64_S1024x4x64_S1024x4x128_d2) Facts₀.shapeCasts_S1024x4x128_S1024x512⟩,
      ⟨S1024x256, extractStridedSlice S1024x256 ![0, 1280] a Facts₀.slices_S1024x1536_S1024x256_0_1280⟩] Facts₀.concatenates_S1024x1024_S1024x512_S1024x256_S1024x1792_d1) Facts₀.transposes_S1024x1792_S1792x1024_1_0) Facts₀.bitsLt_bf16_f32

/-- The bias laid out the same way, a column. -/
def hostB (a : FVec Ideal S1536 .f32) : FVec Ideal S1792x1 .f32 :=
  shapeCast S1792x1 (concatenate S1792 0 [⟨S1024, extractStridedSlice S1024 ![0] a Facts₀.slices_S1536_S1024_0⟩,
      ⟨S512, shapeCast S512 (concatenate S4x128 1 [⟨S4x64, shapeCast S4x64 (extractStridedSlice S256 ![1024] a Facts₀.slices_S1536_S256_1024) Facts₀.shapeCasts_S256_S4x64⟩,
        ⟨S4x64, broadcastInDim S4x64 ![] Facts₀.bcast_S_S4x64 (constant S_ .f32 0x00000000#32)⟩] Facts₀.concatenates_S4x64_S4x64_S4x128_d1) Facts₀.shapeCasts_S4x128_S512⟩,
      ⟨S256, extractStridedSlice S256 ![1280] a Facts₀.slices_S1536_S256_1280⟩] Facts₀.concatenates_S1024_S512_S256_S1792_d0) Facts₀.shapeCasts_S1792_S1792x1

/-- A table of the angles turned on its side. -/
def hostT (a : FVec Ideal S16384x8 .f32) : FVec Ideal S8x16384 .f32 := transpose S8x16384 [1, 0] a Facts₀.transposes_S16384x8_S8x16384_1_0

/-- Where a row of the laid-out weights comes from: none for the rows of nothing. -/
def source (j : Fin 1792) : Option (Fin 1536) :=
  if h : j.val < 1024 then some ⟨j.val, by omega⟩
  else if h' : j.val - 1024 < 512 then if h2 : (j.val - 1024) % 128 < 64 then some ⟨1024 + ((j.val - 1024) / 128 * 64 + (j.val - 1024) % 128), by omega⟩ else none
  else some ⟨1280 + (j.val - 1024 - 512), by omega⟩

/-- A weight. -/
theorem hostW_at (a : FVec Ideal S1024x1536 .f32) (j : Fin 1792) (d : Fin 1024) : hostW a (ix2 j d) = (source j).elim 0 fun q => a (ix2 d q) := by
  unfold source
  pointwise [hostW]
  split_ifs <;> rfl

/-- A coordinate of the bias. -/
theorem hostB_at (a : FVec Ideal S1536 .f32) (j : Fin 1792) : hostB a (ix2 j 0) = (source j).elim 0 fun q => a (ix1 q) := by
  unfold source
  pointwise [hostB]
  split_ifs <;> rfl

/-- An angle's entry. -/
theorem hostT_at (a : FVec Ideal S16384x8 .f32) (e : Fin 8) (r : Fin 16384) : hostT a (ix2 e r) = a (ix2 r e) := by
  pointwise [hostT]

variable (m : (ℓ : Loc nD τ sig) → Buf (Elt Ideal) ℓ)

/-- What the call finds of the weights. -/
theorem entryW (c : Dev nD) : (V m c main_v9 : Vec Ideal S1792x1024 .bf16) = hostW (m ((c : Thread nD τ).loc main_arg5)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the bias. -/
theorem entryB (c : Dev nD) : (V m c main_v18 : Vec Ideal S1792x1 .f32) = hostB (m ((c : Thread nD τ).loc main_arg6)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the cosines. -/
theorem entryC (c : Dev nD) : (V m c main_v19 : Vec Ideal S8x16384 .f32) = hostT (m ((c : Thread nD τ).loc main_arg3)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- What the call finds of the sines. -/
theorem entryS (c : Dev nD) : (V m c main_v20 : Vec Ideal S8x16384 .f32) = hostT (m ((c : Thread nD τ).loc main_arg4)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

end Cert.Kernel5Ideal.Swa

end
-- ==== Proof.SwaRead.lean ====
/-
  The projection of the sliding-window layer: what its reference's arrays hold.
-/
module

public import proofs.«01_k».proof.Proof.Turn
public import proofs.«01_k».proof.Proof.Gen.Reference5Ideal.Read
public import Idealize.ShloMosaic.Lib.Pointwise

@[expose] public section

set_option maxRecDepth 16384

noncomputable section

namespace Cert.Reference5Ideal.Read

open Idealize.ShloMosaic Idealize.ShloMosaic.TcCoe
open Cert.Reference5Ideal
open Cert.Rows

variable (x : FVec Ideal S16384x1024 .f32) (sc sh : FVec Ideal S1x1024 .f32) (co si : FVec Ideal S16384x8 .f32) (w : FVec Ideal S1024x1536 .f32) (b : FVec Ideal S1536 .f32)

/-- The product's element. -/
theorem proj_at (r : Fin 16384) (j : Fin 1536) :
    val_main_v9 (F := Ideal) x sc sh w b (ix2 r j) = proj (fun d => x (ix2 r d)) (fun d => sc (ix2 0 d)) (fun d => sh (ix2 0 d)) (fun d => w (ix2 d j)) (b (ix1 j)) := by
  unfold proj
  simp only [mul_comm (w _)]
  pointwise [val_main_v9, val_main_v8, val_main_v7, val_main_v6, val_main_v5, val_main_v4, val_main_v3, val_main_v2, val_main_v1, val_main_v0, val_main_cst]
  rfl

/-- The queries' array. -/
theorem queries_at (r : Fin 16384) (j : Fin 1024) :
    val_main_v56 (F := Ideal) x sc sh co si w b (ix2 j r)
      = turned (fun e => val_main_v9 (F := Ideal) x sc sh w b (ix2 r ⟨j.val / 64 * 64 + e.val, by omega⟩)) (fun e => co (ix2 r e)) (fun e => si (ix2 r e)) ⟨j.val % 64, by omega⟩ * Ideal.ofBits .f32 0x3E38AA3B#32 := by
  rw [turned_eq]
  unfold val_main_v56 val_main_v55 val_main_v54 val_main_v34 val_main_v32 val_main_v31 val_main_v30 val_main_v29 val_main_v28 val_main_v26 val_main_v24 val_main_v23 val_main_v21 val_main_v17 val_main_v16 val_main_v15 val_main_v11 val_main_v10
  generalize val_main_v9 (F := Ideal) x sc sh w b = z
  pointwise [val_main_v33, val_main_cst_0, val_main_v27, val_main_v25, val_main_v22, val_main_v20, val_main_v19, val_main_v18]
  simp only [Nat.div_add_mod']

/-- The keys' array. -/
theorem keys_at (r : Fin 16384) (j : Fin 512) :
    val_main_v58 (F := Ideal) x sc sh co si w b (ix2 r j)
      = if h : j.val % 128 < 64 then turned (fun e => val_main_v9 (F := Ideal) x sc sh w b (ix2 r ⟨1024 + (j.val / 128 * 64 + e.val), by omega⟩)) (fun e => co (ix2 r e)) (fun e => si (ix2 r e)) ⟨j.val % 128, h⟩ else 0 := by
  simp only [turned_eq]
  unfold val_main_v58 val_main_v57 val_main_v53 val_main_v51 val_main_v50 val_main_v49 val_main_v48 val_main_v46 val_main_v44 val_main_v43 val_main_v41 val_main_v37 val_main_v36 val_main_v35 val_main_v13 val_main_v12
  generalize val_main_v9 (F := Ideal) x sc sh w b = z
  pointwise [val_main_v52, val_main_cst_1, val_main_v47, val_main_v45, val_main_v42, val_main_v40, val_main_v39, val_main_v38]
  by_cases h : j.val % 128 < 64
  · by_cases h' : j.val % 128 < 16
    · simp only [h, h', dite_true]
    · have h2 : j.val % 128 - 16 < 48 := by omega
      simp only [h, h', h2, dite_true, dite_false]
  · have h' : ¬ j.val % 128 < 16 := by omega
    have h2 : ¬ j.val % 128 - 16 < 48 := by omega
    simp only [h, h', h2, dite_false]

/-- The values' array. -/
theorem values_at (r : Fin 16384) (j : Fin 256) :
    val_main_v60 (F := Ideal) x sc sh w b (ix2 j r) = val_main_v9 (F := Ideal) x sc sh w b (ix2 r ⟨1280 + j.val, by omega⟩) := by
  unfold val_main_v60 val_main_v59 val_main_v14
  generalize val_main_v9 (F := Ideal) x sc sh w b = z
  pointwise []

end Cert.Reference5Ideal.Read

end
-- ==== Proof.Launch5.lean ====
/-
  The projection of the sliding-window layer on the whole: its blocks read from the arguments, its arrays the reference's.
-/
module

public import proofs.«01_k».proof.Defs
public import proofs.«01_k».proof.Proof.Swa
public import proofs.«01_k».proof.Proof.SwaHost
public import proofs.«01_k».proof.Proof.SwaRead
public import proofs.«01_k».proof.Proof.Gen.Kernel5
public import proofs.«01_k».proof.Proof.Gen.Kernel5.Frame
public import proofs.«01_k».proof.Proof.Gen.Reference5Ideal.Run
public import Idealize.ShloMosaic.Lib.Quiescent
public import Idealize.ShloMosaic.Lib.Claim
public import Idealize.ShloMosaic.Lib.Pipeline.ValueKit

@[expose] public section

set_option maxRecDepth 16384

noncomputable section

namespace Cert.Kernel5Ideal.Swa

open Idealize.ShloMosaic Idealize.ShloMosaic.TcCoe Idealize.SL.Sem
open Cert.Kernel5Ideal Cert.Kernel5Ideal.Gen
open Cert.Rows

variable (m : (ℓ : Loc nD τ sig) → Buf (Elt Ideal) ℓ)

/-- Where the blocks that move lie at a point. -/
theorem place : ∀ t : Fin cfg0.N, (win0_0.index t 0 = t.val ∧ win0_0.index t 1 = 0) ∧ (win0_5.index t 0 = 0 ∧ win0_5.index t 1 = t.val) ∧ (win0_6.index t 0 = 0 ∧ win0_6.index t 1 = t.val)
    ∧ (win0_7.index t 0 = 0 ∧ win0_7.index t 1 = t.val) ∧ (win0_8.index t 0 = t.val ∧ win0_8.index t 1 = 0) ∧ (win0_9.index t 0 = 0 ∧ win0_9.index t 1 = t.val) := (by decide +kernel : ∀ t : Fin grid0.N, _)

/-- The blocks that stay in place. -/
theorem still : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) := (by decide +kernel : ∀ t : Fin grid0.N, _)

/-- The rows of a point. -/
theorem blockX (c : Dev nD) (t : Fin cfg0.N) (r : Fin 1024) (d : Fin 1024) (q : Fin 16384) (hq : q.val = 1024 * t.val + r.val) :
    (iblk m c 0 t : Vec Ideal S1024x1024 .f32) (ix2 r d) = (m ((c : Thread nD τ).loc main_arg0) : FVec Ideal S16384x1024 .f32) (ix2 q d) := by
  have := place t
  blk_ext [iblk]

/-- The scale of the condition. -/
theorem blockS (c : Dev nD) (t : Fin cfg0.N) (d : Fin 1024) :
    (iblk m c 1 t : Vec Ideal S1x1024 .f32) (ix2 0 d) = (m ((c : Thread nD τ).loc main_arg1) : FVec Ideal S1x1024 .f32) (ix2 0 d) := by
  have := still t
  blk_ext [iblk]

/-- The shift of the condition. -/
theorem blockH (c : Dev nD) (t : Fin cfg0.N) (d : Fin 1024) :
    (iblk m c 2 t : Vec Ideal S1x1024 .f32) (ix2 0 d) = (m ((c : Thread nD τ).loc main_arg2) : FVec Ideal S1x1024 .f32) (ix2 0 d) := by
  have := still t
  blk_ext [iblk]

/-- The weights. -/
theorem blockW (c : Dev nD) (t : Fin cfg0.N) (j : Fin 1792) (d : Fin 1024) :
    (iblk m c 3 t : Vec Ideal S1792x1024 .bf16) (ix2 j d) = (source j).elim (0 : EReal) fun q => (m ((c : Thread nD τ).loc main_arg5) : FVec Ideal S1024x1536 .f32) (ix2 d q) := by
  have := still t
  refine Eq.trans (b := (V m c main_v9 : Vec Ideal S1792x1024 .bf16) (ix2 j d)) ?_ ((congrFun (entryW m c) _).trans (hostW_at _ j d))
  blk_ext [iblk]

/-- The bias. -/
theorem blockB (c : Dev nD) (t : Fin cfg0.N) (j : Fin 1792) :
    (iblk m c 4 t : Vec Ideal S1792x1 .f32) (ix2 j 0) = (source j).elim (0 : EReal) fun q => (m ((c : Thread nD τ).loc main_arg6) : FVec Ideal S1536 .f32) (ix1 q) := by
  have := still t
  refine Eq.trans (b := (V m c main_v18 : Vec Ideal S1792x1 .f32) (ix2 j 0)) ?_ ((congrFun (entryB m c) _).trans (hostB_at _ j))
  blk_ext [iblk]

/-- The cosines of a point's rows. -/
theorem blockC (c : Dev nD) (t : Fin cfg0.N) (e : Fin 8) (r : Fin 1024) (q : Fin 16384) (hq : q.val = 1024 * t.val + r.val) :
    (iblk m c 5 t : Vec Ideal S8x1024 .f32) (ix2 e r) = (m ((c : Thread nD τ).loc main_arg3) : FVec Ideal S16384x8 .f32) (ix2 q e) := by
  have := place t
  refine Eq.trans (b := (V m c main_v19 : Vec Ideal S8x16384 .f32) (ix2 e q)) ?_ ((congrFun (entryC m c) _).trans (hostT_at _ e q))
  blk_ext [iblk]

/-- The sines of a point's rows. -/
theorem blockN (c : Dev nD) (t : Fin cfg0.N) (e : Fin 8) (r : Fin 1024) (q : Fin 16384) (hq : q.val = 1024 * t.val + r.val) :
    (iblk m c 6 t : Vec Ideal S8x1024 .f32) (ix2 e r) = (m ((c : Thread nD τ).loc main_arg4) : FVec Ideal S16384x8 .f32) (ix2 q e) := by
  have := place t
  refine Eq.trans (b := (V m c main_v20 : Vec Ideal S8x16384 .f32) (ix2 e q)) ?_ ((congrFun (entryS m c) _).trans (hostT_at _ e q))
  blk_ext [iblk]

/-- The reference's product of the kernel's arguments. -/
def product (c : Dev nD) : FVec Ideal Cert.Reference5Ideal.S16384x1536 .f32 :=
  Cert.Reference5Ideal.Read.val_main_v9 (F := Ideal) (m ((c : Thread nD τ).loc main_arg0)) (m ((c : Thread nD τ).loc main_arg1)) (m ((c : Thread nD τ).loc main_arg2)) (m ((c : Thread nD τ).loc main_arg5)) (m ((c : Thread nD τ).loc main_arg6))

/-- A point's product is the reference's where a row comes from somewhere, nothing elsewhere. -/
theorem product_at (c : Dev nD) (t : Fin cfg0.N) (j : Fin 1792) (r : Fin 1024) (q : Fin 16384) (hq : q.val = 1024 * t.val + r.val) :
    k0_pay1 (F := Ideal) (iblk m c 0 t) (iblk m c 1 t) (iblk m c 2 t) (iblk m c 3 t) (iblk m c 4 t) (ix2 j r) = (source j).elim (0 : EReal) fun p => product m c (ix2 q p) := by
  unfold product
  simp only [Cert.Reference5Ideal.Read.proj_at]
  rw [proj_at]
  simp only [blockX m c t r _ q hq, blockS m c t, blockH m c t, blockW m c t, blockB m c t]
  cases source j with
  | none => simp [proj]
  | some p => rfl

/-- Sixty-four rows of a point's product that come from as many columns, turned. -/
theorem head_eq (c : Dev nD) (t : Fin cfg0.N) (o : ℕ) (ho : o + 64 ≤ 1792) (o' : ℕ) (ho' : o' + 64 ≤ 1536) (hs : ∀ e : Fin 64, source ⟨o + e.val, by omega⟩ = some ⟨o' + e.val, by omega⟩)
    (a : Fin 64) (r : Fin 1024) (q : Fin 16384) (hq : q.val = 1024 * t.val + r.val) :
    head (k0_pay1 (F := Ideal) (iblk m c 0 t) (iblk m c 1 t) (iblk m c 2 t) (iblk m c 3 t) (iblk m c 4 t)) (iblk m c 5 t) (iblk m c 6 t) o ho a r
      = turned (fun e => product m c (ix2 q ⟨o' + e.val, by omega⟩)) (fun e => (m ((c : Thread nD τ).loc main_arg3) : FVec Ideal S16384x8 .f32) (ix2 q e)) (fun e => (m ((c : Thread nD τ).loc main_arg4) : FVec Ideal S16384x8 .f32) (ix2 q e)) a := by
  unfold head
  simp only [product_at m c t _ r q hq, hs, blockC m c t _ r q hq, blockN m c t _ r q hq]
  rfl

open Cert.Reference5Ideal.Read (val_main_v56 val_main_v58 val_main_v60)

/-- The reference's queries of the kernel's arguments. -/
def answerQ (c : Dev nD) : FVec Ideal S1024x16384 .bf16 :=
  val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The reference's keys of the kernel's arguments. -/
def answerK (c : Dev nD) : FVec Ideal S16384x512 .bf16 :=
  val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The reference's values of the kernel's arguments. -/
def answerV (c : Dev nD) : FVec Ideal S256x16384 .bf16 :=
  val_main_v60 (F := Ideal) (m ((c : Thread nD τ).loc main_arg0)) (m ((c : Thread nD τ).loc main_arg1)) (m ((c : Thread nD τ).loc main_arg2)) (m ((c : Thread nD τ).loc main_arg5)) (m ((c : Thread nD τ).loc main_arg6))

/-- A point's block of the queries. -/
theorem blockQ_eq (c : Dev nD) (t : Fin cfg0.N) (z : S1024x1024.Idx) (i : S1024x16384.Idx) (h0 : (i 0).val = (z 0).val) (h1 : (i 1).val = 1024 * t.val + (z 1).val) :
    out0_7 (F := Ideal) (iblk m c 0 t) (iblk m c 1 t) (iblk m c 2 t) (iblk m c 3 t) (iblk m c 4 t) (iblk m c 5 t) (iblk m c 6 t) z = answerQ m c i := by
  idx_vars z
  idx_vars i
  have e1 : i0 = z0 := Fin.ext h0
  have hz : z0.val < 1024 := z0.isLt
  rw [e1, queries_at]
  unfold answerQ queries
  rw [Cert.Reference5Ideal.Read.queries_at]
  refine congrArg (· * scale) ((head_eq m c t (64 * (z0.val / 64)) (by omega) (z0.val / 64 * 64) (by omega) (fun e => ?_) ⟨z0.val % 64, by omega⟩ z1 i1 h1).trans ?_)
  · unfold source
    rw [dif_pos (by show 64 * (z0.val / 64) + e.val < 1024; omega)]
    exact congrArg some (Fin.ext (by show 64 * (z0.val / 64) + e.val = z0.val / 64 * 64 + e.val; omega))
  · rfl

/-- A point's block of the keys. -/
theorem blockK_eq (c : Dev nD) (t : Fin cfg0.N) (z : S1024x512.Idx) (i : S16384x512.Idx) (h0 : (i 0).val = 1024 * t.val + (z 0).val) (h1 : (i 1).val = (z 1).val) :
    out0_8 (F := Ideal) (iblk m c 0 t) (iblk m c 1 t) (iblk m c 2 t) (iblk m c 3 t) (iblk m c 4 t) (iblk m c 5 t) (iblk m c 6 t) z = answerK m c i := by
  idx_vars z
  idx_vars i
  have e1 : i1 = z1 := Fin.ext h1
  have hz : z1.val < 512 := z1.isLt
  rw [e1, keys_at]
  unfold answerK keys
  rw [Cert.Reference5Ideal.Read.keys_at]
  by_cases h : z1.val % 128 < 64
  · rw [dif_pos h]
    refine (dif_pos h).trans ?_
    refine (head_eq m c t _ _ (1024 + z1.val / 128 * 64) (by omega) (fun e => ?_) _ z0 i0 h0).trans ?_
    · unfold source
      have e2 : (1024 + 128 * (z1.val / 128) + e.val - 1024) / 128 = z1.val / 128 := by omega
      have e3 : (1024 + 128 * (z1.val / 128) + e.val - 1024) % 128 = e.val := by omega
      rw [dif_neg (by show ¬ (1024 + 128 * (z1.val / 128) + e.val < 1024); omega), dif_pos (by show 1024 + 128 * (z1.val / 128) + e.val - 1024 < 512; omega), dif_pos (by show (1024 + 128 * (z1.val / 128) + e.val - 1024) % 128 < 64; omega)]
      exact congrArg some (Fin.ext (by show 1024 + ((1024 + 128 * (z1.val / 128) + e.val - 1024) / 128 * 64 + (1024 + 128 * (z1.val / 128) + e.val - 1024) % 128) = 1024 + z1.val / 128 * 64 + e.val; rw [e2, e3]; omega))
    · simp only [Nat.add_assoc]
      rfl
  · rw [dif_neg h]
    refine (dif_neg h).trans ?_
    refine (product_at m c t _ z0 i0 h0).trans ?_
    unfold source
    rw [dif_neg (by show ¬ (1024 + z1.val < 1024); omega), dif_pos (by show 1024 + z1.val - 1024 < 512; omega), dif_neg (by show ¬ ((1024 + z1.val - 1024) % 128 < 64); omega)]
    rfl

/-- A point's block of the values. -/
theorem blockV_eq (c : Dev nD) (t : Fin cfg0.N) (z : S256x1024.Idx) (i : S256x16384.Idx) (h0 : (i 0).val = (z 0).val) (h1 : (i 1).val = 1024 * t.val + (z 1).val) :
    out0_9 (F := Ideal) (iblk m c 0 t) (iblk m c 1 t) (iblk m c 2 t) (iblk m c 3 t) (iblk m c 4 t) (iblk m c 5 t) (iblk m c 6 t) z = answerV m c i := by
  idx_vars z
  idx_vars i
  have e1 : i0 = z0 := Fin.ext h0
  have hz : z0.val < 256 := z0.isLt
  rw [e1, values_at]
  unfold answerV
  rw [Cert.Reference5Ideal.Read.values_at]
  refine (product_at m c t _ z1 i1 h1).trans ?_
  unfold source
  rw [dif_neg (by show ¬ (1536 + z0.val < 1024); omega), dif_neg (by show ¬ (1536 + z0.val - 1024 < 512); omega)]
  exact congrArg (fun p => product m c (ix2 i1 p)) (Fin.ext (by show 1280 + (1536 + z0.val - 1024 - 512) = 1280 + z0.val; omega))

/-- After the run the call's queries are the reference's. -/
theorem arrayQ_eq (c : Dev nD) : (dats m 0 c).arrAt 7 cfg0.N = answerQ m c := by
  refine (dats m 0 c).arrAt_eq_of_covers 7 _ (by decide +kernel) fun t _ y => ?_
  blk_simp
  rw [after0_7]
  have hp := place t
  refine blockQ_eq m c t y _ ?_ ?_
  · blk_simp
    rw [hp.2.2.2.1.1]
    omega
  · blk_simp
    rw [hp.2.2.2.1.2]
    omega

/-- After the run the call's keys are the reference's. -/
theorem arrayK_eq (c : Dev nD) : (dats m 0 c).arrAt 8 cfg0.N = answerK m c := by
  refine (dats m 0 c).arrAt_eq_of_covers 8 _ (by decide +kernel) fun t _ y => ?_
  blk_simp
  rw [after0_8]
  have hp := place t
  refine blockK_eq m c t y _ ?_ ?_
  · blk_simp
    rw [hp.2.2.2.2.1.1]
    omega
  · blk_simp
    rw [hp.2.2.2.2.1.2]
    omega

/-- After the run the call's values are the reference's. -/
theorem arrayV_eq (c : Dev nD) : (dats m 0 c).arrAt 9 cfg0.N = answerV m c := by
  refine (dats m 0 c).arrAt_eq_of_covers 9 _ (by decide +kernel) fun t _ y => ?_
  blk_simp
  rw [after0_9]
  have hp := place t
  refine blockV_eq m c t y _ ?_ ?_
  · blk_simp
    rw [hp.2.2.2.2.2.1]
    omega
  · blk_simp
    rw [hp.2.2.2.2.2.2]
    omega

end Cert.Kernel5Ideal.Swa

namespace Cert.Proof

open Idealize.ShloMosaic Idealize.ShloMosaic.TcCoe Idealize.SL.Sem
open Cert.Kernel5Ideal.Swa

/-- The frame of the sliding-window layer's projection. -/
theorem frame_kernel5 : Cert.quiescent_Kernel5 := fun m ρ _ => Cert.Kernel5.Gen.frame m ρ

/-- The frame of its idealization. -/
theorem frame_ideal5 : Cert.quiescent_Kernel5Ideal := fun m ρ _ => Cert.Kernel5Ideal.Gen.frame m ρ

/-- The frame of its reference. -/
theorem frame_reference5 : Cert.quiescent_Reference5Ideal := fun m ρ _ =>
  (θ_run Cert.Reference5Ideal.defs _ _).mono (fun r h => ⟨fun c => (h c).2.2.2, sem_eq_zero_of_no_sems (by decide) r.2⟩) (Cert.Reference5Ideal.Value.run (F := Ideal) m ρ)

/-- The sliding-window layer's projection and its reference end with equal arrays. -/
theorem algebraic5 : Cert.algebraic_Kernel5Ideal_Reference5Ideal := by
  intro m g m' g' _ hag
  refine ⟨fun c => answerQ m c, fun c => answerK m c, fun c => answerV m c, ?_, ?_⟩
  · exact (θ_run Cert.Kernel5Ideal.defs _ _).mono (fun _ h c => ⟨(h c).1.trans (arrayQ_eq m c), (h c).2.1.trans (arrayK_eq m c), (h c).2.2.1.trans (arrayV_eq m c), (h c).2.2.2⟩) (Cert.Kernel5Ideal.Value.run_blocks m g)
  · refine (θ_run Cert.Reference5Ideal.defs _ _).mono (fun _ h c => ⟨(h c).1.trans ?_, (h c).2.1.trans ?_, (h c).2.2.1.trans ?_, (h c).2.2.2⟩) (Cert.Reference5Ideal.Value.run (F := Ideal) m' g')
    · refine (Cert.Reference5Ideal.Read.val_main_v56_eq m' c).trans ?_
      obtain ⟨a0, a1, a2, a3, a4, a5, a6⟩ := hag c
      unfold answerQ
      rw [a0, a1, a2, a3, a4, a5, a6]
    · refine (Cert.Reference5Ideal.Read.val_main_v58_eq m' c).trans ?_
      obtain ⟨a0, a1, a2, a3, a4, a5, a6⟩ := hag c
      unfold answerK
      rw [a0, a1, a2, a3, a4, a5, a6]
    · refine (Cert.Reference5Ideal.Read.val_main_v60_eq _ _ _ _ _).trans ?_
      obtain ⟨a0, a1, a2, a3, a4, a5, a6⟩ := hag c
      unfold answerV
      rw [a0, a1, a2, a5, a6]

end Cert.Proof

end
-- ==== Proof.Launch6.lean ====
/-
  The conditioning call: its blocks read from the arguments, its array the reference's.
-/
module

public import proofs.«01_k».proof.Defs
public import proofs.«01_k».proof.Proof.Rows
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Quiescent
public import Idealize.ShloMosaic.Lib.Claim
public import Idealize.ShloMosaic.Lib.Pipeline.ValueKit

@[expose] public section

set_option maxRecDepth 16384

noncomputable section

namespace Cert.Rows

open Idealize.ShloMosaic

/-- A row with each entry times its logistic. -/
def lit (z : Fin 1024 → EReal) (d : Fin 1024) : EReal := z d * Ideal.logistic (z d)

end Cert.Rows

namespace Cert.Reference6Ideal.Read

open Idealize.ShloMosaic Idealize.ShloMosaic.TcCoe
open Cert.Reference6Ideal
open Cert.Rows

/-- The condition, its entries times their logistics. -/
theorem lit_at (x : FVec Ideal S1x1024 .f32) (d : Fin 1024) : val_main_v0 (F := Ideal) x (ix2 0 d) = lit (fun d => x (ix2 0 d)) d := by
  pointwise [val_main_v0, val_main_call0_v5, val_main_call0_v4, val_main_call0_v3, val_main_call0_v2, val_main_call0_v1, val_main_call0_v0, val_main_call0_cst, val_main_call0_cst_0]
  rfl

/-- An entry of a layer's vectors. -/
theorem mod_at (x : FVec Ideal S1x1024 .f32) (w : FVec Ideal S4x1024x6144 .f32) (b : FVec Ideal S4x6144 .f32) (l : Fin 4) (j : Fin 6144) :
    val_main_v4 (F := Ideal) x w b (ix3 l 0 j) = times (lit (fun d => x (ix2 0 d))) (fun d j => w (ix3 l d j)) j + b (ix2 l j) := by
  unfold times
  simp only [mul_comm _ (w _), ← lit_at]
  unfold val_main_v4 val_main_v2 val_main_v1
  generalize val_main_v0 (F := Ideal) x = y
  pointwise [val_main_v3]

end Cert.Reference6Ideal.Read

namespace Cert.Kernel6Ideal.Mod

open Idealize.ShloMosaic Idealize.ShloMosaic.TcCoe Idealize.SL.Sem
open Cert.Kernel6Ideal Cert.Kernel6Ideal.Gen
open Cert.Rows

variable (m : (ℓ : Loc nD τ sig) → Buf (Elt Ideal) ℓ)

/-- An entry of what the body computes. -/
theorem mod_at (x : Vec Ideal S1x1024 .f32) (w : Vec Ideal S1x1024x1024 .f32) (b : Vec Ideal S1x1x1024 .f32) (j : Fin 1024) :
    k0_pay1 (F := Ideal) x w b (ix3 0 0 j) = times (lit (fun d => x (ix2 0 d))) (fun d j => w (ix3 0 d j)) j + b (ix3 0 0 j) := by
  pointwise [k0_pay1]
  rfl

/-- An entry of what the body leaves. -/
theorem out_at (x : Vec Ideal S1x1024 .f32) (w : Vec Ideal S1x1024x1024 .f32) (b : Vec Ideal S1x1x1024 .f32) (j : Fin 1024) :
    out0_3 (F := Ideal) x w b (ix3 0 0 j) = times (lit (fun d => x (ix2 0 d))) (fun d j => w (ix3 0 d j)) j + b (ix3 0 0 j) := by
  unfold out0_3
  rw [View.canon_cons_unit_lit _ _ _ (by decide)]
  rw [View.ld_unit_lit _ x (by decide), View.ld_unit_lit _ w (by decide), View.ld_unit_lit _ b (by decide)]
  exact mod_at x w b j

/-- Where the blocks lie at a point: six to a layer. -/
theorem place : ∀ t : Fin cfg0.N, (win0_0.index t 0 = 0 ∧ win0_0.index t 1 = 0) ∧ (win0_1.index t 0 = t.val / 6 ∧ win0_1.index t 1 = 0 ∧ win0_1.index t 2 = t.val % 6)
    ∧ (win0_2.index t 0 = t.val / 6 ∧ win0_2.index t 1 = 0 ∧ win0_2.index t 2 = t.val % 6)
    ∧ (win0_3.index t 0 = t.val / 6 ∧ win0_3.index t 1 = 0 ∧ win0_3.index t 2 = t.val % 6) := (by decide +kernel : ∀ t : Fin grid0.N, _)

/-- The bias with an axis in the middle. -/
def hostB (a : FVec Ideal S4x6144 .f32) : FVec Ideal S4x1x6144 .f32 := shapeCast S4x1x6144 a Facts₀.shapeCasts_S4x6144_S4x1x6144

/-- Its entries are the bias's. -/
theorem hostB_at (a : FVec Ideal S4x6144 .f32) (l : Fin 4) (j : Fin 6144) : hostB a (ix3 l 0 j) = a (ix2 l j) := by
  pointwise [hostB]

/-- What the call finds of the bias. -/
theorem entryB (c : Dev nD) : (V m c main_v0 : Vec Ideal S4x1x6144 .f32) = hostB (m ((c : Thread nD τ).loc main_arg2)) := by
  unfold V
  simp only [hostOps0, List.flatten_cons, List.flatten_nil, List.append_nil, List.cons_append, List.nil_append, StableHlo.TRef.ternary, StableHlo.TRef.unary, StableHlo.TRef.toBuf, StableHlo.TRef.ofBuf, cast_eq]
  after_results_simp <;> rfl

/-- The condition. -/
theorem blockX (c : Dev nD) (t : Fin cfg0.N) (d : Fin 1024) :
    (iblk m c 0 t : Vec Ideal S1x1024 .f32) (ix2 0 d) = (m ((c : Thread nD τ).loc main_arg0) : FVec Ideal S1x1024 .f32) (ix2 0 d) := by
  have := place t
  blk_ext [iblk]

/-- The weights of a point. -/
theorem blockW (c : Dev nD) (t : Fin cfg0.N) (d j : Fin 1024) (l : Fin 4) (q : Fin 6144) (hl : l.val = t.val / 6) (hq : q.val = t.val % 6 * 1024 + j.val) :
    (iblk m c 1 t : Vec Ideal S1x1024x1024 .f32) (ix3 0 d j) = (m ((c : Thread nD τ).loc main_arg1) : FVec Ideal S4x1024x6144 .f32) (ix3 l d q) := by
  have := place t
  blk_ext [iblk]

/-- The bias of a point. -/
theorem blockB (c : Dev nD) (t : Fin cfg0.N) (j : Fin 1024) (l : Fin 4) (q : Fin 6144) (hl : l.val = t.val / 6) (hq : q.val = t.val % 6 * 1024 + j.val) :
    (iblk m c 2 t : Vec Ideal S1x1x1024 .f32) (ix3 0 0 j) = (m ((c : Thread nD τ).loc main_arg2) : FVec Ideal S4x6144 .f32) (ix2 l q) := by
  have := place t
  refine Eq.trans (b := (V m c main_v0 : Vec Ideal S4x1x6144 .f32) (ix3 l 0 q)) ?_ ((congrFun (entryB m c) _).trans (hostB_at _ l q))
  blk_ext [iblk]

open Cert.Reference6Ideal.Read (val_main_v4) in
/-- The reference's array of the kernel's arguments. -/
def answer (c : Dev nD) : FVec Ideal S4x1x6144 .f32 :=
  val_main_v4 (F := Ideal) (m ((c : Thread nD τ).loc main_arg0)) (m ((c : Thread nD τ).loc main_arg1)) (m ((c : Thread nD τ).loc main_arg2))

/-- A point's block of the result, its element the reference's. -/
theorem block_eq (c : Dev nD) (t : Fin cfg0.N) (z : S1x1x1024.Idx) (i : S4x1x6144.Idx) (h0 : (i 0).val = t.val / 6) (h2 : (i 2).val = t.val % 6 * 1024 + (z 2).val) :
    out0_3 (F := Ideal) (iblk m c 0 t) (iblk m c 1 t) (iblk m c 2 t) z = answer m c i := by
  idx_vars z
  idx_vars i
  obtain rfl : z0 = 0 := Fin.ext (Nat.lt_one_iff.mp z0.isLt)
  obtain rfl : z1 = 0 := Fin.ext (Nat.lt_one_iff.mp z1.isLt)
  obtain rfl : i1 = 0 := Fin.ext (Nat.lt_one_iff.mp i1.isLt)
  rw [out_at]
  unfold answer
  rw [Cert.Reference6Ideal.Read.mod_at, blockB m c t z2 i0 i2 h0 h2]
  unfold times
  simp only [blockX m c t, blockW m c t _ z2 i0 i2 h0 h2]

/-- After the run the call's array is the reference's. -/
theorem array_eq (c : Dev nD) : (dats m 0 c).arrAt 3 cfg0.N = answer m c := by
  refine (dats m 0 c).arrAt_eq_of_covers 3 _ (by decide +kernel) fun t _ y => ?_
  blk_simp
  rw [after0_3]
  have hp := place t
  refine block_eq m c t y _ ?_ ?_
  · have hy : (y 0).val < 1 := (y 0).isLt
    blk_simp
    rw [hp.2.2.2.1]
  · blk_simp
    rw [hp.2.2.2.2.2]

end Cert.Kernel6Ideal.Mod

namespace Cert.Proof

open Idealize.ShloMosaic Idealize.ShloMosaic.TcCoe Idealize.SL.Sem
open Cert.Kernel6Ideal.Mod (answer array_eq)

/-- The conditioning call's frame. -/
theorem frame_kernel6 : Cert.quiescent_Kernel6 := fun m ρ _ => Cert.Kernel6.Gen.frame m ρ

/-- The frame of its idealization. -/
theorem frame_ideal6 : Cert.quiescent_Kernel6Ideal := fun m ρ _ => Cert.Kernel6Ideal.Gen.frame m ρ

/-- The frame of its reference. -/
theorem frame_reference6 : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- The conditioning call and its reference end with equal arrays. -/
theorem algebraic6 : Cert.algebraic_Kernel6Ideal_Reference6Ideal := by
  intro m g m' g' _ hag
  refine ⟨fun c => answer m c, ?_, ?_⟩
  · exact (θ_run Cert.Kernel6Ideal.defs _ _).mono (fun _ h c => ⟨(h c).1.trans (array_eq m c), (h c).2⟩) (Cert.Kernel6Ideal.Value.run_blocks m g)
  · refine (θ_run Cert.Reference6Ideal.defs _ _).mono (fun _ h c => ⟨(h c).1.trans ?_, (h c).2⟩) (Cert.Reference6Ideal.Value.run (F := Ideal) m' g')
    refine (Cert.Reference6Ideal.Read.val_main_v4_eq _ _ _).trans ?_
    obtain ⟨a0, a1, a2⟩ := hag c
    unfold answer
    rw [a0, a1, a2]

end Cert.Proof

end
-- ==== Proof.Launch7.lean ====
/-
  The window attention's call runs to the end and leaves its arguments as they were.
-/
module

public import proofs.«01_k».proof.Defs
public import proofs.«01_k».proof.Proof.Gen.Kernel7
public import proofs.«01_k».proof.Proof.Gen.Kernel7.Frame
public import proofs.«01_k».proof.Proof.Gen.Kernel7Ideal.Value
public import Idealize.ShloMosaic.Lib.Quiescent
public import Idealize.ShloMosaic.Lib.Claim

@[expose] public section

namespace Cert.Proof

/-- The window attention's frame. -/
theorem frame_kernel7 : Cert.quiescent_Kernel7 := fun m ρ _ => Cert.Kernel7.Gen.frame m ρ

/-- The frame of its idealization. -/
theorem frame_ideal7 : Cert.quiescent_Kernel7Ideal := fun m ρ _ => Cert.Kernel7Ideal.Gen.frame m ρ

end Cert.Proof

end
-- ==== Proof.lean ====
/-
  The claims of the statement, proved: the printed side conditions and the claims put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_qk
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Claims
public import proofs.«01_k».proof.Proof.Launch2
public import proofs.«01_k».proof.Proof.Launch3
public import proofs.«01_k».proof.Proof.Launch4
public import proofs.«01_k».proof.Proof.Launch5
public import proofs.«01_k».proof.Proof.Launch6
public import proofs.«01_k».proof.Proof.Launch7

@[expose] public section

namespace Cert.Proof

/-- The certificate's claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Pre_finite_qk.Gen.facts,
    frame_kernel, frame_ideal, frame_ideal_pre, frame_reference, frame_reference_pre,
    frame_kernel2, frame_ideal2, frame_reference2, frame_kernel3, frame_ideal3, frame_reference3,
    frame_kernel4, frame_ideal4, frame_reference4, frame_kernel5, frame_ideal5, frame_reference5,
    frame_kernel6, frame_ideal6, frame_reference6, frame_kernel7, frame_ideal7,
    trivial, algebraic, trivial, algebraic2, trivial, algebraic3, trivial, algebraic4, trivial, algebraic5, trivial, algebraic6, trivial⟩

end Cert.Proof
